-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GUp (m : (ℓ : Loc Cert.GUp.nD Cert.GUp.τ Cert.GUp.sig) → Buf (Elt Bits) ℓ) : Prop :=
  True

def Pre_GUpIdeal (m : (ℓ : Loc Cert.GUpIdeal.nD Cert.GUpIdeal.τ Cert.GUpIdeal.sig) → Buf (Elt Ideal) ℓ) : Prop :=
  True

def Pre_GUpRefIdeal (m : (ℓ : Loc Cert.GUpRefIdeal.nD Cert.GUpRefIdeal.τ Cert.GUpRefIdeal.sig) → Buf (Elt Ideal) ℓ) : Prop :=
  True

def Pre_ProjHg (m : (ℓ : Loc Cert.ProjHg.nD Cert.ProjHg.τ Cert.ProjHg.sig) → Buf (Elt Bits) ℓ) : Prop :=
  True

def Pre_ProjHgIdeal (m : (ℓ : Loc Cert.ProjHgIdeal.nD Cert.ProjHgIdeal.τ Cert.ProjHgIdeal.sig) → Buf (Elt Ideal) ℓ) : Prop :=
  True

def Pre_ProjHgRefIdeal (m : (ℓ : Loc Cert.ProjHgRefIdeal.nD Cert.ProjHgRefIdeal.τ Cert.ProjHgRefIdeal.sig) → Buf (Elt Ideal) ℓ) : Prop :=
  True

def Pre_ProjSw (m : (ℓ : Loc Cert.ProjSw.nD Cert.ProjSw.τ Cert.ProjSw.sig) → Buf (Elt Bits) ℓ) : Prop :=
  True

def Pre_ProjSwIdeal (m : (ℓ : Loc Cert.ProjSwIdeal.nD Cert.ProjSwIdeal.τ Cert.ProjSwIdeal.sig) → Buf (Elt Ideal) ℓ) : Prop :=
  True

def Pre_ProjSwRefIdeal (m : (ℓ : Loc Cert.ProjSwRefIdeal.nD Cert.ProjSwRefIdeal.τ Cert.ProjSwRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_GWout (m : (ℓ : Loc Cert.GWout.nD Cert.GWout.τ Cert.GWout.sig) → Buf (Elt Bits) ℓ) : Prop :=
  True

def Pre_GWoutIdeal (m : (ℓ : Loc Cert.GWoutIdeal.nD Cert.GWoutIdeal.τ Cert.GWoutIdeal.sig) → Buf (Elt Ideal) ℓ) : Prop :=
  True

def Pre_GWoutRefIdeal (m : (ℓ : Loc Cert.GWoutRefIdeal.nD Cert.GWoutRefIdeal.τ Cert.GWoutRefIdeal.sig) → Buf (Elt Ideal) ℓ) : Prop :=
  True

def Pre_XaQ (m : (ℓ : Loc Cert.XaQ.nD Cert.XaQ.τ Cert.XaQ.sig) → Buf (Elt Bits) ℓ) : Prop :=
  True

def Pre_XaQIdeal (m : (ℓ : Loc Cert.XaQIdeal.nD Cert.XaQIdeal.τ Cert.XaQIdeal.sig) → Buf (Elt Ideal) ℓ) : Prop :=
  True

def Pre_XaQRefIdeal (m : (ℓ : Loc Cert.XaQRefIdeal.nD Cert.XaQRefIdeal.τ Cert.XaQRefIdeal.sig) → Buf (Elt Ideal) ℓ) : Prop :=
  True

def Pre_XaKv (m : (ℓ : Loc Cert.XaKv.nD Cert.XaKv.τ Cert.XaKv.sig) → Buf (Elt Bits) ℓ) : Prop :=
  True

def Pre_XaKvIdeal (m : (ℓ : Loc Cert.XaKvIdeal.nD Cert.XaKvIdeal.τ Cert.XaKvIdeal.sig) → Buf (Elt Ideal) ℓ) : Prop :=
  True

def Pre_XaKvRefIdeal (m : (ℓ : Loc Cert.XaKvRefIdeal.nD Cert.XaKvRefIdeal.τ Cert.XaKvRefIdeal.sig) → Buf (Elt Ideal) ℓ) : Prop :=
  True

def Pre_XaO (m : (ℓ : Loc Cert.XaO.nD Cert.XaO.τ Cert.XaO.sig) → Buf (Elt Bits) ℓ) : Prop :=
  True

def Pre_XaOIdeal (m : (ℓ : Loc Cert.XaOIdeal.nD Cert.XaOIdeal.τ Cert.XaOIdeal.sig) → Buf (Elt Ideal) ℓ) : Prop :=
  True

def Pre_XaORefIdeal (m : (ℓ : Loc Cert.XaORefIdeal.nD Cert.XaORefIdeal.τ Cert.XaORefIdeal.sig) → Buf (Elt Ideal) ℓ) : Prop :=
  True

def Pre_DOx (m : (ℓ : Loc Cert.DOx.nD Cert.DOx.τ Cert.DOx.sig) → Buf (Elt Bits) ℓ) : Prop :=
  True

def Pre_DOxIdeal (m : (ℓ : Loc Cert.DOxIdeal.nD Cert.DOxIdeal.τ Cert.DOxIdeal.sig) → Buf (Elt Ideal) ℓ) : Prop :=
  True

def Pre_DOxRefIdeal (m : (ℓ : Loc Cert.DOxRefIdeal.nD Cert.DOxRefIdeal.τ Cert.DOxRefIdeal.sig) → Buf (Elt Ideal) ℓ) : Prop :=
  True

def Pre_GWo (m : (ℓ : Loc Cert.GWo.nD Cert.GWo.τ Cert.GWo.sig) → Buf (Elt Bits) ℓ) : Prop :=
  True

def Pre_GWoIdeal (m : (ℓ : Loc Cert.GWoIdeal.nD Cert.GWoIdeal.τ Cert.GWoIdeal.sig) → Buf (Elt Ideal) ℓ) : Prop :=
  True

def Pre_GWoRefIdeal (m : (ℓ : Loc Cert.GWoRefIdeal.nD Cert.GWoRefIdeal.τ Cert.GWoRefIdeal.sig) → Buf (Elt Ideal) ℓ) : Prop :=
  True

def Pre_GWq (m : (ℓ : Loc Cert.GWq.nD Cert.GWq.τ Cert.GWq.sig) → Buf (Elt Bits) ℓ) : Prop :=
  True

def Pre_GWqIdeal (m : (ℓ : Loc Cert.GWqIdeal.nD Cert.GWqIdeal.τ Cert.GWqIdeal.sig) → Buf (Elt Ideal) ℓ) : Prop :=
  True

def Pre_GWqRefIdeal (m : (ℓ : Loc Cert.GWqRefIdeal.nD Cert.GWqRefIdeal.τ Cert.GWqRefIdeal.sig) → Buf (Elt Ideal) ℓ) : Prop :=
  True

def Pre_GWkv (m : (ℓ : Loc Cert.GWkv.nD Cert.GWkv.τ Cert.GWkv.sig) → Buf (Elt Bits) ℓ) : Prop :=
  True

def Pre_GWkvIdeal (m : (ℓ : Loc Cert.GWkvIdeal.nD Cert.GWkvIdeal.τ Cert.GWkvIdeal.sig) → Buf (Elt Ideal) ℓ) : Prop :=
  True

def Pre_GWkvRefIdeal (m : (ℓ : Loc Cert.GWkvRefIdeal.nD Cert.GWkvRefIdeal.τ Cert.GWkvRefIdeal.sig) → Buf (Elt Ideal) ℓ) : Prop :=
  True

def Pre_DMn (m : (ℓ : Loc Cert.DMn.nD Cert.DMn.τ Cert.DMn.sig) → Buf (Elt Bits) ℓ) : Prop :=
  True

def Pre_DMnIdeal (m : (ℓ : Loc Cert.DMnIdeal.nD Cert.DMnIdeal.τ Cert.DMnIdeal.sig) → Buf (Elt Ideal) ℓ) : Prop :=
  True

def Pre_DMnRefIdeal (m : (ℓ : Loc Cert.DMnRefIdeal.nD Cert.DMnRefIdeal.τ Cert.DMnRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DHn3 (m : (ℓ : Loc Cert.DHn3.nD Cert.DHn3.τ Cert.DHn3.sig) → Buf (Elt Bits) ℓ) : Prop :=
  True

def Pre_DHn3Ideal (m : (ℓ : Loc Cert.DHn3Ideal.nD Cert.DHn3Ideal.τ Cert.DHn3Ideal.sig) → Buf (Elt Ideal) ℓ) : Prop :=
  True

def Pre_DHn3RefIdeal (m : (ℓ : Loc Cert.DHn3RefIdeal.nD Cert.DHn3RefIdeal.τ Cert.DHn3RefIdeal.sig) → Buf (Elt Ideal) ℓ) : Prop :=
  True

def Pre_DHn2 (m : (ℓ : Loc Cert.DHn2.nD Cert.DHn2.τ Cert.DHn2.sig) → Buf (Elt Bits) ℓ) : Prop :=
  True

def Pre_DHn2Ideal (m : (ℓ : Loc Cert.DHn2Ideal.nD Cert.DHn2Ideal.τ Cert.DHn2Ideal.sig) → Buf (Elt Ideal) ℓ) : Prop :=
  True

def Pre_DHn2RefIdeal (m : (ℓ : Loc Cert.DHn2RefIdeal.nD Cert.DHn2RefIdeal.τ Cert.DHn2RefIdeal.sig) → Buf (Elt Ideal) ℓ) : Prop :=
  True

def Pre_DHn1 (m : (ℓ : Loc Cert.DHn1.nD Cert.DHn1.τ Cert.DHn1.sig) → Buf (Elt Bits) ℓ) : Prop :=
  True

def Pre_DHn1Ideal (m : (ℓ : Loc Cert.DHn1Ideal.nD Cert.DHn1Ideal.τ Cert.DHn1Ideal.sig) → Buf (Elt Ideal) ℓ) : Prop :=
  True

def Pre_DHn1RefIdeal (m : (ℓ : Loc Cert.DHn1RefIdeal.nD Cert.DHn1RefIdeal.τ Cert.DHn1RefIdeal.sig) → Buf (Elt Ideal) ℓ) : Prop :=
  True

def Pre_GInHg (m : (ℓ : Loc Cert.GInHg.nD Cert.GInHg.τ Cert.GInHg.sig) → Buf (Elt Bits) ℓ) : Prop :=
  True

def Pre_GInHgIdeal (m : (ℓ : Loc Cert.GInHgIdeal.nD Cert.GInHgIdeal.τ Cert.GInHgIdeal.sig) → Buf (Elt Ideal) ℓ) : Prop :=
  True

def Pre_GInHgRefIdeal (m : (ℓ : Loc Cert.GInHgRefIdeal.nD Cert.GInHgRefIdeal.τ Cert.GInHgRefIdeal.sig) → Buf (Elt Ideal) ℓ) : Prop :=
  True

def Pre_GInSw (m : (ℓ : Loc Cert.GInSw.nD Cert.GInSw.τ Cert.GInSw.sig) → Buf (Elt Bits) ℓ) : Prop :=
  True

def Pre_GInSwIdeal (m : (ℓ : Loc Cert.GInSwIdeal.nD Cert.GInSwIdeal.τ Cert.GInSwIdeal.sig) → Buf (Elt Ideal) ℓ) : Prop :=
  True

def Pre_GInSwRefIdeal (m : (ℓ : Loc Cert.GInSwRefIdeal.nD Cert.GInSwRefIdeal.τ Cert.GInSwRefIdeal.sig) → Buf (Elt Ideal) ℓ) : Prop :=
  True

def Pre_Norm1 (m : (ℓ : Loc Cert.Norm1.nD Cert.Norm1.τ Cert.Norm1.sig) → Buf (Elt Bits) ℓ) : Prop :=
  True

def Pre_Norm1Ideal (m : (ℓ : Loc Cert.Norm1Ideal.nD Cert.Norm1Ideal.τ Cert.Norm1Ideal.sig) → Buf (Elt Ideal) ℓ) : Prop :=
  True

def Pre_Norm1RefIdeal (m : (ℓ : Loc Cert.Norm1RefIdeal.nD Cert.Norm1RefIdeal.τ Cert.Norm1RefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemGain (m : (ℓ : Loc Cert.MemGain.nD Cert.MemGain.τ Cert.MemGain.sig) → Buf (Elt Bits) ℓ) : Prop :=
  True

def Pre_MemGainIdeal (m : (ℓ : Loc Cert.MemGainIdeal.nD Cert.MemGainIdeal.τ Cert.MemGainIdeal.sig) → Buf (Elt Ideal) ℓ) : Prop :=
  True

def Pre_MemGainRefIdeal (m : (ℓ : Loc Cert.MemGainRefIdeal.nD Cert.MemGainRefIdeal.τ Cert.MemGainRefIdeal.sig) → Buf (Elt Ideal) ℓ) : Prop :=
  True

def Pre_XaFwd (m : (ℓ : Loc Cert.XaFwd.nD Cert.XaFwd.τ Cert.XaFwd.sig) → Buf (Elt Bits) ℓ) : Prop :=
  True

def Pre_XaFwdIdeal (m : (ℓ : Loc Cert.XaFwdIdeal.nD Cert.XaFwdIdeal.τ Cert.XaFwdIdeal.sig) → Buf (Elt Ideal) ℓ) : Prop :=
  True

def Pre_XaFwdIdeal_finite_gains [hPre_finite_gains : Cert.Pre_finite_gains.Facts] (m : (ℓ : Loc Cert.XaFwdIdeal.nD Cert.XaFwdIdeal.τ Cert.XaFwdIdeal.sig) → Buf (Elt Ideal) ℓ) : Prop :=
  ∀ c : Dev Cert.XaFwdIdeal.nD,
    (Cert.Pre_finite_gains.fn (F := Ideal) (m ((c.tc : Thread Cert.XaFwdIdeal.nD Cert.XaFwdIdeal.τ).loc Cert.XaFwdIdeal.main_arg0)) (m ((c.tc : Thread Cert.XaFwdIdeal.nD Cert.XaFwdIdeal.τ).loc Cert.XaFwdIdeal.main_arg1)) (m ((c.tc : Thread Cert.XaFwdIdeal.nD Cert.XaFwdIdeal.τ).loc Cert.XaFwdIdeal.main_arg2)) (m ((c.tc : Thread Cert.XaFwdIdeal.nD Cert.XaFwdIdeal.τ).loc Cert.XaFwdIdeal.main_arg3))) = (fun _ => 1#1)

def Pre_XaFwdRefIdeal (m : (ℓ : Loc Cert.XaFwdRefIdeal.nD Cert.XaFwdRefIdeal.τ Cert.XaFwdRefIdeal.sig) → Buf (Elt Ideal) ℓ) : Prop :=
  True

def Pre_XaFwdRefIdeal_finite_gains [hPre_finite_gains : Cert.Pre_finite_gains.Facts] (m : (ℓ : Loc Cert.XaFwdRefIdeal.nD Cert.XaFwdRefIdeal.τ Cert.XaFwdRefIdeal.sig) → Buf (Elt Ideal) ℓ) : Prop :=
  ∀ c : Dev Cert.XaFwdRefIdeal.nD,
    (Cert.Pre_finite_gains.fn (F := Ideal) (m ((c.tc : Thread Cert.XaFwdRefIdeal.nD Cert.XaFwdRefIdeal.τ).loc Cert.XaFwdRefIdeal.main_arg0)) (m ((c.tc : Thread Cert.XaFwdRefIdeal.nD Cert.XaFwdRefIdeal.τ).loc Cert.XaFwdRefIdeal.main_arg1)) (m ((c.tc : Thread Cert.XaFwdRefIdeal.nD Cert.XaFwdRefIdeal.τ).loc Cert.XaFwdRefIdeal.main_arg2)) (m ((c.tc : Thread Cert.XaFwdRefIdeal.nD Cert.XaFwdRefIdeal.τ).loc Cert.XaFwdRefIdeal.main_arg3))) = (fun _ => 1#1)

def Pre_LossFinish (m : (ℓ : Loc Cert.LossFinish.nD Cert.LossFinish.τ Cert.LossFinish.sig) → Buf (Elt Bits) ℓ) : Prop :=
  True

def Pre_LossFinishIdeal (m : (ℓ : Loc Cert.LossFinishIdeal.nD Cert.LossFinishIdeal.τ Cert.LossFinishIdeal.sig) → Buf (Elt Ideal) ℓ) : Prop :=
  True

def Pre_LossFinishRefIdeal (m : (ℓ : Loc Cert.LossFinishRefIdeal.nD Cert.LossFinishRefIdeal.τ Cert.LossFinishRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1)
      ∧ r.2.mem ((c.tc : Thread Cert.GDown.nD Cert.GDown.τ).loc Cert.GDown.main_arg2) = m ((c.tc : Thread Cert.GDown.nD Cert.GDown.τ).loc Cert.GDown.main_arg2))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
      ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1)
      ∧ r.2.mem ((c.tc : Thread Cert.GDownRefIdeal.nD Cert.GDownRefIdeal.τ).loc Cert.GDownRefIdeal.main_arg2) = m ((c.tc : Thread Cert.GDownRefIdeal.nD Cert.GDownRefIdeal.τ).loc Cert.GDownRefIdeal.main_arg2))
      ∧ r.2.sem = fun _ => 0)

def quiescent_GUp [hGUp : Cert.GUp.Facts] : Prop :=
  ∀ (m : (ℓ : Loc Cert.GUp.nD Cert.GUp.τ Cert.GUp.sig) → Buf (Elt Bits) ℓ) (g : Dev Cert.GUp.nD → PrngReg), Pre_GUp m →
    θ_run (Cert.GUp.defs (F := Bits)) (onTc (τ := Cert.GUp.τ) (Cert.GUp.main (F := Bits))) ⟨m, fun _ => 0, g⟩ (fun r => (∀ c : Dev Cert.GUp.nD,
      r.2.mem ((c.tc : Thread Cert.GUp.nD Cert.GUp.τ).loc Cert.GUp.main_arg0) = m ((c.tc : Thread Cert.GUp.nD Cert.GUp.τ).loc Cert.GUp.main_arg0)
      ∧ r.2.mem ((c.tc : Thread Cert.GUp.nD Cert.GUp.τ).loc Cert.GUp.main_arg1) = m ((c.tc : Thread Cert.GUp.nD Cert.GUp.τ).loc Cert.GUp.main_arg1)
      ∧ r.2.mem ((c.tc : Thread Cert.GUp.nD Cert.GUp.τ).loc Cert.GUp.main_arg2) = m ((c.tc : Thread Cert.GUp.nD Cert.GUp.τ).loc Cert.GUp.main_arg2))
      ∧ r.2.sem = fun _ => 0)

def quiescent_GUpIdeal [hGUpIdeal : Cert.GUpIdeal.Facts] : Prop :=
  ∀ (m : (ℓ : Loc Cert.GUpIdeal.nD Cert.GUpIdeal.τ Cert.GUpIdeal.sig) → Buf (Elt Ideal) ℓ) (g : Dev Cert.GUpIdeal.nD → PrngReg), Pre_GUpIdeal m →
    θ_run (Cert.GUpIdeal.defs (F := Ideal)) (onTc (τ := Cert.GUpIdeal.τ) (Cert.GUpIdeal.main (F := Ideal))) ⟨m, fun _ => 0, g⟩ (fun r => (∀ c : Dev Cert.GUpIdeal.nD,
      r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
      ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
      ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ r.2.sem = fun _ => 0)

def quiescent_GUpRefIdeal [hGUpRefIdeal : Cert.GUpRefIdeal.Facts] : Prop :=
  ∀ (m : (ℓ : Loc Cert.GUpRefIdeal.nD Cert.GUpRefIdeal.τ Cert.GUpRefIdeal.sig) → Buf (Elt Ideal) ℓ) (g : Dev Cert.GUpRefIdeal.nD → PrngReg), Pre_GUpRefIdeal m →
    θ_run (Cert.GUpRefIdeal.defs (F := Ideal)) (onTc (τ := Cert.GUpRefIdeal.τ) (Cert.GUpRefIdeal.main (F := Ideal))) ⟨m, fun _ => 0, g⟩ (fun r => (∀ c : Dev Cert.GUpRefIdeal.nD,
      r.2.mem ((c.tc : Thread Cert.GUpRefIdeal.nD Cert.GUpRefIdeal.τ).loc Cert.GUpRefIdeal.main_arg0) = m ((c.tc : Thread Cert.GUpRefIdeal.nD Cert.GUpRefIdeal.τ).loc Cert.GUpRefIdeal.main_arg0)
      ∧ r.2.mem ((c.tc : Thread Cert.GUpRefIdeal.nD Cert.GUpRefIdeal.τ).loc Cert.GUpRefIdeal.main_arg1) = m ((c.tc : Thread Cert.GUpRefIdeal.nD Cert.GUpRefIdeal.τ).loc Cert.GUpRefIdeal.main_arg1)
      ∧ r.2.mem ((c.tc : Thread Cert.GUpRefIdeal.nD Cert.GUpRefIdeal.τ).loc Cert.GUpRefIdeal.main_arg2) = m ((c.tc : Thread Cert.GUpRefIdeal.nD Cert.GUpRefIdeal.τ).loc Cert.GUpRefIdeal.main_arg2))
      ∧ r.2.sem = fun _ => 0)

def quiescent_ProjHg [hProjHg : Cert.ProjHg.Facts] : Prop :=
  ∀ (m : (ℓ : Loc Cert.ProjHg.nD Cert.ProjHg.τ Cert.ProjHg.sig) → Buf (Elt Bits) ℓ) (g : Dev Cert.ProjHg.nD → PrngReg), Pre_ProjHg m →
    θ_run (Cert.ProjHg.defs (F := Bits)) (onTc (τ := Cert.ProjHg.τ) (Cert.ProjHg.main (F := Bits))) ⟨m, fun _ => 0, g⟩ (fun r => (∀ c : Dev Cert.ProjHg.nD,
      r.2.mem ((c.tc : Thread Cert.ProjHg.nD Cert.ProjHg.τ).loc Cert.ProjHg.main_arg0) = m ((c.tc : Thread Cert.ProjHg.nD Cert.ProjHg.τ).loc Cert.ProjHg.main_arg0)
      ∧ r.2.mem ((c.tc : Thread Cert.ProjHg.nD Cert.ProjHg.τ).loc Cert.ProjHg.main_arg1) = m ((c.tc : Thread Cert.ProjHg.nD Cert.ProjHg.τ).loc Cert.ProjHg.main_arg1))
      ∧ r.2.sem = fun _ => 0)

def quiescent_ProjHgIdeal [hProjHgIdeal : Cert.ProjHgIdeal.Facts] : Prop :=
  ∀ (m : (ℓ : Loc Cert.ProjHgIdeal.nD Cert.ProjHgIdeal.τ Cert.ProjHgIdeal.sig) → Buf (Elt Ideal) ℓ) (g : Dev Cert.ProjHgIdeal.nD → PrngReg), Pre_ProjHgIdeal m →
    θ_run (Cert.ProjHgIdeal.defs (F := Ideal)) (onTc (τ := Cert.ProjHgIdeal.τ) (Cert.ProjHgIdeal.main (F := Ideal))) ⟨m, fun _ => 0, g⟩ (fun r => (∀ c : Dev Cert.ProjHgIdeal.nD,
      r.2.mem ((c.tc : Thread Cert.ProjHgIdeal.nD Cert.ProjHgIdeal.τ).loc Cert.ProjHgIdeal.main_arg0) = m ((c.tc : Thread Cert.ProjHgIdeal.nD Cert.ProjHgIdeal.τ).loc Cert.ProjHgIdeal.main_arg0)
      ∧ r.2.mem ((c.tc : Thread Cert.ProjHgIdeal.nD Cert.ProjHgIdeal.τ).loc Cert.ProjHgIdeal.main_arg1) = m ((c.tc : Thread Cert.ProjHgIdeal.nD Cert.ProjHgIdeal.τ).loc Cert.ProjHgIdeal.main_arg1))
      ∧ r.2.sem = fun _ => 0)

def quiescent_ProjHgRefIdeal [hProjHgRefIdeal : Cert.ProjHgRefIdeal.Facts] : Prop :=
  ∀ (m : (ℓ : Loc Cert.ProjHgRefIdeal.nD Cert.ProjHgRefIdeal.τ Cert.ProjHgRefIdeal.sig) → Buf (Elt Ideal) ℓ) (g : Dev Cert.ProjHgRefIdeal.nD → PrngReg), Pre_ProjHgRefIdeal m →
    θ_run (Cert.ProjHgRefIdeal.defs (F := Ideal)) (onTc (τ := Cert.ProjHgRefIdeal.τ) (Cert.ProjHgRefIdeal.main (F := Ideal))) ⟨m, fun _ => 0, g⟩ (fun r => (∀ c : Dev Cert.ProjHgRefIdeal.nD,
      r.2.mem ((c.tc : Thread Cert.ProjHgRefIdeal.nD Cert.ProjHgRefIdeal.τ).loc Cert.ProjHgRefIdeal.main_arg0) = m ((c.tc : Thread Cert.ProjHgRefIdeal.nD Cert.ProjHgRefIdeal.τ).loc Cert.ProjHgRefIdeal.main_arg0)
      ∧ r.2.mem ((c.tc : Thread Cert.ProjHgRefIdeal.nD Cert.ProjHgRefIdeal.τ).loc Cert.ProjHgRefIdeal.main_arg1) = m ((c.tc : Thread Cert.ProjHgRefIdeal.nD Cert.ProjHgRefIdeal.τ).loc Cert.ProjHgRefIdeal.main_arg1))
      ∧ r.2.sem = fun _ => 0)

def quiescent_ProjSw [hProjSw : Cert.ProjSw.Facts] : Prop :=
  ∀ (m : (ℓ : Loc Cert.ProjSw.nD Cert.ProjSw.τ Cert.ProjSw.sig) → Buf (Elt Bits) ℓ) (g : Dev Cert.ProjSw.nD → PrngReg), Pre_ProjSw m →
    θ_run (Cert.ProjSw.defs (F := Bits)) (onTc (τ := Cert.ProjSw.τ) (Cert.ProjSw.main (F := Bits))) ⟨m, fun _ => 0, g⟩ (fun r => (∀ c : Dev Cert.ProjSw.nD,
      r.2.mem ((c.tc : Thread Cert.ProjSw.nD Cert.ProjSw.τ).loc Cert.ProjSw.main_arg0) = m ((c.tc : Thread Cert.ProjSw.nD Cert.ProjSw.τ).loc Cert.ProjSw.main_arg0)
      ∧ r.2.mem ((c.tc : Thread Cert.ProjSw.nD Cert.ProjSw.τ).loc Cert.ProjSw.main_arg1) = m ((c.tc : Thread Cert.ProjSw.nD Cert.ProjSw.τ).loc Cert.ProjSw.main_arg1))
      ∧ r.2.sem = fun _ => 0)

def quiescent_ProjSwIdeal [hProjSwIdeal : Cert.ProjSwIdeal.Facts] : Prop :=
  ∀ (m : (ℓ : Loc Cert.ProjSwIdeal.nD Cert.ProjSwIdeal.τ Cert.ProjSwIdeal.sig) → Buf (Elt Ideal) ℓ) (g : Dev Cert.ProjSwIdeal.nD → PrngReg), Pre_ProjSwIdeal m →
    θ_run (Cert.ProjSwIdeal.defs (F := Ideal)) (onTc (τ := Cert.ProjSwIdeal.τ) (Cert.ProjSwIdeal.main (F := Ideal))) ⟨m, fun _ => 0, g⟩ (fun r => (∀ c : Dev Cert.ProjSwIdeal.nD,
      r.2.mem ((c.tc : Thread Cert.ProjSwIdeal.nD Cert.ProjSwIdeal.τ).loc Cert.ProjSwIdeal.main_arg0) = m ((c.tc : Thread Cert.ProjSwIdeal.nD Cert.ProjSwIdeal.τ).loc Cert.ProjSwIdeal.main_arg0)
      ∧ r.2.mem ((c.tc : Thread Cert.ProjSwIdeal.nD Cert.ProjSwIdeal.τ).loc Cert.ProjSwIdeal.main_arg1) = m ((c.tc : Thread Cert.ProjSwIdeal.nD Cert.ProjSwIdeal.τ).loc Cert.ProjSwIdeal.main_arg1))
      ∧ r.2.sem = fun _ => 0)

def quiescent_ProjSwRefIdeal [hProjSwRefIdeal : Cert.ProjSwRefIdeal.Facts] : Prop :=
  ∀ (m : (ℓ : Loc Cert.ProjSwRefIdeal.nD Cert.ProjSwRefIdeal.τ Cert.ProjSwRefIdeal.sig) → Buf (Elt Ideal) ℓ) (g : Dev Cert.ProjSwRefIdeal.nD → PrngReg), Pre_ProjSwRefIdeal m →
    θ_run (Cert.ProjSwRefIdeal.defs (F := Ideal)) (onTc (τ := Cert.ProjSwRefIdeal.τ) (Cert.ProjSwRefIdeal.main (F := Ideal))) ⟨m, fun _ => 0, g⟩ (fun r => (∀ c : Dev Cert.ProjSwRefIdeal.nD,
      r.2.mem ((c.tc : Thread Cert.ProjSwRefIdeal.nD Cert.ProjSwRefIdeal.τ).loc Cert.ProjSwRefIdeal.main_arg0) = m ((c.tc : Thread Cert.ProjSwRefIdeal.nD Cert.ProjSwRefIdeal.τ).loc Cert.ProjSwRefIdeal.main_arg0)
      ∧ r.2.mem ((c.tc : Thread Cert.ProjSwRefIdeal.nD Cert.ProjSwRefIdeal.τ).loc Cert.ProjSwRefIdeal.main_arg1) = m ((c.tc : Thread Cert.ProjSwRefIdeal.nD Cert.ProjSwRefIdeal.τ).loc Cert.ProjSwRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1)
      ∧ r.2.mem ((c.tc : Thread Cert.DMix.nD Cert.DMix.τ).loc Cert.DMix.main_arg2) = m ((c.tc : Thread Cert.DMix.nD Cert.DMix.τ).loc Cert.DMix.main_arg2))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
      ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1)
      ∧ r.2.mem ((c.tc : Thread Cert.DMixRefIdeal.nD Cert.DMixRefIdeal.τ).loc Cert.DMixRefIdeal.main_arg2) = m ((c.tc : Thread Cert.DMixRefIdeal.nD Cert.DMixRefIdeal.τ).loc Cert.DMixRefIdeal.main_arg2))
      ∧ r.2.sem = fun _ => 0)

def quiescent_GWout [hGWout : Cert.GWout.Facts] : Prop :=
  ∀ (m : (ℓ : Loc Cert.GWout.nD Cert.GWout.τ Cert.GWout.sig) → Buf (Elt Bits) ℓ) (g : Dev Cert.GWout.nD → PrngReg), Pre_GWout m →
    θ_run (Cert.GWout.defs (F := Bits)) (onTc (τ := Cert.GWout.τ) (Cert.GWout.main (F := Bits))) ⟨m, fun _ => 0, g⟩ (fun r => (∀ c : Dev Cert.GWout.nD,
      r.2.mem ((c.tc : Thread Cert.GWout.nD Cert.GWout.τ).loc Cert.GWout.main_arg0) = m ((c.tc : Thread Cert.GWout.nD Cert.GWout.τ).loc Cert.GWout.main_arg0)
      ∧ r.2.mem ((c.tc : Thread Cert.GWout.nD Cert.GWout.τ).loc Cert.GWout.main_arg1) = m ((c.tc : Thread Cert.GWout.nD Cert.GWout.τ).loc Cert.GWout.main_arg1)
      ∧ r.2.mem ((c.tc : Thread Cert.GWout.nD Cert.GWout.τ).loc Cert.GWout.main_arg2) = m ((c.tc : Thread Cert.GWout.nD Cert.GWout.τ).loc Cert.GWout.main_arg2))
      ∧ r.2.sem = fun _ => 0)

def quiescent_GWoutIdeal [hGWoutIdeal : Cert.GWoutIdeal.Facts] : Prop :=
  ∀ (m : (ℓ : Loc Cert.GWoutIdeal.nD Cert.GWoutIdeal.τ Cert.GWoutIdeal.sig) → Buf (Elt Ideal) ℓ) (g : Dev Cert.GWoutIdeal.nD → PrngReg), Pre_GWoutIdeal m →
    θ_run (Cert.GWoutIdeal.defs (F := Ideal)) (onTc (τ := Cert.GWoutIdeal.τ) (Cert.GWoutIdeal.main (F := Ideal))) ⟨m, fun _ => 0, g⟩ (fun r => (∀ c : Dev Cert.GWoutIdeal.nD,
      r.2.mem ((c.tc : Thread Cert.GWoutIdeal.nD Cert.GWoutIdeal.τ).loc Cert.GWoutIdeal.main_arg0) = m ((c.tc : Thread Cert.GWoutIdeal.nD Cert.GWoutIdeal.τ).loc Cert.GWoutIdeal.main_arg0)
      ∧ r.2.mem ((c.tc : Thread Cert.GWoutIdeal.nD Cert.GWoutIdeal.τ).loc Cert.GWoutIdeal.main_arg1) = m ((c.tc : Thread Cert.GWoutIdeal.nD Cert.GWoutIdeal.τ).loc Cert.GWoutIdeal.main_arg1)
      ∧ r.2.mem ((c.tc : Thread Cert.GWoutIdeal.nD Cert.GWoutIdeal.τ).loc Cert.GWoutIdeal.main_arg2) = m ((c.tc : Thread Cert.GWoutIdeal.nD Cert.GWoutIdeal.τ).loc Cert.GWoutIdeal.main_arg2))
      ∧ r.2.sem = fun _ => 0)

def quiescent_GWoutRefIdeal [hGWoutRefIdeal : Cert.GWoutRefIdeal.Facts] : Prop :=
  ∀ (m : (ℓ : Loc Cert.GWoutRefIdeal.nD Cert.GWoutRefIdeal.τ Cert.GWoutRefIdeal.sig) → Buf (Elt Ideal) ℓ) (g : Dev Cert.GWoutRefIdeal.nD → PrngReg), Pre_GWoutRefIdeal m →
    θ_run (Cert.GWoutRefIdeal.defs (F := Ideal)) (onTc (τ := Cert.GWoutRefIdeal.τ) (Cert.GWoutRefIdeal.main (F := Ideal))) ⟨m, fun _ => 0, g⟩ (fun r => (∀ c : Dev Cert.GWoutRefIdeal.nD,
      r.2.mem ((c.tc : Thread Cert.GWoutRefIdeal.nD Cert.GWoutRefIdeal.τ).loc Cert.GWoutRefIdeal.main_arg0) = m ((c.tc : Thread Cert.GWoutRefIdeal.nD Cert.GWoutRefIdeal.τ).loc Cert.GWoutRefIdeal.main_arg0)
      ∧ r.2.mem ((c.tc : Thread Cert.GWoutRefIdeal.nD Cert.GWoutRefIdeal.τ).loc Cert.GWoutRefIdeal.main_arg1) = m ((c.tc : Thread Cert.GWoutRefIdeal.nD Cert.GWoutRefIdeal.τ).loc Cert.GWoutRefIdeal.main_arg1)
      ∧ r.2.mem ((c.tc : Thread Cert.GWoutRefIdeal.nD Cert.GWoutRefIdeal.τ).loc Cert.GWoutRefIdeal.main_arg2) = m ((c.tc : Thread Cert.GWoutRefIdeal.nD Cert.GWoutRefIdeal.τ).loc Cert.GWoutRefIdeal.main_arg2))
      ∧ r.2.sem = fun _ => 0)

def quiescent_XaQ [hXaQ : Cert.XaQ.Facts] : Prop :=
  ∀ (m : (ℓ : Loc Cert.XaQ.nD Cert.XaQ.τ Cert.XaQ.sig) → Buf (Elt Bits) ℓ) (g : Dev Cert.XaQ.nD → PrngReg), Pre_XaQ m →
    θ_run (Cert.XaQ.defs (F := Bits)) (onTc (τ := Cert.XaQ.τ) (Cert.XaQ.main (F := Bits))) ⟨m, fun _ => 0, g⟩ (fun r => (∀ c : Dev Cert.XaQ.nD,
      r.2.mem ((c.tc : Thread Cert.XaQ.nD Cert.XaQ.τ).loc Cert.XaQ.main_arg0) = m ((c.tc : Thread Cert.XaQ.nD Cert.XaQ.τ).loc Cert.XaQ.main_arg0)
      ∧ r.2.mem ((c.tc : Thread Cert.XaQ.nD Cert.XaQ.τ).loc Cert.XaQ.main_arg1) = m ((c.tc : Thread Cert.XaQ.nD Cert.XaQ.τ).loc Cert.XaQ.main_arg1))
      ∧ r.2.sem = fun _ => 0)

def quiescent_XaQIdeal [hXaQIdeal : Cert.XaQIdeal.Facts] : Prop :=
  ∀ (m : (ℓ : Loc Cert.XaQIdeal.nD Cert.XaQIdeal.τ Cert.XaQIdeal.sig) → Buf (Elt Ideal) ℓ) (g : Dev Cert.XaQIdeal.nD → PrngReg), Pre_XaQIdeal m →
    θ_run (Cert.XaQIdeal.defs (F := Ideal)) (onTc (τ := Cert.XaQIdeal.τ) (Cert.XaQIdeal.main (F := Ideal))) ⟨m, fun _ => 0, g⟩ (fun r => (∀ c : Dev Cert.XaQIdeal.nD,
      r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
      ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ r.2.sem = fun _ => 0)

def quiescent_XaQRefIdeal [hXaQRefIdeal : Cert.XaQRefIdeal.Facts] : Prop :=
  ∀ (m : (ℓ : Loc Cert.XaQRefIdeal.nD Cert.XaQRefIdeal.τ Cert.XaQRefIdeal.sig) → Buf (Elt Ideal) ℓ) (g : Dev Cert.XaQRefIdeal.nD → PrngReg), Pre_XaQRefIdeal m →
    θ_run (Cert.XaQRefIdeal.defs (F := Ideal)) (onTc (τ := Cert.XaQRefIdeal.τ) (Cert.XaQRefIdeal.main (F := Ideal))) ⟨m, fun _ => 0, g⟩ (fun r => (∀ c : Dev Cert.XaQRefIdeal.nD,
      r.2.mem ((c.tc : Thread Cert.XaQRefIdeal.nD Cert.XaQRefIdeal.τ).loc Cert.XaQRefIdeal.main_arg0) = m ((c.tc : Thread Cert.XaQRefIdeal.nD Cert.XaQRefIdeal.τ).loc Cert.XaQRefIdeal.main_arg0)
      ∧ r.2.mem ((c.tc : Thread Cert.XaQRefIdeal.nD Cert.XaQRefIdeal.τ).loc Cert.XaQRefIdeal.main_arg1) = m ((c.tc : Thread Cert.XaQRefIdeal.nD Cert.XaQRefIdeal.τ).loc Cert.XaQRefIdeal.main_arg1))
      ∧ r.2.sem = fun _ => 0)

def quiescent_XaKv [hXaKv : Cert.XaKv.Facts] : Prop :=
  ∀ (m : (ℓ : Loc Cert.XaKv.nD Cert.XaKv.τ Cert.XaKv.sig) → Buf (Elt Bits) ℓ) (g : Dev Cert.XaKv.nD → PrngReg), Pre_XaKv m →
    θ_run (Cert.XaKv.defs (F := Bits)) (onTc (τ := Cert.XaKv.τ) (Cert.XaKv.main (F := Bits))) ⟨m, fun _ => 0, g⟩ (fun r => (∀ c : Dev Cert.XaKv.nD,
      r.2.mem ((c.tc : Thread Cert.XaKv.nD Cert.XaKv.τ).loc Cert.XaKv.main_arg0) = m ((c.tc : Thread Cert.XaKv.nD Cert.XaKv.τ).loc Cert.XaKv.main_arg0)
      ∧ r.2.mem ((c.tc : Thread Cert.XaKv.nD Cert.XaKv.τ).loc Cert.XaKv.main_arg1) = m ((c.tc : Thread Cert.XaKv.nD Cert.XaKv.τ).loc Cert.XaKv.main_arg1))
      ∧ r.2.sem = fun _ => 0)

def quiescent_XaKvIdeal [hXaKvIdeal : Cert.XaKvIdeal.Facts] : Prop :=
  ∀ (m : (ℓ : Loc Cert.XaKvIdeal.nD Cert.XaKvIdeal.τ Cert.XaKvIdeal.sig) → Buf (Elt Ideal) ℓ) (g : Dev Cert.XaKvIdeal.nD → PrngReg), Pre_XaKvIdeal m →
    θ_run (Cert.XaKvIdeal.defs (F := Ideal)) (onTc (τ := Cert.XaKvIdeal.τ) (Cert.XaKvIdeal.main (F := Ideal))) ⟨m, fun _ => 0, g⟩ (fun r => (∀ c : Dev Cert.XaKvIdeal.nD,
      r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
      ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ r.2.sem = fun _ => 0)

def quiescent_XaKvRefIdeal [hXaKvRefIdeal : Cert.XaKvRefIdeal.Facts] : Prop :=
  ∀ (m : (ℓ : Loc Cert.XaKvRefIdeal.nD Cert.XaKvRefIdeal.τ Cert.XaKvRefIdeal.sig) → Buf (Elt Ideal) ℓ) (g : Dev Cert.XaKvRefIdeal.nD → PrngReg), Pre_XaKvRefIdeal m →
    θ_run (Cert.XaKvRefIdeal.defs (F := Ideal)) (onTc (τ := Cert.XaKvRefIdeal.τ) (Cert.XaKvRefIdeal.main (F := Ideal))) ⟨m, fun _ => 0, g⟩ (fun r => (∀ c : Dev Cert.XaKvRefIdeal.nD,
      r.2.mem ((c.tc : Thread Cert.XaKvRefIdeal.nD Cert.XaKvRefIdeal.τ).loc Cert.XaKvRefIdeal.main_arg0) = m ((c.tc : Thread Cert.XaKvRefIdeal.nD Cert.XaKvRefIdeal.τ).loc Cert.XaKvRefIdeal.main_arg0)
      ∧ r.2.mem ((c.tc : Thread Cert.XaKvRefIdeal.nD Cert.XaKvRefIdeal.τ).loc Cert.XaKvRefIdeal.main_arg1) = m ((c.tc : Thread Cert.XaKvRefIdeal.nD Cert.XaKvRefIdeal.τ).loc Cert.XaKvRefIdeal.main_arg1))
      ∧ r.2.sem = fun _ => 0)

def quiescent_XaO [hXaO : Cert.XaO.Facts] : Prop :=
  ∀ (m : (ℓ : Loc Cert.XaO.nD Cert.XaO.τ Cert.XaO.sig) → Buf (Elt Bits) ℓ) (g : Dev Cert.XaO.nD → PrngReg), Pre_XaO m →
    θ_run (Cert.XaO.defs (F := Bits)) (onTc (τ := Cert.XaO.τ) (Cert.XaO.main (F := Bits))) ⟨m, fun _ => 0, g⟩ (fun r => (∀ c : Dev Cert.XaO.nD,
      r.2.mem ((c.tc : Thread Cert.XaO.nD Cert.XaO.τ).loc Cert.XaO.main_arg0) = m ((c.tc : Thread Cert.XaO.nD Cert.XaO.τ).loc Cert.XaO.main_arg0)
      ∧ r.2.mem ((c.tc : Thread Cert.XaO.nD Cert.XaO.τ).loc Cert.XaO.main_arg1) = m ((c.tc : Thread Cert.XaO.nD Cert.XaO.τ).loc Cert.XaO.main_arg1)
      ∧ r.2.mem ((c.tc : Thread Cert.XaO.nD Cert.XaO.τ).loc Cert.XaO.main_arg2) = m ((c.tc : Thread Cert.XaO.nD Cert.XaO.τ).loc Cert.XaO.main_arg2)
      ∧ r.2.mem ((c.tc : Thread Cert.XaO.nD Cert.XaO.τ).loc Cert.XaO.main_arg3) = m ((c.tc : Thread Cert.XaO.nD Cert.XaO.τ).loc Cert.XaO.main_arg3))
      ∧ r.2.sem = fun _ => 0)

def quiescent_XaOIdeal [hXaOIdeal : Cert.XaOIdeal.Facts] : Prop :=
  ∀ (m : (ℓ : Loc Cert.XaOIdeal.nD Cert.XaOIdeal.τ Cert.XaOIdeal.sig) → Buf (Elt Ideal) ℓ) (g : Dev Cert.XaOIdeal.nD → PrngReg), Pre_XaOIdeal m →
    θ_run (Cert.XaOIdeal.defs (F := Ideal)) (onTc (τ := Cert.XaOIdeal.τ) (Cert.XaOIdeal.main (F := Ideal))) ⟨m, fun _ => 0, g⟩ (fun r => (∀ c : Dev Cert.XaOIdeal.nD,
      r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
      ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
      ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2)
      ∧ r.2.mem ((c.tc : Thread Cert.XaOIdeal.nD Cert.XaOIdeal.τ).loc Cert.XaOIdeal.main_arg3) = m ((c.tc : Thread Cert.XaOIdeal.nD Cert.XaOIdeal.τ).loc Cert.XaOIdeal.main_arg3))
      ∧ r.2.sem = fun _ => 0)

def quiescent_XaORefIdeal [hXaORefIdeal : Cert.XaORefIdeal.Facts] : Prop :=
  ∀ (m : (ℓ : Loc Cert.XaORefIdeal.nD Cert.XaORefIdeal.τ Cert.XaORefIdeal.sig) → Buf (Elt Ideal) ℓ) (g : Dev Cert.XaORefIdeal.nD → PrngReg), Pre_XaORefIdeal m →
    θ_run (Cert.XaORefIdeal.defs (F := Ideal)) (onTc (τ := Cert.XaORefIdeal.τ) (Cert.XaORefIdeal.main (F := Ideal))) ⟨m, fun _ => 0, g⟩ (fun r => (∀ c : Dev Cert.XaORefIdeal.nD,
      r.2.mem ((c.tc : Thread Cert.XaORefIdeal.nD Cert.XaORefIdeal.τ).loc Cert.XaORefIdeal.main_arg0) = m ((c.tc : Thread Cert.XaORefIdeal.nD Cert.XaORefIdeal.τ).loc Cert.XaORefIdeal.main_arg0)
      ∧ r.2.mem ((c.tc : Thread Cert.XaORefIdeal.nD Cert.XaORefIdeal.τ).loc Cert.XaORefIdeal.main_arg1) = m ((c.tc : Thread Cert.XaORefIdeal.nD Cert.XaORefIdeal.τ).loc Cert.XaORefIdeal.main_arg1)
      ∧ r.2.mem ((c.tc : Thread Cert.XaORefIdeal.nD Cert.XaORefIdeal.τ).loc Cert.XaORefIdeal.main_arg2) = m ((c.tc : Thread Cert.XaORefIdeal.nD Cert.XaORefIdeal.τ).loc Cert.XaORefIdeal.main_arg2)
      ∧ r.2.mem ((c.tc : Thread Cert.XaORefIdeal.nD Cert.XaORefIdeal.τ).loc Cert.XaORefIdeal.main_arg3) = m ((c.tc : Thread Cert.XaORefIdeal.nD Cert.XaORefIdeal.τ).loc Cert.XaORefIdeal.main_arg3))
      ∧ r.2.sem = fun _ => 0)

def quiescent_DOx [hDOx : Cert.DOx.Facts] : Prop :=
  ∀ (m : (ℓ : Loc Cert.DOx.nD Cert.DOx.τ Cert.DOx.sig) → Buf (Elt Bits) ℓ) (g : Dev Cert.DOx.nD → PrngReg), Pre_DOx m →
    θ_run (Cert.DOx.defs (F := Bits)) (onTc (τ := Cert.DOx.τ) (Cert.DOx.main (F := Bits))) ⟨m, fun _ => 0, g⟩ (fun r => (∀ c : Dev Cert.DOx.nD,
      r.2.mem ((c.tc : Thread Cert.DOx.nD Cert.DOx.τ).loc Cert.DOx.main_arg0) = m ((c.tc : Thread Cert.DOx.nD Cert.DOx.τ).loc Cert.DOx.main_arg0)
      ∧ r.2.mem ((c.tc : Thread Cert.DOx.nD Cert.DOx.τ).loc Cert.DOx.main_arg1) = m ((c.tc : Thread Cert.DOx.nD Cert.DOx.τ).loc Cert.DOx.main_arg1)
      ∧ r.2.mem ((c.tc : Thread Cert.DOx.nD Cert.DOx.τ).loc Cert.DOx.main_arg2) = m ((c.tc : Thread Cert.DOx.nD Cert.DOx.τ).loc Cert.DOx.main_arg2))
      ∧ r.2.sem = fun _ => 0)

def quiescent_DOxIdeal [hDOxIdeal : Cert.DOxIdeal.Facts] : Prop :=
  ∀ (m : (ℓ : Loc Cert.DOxIdeal.nD Cert.DOxIdeal.τ Cert.DOxIdeal.sig) → Buf (Elt Ideal) ℓ) (g : Dev Cert.DOxIdeal.nD → PrngReg), Pre_DOxIdeal m →
    θ_run (Cert.DOxIdeal.defs (F := Ideal)) (onTc (τ := Cert.DOxIdeal.τ) (Cert.DOxIdeal.main (F := Ideal))) ⟨m, fun _ => 0, g⟩ (fun r => (∀ c : Dev Cert.DOxIdeal.nD,
      r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
      ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1)
      ∧ r.2.mem ((c.tc : Thread Cert.DOxIdeal.nD Cert.DOxIdeal.τ).loc Cert.DOxIdeal.main_arg2) = m ((c.tc : Thread Cert.DOxIdeal.nD Cert.DOxIdeal.τ).loc Cert.DOxIdeal.main_arg2))
      ∧ r.2.sem = fun _ => 0)

def quiescent_DOxRefIdeal [hDOxRefIdeal : Cert.DOxRefIdeal.Facts] : Prop :=
  ∀ (m : (ℓ : Loc Cert.DOxRefIdeal.nD Cert.DOxRefIdeal.τ Cert.DOxRefIdeal.sig) → Buf (Elt Ideal) ℓ) (g : Dev Cert.DOxRefIdeal.nD → PrngReg), Pre_DOxRefIdeal m →
    θ_run (Cert.DOxRefIdeal.defs (F := Ideal)) (onTc (τ := Cert.DOxRefIdeal.τ) (Cert.DOxRefIdeal.main (F := Ideal))) ⟨m, fun _ => 0, g⟩ (fun r => (∀ c : Dev Cert.DOxRefIdeal.nD,
      r.2.mem ((c.tc : Thread Cert.DOxRefIdeal.nD Cert.DOxRefIdeal.τ).loc Cert.DOxRefIdeal.main_arg0) = m ((c.tc : Thread Cert.DOxRefIdeal.nD Cert.DOxRefIdeal.τ).loc Cert.DOxRefIdeal.main_arg0)
      ∧ r.2.mem ((c.tc : Thread Cert.DOxRefIdeal.nD Cert.DOxRefIdeal.τ).loc Cert.DOxRefIdeal.main_arg1) = m ((c.tc : Thread Cert.DOxRefIdeal.nD Cert.DOxRefIdeal.τ).loc Cert.DOxRefIdeal.main_arg1)
      ∧ r.2.mem ((c.tc : Thread Cert.DOxRefIdeal.nD Cert.DOxRefIdeal.τ).loc Cert.DOxRefIdeal.main_arg2) = m ((c.tc : Thread Cert.DOxRefIdeal.nD Cert.DOxRefIdeal.τ).loc Cert.DOxRefIdeal.main_arg2))
      ∧ r.2.sem = fun _ => 0)

def quiescent_GWo [hGWo : Cert.GWo.Facts] : Prop :=
  ∀ (m : (ℓ : Loc Cert.GWo.nD Cert.GWo.τ Cert.GWo.sig) → Buf (Elt Bits) ℓ) (g : Dev Cert.GWo.nD → PrngReg), Pre_GWo m →
    θ_run (Cert.GWo.defs (F := Bits)) (onTc (τ := Cert.GWo.τ) (Cert.GWo.main (F := Bits))) ⟨m, fun _ => 0, g⟩ (fun r => (∀ c : Dev Cert.GWo.nD,
      r.2.mem ((c.tc : Thread Cert.GWo.nD Cert.GWo.τ).loc Cert.GWo.main_arg0) = m ((c.tc : Thread Cert.GWo.nD Cert.GWo.τ).loc Cert.GWo.main_arg0)
      ∧ r.2.mem ((c.tc : Thread Cert.GWo.nD Cert.GWo.τ).loc Cert.GWo.main_arg1) = m ((c.tc : Thread Cert.GWo.nD Cert.GWo.τ).loc Cert.GWo.main_arg1)
      ∧ r.2.mem ((c.tc : Thread Cert.GWo.nD Cert.GWo.τ).loc Cert.GWo.main_arg2) = m ((c.tc : Thread Cert.GWo.nD Cert.GWo.τ).loc Cert.GWo.main_arg2))
      ∧ r.2.sem = fun _ => 0)

def quiescent_GWoIdeal [hGWoIdeal : Cert.GWoIdeal.Facts] : Prop :=
  ∀ (m : (ℓ : Loc Cert.GWoIdeal.nD Cert.GWoIdeal.τ Cert.GWoIdeal.sig) → Buf (Elt Ideal) ℓ) (g : Dev Cert.GWoIdeal.nD → PrngReg), Pre_GWoIdeal m →
    θ_run (Cert.GWoIdeal.defs (F := Ideal)) (onTc (τ := Cert.GWoIdeal.τ) (Cert.GWoIdeal.main (F := Ideal))) ⟨m, fun _ => 0, g⟩ (fun r => (∀ c : Dev Cert.GWoIdeal.nD,
      r.2.mem ((c.tc : Thread Cert.GWoIdeal.nD Cert.GWoIdeal.τ).loc Cert.GWoIdeal.main_arg0) = m ((c.tc : Thread Cert.GWoIdeal.nD Cert.GWoIdeal.τ).loc Cert.GWoIdeal.main_arg0)
      ∧ r.2.mem ((c.tc : Thread Cert.GWoIdeal.nD Cert.GWoIdeal.τ).loc Cert.GWoIdeal.main_arg1) = m ((c.tc : Thread Cert.GWoIdeal.nD Cert.GWoIdeal.τ).loc Cert.GWoIdeal.main_arg1)
      ∧ r.2.mem ((c.tc : Thread Cert.GWoIdeal.nD Cert.GWoIdeal.τ).loc Cert.GWoIdeal.main_arg2) = m ((c.tc : Thread Cert.GWoIdeal.nD Cert.GWoIdeal.τ).loc Cert.GWoIdeal.main_arg2))
      ∧ r.2.sem = fun _ => 0)

def quiescent_GWoRefIdeal [hGWoRefIdeal : Cert.GWoRefIdeal.Facts] : Prop :=
  ∀ (m : (ℓ : Loc Cert.GWoRefIdeal.nD Cert.GWoRefIdeal.τ Cert.GWoRefIdeal.sig) → Buf (Elt Ideal) ℓ) (g : Dev Cert.GWoRefIdeal.nD → PrngReg), Pre_GWoRefIdeal m →
    θ_run (Cert.GWoRefIdeal.defs (F := Ideal)) (onTc (τ := Cert.GWoRefIdeal.τ) (Cert.GWoRefIdeal.main (F := Ideal))) ⟨m, fun _ => 0, g⟩ (fun r => (∀ c : Dev Cert.GWoRefIdeal.nD,
      r.2.mem ((c.tc : Thread Cert.GWoRefIdeal.nD Cert.GWoRefIdeal.τ).loc Cert.GWoRefIdeal.main_arg0) = m ((c.tc : Thread Cert.GWoRefIdeal.nD Cert.GWoRefIdeal.τ).loc Cert.GWoRefIdeal.main_arg0)
      ∧ r.2.mem ((c.tc : Thread Cert.GWoRefIdeal.nD Cert.GWoRefIdeal.τ).loc Cert.GWoRefIdeal.main_arg1) = m ((c.tc : Thread Cert.GWoRefIdeal.nD Cert.GWoRefIdeal.τ).loc Cert.GWoRefIdeal.main_arg1)
      ∧ r.2.mem ((c.tc : Thread Cert.GWoRefIdeal.nD Cert.GWoRefIdeal.τ).loc Cert.GWoRefIdeal.main_arg2) = m ((c.tc : Thread Cert.GWoRefIdeal.nD Cert.GWoRefIdeal.τ).loc Cert.GWoRefIdeal.main_arg2))
      ∧ r.2.sem = fun _ => 0)

def quiescent_GWq [hGWq : Cert.GWq.Facts] : Prop :=
  ∀ (m : (ℓ : Loc Cert.GWq.nD Cert.GWq.τ Cert.GWq.sig) → Buf (Elt Bits) ℓ) (g : Dev Cert.GWq.nD → PrngReg), Pre_GWq m →
    θ_run (Cert.GWq.defs (F := Bits)) (onTc (τ := Cert.GWq.τ) (Cert.GWq.main (F := Bits))) ⟨m, fun _ => 0, g⟩ (fun r => (∀ c : Dev Cert.GWq.nD,
      r.2.mem ((c.tc : Thread Cert.GWq.nD Cert.GWq.τ).loc Cert.GWq.main_arg0) = m ((c.tc : Thread Cert.GWq.nD Cert.GWq.τ).loc Cert.GWq.main_arg0)
      ∧ r.2.mem ((c.tc : Thread Cert.GWq.nD Cert.GWq.τ).loc Cert.GWq.main_arg1) = m ((c.tc : Thread Cert.GWq.nD Cert.GWq.τ).loc Cert.GWq.main_arg1)
      ∧ r.2.mem ((c.tc : Thread Cert.GWq.nD Cert.GWq.τ).loc Cert.GWq.main_arg2) = m ((c.tc : Thread Cert.GWq.nD Cert.GWq.τ).loc Cert.GWq.main_arg2))
      ∧ r.2.sem = fun _ => 0)

def quiescent_GWqIdeal [hGWqIdeal : Cert.GWqIdeal.Facts] : Prop :=
  ∀ (m : (ℓ : Loc Cert.GWqIdeal.nD Cert.GWqIdeal.τ Cert.GWqIdeal.sig) → Buf (Elt Ideal) ℓ) (g : Dev Cert.GWqIdeal.nD → PrngReg), Pre_GWqIdeal m →
    θ_run (Cert.GWqIdeal.defs (F := Ideal)) (onTc (τ := Cert.GWqIdeal.τ) (Cert.GWqIdeal.main (F := Ideal))) ⟨m, fun _ => 0, g⟩ (fun r => (∀ c : Dev Cert.GWqIdeal.nD,
      r.2.mem ((c.tc : Thread Cert.GWqIdeal.nD Cert.GWqIdeal.τ).loc Cert.GWqIdeal.main_arg0) = m ((c.tc : Thread Cert.GWqIdeal.nD Cert.GWqIdeal.τ).loc Cert.GWqIdeal.main_arg0)
      ∧ r.2.mem ((c.tc : Thread Cert.GWqIdeal.nD Cert.GWqIdeal.τ).loc Cert.GWqIdeal.main_arg1) = m ((c.tc : Thread Cert.GWqIdeal.nD Cert.GWqIdeal.τ).loc Cert.GWqIdeal.main_arg1)
      ∧ r.2.mem ((c.tc : Thread Cert.GWqIdeal.nD Cert.GWqIdeal.τ).loc Cert.GWqIdeal.main_arg2) = m ((c.tc : Thread Cert.GWqIdeal.nD Cert.GWqIdeal.τ).loc Cert.GWqIdeal.main_arg2))
      ∧ r.2.sem = fun _ => 0)

def quiescent_GWqRefIdeal [hGWqRefIdeal : Cert.GWqRefIdeal.Facts] : Prop :=
  ∀ (m : (ℓ : Loc Cert.GWqRefIdeal.nD Cert.GWqRefIdeal.τ Cert.GWqRefIdeal.sig) → Buf (Elt Ideal) ℓ) (g : Dev Cert.GWqRefIdeal.nD → PrngReg), Pre_GWqRefIdeal m →
    θ_run (Cert.GWqRefIdeal.defs (F := Ideal)) (onTc (τ := Cert.GWqRefIdeal.τ) (Cert.GWqRefIdeal.main (F := Ideal))) ⟨m, fun _ => 0, g⟩ (fun r => (∀ c : Dev Cert.GWqRefIdeal.nD,
      r.2.mem ((c.tc : Thread Cert.GWqRefIdeal.nD Cert.GWqRefIdeal.τ).loc Cert.GWqRefIdeal.main_arg0) = m ((c.tc : Thread Cert.GWqRefIdeal.nD Cert.GWqRefIdeal.τ).loc Cert.GWqRefIdeal.main_arg0)
      ∧ r.2.mem ((c.tc : Thread Cert.GWqRefIdeal.nD Cert.GWqRefIdeal.τ).loc Cert.GWqRefIdeal.main_arg1) = m ((c.tc : Thread Cert.GWqRefIdeal.nD Cert.GWqRefIdeal.τ).loc Cert.GWqRefIdeal.main_arg1)
      ∧ r.2.mem ((c.tc : Thread Cert.GWqRefIdeal.nD Cert.GWqRefIdeal.τ).loc Cert.GWqRefIdeal.main_arg2) = m ((c.tc : Thread Cert.GWqRefIdeal.nD Cert.GWqRefIdeal.τ).loc Cert.GWqRefIdeal.main_arg2))
      ∧ r.2.sem = fun _ => 0)

def quiescent_GWkv [hGWkv : Cert.GWkv.Facts] : Prop :=
  ∀ (m : (ℓ : Loc Cert.GWkv.nD Cert.GWkv.τ Cert.GWkv.sig) → Buf (Elt Bits) ℓ) (g : Dev Cert.GWkv.nD → PrngReg), Pre_GWkv m →
    θ_run (Cert.GWkv.defs (F := Bits)) (onTc (τ := Cert.GWkv.τ) (Cert.GWkv.main (F := Bits))) ⟨m, fun _ => 0, g⟩ (fun r => (∀ c : Dev Cert.GWkv.nD,
      r.2.mem ((c.tc : Thread Cert.GWkv.nD Cert.GWkv.τ).loc Cert.GWkv.main_arg0) = m ((c.tc : Thread Cert.GWkv.nD Cert.GWkv.τ).loc Cert.GWkv.main_arg0)
      ∧ r.2.mem ((c.tc : Thread Cert.GWkv.nD Cert.GWkv.τ).loc Cert.GWkv.main_arg1) = m ((c.tc : Thread Cert.GWkv.nD Cert.GWkv.τ).loc Cert.GWkv.main_arg1)
      ∧ r.2.mem ((c.tc : Thread Cert.GWkv.nD Cert.GWkv.τ).loc Cert.GWkv.main_arg2) = m ((c.tc : Thread Cert.GWkv.nD Cert.GWkv.τ).loc Cert.GWkv.main_arg2))
      ∧ r.2.sem = fun _ => 0)

def quiescent_GWkvIdeal [hGWkvIdeal : Cert.GWkvIdeal.Facts] : Prop :=
  ∀ (m : (ℓ : Loc Cert.GWkvIdeal.nD Cert.GWkvIdeal.τ Cert.GWkvIdeal.sig) → Buf (Elt Ideal) ℓ) (g : Dev Cert.GWkvIdeal.nD → PrngReg), Pre_GWkvIdeal m →
    θ_run (Cert.GWkvIdeal.defs (F := Ideal)) (onTc (τ := Cert.GWkvIdeal.τ) (Cert.GWkvIdeal.main (F := Ideal))) ⟨m, fun _ => 0, g⟩ (fun r => (∀ c : Dev Cert.GWkvIdeal.nD,
      r.2.mem ((c.tc : Thread Cert.GWkvIdeal.nD Cert.GWkvIdeal.τ).loc Cert.GWkvIdeal.main_arg0) = m ((c.tc : Thread Cert.GWkvIdeal.nD Cert.GWkvIdeal.τ).loc Cert.GWkvIdeal.main_arg0)
      ∧ r.2.mem ((c.tc : Thread Cert.GWkvIdeal.nD Cert.GWkvIdeal.τ).loc Cert.GWkvIdeal.main_arg1) = m ((c.tc : Thread Cert.GWkvIdeal.nD Cert.GWkvIdeal.τ).loc Cert.GWkvIdeal.main_arg1)
      ∧ r.2.mem ((c.tc : Thread Cert.GWkvIdeal.nD Cert.GWkvIdeal.τ).loc Cert.GWkvIdeal.main_arg2) = m ((c.tc : Thread Cert.GWkvIdeal.nD Cert.GWkvIdeal.τ).loc Cert.GWkvIdeal.main_arg2))
      ∧ r.2.sem = fun _ => 0)

def quiescent_GWkvRefIdeal [hGWkvRefIdeal : Cert.GWkvRefIdeal.Facts] : Prop :=
  ∀ (m : (ℓ : Loc Cert.GWkvRefIdeal.nD Cert.GWkvRefIdeal.τ Cert.GWkvRefIdeal.sig) → Buf (Elt Ideal) ℓ) (g : Dev Cert.GWkvRefIdeal.nD → PrngReg), Pre_GWkvRefIdeal m →
    θ_run (Cert.GWkvRefIdeal.defs (F := Ideal)) (onTc (τ := Cert.GWkvRefIdeal.τ) (Cert.GWkvRefIdeal.main (F := Ideal))) ⟨m, fun _ => 0, g⟩ (fun r => (∀ c : Dev Cert.GWkvRefIdeal.nD,
      r.2.mem ((c.tc : Thread Cert.GWkvRefIdeal.nD Cert.GWkvRefIdeal.τ).loc Cert.GWkvRefIdeal.main_arg0) = m ((c.tc : Thread Cert.GWkvRefIdeal.nD Cert.GWkvRefIdeal.τ).loc Cert.GWkvRefIdeal.main_arg0)
      ∧ r.2.mem ((c.tc : Thread Cert.GWkvRefIdeal.nD Cert.GWkvRefIdeal.τ).loc Cert.GWkvRefIdeal.main_arg1) = m ((c.tc : Thread Cert.GWkvRefIdeal.nD Cert.GWkvRefIdeal.τ).loc Cert.GWkvRefIdeal.main_arg1)
      ∧ r.2.mem ((c.tc : Thread Cert.GWkvRefIdeal.nD Cert.GWkvRefIdeal.τ).loc Cert.GWkvRefIdeal.main_arg2) = m ((c.tc : Thread Cert.GWkvRefIdeal.nD Cert.GWkvRefIdeal.τ).loc Cert.GWkvRefIdeal.main_arg2))
      ∧ r.2.sem = fun _ => 0)

def quiescent_DMn [hDMn : Cert.DMn.Facts] : Prop :=
  ∀ (m : (ℓ : Loc Cert.DMn.nD Cert.DMn.τ Cert.DMn.sig) → Buf (Elt Bits) ℓ) (g : Dev Cert.DMn.nD → PrngReg), Pre_DMn m →
    θ_run (Cert.DMn.defs (F := Bits)) (onTc (τ := Cert.DMn.τ) (Cert.DMn.main (F := Bits))) ⟨m, fun _ => 0, g⟩ (fun r => (∀ c : Dev Cert.DMn.nD,
      r.2.mem ((c.tc : Thread Cert.DMn.nD Cert.DMn.τ).loc Cert.DMn.main_arg0) = m ((c.tc : Thread Cert.DMn.nD Cert.DMn.τ).loc Cert.DMn.main_arg0)
      ∧ r.2.mem ((c.tc : Thread Cert.DMn.nD Cert.DMn.τ).loc Cert.DMn.main_arg1) = m ((c.tc : Thread Cert.DMn.nD Cert.DMn.τ).loc Cert.DMn.main_arg1)
      ∧ r.2.mem ((c.tc : Thread Cert.DMn.nD Cert.DMn.τ).loc Cert.DMn.main_arg2) = m ((c.tc : Thread Cert.DMn.nD Cert.DMn.τ).loc Cert.DMn.main_arg2))
      ∧ r.2.sem = fun _ => 0)

def quiescent_DMnIdeal [hDMnIdeal : Cert.DMnIdeal.Facts] : Prop :=
  ∀ (m : (ℓ : Loc Cert.DMnIdeal.nD Cert.DMnIdeal.τ Cert.DMnIdeal.sig) → Buf (Elt Ideal) ℓ) (g : Dev Cert.DMnIdeal.nD → PrngReg), Pre_DMnIdeal m →
    θ_run (Cert.DMnIdeal.defs (F := Ideal)) (onTc (τ := Cert.DMnIdeal.τ) (Cert.DMnIdeal.main (F := Ideal))) ⟨m, fun _ => 0, g⟩ (fun r => (∀ c : Dev Cert.DMnIdeal.nD,
      r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
      ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1)
      ∧ r.2.mem ((c.tc : Thread Cert.DMnIdeal.nD Cert.DMnIdeal.τ).loc Cert.DMnIdeal.main_arg2) = m ((c.tc : Thread Cert.DMnIdeal.nD Cert.DMnIdeal.τ).loc Cert.DMnIdeal.main_arg2))
      ∧ r.2.sem = fun _ => 0)

def quiescent_DMnRefIdeal [hDMnRefIdeal : Cert.DMnRefIdeal.Facts] : Prop :=
  ∀ (m : (ℓ : Loc Cert.DMnRefIdeal.nD Cert.DMnRefIdeal.τ Cert.DMnRefIdeal.sig) → Buf (Elt Ideal) ℓ) (g : Dev Cert.DMnRefIdeal.nD → PrngReg), Pre_DMnRefIdeal m →
    θ_run (Cert.DMnRefIdeal.defs (F := Ideal)) (onTc (τ := Cert.DMnRefIdeal.τ) (Cert.DMnRefIdeal.main (F := Ideal))) ⟨m, fun _ => 0, g⟩ (fun r => (∀ c : Dev Cert.DMnRefIdeal.nD,
      r.2.mem ((c.tc : Thread Cert.DMnRefIdeal.nD Cert.DMnRefIdeal.τ).loc Cert.DMnRefIdeal.main_arg0) = m ((c.tc : Thread Cert.DMnRefIdeal.nD Cert.DMnRefIdeal.τ).loc Cert.DMnRefIdeal.main_arg0)
      ∧ r.2.mem ((c.tc : Thread Cert.DMnRefIdeal.nD Cert.DMnRefIdeal.τ).loc Cert.DMnRefIdeal.main_arg1) = m ((c.tc : Thread Cert.DMnRefIdeal.nD Cert.DMnRefIdeal.τ).loc Cert.DMnRefIdeal.main_arg1)
      ∧ r.2.mem ((c.tc : Thread Cert.DMnRefIdeal.nD Cert.DMnRefIdeal.τ).loc Cert.DMnRefIdeal.main_arg2) = m ((c.tc : Thread Cert.DMnRefIdeal.nD Cert.DMnRefIdeal.τ).loc Cert.DMnRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DHn3 [hDHn3 : Cert.DHn3.Facts] : Prop :=
  ∀ (m : (ℓ : Loc Cert.DHn3.nD Cert.DHn3.τ Cert.DHn3.sig) → Buf (Elt Bits) ℓ) (g : Dev Cert.DHn3.nD → PrngReg), Pre_DHn3 m →
    θ_run (Cert.DHn3.defs (F := Bits)) (onTc (τ := Cert.DHn3.τ) (Cert.DHn3.main (F := Bits))) ⟨m, fun _ => 0, g⟩ (fun r => (∀ c : Dev Cert.DHn3.nD,
      r.2.mem ((c.tc : Thread Cert.DHn3.nD Cert.DHn3.τ).loc Cert.DHn3.main_arg0) = m ((c.tc : Thread Cert.DHn3.nD Cert.DHn3.τ).loc Cert.DHn3.main_arg0)
      ∧ r.2.mem ((c.tc : Thread Cert.DHn3.nD Cert.DHn3.τ).loc Cert.DHn3.main_arg1) = m ((c.tc : Thread Cert.DHn3.nD Cert.DHn3.τ).loc Cert.DHn3.main_arg1)
      ∧ r.2.mem ((c.tc : Thread Cert.DHn3.nD Cert.DHn3.τ).loc Cert.DHn3.main_arg2) = m ((c.tc : Thread Cert.DHn3.nD Cert.DHn3.τ).loc Cert.DHn3.main_arg2)
      ∧ r.2.mem ((c.tc : Thread Cert.DHn3.nD Cert.DHn3.τ).loc Cert.DHn3.main_arg3) = m ((c.tc : Thread Cert.DHn3.nD Cert.DHn3.τ).loc Cert.DHn3.main_arg3)
      ∧ r.2.mem ((c.tc : Thread Cert.DHn3.nD Cert.DHn3.τ).loc Cert.DHn3.main_arg4) = m ((c.tc : Thread Cert.DHn3.nD Cert.DHn3.τ).loc Cert.DHn3.main_arg4))
      ∧ r.2.sem = fun _ => 0)

def quiescent_DHn3Ideal [hDHn3Ideal : Cert.DHn3Ideal.Facts] : Prop :=
  ∀ (m : (ℓ : Loc Cert.DHn3Ideal.nD Cert.DHn3Ideal.τ Cert.DHn3Ideal.sig) → Buf (Elt Ideal) ℓ) (g : Dev Cert.DHn3Ideal.nD → PrngReg), Pre_DHn3Ideal m →
    θ_run (Cert.DHn3Ideal.defs (F := Ideal)) (onTc (τ := Cert.DHn3Ideal.τ) (Cert.DHn3Ideal.main (F := Ideal))) ⟨m, fun _ => 0, g⟩ (fun r => (∀ c : Dev Cert.DHn3Ideal.nD,
      r.2.mem ((c.tc : Thread Cert.DHn3Ideal.nD Cert.DHn3Ideal.τ).loc Cert.DHn3Ideal.main_arg0) = m ((c.tc : Thread Cert.DHn3Ideal.nD Cert.DHn3Ideal.τ).loc Cert.DHn3Ideal.main_arg0)
      ∧ r.2.mem ((c.tc : Thread Cert.DHn3Ideal.nD Cert.DHn3Ideal.τ).loc Cert.DHn3Ideal.main_arg1) = m ((c.tc : Thread Cert.DHn3Ideal.nD Cert.DHn3Ideal.τ).loc Cert.DHn3Ideal.main_arg1)
      ∧ r.2.mem ((c.tc : Thread Cert.DHn3Ideal.nD Cert.DHn3Ideal.τ).loc Cert.DHn3Ideal.main_arg2) = m ((c.tc : Thread Cert.DHn3Ideal.nD Cert.DHn3Ideal.τ).loc Cert.DHn3Ideal.main_arg2)
      ∧ r.2.mem ((c.tc : Thread Cert.DHn3Ideal.nD Cert.DHn3Ideal.τ).loc Cert.DHn3Ideal.main_arg3) = m ((c.tc : Thread Cert.DHn3Ideal.nD Cert.DHn3Ideal.τ).loc Cert.DHn3Ideal.main_arg3)
      ∧ r.2.mem ((c.tc : Thread Cert.DHn3Ideal.nD Cert.DHn3Ideal.τ).loc Cert.DHn3Ideal.main_arg4) = m ((c.tc : Thread Cert.DHn3Ideal.nD Cert.DHn3Ideal.τ).loc Cert.DHn3Ideal.main_arg4))
      ∧ r.2.sem = fun _ => 0)

def quiescent_DHn3RefIdeal [hDHn3RefIdeal : Cert.DHn3RefIdeal.Facts] : Prop :=
  ∀ (m : (ℓ : Loc Cert.DHn3RefIdeal.nD Cert.DHn3RefIdeal.τ Cert.DHn3RefIdeal.sig) → Buf (Elt Ideal) ℓ) (g : Dev Cert.DHn3RefIdeal.nD → PrngReg), Pre_DHn3RefIdeal m →
    θ_run (Cert.DHn3RefIdeal.defs (F := Ideal)) (onTc (τ := Cert.DHn3RefIdeal.τ) (Cert.DHn3RefIdeal.main (F := Ideal))) ⟨m, fun _ => 0, g⟩ (fun r => (∀ c : Dev Cert.DHn3RefIdeal.nD,
      r.2.mem ((c.tc : Thread Cert.DHn3RefIdeal.nD Cert.DHn3RefIdeal.τ).loc Cert.DHn3RefIdeal.main_arg0) = m ((c.tc : Thread Cert.DHn3RefIdeal.nD Cert.DHn3RefIdeal.τ).loc Cert.DHn3RefIdeal.main_arg0)
      ∧ r.2.mem ((c.tc : Thread Cert.DHn3RefIdeal.nD Cert.DHn3RefIdeal.τ).loc Cert.DHn3RefIdeal.main_arg1) = m ((c.tc : Thread Cert.DHn3RefIdeal.nD Cert.DHn3RefIdeal.τ).loc Cert.DHn3RefIdeal.main_arg1)
      ∧ r.2.mem ((c.tc : Thread Cert.DHn3RefIdeal.nD Cert.DHn3RefIdeal.τ).loc Cert.DHn3RefIdeal.main_arg2) = m ((c.tc : Thread Cert.DHn3RefIdeal.nD Cert.DHn3RefIdeal.τ).loc Cert.DHn3RefIdeal.main_arg2)
      ∧ r.2.mem ((c.tc : Thread Cert.DHn3RefIdeal.nD Cert.DHn3RefIdeal.τ).loc Cert.DHn3RefIdeal.main_arg3) = m ((c.tc : Thread Cert.DHn3RefIdeal.nD Cert.DHn3RefIdeal.τ).loc Cert.DHn3RefIdeal.main_arg3)
      ∧ r.2.mem ((c.tc : Thread Cert.DHn3RefIdeal.nD Cert.DHn3RefIdeal.τ).loc Cert.DHn3RefIdeal.main_arg4) = m ((c.tc : Thread Cert.DHn3RefIdeal.nD Cert.DHn3RefIdeal.τ).loc Cert.DHn3RefIdeal.main_arg4))
      ∧ r.2.sem = fun _ => 0)

def quiescent_DHn2 [hDHn2 : Cert.DHn2.Facts] : Prop :=
  ∀ (m : (ℓ : Loc Cert.DHn2.nD Cert.DHn2.τ Cert.DHn2.sig) → Buf (Elt Bits) ℓ) (g : Dev Cert.DHn2.nD → PrngReg), Pre_DHn2 m →
    θ_run (Cert.DHn2.defs (F := Bits)) (onTc (τ := Cert.DHn2.τ) (Cert.DHn2.main (F := Bits))) ⟨m, fun _ => 0, g⟩ (fun r => (∀ c : Dev Cert.DHn2.nD,
      r.2.mem ((c.tc : Thread Cert.DHn2.nD Cert.DHn2.τ).loc Cert.DHn2.main_arg0) = m ((c.tc : Thread Cert.DHn2.nD Cert.DHn2.τ).loc Cert.DHn2.main_arg0)
      ∧ r.2.mem ((c.tc : Thread Cert.DHn2.nD Cert.DHn2.τ).loc Cert.DHn2.main_arg1) = m ((c.tc : Thread Cert.DHn2.nD Cert.DHn2.τ).loc Cert.DHn2.main_arg1)
      ∧ r.2.mem ((c.tc : Thread Cert.DHn2.nD Cert.DHn2.τ).loc Cert.DHn2.main_arg2) = m ((c.tc : Thread Cert.DHn2.nD Cert.DHn2.τ).loc Cert.DHn2.main_arg2)
      ∧ r.2.mem ((c.tc : Thread Cert.DHn2.nD Cert.DHn2.τ).loc Cert.DHn2.main_arg3) = m ((c.tc : Thread Cert.DHn2.nD Cert.DHn2.τ).loc Cert.DHn2.main_arg3)
      ∧ r.2.mem ((c.tc : Thread Cert.DHn2.nD Cert.DHn2.τ).loc Cert.DHn2.main_arg4) = m ((c.tc : Thread Cert.DHn2.nD Cert.DHn2.τ).loc Cert.DHn2.main_arg4))
      ∧ r.2.sem = fun _ => 0)

def quiescent_DHn2Ideal [hDHn2Ideal : Cert.DHn2Ideal.Facts] : Prop :=
  ∀ (m : (ℓ : Loc Cert.DHn2Ideal.nD Cert.DHn2Ideal.τ Cert.DHn2Ideal.sig) → Buf (Elt Ideal) ℓ) (g : Dev Cert.DHn2Ideal.nD → PrngReg), Pre_DHn2Ideal m →
    θ_run (Cert.DHn2Ideal.defs (F := Ideal)) (onTc (τ := Cert.DHn2Ideal.τ) (Cert.DHn2Ideal.main (F := Ideal))) ⟨m, fun _ => 0, g⟩ (fun r => (∀ c : Dev Cert.DHn2Ideal.nD,
      r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
      ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1)
      ∧ r.2.mem ((c.tc : Thread Cert.DHn2Ideal.nD Cert.DHn2Ideal.τ).loc Cert.DHn2Ideal.main_arg2) = m ((c.tc : Thread Cert.DHn2Ideal.nD Cert.DHn2Ideal.τ).loc Cert.DHn2Ideal.main_arg2)
      ∧ r.2.mem ((c.tc : Thread Cert.DHn2Ideal.nD Cert.DHn2Ideal.τ).loc Cert.DHn2Ideal.main_arg3) = m ((c.tc : Thread Cert.DHn2Ideal.nD Cert.DHn2Ideal.τ).loc Cert.DHn2Ideal.main_arg3)
      ∧ r.2.mem ((c.tc : Thread Cert.DHn2Ideal.nD Cert.DHn2Ideal.τ).loc Cert.DHn2Ideal.main_arg4) = m ((c.tc : Thread Cert.DHn2Ideal.nD Cert.DHn2Ideal.τ).loc Cert.DHn2Ideal.main_arg4))
      ∧ r.2.sem = fun _ => 0)

def quiescent_DHn2RefIdeal [hDHn2RefIdeal : Cert.DHn2RefIdeal.Facts] : Prop :=
  ∀ (m : (ℓ : Loc Cert.DHn2RefIdeal.nD Cert.DHn2RefIdeal.τ Cert.DHn2RefIdeal.sig) → Buf (Elt Ideal) ℓ) (g : Dev Cert.DHn2RefIdeal.nD → PrngReg), Pre_DHn2RefIdeal m →
    θ_run (Cert.DHn2RefIdeal.defs (F := Ideal)) (onTc (τ := Cert.DHn2RefIdeal.τ) (Cert.DHn2RefIdeal.main (F := Ideal))) ⟨m, fun _ => 0, g⟩ (fun r => (∀ c : Dev Cert.DHn2RefIdeal.nD,
      r.2.mem ((c.tc : Thread Cert.DHn2RefIdeal.nD Cert.DHn2RefIdeal.τ).loc Cert.DHn2RefIdeal.main_arg0) = m ((c.tc : Thread Cert.DHn2RefIdeal.nD Cert.DHn2RefIdeal.τ).loc Cert.DHn2RefIdeal.main_arg0)
      ∧ r.2.mem ((c.tc : Thread Cert.DHn2RefIdeal.nD Cert.DHn2RefIdeal.τ).loc Cert.DHn2RefIdeal.main_arg1) = m ((c.tc : Thread Cert.DHn2RefIdeal.nD Cert.DHn2RefIdeal.τ).loc Cert.DHn2RefIdeal.main_arg1)
      ∧ r.2.mem ((c.tc : Thread Cert.DHn2RefIdeal.nD Cert.DHn2RefIdeal.τ).loc Cert.DHn2RefIdeal.main_arg2) = m ((c.tc : Thread Cert.DHn2RefIdeal.nD Cert.DHn2RefIdeal.τ).loc Cert.DHn2RefIdeal.main_arg2)
      ∧ r.2.mem ((c.tc : Thread Cert.DHn2RefIdeal.nD Cert.DHn2RefIdeal.τ).loc Cert.DHn2RefIdeal.main_arg3) = m ((c.tc : Thread Cert.DHn2RefIdeal.nD Cert.DHn2RefIdeal.τ).loc Cert.DHn2RefIdeal.main_arg3)
      ∧ r.2.mem ((c.tc : Thread Cert.DHn2RefIdeal.nD Cert.DHn2RefIdeal.τ).loc Cert.DHn2RefIdeal.main_arg4) = m ((c.tc : Thread Cert.DHn2RefIdeal.nD Cert.DHn2RefIdeal.τ).loc Cert.DHn2RefIdeal.main_arg4))
      ∧ r.2.sem = fun _ => 0)

def quiescent_DHn1 [hDHn1 : Cert.DHn1.Facts] : Prop :=
  ∀ (m : (ℓ : Loc Cert.DHn1.nD Cert.DHn1.τ Cert.DHn1.sig) → Buf (Elt Bits) ℓ) (g : Dev Cert.DHn1.nD → PrngReg), Pre_DHn1 m →
    θ_run (Cert.DHn1.defs (F := Bits)) (onTc (τ := Cert.DHn1.τ) (Cert.DHn1.main (F := Bits))) ⟨m, fun _ => 0, g⟩ (fun r => (∀ c : Dev Cert.DHn1.nD,
      r.2.mem ((c.tc : Thread Cert.DHn1.nD Cert.DHn1.τ).loc Cert.DHn1.main_arg0) = m ((c.tc : Thread Cert.DHn1.nD Cert.DHn1.τ).loc Cert.DHn1.main_arg0)
      ∧ r.2.mem ((c.tc : Thread Cert.DHn1.nD Cert.DHn1.τ).loc Cert.DHn1.main_arg1) = m ((c.tc : Thread Cert.DHn1.nD Cert.DHn1.τ).loc Cert.DHn1.main_arg1)
      ∧ r.2.mem ((c.tc : Thread Cert.DHn1.nD Cert.DHn1.τ).loc Cert.DHn1.main_arg2) = m ((c.tc : Thread Cert.DHn1.nD Cert.DHn1.τ).loc Cert.DHn1.main_arg2)
      ∧ r.2.mem ((c.tc : Thread Cert.DHn1.nD Cert.DHn1.τ).loc Cert.DHn1.main_arg3) = m ((c.tc : Thread Cert.DHn1.nD Cert.DHn1.τ).loc Cert.DHn1.main_arg3)
      ∧ r.2.mem ((c.tc : Thread Cert.DHn1.nD Cert.DHn1.τ).loc Cert.DHn1.main_arg4) = m ((c.tc : Thread Cert.DHn1.nD Cert.DHn1.τ).loc Cert.DHn1.main_arg4)
      ∧ r.2.mem ((c.tc : Thread Cert.DHn1.nD Cert.DHn1.τ).loc Cert.DHn1.main_arg5) = m ((c.tc : Thread Cert.DHn1.nD Cert.DHn1.τ).loc Cert.DHn1.main_arg5))
      ∧ r.2.sem = fun _ => 0)

def quiescent_DHn1Ideal [hDHn1Ideal : Cert.DHn1Ideal.Facts] : Prop :=
  ∀ (m : (ℓ : Loc Cert.DHn1Ideal.nD Cert.DHn1Ideal.τ Cert.DHn1Ideal.sig) → Buf (Elt Ideal) ℓ) (g : Dev Cert.DHn1Ideal.nD → PrngReg), Pre_DHn1Ideal m →
    θ_run (Cert.DHn1Ideal.defs (F := Ideal)) (onTc (τ := Cert.DHn1Ideal.τ) (Cert.DHn1Ideal.main (F := Ideal))) ⟨m, fun _ => 0, g⟩ (fun r => (∀ c : Dev Cert.DHn1Ideal.nD,
      r.2.mem ((c.tc : Thread Cert.DHn1Ideal.nD Cert.DHn1Ideal.τ).loc Cert.DHn1Ideal.main_arg0) = m ((c.tc : Thread Cert.DHn1Ideal.nD Cert.DHn1Ideal.τ).loc Cert.DHn1Ideal.main_arg0)
      ∧ r.2.mem ((c.tc : Thread Cert.DHn1Ideal.nD Cert.DHn1Ideal.τ).loc Cert.DHn1Ideal.main_arg1) = m ((c.tc : Thread Cert.DHn1Ideal.nD Cert.DHn1Ideal.τ).loc Cert.DHn1Ideal.main_arg1)
      ∧ r.2.mem ((c.tc : Thread Cert.DHn1Ideal.nD Cert.DHn1Ideal.τ).loc Cert.DHn1Ideal.main_arg2) = m ((c.tc : Thread Cert.DHn1Ideal.nD Cert.DHn1Ideal.τ).loc Cert.DHn1Ideal.main_arg2)
      ∧ r.2.mem ((c.tc : Thread Cert.DHn1Ideal.nD Cert.DHn1Ideal.τ).loc Cert.DHn1Ideal.main_arg3) = m ((c.tc : Thread Cert.DHn1Ideal.nD Cert.DHn1Ideal.τ).loc Cert.DHn1Ideal.main_arg3)
      ∧ r.2.mem ((c.tc : Thread Cert.DHn1Ideal.nD Cert.DHn1Ideal.τ).loc Cert.DHn1Ideal.main_arg4) = m ((c.tc : Thread Cert.DHn1Ideal.nD Cert.DHn1Ideal.τ).loc Cert.DHn1Ideal.main_arg4)
      ∧ r.2.mem ((c.tc : Thread Cert.DHn1Ideal.nD Cert.DHn1Ideal.τ).loc Cert.DHn1Ideal.main_arg5) = m ((c.tc : Thread Cert.DHn1Ideal.nD Cert.DHn1Ideal.τ).loc Cert.DHn1Ideal.main_arg5))
      ∧ r.2.sem = fun _ => 0)

def quiescent_DHn1RefIdeal [hDHn1RefIdeal : Cert.DHn1RefIdeal.Facts] : Prop :=
  ∀ (m : (ℓ : Loc Cert.DHn1RefIdeal.nD Cert.DHn1RefIdeal.τ Cert.DHn1RefIdeal.sig) → Buf (Elt Ideal) ℓ) (g : Dev Cert.DHn1RefIdeal.nD → PrngReg), Pre_DHn1RefIdeal m →
    θ_run (Cert.DHn1RefIdeal.defs (F := Ideal)) (onTc (τ := Cert.DHn1RefIdeal.τ) (Cert.DHn1RefIdeal.main (F := Ideal))) ⟨m, fun _ => 0, g⟩ (fun r => (∀ c : Dev Cert.DHn1RefIdeal.nD,
      r.2.mem ((c.tc : Thread Cert.DHn1RefIdeal.nD Cert.DHn1RefIdeal.τ).loc Cert.DHn1RefIdeal.main_arg0) = m ((c.tc : Thread Cert.DHn1RefIdeal.nD Cert.DHn1RefIdeal.τ).loc Cert.DHn1RefIdeal.main_arg0)
      ∧ r.2.mem ((c.tc : Thread Cert.DHn1RefIdeal.nD Cert.DHn1RefIdeal.τ).loc Cert.DHn1RefIdeal.main_arg1) = m ((c.tc : Thread Cert.DHn1RefIdeal.nD Cert.DHn1RefIdeal.τ).loc Cert.DHn1RefIdeal.main_arg1)
      ∧ r.2.mem ((c.tc : Thread Cert.DHn1RefIdeal.nD Cert.DHn1RefIdeal.τ).loc Cert.DHn1RefIdeal.main_arg2) = m ((c.tc : Thread Cert.DHn1RefIdeal.nD Cert.DHn1RefIdeal.τ).loc Cert.DHn1RefIdeal.main_arg2)
      ∧ r.2.mem ((c.tc : Thread Cert.DHn1RefIdeal.nD Cert.DHn1RefIdeal.τ).loc Cert.DHn1RefIdeal.main_arg3) = m ((c.tc : Thread Cert.DHn1RefIdeal.nD Cert.DHn1RefIdeal.τ).loc Cert.DHn1RefIdeal.main_arg3)
      ∧ r.2.mem ((c.tc : Thread Cert.DHn1RefIdeal.nD Cert.DHn1RefIdeal.τ).loc Cert.DHn1RefIdeal.main_arg4) = m ((c.tc : Thread Cert.DHn1RefIdeal.nD Cert.DHn1RefIdeal.τ).loc Cert.DHn1RefIdeal.main_arg4)
      ∧ r.2.mem ((c.tc : Thread Cert.DHn1RefIdeal.nD Cert.DHn1RefIdeal.τ).loc Cert.DHn1RefIdeal.main_arg5) = m ((c.tc : Thread Cert.DHn1RefIdeal.nD Cert.DHn1RefIdeal.τ).loc Cert.DHn1RefIdeal.main_arg5))
      ∧ r.2.sem = fun _ => 0)

def quiescent_GInHg [hGInHg : Cert.GInHg.Facts] : Prop :=
  ∀ (m : (ℓ : Loc Cert.GInHg.nD Cert.GInHg.τ Cert.GInHg.sig) → Buf (Elt Bits) ℓ) (g : Dev Cert.GInHg.nD → PrngReg), Pre_GInHg m →
    θ_run (Cert.GInHg.defs (F := Bits)) (onTc (τ := Cert.GInHg.τ) (Cert.GInHg.main (F := Bits))) ⟨m, fun _ => 0, g⟩ (fun r => (∀ c : Dev Cert.GInHg.nD,
      r.2.mem ((c.tc : Thread Cert.GInHg.nD Cert.GInHg.τ).loc Cert.GInHg.main_arg0) = m ((c.tc : Thread Cert.GInHg.nD Cert.GInHg.τ).loc Cert.GInHg.main_arg0)
      ∧ r.2.mem ((c.tc : Thread Cert.GInHg.nD Cert.GInHg.τ).loc Cert.GInHg.main_arg1) = m ((c.tc : Thread Cert.GInHg.nD Cert.GInHg.τ).loc Cert.GInHg.main_arg1)
      ∧ r.2.mem ((c.tc : Thread Cert.GInHg.nD Cert.GInHg.τ).loc Cert.GInHg.main_arg2) = m ((c.tc : Thread Cert.GInHg.nD Cert.GInHg.τ).loc Cert.GInHg.main_arg2))
      ∧ r.2.sem = fun _ => 0)

def quiescent_GInHgIdeal [hGInHgIdeal : Cert.GInHgIdeal.Facts] : Prop :=
  ∀ (m : (ℓ : Loc Cert.GInHgIdeal.nD Cert.GInHgIdeal.τ Cert.GInHgIdeal.sig) → Buf (Elt Ideal) ℓ) (g : Dev Cert.GInHgIdeal.nD → PrngReg), Pre_GInHgIdeal m →
    θ_run (Cert.GInHgIdeal.defs (F := Ideal)) (onTc (τ := Cert.GInHgIdeal.τ) (Cert.GInHgIdeal.main (F := Ideal))) ⟨m, fun _ => 0, g⟩ (fun r => (∀ c : Dev Cert.GInHgIdeal.nD,
      r.2.mem ((c.tc : Thread Cert.GInHgIdeal.nD Cert.GInHgIdeal.τ).loc Cert.GInHgIdeal.main_arg0) = m ((c.tc : Thread Cert.GInHgIdeal.nD Cert.GInHgIdeal.τ).loc Cert.GInHgIdeal.main_arg0)
      ∧ r.2.mem ((c.tc : Thread Cert.GInHgIdeal.nD Cert.GInHgIdeal.τ).loc Cert.GInHgIdeal.main_arg1) = m ((c.tc : Thread Cert.GInHgIdeal.nD Cert.GInHgIdeal.τ).loc Cert.GInHgIdeal.main_arg1)
      ∧ r.2.mem ((c.tc : Thread Cert.GInHgIdeal.nD Cert.GInHgIdeal.τ).loc Cert.GInHgIdeal.main_arg2) = m ((c.tc : Thread Cert.GInHgIdeal.nD Cert.GInHgIdeal.τ).loc Cert.GInHgIdeal.main_arg2))
      ∧ r.2.sem = fun _ => 0)

def quiescent_GInHgRefIdeal [hGInHgRefIdeal : Cert.GInHgRefIdeal.Facts] : Prop :=
  ∀ (m : (ℓ : Loc Cert.GInHgRefIdeal.nD Cert.GInHgRefIdeal.τ Cert.GInHgRefIdeal.sig) → Buf (Elt Ideal) ℓ) (g : Dev Cert.GInHgRefIdeal.nD → PrngReg), Pre_GInHgRefIdeal m →
    θ_run (Cert.GInHgRefIdeal.defs (F := Ideal)) (onTc (τ := Cert.GInHgRefIdeal.τ) (Cert.GInHgRefIdeal.main (F := Ideal))) ⟨m, fun _ => 0, g⟩ (fun r => (∀ c : Dev Cert.GInHgRefIdeal.nD,
      r.2.mem ((c.tc : Thread Cert.GInHgRefIdeal.nD Cert.GInHgRefIdeal.τ).loc Cert.GInHgRefIdeal.main_arg0) = m ((c.tc : Thread Cert.GInHgRefIdeal.nD Cert.GInHgRefIdeal.τ).loc Cert.GInHgRefIdeal.main_arg0)
      ∧ r.2.mem ((c.tc : Thread Cert.GInHgRefIdeal.nD Cert.GInHgRefIdeal.τ).loc Cert.GInHgRefIdeal.main_arg1) = m ((c.tc : Thread Cert.GInHgRefIdeal.nD Cert.GInHgRefIdeal.τ).loc Cert.GInHgRefIdeal.main_arg1)
      ∧ r.2.mem ((c.tc : Thread Cert.GInHgRefIdeal.nD Cert.GInHgRefIdeal.τ).loc Cert.GInHgRefIdeal.main_arg2) = m ((c.tc : Thread Cert.GInHgRefIdeal.nD Cert.GInHgRefIdeal.τ).loc Cert.GInHgRefIdeal.main_arg2))
      ∧ r.2.sem = fun _ => 0)

def quiescent_GInSw [hGInSw : Cert.GInSw.Facts] : Prop :=
  ∀ (m : (ℓ : Loc Cert.GInSw.nD Cert.GInSw.τ Cert.GInSw.sig) → Buf (Elt Bits) ℓ) (g : Dev Cert.GInSw.nD → PrngReg), Pre_GInSw m →
    θ_run (Cert.GInSw.defs (F := Bits)) (onTc (τ := Cert.GInSw.τ) (Cert.GInSw.main (F := Bits))) ⟨m, fun _ => 0, g⟩ (fun r => (∀ c : Dev Cert.GInSw.nD,
      r.2.mem ((c.tc : Thread Cert.GInSw.nD Cert.GInSw.τ).loc Cert.GInSw.main_arg0) = m ((c.tc : Thread Cert.GInSw.nD Cert.GInSw.τ).loc Cert.GInSw.main_arg0)
      ∧ r.2.mem ((c.tc : Thread Cert.GInSw.nD Cert.GInSw.τ).loc Cert.GInSw.main_arg1) = m ((c.tc : Thread Cert.GInSw.nD Cert.GInSw.τ).loc Cert.GInSw.main_arg1)
      ∧ r.2.mem ((c.tc : Thread Cert.GInSw.nD Cert.GInSw.τ).loc Cert.GInSw.main_arg2) = m ((c.tc : Thread Cert.GInSw.nD Cert.GInSw.τ).loc Cert.GInSw.main_arg2)
      ∧ r.2.mem ((c.tc : Thread Cert.GInSw.nD Cert.GInSw.τ).loc Cert.GInSw.main_arg3) = m ((c.tc : Thread Cert.GInSw.nD Cert.GInSw.τ).loc Cert.GInSw.main_arg3))
      ∧ r.2.sem = fun _ => 0)

def quiescent_GInSwIdeal [hGInSwIdeal : Cert.GInSwIdeal.Facts] : Prop :=
  ∀ (m : (ℓ : Loc Cert.GInSwIdeal.nD Cert.GInSwIdeal.τ Cert.GInSwIdeal.sig) → Buf (Elt Ideal) ℓ) (g : Dev Cert.GInSwIdeal.nD → PrngReg), Pre_GInSwIdeal m →
    θ_run (Cert.GInSwIdeal.defs (F := Ideal)) (onTc (τ := Cert.GInSwIdeal.τ) (Cert.GInSwIdeal.main (F := Ideal))) ⟨m, fun _ => 0, g⟩ (fun r => (∀ c : Dev Cert.GInSwIdeal.nD,
      r.2.mem ((c.tc : Thread Cert.GInSwIdeal.nD Cert.GInSwIdeal.τ).loc Cert.GInSwIdeal.main_arg0) = m ((c.tc : Thread Cert.GInSwIdeal.nD Cert.GInSwIdeal.τ).loc Cert.GInSwIdeal.main_arg0)
      ∧ r.2.mem ((c.tc : Thread Cert.GInSwIdeal.nD Cert.GInSwIdeal.τ).loc Cert.GInSwIdeal.main_arg1) = m ((c.tc : Thread Cert.GInSwIdeal.nD Cert.GInSwIdeal.τ).loc Cert.GInSwIdeal.main_arg1)
      ∧ r.2.mem ((c.tc : Thread Cert.GInSwIdeal.nD Cert.GInSwIdeal.τ).loc Cert.GInSwIdeal.main_arg2) = m ((c.tc : Thread Cert.GInSwIdeal.nD Cert.GInSwIdeal.τ).loc Cert.GInSwIdeal.main_arg2)
      ∧ r.2.mem ((c.tc : Thread Cert.GInSwIdeal.nD Cert.GInSwIdeal.τ).loc Cert.GInSwIdeal.main_arg3) = m ((c.tc : Thread Cert.GInSwIdeal.nD Cert.GInSwIdeal.τ).loc Cert.GInSwIdeal.main_arg3))
      ∧ r.2.sem = fun _ => 0)

def quiescent_GInSwRefIdeal [hGInSwRefIdeal : Cert.GInSwRefIdeal.Facts] : Prop :=
  ∀ (m : (ℓ : Loc Cert.GInSwRefIdeal.nD Cert.GInSwRefIdeal.τ Cert.GInSwRefIdeal.sig) → Buf (Elt Ideal) ℓ) (g : Dev Cert.GInSwRefIdeal.nD → PrngReg), Pre_GInSwRefIdeal m →
    θ_run (Cert.GInSwRefIdeal.defs (F := Ideal)) (onTc (τ := Cert.GInSwRefIdeal.τ) (Cert.GInSwRefIdeal.main (F := Ideal))) ⟨m, fun _ => 0, g⟩ (fun r => (∀ c : Dev Cert.GInSwRefIdeal.nD,
      r.2.mem ((c.tc : Thread Cert.GInSwRefIdeal.nD Cert.GInSwRefIdeal.τ).loc Cert.GInSwRefIdeal.main_arg0) = m ((c.tc : Thread Cert.GInSwRefIdeal.nD Cert.GInSwRefIdeal.τ).loc Cert.GInSwRefIdeal.main_arg0)
      ∧ r.2.mem ((c.tc : Thread Cert.GInSwRefIdeal.nD Cert.GInSwRefIdeal.τ).loc Cert.GInSwRefIdeal.main_arg1) = m ((c.tc : Thread Cert.GInSwRefIdeal.nD Cert.GInSwRefIdeal.τ).loc Cert.GInSwRefIdeal.main_arg1)
      ∧ r.2.mem ((c.tc : Thread Cert.GInSwRefIdeal.nD Cert.GInSwRefIdeal.τ).loc Cert.GInSwRefIdeal.main_arg2) = m ((c.tc : Thread Cert.GInSwRefIdeal.nD Cert.GInSwRefIdeal.τ).loc Cert.GInSwRefIdeal.main_arg2)
      ∧ r.2.mem ((c.tc : Thread Cert.GInSwRefIdeal.nD Cert.GInSwRefIdeal.τ).loc Cert.GInSwRefIdeal.main_arg3) = m ((c.tc : Thread Cert.GInSwRefIdeal.nD Cert.GInSwRefIdeal.τ).loc Cert.GInSwRefIdeal.main_arg3))
      ∧ r.2.sem = fun _ => 0)

def quiescent_Norm1 [hNorm1 : Cert.Norm1.Facts] : Prop :=
  ∀ (m : (ℓ : Loc Cert.Norm1.nD Cert.Norm1.τ Cert.Norm1.sig) → Buf (Elt Bits) ℓ) (g : Dev Cert.Norm1.nD → PrngReg), Pre_Norm1 m →
    θ_run (Cert.Norm1.defs (F := Bits)) (onTc (τ := Cert.Norm1.τ) (Cert.Norm1.main (F := Bits))) ⟨m, fun _ => 0, g⟩ (fun r => (∀ c : Dev Cert.Norm1.nD,
      r.2.mem ((c.tc : Thread Cert.Norm1.nD Cert.Norm1.τ).loc Cert.Norm1.main_arg0) = m ((c.tc : Thread Cert.Norm1.nD Cert.Norm1.τ).loc Cert.Norm1.main_arg0)
      ∧ r.2.mem ((c.tc : Thread Cert.Norm1.nD Cert.Norm1.τ).loc Cert.Norm1.main_arg1) = m ((c.tc : Thread Cert.Norm1.nD Cert.Norm1.τ).loc Cert.Norm1.main_arg1))
      ∧ r.2.sem = fun _ => 0)

def quiescent_Norm1Ideal [hNorm1Ideal : Cert.Norm1Ideal.Facts] : Prop :=
  ∀ (m : (ℓ : Loc Cert.Norm1Ideal.nD Cert.Norm1Ideal.τ Cert.Norm1Ideal.sig) → Buf (Elt Ideal) ℓ) (g : Dev Cert.Norm1Ideal.nD → PrngReg), Pre_Norm1Ideal m →
    θ_run (Cert.Norm1Ideal.defs (F := Ideal)) (onTc (τ := Cert.Norm1Ideal.τ) (Cert.Norm1Ideal.main (F := Ideal))) ⟨m, fun _ => 0, g⟩ (fun r => (∀ c : Dev Cert.Norm1Ideal.nD,
      r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
      ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ r.2.sem = fun _ => 0)

def quiescent_Norm1RefIdeal [hNorm1RefIdeal : Cert.Norm1RefIdeal.Facts] : Prop :=
  ∀ (m : (ℓ : Loc Cert.Norm1RefIdeal.nD Cert.Norm1RefIdeal.τ Cert.Norm1RefIdeal.sig) → Buf (Elt Ideal) ℓ) (g : Dev Cert.Norm1RefIdeal.nD → PrngReg), Pre_Norm1RefIdeal m →
    θ_run (Cert.Norm1RefIdeal.defs (F := Ideal)) (onTc (τ := Cert.Norm1RefIdeal.τ) (Cert.Norm1RefIdeal.main (F := Ideal))) ⟨m, fun _ => 0, g⟩ (fun r => (∀ c : Dev Cert.Norm1RefIdeal.nD,
      r.2.mem ((c.tc : Thread Cert.Norm1RefIdeal.nD Cert.Norm1RefIdeal.τ).loc Cert.Norm1RefIdeal.main_arg0) = m ((c.tc : Thread Cert.Norm1RefIdeal.nD Cert.Norm1RefIdeal.τ).loc Cert.Norm1RefIdeal.main_arg0)
      ∧ r.2.mem ((c.tc : Thread Cert.Norm1RefIdeal.nD Cert.Norm1RefIdeal.τ).loc Cert.Norm1RefIdeal.main_arg1) = m ((c.tc : Thread Cert.Norm1RefIdeal.nD Cert.Norm1RefIdeal.τ).loc Cert.Norm1RefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemGain [hMemGain : Cert.MemGain.Facts] : Prop :=
  ∀ (m : (ℓ : Loc Cert.MemGain.nD Cert.MemGain.τ Cert.MemGain.sig) → Buf (Elt Bits) ℓ) (g : Dev Cert.MemGain.nD → PrngReg), Pre_MemGain m →
    θ_run (Cert.MemGain.defs (F := Bits)) (onTc (τ := Cert.MemGain.τ) (Cert.MemGain.main (F := Bits))) ⟨m, fun _ => 0, g⟩ (fun r => (∀ c : Dev Cert.MemGain.nD,
      r.2.mem ((c.tc : Thread Cert.MemGain.nD Cert.MemGain.τ).loc Cert.MemGain.main_arg0) = m ((c.tc : Thread Cert.MemGain.nD Cert.MemGain.τ).loc Cert.MemGain.main_arg0)
      ∧ r.2.mem ((c.tc : Thread Cert.MemGain.nD Cert.MemGain.τ).loc Cert.MemGain.main_arg1) = m ((c.tc : Thread Cert.MemGain.nD Cert.MemGain.τ).loc Cert.MemGain.main_arg1)
      ∧ r.2.mem ((c.tc : Thread Cert.MemGain.nD Cert.MemGain.τ).loc Cert.MemGain.main_arg2) = m ((c.tc : Thread Cert.MemGain.nD Cert.MemGain.τ).loc Cert.MemGain.main_arg2))
      ∧ r.2.sem = fun _ => 0)

def quiescent_MemGainIdeal [hMemGainIdeal : Cert.MemGainIdeal.Facts] : Prop :=
  ∀ (m : (ℓ : Loc Cert.MemGainIdeal.nD Cert.MemGainIdeal.τ Cert.MemGainIdeal.sig) → Buf (Elt Ideal) ℓ) (g : Dev Cert.MemGainIdeal.nD → PrngReg), Pre_MemGainIdeal m →
    θ_run (Cert.MemGainIdeal.defs (F := Ideal)) (onTc (τ := Cert.MemGainIdeal.τ) (Cert.MemGainIdeal.main (F := Ideal))) ⟨m, fun _ => 0, g⟩ (fun r => (∀ c : Dev Cert.MemGainIdeal.nD,
      r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
      ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
      ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ r.2.sem = fun _ => 0)

def quiescent_MemGainRefIdeal [hMemGainRefIdeal : Cert.MemGainRefIdeal.Facts] : Prop :=
  ∀ (m : (ℓ : Loc Cert.MemGainRefIdeal.nD Cert.MemGainRefIdeal.τ Cert.MemGainRefIdeal.sig) → Buf (Elt Ideal) ℓ) (g : Dev Cert.MemGainRefIdeal.nD → PrngReg), Pre_MemGainRefIdeal m →
    θ_run (Cert.MemGainRefIdeal.defs (F := Ideal)) (onTc (τ := Cert.MemGainRefIdeal.τ) (Cert.MemGainRefIdeal.main (F := Ideal))) ⟨m, fun _ => 0, g⟩ (fun r => (∀ c : Dev Cert.MemGainRefIdeal.nD,
      r.2.mem ((c.tc : Thread Cert.MemGainRefIdeal.nD Cert.MemGainRefIdeal.τ).loc Cert.MemGainRefIdeal.main_arg0) = m ((c.tc : Thread Cert.MemGainRefIdeal.nD Cert.MemGainRefIdeal.τ).loc Cert.MemGainRefIdeal.main_arg0)
      ∧ r.2.mem ((c.tc : Thread Cert.MemGainRefIdeal.nD Cert.MemGainRefIdeal.τ).loc Cert.MemGainRefIdeal.main_arg1) = m ((c.tc : Thread Cert.MemGainRefIdeal.nD Cert.MemGainRefIdeal.τ).loc Cert.MemGainRefIdeal.main_arg1)
      ∧ r.2.mem ((c.tc : Thread Cert.MemGainRefIdeal.nD Cert.MemGainRefIdeal.τ).loc Cert.MemGainRefIdeal.main_arg2) = m ((c.tc : Thread Cert.MemGainRefIdeal.nD Cert.MemGainRefIdeal.τ).loc Cert.MemGainRefIdeal.main_arg2))
      ∧ r.2.sem = fun _ => 0)

def quiescent_XaFwd [hXaFwd : Cert.XaFwd.Facts] : Prop :=
  ∀ (m : (ℓ : Loc Cert.XaFwd.nD Cert.XaFwd.τ Cert.XaFwd.sig) → Buf (Elt Bits) ℓ) (g : Dev Cert.XaFwd.nD → PrngReg), Pre_XaFwd m →
    θ_run (Cert.XaFwd.defs (F := Bits)) (onTc (τ := Cert.XaFwd.τ) (Cert.XaFwd.main (F := Bits))) ⟨m, fun _ => 0, g⟩ (fun r => (∀ c : Dev Cert.XaFwd.nD,
      r.2.mem ((c.tc : Thread Cert.XaFwd.nD Cert.XaFwd.τ).loc Cert.XaFwd.main_arg0) = m ((c.tc : Thread Cert.XaFwd.nD Cert.XaFwd.τ).loc Cert.XaFwd.main_arg0)
      ∧ r.2.mem ((c.tc : Thread Cert.XaFwd.nD Cert.XaFwd.τ).loc Cert.XaFwd.main_arg1) = m ((c.tc : Thread Cert.XaFwd.nD Cert.XaFwd.τ).loc Cert.XaFwd.main_arg1)
      ∧ r.2.mem ((c.tc : Thread Cert.XaFwd.nD Cert.XaFwd.τ).loc Cert.XaFwd.main_arg2) = m ((c.tc : Thread Cert.XaFwd.nD Cert.XaFwd.τ).loc Cert.XaFwd.main_arg2)
      ∧ r.2.mem ((c.tc : Thread Cert.XaFwd.nD Cert.XaFwd.τ).loc Cert.XaFwd.main_arg3) = m ((c.tc : Thread Cert.XaFwd.nD Cert.XaFwd.τ).loc Cert.XaFwd.main_arg3))
      ∧ r.2.sem = fun _ => 0)

def quiescent_XaFwdIdeal [hXaFwdIdeal : Cert.XaFwdIdeal.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ r.2.sem = fun _ => 0)

def quiescent_XaFwdIdeal_pre_finite_gains [hXaFwdIdeal : Cert.XaFwdIdeal.Facts] [hPre_finite_gains : Cert.Pre_finite_gains.Facts] : Prop :=
  ∀ (m : (ℓ : Loc Cert.XaFwdIdeal.nD Cert.XaFwdIdeal.τ Cert.XaFwdIdeal.sig) → Buf (Elt Ideal) ℓ) (g : Dev Cert.XaFwdIdeal.nD → PrngReg), Pre_XaFwdIdeal_finite_gains m →
    θ_run (Cert.XaFwdIdeal.defs (F := Ideal)) (onTc (τ := Cert.XaFwdIdeal.τ) (Cert.XaFwdIdeal.main (F := Ideal))) ⟨m, fun _ => 0, g⟩ (fun r => (∀ c : Dev Cert.XaFwdIdeal.nD,
      r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
      ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
      ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
      ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ r.2.sem = fun _ => 0)

def quiescent_XaFwdRefIdeal [hXaFwdRefIdeal : Cert.XaFwdRefIdeal.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3))
      ∧ r.2.sem = fun _ => 0)

def quiescent_XaFwdRefIdeal_pre_finite_gains [hXaFwdRefIdeal : Cert.XaFwdRefIdeal.Facts] [hPre_finite_gains : Cert.Pre_finite_gains.Facts] : Prop :=
  ∀ (m : (ℓ : Loc Cert.XaFwdRefIdeal.nD Cert.XaFwdRefIdeal.τ Cert.XaFwdRefIdeal.sig) → Buf (Elt Ideal) ℓ) (g : Dev Cert.XaFwdRefIdeal.nD → PrngReg), Pre_XaFwdRefIdeal_finite_gains m →
    θ_run (Cert.XaFwdRefIdeal.defs (F := Ideal)) (onTc (τ := Cert.XaFwdRefIdeal.τ) (Cert.XaFwdRefIdeal.main (F := Ideal))) ⟨m, fun _ => 0, g⟩ (fun r => (∀ c : Dev Cert.XaFwdRefIdeal.nD,
      r.2.mem ((c.tc : Thread Cert.XaFwdRefIdeal.nD Cert.XaFwdRefIdeal.τ).loc Cert.XaFwdRefIdeal.main_arg0) = m ((c.tc : Thread Cert.XaFwdRefIdeal.nD Cert.XaFwdRefIdeal.τ).loc Cert.XaFwdRefIdeal.main_arg0)
      ∧ r.2.mem ((c.tc : Thread Cert.XaFwdRefIdeal.nD Cert.XaFwdRefIdeal.τ).loc Cert.XaFwdRefIdeal.main_arg1) = m ((c.tc : Thread Cert.XaFwdRefIdeal.nD Cert.XaFwdRefIdeal.τ).loc Cert.XaFwdRefIdeal.main_arg1)
      ∧ r.2.mem ((c.tc : Thread Cert.XaFwdRefIdeal.nD Cert.XaFwdRefIdeal.τ).loc Cert.XaFwdRefIdeal.main_arg2) = m ((c.tc : Thread Cert.XaFwdRefIdeal.nD Cert.XaFwdRefIdeal.τ).loc Cert.XaFwdRefIdeal.main_arg2)
      ∧ r.2.mem ((c.tc : Thread Cert.XaFwdRefIdeal.nD Cert.XaFwdRefIdeal.τ).loc Cert.XaFwdRefIdeal.main_arg3) = m ((c.tc : Thread Cert.XaFwdRefIdeal.nD Cert.XaFwdRefIdeal.τ).loc Cert.XaFwdRefIdeal.main_arg3))
      ∧ r.2.sem = fun _ => 0)

def quiescent_LossFinish [hLossFinish : Cert.LossFinish.Facts] : Prop :=
  ∀ (m : (ℓ : Loc Cert.LossFinish.nD Cert.LossFinish.τ Cert.LossFinish.sig) → Buf (Elt Bits) ℓ) (g : Dev Cert.LossFinish.nD → PrngReg), Pre_LossFinish m →
    θ_run (Cert.LossFinish.defs (F := Bits)) (onTc (τ := Cert.LossFinish.τ) (Cert.LossFinish.main (F := Bits))) ⟨m, fun _ => 0, g⟩ (fun r => (∀ c : Dev Cert.LossFinish.nD,
      r.2.mem ((c.tc : Thread Cert.LossFinish.nD Cert.LossFinish.τ).loc Cert.LossFinish.main_arg0) = m ((c.tc : Thread Cert.LossFinish.nD Cert.LossFinish.τ).loc Cert.LossFinish.main_arg0))
      ∧ r.2.sem = fun _ => 0)

def quiescent_LossFinishIdeal [hLossFinishIdeal : Cert.LossFinishIdeal.Facts] : Prop :=
  ∀ (m : (ℓ : Loc Cert.LossFinishIdeal.nD Cert.LossFinishIdeal.τ Cert.LossFinishIdeal.sig) → Buf (Elt Ideal) ℓ) (g : Dev Cert.LossFinishIdeal.nD → PrngReg), Pre_LossFinishIdeal m →
    θ_run (Cert.LossFinishIdeal.defs (F := Ideal)) (onTc (τ := Cert.LossFinishIdeal.τ) (Cert.LossFinishIdeal.main (F := Ideal))) ⟨m, fun _ => 0, g⟩ (fun r => (∀ c : Dev Cert.LossFinishIdeal.nD,
      r.2.mem ((c.tc : Thread Cert.LossFinishIdeal.nD Cert.LossFinishIdeal.τ).loc Cert.LossFinishIdeal.main_arg0) = m ((c.tc : Thread Cert.LossFinishIdeal.nD Cert.LossFinishIdeal.τ).loc Cert.LossFinishIdeal.main_arg0))
      ∧ r.2.sem = fun _ => 0)

def quiescent_LossFinishRefIdeal [hLossFinishRefIdeal : Cert.LossFinishRefIdeal.Facts] : Prop :=
  ∀ (m : (ℓ : Loc Cert.LossFinishRefIdeal.nD Cert.LossFinishRefIdeal.τ Cert.LossFinishRefIdeal.sig) → Buf (Elt Ideal) ℓ) (g : Dev Cert.LossFinishRefIdeal.nD → PrngReg), Pre_LossFinishRefIdeal m →
    θ_run (Cert.LossFinishRefIdeal.defs (F := Ideal)) (onTc (τ := Cert.LossFinishRefIdeal.τ) (Cert.LossFinishRefIdeal.main (F := Ideal))) ⟨m, fun _ => 0, g⟩ (fun r => (∀ c : Dev Cert.LossFinishRefIdeal.nD,
      r.2.mem ((c.tc : Thread Cert.LossFinishRefIdeal.nD Cert.LossFinishRefIdeal.τ).loc Cert.LossFinishRefIdeal.main_arg0) = m ((c.tc : Thread Cert.LossFinishRefIdeal.nD Cert.LossFinishRefIdeal.τ).loc Cert.LossFinishRefIdeal.main_arg0))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0)
      ∧ r.2.mem ((c.tc : Thread Cert.SumDevices.nD Cert.SumDevices.τ).loc Cert.SumDevices.main_arg1) = m ((c.tc : Thread Cert.SumDevices.nD Cert.SumDevices.τ).loc Cert.SumDevices.main_arg1)
      ∧ r.2.mem ((c.tc : Thread Cert.SumDevices.nD Cert.SumDevices.τ).loc Cert.SumDevices.main_arg2) = m ((c.tc : Thread Cert.SumDevices.nD Cert.SumDevices.τ).loc Cert.SumDevices.main_arg2))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0)
      ∧ r.2.mem ((c.tc : Thread Cert.SumDevicesIdeal.nD Cert.SumDevicesIdeal.τ).loc Cert.SumDevicesIdeal.main_arg1) = m ((c.tc : Thread Cert.SumDevicesIdeal.nD Cert.SumDevicesIdeal.τ).loc Cert.SumDevicesIdeal.main_arg1)
      ∧ r.2.mem ((c.tc : Thread Cert.SumDevicesIdeal.nD Cert.SumDevicesIdeal.τ).loc Cert.SumDevicesIdeal.main_arg2) = m ((c.tc : Thread Cert.SumDevicesIdeal.nD Cert.SumDevicesIdeal.τ).loc Cert.SumDevicesIdeal.main_arg2))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0)
      ∧ r.2.mem ((c.tc : Thread Cert.SumDevicesRefIdeal.nD Cert.SumDevicesRefIdeal.τ).loc Cert.SumDevicesRefIdeal.main_arg1) = m ((c.tc : Thread Cert.SumDevicesRefIdeal.nD Cert.SumDevicesRefIdeal.τ).loc Cert.SumDevicesRefIdeal.main_arg1)
      ∧ r.2.mem ((c.tc : Thread Cert.SumDevicesRefIdeal.nD Cert.SumDevicesRefIdeal.τ).loc Cert.SumDevicesRefIdeal.main_arg2) = m ((c.tc : Thread Cert.SumDevicesRefIdeal.nD Cert.SumDevicesRefIdeal.τ).loc Cert.SumDevicesRefIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_v8) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v4)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v4) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v13) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)
      ∧ m' ((c.tc : Thread Cert.GDownRefIdeal.nD Cert.GDownRefIdeal.τ).loc Cert.GDownRefIdeal.main_arg2) = m ((c.tc : Thread Cert.GDownIdeal.nD Cert.GDownIdeal.τ).loc Cert.GDownIdeal.main_arg2)) →
    ∃ (v0 : (c : Dev Cert.GDownIdeal.nD) → Buf (Elt Ideal) ((c.tc : Thread Cert.GDownIdeal.nD Cert.GDownIdeal.τ).loc Cert.GDownIdeal.main_v5)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v5) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1)
          ∧ r.2.mem ((c.tc : Thread Cert.GDownIdeal.nD Cert.GDownIdeal.τ).loc Cert.GDownIdeal.main_arg2) = m ((c.tc : Thread Cert.GDownIdeal.nD Cert.GDownIdeal.τ).loc Cert.GDownIdeal.main_arg2))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v5) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1)
          ∧ r.2.mem ((c.tc : Thread Cert.GDownRefIdeal.nD Cert.GDownRefIdeal.τ).loc Cert.GDownRefIdeal.main_arg2) = m' ((c.tc : Thread Cert.GDownRefIdeal.nD Cert.GDownRefIdeal.τ).loc Cert.GDownRefIdeal.main_arg2))

def preserves_GUp_GUpIdeal : Prop :=
  True

def algebraic_GUpIdeal_GUpRefIdeal [hGUpIdeal : Cert.GUpIdeal.Facts] [hGUpRefIdeal : Cert.GUpRefIdeal.Facts] : Prop :=
  ∀ (m : (ℓ : Loc Cert.GUpIdeal.nD Cert.GUpIdeal.τ Cert.GUpIdeal.sig) → Buf (Elt Ideal) ℓ) (g : Dev Cert.GUpIdeal.nD → PrngReg)
    (m' : (ℓ : Loc Cert.GUpRefIdeal.nD Cert.GUpRefIdeal.τ Cert.GUpRefIdeal.sig) → Buf (Elt Ideal) ℓ) (g' : Dev Cert.GUpRefIdeal.nD → PrngReg), Pre_GUpIdeal m →
    (∀ c : Dev Cert.GUpIdeal.nD,
      m' ((c.tc : Thread Cert.GUpRefIdeal.nD Cert.GUpRefIdeal.τ).loc Cert.GUpRefIdeal.main_arg0) = m ((c.tc : Thread Cert.GUpIdeal.nD Cert.GUpIdeal.τ).loc Cert.GUpIdeal.main_arg0)
      ∧ m' ((c.tc : Thread Cert.GUpRefIdeal.nD Cert.GUpRefIdeal.τ).loc Cert.GUpRefIdeal.main_arg1) = m ((c.tc : Thread Cert.GUpIdeal.nD Cert.GUpIdeal.τ).loc Cert.GUpIdeal.main_arg1)
      ∧ m' ((c.tc : Thread Cert.GUpRefIdeal.nD Cert.GUpRefIdeal.τ).loc Cert.GUpRefIdeal.main_arg2) = m ((c.tc : Thread Cert.GUpIdeal.nD Cert.GUpIdeal.τ).loc Cert.GUpIdeal.main_arg2)) →
    ∃ (v0 : (c : Dev Cert.GUpIdeal.nD) → Buf (Elt Ideal) ((c.tc : Thread Cert.GUpIdeal.nD Cert.GUpIdeal.τ).loc Cert.GUpIdeal.main_v0)),
      θ_run (Cert.GUpIdeal.defs (F := Ideal)) (onTc (τ := Cert.GUpIdeal.τ) (Cert.GUpIdeal.main (F := Ideal))) ⟨m, fun _ => 0, g⟩ (fun r => ∀ c : Dev Cert.GUpIdeal.nD,
          r.2.mem ((c.tc : Thread Cert.GUpIdeal.nD Cert.GUpIdeal.τ).loc Cert.GUpIdeal.main_v0) = v0 c
          ∧ r.2.mem ((c.tc : Thread Cert.GUpIdeal.nD Cert.GUpIdeal.τ).loc Cert.GUpIdeal.main_arg0) = m ((c.tc : Thread Cert.GUpIdeal.nD Cert.GUpIdeal.τ).loc Cert.GUpIdeal.main_arg0)
          ∧ r.2.mem ((c.tc : Thread Cert.GUpIdeal.nD Cert.GUpIdeal.τ).loc Cert.GUpIdeal.main_arg1) = m ((c.tc : Thread Cert.GUpIdeal.nD Cert.GUpIdeal.τ).loc Cert.GUpIdeal.main_arg1)
          ∧ r.2.mem ((c.tc : Thread Cert.GUpIdeal.nD Cert.GUpIdeal.τ).loc Cert.GUpIdeal.main_arg2) = m ((c.tc : Thread Cert.GUpIdeal.nD Cert.GUpIdeal.τ).loc Cert.GUpIdeal.main_arg2))
      ∧ θ_run (Cert.GUpRefIdeal.defs (F := Ideal)) (onTc (τ := Cert.GUpRefIdeal.τ) (Cert.GUpRefIdeal.main (F := Ideal))) ⟨m', fun _ => 0, g'⟩ (fun r => ∀ c : Dev Cert.GUpRefIdeal.nD,
          r.2.mem ((c.tc : Thread Cert.GUpRefIdeal.nD Cert.GUpRefIdeal.τ).loc Cert.GUpRefIdeal.main_v9) = v0 c
          ∧ r.2.mem ((c.tc : Thread Cert.GUpRefIdeal.nD Cert.GUpRefIdeal.τ).loc Cert.GUpRefIdeal.main_arg0) = m' ((c.tc : Thread Cert.GUpRefIdeal.nD Cert.GUpRefIdeal.τ).loc Cert.GUpRefIdeal.main_arg0)
          ∧ r.2.mem ((c.tc : Thread Cert.GUpRefIdeal.nD Cert.GUpRefIdeal.τ).loc Cert.GUpRefIdeal.main_arg1) = m' ((c.tc : Thread Cert.GUpRefIdeal.nD Cert.GUpRefIdeal.τ).loc Cert.GUpRefIdeal.main_arg1)
          ∧ r.2.mem ((c.tc : Thread Cert.GUpRefIdeal.nD Cert.GUpRefIdeal.τ).loc Cert.GUpRefIdeal.main_arg2) = m' ((c.tc : Thread Cert.GUpRefIdeal.nD Cert.GUpRefIdeal.τ).loc Cert.GUpRefIdeal.main_arg2))

def preserves_ProjHg_ProjHgIdeal : Prop :=
  True

def algebraic_ProjHgIdeal_ProjHgRefIdeal [hProjHgIdeal : Cert.ProjHgIdeal.Facts] [hProjHgRefIdeal : Cert.ProjHgRefIdeal.Facts] : Prop :=
  ∀ (m : (ℓ : Loc Cert.ProjHgIdeal.nD Cert.ProjHgIdeal.τ Cert.ProjHgIdeal.sig) → Buf (Elt Ideal) ℓ) (g : Dev Cert.ProjHgIdeal.nD → PrngReg)
    (m' : (ℓ : Loc Cert.ProjHgRefIdeal.nD Cert.ProjHgRefIdeal.τ Cert.ProjHgRefIdeal.sig) → Buf (Elt Ideal) ℓ) (g' : Dev Cert.ProjHgRefIdeal.nD → PrngReg), Pre_ProjHgIdeal m →
    (∀ c : Dev Cert.ProjHgIdeal.nD,
      m' ((c.tc : Thread Cert.ProjHgRefIdeal.nD Cert.ProjHgRefIdeal.τ).loc Cert.ProjHgRefIdeal.main_arg0) = m ((c.tc : Thread Cert.ProjHgIdeal.nD Cert.ProjHgIdeal.τ).loc Cert.ProjHgIdeal.main_arg0)
      ∧ m' ((c.tc : Thread Cert.ProjHgRefIdeal.nD Cert.ProjHgRefIdeal.τ).loc Cert.ProjHgRefIdeal.main_arg1) = m ((c.tc : Thread Cert.ProjHgIdeal.nD Cert.ProjHgIdeal.τ).loc Cert.ProjHgIdeal.main_arg1)) →
    ∃ (v0 : (c : Dev Cert.ProjHgIdeal.nD) → Buf (Elt Ideal) ((c.tc : Thread Cert.ProjHgIdeal.nD Cert.ProjHgIdeal.τ).loc Cert.ProjHgIdeal.main_v0)),
      θ_run (Cert.ProjHgIdeal.defs (F := Ideal)) (onTc (τ := Cert.ProjHgIdeal.τ) (Cert.ProjHgIdeal.main (F := Ideal))) ⟨m, fun _ => 0, g⟩ (fun r => ∀ c : Dev Cert.ProjHgIdeal.nD,
          r.2.mem ((c.tc : Thread Cert.ProjHgIdeal.nD Cert.ProjHgIdeal.τ).loc Cert.ProjHgIdeal.main_v0) = v0 c
          ∧ r.2.mem ((c.tc : Thread Cert.ProjHgIdeal.nD Cert.ProjHgIdeal.τ).loc Cert.ProjHgIdeal.main_arg0) = m ((c.tc : Thread Cert.ProjHgIdeal.nD Cert.ProjHgIdeal.τ).loc Cert.ProjHgIdeal.main_arg0)
          ∧ r.2.mem ((c.tc : Thread Cert.ProjHgIdeal.nD Cert.ProjHgIdeal.τ).loc Cert.ProjHgIdeal.main_arg1) = m ((c.tc : Thread Cert.ProjHgIdeal.nD Cert.ProjHgIdeal.τ).loc Cert.ProjHgIdeal.main_arg1))
      ∧ θ_run (Cert.ProjHgRefIdeal.defs (F := Ideal)) (onTc (τ := Cert.ProjHgRefIdeal.τ) (Cert.ProjHgRefIdeal.main (F := Ideal))) ⟨m', fun _ => 0, g'⟩ (fun r => ∀ c : Dev Cert.ProjHgRefIdeal.nD,
          r.2.mem ((c.tc : Thread Cert.ProjHgRefIdeal.nD Cert.ProjHgRefIdeal.τ).loc Cert.ProjHgRefIdeal.main_v4) = v0 c
          ∧ r.2.mem ((c.tc : Thread Cert.ProjHgRefIdeal.nD Cert.ProjHgRefIdeal.τ).loc Cert.ProjHgRefIdeal.main_arg0) = m' ((c.tc : Thread Cert.ProjHgRefIdeal.nD Cert.ProjHgRefIdeal.τ).loc Cert.ProjHgRefIdeal.main_arg0)
          ∧ r.2.mem ((c.tc : Thread Cert.ProjHgRefIdeal.nD Cert.ProjHgRefIdeal.τ).loc Cert.ProjHgRefIdeal.main_arg1) = m' ((c.tc : Thread Cert.ProjHgRefIdeal.nD Cert.ProjHgRefIdeal.τ).loc Cert.ProjHgRefIdeal.main_arg1))

def preserves_ProjSw_ProjSwIdeal : Prop :=
  True

def algebraic_ProjSwIdeal_ProjSwRefIdeal [hProjSwIdeal : Cert.ProjSwIdeal.Facts] [hProjSwRefIdeal : Cert.ProjSwRefIdeal.Facts] : Prop :=
  ∀ (m : (ℓ : Loc Cert.ProjSwIdeal.nD Cert.ProjSwIdeal.τ Cert.ProjSwIdeal.sig) → Buf (Elt Ideal) ℓ) (g : Dev Cert.ProjSwIdeal.nD → PrngReg)
    (m' : (ℓ : Loc Cert.ProjSwRefIdeal.nD Cert.ProjSwRefIdeal.τ Cert.ProjSwRefIdeal.sig) → Buf (Elt Ideal) ℓ) (g' : Dev Cert.ProjSwRefIdeal.nD → PrngReg), Pre_ProjSwIdeal m →
    (∀ c : Dev Cert.ProjSwIdeal.nD,
      m' ((c.tc : Thread Cert.ProjSwRefIdeal.nD Cert.ProjSwRefIdeal.τ).loc Cert.ProjSwRefIdeal.main_arg0) = m ((c.tc : Thread Cert.ProjSwIdeal.nD Cert.ProjSwIdeal.τ).loc Cert.ProjSwIdeal.main_arg0)
      ∧ m' ((c.tc : Thread Cert.ProjSwRefIdeal.nD Cert.ProjSwRefIdeal.τ).loc Cert.ProjSwRefIdeal.main_arg1) = m ((c.tc : Thread Cert.ProjSwIdeal.nD Cert.ProjSwIdeal.τ).loc Cert.ProjSwIdeal.main_arg1)) →
    ∃ (v0 : (c : Dev Cert.ProjSwIdeal.nD) → Buf (Elt Ideal) ((c.tc : Thread Cert.ProjSwIdeal.nD Cert.ProjSwIdeal.τ).loc Cert.ProjSwIdeal.main_v1)),
      θ_run (Cert.ProjSwIdeal.defs (F := Ideal)) (onTc (τ := Cert.ProjSwIdeal.τ) (Cert.ProjSwIdeal.main (F := Ideal))) ⟨m, fun _ => 0, g⟩ (fun r => ∀ c : Dev Cert.ProjSwIdeal.nD,
          r.2.mem ((c.tc : Thread Cert.ProjSwIdeal.nD Cert.ProjSwIdeal.τ).loc Cert.ProjSwIdeal.main_v1) = v0 c
          ∧ r.2.mem ((c.tc : Thread Cert.ProjSwIdeal.nD Cert.ProjSwIdeal.τ).loc Cert.ProjSwIdeal.main_arg0) = m ((c.tc : Thread Cert.ProjSwIdeal.nD Cert.ProjSwIdeal.τ).loc Cert.ProjSwIdeal.main_arg0)
          ∧ r.2.mem ((c.tc : Thread Cert.ProjSwIdeal.nD Cert.ProjSwIdeal.τ).loc Cert.ProjSwIdeal.main_arg1) = m ((c.tc : Thread Cert.ProjSwIdeal.nD Cert.ProjSwIdeal.τ).loc Cert.ProjSwIdeal.main_arg1))
      ∧ θ_run (Cert.ProjSwRefIdeal.defs (F := Ideal)) (onTc (τ := Cert.ProjSwRefIdeal.τ) (Cert.ProjSwRefIdeal.main (F := Ideal))) ⟨m', fun _ => 0, g'⟩ (fun r => ∀ c : Dev Cert.ProjSwRefIdeal.nD,
          r.2.mem ((c.tc : Thread Cert.ProjSwRefIdeal.nD Cert.ProjSwRefIdeal.τ).loc Cert.ProjSwRefIdeal.main_v4) = v0 c
          ∧ r.2.mem ((c.tc : Thread Cert.ProjSwRefIdeal.nD Cert.ProjSwRefIdeal.τ).loc Cert.ProjSwRefIdeal.main_arg0) = m' ((c.tc : Thread Cert.ProjSwRefIdeal.nD Cert.ProjSwRefIdeal.τ).loc Cert.ProjSwRefIdeal.main_arg0)
          ∧ r.2.mem ((c.tc : Thread Cert.ProjSwRefIdeal.nD Cert.ProjSwRefIdeal.τ).loc Cert.ProjSwRefIdeal.main_arg1) = m' ((c.tc : Thread Cert.ProjSwRefIdeal.nD Cert.ProjSwRefIdeal.τ).loc Cert.ProjSwRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)
      ∧ m' ((c.tc : Thread Cert.DMixRefIdeal.nD Cert.DMixRefIdeal.τ).loc Cert.DMixRefIdeal.main_arg2) = m ((c.tc : Thread Cert.DMixIdeal.nD Cert.DMixIdeal.τ).loc Cert.DMixIdeal.main_arg2)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1)
          ∧ r.2.mem ((c.tc : Thread Cert.DMixIdeal.nD Cert.DMixIdeal.τ).loc Cert.DMixIdeal.main_arg2) = m ((c.tc : Thread Cert.DMixIdeal.nD Cert.DMixIdeal.τ).loc Cert.DMixIdeal.main_arg2))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v3) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1)
          ∧ r.2.mem ((c.tc : Thread Cert.DMixRefIdeal.nD Cert.DMixRefIdeal.τ).loc Cert.DMixRefIdeal.main_arg2) = m' ((c.tc : Thread Cert.DMixRefIdeal.nD Cert.DMixRefIdeal.τ).loc Cert.DMixRefIdeal.main_arg2))

def preserves_GWout_GWoutIdeal : Prop :=
  True

def algebraic_GWoutIdeal_GWoutRefIdeal [hGWoutIdeal : Cert.GWoutIdeal.Facts] [hGWoutRefIdeal : Cert.GWoutRefIdeal.Facts] : Prop :=
  ∀ (m : (ℓ : Loc Cert.GWoutIdeal.nD Cert.GWoutIdeal.τ Cert.GWoutIdeal.sig) → Buf (Elt Ideal) ℓ) (g : Dev Cert.GWoutIdeal.nD → PrngReg)
    (m' : (ℓ : Loc Cert.GWoutRefIdeal.nD Cert.GWoutRefIdeal.τ Cert.GWoutRefIdeal.sig) → Buf (Elt Ideal) ℓ) (g' : Dev Cert.GWoutRefIdeal.nD → PrngReg), Pre_GWoutIdeal m →
    (∀ c : Dev Cert.GWoutIdeal.nD,
      m' ((c.tc : Thread Cert.GWoutRefIdeal.nD Cert.GWoutRefIdeal.τ).loc Cert.GWoutRefIdeal.main_arg0) = m ((c.tc : Thread Cert.GWoutIdeal.nD Cert.GWoutIdeal.τ).loc Cert.GWoutIdeal.main_arg0)
      ∧ m' ((c.tc : Thread Cert.GWoutRefIdeal.nD Cert.GWoutRefIdeal.τ).loc Cert.GWoutRefIdeal.main_arg1) = m ((c.tc : Thread Cert.GWoutIdeal.nD Cert.GWoutIdeal.τ).loc Cert.GWoutIdeal.main_arg1)
      ∧ m' ((c.tc : Thread Cert.GWoutRefIdeal.nD Cert.GWoutRefIdeal.τ).loc Cert.GWoutRefIdeal.main_arg2) = m ((c.tc : Thread Cert.GWoutIdeal.nD Cert.GWoutIdeal.τ).loc Cert.GWoutIdeal.main_arg2)) →
    ∃ (v0 : (c : Dev Cert.GWoutIdeal.nD) → Buf (Elt Ideal) ((c.tc : Thread Cert.GWoutIdeal.nD Cert.GWoutIdeal.τ).loc Cert.GWoutIdeal.main_v0)),
      θ_run (Cert.GWoutIdeal.defs (F := Ideal)) (onTc (τ := Cert.GWoutIdeal.τ) (Cert.GWoutIdeal.main (F := Ideal))) ⟨m, fun _ => 0, g⟩ (fun r => ∀ c : Dev Cert.GWoutIdeal.nD,
          r.2.mem ((c.tc : Thread Cert.GWoutIdeal.nD Cert.GWoutIdeal.τ).loc Cert.GWoutIdeal.main_v0) = v0 c
          ∧ r.2.mem ((c.tc : Thread Cert.GWoutIdeal.nD Cert.GWoutIdeal.τ).loc Cert.GWoutIdeal.main_arg0) = m ((c.tc : Thread Cert.GWoutIdeal.nD Cert.GWoutIdeal.τ).loc Cert.GWoutIdeal.main_arg0)
          ∧ r.2.mem ((c.tc : Thread Cert.GWoutIdeal.nD Cert.GWoutIdeal.τ).loc Cert.GWoutIdeal.main_arg1) = m ((c.tc : Thread Cert.GWoutIdeal.nD Cert.GWoutIdeal.τ).loc Cert.GWoutIdeal.main_arg1)
          ∧ r.2.mem ((c.tc : Thread Cert.GWoutIdeal.nD Cert.GWoutIdeal.τ).loc Cert.GWoutIdeal.main_arg2) = m ((c.tc : Thread Cert.GWoutIdeal.nD Cert.GWoutIdeal.τ).loc Cert.GWoutIdeal.main_arg2))
      ∧ θ_run (Cert.GWoutRefIdeal.defs (F := Ideal)) (onTc (τ := Cert.GWoutRefIdeal.τ) (Cert.GWoutRefIdeal.main (F := Ideal))) ⟨m', fun _ => 0, g'⟩ (fun r => ∀ c : Dev Cert.GWoutRefIdeal.nD,
          r.2.mem ((c.tc : Thread Cert.GWoutRefIdeal.nD Cert.GWoutRefIdeal.τ).loc Cert.GWoutRefIdeal.main_v4) = v0 c
          ∧ r.2.mem ((c.tc : Thread Cert.GWoutRefIdeal.nD Cert.GWoutRefIdeal.τ).loc Cert.GWoutRefIdeal.main_arg0) = m' ((c.tc : Thread Cert.GWoutRefIdeal.nD Cert.GWoutRefIdeal.τ).loc Cert.GWoutRefIdeal.main_arg0)
          ∧ r.2.mem ((c.tc : Thread Cert.GWoutRefIdeal.nD Cert.GWoutRefIdeal.τ).loc Cert.GWoutRefIdeal.main_arg1) = m' ((c.tc : Thread Cert.GWoutRefIdeal.nD Cert.GWoutRefIdeal.τ).loc Cert.GWoutRefIdeal.main_arg1)
          ∧ r.2.mem ((c.tc : Thread Cert.GWoutRefIdeal.nD Cert.GWoutRefIdeal.τ).loc Cert.GWoutRefIdeal.main_arg2) = m' ((c.tc : Thread Cert.GWoutRefIdeal.nD Cert.GWoutRefIdeal.τ).loc Cert.GWoutRefIdeal.main_arg2))

def preserves_XaQ_XaQIdeal : Prop :=
  True

def algebraic_XaQIdeal_XaQRefIdeal [hXaQIdeal : Cert.XaQIdeal.Facts] [hXaQRefIdeal : Cert.XaQRefIdeal.Facts] : Prop :=
  ∀ (m : (ℓ : Loc Cert.XaQIdeal.nD Cert.XaQIdeal.τ Cert.XaQIdeal.sig) → Buf (Elt Ideal) ℓ) (g : Dev Cert.XaQIdeal.nD → PrngReg)
    (m' : (ℓ : Loc Cert.XaQRefIdeal.nD Cert.XaQRefIdeal.τ Cert.XaQRefIdeal.sig) → Buf (Elt Ideal) ℓ) (g' : Dev Cert.XaQRefIdeal.nD → PrngReg), Pre_XaQIdeal m →
    (∀ c : Dev Cert.XaQIdeal.nD,
      m' ((c.tc : Thread Cert.XaQRefIdeal.nD Cert.XaQRefIdeal.τ).loc Cert.XaQRefIdeal.main_arg0) = m ((c.tc : Thread Cert.XaQIdeal.nD Cert.XaQIdeal.τ).loc Cert.XaQIdeal.main_arg0)
      ∧ m' ((c.tc : Thread Cert.XaQRefIdeal.nD Cert.XaQRefIdeal.τ).loc Cert.XaQRefIdeal.main_arg1) = m ((c.tc : Thread Cert.XaQIdeal.nD Cert.XaQIdeal.τ).loc Cert.XaQIdeal.main_arg1)) →
    ∃ (v0 : (c : Dev Cert.XaQIdeal.nD) → Buf (Elt Ideal) ((c.tc : Thread Cert.XaQIdeal.nD Cert.XaQIdeal.τ).loc Cert.XaQIdeal.main_v0)),
      θ_run (Cert.XaQIdeal.defs (F := Ideal)) (onTc (τ := Cert.XaQIdeal.τ) (Cert.XaQIdeal.main (F := Ideal))) ⟨m, fun _ => 0, g⟩ (fun r => ∀ c : Dev Cert.XaQIdeal.nD,
          r.2.mem ((c.tc : Thread Cert.XaQIdeal.nD Cert.XaQIdeal.τ).loc Cert.XaQIdeal.main_v0) = v0 c
          ∧ r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
          ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ θ_run (Cert.XaQRefIdeal.defs (F := Ideal)) (onTc (τ := Cert.XaQRefIdeal.τ) (Cert.XaQRefIdeal.main (F := Ideal))) ⟨m', fun _ => 0, g'⟩ (fun r => ∀ c : Dev Cert.XaQRefIdeal.nD,
          r.2.mem ((c.tc : Thread Cert.XaQRefIdeal.nD Cert.XaQRefIdeal.τ).loc Cert.XaQRefIdeal.main_v2) = v0 c
          ∧ r.2.mem ((c.tc : Thread Cert.XaQRefIdeal.nD Cert.XaQRefIdeal.τ).loc Cert.XaQRefIdeal.main_arg0) = m' ((c.tc : Thread Cert.XaQRefIdeal.nD Cert.XaQRefIdeal.τ).loc Cert.XaQRefIdeal.main_arg0)
          ∧ r.2.mem ((c.tc : Thread Cert.XaQRefIdeal.nD Cert.XaQRefIdeal.τ).loc Cert.XaQRefIdeal.main_arg1) = m' ((c.tc : Thread Cert.XaQRefIdeal.nD Cert.XaQRefIdeal.τ).loc Cert.XaQRefIdeal.main_arg1))

def preserves_XaKv_XaKvIdeal : Prop :=
  True

def algebraic_XaKvIdeal_XaKvRefIdeal [hXaKvIdeal : Cert.XaKvIdeal.Facts] [hXaKvRefIdeal : Cert.XaKvRefIdeal.Facts] : Prop :=
  ∀ (m : (ℓ : Loc Cert.XaKvIdeal.nD Cert.XaKvIdeal.τ Cert.XaKvIdeal.sig) → Buf (Elt Ideal) ℓ) (g : Dev Cert.XaKvIdeal.nD → PrngReg)
    (m' : (ℓ : Loc Cert.XaKvRefIdeal.nD Cert.XaKvRefIdeal.τ Cert.XaKvRefIdeal.sig) → Buf (Elt Ideal) ℓ) (g' : Dev Cert.XaKvRefIdeal.nD → PrngReg), Pre_XaKvIdeal m →
    (∀ c : Dev Cert.XaKvIdeal.nD,
      m' ((c.tc : Thread Cert.XaKvRefIdeal.nD Cert.XaKvRefIdeal.τ).loc Cert.XaKvRefIdeal.main_arg0) = m ((c.tc : Thread Cert.XaKvIdeal.nD Cert.XaKvIdeal.τ).loc Cert.XaKvIdeal.main_arg0)
      ∧ m' ((c.tc : Thread Cert.XaKvRefIdeal.nD Cert.XaKvRefIdeal.τ).loc Cert.XaKvRefIdeal.main_arg1) = m ((c.tc : Thread Cert.XaKvIdeal.nD Cert.XaKvIdeal.τ).loc Cert.XaKvIdeal.main_arg1)) →
    ∃ (v0 : (c : Dev Cert.XaKvIdeal.nD) → Buf (Elt Ideal) ((c.tc : Thread Cert.XaKvIdeal.nD Cert.XaKvIdeal.τ).loc Cert.XaKvIdeal.main_v0)),
      θ_run (Cert.XaKvIdeal.defs (F := Ideal)) (onTc (τ := Cert.XaKvIdeal.τ) (Cert.XaKvIdeal.main (F := Ideal))) ⟨m, fun _ => 0, g⟩ (fun r => ∀ c : Dev Cert.XaKvIdeal.nD,
          r.2.mem ((c.tc : Thread Cert.XaKvIdeal.nD Cert.XaKvIdeal.τ).loc Cert.XaKvIdeal.main_v0) = v0 c
          ∧ r.2.mem ((c.tc : Thread Cert.XaKvIdeal.nD Cert.XaKvIdeal.τ).loc Cert.XaKvIdeal.main_arg0) = m ((c.tc : Thread Cert.XaKvIdeal.nD Cert.XaKvIdeal.τ).loc Cert.XaKvIdeal.main_arg0)
          ∧ r.2.mem ((c.tc : Thread Cert.XaKvIdeal.nD Cert.XaKvIdeal.τ).loc Cert.XaKvIdeal.main_arg1) = m ((c.tc : Thread Cert.XaKvIdeal.nD Cert.XaKvIdeal.τ).loc Cert.XaKvIdeal.main_arg1))
      ∧ θ_run (Cert.XaKvRefIdeal.defs (F := Ideal)) (onTc (τ := Cert.XaKvRefIdeal.τ) (Cert.XaKvRefIdeal.main (F := Ideal))) ⟨m', fun _ => 0, g'⟩ (fun r => ∀ c : Dev Cert.XaKvRefIdeal.nD,
          r.2.mem ((c.tc : Thread Cert.XaKvRefIdeal.nD Cert.XaKvRefIdeal.τ).loc Cert.XaKvRefIdeal.main_v2) = v0 c
          ∧ r.2.mem ((c.tc : Thread Cert.XaKvRefIdeal.nD Cert.XaKvRefIdeal.τ).loc Cert.XaKvRefIdeal.main_arg0) = m' ((c.tc : Thread Cert.XaKvRefIdeal.nD Cert.XaKvRefIdeal.τ).loc Cert.XaKvRefIdeal.main_arg0)
          ∧ r.2.mem ((c.tc : Thread Cert.XaKvRefIdeal.nD Cert.XaKvRefIdeal.τ).loc Cert.XaKvRefIdeal.main_arg1) = m' ((c.tc : Thread Cert.XaKvRefIdeal.nD Cert.XaKvRefIdeal.τ).loc Cert.XaKvRefIdeal.main_arg1))

def preserves_XaO_XaOIdeal : Prop :=
  True

def algebraic_XaOIdeal_XaORefIdeal [hXaOIdeal : Cert.XaOIdeal.Facts] [hXaORefIdeal : Cert.XaORefIdeal.Facts] : Prop :=
  ∀ (m : (ℓ : Loc Cert.XaOIdeal.nD Cert.XaOIdeal.τ Cert.XaOIdeal.sig) → Buf (Elt Ideal) ℓ) (g : Dev Cert.XaOIdeal.nD → PrngReg)
    (m' : (ℓ : Loc Cert.XaORefIdeal.nD Cert.XaORefIdeal.τ Cert.XaORefIdeal.sig) → Buf (Elt Ideal) ℓ) (g' : Dev Cert.XaORefIdeal.nD → PrngReg), Pre_XaOIdeal m →
    (∀ c : Dev Cert.XaOIdeal.nD,
      m' ((c.tc : Thread Cert.XaORefIdeal.nD Cert.XaORefIdeal.τ).loc Cert.XaORefIdeal.main_arg0) = m ((c.tc : Thread Cert.XaOIdeal.nD Cert.XaOIdeal.τ).loc Cert.XaOIdeal.main_arg0)
      ∧ m' ((c.tc : Thread Cert.XaORefIdeal.nD Cert.XaORefIdeal.τ).loc Cert.XaORefIdeal.main_arg1) = m ((c.tc : Thread Cert.XaOIdeal.nD Cert.XaOIdeal.τ).loc Cert.XaOIdeal.main_arg1)
      ∧ m' ((c.tc : Thread Cert.XaORefIdeal.nD Cert.XaORefIdeal.τ).loc Cert.XaORefIdeal.main_arg2) = m ((c.tc : Thread Cert.XaOIdeal.nD Cert.XaOIdeal.τ).loc Cert.XaOIdeal.main_arg2)
      ∧ m' ((c.tc : Thread Cert.XaORefIdeal.nD Cert.XaORefIdeal.τ).loc Cert.XaORefIdeal.main_arg3) = m ((c.tc : Thread Cert.XaOIdeal.nD Cert.XaOIdeal.τ).loc Cert.XaOIdeal.main_arg3)) →
    ∃ (v0 : (c : Dev Cert.XaOIdeal.nD) → Buf (Elt Ideal) ((c.tc : Thread Cert.XaOIdeal.nD Cert.XaOIdeal.τ).loc Cert.XaOIdeal.main_v0_0)) (v1 : (c : Dev Cert.XaOIdeal.nD) → Buf (Elt Ideal) ((c.tc : Thread Cert.XaOIdeal.nD Cert.XaOIdeal.τ).loc Cert.XaOIdeal.main_v0_1)),
      θ_run (Cert.XaOIdeal.defs (F := Ideal)) (onTc (τ := Cert.XaOIdeal.τ) (Cert.XaOIdeal.main (F := Ideal))) ⟨m, fun _ => 0, g⟩ (fun r => ∀ c : Dev Cert.XaOIdeal.nD,
          r.2.mem ((c.tc : Thread Cert.XaOIdeal.nD Cert.XaOIdeal.τ).loc Cert.XaOIdeal.main_v0_0) = v0 c
          ∧ r.2.mem ((c.tc : Thread Cert.XaOIdeal.nD Cert.XaOIdeal.τ).loc Cert.XaOIdeal.main_v0_1) = v1 c
          ∧ r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
          ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
          ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2)
          ∧ r.2.mem ((c.tc : Thread Cert.XaOIdeal.nD Cert.XaOIdeal.τ).loc Cert.XaOIdeal.main_arg3) = m ((c.tc : Thread Cert.XaOIdeal.nD Cert.XaOIdeal.τ).loc Cert.XaOIdeal.main_arg3))
      ∧ θ_run (Cert.XaORefIdeal.defs (F := Ideal)) (onTc (τ := Cert.XaORefIdeal.τ) (Cert.XaORefIdeal.main (F := Ideal))) ⟨m', fun _ => 0, g'⟩ (fun r => ∀ c : Dev Cert.XaORefIdeal.nD,
          r.2.mem ((c.tc : Thread Cert.XaORefIdeal.nD Cert.XaORefIdeal.τ).loc Cert.XaORefIdeal.main_v3) = v0 c
          ∧ r.2.mem ((c.tc : Thread Cert.XaORefIdeal.nD Cert.XaORefIdeal.τ).loc Cert.XaORefIdeal.main_v16) = v1 c
          ∧ r.2.mem ((c.tc : Thread Cert.XaORefIdeal.nD Cert.XaORefIdeal.τ).loc Cert.XaORefIdeal.main_arg0) = m' ((c.tc : Thread Cert.XaORefIdeal.nD Cert.XaORefIdeal.τ).loc Cert.XaORefIdeal.main_arg0)
          ∧ r.2.mem ((c.tc : Thread Cert.XaORefIdeal.nD Cert.XaORefIdeal.τ).loc Cert.XaORefIdeal.main_arg1) = m' ((c.tc : Thread Cert.XaORefIdeal.nD Cert.XaORefIdeal.τ).loc Cert.XaORefIdeal.main_arg1)
          ∧ r.2.mem ((c.tc : Thread Cert.XaORefIdeal.nD Cert.XaORefIdeal.τ).loc Cert.XaORefIdeal.main_arg2) = m' ((c.tc : Thread Cert.XaORefIdeal.nD Cert.XaORefIdeal.τ).loc Cert.XaORefIdeal.main_arg2)
          ∧ r.2.mem ((c.tc : Thread Cert.XaORefIdeal.nD Cert.XaORefIdeal.τ).loc Cert.XaORefIdeal.main_arg3) = m' ((c.tc : Thread Cert.XaORefIdeal.nD Cert.XaORefIdeal.τ).loc Cert.XaORefIdeal.main_arg3))

def preserves_DOx_DOxIdeal : Prop :=
  True

def algebraic_DOxIdeal_DOxRefIdeal [hDOxIdeal : Cert.DOxIdeal.Facts] [hDOxRefIdeal : Cert.DOxRefIdeal.Facts] : Prop :=
  ∀ (m : (ℓ : Loc Cert.DOxIdeal.nD Cert.DOxIdeal.τ Cert.DOxIdeal.sig) → Buf (Elt Ideal) ℓ) (g : Dev Cert.DOxIdeal.nD → PrngReg)
    (m' : (ℓ : Loc Cert.DOxRefIdeal.nD Cert.DOxRefIdeal.τ Cert.DOxRefIdeal.sig) → Buf (Elt Ideal) ℓ) (g' : Dev Cert.DOxRefIdeal.nD → PrngReg), Pre_DOxIdeal m →
    (∀ c : Dev Cert.DOxIdeal.nD,
      m' ((c.tc : Thread Cert.DOxRefIdeal.nD Cert.DOxRefIdeal.τ).loc Cert.DOxRefIdeal.main_arg0) = m ((c.tc : Thread Cert.DOxIdeal.nD Cert.DOxIdeal.τ).loc Cert.DOxIdeal.main_arg0)
      ∧ m' ((c.tc : Thread Cert.DOxRefIdeal.nD Cert.DOxRefIdeal.τ).loc Cert.DOxRefIdeal.main_arg1) = m ((c.tc : Thread Cert.DOxIdeal.nD Cert.DOxIdeal.τ).loc Cert.DOxIdeal.main_arg1)
      ∧ m' ((c.tc : Thread Cert.DOxRefIdeal.nD Cert.DOxRefIdeal.τ).loc Cert.DOxRefIdeal.main_arg2) = m ((c.tc : Thread Cert.DOxIdeal.nD Cert.DOxIdeal.τ).loc Cert.DOxIdeal.main_arg2)) →
    ∃ (v0 : (c : Dev Cert.DOxIdeal.nD) → Buf (Elt Ideal) ((c.tc : Thread Cert.DOxIdeal.nD Cert.DOxIdeal.τ).loc Cert.DOxIdeal.main_v0)),
      θ_run (Cert.DOxIdeal.defs (F := Ideal)) (onTc (τ := Cert.DOxIdeal.τ) (Cert.DOxIdeal.main (F := Ideal))) ⟨m, fun _ => 0, g⟩ (fun r => ∀ c : Dev Cert.DOxIdeal.nD,
          r.2.mem ((c.tc : Thread Cert.DOxIdeal.nD Cert.DOxIdeal.τ).loc Cert.DOxIdeal.main_v0) = v0 c
          ∧ r.2.mem ((c.tc : Thread Cert.DOxIdeal.nD Cert.DOxIdeal.τ).loc Cert.DOxIdeal.main_arg0) = m ((c.tc : Thread Cert.DOxIdeal.nD Cert.DOxIdeal.τ).loc Cert.DOxIdeal.main_arg0)
          ∧ r.2.mem ((c.tc : Thread Cert.DOxIdeal.nD Cert.DOxIdeal.τ).loc Cert.DOxIdeal.main_arg1) = m ((c.tc : Thread Cert.DOxIdeal.nD Cert.DOxIdeal.τ).loc Cert.DOxIdeal.main_arg1)
          ∧ r.2.mem ((c.tc : Thread Cert.DOxIdeal.nD Cert.DOxIdeal.τ).loc Cert.DOxIdeal.main_arg2) = m ((c.tc : Thread Cert.DOxIdeal.nD Cert.DOxIdeal.τ).loc Cert.DOxIdeal.main_arg2))
      ∧ θ_run (Cert.DOxRefIdeal.defs (F := Ideal)) (onTc (τ := Cert.DOxRefIdeal.τ) (Cert.DOxRefIdeal.main (F := Ideal))) ⟨m', fun _ => 0, g'⟩ (fun r => ∀ c : Dev Cert.DOxRefIdeal.nD,
          r.2.mem ((c.tc : Thread Cert.DOxRefIdeal.nD Cert.DOxRefIdeal.τ).loc Cert.DOxRefIdeal.main_v4) = v0 c
          ∧ r.2.mem ((c.tc : Thread Cert.DOxRefIdeal.nD Cert.DOxRefIdeal.τ).loc Cert.DOxRefIdeal.main_arg0) = m' ((c.tc : Thread Cert.DOxRefIdeal.nD Cert.DOxRefIdeal.τ).loc Cert.DOxRefIdeal.main_arg0)
          ∧ r.2.mem ((c.tc : Thread Cert.DOxRefIdeal.nD Cert.DOxRefIdeal.τ).loc Cert.DOxRefIdeal.main_arg1) = m' ((c.tc : Thread Cert.DOxRefIdeal.nD Cert.DOxRefIdeal.τ).loc Cert.DOxRefIdeal.main_arg1)
          ∧ r.2.mem ((c.tc : Thread Cert.DOxRefIdeal.nD Cert.DOxRefIdeal.τ).loc Cert.DOxRefIdeal.main_arg2) = m' ((c.tc : Thread Cert.DOxRefIdeal.nD Cert.DOxRefIdeal.τ).loc Cert.DOxRefIdeal.main_arg2))

def preserves_GWo_GWoIdeal : Prop :=
  True

def algebraic_GWoIdeal_GWoRefIdeal [hGWoIdeal : Cert.GWoIdeal.Facts] [hGWoRefIdeal : Cert.GWoRefIdeal.Facts] : Prop :=
  ∀ (m : (ℓ : Loc Cert.GWoIdeal.nD Cert.GWoIdeal.τ Cert.GWoIdeal.sig) → Buf (Elt Ideal) ℓ) (g : Dev Cert.GWoIdeal.nD → PrngReg)
    (m' : (ℓ : Loc Cert.GWoRefIdeal.nD Cert.GWoRefIdeal.τ Cert.GWoRefIdeal.sig) → Buf (Elt Ideal) ℓ) (g' : Dev Cert.GWoRefIdeal.nD → PrngReg), Pre_GWoIdeal m →
    (∀ c : Dev Cert.GWoIdeal.nD,
      m' ((c.tc : Thread Cert.GWoRefIdeal.nD Cert.GWoRefIdeal.τ).loc Cert.GWoRefIdeal.main_arg0) = m ((c.tc : Thread Cert.GWoIdeal.nD Cert.GWoIdeal.τ).loc Cert.GWoIdeal.main_arg0)
      ∧ m' ((c.tc : Thread Cert.GWoRefIdeal.nD Cert.GWoRefIdeal.τ).loc Cert.GWoRefIdeal.main_arg1) = m ((c.tc : Thread Cert.GWoIdeal.nD Cert.GWoIdeal.τ).loc Cert.GWoIdeal.main_arg1)
      ∧ m' ((c.tc : Thread Cert.GWoRefIdeal.nD Cert.GWoRefIdeal.τ).loc Cert.GWoRefIdeal.main_arg2) = m ((c.tc : Thread Cert.GWoIdeal.nD Cert.GWoIdeal.τ).loc Cert.GWoIdeal.main_arg2)) →
    ∃ (v0 : (c : Dev Cert.GWoIdeal.nD) → Buf (Elt Ideal) ((c.tc : Thread Cert.GWoIdeal.nD Cert.GWoIdeal.τ).loc Cert.GWoIdeal.main_v0)),
      θ_run (Cert.GWoIdeal.defs (F := Ideal)) (onTc (τ := Cert.GWoIdeal.τ) (Cert.GWoIdeal.main (F := Ideal))) ⟨m, fun _ => 0, g⟩ (fun r => ∀ c : Dev Cert.GWoIdeal.nD,
          r.2.mem ((c.tc : Thread Cert.GWoIdeal.nD Cert.GWoIdeal.τ).loc Cert.GWoIdeal.main_v0) = v0 c
          ∧ r.2.mem ((c.tc : Thread Cert.GWoIdeal.nD Cert.GWoIdeal.τ).loc Cert.GWoIdeal.main_arg0) = m ((c.tc : Thread Cert.GWoIdeal.nD Cert.GWoIdeal.τ).loc Cert.GWoIdeal.main_arg0)
          ∧ r.2.mem ((c.tc : Thread Cert.GWoIdeal.nD Cert.GWoIdeal.τ).loc Cert.GWoIdeal.main_arg1) = m ((c.tc : Thread Cert.GWoIdeal.nD Cert.GWoIdeal.τ).loc Cert.GWoIdeal.main_arg1)
          ∧ r.2.mem ((c.tc : Thread Cert.GWoIdeal.nD Cert.GWoIdeal.τ).loc Cert.GWoIdeal.main_arg2) = m ((c.tc : Thread Cert.GWoIdeal.nD Cert.GWoIdeal.τ).loc Cert.GWoIdeal.main_arg2))
      ∧ θ_run (Cert.GWoRefIdeal.defs (F := Ideal)) (onTc (τ := Cert.GWoRefIdeal.τ) (Cert.GWoRefIdeal.main (F := Ideal))) ⟨m', fun _ => 0, g'⟩ (fun r => ∀ c : Dev Cert.GWoRefIdeal.nD,
          r.2.mem ((c.tc : Thread Cert.GWoRefIdeal.nD Cert.GWoRefIdeal.τ).loc Cert.GWoRefIdeal.main_v5) = v0 c
          ∧ r.2.mem ((c.tc : Thread Cert.GWoRefIdeal.nD Cert.GWoRefIdeal.τ).loc Cert.GWoRefIdeal.main_arg0) = m' ((c.tc : Thread Cert.GWoRefIdeal.nD Cert.GWoRefIdeal.τ).loc Cert.GWoRefIdeal.main_arg0)
          ∧ r.2.mem ((c.tc : Thread Cert.GWoRefIdeal.nD Cert.GWoRefIdeal.τ).loc Cert.GWoRefIdeal.main_arg1) = m' ((c.tc : Thread Cert.GWoRefIdeal.nD Cert.GWoRefIdeal.τ).loc Cert.GWoRefIdeal.main_arg1)
          ∧ r.2.mem ((c.tc : Thread Cert.GWoRefIdeal.nD Cert.GWoRefIdeal.τ).loc Cert.GWoRefIdeal.main_arg2) = m' ((c.tc : Thread Cert.GWoRefIdeal.nD Cert.GWoRefIdeal.τ).loc Cert.GWoRefIdeal.main_arg2))

def preserves_GWq_GWqIdeal : Prop :=
  True

def algebraic_GWqIdeal_GWqRefIdeal [hGWqIdeal : Cert.GWqIdeal.Facts] [hGWqRefIdeal : Cert.GWqRefIdeal.Facts] : Prop :=
  ∀ (m : (ℓ : Loc Cert.GWqIdeal.nD Cert.GWqIdeal.τ Cert.GWqIdeal.sig) → Buf (Elt Ideal) ℓ) (g : Dev Cert.GWqIdeal.nD → PrngReg)
    (m' : (ℓ : Loc Cert.GWqRefIdeal.nD Cert.GWqRefIdeal.τ Cert.GWqRefIdeal.sig) → Buf (Elt Ideal) ℓ) (g' : Dev Cert.GWqRefIdeal.nD → PrngReg), Pre_GWqIdeal m →
    (∀ c : Dev Cert.GWqIdeal.nD,
      m' ((c.tc : Thread Cert.GWqRefIdeal.nD Cert.GWqRefIdeal.τ).loc Cert.GWqRefIdeal.main_arg0) = m ((c.tc : Thread Cert.GWqIdeal.nD Cert.GWqIdeal.τ).loc Cert.GWqIdeal.main_arg0)
      ∧ m' ((c.tc : Thread Cert.GWqRefIdeal.nD Cert.GWqRefIdeal.τ).loc Cert.GWqRefIdeal.main_arg1) = m ((c.tc : Thread Cert.GWqIdeal.nD Cert.GWqIdeal.τ).loc Cert.GWqIdeal.main_arg1)
      ∧ m' ((c.tc : Thread Cert.GWqRefIdeal.nD Cert.GWqRefIdeal.τ).loc Cert.GWqRefIdeal.main_arg2) = m ((c.tc : Thread Cert.GWqIdeal.nD Cert.GWqIdeal.τ).loc Cert.GWqIdeal.main_arg2)) →
    ∃ (v0 : (c : Dev Cert.GWqIdeal.nD) → Buf (Elt Ideal) ((c.tc : Thread Cert.GWqIdeal.nD Cert.GWqIdeal.τ).loc Cert.GWqIdeal.main_v0)),
      θ_run (Cert.GWqIdeal.defs (F := Ideal)) (onTc (τ := Cert.GWqIdeal.τ) (Cert.GWqIdeal.main (F := Ideal))) ⟨m, fun _ => 0, g⟩ (fun r => ∀ c : Dev Cert.GWqIdeal.nD,
          r.2.mem ((c.tc : Thread Cert.GWqIdeal.nD Cert.GWqIdeal.τ).loc Cert.GWqIdeal.main_v0) = v0 c
          ∧ r.2.mem ((c.tc : Thread Cert.GWqIdeal.nD Cert.GWqIdeal.τ).loc Cert.GWqIdeal.main_arg0) = m ((c.tc : Thread Cert.GWqIdeal.nD Cert.GWqIdeal.τ).loc Cert.GWqIdeal.main_arg0)
          ∧ r.2.mem ((c.tc : Thread Cert.GWqIdeal.nD Cert.GWqIdeal.τ).loc Cert.GWqIdeal.main_arg1) = m ((c.tc : Thread Cert.GWqIdeal.nD Cert.GWqIdeal.τ).loc Cert.GWqIdeal.main_arg1)
          ∧ r.2.mem ((c.tc : Thread Cert.GWqIdeal.nD Cert.GWqIdeal.τ).loc Cert.GWqIdeal.main_arg2) = m ((c.tc : Thread Cert.GWqIdeal.nD Cert.GWqIdeal.τ).loc Cert.GWqIdeal.main_arg2))
      ∧ θ_run (Cert.GWqRefIdeal.defs (F := Ideal)) (onTc (τ := Cert.GWqRefIdeal.τ) (Cert.GWqRefIdeal.main (F := Ideal))) ⟨m', fun _ => 0, g'⟩ (fun r => ∀ c : Dev Cert.GWqRefIdeal.nD,
          r.2.mem ((c.tc : Thread Cert.GWqRefIdeal.nD Cert.GWqRefIdeal.τ).loc Cert.GWqRefIdeal.main_v5) = v0 c
          ∧ r.2.mem ((c.tc : Thread Cert.GWqRefIdeal.nD Cert.GWqRefIdeal.τ).loc Cert.GWqRefIdeal.main_arg0) = m' ((c.tc : Thread Cert.GWqRefIdeal.nD Cert.GWqRefIdeal.τ).loc Cert.GWqRefIdeal.main_arg0)
          ∧ r.2.mem ((c.tc : Thread Cert.GWqRefIdeal.nD Cert.GWqRefIdeal.τ).loc Cert.GWqRefIdeal.main_arg1) = m' ((c.tc : Thread Cert.GWqRefIdeal.nD Cert.GWqRefIdeal.τ).loc Cert.GWqRefIdeal.main_arg1)
          ∧ r.2.mem ((c.tc : Thread Cert.GWqRefIdeal.nD Cert.GWqRefIdeal.τ).loc Cert.GWqRefIdeal.main_arg2) = m' ((c.tc : Thread Cert.GWqRefIdeal.nD Cert.GWqRefIdeal.τ).loc Cert.GWqRefIdeal.main_arg2))

def preserves_GWkv_GWkvIdeal : Prop :=
  True

def algebraic_GWkvIdeal_GWkvRefIdeal [hGWkvIdeal : Cert.GWkvIdeal.Facts] [hGWkvRefIdeal : Cert.GWkvRefIdeal.Facts] : Prop :=
  ∀ (m : (ℓ : Loc Cert.GWkvIdeal.nD Cert.GWkvIdeal.τ Cert.GWkvIdeal.sig) → Buf (Elt Ideal) ℓ) (g : Dev Cert.GWkvIdeal.nD → PrngReg)
    (m' : (ℓ : Loc Cert.GWkvRefIdeal.nD Cert.GWkvRefIdeal.τ Cert.GWkvRefIdeal.sig) → Buf (Elt Ideal) ℓ) (g' : Dev Cert.GWkvRefIdeal.nD → PrngReg), Pre_GWkvIdeal m →
    (∀ c : Dev Cert.GWkvIdeal.nD,
      m' ((c.tc : Thread Cert.GWkvRefIdeal.nD Cert.GWkvRefIdeal.τ).loc Cert.GWkvRefIdeal.main_arg0) = m ((c.tc : Thread Cert.GWkvIdeal.nD Cert.GWkvIdeal.τ).loc Cert.GWkvIdeal.main_arg0)
      ∧ m' ((c.tc : Thread Cert.GWkvRefIdeal.nD Cert.GWkvRefIdeal.τ).loc Cert.GWkvRefIdeal.main_arg1) = m ((c.tc : Thread Cert.GWkvIdeal.nD Cert.GWkvIdeal.τ).loc Cert.GWkvIdeal.main_arg1)
      ∧ m' ((c.tc : Thread Cert.GWkvRefIdeal.nD Cert.GWkvRefIdeal.τ).loc Cert.GWkvRefIdeal.main_arg2) = m ((c.tc : Thread Cert.GWkvIdeal.nD Cert.GWkvIdeal.τ).loc Cert.GWkvIdeal.main_arg2)) →
    ∃ (v0 : (c : Dev Cert.GWkvIdeal.nD) → Buf (Elt Ideal) ((c.tc : Thread Cert.GWkvIdeal.nD Cert.GWkvIdeal.τ).loc Cert.GWkvIdeal.main_v0)),
      θ_run (Cert.GWkvIdeal.defs (F := Ideal)) (onTc (τ := Cert.GWkvIdeal.τ) (Cert.GWkvIdeal.main (F := Ideal))) ⟨m, fun _ => 0, g⟩ (fun r => ∀ c : Dev Cert.GWkvIdeal.nD,
          r.2.mem ((c.tc : Thread Cert.GWkvIdeal.nD Cert.GWkvIdeal.τ).loc Cert.GWkvIdeal.main_v0) = v0 c
          ∧ r.2.mem ((c.tc : Thread Cert.GWkvIdeal.nD Cert.GWkvIdeal.τ).loc Cert.GWkvIdeal.main_arg0) = m ((c.tc : Thread Cert.GWkvIdeal.nD Cert.GWkvIdeal.τ).loc Cert.GWkvIdeal.main_arg0)
          ∧ r.2.mem ((c.tc : Thread Cert.GWkvIdeal.nD Cert.GWkvIdeal.τ).loc Cert.GWkvIdeal.main_arg1) = m ((c.tc : Thread Cert.GWkvIdeal.nD Cert.GWkvIdeal.τ).loc Cert.GWkvIdeal.main_arg1)
          ∧ r.2.mem ((c.tc : Thread Cert.GWkvIdeal.nD Cert.GWkvIdeal.τ).loc Cert.GWkvIdeal.main_arg2) = m ((c.tc : Thread Cert.GWkvIdeal.nD Cert.GWkvIdeal.τ).loc Cert.GWkvIdeal.main_arg2))
      ∧ θ_run (Cert.GWkvRefIdeal.defs (F := Ideal)) (onTc (τ := Cert.GWkvRefIdeal.τ) (Cert.GWkvRefIdeal.main (F := Ideal))) ⟨m', fun _ => 0, g'⟩ (fun r => ∀ c : Dev Cert.GWkvRefIdeal.nD,
          r.2.mem ((c.tc : Thread Cert.GWkvRefIdeal.nD Cert.GWkvRefIdeal.τ).loc Cert.GWkvRefIdeal.main_v4) = v0 c
          ∧ r.2.mem ((c.tc : Thread Cert.GWkvRefIdeal.nD Cert.GWkvRefIdeal.τ).loc Cert.GWkvRefIdeal.main_arg0) = m' ((c.tc : Thread Cert.GWkvRefIdeal.nD Cert.GWkvRefIdeal.τ).loc Cert.GWkvRefIdeal.main_arg0)
          ∧ r.2.mem ((c.tc : Thread Cert.GWkvRefIdeal.nD Cert.GWkvRefIdeal.τ).loc Cert.GWkvRefIdeal.main_arg1) = m' ((c.tc : Thread Cert.GWkvRefIdeal.nD Cert.GWkvRefIdeal.τ).loc Cert.GWkvRefIdeal.main_arg1)
          ∧ r.2.mem ((c.tc : Thread Cert.GWkvRefIdeal.nD Cert.GWkvRefIdeal.τ).loc Cert.GWkvRefIdeal.main_arg2) = m' ((c.tc : Thread Cert.GWkvRefIdeal.nD Cert.GWkvRefIdeal.τ).loc Cert.GWkvRefIdeal.main_arg2))

def preserves_DMn_DMnIdeal : Prop :=
  True

def algebraic_DMnIdeal_DMnRefIdeal [hDMnIdeal : Cert.DMnIdeal.Facts] [hDMnRefIdeal : Cert.DMnRefIdeal.Facts] : Prop :=
  ∀ (m : (ℓ : Loc Cert.DMnIdeal.nD Cert.DMnIdeal.τ Cert.DMnIdeal.sig) → Buf (Elt Ideal) ℓ) (g : Dev Cert.DMnIdeal.nD → PrngReg)
    (m' : (ℓ : Loc Cert.DMnRefIdeal.nD Cert.DMnRefIdeal.τ Cert.DMnRefIdeal.sig) → Buf (Elt Ideal) ℓ) (g' : Dev Cert.DMnRefIdeal.nD → PrngReg), Pre_DMnIdeal m →
    (∀ c : Dev Cert.DMnIdeal.nD,
      m' ((c.tc : Thread Cert.DMnRefIdeal.nD Cert.DMnRefIdeal.τ).loc Cert.DMnRefIdeal.main_arg0) = m ((c.tc : Thread Cert.DMnIdeal.nD Cert.DMnIdeal.τ).loc Cert.DMnIdeal.main_arg0)
      ∧ m' ((c.tc : Thread Cert.DMnRefIdeal.nD Cert.DMnRefIdeal.τ).loc Cert.DMnRefIdeal.main_arg1) = m ((c.tc : Thread Cert.DMnIdeal.nD Cert.DMnIdeal.τ).loc Cert.DMnIdeal.main_arg1)
      ∧ m' ((c.tc : Thread Cert.DMnRefIdeal.nD Cert.DMnRefIdeal.τ).loc Cert.DMnRefIdeal.main_arg2) = m ((c.tc : Thread Cert.DMnIdeal.nD Cert.DMnIdeal.τ).loc Cert.DMnIdeal.main_arg2)) →
    ∃ (v0 : (c : Dev Cert.DMnIdeal.nD) → Buf (Elt Ideal) ((c.tc : Thread Cert.DMnIdeal.nD Cert.DMnIdeal.τ).loc Cert.DMnIdeal.main_v0)),
      θ_run (Cert.DMnIdeal.defs (F := Ideal)) (onTc (τ := Cert.DMnIdeal.τ) (Cert.DMnIdeal.main (F := Ideal))) ⟨m, fun _ => 0, g⟩ (fun r => ∀ c : Dev Cert.DMnIdeal.nD,
          r.2.mem ((c.tc : Thread Cert.DMnIdeal.nD Cert.DMnIdeal.τ).loc Cert.DMnIdeal.main_v0) = v0 c
          ∧ r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
          ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1)
          ∧ r.2.mem ((c.tc : Thread Cert.DMnIdeal.nD Cert.DMnIdeal.τ).loc Cert.DMnIdeal.main_arg2) = m ((c.tc : Thread Cert.DMnIdeal.nD Cert.DMnIdeal.τ).loc Cert.DMnIdeal.main_arg2))
      ∧ θ_run (Cert.DMnRefIdeal.defs (F := Ideal)) (onTc (τ := Cert.DMnRefIdeal.τ) (Cert.DMnRefIdeal.main (F := Ideal))) ⟨m', fun _ => 0, g'⟩ (fun r => ∀ c : Dev Cert.DMnRefIdeal.nD,
          r.2.mem ((c.tc : Thread Cert.DMnRefIdeal.nD Cert.DMnRefIdeal.τ).loc Cert.DMnRefIdeal.main_v3) = v0 c
          ∧ r.2.mem ((c.tc : Thread Cert.DMnRefIdeal.nD Cert.DMnRefIdeal.τ).loc Cert.DMnRefIdeal.main_arg0) = m' ((c.tc : Thread Cert.DMnRefIdeal.nD Cert.DMnRefIdeal.τ).loc Cert.DMnRefIdeal.main_arg0)
          ∧ r.2.mem ((c.tc : Thread Cert.DMnRefIdeal.nD Cert.DMnRefIdeal.τ).loc Cert.DMnRefIdeal.main_arg1) = m' ((c.tc : Thread Cert.DMnRefIdeal.nD Cert.DMnRefIdeal.τ).loc Cert.DMnRefIdeal.main_arg1)
          ∧ r.2.mem ((c.tc : Thread Cert.DMnRefIdeal.nD Cert.DMnRefIdeal.τ).loc Cert.DMnRefIdeal.main_arg2) = m' ((c.tc : Thread Cert.DMnRefIdeal.nD Cert.DMnRefIdeal.τ).loc Cert.DMnRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v19) = v1 c
          ∧ r.2.mem ((c.tc : Thread Cert.DownRefIdeal.nD Cert.DownRefIdeal.τ).loc Cert.DownRefIdeal.main_v23) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_DHn3_DHn3Ideal : Prop :=
  True

def algebraic_DHn3Ideal_DHn3RefIdeal [hDHn3Ideal : Cert.DHn3Ideal.Facts] [hDHn3RefIdeal : Cert.DHn3RefIdeal.Facts] : Prop :=
  ∀ (m : (ℓ : Loc Cert.DHn3Ideal.nD Cert.DHn3Ideal.τ Cert.DHn3Ideal.sig) → Buf (Elt Ideal) ℓ) (g : Dev Cert.DHn3Ideal.nD → PrngReg)
    (m' : (ℓ : Loc Cert.DHn3RefIdeal.nD Cert.DHn3RefIdeal.τ Cert.DHn3RefIdeal.sig) → Buf (Elt Ideal) ℓ) (g' : Dev Cert.DHn3RefIdeal.nD → PrngReg), Pre_DHn3Ideal m →
    (∀ c : Dev Cert.DHn3Ideal.nD,
      m' ((c.tc : Thread Cert.DHn3RefIdeal.nD Cert.DHn3RefIdeal.τ).loc Cert.DHn3RefIdeal.main_arg0) = m ((c.tc : Thread Cert.DHn3Ideal.nD Cert.DHn3Ideal.τ).loc Cert.DHn3Ideal.main_arg0)
      ∧ m' ((c.tc : Thread Cert.DHn3RefIdeal.nD Cert.DHn3RefIdeal.τ).loc Cert.DHn3RefIdeal.main_arg1) = m ((c.tc : Thread Cert.DHn3Ideal.nD Cert.DHn3Ideal.τ).loc Cert.DHn3Ideal.main_arg1)
      ∧ m' ((c.tc : Thread Cert.DHn3RefIdeal.nD Cert.DHn3RefIdeal.τ).loc Cert.DHn3RefIdeal.main_arg2) = m ((c.tc : Thread Cert.DHn3Ideal.nD Cert.DHn3Ideal.τ).loc Cert.DHn3Ideal.main_arg2)
      ∧ m' ((c.tc : Thread Cert.DHn3RefIdeal.nD Cert.DHn3RefIdeal.τ).loc Cert.DHn3RefIdeal.main_arg3) = m ((c.tc : Thread Cert.DHn3Ideal.nD Cert.DHn3Ideal.τ).loc Cert.DHn3Ideal.main_arg3)
      ∧ m' ((c.tc : Thread Cert.DHn3RefIdeal.nD Cert.DHn3RefIdeal.τ).loc Cert.DHn3RefIdeal.main_arg4) = m ((c.tc : Thread Cert.DHn3Ideal.nD Cert.DHn3Ideal.τ).loc Cert.DHn3Ideal.main_arg4)) →
    ∃ (v0 : (c : Dev Cert.DHn3Ideal.nD) → Buf (Elt Ideal) ((c.tc : Thread Cert.DHn3Ideal.nD Cert.DHn3Ideal.τ).loc Cert.DHn3Ideal.main_v0_0)) (v1 : (c : Dev Cert.DHn3Ideal.nD) → Buf (Elt Ideal) ((c.tc : Thread Cert.DHn3Ideal.nD Cert.DHn3Ideal.τ).loc Cert.DHn3Ideal.main_v0_1)) (v2 : (c : Dev Cert.DHn3Ideal.nD) → Buf (Elt Ideal) ((c.tc : Thread Cert.DHn3Ideal.nD Cert.DHn3Ideal.τ).loc Cert.DHn3Ideal.main_v0_2)),
      θ_run (Cert.DHn3Ideal.defs (F := Ideal)) (onTc (τ := Cert.DHn3Ideal.τ) (Cert.DHn3Ideal.main (F := Ideal))) ⟨m, fun _ => 0, g⟩ (fun r => ∀ c : Dev Cert.DHn3Ideal.nD,
          r.2.mem ((c.tc : Thread Cert.DHn3Ideal.nD Cert.DHn3Ideal.τ).loc Cert.DHn3Ideal.main_v0_0) = v0 c
          ∧ r.2.mem ((c.tc : Thread Cert.DHn3Ideal.nD Cert.DHn3Ideal.τ).loc Cert.DHn3Ideal.main_v0_1) = v1 c
          ∧ r.2.mem ((c.tc : Thread Cert.DHn3Ideal.nD Cert.DHn3Ideal.τ).loc Cert.DHn3Ideal.main_v0_2) = v2 c
          ∧ r.2.mem ((c.tc : Thread Cert.DHn3Ideal.nD Cert.DHn3Ideal.τ).loc Cert.DHn3Ideal.main_arg0) = m ((c.tc : Thread Cert.DHn3Ideal.nD Cert.DHn3Ideal.τ).loc Cert.DHn3Ideal.main_arg0)
          ∧ r.2.mem ((c.tc : Thread Cert.DHn3Ideal.nD Cert.DHn3Ideal.τ).loc Cert.DHn3Ideal.main_arg1) = m ((c.tc : Thread Cert.DHn3Ideal.nD Cert.DHn3Ideal.τ).loc Cert.DHn3Ideal.main_arg1)
          ∧ r.2.mem ((c.tc : Thread Cert.DHn3Ideal.nD Cert.DHn3Ideal.τ).loc Cert.DHn3Ideal.main_arg2) = m ((c.tc : Thread Cert.DHn3Ideal.nD Cert.DHn3Ideal.τ).loc Cert.DHn3Ideal.main_arg2)
          ∧ r.2.mem ((c.tc : Thread Cert.DHn3Ideal.nD Cert.DHn3Ideal.τ).loc Cert.DHn3Ideal.main_arg3) = m ((c.tc : Thread Cert.DHn3Ideal.nD Cert.DHn3Ideal.τ).loc Cert.DHn3Ideal.main_arg3)
          ∧ r.2.mem ((c.tc : Thread Cert.DHn3Ideal.nD Cert.DHn3Ideal.τ).loc Cert.DHn3Ideal.main_arg4) = m ((c.tc : Thread Cert.DHn3Ideal.nD Cert.DHn3Ideal.τ).loc Cert.DHn3Ideal.main_arg4))
      ∧ θ_run (Cert.DHn3RefIdeal.defs (F := Ideal)) (onTc (τ := Cert.DHn3RefIdeal.τ) (Cert.DHn3RefIdeal.main (F := Ideal))) ⟨m', fun _ => 0, g'⟩ (fun r => ∀ c : Dev Cert.DHn3RefIdeal.nD,
          r.2.mem ((c.tc : Thread Cert.DHn3RefIdeal.nD Cert.DHn3RefIdeal.τ).loc Cert.DHn3RefIdeal.main_v40) = v0 c
          ∧ r.2.mem ((c.tc : Thread Cert.DHn3RefIdeal.nD Cert.DHn3RefIdeal.τ).loc Cert.DHn3RefIdeal.main_v41) = v1 c
          ∧ r.2.mem ((c.tc : Thread Cert.DHn3RefIdeal.nD Cert.DHn3RefIdeal.τ).loc Cert.DHn3RefIdeal.main_v23) = v2 c
          ∧ r.2.mem ((c.tc : Thread Cert.DHn3RefIdeal.nD Cert.DHn3RefIdeal.τ).loc Cert.DHn3RefIdeal.main_arg0) = m' ((c.tc : Thread Cert.DHn3RefIdeal.nD Cert.DHn3RefIdeal.τ).loc Cert.DHn3RefIdeal.main_arg0)
          ∧ r.2.mem ((c.tc : Thread Cert.DHn3RefIdeal.nD Cert.DHn3RefIdeal.τ).loc Cert.DHn3RefIdeal.main_arg1) = m' ((c.tc : Thread Cert.DHn3RefIdeal.nD Cert.DHn3RefIdeal.τ).loc Cert.DHn3RefIdeal.main_arg1)
          ∧ r.2.mem ((c.tc : Thread Cert.DHn3RefIdeal.nD Cert.DHn3RefIdeal.τ).loc Cert.DHn3RefIdeal.main_arg2) = m' ((c.tc : Thread Cert.DHn3RefIdeal.nD Cert.DHn3RefIdeal.τ).loc Cert.DHn3RefIdeal.main_arg2)
          ∧ r.2.mem ((c.tc : Thread Cert.DHn3RefIdeal.nD Cert.DHn3RefIdeal.τ).loc Cert.DHn3RefIdeal.main_arg3) = m' ((c.tc : Thread Cert.DHn3RefIdeal.nD Cert.DHn3RefIdeal.τ).loc Cert.DHn3RefIdeal.main_arg3)
          ∧ r.2.mem ((c.tc : Thread Cert.DHn3RefIdeal.nD Cert.DHn3RefIdeal.τ).loc Cert.DHn3RefIdeal.main_arg4) = m' ((c.tc : Thread Cert.DHn3RefIdeal.nD Cert.DHn3RefIdeal.τ).loc Cert.DHn3RefIdeal.main_arg4))

def preserves_DHn2_DHn2Ideal : Prop :=
  True

def algebraic_DHn2Ideal_DHn2RefIdeal [hDHn2Ideal : Cert.DHn2Ideal.Facts] [hDHn2RefIdeal : Cert.DHn2RefIdeal.Facts] : Prop :=
  ∀ (m : (ℓ : Loc Cert.DHn2Ideal.nD Cert.DHn2Ideal.τ Cert.DHn2Ideal.sig) → Buf (Elt Ideal) ℓ) (g : Dev Cert.DHn2Ideal.nD → PrngReg)
    (m' : (ℓ : Loc Cert.DHn2RefIdeal.nD Cert.DHn2RefIdeal.τ Cert.DHn2RefIdeal.sig) → Buf (Elt Ideal) ℓ) (g' : Dev Cert.DHn2RefIdeal.nD → PrngReg), Pre_DHn2Ideal m →
    (∀ c : Dev Cert.DHn2Ideal.nD,
      m' ((c.tc : Thread Cert.DHn2RefIdeal.nD Cert.DHn2RefIdeal.τ).loc Cert.DHn2RefIdeal.main_arg0) = m ((c.tc : Thread Cert.DHn2Ideal.nD Cert.DHn2Ideal.τ).loc Cert.DHn2Ideal.main_arg0)
      ∧ m' ((c.tc : Thread Cert.DHn2RefIdeal.nD Cert.DHn2RefIdeal.τ).loc Cert.DHn2RefIdeal.main_arg1) = m ((c.tc : Thread Cert.DHn2Ideal.nD Cert.DHn2Ideal.τ).loc Cert.DHn2Ideal.main_arg1)
      ∧ m' ((c.tc : Thread Cert.DHn2RefIdeal.nD Cert.DHn2RefIdeal.τ).loc Cert.DHn2RefIdeal.main_arg2) = m ((c.tc : Thread Cert.DHn2Ideal.nD Cert.DHn2Ideal.τ).loc Cert.DHn2Ideal.main_arg2)
      ∧ m' ((c.tc : Thread Cert.DHn2RefIdeal.nD Cert.DHn2RefIdeal.τ).loc Cert.DHn2RefIdeal.main_arg3) = m ((c.tc : Thread Cert.DHn2Ideal.nD Cert.DHn2Ideal.τ).loc Cert.DHn2Ideal.main_arg3)
      ∧ m' ((c.tc : Thread Cert.DHn2RefIdeal.nD Cert.DHn2RefIdeal.τ).loc Cert.DHn2RefIdeal.main_arg4) = m ((c.tc : Thread Cert.DHn2Ideal.nD Cert.DHn2Ideal.τ).loc Cert.DHn2Ideal.main_arg4)) →
    ∃ (v0 : (c : Dev Cert.DHn2Ideal.nD) → Buf (Elt Ideal) ((c.tc : Thread Cert.DHn2Ideal.nD Cert.DHn2Ideal.τ).loc Cert.DHn2Ideal.main_v0_0)) (v1 : (c : Dev Cert.DHn2Ideal.nD) → Buf (Elt Ideal) ((c.tc : Thread Cert.DHn2Ideal.nD Cert.DHn2Ideal.τ).loc Cert.DHn2Ideal.main_v0_1)) (v2 : (c : Dev Cert.DHn2Ideal.nD) → Buf (Elt Ideal) ((c.tc : Thread Cert.DHn2Ideal.nD Cert.DHn2Ideal.τ).loc Cert.DHn2Ideal.main_v0_2)),
      θ_run (Cert.DHn2Ideal.defs (F := Ideal)) (onTc (τ := Cert.DHn2Ideal.τ) (Cert.DHn2Ideal.main (F := Ideal))) ⟨m, fun _ => 0, g⟩ (fun r => ∀ c : Dev Cert.DHn2Ideal.nD,
          r.2.mem ((c.tc : Thread Cert.DHn2Ideal.nD Cert.DHn2Ideal.τ).loc Cert.DHn2Ideal.main_v0_0) = v0 c
          ∧ r.2.mem ((c.tc : Thread Cert.DHn2Ideal.nD Cert.DHn2Ideal.τ).loc Cert.DHn2Ideal.main_v0_1) = v1 c
          ∧ r.2.mem ((c.tc : Thread Cert.DHn2Ideal.nD Cert.DHn2Ideal.τ).loc Cert.DHn2Ideal.main_v0_2) = v2 c
          ∧ r.2.mem ((c.tc : Thread Cert.DHn2Ideal.nD Cert.DHn2Ideal.τ).loc Cert.DHn2Ideal.main_arg0) = m ((c.tc : Thread Cert.DHn2Ideal.nD Cert.DHn2Ideal.τ).loc Cert.DHn2Ideal.main_arg0)
          ∧ r.2.mem ((c.tc : Thread Cert.DHn2Ideal.nD Cert.DHn2Ideal.τ).loc Cert.DHn2Ideal.main_arg1) = m ((c.tc : Thread Cert.DHn2Ideal.nD Cert.DHn2Ideal.τ).loc Cert.DHn2Ideal.main_arg1)
          ∧ r.2.mem ((c.tc : Thread Cert.DHn2Ideal.nD Cert.DHn2Ideal.τ).loc Cert.DHn2Ideal.main_arg2) = m ((c.tc : Thread Cert.DHn2Ideal.nD Cert.DHn2Ideal.τ).loc Cert.DHn2Ideal.main_arg2)
          ∧ r.2.mem ((c.tc : Thread Cert.DHn2Ideal.nD Cert.DHn2Ideal.τ).loc Cert.DHn2Ideal.main_arg3) = m ((c.tc : Thread Cert.DHn2Ideal.nD Cert.DHn2Ideal.τ).loc Cert.DHn2Ideal.main_arg3)
          ∧ r.2.mem ((c.tc : Thread Cert.DHn2Ideal.nD Cert.DHn2Ideal.τ).loc Cert.DHn2Ideal.main_arg4) = m ((c.tc : Thread Cert.DHn2Ideal.nD Cert.DHn2Ideal.τ).loc Cert.DHn2Ideal.main_arg4))
      ∧ θ_run (Cert.DHn2RefIdeal.defs (F := Ideal)) (onTc (τ := Cert.DHn2RefIdeal.τ) (Cert.DHn2RefIdeal.main (F := Ideal))) ⟨m', fun _ => 0, g'⟩ (fun r => ∀ c : Dev Cert.DHn2RefIdeal.nD,
          r.2.mem ((c.tc : Thread Cert.DHn2RefIdeal.nD Cert.DHn2RefIdeal.τ).loc Cert.DHn2RefIdeal.main_v38) = v0 c
          ∧ r.2.mem ((c.tc : Thread Cert.DHn2RefIdeal.nD Cert.DHn2RefIdeal.τ).loc Cert.DHn2RefIdeal.main_v39) = v1 c
          ∧ r.2.mem ((c.tc : Thread Cert.DHn2RefIdeal.nD Cert.DHn2RefIdeal.τ).loc Cert.DHn2RefIdeal.main_v21) = v2 c
          ∧ r.2.mem ((c.tc : Thread Cert.DHn2RefIdeal.nD Cert.DHn2RefIdeal.τ).loc Cert.DHn2RefIdeal.main_arg0) = m' ((c.tc : Thread Cert.DHn2RefIdeal.nD Cert.DHn2RefIdeal.τ).loc Cert.DHn2RefIdeal.main_arg0)
          ∧ r.2.mem ((c.tc : Thread Cert.DHn2RefIdeal.nD Cert.DHn2RefIdeal.τ).loc Cert.DHn2RefIdeal.main_arg1) = m' ((c.tc : Thread Cert.DHn2RefIdeal.nD Cert.DHn2RefIdeal.τ).loc Cert.DHn2RefIdeal.main_arg1)
          ∧ r.2.mem ((c.tc : Thread Cert.DHn2RefIdeal.nD Cert.DHn2RefIdeal.τ).loc Cert.DHn2RefIdeal.main_arg2) = m' ((c.tc : Thread Cert.DHn2RefIdeal.nD Cert.DHn2RefIdeal.τ).loc Cert.DHn2RefIdeal.main_arg2)
          ∧ r.2.mem ((c.tc : Thread Cert.DHn2RefIdeal.nD Cert.DHn2RefIdeal.τ).loc Cert.DHn2RefIdeal.main_arg3) = m' ((c.tc : Thread Cert.DHn2RefIdeal.nD Cert.DHn2RefIdeal.τ).loc Cert.DHn2RefIdeal.main_arg3)
          ∧ r.2.mem ((c.tc : Thread Cert.DHn2RefIdeal.nD Cert.DHn2RefIdeal.τ).loc Cert.DHn2RefIdeal.main_arg4) = m' ((c.tc : Thread Cert.DHn2RefIdeal.nD Cert.DHn2RefIdeal.τ).loc Cert.DHn2RefIdeal.main_arg4))

def preserves_DHn1_DHn1Ideal : Prop :=
  True

def algebraic_DHn1Ideal_DHn1RefIdeal [hDHn1Ideal : Cert.DHn1Ideal.Facts] [hDHn1RefIdeal : Cert.DHn1RefIdeal.Facts] : Prop :=
  ∀ (m : (ℓ : Loc Cert.DHn1Ideal.nD Cert.DHn1Ideal.τ Cert.DHn1Ideal.sig) → Buf (Elt Ideal) ℓ) (g : Dev Cert.DHn1Ideal.nD → PrngReg)
    (m' : (ℓ : Loc Cert.DHn1RefIdeal.nD Cert.DHn1RefIdeal.τ Cert.DHn1RefIdeal.sig) → Buf (Elt Ideal) ℓ) (g' : Dev Cert.DHn1RefIdeal.nD → PrngReg), Pre_DHn1Ideal m →
    (∀ c : Dev Cert.DHn1Ideal.nD,
      m' ((c.tc : Thread Cert.DHn1RefIdeal.nD Cert.DHn1RefIdeal.τ).loc Cert.DHn1RefIdeal.main_arg0) = m ((c.tc : Thread Cert.DHn1Ideal.nD Cert.DHn1Ideal.τ).loc Cert.DHn1Ideal.main_arg0)
      ∧ m' ((c.tc : Thread Cert.DHn1RefIdeal.nD Cert.DHn1RefIdeal.τ).loc Cert.DHn1RefIdeal.main_arg1) = m ((c.tc : Thread Cert.DHn1Ideal.nD Cert.DHn1Ideal.τ).loc Cert.DHn1Ideal.main_arg1)
      ∧ m' ((c.tc : Thread Cert.DHn1RefIdeal.nD Cert.DHn1RefIdeal.τ).loc Cert.DHn1RefIdeal.main_arg2) = m ((c.tc : Thread Cert.DHn1Ideal.nD Cert.DHn1Ideal.τ).loc Cert.DHn1Ideal.main_arg2)
      ∧ m' ((c.tc : Thread Cert.DHn1RefIdeal.nD Cert.DHn1RefIdeal.τ).loc Cert.DHn1RefIdeal.main_arg3) = m ((c.tc : Thread Cert.DHn1Ideal.nD Cert.DHn1Ideal.τ).loc Cert.DHn1Ideal.main_arg3)
      ∧ m' ((c.tc : Thread Cert.DHn1RefIdeal.nD Cert.DHn1RefIdeal.τ).loc Cert.DHn1RefIdeal.main_arg4) = m ((c.tc : Thread Cert.DHn1Ideal.nD Cert.DHn1Ideal.τ).loc Cert.DHn1Ideal.main_arg4)
      ∧ m' ((c.tc : Thread Cert.DHn1RefIdeal.nD Cert.DHn1RefIdeal.τ).loc Cert.DHn1RefIdeal.main_arg5) = m ((c.tc : Thread Cert.DHn1Ideal.nD Cert.DHn1Ideal.τ).loc Cert.DHn1Ideal.main_arg5)) →
    ∃ (v0 : (c : Dev Cert.DHn1Ideal.nD) → Buf (Elt Ideal) ((c.tc : Thread Cert.DHn1Ideal.nD Cert.DHn1Ideal.τ).loc Cert.DHn1Ideal.main_v1_0)) (v1 : (c : Dev Cert.DHn1Ideal.nD) → Buf (Elt Ideal) ((c.tc : Thread Cert.DHn1Ideal.nD Cert.DHn1Ideal.τ).loc Cert.DHn1Ideal.main_v1_1)),
      θ_run (Cert.DHn1Ideal.defs (F := Ideal)) (onTc (τ := Cert.DHn1Ideal.τ) (Cert.DHn1Ideal.main (F := Ideal))) ⟨m, fun _ => 0, g⟩ (fun r => ∀ c : Dev Cert.DHn1Ideal.nD,
          r.2.mem ((c.tc : Thread Cert.DHn1Ideal.nD Cert.DHn1Ideal.τ).loc Cert.DHn1Ideal.main_v1_0) = v0 c
          ∧ r.2.mem ((c.tc : Thread Cert.DHn1Ideal.nD Cert.DHn1Ideal.τ).loc Cert.DHn1Ideal.main_v1_1) = v1 c
          ∧ r.2.mem ((c.tc : Thread Cert.DHn1Ideal.nD Cert.DHn1Ideal.τ).loc Cert.DHn1Ideal.main_arg0) = m ((c.tc : Thread Cert.DHn1Ideal.nD Cert.DHn1Ideal.τ).loc Cert.DHn1Ideal.main_arg0)
          ∧ r.2.mem ((c.tc : Thread Cert.DHn1Ideal.nD Cert.DHn1Ideal.τ).loc Cert.DHn1Ideal.main_arg1) = m ((c.tc : Thread Cert.DHn1Ideal.nD Cert.DHn1Ideal.τ).loc Cert.DHn1Ideal.main_arg1)
          ∧ r.2.mem ((c.tc : Thread Cert.DHn1Ideal.nD Cert.DHn1Ideal.τ).loc Cert.DHn1Ideal.main_arg2) = m ((c.tc : Thread Cert.DHn1Ideal.nD Cert.DHn1Ideal.τ).loc Cert.DHn1Ideal.main_arg2)
          ∧ r.2.mem ((c.tc : Thread Cert.DHn1Ideal.nD Cert.DHn1Ideal.τ).loc Cert.DHn1Ideal.main_arg3) = m ((c.tc : Thread Cert.DHn1Ideal.nD Cert.DHn1Ideal.τ).loc Cert.DHn1Ideal.main_arg3)
          ∧ r.2.mem ((c.tc : Thread Cert.DHn1Ideal.nD Cert.DHn1Ideal.τ).loc Cert.DHn1Ideal.main_arg4) = m ((c.tc : Thread Cert.DHn1Ideal.nD Cert.DHn1Ideal.τ).loc Cert.DHn1Ideal.main_arg4)
          ∧ r.2.mem ((c.tc : Thread Cert.DHn1Ideal.nD Cert.DHn1Ideal.τ).loc Cert.DHn1Ideal.main_arg5) = m ((c.tc : Thread Cert.DHn1Ideal.nD Cert.DHn1Ideal.τ).loc Cert.DHn1Ideal.main_arg5))
      ∧ θ_run (Cert.DHn1RefIdeal.defs (F := Ideal)) (onTc (τ := Cert.DHn1RefIdeal.τ) (Cert.DHn1RefIdeal.main (F := Ideal))) ⟨m', fun _ => 0, g'⟩ (fun r => ∀ c : Dev Cert.DHn1RefIdeal.nD,
          r.2.mem ((c.tc : Thread Cert.DHn1RefIdeal.nD Cert.DHn1RefIdeal.τ).loc Cert.DHn1RefIdeal.main_v41) = v0 c
          ∧ r.2.mem ((c.tc : Thread Cert.DHn1RefIdeal.nD Cert.DHn1RefIdeal.τ).loc Cert.DHn1RefIdeal.main_v24) = v1 c
          ∧ r.2.mem ((c.tc : Thread Cert.DHn1RefIdeal.nD Cert.DHn1RefIdeal.τ).loc Cert.DHn1RefIdeal.main_arg0) = m' ((c.tc : Thread Cert.DHn1RefIdeal.nD Cert.DHn1RefIdeal.τ).loc Cert.DHn1RefIdeal.main_arg0)
          ∧ r.2.mem ((c.tc : Thread Cert.DHn1RefIdeal.nD Cert.DHn1RefIdeal.τ).loc Cert.DHn1RefIdeal.main_arg1) = m' ((c.tc : Thread Cert.DHn1RefIdeal.nD Cert.DHn1RefIdeal.τ).loc Cert.DHn1RefIdeal.main_arg1)
          ∧ r.2.mem ((c.tc : Thread Cert.DHn1RefIdeal.nD Cert.DHn1RefIdeal.τ).loc Cert.DHn1RefIdeal.main_arg2) = m' ((c.tc : Thread Cert.DHn1RefIdeal.nD Cert.DHn1RefIdeal.τ).loc Cert.DHn1RefIdeal.main_arg2)
          ∧ r.2.mem ((c.tc : Thread Cert.DHn1RefIdeal.nD Cert.DHn1RefIdeal.τ).loc Cert.DHn1RefIdeal.main_arg3) = m' ((c.tc : Thread Cert.DHn1RefIdeal.nD Cert.DHn1RefIdeal.τ).loc Cert.DHn1RefIdeal.main_arg3)
          ∧ r.2.mem ((c.tc : Thread Cert.DHn1RefIdeal.nD Cert.DHn1RefIdeal.τ).loc Cert.DHn1RefIdeal.main_arg4) = m' ((c.tc : Thread Cert.DHn1RefIdeal.nD Cert.DHn1RefIdeal.τ).loc Cert.DHn1RefIdeal.main_arg4)
          ∧ r.2.mem ((c.tc : Thread Cert.DHn1RefIdeal.nD Cert.DHn1RefIdeal.τ).loc Cert.DHn1RefIdeal.main_arg5) = m' ((c.tc : Thread Cert.DHn1RefIdeal.nD Cert.DHn1RefIdeal.τ).loc Cert.DHn1RefIdeal.main_arg5))

def preserves_GInHg_GInHgIdeal : Prop :=
  True

def algebraic_GInHgIdeal_GInHgRefIdeal [hGInHgIdeal : Cert.GInHgIdeal.Facts] [hGInHgRefIdeal : Cert.GInHgRefIdeal.Facts] : Prop :=
  ∀ (m : (ℓ : Loc Cert.GInHgIdeal.nD Cert.GInHgIdeal.τ Cert.GInHgIdeal.sig) → Buf (Elt Ideal) ℓ) (g : Dev Cert.GInHgIdeal.nD → PrngReg)
    (m' : (ℓ : Loc Cert.GInHgRefIdeal.nD Cert.GInHgRefIdeal.τ Cert.GInHgRefIdeal.sig) → Buf (Elt Ideal) ℓ) (g' : Dev Cert.GInHgRefIdeal.nD → PrngReg), Pre_GInHgIdeal m →
    (∀ c : Dev Cert.GInHgIdeal.nD,
      m' ((c.tc : Thread Cert.GInHgRefIdeal.nD Cert.GInHgRefIdeal.τ).loc Cert.GInHgRefIdeal.main_arg0) = m ((c.tc : Thread Cert.GInHgIdeal.nD Cert.GInHgIdeal.τ).loc Cert.GInHgIdeal.main_arg0)
      ∧ m' ((c.tc : Thread Cert.GInHgRefIdeal.nD Cert.GInHgRefIdeal.τ).loc Cert.GInHgRefIdeal.main_arg1) = m ((c.tc : Thread Cert.GInHgIdeal.nD Cert.GInHgIdeal.τ).loc Cert.GInHgIdeal.main_arg1)
      ∧ m' ((c.tc : Thread Cert.GInHgRefIdeal.nD Cert.GInHgRefIdeal.τ).loc Cert.GInHgRefIdeal.main_arg2) = m ((c.tc : Thread Cert.GInHgIdeal.nD Cert.GInHgIdeal.τ).loc Cert.GInHgIdeal.main_arg2)) →
    ∃ (v0 : (c : Dev Cert.GInHgIdeal.nD) → Buf (Elt Ideal) ((c.tc : Thread Cert.GInHgIdeal.nD Cert.GInHgIdeal.τ).loc Cert.GInHgIdeal.main_v1)),
      θ_run (Cert.GInHgIdeal.defs (F := Ideal)) (onTc (τ := Cert.GInHgIdeal.τ) (Cert.GInHgIdeal.main (F := Ideal))) ⟨m, fun _ => 0, g⟩ (fun r => ∀ c : Dev Cert.GInHgIdeal.nD,
          r.2.mem ((c.tc : Thread Cert.GInHgIdeal.nD Cert.GInHgIdeal.τ).loc Cert.GInHgIdeal.main_v1) = v0 c
          ∧ r.2.mem ((c.tc : Thread Cert.GInHgIdeal.nD Cert.GInHgIdeal.τ).loc Cert.GInHgIdeal.main_arg0) = m ((c.tc : Thread Cert.GInHgIdeal.nD Cert.GInHgIdeal.τ).loc Cert.GInHgIdeal.main_arg0)
          ∧ r.2.mem ((c.tc : Thread Cert.GInHgIdeal.nD Cert.GInHgIdeal.τ).loc Cert.GInHgIdeal.main_arg1) = m ((c.tc : Thread Cert.GInHgIdeal.nD Cert.GInHgIdeal.τ).loc Cert.GInHgIdeal.main_arg1)
          ∧ r.2.mem ((c.tc : Thread Cert.GInHgIdeal.nD Cert.GInHgIdeal.τ).loc Cert.GInHgIdeal.main_arg2) = m ((c.tc : Thread Cert.GInHgIdeal.nD Cert.GInHgIdeal.τ).loc Cert.GInHgIdeal.main_arg2))
      ∧ θ_run (Cert.GInHgRefIdeal.defs (F := Ideal)) (onTc (τ := Cert.GInHgRefIdeal.τ) (Cert.GInHgRefIdeal.main (F := Ideal))) ⟨m', fun _ => 0, g'⟩ (fun r => ∀ c : Dev Cert.GInHgRefIdeal.nD,
          r.2.mem ((c.tc : Thread Cert.GInHgRefIdeal.nD Cert.GInHgRefIdeal.τ).loc Cert.GInHgRefIdeal.main_v8) = v0 c
          ∧ r.2.mem ((c.tc : Thread Cert.GInHgRefIdeal.nD Cert.GInHgRefIdeal.τ).loc Cert.GInHgRefIdeal.main_arg0) = m' ((c.tc : Thread Cert.GInHgRefIdeal.nD Cert.GInHgRefIdeal.τ).loc Cert.GInHgRefIdeal.main_arg0)
          ∧ r.2.mem ((c.tc : Thread Cert.GInHgRefIdeal.nD Cert.GInHgRefIdeal.τ).loc Cert.GInHgRefIdeal.main_arg1) = m' ((c.tc : Thread Cert.GInHgRefIdeal.nD Cert.GInHgRefIdeal.τ).loc Cert.GInHgRefIdeal.main_arg1)
          ∧ r.2.mem ((c.tc : Thread Cert.GInHgRefIdeal.nD Cert.GInHgRefIdeal.τ).loc Cert.GInHgRefIdeal.main_arg2) = m' ((c.tc : Thread Cert.GInHgRefIdeal.nD Cert.GInHgRefIdeal.τ).loc Cert.GInHgRefIdeal.main_arg2))

def preserves_GInSw_GInSwIdeal : Prop :=
  True

def algebraic_GInSwIdeal_GInSwRefIdeal [hGInSwIdeal : Cert.GInSwIdeal.Facts] [hGInSwRefIdeal : Cert.GInSwRefIdeal.Facts] : Prop :=
  ∀ (m : (ℓ : Loc Cert.GInSwIdeal.nD Cert.GInSwIdeal.τ Cert.GInSwIdeal.sig) → Buf (Elt Ideal) ℓ) (g : Dev Cert.GInSwIdeal.nD → PrngReg)
    (m' : (ℓ : Loc Cert.GInSwRefIdeal.nD Cert.GInSwRefIdeal.τ Cert.GInSwRefIdeal.sig) → Buf (Elt Ideal) ℓ) (g' : Dev Cert.GInSwRefIdeal.nD → PrngReg), Pre_GInSwIdeal m →
    (∀ c : Dev Cert.GInSwIdeal.nD,
      m' ((c.tc : Thread Cert.GInSwRefIdeal.nD Cert.GInSwRefIdeal.τ).loc Cert.GInSwRefIdeal.main_arg0) = m ((c.tc : Thread Cert.GInSwIdeal.nD Cert.GInSwIdeal.τ).loc Cert.GInSwIdeal.main_arg0)
      ∧ m' ((c.tc : Thread Cert.GInSwRefIdeal.nD Cert.GInSwRefIdeal.τ).loc Cert.GInSwRefIdeal.main_arg1) = m ((c.tc : Thread Cert.GInSwIdeal.nD Cert.GInSwIdeal.τ).loc Cert.GInSwIdeal.main_arg1)
      ∧ m' ((c.tc : Thread Cert.GInSwRefIdeal.nD Cert.GInSwRefIdeal.τ).loc Cert.GInSwRefIdeal.main_arg2) = m ((c.tc : Thread Cert.GInSwIdeal.nD Cert.GInSwIdeal.τ).loc Cert.GInSwIdeal.main_arg2)
      ∧ m' ((c.tc : Thread Cert.GInSwRefIdeal.nD Cert.GInSwRefIdeal.τ).loc Cert.GInSwRefIdeal.main_arg3) = m ((c.tc : Thread Cert.GInSwIdeal.nD Cert.GInSwIdeal.τ).loc Cert.GInSwIdeal.main_arg3)) →
    ∃ (v0 : (c : Dev Cert.GInSwIdeal.nD) → Buf (Elt Ideal) ((c.tc : Thread Cert.GInSwIdeal.nD Cert.GInSwIdeal.τ).loc Cert.GInSwIdeal.main_v0)),
      θ_run (Cert.GInSwIdeal.defs (F := Ideal)) (onTc (τ := Cert.GInSwIdeal.τ) (Cert.GInSwIdeal.main (F := Ideal))) ⟨m, fun _ => 0, g⟩ (fun r => ∀ c : Dev Cert.GInSwIdeal.nD,
          r.2.mem ((c.tc : Thread Cert.GInSwIdeal.nD Cert.GInSwIdeal.τ).loc Cert.GInSwIdeal.main_v0) = v0 c
          ∧ r.2.mem ((c.tc : Thread Cert.GInSwIdeal.nD Cert.GInSwIdeal.τ).loc Cert.GInSwIdeal.main_arg0) = m ((c.tc : Thread Cert.GInSwIdeal.nD Cert.GInSwIdeal.τ).loc Cert.GInSwIdeal.main_arg0)
          ∧ r.2.mem ((c.tc : Thread Cert.GInSwIdeal.nD Cert.GInSwIdeal.τ).loc Cert.GInSwIdeal.main_arg1) = m ((c.tc : Thread Cert.GInSwIdeal.nD Cert.GInSwIdeal.τ).loc Cert.GInSwIdeal.main_arg1)
          ∧ r.2.mem ((c.tc : Thread Cert.GInSwIdeal.nD Cert.GInSwIdeal.τ).loc Cert.GInSwIdeal.main_arg2) = m ((c.tc : Thread Cert.GInSwIdeal.nD Cert.GInSwIdeal.τ).loc Cert.GInSwIdeal.main_arg2)
          ∧ r.2.mem ((c.tc : Thread Cert.GInSwIdeal.nD Cert.GInSwIdeal.τ).loc Cert.GInSwIdeal.main_arg3) = m ((c.tc : Thread Cert.GInSwIdeal.nD Cert.GInSwIdeal.τ).loc Cert.GInSwIdeal.main_arg3))
      ∧ θ_run (Cert.GInSwRefIdeal.defs (F := Ideal)) (onTc (τ := Cert.GInSwRefIdeal.τ) (Cert.GInSwRefIdeal.main (F := Ideal))) ⟨m', fun _ => 0, g'⟩ (fun r => ∀ c : Dev Cert.GInSwRefIdeal.nD,
          r.2.mem ((c.tc : Thread Cert.GInSwRefIdeal.nD Cert.GInSwRefIdeal.τ).loc Cert.GInSwRefIdeal.main_v10) = v0 c
          ∧ r.2.mem ((c.tc : Thread Cert.GInSwRefIdeal.nD Cert.GInSwRefIdeal.τ).loc Cert.GInSwRefIdeal.main_arg0) = m' ((c.tc : Thread Cert.GInSwRefIdeal.nD Cert.GInSwRefIdeal.τ).loc Cert.GInSwRefIdeal.main_arg0)
          ∧ r.2.mem ((c.tc : Thread Cert.GInSwRefIdeal.nD Cert.GInSwRefIdeal.τ).loc Cert.GInSwRefIdeal.main_arg1) = m' ((c.tc : Thread Cert.GInSwRefIdeal.nD Cert.GInSwRefIdeal.τ).loc Cert.GInSwRefIdeal.main_arg1)
          ∧ r.2.mem ((c.tc : Thread Cert.GInSwRefIdeal.nD Cert.GInSwRefIdeal.τ).loc Cert.GInSwRefIdeal.main_arg2) = m' ((c.tc : Thread Cert.GInSwRefIdeal.nD Cert.GInSwRefIdeal.τ).loc Cert.GInSwRefIdeal.main_arg2)
          ∧ r.2.mem ((c.tc : Thread Cert.GInSwRefIdeal.nD Cert.GInSwRefIdeal.τ).loc Cert.GInSwRefIdeal.main_arg3) = m' ((c.tc : Thread Cert.GInSwRefIdeal.nD Cert.GInSwRefIdeal.τ).loc Cert.GInSwRefIdeal.main_arg3))

def preserves_Norm1_Norm1Ideal : Prop :=
  True

def algebraic_Norm1Ideal_Norm1RefIdeal [hNorm1Ideal : Cert.Norm1Ideal.Facts] [hNorm1RefIdeal : Cert.Norm1RefIdeal.Facts] : Prop :=
  ∀ (m : (ℓ : Loc Cert.Norm1Ideal.nD Cert.Norm1Ideal.τ Cert.Norm1Ideal.sig) → Buf (Elt Ideal) ℓ) (g : Dev Cert.Norm1Ideal.nD → PrngReg)
    (m' : (ℓ : Loc Cert.Norm1RefIdeal.nD Cert.Norm1RefIdeal.τ Cert.Norm1RefIdeal.sig) → Buf (Elt Ideal) ℓ) (g' : Dev Cert.Norm1RefIdeal.nD → PrngReg), Pre_Norm1Ideal m →
    (∀ c : Dev Cert.Norm1Ideal.nD,
      m' ((c.tc : Thread Cert.Norm1RefIdeal.nD Cert.Norm1RefIdeal.τ).loc Cert.Norm1RefIdeal.main_arg0) = m ((c.tc : Thread Cert.Norm1Ideal.nD Cert.Norm1Ideal.τ).loc Cert.Norm1Ideal.main_arg0)
      ∧ m' ((c.tc : Thread Cert.Norm1RefIdeal.nD Cert.Norm1RefIdeal.τ).loc Cert.Norm1RefIdeal.main_arg1) = m ((c.tc : Thread Cert.Norm1Ideal.nD Cert.Norm1Ideal.τ).loc Cert.Norm1Ideal.main_arg1)) →
    ∃ (v0 : (c : Dev Cert.Norm1Ideal.nD) → Buf (Elt Ideal) ((c.tc : Thread Cert.Norm1Ideal.nD Cert.Norm1Ideal.τ).loc Cert.Norm1Ideal.main_v0)),
      θ_run (Cert.Norm1Ideal.defs (F := Ideal)) (onTc (τ := Cert.Norm1Ideal.τ) (Cert.Norm1Ideal.main (F := Ideal))) ⟨m, fun _ => 0, g⟩ (fun r => ∀ c : Dev Cert.Norm1Ideal.nD,
          r.2.mem ((c.tc : Thread Cert.Norm1Ideal.nD Cert.Norm1Ideal.τ).loc Cert.Norm1Ideal.main_v0) = v0 c
          ∧ r.2.mem ((c.tc : Thread Cert.Norm1Ideal.nD Cert.Norm1Ideal.τ).loc Cert.Norm1Ideal.main_arg0) = m ((c.tc : Thread Cert.Norm1Ideal.nD Cert.Norm1Ideal.τ).loc Cert.Norm1Ideal.main_arg0)
          ∧ r.2.mem ((c.tc : Thread Cert.Norm1Ideal.nD Cert.Norm1Ideal.τ).loc Cert.Norm1Ideal.main_arg1) = m ((c.tc : Thread Cert.Norm1Ideal.nD Cert.Norm1Ideal.τ).loc Cert.Norm1Ideal.main_arg1))
      ∧ θ_run (Cert.Norm1RefIdeal.defs (F := Ideal)) (onTc (τ := Cert.Norm1RefIdeal.τ) (Cert.Norm1RefIdeal.main (F := Ideal))) ⟨m', fun _ => 0, g'⟩ (fun r => ∀ c : Dev Cert.Norm1RefIdeal.nD,
          r.2.mem ((c.tc : Thread Cert.Norm1RefIdeal.nD Cert.Norm1RefIdeal.τ).loc Cert.Norm1RefIdeal.main_v12) = v0 c
          ∧ r.2.mem ((c.tc : Thread Cert.Norm1RefIdeal.nD Cert.Norm1RefIdeal.τ).loc Cert.Norm1RefIdeal.main_arg0) = m' ((c.tc : Thread Cert.Norm1RefIdeal.nD Cert.Norm1RefIdeal.τ).loc Cert.Norm1RefIdeal.main_arg0)
          ∧ r.2.mem ((c.tc : Thread Cert.Norm1RefIdeal.nD Cert.Norm1RefIdeal.τ).loc Cert.Norm1RefIdeal.main_arg1) = m' ((c.tc : Thread Cert.Norm1RefIdeal.nD Cert.Norm1RefIdeal.τ).loc Cert.Norm1RefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemGain_MemGainIdeal : Prop :=
  True

def algebraic_MemGainIdeal_MemGainRefIdeal [hMemGainIdeal : Cert.MemGainIdeal.Facts] [hMemGainRefIdeal : Cert.MemGainRefIdeal.Facts] : Prop :=
  ∀ (m : (ℓ : Loc Cert.MemGainIdeal.nD Cert.MemGainIdeal.τ Cert.MemGainIdeal.sig) → Buf (Elt Ideal) ℓ) (g : Dev Cert.MemGainIdeal.nD → PrngReg)
    (m' : (ℓ : Loc Cert.MemGainRefIdeal.nD Cert.MemGainRefIdeal.τ Cert.MemGainRefIdeal.sig) → Buf (Elt Ideal) ℓ) (g' : Dev Cert.MemGainRefIdeal.nD → PrngReg), Pre_MemGainIdeal m →
    (∀ c : Dev Cert.MemGainIdeal.nD,
      m' ((c.tc : Thread Cert.MemGainRefIdeal.nD Cert.MemGainRefIdeal.τ).loc Cert.MemGainRefIdeal.main_arg0) = m ((c.tc : Thread Cert.MemGainIdeal.nD Cert.MemGainIdeal.τ).loc Cert.MemGainIdeal.main_arg0)
      ∧ m' ((c.tc : Thread Cert.MemGainRefIdeal.nD Cert.MemGainRefIdeal.τ).loc Cert.MemGainRefIdeal.main_arg1) = m ((c.tc : Thread Cert.MemGainIdeal.nD Cert.MemGainIdeal.τ).loc Cert.MemGainIdeal.main_arg1)
      ∧ m' ((c.tc : Thread Cert.MemGainRefIdeal.nD Cert.MemGainRefIdeal.τ).loc Cert.MemGainRefIdeal.main_arg2) = m ((c.tc : Thread Cert.MemGainIdeal.nD Cert.MemGainIdeal.τ).loc Cert.MemGainIdeal.main_arg2)) →
    ∃ (v0 : (c : Dev Cert.MemGainIdeal.nD) → Buf (Elt Ideal) ((c.tc : Thread Cert.MemGainIdeal.nD Cert.MemGainIdeal.τ).loc Cert.MemGainIdeal.main_v0)),
      θ_run (Cert.MemGainIdeal.defs (F := Ideal)) (onTc (τ := Cert.MemGainIdeal.τ) (Cert.MemGainIdeal.main (F := Ideal))) ⟨m, fun _ => 0, g⟩ (fun r => ∀ c : Dev Cert.MemGainIdeal.nD,
          r.2.mem ((c.tc : Thread Cert.MemGainIdeal.nD Cert.MemGainIdeal.τ).loc Cert.MemGainIdeal.main_v0) = v0 c
          ∧ r.2.mem ((c.tc : Thread Cert.MemGainIdeal.nD Cert.MemGainIdeal.τ).loc Cert.MemGainIdeal.main_arg0) = m ((c.tc : Thread Cert.MemGainIdeal.nD Cert.MemGainIdeal.τ).loc Cert.MemGainIdeal.main_arg0)
          ∧ r.2.mem ((c.tc : Thread Cert.MemGainIdeal.nD Cert.MemGainIdeal.τ).loc Cert.MemGainIdeal.main_arg1) = m ((c.tc : Thread Cert.MemGainIdeal.nD Cert.MemGainIdeal.τ).loc Cert.MemGainIdeal.main_arg1)
          ∧ r.2.mem ((c.tc : Thread Cert.MemGainIdeal.nD Cert.MemGainIdeal.τ).loc Cert.MemGainIdeal.main_arg2) = m ((c.tc : Thread Cert.MemGainIdeal.nD Cert.MemGainIdeal.τ).loc Cert.MemGainIdeal.main_arg2))
      ∧ θ_run (Cert.MemGainRefIdeal.defs (F := Ideal)) (onTc (τ := Cert.MemGainRefIdeal.τ) (Cert.MemGainRefIdeal.main (F := Ideal))) ⟨m', fun _ => 0, g'⟩ (fun r => ∀ c : Dev Cert.MemGainRefIdeal.nD,
          r.2.mem ((c.tc : Thread Cert.MemGainRefIdeal.nD Cert.MemGainRefIdeal.τ).loc Cert.MemGainRefIdeal.main_v14) = v0 c
          ∧ r.2.mem ((c.tc : Thread Cert.MemGainRefIdeal.nD Cert.MemGainRefIdeal.τ).loc Cert.MemGainRefIdeal.main_arg0) = m' ((c.tc : Thread Cert.MemGainRefIdeal.nD Cert.MemGainRefIdeal.τ).loc Cert.MemGainRefIdeal.main_arg0)
          ∧ r.2.mem ((c.tc : Thread Cert.MemGainRefIdeal.nD Cert.MemGainRefIdeal.τ).loc Cert.MemGainRefIdeal.main_arg1) = m' ((c.tc : Thread Cert.MemGainRefIdeal.nD Cert.MemGainRefIdeal.τ).loc Cert.MemGainRefIdeal.main_arg1)
          ∧ r.2.mem ((c.tc : Thread Cert.MemGainRefIdeal.nD Cert.MemGainRefIdeal.τ).loc Cert.MemGainRefIdeal.main_arg2) = m' ((c.tc : Thread Cert.MemGainRefIdeal.nD Cert.MemGainRefIdeal.τ).loc Cert.MemGainRefIdeal.main_arg2))

def preserves_XaFwd_XaFwdIdeal : Prop :=
  True

def algebraic_XaFwdIdeal_XaFwdRefIdeal_pre_finite_gains [hXaFwdIdeal : Cert.XaFwdIdeal.Facts] [hXaFwdRefIdeal : Cert.XaFwdRefIdeal.Facts] [hPre_finite_gains : Cert.Pre_finite_gains.Facts] : Prop :=
  ∀ (m : (ℓ : Loc Cert.XaFwdIdeal.nD Cert.XaFwdIdeal.τ Cert.XaFwdIdeal.sig) → Buf (Elt Ideal) ℓ) (g : Dev Cert.XaFwdIdeal.nD → PrngReg)
    (m' : (ℓ : Loc Cert.XaFwdRefIdeal.nD Cert.XaFwdRefIdeal.τ Cert.XaFwdRefIdeal.sig) → Buf (Elt Ideal) ℓ) (g' : Dev Cert.XaFwdRefIdeal.nD → PrngReg), Pre_XaFwdIdeal_finite_gains m →
    (∀ c : Dev Cert.XaFwdIdeal.nD,
      m' ((c.tc : Thread Cert.XaFwdRefIdeal.nD Cert.XaFwdRefIdeal.τ).loc Cert.XaFwdRefIdeal.main_arg0) = m ((c.tc : Thread Cert.XaFwdIdeal.nD Cert.XaFwdIdeal.τ).loc Cert.XaFwdIdeal.main_arg0)
      ∧ m' ((c.tc : Thread Cert.XaFwdRefIdeal.nD Cert.XaFwdRefIdeal.τ).loc Cert.XaFwdRefIdeal.main_arg1) = m ((c.tc : Thread Cert.XaFwdIdeal.nD Cert.XaFwdIdeal.τ).loc Cert.XaFwdIdeal.main_arg1)
      ∧ m' ((c.tc : Thread Cert.XaFwdRefIdeal.nD Cert.XaFwdRefIdeal.τ).loc Cert.XaFwdRefIdeal.main_arg2) = m ((c.tc : Thread Cert.XaFwdIdeal.nD Cert.XaFwdIdeal.τ).loc Cert.XaFwdIdeal.main_arg2)
      ∧ m' ((c.tc : Thread Cert.XaFwdRefIdeal.nD Cert.XaFwdRefIdeal.τ).loc Cert.XaFwdRefIdeal.main_arg3) = m ((c.tc : Thread Cert.XaFwdIdeal.nD Cert.XaFwdIdeal.τ).loc Cert.XaFwdIdeal.main_arg3)) →
    ∃ (v0 : (c : Dev Cert.XaFwdIdeal.nD) → Buf (Elt Ideal) ((c.tc : Thread Cert.XaFwdIdeal.nD Cert.XaFwdIdeal.τ).loc Cert.XaFwdIdeal.main_v0)),
      θ_run (Cert.XaFwdIdeal.defs (F := Ideal)) (onTc (τ := Cert.XaFwdIdeal.τ) (Cert.XaFwdIdeal.main (F := Ideal))) ⟨m, fun _ => 0, g⟩ (fun r => ∀ c : Dev Cert.XaFwdIdeal.nD,
          r.2.mem ((c.tc : Thread Cert.XaFwdIdeal.nD Cert.XaFwdIdeal.τ).loc Cert.XaFwdIdeal.main_v0) = v0 c
          ∧ r.2.mem ((c.tc : Thread Cert.XaFwdIdeal.nD Cert.XaFwdIdeal.τ).loc Cert.XaFwdIdeal.main_arg0) = m ((c.tc : Thread Cert.XaFwdIdeal.nD Cert.XaFwdIdeal.τ).loc Cert.XaFwdIdeal.main_arg0)
          ∧ r.2.mem ((c.tc : Thread Cert.XaFwdIdeal.nD Cert.XaFwdIdeal.τ).loc Cert.XaFwdIdeal.main_arg1) = m ((c.tc : Thread Cert.XaFwdIdeal.nD Cert.XaFwdIdeal.τ).loc Cert.XaFwdIdeal.main_arg1)
          ∧ r.2.mem ((c.tc : Thread Cert.XaFwdIdeal.nD Cert.XaFwdIdeal.τ).loc Cert.XaFwdIdeal.main_arg2) = m ((c.tc : Thread Cert.XaFwdIdeal.nD Cert.XaFwdIdeal.τ).loc Cert.XaFwdIdeal.main_arg2)
          ∧ r.2.mem ((c.tc : Thread Cert.XaFwdIdeal.nD Cert.XaFwdIdeal.τ).loc Cert.XaFwdIdeal.main_arg3) = m ((c.tc : Thread Cert.XaFwdIdeal.nD Cert.XaFwdIdeal.τ).loc Cert.XaFwdIdeal.main_arg3))
      ∧ θ_run (Cert.XaFwdRefIdeal.defs (F := Ideal)) (onTc (τ := Cert.XaFwdRefIdeal.τ) (Cert.XaFwdRefIdeal.main (F := Ideal))) ⟨m', fun _ => 0, g'⟩ (fun r => ∀ c : Dev Cert.XaFwdRefIdeal.nD,
          r.2.mem ((c.tc : Thread Cert.XaFwdRefIdeal.nD Cert.XaFwdRefIdeal.τ).loc Cert.XaFwdRefIdeal.main_v49) = v0 c
          ∧ r.2.mem ((c.tc : Thread Cert.XaFwdRefIdeal.nD Cert.XaFwdRefIdeal.τ).loc Cert.XaFwdRefIdeal.main_arg0) = m' ((c.tc : Thread Cert.XaFwdRefIdeal.nD Cert.XaFwdRefIdeal.τ).loc Cert.XaFwdRefIdeal.main_arg0)
          ∧ r.2.mem ((c.tc : Thread Cert.XaFwdRefIdeal.nD Cert.XaFwdRefIdeal.τ).loc Cert.XaFwdRefIdeal.main_arg1) = m' ((c.tc : Thread Cert.XaFwdRefIdeal.nD Cert.XaFwdRefIdeal.τ).loc Cert.XaFwdRefIdeal.main_arg1)
          ∧ r.2.mem ((c.tc : Thread Cert.XaFwdRefIdeal.nD Cert.XaFwdRefIdeal.τ).loc Cert.XaFwdRefIdeal.main_arg2) = m' ((c.tc : Thread Cert.XaFwdRefIdeal.nD Cert.XaFwdRefIdeal.τ).loc Cert.XaFwdRefIdeal.main_arg2)
          ∧ r.2.mem ((c.tc : Thread Cert.XaFwdRefIdeal.nD Cert.XaFwdRefIdeal.τ).loc Cert.XaFwdRefIdeal.main_arg3) = m' ((c.tc : Thread Cert.XaFwdRefIdeal.nD Cert.XaFwdRefIdeal.τ).loc Cert.XaFwdRefIdeal.main_arg3))

def preserves_LossFinish_LossFinishIdeal : Prop :=
  True

def algebraic_LossFinishIdeal_LossFinishRefIdeal [hLossFinishIdeal : Cert.LossFinishIdeal.Facts] [hLossFinishRefIdeal : Cert.LossFinishRefIdeal.Facts] : Prop :=
  ∀ (m : (ℓ : Loc Cert.LossFinishIdeal.nD Cert.LossFinishIdeal.τ Cert.LossFinishIdeal.sig) → Buf (Elt Ideal) ℓ) (g : Dev Cert.LossFinishIdeal.nD → PrngReg)
    (m' : (ℓ : Loc Cert.LossFinishRefIdeal.nD Cert.LossFinishRefIdeal.τ Cert.LossFinishRefIdeal.sig) → Buf (Elt Ideal) ℓ) (g' : Dev Cert.LossFinishRefIdeal.nD → PrngReg), Pre_LossFinishIdeal m →
    (∀ c : Dev Cert.LossFinishIdeal.nD,
      m' ((c.tc : Thread Cert.LossFinishRefIdeal.nD Cert.LossFinishRefIdeal.τ).loc Cert.LossFinishRefIdeal.main_arg0) = m ((c.tc : Thread Cert.LossFinishIdeal.nD Cert.LossFinishIdeal.τ).loc Cert.LossFinishIdeal.main_arg0)) →
    ∃ (v0 : (c : Dev Cert.LossFinishIdeal.nD) → Buf (Elt Ideal) ((c.tc : Thread Cert.LossFinishIdeal.nD Cert.LossFinishIdeal.τ).loc Cert.LossFinishIdeal.main_v0)),
      θ_run (Cert.LossFinishIdeal.defs (F := Ideal)) (onTc (τ := Cert.LossFinishIdeal.τ) (Cert.LossFinishIdeal.main (F := Ideal))) ⟨m, fun _ => 0, g⟩ (fun r => ∀ c : Dev Cert.LossFinishIdeal.nD,
          r.2.mem ((c.tc : Thread Cert.LossFinishIdeal.nD Cert.LossFinishIdeal.τ).loc Cert.LossFinishIdeal.main_v0) = v0 c
          ∧ r.2.mem ((c.tc : Thread Cert.LossFinishIdeal.nD Cert.LossFinishIdeal.τ).loc Cert.LossFinishIdeal.main_arg0) = m ((c.tc : Thread Cert.LossFinishIdeal.nD Cert.LossFinishIdeal.τ).loc Cert.LossFinishIdeal.main_arg0))
      ∧ θ_run (Cert.LossFinishRefIdeal.defs (F := Ideal)) (onTc (τ := Cert.LossFinishRefIdeal.τ) (Cert.LossFinishRefIdeal.main (F := Ideal))) ⟨m', fun _ => 0, g'⟩ (fun r => ∀ c : Dev Cert.LossFinishRefIdeal.nD,
          r.2.mem ((c.tc : Thread Cert.LossFinishRefIdeal.nD Cert.LossFinishRefIdeal.τ).loc Cert.LossFinishRefIdeal.main_v3) = v0 c
          ∧ r.2.mem ((c.tc : Thread Cert.LossFinishRefIdeal.nD Cert.LossFinishRefIdeal.τ).loc Cert.LossFinishRefIdeal.main_arg0) = m' ((c.tc : Thread Cert.LossFinishRefIdeal.nD Cert.LossFinishRefIdeal.τ).loc Cert.LossFinishRefIdeal.main_arg0))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)
      ∧ m' ((c.tc : Thread Cert.SumDevicesRefIdeal.nD Cert.SumDevicesRefIdeal.τ).loc Cert.SumDevicesRefIdeal.main_arg1) = m ((c.tc : Thread Cert.SumDevicesIdeal.nD Cert.SumDevicesIdeal.τ).loc Cert.SumDevicesIdeal.main_arg1)
      ∧ m' ((c.tc : Thread Cert.SumDevicesRefIdeal.nD Cert.SumDevicesRefIdeal.τ).loc Cert.SumDevicesRefIdeal.main_arg2) = m ((c.tc : Thread Cert.SumDevicesIdeal.nD Cert.SumDevicesIdeal.τ).loc Cert.SumDevicesIdeal.main_arg2)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0)
          ∧ r.2.mem ((c.tc : Thread Cert.SumDevicesIdeal.nD Cert.SumDevicesIdeal.τ).loc Cert.SumDevicesIdeal.main_arg1) = m ((c.tc : Thread Cert.SumDevicesIdeal.nD Cert.SumDevicesIdeal.τ).loc Cert.SumDevicesIdeal.main_arg1)
          ∧ r.2.mem ((c.tc : Thread Cert.SumDevicesIdeal.nD Cert.SumDevicesIdeal.τ).loc Cert.SumDevicesIdeal.main_arg2) = m ((c.tc : Thread Cert.SumDevicesIdeal.nD Cert.SumDevicesIdeal.τ).loc Cert.SumDevicesIdeal.main_arg2))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v6) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0)
          ∧ r.2.mem ((c.tc : Thread Cert.SumDevicesRefIdeal.nD Cert.SumDevicesRefIdeal.τ).loc Cert.SumDevicesRefIdeal.main_arg1) = m' ((c.tc : Thread Cert.SumDevicesRefIdeal.nD Cert.SumDevicesRefIdeal.τ).loc Cert.SumDevicesRefIdeal.main_arg1)
          ∧ r.2.mem ((c.tc : Thread Cert.SumDevicesRefIdeal.nD Cert.SumDevicesRefIdeal.τ).loc Cert.SumDevicesRefIdeal.main_arg2) = m' ((c.tc : Thread Cert.SumDevicesRefIdeal.nD Cert.SumDevicesRefIdeal.τ).loc Cert.SumDevicesRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDAct : Cert.DAct.Facts) (hDActIdeal : Cert.DActIdeal.Facts) (hDActRefIdeal : Cert.DActRefIdeal.Facts) (hGDown : Cert.GDown.Facts) (hGDownIdeal : Cert.GDownIdeal.Facts) (hGDownRefIdeal : Cert.GDownRefIdeal.Facts) (hGUp : Cert.GUp.Facts) (hGUpIdeal : Cert.GUpIdeal.Facts) (hGUpRefIdeal : Cert.GUpRefIdeal.Facts) (hProjHg : Cert.ProjHg.Facts) (hProjHgIdeal : Cert.ProjHgIdeal.Facts) (hProjHgRefIdeal : Cert.ProjHgRefIdeal.Facts) (hProjSw : Cert.ProjSw.Facts) (hProjSwIdeal : Cert.ProjSwIdeal.Facts) (hProjSwRefIdeal : Cert.ProjSwRefIdeal.Facts) (hOutProj : Cert.OutProj.Facts) (hOutProjIdeal : Cert.OutProjIdeal.Facts) (hOutProjRefIdeal : Cert.OutProjRefIdeal.Facts) (hDMix : Cert.DMix.Facts) (hDMixIdeal : Cert.DMixIdeal.Facts) (hDMixRefIdeal : Cert.DMixRefIdeal.Facts) (hGWout : Cert.GWout.Facts) (hGWoutIdeal : Cert.GWoutIdeal.Facts) (hGWoutRefIdeal : Cert.GWoutRefIdeal.Facts) (hXaQ : Cert.XaQ.Facts) (hXaQIdeal : Cert.XaQIdeal.Facts) (hXaQRefIdeal : Cert.XaQRefIdeal.Facts) (hXaKv : Cert.XaKv.Facts) (hXaKvIdeal : Cert.XaKvIdeal.Facts) (hXaKvRefIdeal : Cert.XaKvRefIdeal.Facts) (hXaO : Cert.XaO.Facts) (hXaOIdeal : Cert.XaOIdeal.Facts) (hXaORefIdeal : Cert.XaORefIdeal.Facts) (hDOx : Cert.DOx.Facts) (hDOxIdeal : Cert.DOxIdeal.Facts) (hDOxRefIdeal : Cert.DOxRefIdeal.Facts) (hGWo : Cert.GWo.Facts) (hGWoIdeal : Cert.GWoIdeal.Facts) (hGWoRefIdeal : Cert.GWoRefIdeal.Facts) (hGWq : Cert.GWq.Facts) (hGWqIdeal : Cert.GWqIdeal.Facts) (hGWqRefIdeal : Cert.GWqRefIdeal.Facts) (hGWkv : Cert.GWkv.Facts) (hGWkvIdeal : Cert.GWkvIdeal.Facts) (hGWkvRefIdeal : Cert.GWkvRefIdeal.Facts) (hDMn : Cert.DMn.Facts) (hDMnIdeal : Cert.DMnIdeal.Facts) (hDMnRefIdeal : Cert.DMnRefIdeal.Facts) (hDown : Cert.Down.Facts) (hDownIdeal : Cert.DownIdeal.Facts) (hDownRefIdeal : Cert.DownRefIdeal.Facts) (hDHn3 : Cert.DHn3.Facts) (hDHn3Ideal : Cert.DHn3Ideal.Facts) (hDHn3RefIdeal : Cert.DHn3RefIdeal.Facts) (hDHn2 : Cert.DHn2.Facts) (hDHn2Ideal : Cert.DHn2Ideal.Facts) (hDHn2RefIdeal : Cert.DHn2RefIdeal.Facts) (hDHn1 : Cert.DHn1.Facts) (hDHn1Ideal : Cert.DHn1Ideal.Facts) (hDHn1RefIdeal : Cert.DHn1RefIdeal.Facts) (hGInHg : Cert.GInHg.Facts) (hGInHgIdeal : Cert.GInHgIdeal.Facts) (hGInHgRefIdeal : Cert.GInHgRefIdeal.Facts) (hGInSw : Cert.GInSw.Facts) (hGInSwIdeal : Cert.GInSwIdeal.Facts) (hGInSwRefIdeal : Cert.GInSwRefIdeal.Facts) (hNorm1 : Cert.Norm1.Facts) (hNorm1Ideal : Cert.Norm1Ideal.Facts) (hNorm1RefIdeal : Cert.Norm1RefIdeal.Facts) (hMemNorm : Cert.MemNorm.Facts) (hMemNormIdeal : Cert.MemNormIdeal.Facts) (hMemNormRefIdeal : Cert.MemNormRefIdeal.Facts) (hMemGain : Cert.MemGain.Facts) (hMemGainIdeal : Cert.MemGainIdeal.Facts) (hMemGainRefIdeal : Cert.MemGainRefIdeal.Facts) (hXaFwd : Cert.XaFwd.Facts) (hXaFwdIdeal : Cert.XaFwdIdeal.Facts) (hXaFwdRefIdeal : Cert.XaFwdRefIdeal.Facts) (hLossFinish : Cert.LossFinish.Facts) (hLossFinishIdeal : Cert.LossFinishIdeal.Facts) (hLossFinishRefIdeal : Cert.LossFinishRefIdeal.Facts) (hSumDevices : Cert.SumDevices.Facts) (hSumDevicesIdeal : Cert.SumDevicesIdeal.Facts) (hSumDevicesRefIdeal : Cert.SumDevicesRefIdeal.Facts) (hPre_finite_args : Cert.Pre_finite_args.Facts) (hPre_finite_gains : Cert.Pre_finite_gains.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Up (hUp := hUp)
    ∧ quiescent_UpIdeal (hUpIdeal := hUpIdeal)
    ∧ quiescent_UpRefIdeal (hUpRefIdeal := hUpRefIdeal)
    ∧ quiescent_DAct (hDAct := hDAct)
    ∧ quiescent_DActIdeal (hDActIdeal := hDActIdeal)
    ∧ quiescent_DActRefIdeal (hDActRefIdeal := hDActRefIdeal)
    ∧ quiescent_GDown (hGDown := hGDown)
    ∧ quiescent_GDownIdeal (hGDownIdeal := hGDownIdeal)
    ∧ quiescent_GDownRefIdeal (hGDownRefIdeal := hGDownRefIdeal)
    ∧ quiescent_GUp (hGUp := hGUp)
    ∧ quiescent_GUpIdeal (hGUpIdeal := hGUpIdeal)
    ∧ quiescent_GUpRefIdeal (hGUpRefIdeal := hGUpRefIdeal)
    ∧ quiescent_ProjHg (hProjHg := hProjHg)
    ∧ quiescent_ProjHgIdeal (hProjHgIdeal := hProjHgIdeal)
    ∧ quiescent_ProjHgRefIdeal (hProjHgRefIdeal := hProjHgRefIdeal)
    ∧ quiescent_ProjSw (hProjSw := hProjSw)
    ∧ quiescent_ProjSwIdeal (hProjSwIdeal := hProjSwIdeal)
    ∧ quiescent_ProjSwRefIdeal (hProjSwRefIdeal := hProjSwRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_DMix (hDMix := hDMix)
    ∧ quiescent_DMixIdeal (hDMixIdeal := hDMixIdeal)
    ∧ quiescent_DMixRefIdeal (hDMixRefIdeal := hDMixRefIdeal)
    ∧ quiescent_GWout (hGWout := hGWout)
    ∧ quiescent_GWoutIdeal (hGWoutIdeal := hGWoutIdeal)
    ∧ quiescent_GWoutRefIdeal (hGWoutRefIdeal := hGWoutRefIdeal)
    ∧ quiescent_XaQ (hXaQ := hXaQ)
    ∧ quiescent_XaQIdeal (hXaQIdeal := hXaQIdeal)
    ∧ quiescent_XaQRefIdeal (hXaQRefIdeal := hXaQRefIdeal)
    ∧ quiescent_XaKv (hXaKv := hXaKv)
    ∧ quiescent_XaKvIdeal (hXaKvIdeal := hXaKvIdeal)
    ∧ quiescent_XaKvRefIdeal (hXaKvRefIdeal := hXaKvRefIdeal)
    ∧ quiescent_XaO (hXaO := hXaO)
    ∧ quiescent_XaOIdeal (hXaOIdeal := hXaOIdeal)
    ∧ quiescent_XaORefIdeal (hXaORefIdeal := hXaORefIdeal)
    ∧ quiescent_DOx (hDOx := hDOx)
    ∧ quiescent_DOxIdeal (hDOxIdeal := hDOxIdeal)
    ∧ quiescent_DOxRefIdeal (hDOxRefIdeal := hDOxRefIdeal)
    ∧ quiescent_GWo (hGWo := hGWo)
    ∧ quiescent_GWoIdeal (hGWoIdeal := hGWoIdeal)
    ∧ quiescent_GWoRefIdeal (hGWoRefIdeal := hGWoRefIdeal)
    ∧ quiescent_GWq (hGWq := hGWq)
    ∧ quiescent_GWqIdeal (hGWqIdeal := hGWqIdeal)
    ∧ quiescent_GWqRefIdeal (hGWqRefIdeal := hGWqRefIdeal)
    ∧ quiescent_GWkv (hGWkv := hGWkv)
    ∧ quiescent_GWkvIdeal (hGWkvIdeal := hGWkvIdeal)
    ∧ quiescent_GWkvRefIdeal (hGWkvRefIdeal := hGWkvRefIdeal)
    ∧ quiescent_DMn (hDMn := hDMn)
    ∧ quiescent_DMnIdeal (hDMnIdeal := hDMnIdeal)
    ∧ quiescent_DMnRefIdeal (hDMnRefIdeal := hDMnRefIdeal)
    ∧ quiescent_Down (hDown := hDown)
    ∧ quiescent_DownIdeal (hDownIdeal := hDownIdeal)
    ∧ quiescent_DownRefIdeal (hDownRefIdeal := hDownRefIdeal)
    ∧ quiescent_DHn3 (hDHn3 := hDHn3)
    ∧ quiescent_DHn3Ideal (hDHn3Ideal := hDHn3Ideal)
    ∧ quiescent_DHn3RefIdeal (hDHn3RefIdeal := hDHn3RefIdeal)
    ∧ quiescent_DHn2 (hDHn2 := hDHn2)
    ∧ quiescent_DHn2Ideal (hDHn2Ideal := hDHn2Ideal)
    ∧ quiescent_DHn2RefIdeal (hDHn2RefIdeal := hDHn2RefIdeal)
    ∧ quiescent_DHn1 (hDHn1 := hDHn1)
    ∧ quiescent_DHn1Ideal (hDHn1Ideal := hDHn1Ideal)
    ∧ quiescent_DHn1RefIdeal (hDHn1RefIdeal := hDHn1RefIdeal)
    ∧ quiescent_GInHg (hGInHg := hGInHg)
    ∧ quiescent_GInHgIdeal (hGInHgIdeal := hGInHgIdeal)
    ∧ quiescent_GInHgRefIdeal (hGInHgRefIdeal := hGInHgRefIdeal)
    ∧ quiescent_GInSw (hGInSw := hGInSw)
    ∧ quiescent_GInSwIdeal (hGInSwIdeal := hGInSwIdeal)
    ∧ quiescent_GInSwRefIdeal (hGInSwRefIdeal := hGInSwRefIdeal)
    ∧ quiescent_Norm1 (hNorm1 := hNorm1)
    ∧ quiescent_Norm1Ideal (hNorm1Ideal := hNorm1Ideal)
    ∧ quiescent_Norm1RefIdeal (hNorm1RefIdeal := hNorm1RefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemGain (hMemGain := hMemGain)
    ∧ quiescent_MemGainIdeal (hMemGainIdeal := hMemGainIdeal)
    ∧ quiescent_MemGainRefIdeal (hMemGainRefIdeal := hMemGainRefIdeal)
    ∧ quiescent_XaFwd (hXaFwd := hXaFwd)
    ∧ quiescent_XaFwdIdeal (hXaFwdIdeal := hXaFwdIdeal)
    ∧ quiescent_XaFwdIdeal_pre_finite_gains (hXaFwdIdeal := hXaFwdIdeal) (hPre_finite_gains := hPre_finite_gains)
    ∧ quiescent_XaFwdRefIdeal (hXaFwdRefIdeal := hXaFwdRefIdeal)
    ∧ quiescent_XaFwdRefIdeal_pre_finite_gains (hXaFwdRefIdeal := hXaFwdRefIdeal) (hPre_finite_gains := hPre_finite_gains)
    ∧ quiescent_LossFinish (hLossFinish := hLossFinish)
    ∧ quiescent_LossFinishIdeal (hLossFinishIdeal := hLossFinishIdeal)
    ∧ quiescent_LossFinishRefIdeal (hLossFinishRefIdeal := hLossFinishRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Up_UpIdeal
    ∧ algebraic_UpIdeal_UpRefIdeal (hUpIdeal := hUpIdeal) (hUpRefIdeal := hUpRefIdeal)
    ∧ preserves_DAct_DActIdeal
    ∧ algebraic_DActIdeal_DActRefIdeal (hDActIdeal := hDActIdeal) (hDActRefIdeal := hDActRefIdeal)
    ∧ preserves_GDown_GDownIdeal
    ∧ algebraic_GDownIdeal_GDownRefIdeal (hGDownIdeal := hGDownIdeal) (hGDownRefIdeal := hGDownRefIdeal)
    ∧ preserves_GUp_GUpIdeal
    ∧ algebraic_GUpIdeal_GUpRefIdeal (hGUpIdeal := hGUpIdeal) (hGUpRefIdeal := hGUpRefIdeal)
    ∧ preserves_ProjHg_ProjHgIdeal
    ∧ algebraic_ProjHgIdeal_ProjHgRefIdeal (hProjHgIdeal := hProjHgIdeal) (hProjHgRefIdeal := hProjHgRefIdeal)
    ∧ preserves_ProjSw_ProjSwIdeal
    ∧ algebraic_ProjSwIdeal_ProjSwRefIdeal (hProjSwIdeal := hProjSwIdeal) (hProjSwRefIdeal := hProjSwRefIdeal)
    ∧ preserves_OutProj_OutProjIdeal
    ∧ algebraic_OutProjIdeal_OutProjRefIdeal (hOutProjIdeal := hOutProjIdeal) (hOutProjRefIdeal := hOutProjRefIdeal)
    ∧ preserves_DMix_DMixIdeal
    ∧ algebraic_DMixIdeal_DMixRefIdeal (hDMixIdeal := hDMixIdeal) (hDMixRefIdeal := hDMixRefIdeal)
    ∧ preserves_GWout_GWoutIdeal
    ∧ algebraic_GWoutIdeal_GWoutRefIdeal (hGWoutIdeal := hGWoutIdeal) (hGWoutRefIdeal := hGWoutRefIdeal)
    ∧ preserves_XaQ_XaQIdeal
    ∧ algebraic_XaQIdeal_XaQRefIdeal (hXaQIdeal := hXaQIdeal) (hXaQRefIdeal := hXaQRefIdeal)
    ∧ preserves_XaKv_XaKvIdeal
    ∧ algebraic_XaKvIdeal_XaKvRefIdeal (hXaKvIdeal := hXaKvIdeal) (hXaKvRefIdeal := hXaKvRefIdeal)
    ∧ preserves_XaO_XaOIdeal
    ∧ algebraic_XaOIdeal_XaORefIdeal (hXaOIdeal := hXaOIdeal) (hXaORefIdeal := hXaORefIdeal)
    ∧ preserves_DOx_DOxIdeal
    ∧ algebraic_DOxIdeal_DOxRefIdeal (hDOxIdeal := hDOxIdeal) (hDOxRefIdeal := hDOxRefIdeal)
    ∧ preserves_GWo_GWoIdeal
    ∧ algebraic_GWoIdeal_GWoRefIdeal (hGWoIdeal := hGWoIdeal) (hGWoRefIdeal := hGWoRefIdeal)
    ∧ preserves_GWq_GWqIdeal
    ∧ algebraic_GWqIdeal_GWqRefIdeal (hGWqIdeal := hGWqIdeal) (hGWqRefIdeal := hGWqRefIdeal)
    ∧ preserves_GWkv_GWkvIdeal
    ∧ algebraic_GWkvIdeal_GWkvRefIdeal (hGWkvIdeal := hGWkvIdeal) (hGWkvRefIdeal := hGWkvRefIdeal)
    ∧ preserves_DMn_DMnIdeal
    ∧ algebraic_DMnIdeal_DMnRefIdeal (hDMnIdeal := hDMnIdeal) (hDMnRefIdeal := hDMnRefIdeal)
    ∧ preserves_Down_DownIdeal
    ∧ algebraic_DownIdeal_DownRefIdeal (hDownIdeal := hDownIdeal) (hDownRefIdeal := hDownRefIdeal)
    ∧ preserves_DHn3_DHn3Ideal
    ∧ algebraic_DHn3Ideal_DHn3RefIdeal (hDHn3Ideal := hDHn3Ideal) (hDHn3RefIdeal := hDHn3RefIdeal)
    ∧ preserves_DHn2_DHn2Ideal
    ∧ algebraic_DHn2Ideal_DHn2RefIdeal (hDHn2Ideal := hDHn2Ideal) (hDHn2RefIdeal := hDHn2RefIdeal)
    ∧ preserves_DHn1_DHn1Ideal
    ∧ algebraic_DHn1Ideal_DHn1RefIdeal (hDHn1Ideal := hDHn1Ideal) (hDHn1RefIdeal := hDHn1RefIdeal)
    ∧ preserves_GInHg_GInHgIdeal
    ∧ algebraic_GInHgIdeal_GInHgRefIdeal (hGInHgIdeal := hGInHgIdeal) (hGInHgRefIdeal := hGInHgRefIdeal)
    ∧ preserves_GInSw_GInSwIdeal
    ∧ algebraic_GInSwIdeal_GInSwRefIdeal (hGInSwIdeal := hGInSwIdeal) (hGInSwRefIdeal := hGInSwRefIdeal)
    ∧ preserves_Norm1_Norm1Ideal
    ∧ algebraic_Norm1Ideal_Norm1RefIdeal (hNorm1Ideal := hNorm1Ideal) (hNorm1RefIdeal := hNorm1RefIdeal)
    ∧ preserves_MemNorm_MemNormIdeal
    ∧ algebraic_MemNormIdeal_MemNormRefIdeal (hMemNormIdeal := hMemNormIdeal) (hMemNormRefIdeal := hMemNormRefIdeal)
    ∧ preserves_MemGain_MemGainIdeal
    ∧ algebraic_MemGainIdeal_MemGainRefIdeal (hMemGainIdeal := hMemGainIdeal) (hMemGainRefIdeal := hMemGainRefIdeal)
    ∧ preserves_XaFwd_XaFwdIdeal
    ∧ algebraic_XaFwdIdeal_XaFwdRefIdeal_pre_finite_gains (hXaFwdIdeal := hXaFwdIdeal) (hXaFwdRefIdeal := hXaFwdRefIdeal) (hPre_finite_gains := hPre_finite_gains)
    ∧ preserves_LossFinish_LossFinishIdeal
    ∧ algebraic_LossFinishIdeal_LossFinishRefIdeal (hLossFinishIdeal := hLossFinishIdeal) (hLossFinishRefIdeal := hLossFinishRefIdeal)
    ∧ preserves_SumDevices_SumDevicesIdeal
    ∧ algebraic_SumDevicesIdeal_SumDevicesRefIdeal (hSumDevicesIdeal := hSumDevicesIdeal) (hSumDevicesRefIdeal := hSumDevicesRefIdeal)
-- ==== Pre_finite_args.lean ====
abbrev S4096x512 : Shape := ⟨2, ![4096, 512]⟩
abbrev S512x1024 : Shape := ⟨2, ![512, 1024]⟩
abbrev S1x128 : Shape := ⟨2, ![1, 128]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S4096x512 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S4096x512 .f32) (main_arg1 : FVec F S512x1024 .f32) (main_arg2 : FVec F S1x128 .f32) (main_arg3 : FVec F S1x128 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_v13 main_v16
-- ==== Pre_finite_gains.lean ====
abbrev S4096x512 : Shape := ⟨2, ![4096, 512]⟩
abbrev S512x1024 : Shape := ⟨2, ![512, 1024]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : FVec F S4096x512 .f32) (main_arg1 : FVec F S512x1024 .f32) (main_arg2 : FVec F S1x128 .f32) (main_arg3 : FVec F S1x128 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Kernel.lean ====
abbrev S4096x512 : Shape := ⟨2, ![4096, 512]⟩
abbrev S512x1024 : Shape := ⟨2, ![512, 1024]⟩
abbrev S1x128 : Shape := ⟨2, ![1, 128]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1024x256 : Shape := ⟨2, ![1024, 256]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S1x128, .f32⟩
  | .hbm, ⟨3, _⟩ => ⟨S1x128, .f32⟩
  | .hbm, ⟨4, _⟩ => ⟨S4096x512, .f32⟩
  | .hbm, ⟨5, _⟩ => ⟨S4096x512, .bf16⟩
  | .hbm, ⟨6, _⟩ => ⟨S512x1024, .f32⟩
  | .hbm, ⟨7, _⟩ => ⟨S1x128, .f32⟩
  | .hbm, ⟨8, _⟩ => ⟨S1x128, .f32⟩
  | .local _ .vmem, ⟨0, _⟩ => ⟨S1024x512, .f32⟩
  | .local _ .vmem, ⟨1, _⟩ => ⟨S1024x512, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S256x1024, .f32⟩
  | .local _ .vmem, ⟨11, _⟩ => ⟨S256x1024, .f32⟩
  | .local _ .vmem, ⟨12, _⟩ => ⟨S1x128, .f32⟩
  | .local _ .vmem, ⟨13, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x512 : Shape := ⟨2, ![4096, 512]⟩
abbrev S512x1024 : Shape := ⟨2, ![512, 1024]⟩
abbrev S1x128 : Shape := ⟨2, ![1, 128]⟩
abbrev S2x2048x4x128 : Shape := ⟨4, ![2, 2048, 4, 128]⟩
abbrev S_ : Shape := ⟨0, ![]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩
abbrev S128 : Shape := ⟨1, ![128]⟩

abbrev nBuf : Space → Nat
  | .hbm => 184
  | .vmem => 0
  | .smem => 0
  | _ => 0

abbrev hbmTy0_0 (i : Nat) : BufTy := match i % 128 with
  | 0 => ⟨S4096x512, .f32⟩
  | 1 => ⟨S512x1024, .f32⟩
  | 2 => ⟨S1x128, .f32⟩
  | 3 => ⟨S1x128, .f32⟩
  | 4 => ⟨S4096x512, .f32⟩
  | 5 => ⟨S2x2048x4x128, .f32⟩
  | 6 => ⟨S2x2048x4x128, .f32⟩
  | 7 => ⟨S_, .f32⟩
  | 8 => ⟨S2x2048x4, .f32⟩
  | 9 => ⟨S2x2048x4x1, .f32⟩
  | 10 => ⟨S_, .f32⟩
  | 11 => ⟨S2x2048x4x1, .f32⟩
  | 12 => ⟨S2x2048x4x1, .f32⟩
  | 13 => ⟨S_, .f32⟩
  | 14 => ⟨S2x2048x4x1, .f32⟩
  | 15 => ⟨S2x2048x4x1, .f32⟩
  | 16 => ⟨S2x2048x4x1, .f32⟩
  | 17 => ⟨S2x2048x4x1, .f32⟩
  | 18 => ⟨S_, .f32⟩
  | 19 => ⟨S2x2048x4x1, .f32⟩
  | 20 => ⟨S2x2048x4x1, .f32⟩
  | 21 => ⟨S2x2048x4x128, .f32⟩
  | 22 => ⟨S2x2048x4x128, .f32⟩
  | 23 => ⟨S1x1x1x128, .f32⟩
  | 24 => ⟨S2x2048x4x128, .f32⟩
  | 25 => ⟨S2x2048x4x128, .f32⟩
  | 26 => ⟨S2x256x1024, .f32⟩
  | 27 => ⟨S2x256x512, .f32⟩
  | 28 => ⟨S2x256x4x128, .f32⟩
  | 29 => ⟨S2x256x4x128, .f32⟩
  | 30 => ⟨S_, .f32⟩
  | 31 => ⟨S2x256x4, .f32⟩
  | 32 => ⟨S2x256x4x1, .f32⟩
  | 33 => ⟨S_, .f32⟩
  | 34 => ⟨S2x256x4x1, .f32⟩
  | 35 => ⟨S2x256x4x1, .f32⟩
  | 36 => ⟨S_, .f32⟩
  | 37 => ⟨S2x256x4x1, .f32⟩
  | 38 => ⟨S2x256x4x1, .f32⟩
  | 39 => ⟨S2x256x4x1, .f32⟩
  | 40 => ⟨S2x256x4x1, .f32⟩
  | 41 => ⟨S_, .f32⟩
  | 42 => ⟨S2x256x4x1, .f32⟩
  | 43 => ⟨S2x256x4x1, .f32⟩
  | 44 => ⟨S2x256x4x128, .f32⟩
  | 45 => ⟨S2x256x4x128, .f32⟩
  | 46 => ⟨S1x1x1x128, .f32⟩
  | 47 => ⟨S2x256x4x128, .f32⟩
  | 48 => ⟨S2x256x4x128, .f32⟩
  | 49 => ⟨S2x256x512, .f32⟩
  | 50 => ⟨S2x256x4x128, .f32⟩
  | 51 => ⟨S2x4x2048x256, .f32⟩
  | 52 => ⟨S_, .f32⟩
  | 53 => ⟨S2x4x2048x256, .f32⟩
  | 54 => ⟨S2x4x2048x256, .f32⟩
  | 55 => ⟨S_, .f32⟩
  | 56 => ⟨S2x4x2048, .f32⟩
  | 57 => ⟨S2x4x2048x1, .f32⟩
  | 58 => ⟨S2x4x2048x256, .f32⟩
  | 59 => ⟨S2x4x2048x256, .i1⟩
  | 60 => ⟨S2x4x2048x256, .f32⟩
  | 61 => ⟨S_, .f32⟩
  | 62 => ⟨S2x4x2048, .f32⟩
  | 63 => ⟨S_, .f32⟩
  | 64 => ⟨S2x4x2048, .f32⟩
  | 65 => ⟨S2x4x2048, .f32⟩
  | 66 => ⟨S_, .f32⟩
  | 67 => ⟨S2x4x2048, .f32⟩
  | 68 => ⟨S2x4x2048, .i1⟩
  | 69 => ⟨S_, .f32⟩
  | 70 => ⟨S2x4x2048, .f32⟩
  | 71 => ⟨S2x4x2048, .i1⟩
  | 72 => ⟨S_, .f32⟩
  | 73 => ⟨S2x4x2048, .f32⟩
  | 74 => ⟨S_, .f32⟩
  | 75 => ⟨S2x4x2048, .f32⟩
  | 76 => ⟨S_, .f32⟩
  | 77 => ⟨S2x4x2048, .f32⟩
  | 78 => ⟨S2x4x2048, .f32⟩
  | 79 => ⟨S2x4x2048, .f32⟩
  | 80 => ⟨S2x4x2048x1, .f32⟩
  | 81 => ⟨S2x4x2048x256, .f32⟩
  | 82 => ⟨S2x4x2048x256, .f32⟩
  | 83 => ⟨S2x4x2048x256, .f32⟩
  | 84 => ⟨S_, .f32⟩
  | 85 => ⟨S2x4x2048, .f32⟩
  | 86 => ⟨S2x4x2048x1, .f32⟩
  | 87 => ⟨S2x4x2048x256, .f32⟩
  | 88 => ⟨S2x4x2048x256, .f32⟩
  | 89 => ⟨S2x4x2048x1, .f32⟩
  | 90 => ⟨S_, .f32⟩
  | 91 => ⟨S2x4x2048x1, .f32⟩
  | 92 => ⟨S2x4x2048x1, .f32⟩
  | 93 => ⟨S2x4x128x2048, .f32⟩
  | 94 => ⟨S2x2048x4x128, .f32⟩
  | 95 => ⟨S4096x512, .f32⟩
  | 96 => ⟨S2x2048x4x128, .f32⟩
  | 97 => ⟨S2x4x128x2048, .f32⟩
  | 98 => ⟨S2x4x2048x256, .f32⟩
  | 99 => ⟨S2x4x128x256, .f32⟩
  | 100 => ⟨S2x256x4x128, .f32⟩
  | 101 => ⟨S2x4x2048x256, .f32⟩
  | 102 => ⟨S2x4x2048x256, .f32⟩
  | 103 => ⟨S2x4x2048x256, .f32⟩
  | 104 => ⟨S_, .f32⟩
  | 105 => ⟨S2x4x2048, .f32⟩
  | 106 => ⟨S2x4x2048x1, .f32⟩
  | 107 => ⟨S2x4x2048x1, .f32⟩
  | 108 => ⟨S2x4x2048x256, .f32⟩
  | 109 => ⟨S2x4x2048x256, .f32⟩
  | 110 => ⟨S_, .f32⟩
  | 111 => ⟨S2x4x2048, .f32⟩
  | 112 => ⟨S2x4x2048x256, .f32⟩
  | 113 => ⟨S2x4x2048x256, .f32⟩
  | 114 => ⟨S2x4x2048x256, .f32⟩
  | 115 => ⟨S_, .f32⟩
  | 116 => ⟨S2x4x2048x256, .f32⟩
  | 117 => ⟨S2x4x2048x256, .f32⟩
  | 118 => ⟨S2x4x256x128, .f32⟩
  | 119 => ⟨S2x256x4x128, .f32⟩
  | 120 => ⟨S2x4x2048x128, .f32⟩
  | 121 => ⟨S2x2048x4x128, .f32⟩
  | 122 => ⟨S2x256x512, .f32⟩
  | 123 => ⟨S_, .f32⟩
  | 124 => ⟨S2x256x1024, .f32⟩
  | 125 => ⟨S2x256x4x128, .f32⟩
  | 126 => ⟨S_, .f32⟩
  | 127 => ⟨S128, .f32⟩
  | _ => ⟨S4096x512, .f32⟩

abbrev hbmTy0_1 (i : Nat) : BufTy := match i % 128 with
  | 0 => ⟨S1x1x1x128, .f32⟩
  | 1 => ⟨S2x256x4x128, .f32⟩
  | 2 => ⟨S2x256x4x128, .f32⟩
  | 3 => ⟨S_, .f32⟩
  | 4 => ⟨S128, .f32⟩
  | 5 => ⟨S1x128, .f32⟩
  | 6 => ⟨S2x256x4x128, .f32⟩
  | 7 => ⟨S_, .f32⟩
  | 8 => ⟨S2x256x4, .f32⟩
  | 9 => ⟨S2x256x4x1, .f32⟩
  | 10 => ⟨S2x256x4x128, .f32⟩
  | 11 => ⟨S2x256x4x128, .f32⟩
  | 12 => ⟨S2x256x4x1, .f32⟩
  | 13 => ⟨S_, .f32⟩
  | 14 => ⟨S2x256x4x1, .f32⟩
  | 15 => ⟨S2x256x4x1, .f32⟩
  | 16 => ⟨S_, .f32⟩
  | 17 => ⟨S2x256x4, .f32⟩
  | 18 => ⟨S2x256x4x128, .f32⟩
  | 19 => ⟨S2x256x4x128, .f32⟩
  | 20 => ⟨S2x256x4x128, .f32⟩
  | 21 => ⟨S2x256x4x128, .f32⟩
  | 22 => ⟨S2x256x4x128, .f32⟩
  | 23 => ⟨S2x256x512, .f32⟩
  | 24 => ⟨S_, .f32⟩
  | 25 => ⟨S2x256x1024, .f32⟩
  | 26 => ⟨S2x256x1024, .f32⟩
  | 27 => ⟨S512x1024, .f32⟩
  | 28 => ⟨S2x2048x4x128, .f32⟩
  | 29 => ⟨S_, .f32⟩
  | 30 => ⟨S128, .f32⟩
  | 31 => ⟨S1x1x1x128, .f32⟩
  | 32 => ⟨S2x2048x4x128, .f32⟩
  | 33 => ⟨S2x2048x4x128, .f32⟩
  | 34 => ⟨S_, .f32⟩
  | 35 => ⟨S128, .f32⟩
  | 36 => ⟨S1x128, .f32⟩
  | 37 => ⟨S2x2048x4x128, .f32⟩
  | 38 => ⟨S_, .f32⟩
  | 39 => ⟨S2x2048x4, .f32⟩
  | 40 => ⟨S2x2048x4x1, .f32⟩
  | 41 => ⟨S2x2048x4x128, .f32⟩
  | 42 => ⟨S2x2048x4x128, .f32⟩
  | 43 => ⟨S2x2048x4x1, .f32⟩
  | 44 => ⟨S_, .f32⟩
  | 45 => ⟨S2x2048x4x1, .f32⟩
  | 46 => ⟨S2x2048x4x1, .f32⟩
  | 47 => ⟨S_, .f32⟩
  | 48 => ⟨S2x2048x4, .f32⟩
  | 49 => ⟨S2x2048x4x128, .f32⟩
  | 50 => ⟨S2x2048x4x128, .f32⟩
  | 51 => ⟨S2x2048x4x128, .f32⟩
  | 52 => ⟨S2x2048x4x128, .f32⟩
  | 53 => ⟨S2x2048x4x128, .f32⟩
  | 54 => ⟨S4096x512, .f32⟩
  | 55 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_16 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_cst_22 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_23 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_24 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_25 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_27 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_28 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_29 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_30 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_31 : Ref sig .tc := ⟨.hbm, 172, rfl⟩
abbrev main_v135 : Ref sig .tc := ⟨.hbm, 173, rfl⟩
abbrev main_v136 : Ref sig .tc := ⟨.hbm, 174, rfl⟩
abbrev main_cst_32 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩

abbrev nD : Nat := 1
abbrev τ : Topo := Topo.v7x

variable {F : FTy → Type} [FloatOps F]
-- ==== Up.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DAct.lean ====
abbrev S4096x4096 : Shape := ⟨2, ![4096, 4096]⟩
abbrev S4096x1024 : Shape := ⟨2, ![4096, 1024]⟩
abbrev S_ : Shape := ⟨0, ![]⟩
abbrev S2048x1024 : Shape := ⟨2, ![2048, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== GDown.lean ====
abbrev S4096x4096 : Shape := ⟨2, ![4096, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== GUp.lean ====
abbrev S4096x1024 : Shape := ⟨2, ![4096, 1024]⟩
abbrev S4x1024x1024 : Shape := ⟨3, ![4, 1024, 1024]⟩
abbrev S4096x4096 : Shape := ⟨2, ![4096, 4096]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4x1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GUpRefIdeal.lean ====
abbrev S4096x1024 : Shape := ⟨2, ![4096, 1024]⟩
abbrev S4x1024x1024 : Shape := ⟨3, ![4, 1024, 1024]⟩
abbrev S4096x4096 : Shape := ⟨2, ![4096, 4096]⟩
abbrev S1024x4x1024 : Shape := ⟨3, ![1024, 4, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x1024, .f32⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjHg.lean ====
abbrev S4096x1024 : Shape := ⟨2, ![4096, 1024]⟩
abbrev S2816x1024 : Shape := ⟨2, ![2816, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjHgRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjSw.lean ====
abbrev S4096x1024 : Shape := ⟨2, ![4096, 1024]⟩
abbrev S2816x1024 : Shape := ⟨2, ![2816, 1024]⟩
abbrev S768x1024 : Shape := ⟨2, ![768, 1024]⟩
abbrev S4096x768 : Shape := ⟨2, ![4096, 768]⟩
abbrev S1024x1024 : Shape := ⟨2, ![1024, 1024]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S768x1024, .bf16⟩
  | .hbm, ⟨3, _⟩ => ⟨S4096x768, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1024x768, .f32⟩
  | .local _ .vmem, ⟨4, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSwRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x768 : Shape := ⟨2, ![4096, 768]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x768, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DMix.lean ====
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GWout.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWoutRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XaQ.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XaQRefIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x1024, .f32⟩
  | .hbm, ⟨3, _⟩ => ⟨S1024x512, .f32⟩
  | .hbm, ⟨4, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XaKv.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XaKvRefIdeal.lean ====
abbrev S512x1024 : Shape := ⟨2, ![512, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== XaO.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== XaORefIdeal.lean ====
abbrev S4096x512 : Shape := ⟨2, ![4096, 512]⟩
abbrev S512x1024 : Shape := ⟨2, ![512, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .hbm, ⟨3, _⟩ => ⟨S1x1024, .f32⟩
  | .hbm, ⟨4, _⟩ => ⟨S4096x512, .f32⟩
  | .hbm, ⟨5, _⟩ => ⟨S512x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DOx.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DOxRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GWo.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S512x1024, .f32⟩
  | .local _ .vmem, ⟨0, _⟩ => ⟨S4096x512, .bf16⟩
  | .local _ .vmem, ⟨1, _⟩ => ⟨S4096x1024, .bf16⟩
  | .local _ .vmem, ⟨2, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWoRefIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GWq.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .hbm, ⟨3, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWqRefIdeal.lean ====
abbrev S4096x1024 : Shape := ⟨2, ![4096, 1024]⟩
abbrev S1024x512 : Shape := ⟨2, ![1024, 512]⟩
abbrev S4096x512 : Shape := ⟨2, ![4096, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .bf16⟩
  | .hbm, ⟨2, _⟩ => ⟨S4096x512, .bf16⟩
  | .hbm, ⟨3, _⟩ => ⟨S4096x1024, .f32⟩
  | .hbm, ⟨4, _⟩ => ⟨S1024x512, .f32⟩
  | .hbm, ⟨5, _⟩ => ⟨S4096x512, .f32⟩
  | .hbm, ⟨6, _⟩ => ⟨S4096x512, .f32⟩
  | .hbm, ⟨7, _⟩ => ⟨S512x1024, .f32⟩
  | .hbm, ⟨8, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GWkv.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .local _ .vmem, ⟨0, _⟩ => ⟨S512x1024, .bf16⟩
  | .local _ .vmem, ⟨1, _⟩ => ⟨S512x1024, .f32⟩
  | .local _ .vmem, ⟨2, _⟩ => ⟨S1024x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GWkvRefIdeal.lean ====
abbrev S512x1024 : Shape := ⟨2, ![512, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DMn.lean ====
abbrev S512x1024 : Shape := ⟨2, ![512, 1024]⟩
abbrev S1024x1024 : Shape := ⟨2, ![1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S512x1024, .f32⟩
  | .local _ .vmem, ⟨0, _⟩ => ⟨S512x1024, .f32⟩
  | .local _ .vmem, ⟨1, _⟩ => ⟨S1024x1024, .bf16⟩
  | .local _ .vmem, ⟨2, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DMnRefIdeal.lean ====
abbrev S512x1024 : Shape := ⟨2, ![512, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_22 : BitVec 32 := 0#32
  let v29 : BitVec 1 := Scalar.cmpi .ne v28 c0_i32_22
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== DownRefIdeal.lean ====
abbrev S4096x4096 : Shape := ⟨2, ![4096, 4096]⟩
abbrev S4096x1024 : Shape := ⟨2, ![4096, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== DHn3.lean ====
abbrev S4096x1024 : Shape := ⟨2, ![4096, 1024]⟩
abbrev S1x1024 : Shape := ⟨2, ![1, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x4096, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHn3RefIdeal.lean ====
abbrev S4096x1024 : Shape := ⟨2, ![4096, 1024]⟩
abbrev S1x1024 : Shape := ⟨2, ![1, 1024]⟩
abbrev S4x1024x1024 : Shape := ⟨3, ![4, 1024, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S1024x4096 : Shape := ⟨2, ![1024, 4096]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1024, .bf16⟩
  | .hbm, ⟨3, _⟩ => ⟨S4096x4096, .bf16⟩
  | .hbm, ⟨4, _⟩ => ⟨S4096x1024, .f32⟩
  | .hbm, ⟨5, _⟩ => ⟨S4x1024x1024, .f32⟩
  | .hbm, ⟨6, _⟩ => ⟨S4096x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1024x4x1024, .f32⟩
  | .hbm, ⟨27, _⟩ => ⟨S1024x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== DHn2.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .bf16⟩
  | .hbm, ⟨3, _⟩ => ⟨S4096x512, .bf16⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== DHn2RefIdeal.lean ====
abbrev S4096x1024 : Shape := ⟨2, ![4096, 1024]⟩
abbrev S1x1024 : Shape := ⟨2, ![1, 1024]⟩
abbrev S1024x512 : Shape := ⟨2, ![1024, 512]⟩
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x512, .bf16⟩
  | .hbm, ⟨3, _⟩ => ⟨S4096x512, .bf16⟩
  | .hbm, ⟨4, _⟩ => ⟨S4096x1024, .f32⟩
  | .hbm, ⟨5, _⟩ => ⟨S1024x512, .f32⟩
  | .hbm, ⟨6, _⟩ => ⟨S4096x512, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DHn1.lean ====
abbrev S4096x1024 : Shape := ⟨2, ![4096, 1024]⟩
abbrev S1x1024 : Shape := ⟨2, ![1, 1024]⟩
abbrev S2816x1024 : Shape := ⟨2, ![2816, 1024]⟩
abbrev S4096x2048 : Shape := ⟨2, ![4096, 2048]⟩
abbrev S4096x768 : Shape := ⟨2, ![4096, 768]⟩
abbrev S768x1024 : Shape := ⟨2, ![768, 1024]⟩
abbrev S1024x2048 : Shape := ⟨2, ![1024, 2048]⟩
abbrev S2048x1024 : Shape := ⟨2, ![2048, 1024]⟩
abbrev S1024x768 : Shape := ⟨2, ![1024, 768]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x2048, .bf16⟩
  | .hbm, ⟨4, _⟩ => ⟨S4096x768, .bf16⟩
  | .hbm, ⟨5, _⟩ => ⟨S4096x1024, .f32⟩
  | .hbm, ⟨6, _⟩ => ⟨S768x1024, .bf16⟩
  | .hbm, ⟨7, _⟩ => ⟨S4096x1024, .f32⟩
  | .hbm, ⟨8, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x768, .bf16⟩
  | .local _ .vmem, ⟨4, _⟩ => ⟨S1024x768, .bf16⟩
  | .local _ .vmem, ⟨5, _⟩ => ⟨S768x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== DHn1RefIdeal.lean ====
abbrev S4096x1024 : Shape := ⟨2, ![4096, 1024]⟩
abbrev S1x1024 : Shape := ⟨2, ![1, 1024]⟩
abbrev S2816x1024 : Shape := ⟨2, ![2816, 1024]⟩
abbrev S4096x2048 : Shape := ⟨2, ![4096, 2048]⟩
abbrev S4096x768 : Shape := ⟨2, ![4096, 768]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x2048, .bf16⟩
  | .hbm, ⟨4, _⟩ => ⟨S4096x768, .bf16⟩
  | .hbm, ⟨5, _⟩ => ⟨S4096x1024, .f32⟩
  | .hbm, ⟨6, _⟩ => ⟨S2816x1024, .f32⟩
  | .hbm, ⟨7, _⟩ => ⟨S4096x2048, .f32⟩
  | .hbm, ⟨8, _⟩ => ⟨S4096x768, .f32⟩
  | .hbm, ⟨9, _⟩ => ⟨S4096x2816, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1024x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== GInHg.lean ====
abbrev S4096x1024 : Shape := ⟨2, ![4096, 1024]⟩
abbrev S2816x1024 : Shape := ⟨2, ![2816, 1024]⟩
abbrev S4096x2048 : Shape := ⟨2, ![4096, 2048]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2048, .bf16⟩
  | .hbm, ⟨3, _⟩ => ⟨S2816x1024, .f32⟩
  | .hbm, ⟨4, _⟩ => ⟨S2048x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInHgRefIdeal.lean ====
abbrev S4096x1024 : Shape := ⟨2, ![4096, 1024]⟩
abbrev S2816x1024 : Shape := ⟨2, ![2816, 1024]⟩
abbrev S4096x2048 : Shape := ⟨2, ![4096, 2048]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2048, .bf16⟩
  | .hbm, ⟨3, _⟩ => ⟨S4096x1024, .f32⟩
  | .hbm, ⟨4, _⟩ => ⟨S2816x1024, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S2048x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GInSw.lean ====
abbrev S4096x1024 : Shape := ⟨2, ![4096, 1024]⟩
abbrev S2816x1024 : Shape := ⟨2, ![2816, 1024]⟩
abbrev S4096x768 : Shape := ⟨2, ![4096, 768]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x768, .bf16⟩
  | .hbm, ⟨3, _⟩ => ⟨S2816x1024, .f32⟩
  | .hbm, ⟨4, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![v0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInSwRefIdeal.lean ====
abbrev S4096x1024 : Shape := ⟨2, ![4096, 1024]⟩
abbrev S2816x1024 : Shape := ⟨2, ![2816, 1024]⟩
abbrev S4096x768 : Shape := ⟨2, ![4096, 768]⟩
abbrev S2048x1024 : Shape := ⟨2, ![2048, 1024]⟩
abbrev S768x1024 : Shape := ⟨2, ![768, 1024]⟩
abbrev S1024x768 : Shape := ⟨2, ![1024, 768]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x768, .bf16⟩
  | .hbm, ⟨3, _⟩ => ⟨S2816x1024, .f32⟩
  | .hbm, ⟨4, _⟩ => ⟨S4096x1024, .f32⟩
  | .hbm, ⟨5, _⟩ => ⟨S2816x1024, .f32⟩
  | .hbm, ⟨6, _⟩ => ⟨S4096x768, .f32⟩
  | .hbm, ⟨7, _⟩ => ⟨S2048x1024, .f32⟩
  | .hbm, ⟨8, _⟩ => ⟨S768x1024, .f32⟩
  | .hbm, ⟨9, _⟩ => ⟨S1024x768, .f32⟩
  | .hbm, ⟨10, _⟩ => ⟨S4096x768, .f32⟩
  | .hbm, ⟨11, _⟩ => ⟨S768x1024, .f32⟩
  | .hbm, ⟨12, _⟩ => ⟨S1024x768, .f32⟩
  | .hbm, ⟨13, _⟩ => ⟨S768x1024, .f32⟩
  | .hbm, ⟨14, _⟩ => ⟨S2816x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Norm1.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1RefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNorm.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemGain.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemGainRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== XaFwd.lean ====
abbrev S4096x512 : Shape := ⟨2, ![4096, 512]⟩
abbrev S512x1024 : Shape := ⟨2, ![512, 1024]⟩
abbrev S1x128 : Shape := ⟨2, ![1, 128]⟩
abbrev S512x512 : Shape := ⟨2, ![512, 512]⟩
abbrev S256x1024 : Shape := ⟨2, ![256, 1024]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S1x128, .f32⟩
  | .hbm, ⟨3, _⟩ => ⟨S1x128, .f32⟩
  | .hbm, ⟨4, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XaFwdRefIdeal.lean ====
abbrev S4096x512 : Shape := ⟨2, ![4096, 512]⟩
abbrev S512x1024 : Shape := ⟨2, ![512, 1024]⟩
abbrev S1x128 : Shape := ⟨2, ![1, 128]⟩
abbrev S2x2048x4x128 : Shape := ⟨4, ![2, 2048, 4, 128]⟩
abbrev S_ : Shape := ⟨0, ![]⟩
abbrev S2x2048x4 : Shape := ⟨3, ![2, 2048, 4]⟩
abbrev S2x2048x4x1 : Shape := ⟨4, ![2, 2048, 4, 1]⟩
abbrev S1x1x1x128 : Shape := ⟨4, ![1, 1, 1, 128]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S1x128, .f32⟩
  | .hbm, ⟨3, _⟩ => ⟨S1x128, .f32⟩
  | .hbm, ⟨4, _⟩ => ⟨S2x2048x4x128, .f32⟩
  | .hbm, ⟨5, _⟩ => ⟨S2x2048x4x128, .f32⟩
  | .hbm, ⟨6, _⟩ => ⟨S_, .f32⟩
  | .hbm, ⟨7, _⟩ => ⟨S2x2048x4, .f32⟩
  | .hbm, ⟨8, _⟩ => ⟨S2x2048x4x1, .f32⟩
  | .hbm, ⟨9, _⟩ => ⟨S_, .f32⟩
  | .hbm, ⟨10, _⟩ => ⟨S2x2048x4x1, .f32⟩
  | .hbm, ⟨11, _⟩ => ⟨S2x2048x4x1, .f32⟩
  | .hbm, ⟨12, _⟩ => ⟨S_, .f32⟩
  | .hbm, ⟨13, _⟩ => ⟨S2x2048x4x1, .f32⟩
  | .hbm, ⟨14, _⟩ => ⟨S2x2048x4x1, .f32⟩
  | .hbm, ⟨15, _⟩ => ⟨S2x2048x4x1, .f32⟩
  | .hbm, ⟨16, _⟩ => ⟨S2x2048x4x128, .f32⟩
  | .hbm, ⟨17, _⟩ => ⟨S2x2048x4x128, .f32⟩
  | .hbm, ⟨18, _⟩ => ⟨S1x1x1x128, .f32⟩
  | .hbm, ⟨19, _⟩ => ⟨S2x2048x4x128, .f32⟩
  | .hbm, ⟨20, _⟩ => ⟨S2x2048x4x128, .f32⟩
  | .hbm, ⟨21, _⟩ => ⟨S2x256x1024, .f32⟩
  | .hbm, ⟨22, _⟩ => ⟨S2x256x512, .f32⟩
  | .hbm, ⟨23, _⟩ => ⟨S2x256x4x128, .f32⟩
  | .hbm, ⟨24, _⟩ => ⟨S2x256x4x128, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x128, .f32⟩
  | .hbm, ⟨36, _⟩ => ⟨S2x256x4x128, .f32⟩
  | .hbm, ⟨37, _⟩ => ⟨S1x1x1x128, .f32⟩
  | .hbm, ⟨38, _⟩ => ⟨S2x256x4x128, .f32⟩
  | .hbm, ⟨39, _⟩ => ⟨S2x256x4x128, .f32⟩
  | .hbm, ⟨40, _⟩ => ⟨S2x256x512, .f32⟩
  | .hbm, ⟨41, _⟩ => ⟨S2x256x4x128, .f32⟩
  | .hbm, ⟨42, _⟩ => ⟨S2x4x2048x256, .f32⟩
  | .hbm, ⟨43, _⟩ => ⟨S_, .f32⟩
  | .hbm, ⟨44, _⟩ => ⟨S2x4x2048x256, .f32⟩
  | .hbm, ⟨45, _⟩ => ⟨S2x4x2048x256, .f32⟩
  | .hbm, ⟨46, _⟩ => ⟨S_, .f32⟩
  | .hbm, ⟨47, _⟩ => ⟨S2x4x2048, .f32⟩
  | .hbm, ⟨48, _⟩ => ⟨S_, .f32⟩
  | .hbm, ⟨49, _⟩ => ⟨S2x4x2048, .f32⟩
  | .hbm, ⟨50, _⟩ => ⟨S2x4x2048, .f32⟩
  | .hbm, ⟨51, _⟩ => ⟨S2x4x2048x1, .f32⟩
  | .hbm, ⟨52, _⟩ => ⟨S2x4x2048x256, .f32⟩
  | .hbm, ⟨53, _⟩ => ⟨S2x4x2048x256, .f32⟩
  | .hbm, ⟨54, _⟩ => ⟨S2x4x2048x256, .f32⟩
  | .hbm, ⟨55, _⟩ => ⟨S_, .f32⟩
  | .hbm, ⟨56, _⟩ => ⟨S2x4x2048, .f32⟩
  | .hbm, ⟨57, _⟩ => ⟨S2x4x2048x1, .f32⟩
  | .hbm, ⟨58, _⟩ => ⟨S2x4x2048x256, .f32⟩
  | .hbm, ⟨59, _⟩ => ⟨S2x4x2048x256, .f32⟩
  | .hbm, ⟨60, _⟩ => ⟨S2x4x128x2048, .f32⟩
  | .hbm, ⟨61, _⟩ => ⟨S2x2048x4x128, .f32⟩
  | .hbm, ⟨62, _⟩ => ⟨S4096x512, .f32⟩
  | .hbm, ⟨63, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== LossFinish.lean ====
abbrev S1x1024 : Shape := ⟨2, ![1, 1024]⟩
abbrev S1x128 : Shape := ⟨2, ![1, 128]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S1x1024, .f32⟩
  | .hbm, ⟨1, _⟩ => ⟨S1x128, .f32⟩
  | .local _ .vmem, ⟨0, _⟩ => ⟨S1x1024, .f32⟩
  | .local _ .vmem, ⟨1, _⟩ => ⟨S1x128, .f32⟩
  | _, _ => ⟨S1x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LossFinishRefIdeal.lean ====
abbrev S1x1024 : Shape := ⟨2, ![1, 1024]⟩
abbrev S_ : Shape := ⟨0, ![]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x128, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== SumDevices.lean ====
abbrev S16x1024 : Shape := ⟨2, ![16, 1024]⟩
abbrev S8x16x1024 : Shape := ⟨3, ![8, 16, 1024]⟩
abbrev S1 : Shape := ⟨1, ![1]⟩
abbrev S1x16x1024 : Shape := ⟨3, ![1, 16, 1024]⟩

abbrev nBuf : Space → Nat
  | .hbm => 4
  | .vmem => 3
  | .smem => 1
  | _ => 0

abbrev bufTy : (tb : Table) → Fin (tcTables nBuf tb) → BufTy
  | .hbm, ⟨0, _⟩ => ⟨S16x1024, .f32⟩
  | .hbm, ⟨1, _⟩ => ⟨S8x16x1024, .f32⟩
  | .hbm, ⟨2, _⟩ => ⟨S1, .i32⟩
  | .hbm, ⟨3, _⟩ => ⟨S16x1024, .f32⟩
  | .local _ .vmem, ⟨0, _⟩ => ⟨S16x1024, .f32⟩
  | .local _ .vmem, ⟨1, _⟩ => ⟨S8x16x1024, .f32⟩
  | .local _ .vmem, ⟨2, _⟩ => ⟨S16x1024, .f32⟩
  | .local _ .smem, ⟨0, _⟩ => ⟨S1, .i32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== SumDevicesRefIdeal.lean ====
abbrev S16x1024 : Shape := ⟨2, ![16, 1024]⟩
abbrev S8x16x1024 : Shape := ⟨3, ![8, 16, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x16x1024, .f32⟩
  | .hbm, ⟨2, _⟩ => ⟨S1, .i32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S8x16x1024, .i1⟩
  | .hbm, ⟨9, _⟩ => ⟨S8x16x1024, .f32⟩
  | .hbm, ⟨10, _⟩ => ⟨S8x16x1024, .f32⟩
  | .hbm, ⟨11, _⟩ => ⟨S_, .f32⟩
  | .hbm, ⟨12, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Vocab.lean ====
/- The vocabulary of the kernel's body: one head of one block, written once for any number of query rows and memory
   rows, as functions of the blocks it reads. The printed body computes the same values through some ninety named
   intermediate vectors; `Pieces` says which of these functions each of its stores holds. -/
module

public import proofs.«01_k».proof.Proof.Gen.KernelIdeal.Value
public import Idealize.ShloMosaic.Lib.MatmulPlain

set_option maxRecDepth 16384

@[expose] public noncomputable section

namespace Cert.XAttn

open Idealize.ShloMosaic

variable {F : FTy → Type} [FloatOps F]

/-- A matrix of f32 values, `n` rows by `k` columns. -/
abbrev Mat (F : FTy → Type) (n k : Nat) : Type := FVec F ⟨2, ![n, k]⟩ .f32

/-- What the row-wise operations on an `n` by `k` matrix ask of its shape. -/
structure Rows (n k : Nat) : Prop where
  red : (⟨2, ![n, k]⟩ : Shape).Reduces [1] ⟨1, ![n]⟩
  col : (⟨1, ![n]⟩ : Shape).ShapeCasts ⟨2, ![n, 1]⟩
  spread : (⟨2, ![n, 1]⟩ : Shape).Broadcasts ⟨2, ![n, k]⟩
  over : (⟨2, ![1, k]⟩ : Shape).Broadcasts ⟨2, ![n, k]⟩
  redc : (⟨2, ![n, k]⟩ : Shape).Reduces [0] ⟨1, ![k]⟩
  row : (⟨1, ![k]⟩ : Shape).ShapeCasts ⟨2, ![1, k]⟩
  here : (⟨2, ![n, k]⟩ : Shape).ShapeCasts ⟨2, ![n, k]⟩

variable {n m k : Nat}

/-- The sums of the rows, as a column. -/
def rowSum (f : Rows n k) (x : Mat F n k) : Mat F n 1 :=
  shapeCast _ (multiReduction .add [1] ⟨1, ![n]⟩ x 0x00000000#32 f.red (.inl rfl) rfl) f.col
/-- The largest entries of the rows, as a column. -/
def rowMax (f : Rows n k) (x : Mat F n k) : Mat F n 1 :=
  shapeCast _ (multiReduction .maximumf [1] ⟨1, ![n]⟩ x 0xFF800000#32 f.red (.inl rfl) rfl) f.col
/-- The sums of the columns, as a row. -/
def colSum (f : Rows n k) (x : Mat F n k) : Mat F 1 k :=
  shapeCast _ (multiReduction .add [0] ⟨1, ![k]⟩ x 0x00000000#32 f.redc (.inl rfl) rfl) f.row
/-- A column repeated over the columns. -/
def spread (f : Rows n k) (c : Mat F n 1) : Mat F n k := broadcastTo _ c f.spread
/-- A row repeated over the rows. -/
def over (f : Rows n k) (g : Mat F 1 k) : Mat F n k := broadcastTo _ g f.over
/-- The matrix whose entries all are the number of this word. -/
def word (n k : Nat) (w : BitVec 32) : Mat F n k := broadcast ⟨2, ![n, k]⟩ (Scalar.ofBits .f32 w)

/-- The operand of a product, rounded to bf16. -/
def bf (x : Mat F n k) : FVec F ⟨2, ![n, k]⟩ .bf16 := truncf .bf16 x (by decide)
/-- The dimension numbers of `[K,M]ᵀ × [K,N]`. -/
def dimsTN (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩
/-- `a b`, the operands rounded to bf16 and the sums kept in f32. -/
def dotNN (a : Mat F n m) (b : Mat F m k) : Mat F n k :=
  matmul (DotDims.plain n m k) none (bf a) (bf b) (constant _ .f32 0x00000000#32)
/-- `a bᵀ`. -/
def dotNT (a : Mat F n k) (b : Mat F m k) : Mat F n m :=
  matmul (DotDims.transposedRhs n k m) none (bf a) (bf b) (constant _ .f32 0x00000000#32)
/-- `aᵀ b`. -/
def dotTN (a : Mat F n m) (b : Mat F n k) : Mat F m k :=
  matmul (dimsTN m n k) none (bf a) (bf b) (constant _ .f32 0x00000000#32)

/-- The reciprocal root mean square of every row, ε added to the mean. -/
def inv (f : Rows n k) (x : Mat F n k) : Mat F n 1 :=
  rsqrt (addf (divf (rowSum f (mulf x x)) (word n 1 0x43000000#32)) (word n 1 0x358637BD#32))
/-- The rows divided by their root mean square and multiplied by the gain. -/
def hat (f : Rows n k) (x : Mat F n k) (g : Mat F 1 k) : Mat F n k := mulf (mulf x (spread f (inv f x))) (over f g)
/-- The scaled scores, less the row's largest, exponentiated. -/
def expo (f : Rows n m) (raw : Mat F n m) : Mat F n m :=
  exp (subf (mulf raw (word n m 0x3DB504F3#32)) (spread f (rowMax f (mulf raw (word n m 0x3DB504F3#32)))))
/-- The softmax of every row of the scaled scores, by a reciprocal. -/
def soft (f : Rows n m) (raw : Mat F n m) : Mat F n m :=
  mulf (expo f raw) (spread f (divf (word n 1 0x3F800000#32) (rowSum f (expo f raw))))
/-- The gradient of the raw scores, from the gradient `dp` of the weights `p`. -/
def dsoft (f : Rows n m) (dp p : Mat F n m) : Mat F n m :=
  mulf (mulf p (subf dp (spread f (rowSum f (mulf p dp))))) (word n m 0x3DB504F3#32)
/-- The gradient of the rows `x` from the gradient `d` of their normalised form, `r` the reciprocal root mean squares. -/
def back (f : Rows n k) (x : Mat F n k) (r : Mat F n 1) (d : Mat F n k) (g : Mat F 1 k) : Mat F n k :=
  subf (mulf (spread f r) (mulf d (over f g)))
    (mulf (mulf x (spread f (mulf (mulf r r) r)))
      (spread f (divf (rowSum f (mulf (mulf d (over f g)) x)) (word n 1 0x43000000#32))))
/-- The gradient of the gain. -/
def gain (f : Rows n k) (x : Mat F n k) (r : Mat F n 1) (d : Mat F n k) : Mat F 1 k :=
  colSum f (mulf (mulf d x) (spread f r))

/-- The shape facts of one head: query rows, memory rows, scores. -/
structure HeadRows (n m k : Nat) : Prop where
  q : Rows n k
  k : Rows m k
  s : Rows n m

/-- What one head of one block reads: its query rows, its keys, its values, the gradient of its output, and the two gains. -/
structure Head (F : FTy → Type) (n m k : Nat) where
  x : Mat F n k
  y : Mat F m k
  v : Mat F m k
  d : Mat F n k
  gq : Mat F 1 k
  gk : Mat F 1 k

namespace Head
variable (f : HeadRows n m k) (h : Head F n m k)

/-- The attention weights. -/
def p : Mat F n m := soft f.s (dotNT (hat f.q h.x h.gq) (hat f.k h.y h.gk))
/-- The gradient of the raw scores. -/
def ds : Mat F n m := dsoft f.s (dotNT h.d h.v) (h.p f)
/-- The gradient of the normalised queries. -/
def dqn : Mat F n k := dotNN (h.ds f) (hat f.k h.y h.gk)
/-- The gradient of the normalised keys. -/
def dkn : Mat F m k := dotTN (h.ds f) (hat f.q h.x h.gq)
/-- The gradient of the values. -/
def dv : Mat F m k := dotTN (h.p f) h.d
/-- The gradient of the queries, as stored. -/
def dq : FVec F ⟨2, ![n, k]⟩ .bf16 := bf (back f.q h.x (inv f.q h.x) (h.dqn f) h.gq)
/-- The gradient of the keys. -/
def dk : Mat F m k := back f.k h.y (inv f.k h.y) (h.dkn f) h.gk
/-- The gradient of the queries' gain. -/
def gainq : Mat F 1 k := gain f.q h.x (inv f.q h.x) (h.dqn f)
/-- The gradient of the keys' gain. -/
def gaink : Mat F 1 k := gain f.k h.y (inv f.k h.y) (h.dkn f)
end Head

/-- A stored matrix, and a matrix added to it. -/
def plus (f : Rows n k) (a b : Mat F n k) : Mat F n k := addf (shapeCast _ a f.here) b

/-- The shape facts at the kernel's sizes. -/
theorem headRows : HeadRows 1024 256 128 :=
  ⟨⟨by decide, by decide, by decide, by decide, by decide, by decide, by decide⟩,
   ⟨by decide, by decide, by decide, by decide, by decide, by decide, by decide⟩,
   ⟨by decide, by decide, by decide, by decide, by decide, by decide, by decide⟩⟩
/-- The shape facts of a row of gains. -/
theorem gainRows : (⟨2, ![1, 128]⟩ : Shape).ShapeCasts ⟨2, ![1, 128]⟩ := by decide

end Cert.XAttn
-- ==== Proof.Payloads.lean ====
/- The body's named intermediate vectors, each the vocabulary's function of the vectors it is computed from. -/
module

public import proofs.«01_k».proof.Proof.Vocab

set_option maxRecDepth 16384

@[expose] public noncomputable section

namespace Cert.XAttn

open Idealize.ShloMosaic
open Cert.KernelIdeal Cert.KernelIdeal.Gen

variable {F : FTy → Type} [FloatOps F]

theorem pay7 (x : Mat F 1024 128) : k0_pay7 (k0_pay6 x) = inv headRows.q x := rfl
theorem pay8 (x : Mat F 1024 128)(g : Mat F 1 128) : k0_pay8 x g (k0_pay6 x) = hat headRows.q x g := rfl
theorem pay9 (x : Mat F 1024 128) : k0_pay9 x = inv headRows.q x := rfl
theorem pay10 (x : Mat F 1024 128)(g : Mat F 1 128) : k0_pay10 x g = hat headRows.q x g := rfl
theorem pay11 (x : Mat F 1024 128) : k0_pay11 x = inv headRows.q x := rfl
theorem pay12 (x : Mat F 1024 128)(g : Mat F 1 128) : k0_pay12 x g = hat headRows.q x g := rfl
theorem pay14 (x : Mat F 1024 128) : k0_pay14 (k0_pay13 x) = inv headRows.q x := rfl
theorem pay15 (x : Mat F 1024 128)(g : Mat F 1 128) : k0_pay15 x g (k0_pay13 x) = hat headRows.q x g := rfl
theorem pay16 (y : Mat F 256 128) : k0_pay16 y = inv headRows.k y := rfl
theorem pay17 (y : Mat F 256 128)(g : Mat F 1 128) : k0_pay17 y g = hat headRows.k y g := rfl
theorem pay18 (y : Mat F 256 128) : k0_pay18 y = inv headRows.k y := rfl
theorem pay19 (y : Mat F 256 128)(g : Mat F 1 128) : k0_pay19 y g = hat headRows.k y g := rfl
theorem pay20 (y : Mat F 256 128) : k0_pay20 y = inv headRows.k y := rfl
theorem pay21 (y : Mat F 256 128)(g : Mat F 1 128) : k0_pay21 y g = hat headRows.k y g := rfl
theorem pay22 (y : Mat F 256 128) : k0_pay22 y = inv headRows.k y := rfl
theorem pay23 (y : Mat F 256 128)(g : Mat F 1 128) : k0_pay23 y g = hat headRows.k y g := rfl
theorem pay24 (x : Mat F 1024 128)(y : Mat F 256 128) : k0_pay24 x y = dotNT x y := rfl
theorem pay25 (x : Mat F 1024 128)(y : Mat F 256 128) : k0_pay25 x y = dotNT x y := rfl
theorem pay26 (x : Mat F 1024 128)(y : Mat F 256 128) : k0_pay26 x y = dotNT x y := rfl
theorem pay28 (x : Mat F 1024 128)(y : Mat F 256 128) : k0_pay28 x y = dotNT x y := rfl
theorem pay29 (x : Mat F 1024 128)(y : Mat F 256 128) : k0_pay29 x y = dotNT x y := rfl
theorem pay30 (x : Mat F 1024 128)(y : Mat F 256 128) : k0_pay30 x y = dotNT x y := rfl
theorem pay27 (x : Mat F 1024 128)(y : Mat F 256 128)(g : Mat F 1 128) : k0_pay27 y x g = dotNT x (hat headRows.k y g) := rfl
theorem pay31 (x : Mat F 1024 128) : k0_pay31 x = bf x := rfl
theorem pay32 (y : Mat F 256 128) : k0_pay32 y = bf y := rfl
theorem pay33 (x : Mat F 1024 128)(y : Mat F 256 128) : k0_pay33 (bf x) (bf y) (constant S1024x256 .f32 0x00000000#32) = dotNT x y := rfl
theorem pay34 (t : Mat F 1024 256) : k0_pay34 t = soft headRows.s t := rfl
theorem pay35 (t : Mat F 1024 256) : k0_pay35 t = soft headRows.s t := rfl
theorem pay36 (t : Mat F 1024 256) : k0_pay36 t = soft headRows.s t := rfl
theorem pay38 (t : Mat F 1024 256) : k0_pay38 (k0_pay37 t) = soft headRows.s t := rfl
theorem pay39 (dp t : Mat F 1024 256) : k0_pay39 dp t = dsoft headRows.s dp t := rfl
theorem pay40 (dp t : Mat F 1024 256) : k0_pay40 dp t = dsoft headRows.s dp t := rfl
theorem pay41 (dp t : Mat F 1024 256) : k0_pay41 dp t = dsoft headRows.s dp t := rfl
theorem pay42 (dp t : Mat F 1024 256) : k0_pay42 dp (k0_pay37 t) = dsoft headRows.s dp (soft headRows.s t) := rfl
theorem pay43 (dp t : Mat F 1024 256)(y : Mat F 256 128) : k0_pay43 y dp t = dotNN (dsoft headRows.s dp t) y := rfl
theorem pay44 (dp t : Mat F 1024 256)(y : Mat F 256 128) : k0_pay44 y dp t = dotNN (dsoft headRows.s dp t) y := rfl
theorem pay45 (dp t : Mat F 1024 256) : k0_pay45 dp t = bf (dsoft headRows.s dp t) := rfl
theorem pay46 (y : Mat F 256 128) : k0_pay46 y = bf y := rfl
theorem pay47 (t : Mat F 1024 256)(y : Mat F 256 128) : k0_pay47 (bf t) (bf y) (constant S1024x128 .f32 0x00000000#32) = dotNN t y := rfl
theorem pay48 (t : Mat F 1024 256)(y : Mat F 256 128) : k0_pay48 y t = dotNN t y := rfl
theorem pay49 (t : Mat F 1024 256)(x : Mat F 1024 128) : k0_pay49 x t = dotTN t x := rfl
theorem pay50 (t : Mat F 1024 256)(x : Mat F 1024 128) : k0_pay50 x t = dotTN t x := rfl
theorem pay51 (t : Mat F 1024 256)(x : Mat F 1024 128) : k0_pay51 x t = dotTN t x := rfl
theorem pay52 (t : Mat F 1024 256)(x : Mat F 1024 128) : k0_pay52 x t = dotTN t x := rfl
theorem pay53 (t : Mat F 1024 256)(x : Mat F 1024 128) : k0_pay53 x t = dotTN t x := rfl
theorem pay54 (t : Mat F 1024 256)(x : Mat F 1024 128) : k0_pay54 x t = dotTN t x := rfl
theorem pay55 (t : Mat F 1024 256)(x : Mat F 1024 128) : k0_pay55 x t = dotTN t x := rfl
theorem pay56 (t : Mat F 1024 256)(x : Mat F 1024 128) : k0_pay56 x t = dotTN t x := rfl
theorem pay57  : k0_pay57 (F := F) = word 1 128 0x00000000#32 := rfl
theorem pay58  : k0_pay58 (F := F) = word 1 128 0x00000000#32 := rfl
theorem pay63 (x : Mat F 1024 128)(r : Mat F 1024 1)(d : Mat F 1024 128)(g : Mat F 1 128) : k0_pay63 (k0_pay60 r d g) (k0_pay61 x r) (k0_pay62 x d g) = bf (back headRows.q x r d g) := rfl
theorem pay64 (y : Mat F 256 128)(r : Mat F 256 1)(d : Mat F 256 128)(g : Mat F 1 128)(c : Mat F 256 128) : k0_pay64 y r d g c = plus headRows.k c (back headRows.k y r d g) := rfl
theorem pay90 (y : Mat F 256 128)(r : Mat F 256 1)(d : Mat F 256 128)(g : Mat F 1 128)(c : Mat F 256 128) : k0_pay90 y r d g c = plus headRows.k c (back headRows.k y r d g) := rfl
theorem pay65 (y : Mat F 256 128)(c : Mat F 256 128) : k0_pay65 y c = plus headRows.k c y := rfl
theorem pay72 (y : Mat F 256 128)(c : Mat F 256 128) : k0_pay72 y c = plus headRows.k c y := rfl
theorem pay73 (y : Mat F 256 128)(c : Mat F 256 128) : k0_pay73 y c = plus headRows.k c y := rfl
theorem pay84 (y : Mat F 256 128)(c : Mat F 256 128) : k0_pay84 y c = plus headRows.k c y := rfl
theorem pay91 (y : Mat F 256 128)(c : Mat F 256 128) : k0_pay91 y c = plus headRows.k c y := rfl
theorem pay66 (x : Mat F 1024 128)(r : Mat F 1024 1)(d : Mat F 1024 128)(a : Mat F 1 128) : k0_pay66 x r d a = addf a (gain headRows.q x r d) := rfl
theorem pay67 (y : Mat F 256 128)(r : Mat F 256 1)(d : Mat F 256 128)(a : Mat F 1 128) : k0_pay67 y r d a = addf a (gain headRows.k y r d) := rfl
theorem pay86 (y : Mat F 256 128)(r : Mat F 256 1)(d : Mat F 256 128)(a : Mat F 1 128) : k0_pay86 y r d a = addf a (gain headRows.k y r d) := rfl
theorem pay93 (y : Mat F 256 128)(r : Mat F 256 1)(d : Mat F 256 128)(a : Mat F 1 128) : k0_pay93 y r d a = addf a (gain headRows.k y r d) := rfl
theorem pay68 (x : Mat F 1024 128)(r : Mat F 1024 1)(d : Mat F 1024 128) : k0_pay68 x r d = gain headRows.q x r d := rfl
theorem pay77 (x : Mat F 1024 128)(r : Mat F 1024 1)(d : Mat F 1024 128) : k0_pay77 x r d = gain headRows.q x r d := rfl
theorem pay69 (y : Mat F 256 128)(r : Mat F 256 1)(d : Mat F 256 128)(g : Mat F 1 128) : k0_pay69 y r d g = back headRows.k y r d g := rfl
theorem pay70 (y : Mat F 256 128)(r : Mat F 256 1)(d : Mat F 256 128) : k0_pay70 y r d = gain headRows.k y r d := rfl
theorem pay71 (x : Mat F 1024 128)(r : Mat F 1024 1)(d : Mat F 1024 128)(g : Mat F 1 128) : k0_pay71 x r d g = bf (back headRows.q x r d g) := rfl
theorem pay74 (a : Mat F 1 128)(b : Mat F 1 128) : k0_pay74 a b = addf a b := rfl
theorem pay75 (a : Mat F 1 128)(b : Mat F 1 128) : k0_pay75 a b = addf a b := rfl
theorem pay85 (a : Mat F 1 128)(b : Mat F 1 128) : k0_pay85 a b = addf a b := rfl
theorem pay76 (x : Mat F 1024 128)(r : Mat F 1024 1)(d : Mat F 1024 128)(g : Mat F 1 128) : k0_pay76 x r d g = back headRows.q x r d g := rfl
theorem pay87 (x : Mat F 1024 128)(r : Mat F 1024 1)(d : Mat F 1024 128)(g : Mat F 1 128) : k0_pay87 x r d g = back headRows.q x r d g := rfl
theorem pay82 (x : Mat F 1024 128) : k0_pay82 x = bf x := rfl
theorem pay89 (x : Mat F 1024 128) : k0_pay89 x = bf x := rfl
theorem pay83 (y : Mat F 256 128)(r : Mat F 256 1)(d : Mat F 256 128)(g : Mat F 1 128)(c : Mat F 256 128) : k0_pay83 (k0_pay79 r d g) (k0_pay80 y r) (k0_pay81 y d g) c = plus headRows.k c (back headRows.k y r d g) := rfl
theorem pay92 (x : Mat F 1024 128)(r : Mat F 1024 1)(d : Mat F 1024 128)(a : Mat F 1 128) : k0_pay92 r a (k0_pay88 x d) = addf a (gain headRows.q x r d) := rfl
theorem pay1 (a : Mat F 1 128)(b : Mat F 1 128) : k0_pay1 a b = addf (shapeCast S1x128 b gainRows) a := rfl
theorem pay2 (a : Mat F 1 128)(b : Mat F 1 128) : k0_pay2 a b = addf (shapeCast S1x128 b gainRows) a := rfl

end Cert.XAttn
-- ==== Proof.Pieces.lean ====
/- What the body's stores hold, in the vocabulary of one head: at every grid point, the pieces each output block ends
   with. -/
module

public import proofs.«01_k».proof.Proof.Payloads
public import Idealize.ShloMosaic.Lib.Pipeline.ReadBack

set_option maxRecDepth 16384

@[expose] public noncomputable section

namespace Cert.XAttn

open Idealize.ShloMosaic Idealize.ShloMosaic.ValueIdx
open Cert.KernelIdeal Cert.KernelIdeal.Gen

variable {F : FTy → Type} [FloatOps F]

/-- The `w` columns of `x` from column `o` on. -/
def cols {n K : Nat} (w o : Nat) (h : o + w ≤ K) (x : Mat F n K) : Mat F n w :=
  fun i => x (ix2 (i 0) ⟨o + (i 1).val, Nat.lt_of_lt_of_le (Nat.add_lt_add_left (idx2_lt1 i) o) h⟩)

/-- The columns from `o` on lie within the matrix. -/
theorem inbCols {n K w o : Nat} (h : o + w ≤ K) : ∀ a : Fin 2, (![0, o] : Fin 2 → Nat) a + ![n, w] a ≤ ![n, K] a := by
  intro a
  match a with
  | ⟨0, _⟩ => exact (Nat.zero_add n).le
  | ⟨1, _⟩ => exact h

/-- The rectangle of these columns. -/
abbrev colRect (n K w o : Nat) (h : o + w ≤ K) : Rect ⟨2, ![n, K]⟩ := Rect.unit (s := ⟨2, ![n, K]⟩) ![0, o] ![n, w] (inbCols h)

/-- A load of some columns of a whole buffer that holds `x` reads these columns of `x`. -/
theorem readCols {n K w o : Nat} (h : o + w ≤ K) (a : Memref sig .tc .vmem ⟨2, ![n, K]⟩ .f32) (ha : a.IsWhole)
    (x : Mat F n K) :
    View.readAt (Elt F) a.view (colRect n K w o h).toLoadRect (ha.unread x)
      = cols w o h x := by
  funext i
  rw [View.readAt_apply, ha.read_unread]
  refine congrArg x ?_
  funext b
  match b with
  | ⟨0, _⟩ => exact Fin.ext (by show 0 + 1 * _ = _; simp)
  | ⟨1, _⟩ => exact Fin.ext (by show o + 1 * _ = _; simp)

/-- A load of some columns of a buffer that was just filled with `Z` reads these columns of `Z`. -/
theorem readFill {s : Shape} {v : View sig .tc .vmem s .f32} {off : Fin s.rank → ℕ} {inb : ∀ a, off a + s.size a ≤ s.size a}
    {Z : s.Idx → Elt F .f32} {r : Rect s} (h : ∀ a, off a = 0) :
    v.readCov [⟨Rect.unit off (no_index s.size) inb, Z⟩] r.toLoadRect = fun j => Z (r.emb j) := by
  rw [View.readCov_fill v inb Z [] r h]; rfl

/-- The four heads of the blocks `x0` (queries), `x1` (keys, then values), `x2` and `x3` (the gains) and `x4` (the
    gradient of the output): head `j` has the columns from `128 j` on, its values those 512 further. -/
def heads (x0 : Mat F 1024 512) (x1 : Mat F 256 1024) (x2 x3 : Mat F 1 128) (x4 : Mat F 1024 512) (j : Fin 4) :
    Head F 1024 256 128 where
  x := cols 128 (128 * j.val) (by omega) x0
  y := cols 128 (128 * j.val) (by omega) x1
  v := cols 128 (512 + 128 * j.val) (by omega) x1
  d := cols 128 (128 * j.val) (by omega) x4
  gq := cols 128 0 (by decide) x2
  gk := cols 128 0 (by decide) x3

/-- The stores of the gradient of the queries. -/
def qPieces (h : Fin 4 → Head F 1024 256 128) : List (View.Piece (Elt F) S1024x512 .bf16) :=
  [⟨colRect 1024 512 128 384 (by decide), (h 3).dq headRows⟩, ⟨colRect 1024 512 128 256 (by decide), (h 2).dq headRows⟩,
   ⟨colRect 1024 512 128 128 (by decide), (h 1).dq headRows⟩, ⟨colRect 1024 512 128 0 (by decide), (h 0).dq headRows⟩]

/-- The stores of the gradients of the keys and values, onto what the block held. -/
def kvPieces (h : Fin 4 → Head F 1024 256 128) (a : Mat F 256 1024) : List (View.Piece (Elt F) S256x1024 .f32) :=
  [⟨colRect 256 1024 128 896 (by decide), plus headRows.k (cols 128 896 (by decide) a) ((h 3).dv headRows)⟩,
   ⟨colRect 256 1024 128 384 (by decide), plus headRows.k (cols 128 384 (by decide) a) ((h 3).dk headRows)⟩,
   ⟨colRect 256 1024 128 768 (by decide), plus headRows.k (cols 128 768 (by decide) a) ((h 2).dv headRows)⟩,
   ⟨colRect 256 1024 128 256 (by decide), plus headRows.k (cols 128 256 (by decide) a) ((h 2).dk headRows)⟩,
   ⟨colRect 256 1024 128 640 (by decide), plus headRows.k (cols 128 640 (by decide) a) ((h 1).dv headRows)⟩,
   ⟨colRect 256 1024 128 128 (by decide), plus headRows.k (cols 128 128 (by decide) a) ((h 1).dk headRows)⟩,
   ⟨colRect 256 1024 128 512 (by decide), plus headRows.k (cols 128 512 (by decide) a) ((h 0).dv headRows)⟩,
   ⟨colRect 256 1024 128 0 (by decide), plus headRows.k (cols 128 0 (by decide) a) ((h 0).dk headRows)⟩]

/-- The gradient of the queries' gain after the point that found `a`. -/
def gqAfter (h : Fin 4 → Head F 1024 256 128) (a : Mat F 1 128) : Mat F 1 128 :=
  addf (shapeCast S1x128 a gainRows) (addf (addf (addf (addf (word 1 128 0x00000000#32) ((h 0).gainq headRows))
    ((h 1).gainq headRows)) ((h 2).gainq headRows)) ((h 3).gainq headRows))
/-- The gradient of the keys' gain after the point that found `a`. -/
def gkAfter (h : Fin 4 → Head F 1024 256 128) (a : Mat F 1 128) : Mat F 1 128 :=
  addf (shapeCast S1x128 a gainRows) (addf (addf (addf (addf (word 1 128 0x00000000#32) ((h 0).gaink headRows))
    ((h 1).gaink headRows)) ((h 2).gaink headRows)) ((h 3).gaink headRows))

section
variable (c : Dev nD) (arg2 : Memref sig .tc .vmem S1024x512 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x512 .f32) (harg6 : arg6.IsWhole)
  (x0 : Vec F S1024x512 .f32) (x1 : Vec F S256x1024 .f32) (x2 : Vec F S1x128 .f32) (x3 : Vec F S1x128 .f32) (x4 : Vec F S1024x512 .f32)

/-- The loads of head `j`. -/
def loads (j : Fin 4) : Head F 1024 256 128 where
  x := View.readAt (Elt F) arg2.view (colRect 1024 512 128 (128 * j.val) (by omega)).toLoadRect (harg2.unread x0)
  y := View.readAt (Elt F) arg3.view (colRect 256 1024 128 (128 * j.val) (by omega)).toLoadRect (harg3.unread x1)
  v := View.readAt (Elt F) arg3.view (colRect 256 1024 128 (512 + 128 * j.val) (by omega)).toLoadRect (harg3.unread x1)
  d := View.readAt (Elt F) arg6.view (colRect 1024 512 128 (128 * j.val) (by omega)).toLoadRect (harg6.unread x4)
  gq := View.readAt (Elt F) arg4.view (colRect 1 128 128 0 (by decide)).toLoadRect (harg4.unread x2)
  gk := View.readAt (Elt F) arg5.view (colRect 1 128 128 0 (by decide)).toLoadRect (harg5.unread x3)

/-- The loads read the heads' columns of the blocks. -/
theorem loads_eq : loads arg2 harg2 arg3 harg3 arg4 harg4 arg5 harg5 arg6 harg6 x0 x1 x2 x3 x4 = heads x0 x1 x2 x3 x4 := by
  funext j
  unfold loads heads
  rw [readCols, readCols, readCols, readCols, readCols, readCols]

variable (i : grid0.Coords) (arg7 : Memref sig .tc .vmem S1024x512 .bf16) (harg7 : arg7.IsWhole) (arg8 : Memref sig .tc .vmem S256x1024 .f32) (harg8 : arg8.IsWhole) (arg9 : Memref sig .tc .vmem S1x128 .f32) (harg9 : arg9.IsWhole) (arg10 : Memref sig .tc .vmem S1x128 .f32) (harg10 : arg10.IsWhole)

/-- The stores of the gradient of the queries, in case A. -/
theorem q_A (hc0 : cond0_0 i) (hc1 : cond0_1 i) :
    (kernelRun0_A c i arg2 harg2 arg3 harg3 arg4 harg4 arg5 harg5 arg6 harg6 arg7 harg7 arg8 harg8 arg9 harg9 arg10 harg10 hc0 hc1 x0 x1 x2 x3 x4 ).1
      = qPieces (heads x0 x1 x2 x3 x4) := by
  rw [← loads_eq arg2 harg2 arg3 harg3 arg4 harg4 arg5 harg5 arg6 harg6 x0 x1 x2 x3 x4]
  dsimp only [kernelRun0_A]
  simp only [Head.dq, Head.dk, Head.dv, Head.gainq, Head.gaink, Head.dqn, Head.dkn, Head.ds, Head.p, qPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84]
  rfl

/-- The stores of the gradients of the keys and values, in case A. -/
theorem kv_A (hc0 : cond0_0 i) (hc1 : cond0_1 i) :
    (kernelRun0_A c i arg2 harg2 arg3 harg3 arg4 harg4 arg5 harg5 arg6 harg6 arg7 harg7 arg8 harg8 arg9 harg9 arg10 harg10 hc0 hc1 x0 x1 x2 x3 x4 ).2.1
      = kvPieces (heads x0 x1 x2 x3 x4) (word 256 1024 0x00000000#32) ++ [⟨Rect.unit (s := S256x1024) ![0, 0] ![256, 1024] (inbCols (n := 256) (by decide)), (word 256 1024 0x00000000#32)⟩] := by
  rw [← loads_eq arg2 harg2 arg3 harg3 arg4 harg4 arg5 harg5 arg6 harg6 x0 x1 x2 x3 x4]
  dsimp only [kernelRun0_A, kernelRun0_A.sl.v320, kernelRun0_A.sl.v324, kernelRun0_A.sl.v376, kernelRun0_A.sl.v380, kernelRun0_A.sl.v432, kernelRun0_A.sl.v436, kernelRun0_A.sl.v488, kernelRun0_A.sl.v492, kernelRun0_A.sl.H6_1, kernelRun0_A.sl.H6_2, kernelRun0_A.sl.H6_3, kernelRun0_A.sl.H6_4, kernelRun0_A.sl.H6_5, kernelRun0_A.sl.H6_6, kernelRun0_A.sl.H6_7, kernelRun0_A.sl.H6_8]
  simp (disch := decide) only [↓ View.readCov_skip]
  simp (disch := decide) only [readFill]
  simp only [Head.dq, Head.dk, Head.dv, Head.gainq, Head.gaink, Head.dqn, Head.dkn, Head.ds, Head.p, kvPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84]
  rfl

/-- The stores of the gradient of the queries' gain, in case A. -/
theorem gq_A (hc0 : cond0_0 i) (hc1 : cond0_1 i) :
    (kernelRun0_A c i arg2 harg2 arg3 harg3 arg4 harg4 arg5 harg5 arg6 harg6 arg7 harg7 arg8 harg8 arg9 harg9 arg10 harg10 hc0 hc1 x0 x1 x2 x3 x4 ).2.2.1
      = [⟨colRect 1 128 128 0 (by decide), gqAfter (heads x0 x1 x2 x3 x4) (cols 128 0 (by decide) (word 1 128 0x00000000#32))⟩] ++ [⟨colRect 1 128 128 0 (by decide), (word 1 128 0x00000000#32)⟩] := by
  rw [← loads_eq arg2 harg2 arg3 harg3 arg4 harg4 arg5 harg5 arg6 harg6 x0 x1 x2 x3 x4]
  dsimp only [kernelRun0_A, kernelRun0_A.sl.v498, kernelRun0_A.sl.H7_1]
  simp (disch := decide) only [readFill]
  simp only [Head.dq, Head.dk, Head.dv, Head.gainq, Head.gaink, Head.dqn, Head.dkn, Head.ds, Head.p, gqAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84]
  rfl

/-- The stores of the gradient of the keys' gain, in case A. -/
theorem gk_A (hc0 : cond0_0 i) (hc1 : cond0_1 i) :
    (kernelRun0_A c i arg2 harg2 arg3 harg3 arg4 harg4 arg5 harg5 arg6 harg6 arg7 harg7 arg8 harg8 arg9 harg9 arg10 harg10 hc0 hc1 x0 x1 x2 x3 x4 ).2.2.2.val
      = [⟨colRect 1 128 128 0 (by decide), gkAfter (heads x0 x1 x2 x3 x4) (cols 128 0 (by decide) (word 1 128 0x00000000#32))⟩] ++ [⟨colRect 1 128 128 0 (by decide), (word 1 128 0x00000000#32)⟩] := by
  rw [← loads_eq arg2 harg2 arg3 harg3 arg4 harg4 arg5 harg5 arg6 harg6 x0 x1 x2 x3 x4]
  dsimp only [kernelRun0_A, kernelRun0_A.sl.v502, kernelRun0_A.sl.H8_1]
  simp (disch := decide) only [readFill]
  simp only [Head.dq, Head.dk, Head.dv, Head.gainq, Head.gaink, Head.dqn, Head.dkn, Head.ds, Head.p, gkAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84]
  rfl

/-- The stores of the gradient of the queries, in case B. -/
theorem q_B (hc0 : ¬cond0_0 i) (hc1 : ¬cond0_1 i) (xo6 : Mat F 256 1024) (xo7 : Mat F 1 128) (xo8 : Mat F 1 128) :
    (kernelRun0_B c i arg2 harg2 arg3 harg3 arg4 harg4 arg5 harg5 arg6 harg6 arg7 harg7 arg8 harg8 arg9 harg9 arg10 harg10 hc0 hc1 x0 x1 x2 x3 x4 xo6 xo7 xo8).1
      = qPieces (heads x0 x1 x2 x3 x4) := by
  rw [← loads_eq arg2 harg2 arg3 harg3 arg4 harg4 arg5 harg5 arg6 harg6 x0 x1 x2 x3 x4]
  dsimp only [kernelRun0_B]
  simp only [Head.dq, Head.dk, Head.dv, Head.gainq, Head.gaink, Head.dqn, Head.dkn, Head.ds, Head.p, qPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84]
  rfl

/-- The stores of the gradients of the keys and values, in case B. -/
theorem kv_B (hc0 : ¬cond0_0 i) (hc1 : ¬cond0_1 i) (xo6 : Mat F 256 1024) (xo7 : Mat F 1 128) (xo8 : Mat F 1 128) :
    (kernelRun0_B c i arg2 harg2 arg3 harg3 arg4 harg4 arg5 harg5 arg6 harg6 arg7 harg7 arg8 harg8 arg9 harg9 arg10 harg10 hc0 hc1 x0 x1 x2 x3 x4 xo6 xo7 xo8).2.1
      = kvPieces (heads x0 x1 x2 x3 x4) xo6 := by
  rw [← loads_eq arg2 harg2 arg3 harg3 arg4 harg4 arg5 harg5 arg6 harg6 x0 x1 x2 x3 x4]
  dsimp only [kernelRun0_B, kernelRun0_B.sl.v324, kernelRun0_B.sl.v376, kernelRun0_B.sl.v380, kernelRun0_B.sl.v432, kernelRun0_B.sl.v436, kernelRun0_B.sl.v488, kernelRun0_B.sl.v492]
  simp only [← readCols _ arg8 harg8 xo6, Head.dq, Head.dk, Head.dv, Head.gainq, Head.gaink, Head.dqn, Head.dkn, Head.ds, Head.p, kvPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84]
  rfl

/-- The stores of the gradient of the queries' gain, in case B. -/
theorem gq_B (hc0 : ¬cond0_0 i) (hc1 : ¬cond0_1 i) (xo6 : Mat F 256 1024) (xo7 : Mat F 1 128) (xo8 : Mat F 1 128) :
    (kernelRun0_B c i arg2 harg2 arg3 harg3 arg4 harg4 arg5 harg5 arg6 harg6 arg7 harg7 arg8 harg8 arg9 harg9 arg10 harg10 hc0 hc1 x0 x1 x2 x3 x4 xo6 xo7 xo8).2.2.1
      = [⟨colRect 1 128 128 0 (by decide), gqAfter (heads x0 x1 x2 x3 x4) (cols 128 0 (by decide) xo7)⟩] := by
  rw [← loads_eq arg2 harg2 arg3 harg3 arg4 harg4 arg5 harg5 arg6 harg6 x0 x1 x2 x3 x4]
  dsimp only [kernelRun0_B]
  simp only [← readCols _ arg9 harg9 xo7, Head.dq, Head.dk, Head.dv, Head.gainq, Head.gaink, Head.dqn, Head.dkn, Head.ds, Head.p, gqAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84]
  rfl

/-- The stores of the gradient of the keys' gain, in case B. -/
theorem gk_B (hc0 : ¬cond0_0 i) (hc1 : ¬cond0_1 i) (xo6 : Mat F 256 1024) (xo7 : Mat F 1 128) (xo8 : Mat F 1 128) :
    (kernelRun0_B c i arg2 harg2 arg3 harg3 arg4 harg4 arg5 harg5 arg6 harg6 arg7 harg7 arg8 harg8 arg9 harg9 arg10 harg10 hc0 hc1 x0 x1 x2 x3 x4 xo6 xo7 xo8).2.2.2.val
      = [⟨colRect 1 128 128 0 (by decide), gkAfter (heads x0 x1 x2 x3 x4) (cols 128 0 (by decide) xo8)⟩] := by
  rw [← loads_eq arg2 harg2 arg3 harg3 arg4 harg4 arg5 harg5 arg6 harg6 x0 x1 x2 x3 x4]
  dsimp only [kernelRun0_B]
  simp only [← readCols _ arg10 harg10 xo8, Head.dq, Head.dk, Head.dv, Head.gainq, Head.gaink, Head.dqn, Head.dkn, Head.ds, Head.p, gkAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84]
  rfl

/-- The stores of the gradient of the queries, in case C. -/
theorem q_C (hc0 : ¬cond0_0 i) (hc1 : cond0_1 i) (xo7 : Mat F 1 128) (xo8 : Mat F 1 128) :
    (kernelRun0_C c i arg2 harg2 arg3 harg3 arg4 harg4 arg5 harg5 arg6 harg6 arg7 harg7 arg8 harg8 arg9 harg9 arg10 harg10 hc0 hc1 x0 x1 x2 x3 x4 xo7 xo8).1
      = qPieces (heads x0 x1 x2 x3 x4) := by
  rw [← loads_eq arg2 harg2 arg3 harg3 arg4 harg4 arg5 harg5 arg6 harg6 x0 x1 x2 x3 x4]
  dsimp only [kernelRun0_C]
  simp only [Head.dq, Head.dk, Head.dv, Head.gainq, Head.gaink, Head.dqn, Head.dkn, Head.ds, Head.p, qPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84]
  rfl

/-- The stores of the gradients of the keys and values, in case C. -/
theorem kv_C (hc0 : ¬cond0_0 i) (hc1 : cond0_1 i) (xo7 : Mat F 1 128) (xo8 : Mat F 1 128) :
    (kernelRun0_C c i arg2 harg2 arg3 harg3 arg4 harg4 arg5 harg5 arg6 harg6 arg7 harg7 arg8 harg8 arg9 harg9 arg10 harg10 hc0 hc1 x0 x1 x2 x3 x4 xo7 xo8).2.1
      = kvPieces (heads x0 x1 x2 x3 x4) (word 256 1024 0x00000000#32) ++ [⟨Rect.unit (s := S256x1024) ![0, 0] ![256, 1024] (inbCols (n := 256) (by decide)), (word 256 1024 0x00000000#32)⟩] := by
  rw [← loads_eq arg2 harg2 arg3 harg3 arg4 harg4 arg5 harg5 arg6 harg6 x0 x1 x2 x3 x4]
  dsimp only [kernelRun0_C, kernelRun0_C.sl.v320, kernelRun0_C.sl.v324, kernelRun0_C.sl.v376, kernelRun0_C.sl.v380, kernelRun0_C.sl.v432, kernelRun0_C.sl.v436, kernelRun0_C.sl.v488, kernelRun0_C.sl.v492, kernelRun0_C.sl.H6_1, kernelRun0_C.sl.H6_2, kernelRun0_C.sl.H6_3, kernelRun0_C.sl.H6_4, kernelRun0_C.sl.H6_5, kernelRun0_C.sl.H6_6, kernelRun0_C.sl.H6_7, kernelRun0_C.sl.H6_8]
  simp (disch := decide) only [↓ View.readCov_skip]
  simp (disch := decide) only [readFill]
  simp only [Head.dq, Head.dk, Head.dv, Head.gainq, Head.gaink, Head.dqn, Head.dkn, Head.ds, Head.p, kvPieces, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84]
  rfl

/-- The stores of the gradient of the queries' gain, in case C. -/
theorem gq_C (hc0 : ¬cond0_0 i) (hc1 : cond0_1 i) (xo7 : Mat F 1 128) (xo8 : Mat F 1 128) :
    (kernelRun0_C c i arg2 harg2 arg3 harg3 arg4 harg4 arg5 harg5 arg6 harg6 arg7 harg7 arg8 harg8 arg9 harg9 arg10 harg10 hc0 hc1 x0 x1 x2 x3 x4 xo7 xo8).2.2.1
      = [⟨colRect 1 128 128 0 (by decide), gqAfter (heads x0 x1 x2 x3 x4) (cols 128 0 (by decide) xo7)⟩] := by
  rw [← loads_eq arg2 harg2 arg3 harg3 arg4 harg4 arg5 harg5 arg6 harg6 x0 x1 x2 x3 x4]
  dsimp only [kernelRun0_C]
  simp only [← readCols _ arg9 harg9 xo7, Head.dq, Head.dk, Head.dv, Head.gainq, Head.gaink, Head.dqn, Head.dkn, Head.ds, Head.p, gqAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84]
  rfl

/-- The stores of the gradient of the keys' gain, in case C. -/
theorem gk_C (hc0 : ¬cond0_0 i) (hc1 : cond0_1 i) (xo7 : Mat F 1 128) (xo8 : Mat F 1 128) :
    (kernelRun0_C c i arg2 harg2 arg3 harg3 arg4 harg4 arg5 harg5 arg6 harg6 arg7 harg7 arg8 harg8 arg9 harg9 arg10 harg10 hc0 hc1 x0 x1 x2 x3 x4 xo7 xo8).2.2.2.val
      = [⟨colRect 1 128 128 0 (by decide), gkAfter (heads x0 x1 x2 x3 x4) (cols 128 0 (by decide) xo8)⟩] := by
  rw [← loads_eq arg2 harg2 arg3 harg3 arg4 harg4 arg5 harg5 arg6 harg6 x0 x1 x2 x3 x4]
  dsimp only [kernelRun0_C]
  simp only [← readCols _ arg10 harg10 xo8, Head.dq, Head.dk, Head.dv, Head.gainq, Head.gaink, Head.dqn, Head.dkn, Head.ds, Head.p, gkAfter, loads, pay7, pay8, pay9, pay10, pay11, pay12, pay14, pay15, pay16, pay17, pay18, pay19, pay20, pay21, pay22, pay23, pay24, pay25, pay26, pay28, pay29, pay30, pay27, pay31, pay32, pay33, pay34, pay35, pay36, pay38, pay39, pay40, pay41, pay42, pay43, pay44, pay45, pay46, pay47, pay48, pay49, pay50, pay51, pay52, pay53, pay54, pay55, pay56, pay57, pay58, pay63, pay64, pay90, pay65, pay72, pay73, pay84, pay91, pay66, pay67, pay86, pay93, pay68, pay77, pay69, pay70, pay71, pay74, pay75, pay85, pay76, pay87, pay82, pay89, pay83, pay92, pay1, pay2,
    kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84]
  rfl

end
end Cert.XAttn
-- ==== Proof.Reals.lean ====
/- The kernel's vocabulary on real entries: where the matrices an operation reads hold real numbers, so does its result,
   and its entries are the formulas of this file's `Row` functions. -/
module

public import proofs.«01_k».proof.Proof.Vocab
public import Idealize.ShloMosaic.Lib.ValueIdx
public import Idealize.ShloMosaic.Lib.IdealHost
public import Idealize.ShloMosaic.Lib.ValueLayoutCasts

set_option maxRecDepth 16384

@[expose] public noncomputable section

open scoped BigOperators

namespace Cert.XAttn

open Idealize.ShloMosaic Idealize.ShloMosaic.ValueIdx

/-! ## The formulas, on rows of real numbers -/

namespace Row
variable {k m : Nat}

/-- ε of the mean square. -/
def eps : ℝ := 8796093 * (2 : ℝ) ^ (-43 : ℤ)
/-- The scale of the scores. -/
def scale : ℝ := 11863283 * (2 : ℝ) ^ (-27 : ℤ)
/-- The reciprocal root mean square of a row. -/
def inv (x : Fin k → ℝ) : ℝ := (Real.sqrt ((∑ d, x d * x d) / 128 + eps))⁻¹
/-- The normalised row times the gain. -/
def hat (x g : Fin k → ℝ) (d : Fin k) : ℝ := x d * inv x * g d
/-- The largest entry of a row. -/
def top (s : Fin m → ℝ) : ℝ := ((Finset.univ : Finset (Fin m)).fold max (⊥ : EReal) (fun j => ((s j : ℝ) : EReal))).toReal
/-- The exponentials of the scaled scores less the largest. -/
def expo (s : Fin m → ℝ) (j : Fin m) : ℝ := Real.exp (s j * scale - top fun j => s j * scale)
/-- The softmax of the scaled scores. -/
def soft (s : Fin m → ℝ) (j : Fin m) : ℝ := expo s j * (1 / ∑ j, expo s j)
/-- The gradient of the raw scores from the gradient `dp` of the weights `p`. -/
def dsoft (dp p : Fin m → ℝ) (j : Fin m) : ℝ := p j * (dp j - ∑ j, p j * dp j) * scale
/-- The gradient of the row `x` from the gradient `d` of its normalised form. -/
def back (x d g : Fin k → ℝ) (j : Fin k) : ℝ :=
  inv x * (d j * g j) - x j * (inv x * inv x * inv x) * ((∑ j, d j * g j * x j) / 128)

theorem eps_pos : 0 < eps := by unfold eps; positivity
theorem mean_pos (x : Fin k → ℝ) : 0 < (∑ d, x d * x d) / 128 + eps :=
  add_pos_of_nonneg_of_pos (div_nonneg (Finset.sum_nonneg fun d _ => mul_self_nonneg _) (by norm_num)) eps_pos
theorem expo_pos (s : Fin m → ℝ) (j : Fin m) : 0 < expo s j := Real.exp_pos _
theorem sum_expo_pos [NeZero m] (s : Fin m → ℝ) : 0 < ∑ j, expo s j :=
  Finset.sum_pos (fun j _ => expo_pos s j) Finset.univ_nonempty
end Row

/-! ## Real entries -/

/-- The matrix `v` holds the real numbers `V`. -/
def Holds {n k : Nat} (v : (⟨2, ![n, k]⟩ : Shape).Idx → EReal) (V : Fin n → Fin k → ℝ) : Prop :=
  ∀ i j, v (ix2 i j) = ((V i j : ℝ) : EReal)

/-- A finite sum of real numbers, taken in the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The largest of some real numbers is the real number `top`. -/
theorem coe_top {m : Nat} [NeZero m] (s : Fin m → ℝ) :
    (Finset.univ : Finset (Fin m)).fold max (⊥ : EReal) (fun j => ((s j : ℝ) : EReal)) = ((Row.top s : ℝ) : EReal) := by
  refine (EReal.coe_toReal (ne_of_lt ?_) (ne_of_gt ?_)).symm
  · rw [Finset.fold_max_lt]
    exact ⟨bot_lt_top, fun j _ => EReal.coe_lt_top _⟩
  · rw [Finset.lt_fold_max]
    exact .inr ⟨0, Finset.mem_univ _, EReal.bot_lt_coe _⟩

/-- Division of real numbers. -/
theorem div_real {x y : ℝ} (h : y ≠ 0) : Ideal.div (x : EReal) (y : EReal) = ((x / y : ℝ) : EReal) := by
  rw [Ideal.div_coe h, ← EReal.coe_mul]
  congr 1; ring

theorem word_eps : (Scalar.ofBits .f32 0x358637BD#32 : Ideal .f32) = ((Row.eps : ℝ) : EReal) := by
  show Ideal.ofBits .f32 0x358637BD#32 = _
  unfold Row.eps
  simp [Ideal.ofBits, Ideal.ieee, -EReal.coe_mul]
theorem word_scale : (Scalar.ofBits .f32 0x3DB504F3#32 : Ideal .f32) = ((Row.scale : ℝ) : EReal) := by
  show Ideal.ofBits .f32 0x3DB504F3#32 = _
  unfold Row.scale
  simp [Ideal.ofBits, Ideal.ieee, -EReal.coe_mul]
theorem word_128 : (Scalar.ofBits .f32 0x43000000#32 : Ideal .f32) = ((128 : ℝ) : EReal) := by
  show Ideal.ofBits .f32 0x43000000#32 = _
  simp [Ideal.ofBits, Ideal.ieee, -EReal.coe_mul]; norm_num
theorem word_one : (Scalar.ofBits .f32 0x3F800000#32 : Ideal .f32) = ((1 : ℝ) : EReal) := Ideal.ofBits_one_f32
theorem word_zero : (Scalar.ofBits .f32 0x00000000#32 : Ideal .f32) = ((0 : ℝ) : EReal) := Ideal.ofBits_zero_f32
theorem word_bot : (FloatOps.ofBits .f32 0xFF800000#32 : Ideal .f32) = (⊥ : EReal) := by
  show Ideal.ofBits .f32 0xFF800000#32 = _
  simp [Ideal.ofBits, Ideal.ieee]

namespace Holds
variable {n m k : Nat} {a b : Mat Ideal n k} {A B : Fin n → Fin k → ℝ}

theorem mul (ha : Holds a A) (hb : Holds b B) : Holds (mulf a b) (fun i j => A i j * B i j) := fun i j => by
  rw [mulf_apply, ha, hb, EReal.coe_mul]
theorem add (ha : Holds a A) (hb : Holds b B) : Holds (addf a b) (fun i j => A i j + B i j) := fun i j => by
  rw [addf_apply, ha, hb, EReal.coe_add]
theorem sub (ha : Holds a A) (hb : Holds b B) : Holds (subf a b) (fun i j => A i j - B i j) := fun i j => by
  rw [subf_apply, ha, hb, EReal.coe_sub]
theorem div (ha : Holds a A) (hb : Holds b B) (h : ∀ i j, B i j ≠ 0) : Holds (divf a b) (fun i j => A i j / B i j) :=
  fun i j => by rw [divf_apply, ha, hb, div_real (h i j)]
theorem exp (ha : Holds a A) : Holds (Idealize.ShloMosaic.exp a) (fun i j => Real.exp (A i j)) := fun i j => by
  show Ideal.exp (a (ix2 i j)) = _
  rw [ha]; rfl
theorem rsqrt (ha : Holds a A) (h : ∀ i j, 0 < A i j) :
    Holds (Idealize.ShloMosaic.rsqrt a) (fun i j => (Real.sqrt (A i j))⁻¹) := fun i j => by
  show Ideal.rsqrt (a (ix2 i j)) = _
  rw [ha, Ideal.rsqrt_coe, if_neg (not_lt.mpr (h i j).le), if_neg (h i j).ne']
theorem const {w : BitVec 32} {r : ℝ} (h : (Scalar.ofBits .f32 w : Ideal .f32) = ((r : ℝ) : EReal)) :
    Holds (XAttn.word (F := Ideal) n k w) (fun _ _ => r) := fun _ _ => h
theorem bf (ha : Holds a A) : Holds (XAttn.bf a) A := fun i j => ha i j
theorem spread (f : Rows n k) {c : Mat Ideal n 1} {C : Fin n → Fin 1 → ℝ} (hc : Holds c C) :
    Holds (XAttn.spread f c) (fun i _ => C i 0) := fun i j => by
  unfold XAttn.spread
  rw [broadcastTo_apply c f.spread (ix2 i j) (ix2 i (0 : Fin 1)) fun ax => ?_]
  · exact hc i 0
  · match ax with
    | ⟨0, _⟩ =>
      show i.val = if n = 1 then 0 else i.val
      split
      · have := i.isLt; omega
      · rfl
    | ⟨1, _⟩ => rfl
theorem over (f : Rows n k) {g : Mat Ideal 1 k} {G : Fin 1 → Fin k → ℝ} (hg : Holds g G) :
    Holds (XAttn.over f g) (fun _ j => G 0 j) := fun i j => by
  unfold XAttn.over
  rw [broadcastTo_1b_ab_apply]; exact hg 0 j
theorem rowSum (f : Rows n k) (ha : Holds a A) : Holds (XAttn.rowSum f a) (fun i _ => ∑ j, A i j) := fun i j => by
  unfold XAttn.rowSum
  rw [shapeCast_a_a1_apply, coe_sum]
  refine (Ideal.multiReduction_add_single _ _ _ _ _ _).trans ?_
  refine Finset.sum_congr rfl fun (d : Fin k) _ => ?_
  refine Eq.trans (congrArg a ?_) (ha i d)
  funext b
  match b with
  | ⟨0, _⟩ => rfl
  | ⟨1, _⟩ => rfl
theorem rowMax [NeZero k] (f : Rows n k) (ha : Holds a A) : Holds (XAttn.rowMax f a) (fun i _ => Row.top (A i)) := fun i j => by
  unfold XAttn.rowMax
  rw [shapeCast_a_a1_apply]
  refine (Ideal.multiReduction_maximumf_single _ _ _ _ _ _).trans ?_
  rw [word_bot, ← coe_top]
  refine congrArg (fun g => Finset.fold max (⊥ : EReal) g Finset.univ) ?_
  funext (d : Fin k)
  refine Eq.trans (congrArg a ?_) (ha i d)
  funext b
  match b with
  | ⟨0, _⟩ => rfl
  | ⟨1, _⟩ => rfl
theorem colSum (f : Rows n k) (ha : Holds a A) : Holds (XAttn.colSum f a) (fun _ j => ∑ i, A i j) := fun i j => by
  unfold XAttn.colSum
  rw [shapeCast_a_1a_apply, coe_sum]
  refine (Ideal.multiReduction_add_single _ _ _ _ _ _).trans ?_
  refine Finset.sum_congr rfl fun (d : Fin n) _ => ?_
  refine Eq.trans (congrArg a ?_) (ha d j)
  funext b
  match b with
  | ⟨0, _⟩ => rfl
  | ⟨1, _⟩ => rfl
theorem plus (f : Rows n k) (ha : Holds a A) (hb : Holds b B) : Holds (XAttn.plus f a b) (fun i j => A i j + B i j) := by
  unfold XAttn.plus
  rw [shapeCast_self]
  exact ha.add hb

theorem dotNN {x : Mat Ideal n m} {y : Mat Ideal m k} {X : Fin n → Fin m → ℝ} {Y : Fin m → Fin k → ℝ} (hx : Holds x X) (hy : Holds y Y) :
    Holds (XAttn.dotNN x y) (fun i j => ∑ d, X i d * Y d j) := fun i j => by
  unfold XAttn.dotNN
  simp only [matmul]
  rw [Ideal.matmul_plain_apply, constant_apply, coe_sum]
  show Ideal.ofBits .f32 0x00000000#32 + _ = _
  rw [Ideal.ofBits_zero_f32, zero_add]
  refine Finset.sum_congr rfl fun d _ => ?_
  rw [EReal.coe_mul, ← hx, ← hy]; rfl
theorem dotNT {x : Mat Ideal n k} {y : Mat Ideal m k} {X : Fin n → Fin k → ℝ} {Y : Fin m → Fin k → ℝ} (hx : Holds x X) (hy : Holds y Y) :
    Holds (XAttn.dotNT x y) (fun i j => ∑ d, X i d * Y j d) := fun i j => by
  unfold XAttn.dotNT
  simp only [matmul]
  rw [Ideal.matmul_transposedRhs_apply, constant_apply, coe_sum]
  show Ideal.ofBits .f32 0x00000000#32 + _ = _
  rw [Ideal.ofBits_zero_f32, zero_add]
  refine Finset.sum_congr rfl fun d _ => ?_
  rw [EReal.coe_mul, ← hx, ← hy]; rfl
theorem dotTN {x : Mat Ideal n m} {y : Mat Ideal n k} {X : Fin n → Fin m → ℝ} {Y : Fin n → Fin k → ℝ} (hx : Holds x X) (hy : Holds y Y) :
    Holds (XAttn.dotTN x y) (fun i j => ∑ d, X d i * Y d j) := fun i j => by
  unfold XAttn.dotTN
  simp only [matmul]
  have hr : (dimsTN m n k).contr.rank = 1 := rfl
  have hs : (dimsTN m n k).contr.size ⟨0, by omega⟩ = n := rfl
  rw [Ideal.matmul_constant_zero_apply, ← Equiv.sum_comp (contrEquiv1 _ n hr hs).symm, coe_sum]
  refine Finset.sum_congr rfl fun d _ => ?_
  have hk := contrEquiv1_symm_val _ n hr hs d
  have el : (dimsTN m n k).lhsIdx (ix2 i j) ((contrEquiv1 _ n hr hs).symm d) = ix2 d i := by
    funext a; apply Fin.ext
    match a with
    | ⟨0, _⟩ => exact hk
    | ⟨1, _⟩ => rfl
  have er : (dimsTN m n k).rhsIdx (ix2 i j) ((contrEquiv1 _ n hr hs).symm d) = ix2 d j := by
    funext a; apply Fin.ext
    match a with
    | ⟨0, _⟩ => exact hk
    | ⟨1, _⟩ => rfl
  rw [el, er, EReal.coe_mul, ← hx, ← hy]; rfl

theorem inv (f : Rows n k) (ha : Holds a A) : Holds (XAttn.inv f a) (fun i _ => Row.inv (A i)) :=
  (((ha.mul ha).rowSum f |>.div (const word_128) fun _ _ => by norm_num).add (const word_eps)).rsqrt fun i _ => Row.mean_pos (A i)
theorem hat (f : Rows n k) {g : Mat Ideal 1 k} {G : Fin 1 → Fin k → ℝ} (ha : Holds a A) (hg : Holds g G) :
    Holds (XAttn.hat f a g) (fun i => Row.hat (A i) (G 0)) := (ha.mul ((ha.inv f).spread f)).mul (hg.over f)
theorem expo [NeZero k] (f : Rows n k) (ha : Holds a A) : Holds (XAttn.expo f a) (fun i => Row.expo (A i)) :=
  ((ha.mul (const word_scale)).sub (((ha.mul (const word_scale)).rowMax f).spread f)).exp
theorem soft [NeZero k] (f : Rows n k) (ha : Holds a A) : Holds (XAttn.soft f a) (fun i => Row.soft (A i)) :=
  (ha.expo f).mul (((const word_one).div ((ha.expo f).rowSum f) fun i _ => (Row.sum_expo_pos (A i)).ne').spread f)
theorem dsoft (f : Rows n k) (ha : Holds a A) (hb : Holds b B) : Holds (XAttn.dsoft f a b) (fun i => Row.dsoft (A i) (B i)) :=
  (hb.mul (ha.sub (((hb.mul ha).rowSum f).spread f))).mul (const word_scale)
theorem back (f : Rows n k) {g : Mat Ideal 1 k} {G : Fin 1 → Fin k → ℝ} (ha : Holds a A) (hb : Holds b B) (hg : Holds g G) :
    Holds (XAttn.back f a (XAttn.inv f a) b g) (fun i => Row.back (A i) (B i) (G 0)) :=
  (((ha.inv f).spread f).mul (hb.mul (hg.over f))).sub
    ((ha.mul ((((ha.inv f).mul (ha.inv f)).mul (ha.inv f)).spread f)).mul
      (((((hb.mul (hg.over f)).mul ha).rowSum f).div (const word_128) fun _ _ => by norm_num).spread f))
theorem gain (f : Rows n k) (ha : Holds a A) (hb : Holds b B) :
    Holds (XAttn.gain f a (XAttn.inv f a) b) (fun _ j => ∑ i, B i j * A i j * Row.inv (A i)) :=
  ((hb.mul ha).mul ((ha.inv f).spread f)).colSum f
end Holds
end Cert.XAttn
-- ==== Proof.HeadReals.lean ====
/- One head on real entries: the formulas of the gradient, that the body's head computes them, and how the gradient of a
   head with 2048 queries is made of those of its two halves. -/
module

public import proofs.«01_k».proof.Proof.Reals

set_option maxRecDepth 16384

@[expose] public noncomputable section

open scoped BigOperators

namespace Cert.XAttn

open Idealize.ShloMosaic Idealize.ShloMosaic.ValueIdx

/-- What one head reads, as real numbers: queries, keys, values, the gradient of the output, the two gains. -/
structure RHead (n m k : Nat) where
  X : Fin n → Fin k → ℝ
  Y : Fin m → Fin k → ℝ
  V : Fin m → Fin k → ℝ
  D : Fin n → Fin k → ℝ
  Gq : Fin k → ℝ
  Gk : Fin k → ℝ

namespace RHead
variable {n m k : Nat} (H : RHead n m k)

/-- The raw scores of query `i`. -/
def Raw (i : Fin n) (j : Fin m) : ℝ := ∑ d, Row.hat (H.X i) H.Gq d * Row.hat (H.Y j) H.Gk d
/-- The attention weights of query `i`. -/
def P (i : Fin n) : Fin m → ℝ := Row.soft (H.Raw i)
/-- The gradient of the attention weights. -/
def DP (i : Fin n) (j : Fin m) : ℝ := ∑ d, H.D i d * H.V j d
/-- The gradient of the raw scores. -/
def DS (i : Fin n) : Fin m → ℝ := Row.dsoft (H.DP i) (H.P i)
/-- The gradient of the normalised queries. -/
def DQN (i : Fin n) (d : Fin k) : ℝ := ∑ j, H.DS i j * Row.hat (H.Y j) H.Gk d
/-- The gradient of the normalised keys. -/
def DKN (j : Fin m) (d : Fin k) : ℝ := ∑ i, H.DS i j * Row.hat (H.X i) H.Gq d
/-- The gradient of the values. -/
def DV (j : Fin m) (d : Fin k) : ℝ := ∑ i, H.P i j * H.D i d
/-- The gradient of the queries. -/
def DQ (i : Fin n) : Fin k → ℝ := Row.back (H.X i) (H.DQN i) H.Gq
/-- The gradient of the keys. -/
def DK (j : Fin m) : Fin k → ℝ := Row.back (H.Y j) (H.DKN j) H.Gk
/-- The gradient of the queries' gain. -/
def GQ (d : Fin k) : ℝ := ∑ i, H.DQN i d * H.X i d * Row.inv (H.X i)
/-- The gradient of the keys' gain. -/
def GK (d : Fin k) : ℝ := ∑ j, H.DKN j d * H.Y j d * Row.inv (H.Y j)
end RHead

/-- The head `h` holds the real numbers of `H`. -/
structure HoldsHead {n m k : Nat} (h : Head Ideal n m k) (H : RHead n m k) : Prop where
  x : Holds h.x H.X
  y : Holds h.y H.Y
  v : Holds h.v H.V
  d : Holds h.d H.D
  gq : Holds h.gq (fun _ => H.Gq)
  gk : Holds h.gk (fun _ => H.Gk)

namespace HoldsHead
variable {n m k : Nat} [NeZero m] (f : HeadRows n m k) {h : Head Ideal n m k} {H : RHead n m k} (hh : HoldsHead h H)
include hh

theorem p : Holds (h.p f) H.P := ((hh.x.hat f.q hh.gq).dotNT (hh.y.hat f.k hh.gk)).soft f.s
theorem ds : Holds (h.ds f) H.DS := (hh.d.dotNT hh.v).dsoft f.s (hh.p f)
theorem dqn : Holds (h.dqn f) H.DQN := (hh.ds f).dotNN (hh.y.hat f.k hh.gk)
theorem dkn : Holds (h.dkn f) H.DKN := (hh.ds f).dotTN (hh.x.hat f.q hh.gq)
/-- The gradient of the values, on real entries. -/
theorem dv : Holds (h.dv f) H.DV := (hh.p f).dotTN hh.d
/-- The gradient of the queries, on real entries. -/
theorem dq : Holds (h.dq f) H.DQ := (hh.x.back f.q (hh.dqn f) hh.gq).bf
/-- The gradient of the keys, on real entries. -/
theorem dk : Holds (h.dk f) H.DK := hh.y.back f.k (hh.dkn f) hh.gk
/-- The gradient of the queries' gain, on real entries. -/
theorem gainq : Holds (h.gainq f) (fun _ => H.GQ) := hh.x.gain f.q (hh.dqn f)
/-- The gradient of the keys' gain, on real entries. -/
theorem gaink : Holds (h.gaink f) (fun _ => H.GK) := hh.y.gain f.k (hh.dkn f)
end HoldsHead

/-! ## The two halves of the queries -/

/-- A row of the first (`i = 0`) or second (`i = 1`) half. -/
def half (i : Fin 2) (r : Fin 1024) : Fin 2048 := ⟨1024 * i.val + r.val, by omega⟩

/-- A sum over 2048 rows, half by half. -/
theorem sum_half (f : Fin 2048 → ℝ) : ∑ s, f s = ∑ i : Fin 2, ∑ r : Fin 1024, f (half i r) := by
  rw [Fin.sum_univ_two]
  have e := Fin.sum_univ_add (a := 1024) (b := 1024) (f := fun s : Fin (1024 + 1024) => f s)
  refine e.trans (congrArg₂ (· + ·) ?_ ?_)
  · exact Finset.sum_congr rfl fun r _ => congrArg f (Fin.ext (by simp [half]))
  · exact Finset.sum_congr rfl fun r _ => congrArg f (Fin.ext (by simp [half, Nat.add_comm]))

namespace Row
variable {k : Nat}
/-- The gradient of a normalised row is additive in what comes in. -/
theorem back_sum {ι : Type*} (s : Finset ι) (x g : Fin k → ℝ) (d : ι → Fin k → ℝ) (j : Fin k) :
    back x (fun l => ∑ i ∈ s, d i l) g j = ∑ i ∈ s, back x (d i) g j := by
  unfold back
  rw [Finset.sum_sub_distrib]
  congr 1
  · rw [Finset.sum_mul, Finset.mul_sum]
  · rw [← Finset.mul_sum, ← Finset.sum_div, Finset.sum_comm]
    congr 2
    exact Finset.sum_congr rfl fun l _ => by rw [Finset.sum_mul, Finset.sum_mul]
end Row

namespace RHead
variable {m k : Nat} (H : RHead 2048 m k)

/-- The head restricted to one half of its queries. -/
def part (i : Fin 2) : RHead 1024 m k := { H with X := fun r => H.X (half i r), D := fun r => H.D (half i r) }

theorem DV_part (j : Fin m) (d : Fin k) : H.DV j d = ∑ i, (H.part i).DV j d := sum_half _
theorem DKN_part (j : Fin m) (d : Fin k) : H.DKN j d = ∑ i, (H.part i).DKN j d := sum_half _
theorem GQ_part (d : Fin k) : H.GQ d = ∑ i, (H.part i).GQ d := sum_half _
theorem DK_part (j : Fin m) (d : Fin k) : H.DK j d = ∑ i, (H.part i).DK j d := by
  have e : H.DKN j = fun l => ∑ i, (H.part i).DKN j l := funext fun l => H.DKN_part j l
  unfold DK
  rw [e, Row.back_sum]
  rfl
theorem GK_part (d : Fin k) : H.GK d = ∑ i, (H.part i).GK d := by
  unfold GK
  rw [Finset.sum_comm]
  refine Finset.sum_congr rfl fun j _ => ?_
  rw [H.DKN_part, Finset.sum_mul, Finset.sum_mul]
  rfl
end RHead

end Cert.XAttn
-- ==== Proof.Blocks.lean ====
/- What the body leaves in its four output blocks at one grid point, on real entries: the tile's gradient of the queries,
   and the running sums of the other three. -/
module

public import proofs.«01_k».proof.Proof.Pieces
public import proofs.«01_k».proof.Proof.HeadReals

set_option maxRecDepth 16384

@[expose] public noncomputable section

open scoped BigOperators

namespace Cert.XAttn

open Idealize.ShloMosaic Idealize.ShloMosaic.ValueIdx
open Cert.KernelIdeal Cert.KernelIdeal.Gen

/-- The head of a column of the queries. -/
def headOf (c : Fin 512) : Fin 4 := ⟨c.val / 128, by omega⟩
/-- The column of a column within its head. -/
def inHead {K : Nat} (c : Fin K) : Fin 128 := ⟨c.val % 128, by omega⟩
/-- The head of a column of the keys and values. -/
def kvHead (c : Fin 1024) : Fin 4 := ⟨c.val % 512 / 128, by omega⟩

/-- Columns of real entries. -/
theorem Holds.cols {n K w o : Nat} (h : o + w ≤ K) {x : Mat Ideal n K} {X : Fin n → Fin K → ℝ} (hx : Holds x X) :
    Holds (XAttn.cols w o h x) (fun i j => X i ⟨o + j.val, Nat.lt_of_lt_of_le (Nat.add_lt_add_left j.isLt o) h⟩) :=
  fun i j => hx i _

/-- The columns of a rectangle of columns. -/
theorem mem_colRect {n K w o : Nat} (h : o + w ≤ K) (y : (⟨2, ![n, K]⟩ : Shape).Idx)
    (h0 : o ≤ (y 1).val) (h1 : (y 1).val < o + w) : y ∈ (colRect n K w o h).set := by
  rw [Rect.mem_set_unit]
  intro a
  match a with
  | ⟨0, _⟩ => exact ⟨Nat.zero_le _, by show (y 0).val < 0 + n; have := idx2_lt0 y; omega⟩
  | ⟨1, _⟩ => exact ⟨h0, h1⟩

/-- A place of a rectangle of columns, in the matrix. -/
theorem emb_colRect {n K w o : Nat} (h : o + w ≤ K) (i : Fin n) (j : Fin w) :
    (colRect n K w o h).emb (ix2 i j) = ix2 i ⟨o + j.val, Nat.lt_of_lt_of_le (Nat.add_lt_add_left j.isLt o) h⟩ := by
  funext b
  match b with
  | ⟨0, _⟩ => exact Fin.ext (by show 0 + 1 * _ = _; simp)
  | ⟨1, _⟩ => exact Fin.ext (by show o + 1 * _ = _; simp)

/-- A piece of columns holds the columns of `G`. -/
theorem piece_holds {n K w o : Nat} (h : o + w ≤ K) (G : Fin n → Fin K → ℝ) (v : (⟨2, ![n, w]⟩ : Shape).Idx → EReal)
    (V : Fin n → Fin w → ℝ) (hv : Holds v V)
    (hG : ∀ i j, V i j = G i ⟨o + j.val, Nat.lt_of_lt_of_le (Nat.add_lt_add_left j.isLt o) h⟩)
    (x : (colRect n K w o h).shape.Idx) :
    v x = (fun y : (⟨2, ![n, K]⟩ : Shape).Idx => ((G (y 0) (y 1) : ℝ) : EReal)) ((colRect n K w o h).emb x) := by
  obtain ⟨i, j, rfl⟩ : ∃ (i : Fin n) (j : Fin w), x = ix2 i j := ⟨x 0, x 1, eq_ix2 x⟩
  refine (hv i j).trans ?_
  rw [hG, emb_colRect]
  rfl

theorem headOf_at {o : Nat} (j : Fin 4) (ho : o = 128 * j.val) (d : Fin 128) (h : o + d.val < 512) : headOf ⟨o + d.val, h⟩ = j :=
  Fin.ext (by show (o + d.val) / 128 = j.val; omega)
theorem inHead_at {o K : Nat} (j : Nat) (ho : o = 128 * j) (d : Fin 128) (h : o + d.val < K) : inHead (K := K) ⟨o + d.val, h⟩ = d :=
  Fin.ext (by show (o + d.val) % 128 = d.val; omega)
theorem kvHead_at {o : Nat} (j : Fin 4) (ho : o = 128 * j.val ∨ o = 512 + 128 * j.val) (d : Fin 128) (h : o + d.val < 1024) :
    kvHead ⟨o + d.val, h⟩ = j :=
  Fin.ext (by show (o + d.val) % 512 / 128 = j.val; omega)

/-- The gradient of the keys and values, from those of the heads. -/
def kvGrad {n : Nat} (H : Fin 4 → RHead n 256 128) (r : Fin 256) (c : Fin 1024) : ℝ :=
  if c.val < 512 then (H (kvHead c)).DK r (inHead c) else (H (kvHead c)).DV r (inHead c)

theorem kvGrad_dk {n : Nat} (H : Fin 4 → RHead n 256 128) {o : Nat} (j : Fin 4) (ho : o = 128 * j.val) (r : Fin 256) (d : Fin 128)
    (h : o + d.val < 1024) : kvGrad H r ⟨o + d.val, h⟩ = (H j).DK r d := by
  rw [kvGrad, if_pos (by show o + d.val < 512; omega), kvHead_at j (.inl ho), inHead_at j.val ho]
theorem kvGrad_dv {n : Nat} (H : Fin 4 → RHead n 256 128) {o : Nat} (j : Fin 4) (ho : o = 512 + 128 * j.val) (r : Fin 256) (d : Fin 128)
    (h : o + d.val < 1024) : kvGrad H r ⟨o + d.val, h⟩ = (H j).DV r d := by
  rw [kvGrad, if_neg (by show ¬ o + d.val < 512; omega), kvHead_at j (.inr ho), inHead_at (4 + j.val) (by omega)]

variable {hs : Fin 4 → Head Ideal 1024 256 128} {H : Fin 4 → RHead 1024 256 128} (hh : ∀ j, HoldsHead (hs j) (H j))
include hh

/-- The tile's gradient of the queries. -/
theorem q_canon : Holds (View.canon (qPieces hs)) (fun r c => (H (headOf c)).DQ r (inHead c)) := by
  intro r c
  have p (j : Fin 4) (o : Nat) (ho : o = 128 * j.val) (h : o + 128 ≤ 512) :=
    piece_holds h (fun r c => (H (headOf c)).DQ r (inHead c)) _ _ ((hh j).dq headRows) fun i d => by
      rw [headOf_at j ho, inHead_at j.val ho]
  have key := View.canon_append_of_piecesOf (Val := Elt Ideal) (e := .bf16)
    (fun y : (⟨2, ![1024, 512]⟩ : Shape).Idx => (((H (headOf (y 1))).DQ (y 0) (inHead (y 1)) : ℝ) : EReal)) []
    (qPieces hs) ⟨p 3 384 rfl (by decide), p 2 256 rfl (by decide), p 1 128 rfl (by decide), p 0 0 rfl (by decide), trivial⟩ (ix2 r c) ?_
  · rw [List.append_nil] at key
    exact key
  · have hc : c.val < 512 := c.isLt
    unfold qPieces
    rcases (by omega : 384 ≤ c.val ∨ (256 ≤ c.val ∧ c.val < 384) ∨ (128 ≤ c.val ∧ c.val < 256) ∨ c.val < 128) with h | h | h | h
    · exact ⟨_, .head _, mem_colRect (by decide) _ h (by show c.val < _; omega)⟩
    · exact ⟨_, .tail _ (.head _), mem_colRect (by decide) _ h.1 h.2⟩
    · exact ⟨_, .tail _ (.tail _ (.head _)), mem_colRect (by decide) _ h.1 h.2⟩
    · exact ⟨_, .tail _ (.tail _ (.tail _ (.head _))), mem_colRect (by decide) _ (Nat.zero_le _) (by show c.val < _; omega)⟩

/-- The gradient of the keys and values after the point that found `a`. -/
theorem kv_canon {a : Mat Ideal 256 1024} {A : Fin 256 → Fin 1024 → ℝ} (ha : Holds a A) (L : List (View.Piece (Elt Ideal) S256x1024 .f32)) :
    Holds (View.canon (kvPieces hs a ++ L)) (fun r c => A r c + kvGrad H r c) := by
  intro r c
  have pk (j : Fin 4) (o : Nat) (ho : o = 128 * j.val) (h : o + 128 ≤ 1024) :=
    piece_holds h (fun r c => A r c + kvGrad H r c) _ _ ((ha.cols h).plus headRows.k ((hh j).dk headRows)) fun i d => by
      rw [kvGrad_dk H j ho]
  have pv (j : Fin 4) (o : Nat) (ho : o = 512 + 128 * j.val) (h : o + 128 ≤ 1024) :=
    piece_holds h (fun r c => A r c + kvGrad H r c) _ _ ((ha.cols h).plus headRows.k ((hh j).dv headRows)) fun i d => by
      rw [kvGrad_dv H j ho]
  refine View.canon_append_of_piecesOf (Val := Elt Ideal) (e := .f32)
    (fun y : (⟨2, ![256, 1024]⟩ : Shape).Idx => ((A (y 0) (y 1) + kvGrad H (y 0) (y 1) : ℝ) : EReal)) L
    (kvPieces hs a) ⟨pv 3 896 rfl (by decide), pk 3 384 rfl (by decide), pv 2 768 rfl (by decide), pk 2 256 rfl (by decide), pv 1 640 rfl (by decide), pk 1 128 rfl (by decide), pv 0 512 rfl (by decide),
      pk 0 0 rfl (by decide), trivial⟩ (ix2 r c) ?_
  have hc : c.val < 1024 := c.isLt
  unfold kvPieces
  rcases (by omega : 896 ≤ c.val ∨ (384 ≤ c.val ∧ c.val < 512) ∨ (768 ≤ c.val ∧ c.val < 896) ∨ (256 ≤ c.val ∧ c.val < 384)
      ∨ (640 ≤ c.val ∧ c.val < 768) ∨ (128 ≤ c.val ∧ c.val < 256) ∨ (512 ≤ c.val ∧ c.val < 640) ∨ c.val < 128)
    with h | h | h | h | h | h | h | h
  · exact ⟨_, .head _, mem_colRect (by decide) _ h (by show c.val < _; omega)⟩
  · exact ⟨_, .tail _ (.head _), mem_colRect (by decide) _ h.1 h.2⟩
  · exact ⟨_, .tail _ (.tail _ (.head _)), mem_colRect (by decide) _ h.1 h.2⟩
  · exact ⟨_, .tail _ (.tail _ (.tail _ (.head _))), mem_colRect (by decide) _ h.1 h.2⟩
  · exact ⟨_, .tail _ (.tail _ (.tail _ (.tail _ (.head _)))), mem_colRect (by decide) _ h.1 h.2⟩
  · exact ⟨_, .tail _ (.tail _ (.tail _ (.tail _ (.tail _ (.head _))))), mem_colRect (by decide) _ h.1 h.2⟩
  · exact ⟨_, .tail _ (.tail _ (.tail _ (.tail _ (.tail _ (.tail _ (.head _)))))), mem_colRect (by decide) _ h.1 h.2⟩
  · exact ⟨_, .tail _ (.tail _ (.tail _ (.tail _ (.tail _ (.tail _ (.tail _ (.head _))))))),
      mem_colRect (by decide) _ (Nat.zero_le _) (by show c.val < _; omega)⟩

omit hh in
/-- A gain's block, after its one store. -/
theorem gain_canon {g : Mat Ideal 1 128} {G : Fin 1 → Fin 128 → ℝ} (hg : Holds g G) (L : List (View.Piece (Elt Ideal) S1x128 .f32)) :
    Holds (View.canon ([⟨colRect 1 128 128 0 (by decide), g⟩] ++ L)) G := by
  intro r c
  refine View.canon_append_of_piecesOf (Val := Elt Ideal) (e := .f32)
    (fun y : (⟨2, ![1, 128]⟩ : Shape).Idx => ((G (y 0) (y 1) : ℝ) : EReal)) L
    [⟨colRect 1 128 128 0 (by decide), g⟩]
    ⟨piece_holds (by decide) G _ _ hg fun i d => congrArg (G i) (Fin.ext (Nat.zero_add _).symm), trivial⟩ (ix2 r c) ?_
  exact ⟨_, .head _, mem_colRect (by decide) _ (Nat.zero_le _) (by show c.val < _; omega)⟩

omit hh in
/-- Reading the whole row of a gain. -/
theorem Holds.gainRow {a : Mat Ideal 1 128} {A : Fin 128 → ℝ} (ha : Holds a fun _ => A) :
    Holds (shapeCast S1x128 (XAttn.cols 128 0 (by decide) a) gainRows) (fun _ => A) := by
  intro r c
  rw [shapeCast_self]
  exact (ha.cols (by decide) r c).trans (congrArg (fun z => ((A z : ℝ) : EReal)) (Fin.ext (Nat.zero_add _)))

/-- The gradient of the queries' gain after the point that found `a`. -/
theorem gq_after {a : Mat Ideal 1 128} {A : Fin 128 → ℝ} (ha : Holds a fun _ => A) :
    Holds (gqAfter hs (XAttn.cols 128 0 (by decide) a)) (fun _ d => A d + ∑ j, (H j).GQ d) := by
  intro r c
  have key := (ha.gainRow).add (((((Holds.const word_zero).add ((hh 0).gainq headRows)).add ((hh 1).gainq headRows)).add
    ((hh 2).gainq headRows)).add ((hh 3).gainq headRows)) r c
  refine key.trans (congrArg _ ?_)
  show A c + _ = A c + ∑ j, _
  rw [Fin.sum_univ_four, zero_add]

/-- The gradient of the keys' gain after the point that found `a`. -/
theorem gk_after {a : Mat Ideal 1 128} {A : Fin 128 → ℝ} (ha : Holds a fun _ => A) :
    Holds (gkAfter hs (XAttn.cols 128 0 (by decide) a)) (fun _ d => A d + ∑ j, (H j).GK d) := by
  intro r c
  have key := (ha.gainRow).add (((((Holds.const word_zero).add ((hh 0).gaink headRows)).add ((hh 1).gaink headRows)).add
    ((hh 2).gaink headRows)).add ((hh 3).gaink headRows)) r c
  refine key.trans (congrArg _ ?_)
  show A c + _ = A c + ∑ j, _
  rw [Fin.sum_univ_four, zero_add]

end Cert.XAttn
-- ==== Proof.Points.lean ====
/- What a grid point leaves in the four output blocks, on real entries, from what the point before left. -/
module

public import proofs.«01_k».proof.Proof.Blocks

set_option maxRecDepth 16384

@[expose] public noncomputable section

open scoped BigOperators

namespace Cert.XAttn

open Idealize.ShloMosaic Idealize.ShloMosaic.ValueIdx
open Cert.KernelIdeal Cert.KernelIdeal.Gen

/-- The four output blocks after a point whose heads are `H`, the sums having been `A6`, `A7` and `A8` before it. -/
structure Left (H : Fin 4 → RHead 1024 256 128) (A6 : Fin 256 → Fin 1024 → ℝ) (A7 A8 : Fin 128 → ℝ)
    (q : Vec Ideal S1024x512 .bf16) (kv : Vec Ideal S256x1024 .f32) (gq gk : Vec Ideal S1x128 .f32) : Prop where
  q : Holds q (fun r c => (H (headOf c)).DQ r (inHead c))
  kv : Holds kv (fun r c => A6 r c + kvGrad H r c)
  gq : Holds gq (fun _ d => A7 d + ∑ j, (H j).GQ d)
  gk : Holds gk (fun _ d => A8 d + ∑ j, (H j).GK d)

/-- Equal matrices hold the same numbers. -/
theorem Holds.of_eq {n k : Nat} {v w : (⟨2, ![n, k]⟩ : Shape).Idx → EReal} {V : Fin n → Fin k → ℝ} (e : v = w) (h : Holds w V) : Holds v V :=
  e ▸ h

section
variable (c : Dev nD) (arg2 : Memref sig .tc .vmem S1024x512 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1024x512 .f32) (harg6 : arg6.IsWhole)
  (x0 : Vec Ideal S1024x512 .f32) (x1 : Vec Ideal S256x1024 .f32) (x2 : Vec Ideal S1x128 .f32) (x3 : Vec Ideal S1x128 .f32) (x4 : Vec Ideal S1024x512 .f32)
variable (i : grid0.Coords) (arg7 : Memref sig .tc .vmem S1024x512 .bf16) (harg7 : arg7.IsWhole) (arg8 : Memref sig .tc .vmem S256x1024 .f32) (harg8 : arg8.IsWhole) (arg9 : Memref sig .tc .vmem S1x128 .f32) (harg9 : arg9.IsWhole) (arg10 : Memref sig .tc .vmem S1x128 .f32) (harg10 : arg10.IsWhole)
/-- The block of the gradient of the queries after a point of case A. -/
theorem out_A_q (hc0 : cond0_0 i) (hc1 : cond0_1 i) :
    out0_A_5 c i arg2 harg2 arg3 harg3 arg4 harg4 arg5 harg5 arg6 harg6 arg7 harg7 arg8 harg8 arg9 harg9 arg10 harg10 hc0 hc1 x0 x1 x2 x3 x4 = View.canon (qPieces (heads x0 x1 x2 x3 x4)) :=
  (View.read_writes_junk_eq_canon _ _).trans (congrArg View.canon (q_A c arg2 harg2 arg3 harg3 arg4 harg4 arg5 harg5 arg6 harg6 x0 x1 x2 x3 x4 i arg7 harg7 arg8 harg8 arg9 harg9 arg10 harg10 hc0 hc1))

/-- The block of the gradients of the keys and values after a point of case A. -/
theorem out_A_kv (hc0 : cond0_0 i) (hc1 : cond0_1 i) :
    out0_A_6 c i arg2 harg2 arg3 harg3 arg4 harg4 arg5 harg5 arg6 harg6 arg7 harg7 arg8 harg8 arg9 harg9 arg10 harg10 hc0 hc1 x0 x1 x2 x3 x4 = View.canon (kvPieces (heads x0 x1 x2 x3 x4) (word (F := Ideal) 256 1024 0x00000000#32) ++ [⟨Rect.unit (s := S256x1024) ![0, 0] ![256, 1024] (inbCols (n := 256) (by decide)), word (F := Ideal) 256 1024 0x00000000#32⟩]) :=
  (View.read_writes_junk_eq_canon _ _).trans (congrArg View.canon (kv_A c arg2 harg2 arg3 harg3 arg4 harg4 arg5 harg5 arg6 harg6 x0 x1 x2 x3 x4 i arg7 harg7 arg8 harg8 arg9 harg9 arg10 harg10 hc0 hc1))

/-- The block of the gradient of the queries' gain after a point of case A. -/
theorem out_A_gq (hc0 : cond0_0 i) (hc1 : cond0_1 i) :
    out0_A_7 c i arg2 harg2 arg3 harg3 arg4 harg4 arg5 harg5 arg6 harg6 arg7 harg7 arg8 harg8 arg9 harg9 arg10 harg10 hc0 hc1 x0 x1 x2 x3 x4 = View.canon ([⟨colRect 1 128 128 0 (by decide), gqAfter (heads x0 x1 x2 x3 x4) (cols 128 0 (by decide) (word (F := Ideal) 1 128 0x00000000#32))⟩] ++ [⟨colRect 1 128 128 0 (by decide), word (F := Ideal) 1 128 0x00000000#32⟩]) :=
  (View.read_writes_junk_eq_canon _ _).trans (congrArg View.canon (gq_A c arg2 harg2 arg3 harg3 arg4 harg4 arg5 harg5 arg6 harg6 x0 x1 x2 x3 x4 i arg7 harg7 arg8 harg8 arg9 harg9 arg10 harg10 hc0 hc1))

/-- The block of the gradient of the keys' gain after a point of case A. -/
theorem out_A_gk (hc0 : cond0_0 i) (hc1 : cond0_1 i) :
    out0_A_8 c i arg2 harg2 arg3 harg3 arg4 harg4 arg5 harg5 arg6 harg6 arg7 harg7 arg8 harg8 arg9 harg9 arg10 harg10 hc0 hc1 x0 x1 x2 x3 x4 = View.canon ([⟨colRect 1 128 128 0 (by decide), gkAfter (heads x0 x1 x2 x3 x4) (cols 128 0 (by decide) (word (F := Ideal) 1 128 0x00000000#32))⟩] ++ [⟨colRect 1 128 128 0 (by decide), word (F := Ideal) 1 128 0x00000000#32⟩]) :=
  (View.read_writes_junk_eq_canon _ _).trans (congrArg View.canon (gk_A c arg2 harg2 arg3 harg3 arg4 harg4 arg5 harg5 arg6 harg6 x0 x1 x2 x3 x4 i arg7 harg7 arg8 harg8 arg9 harg9 arg10 harg10 hc0 hc1))

/-- The block of the gradient of the queries after a point of case B. -/
theorem out_B_q (hc0 : ¬cond0_0 i) (hc1 : ¬cond0_1 i) (xo6 : Mat Ideal 256 1024) (xo7 xo8 : Mat Ideal 1 128) :
    out0_B_5 c i arg2 harg2 arg3 harg3 arg4 harg4 arg5 harg5 arg6 harg6 arg7 harg7 arg8 harg8 arg9 harg9 arg10 harg10 hc0 hc1 x0 x1 x2 x3 x4 xo6 xo7 xo8 = View.canon (qPieces (heads x0 x1 x2 x3 x4)) :=
  (View.read_writes_junk_eq_canon _ _).trans (congrArg View.canon (q_B c arg2 harg2 arg3 harg3 arg4 harg4 arg5 harg5 arg6 harg6 x0 x1 x2 x3 x4 i arg7 harg7 arg8 harg8 arg9 harg9 arg10 harg10 hc0 hc1 xo6 xo7 xo8))

/-- The block of the gradients of the keys and values after a point of case B. -/
theorem out_B_kv (hc0 : ¬cond0_0 i) (hc1 : ¬cond0_1 i) (xo6 : Mat Ideal 256 1024) (xo7 xo8 : Mat Ideal 1 128) :
    out0_B_6 c i arg2 harg2 arg3 harg3 arg4 harg4 arg5 harg5 arg6 harg6 arg7 harg7 arg8 harg8 arg9 harg9 arg10 harg10 hc0 hc1 x0 x1 x2 x3 x4 xo6 xo7 xo8 = View.canon (kvPieces (heads x0 x1 x2 x3 x4) xo6) :=
  (View.read_writes_junk_eq_canon _ _).trans (congrArg View.canon (kv_B c arg2 harg2 arg3 harg3 arg4 harg4 arg5 harg5 arg6 harg6 x0 x1 x2 x3 x4 i arg7 harg7 arg8 harg8 arg9 harg9 arg10 harg10 hc0 hc1 xo6 xo7 xo8))

/-- The block of the gradient of the queries' gain after a point of case B. -/
theorem out_B_gq (hc0 : ¬cond0_0 i) (hc1 : ¬cond0_1 i) (xo6 : Mat Ideal 256 1024) (xo7 xo8 : Mat Ideal 1 128) :
    out0_B_7 c i arg2 harg2 arg3 harg3 arg4 harg4 arg5 harg5 arg6 harg6 arg7 harg7 arg8 harg8 arg9 harg9 arg10 harg10 hc0 hc1 x0 x1 x2 x3 x4 xo6 xo7 xo8 = View.canon ([⟨colRect 1 128 128 0 (by decide), gqAfter (heads x0 x1 x2 x3 x4) (cols 128 0 (by decide) xo7)⟩]) :=
  (View.read_writes_junk_eq_canon _ _).trans (congrArg View.canon (gq_B c arg2 harg2 arg3 harg3 arg4 harg4 arg5 harg5 arg6 harg6 x0 x1 x2 x3 x4 i arg7 harg7 arg8 harg8 arg9 harg9 arg10 harg10 hc0 hc1 xo6 xo7 xo8))

/-- The block of the gradient of the keys' gain after a point of case B. -/
theorem out_B_gk (hc0 : ¬cond0_0 i) (hc1 : ¬cond0_1 i) (xo6 : Mat Ideal 256 1024) (xo7 xo8 : Mat Ideal 1 128) :
    out0_B_8 c i arg2 harg2 arg3 harg3 arg4 harg4 arg5 harg5 arg6 harg6 arg7 harg7 arg8 harg8 arg9 harg9 arg10 harg10 hc0 hc1 x0 x1 x2 x3 x4 xo6 xo7 xo8 = View.canon ([⟨colRect 1 128 128 0 (by decide), gkAfter (heads x0 x1 x2 x3 x4) (cols 128 0 (by decide) xo8)⟩]) :=
  (View.read_writes_junk_eq_canon _ _).trans (congrArg View.canon (gk_B c arg2 harg2 arg3 harg3 arg4 harg4 arg5 harg5 arg6 harg6 x0 x1 x2 x3 x4 i arg7 harg7 arg8 harg8 arg9 harg9 arg10 harg10 hc0 hc1 xo6 xo7 xo8))

/-- The block of the gradient of the queries after a point of case C. -/
theorem out_C_q (hc0 : ¬cond0_0 i) (hc1 : cond0_1 i) (xo7 xo8 : Mat Ideal 1 128) :
    out0_C_5 c i arg2 harg2 arg3 harg3 arg4 harg4 arg5 harg5 arg6 harg6 arg7 harg7 arg8 harg8 arg9 harg9 arg10 harg10 hc0 hc1 x0 x1 x2 x3 x4 xo7 xo8 = View.canon (qPieces (heads x0 x1 x2 x3 x4)) :=
  (View.read_writes_junk_eq_canon _ _).trans (congrArg View.canon (q_C c arg2 harg2 arg3 harg3 arg4 harg4 arg5 harg5 arg6 harg6 x0 x1 x2 x3 x4 i arg7 harg7 arg8 harg8 arg9 harg9 arg10 harg10 hc0 hc1 xo7 xo8))

/-- The block of the gradients of the keys and values after a point of case C. -/
theorem out_C_kv (hc0 : ¬cond0_0 i) (hc1 : cond0_1 i) (xo7 xo8 : Mat Ideal 1 128) :
    out0_C_6 c i arg2 harg2 arg3 harg3 arg4 harg4 arg5 harg5 arg6 harg6 arg7 harg7 arg8 harg8 arg9 harg9 arg10 harg10 hc0 hc1 x0 x1 x2 x3 x4 xo7 xo8 = View.canon (kvPieces (heads x0 x1 x2 x3 x4) (word (F := Ideal) 256 1024 0x00000000#32) ++ [⟨Rect.unit (s := S256x1024) ![0, 0] ![256, 1024] (inbCols (n := 256) (by decide)), word (F := Ideal) 256 1024 0x00000000#32⟩]) :=
  (View.read_writes_junk_eq_canon _ _).trans (congrArg View.canon (kv_C c arg2 harg2 arg3 harg3 arg4 harg4 arg5 harg5 arg6 harg6 x0 x1 x2 x3 x4 i arg7 harg7 arg8 harg8 arg9 harg9 arg10 harg10 hc0 hc1 xo7 xo8))

/-- The block of the gradient of the queries' gain after a point of case C. -/
theorem out_C_gq (hc0 : ¬cond0_0 i) (hc1 : cond0_1 i) (xo7 xo8 : Mat Ideal 1 128) :
    out0_C_7 c i arg2 harg2 arg3 harg3 arg4 harg4 arg5 harg5 arg6 harg6 arg7 harg7 arg8 harg8 arg9 harg9 arg10 harg10 hc0 hc1 x0 x1 x2 x3 x4 xo7 xo8 = View.canon ([⟨colRect 1 128 128 0 (by decide), gqAfter (heads x0 x1 x2 x3 x4) (cols 128 0 (by decide) xo7)⟩]) :=
  (View.read_writes_junk_eq_canon _ _).trans (congrArg View.canon (gq_C c arg2 harg2 arg3 harg3 arg4 harg4 arg5 harg5 arg6 harg6 x0 x1 x2 x3 x4 i arg7 harg7 arg8 harg8 arg9 harg9 arg10 harg10 hc0 hc1 xo7 xo8))

/-- The block of the gradient of the keys' gain after a point of case C. -/
theorem out_C_gk (hc0 : ¬cond0_0 i) (hc1 : cond0_1 i) (xo7 xo8 : Mat Ideal 1 128) :
    out0_C_8 c i arg2 harg2 arg3 harg3 arg4 harg4 arg5 harg5 arg6 harg6 arg7 harg7 arg8 harg8 arg9 harg9 arg10 harg10 hc0 hc1 x0 x1 x2 x3 x4 xo7 xo8 = View.canon ([⟨colRect 1 128 128 0 (by decide), gkAfter (heads x0 x1 x2 x3 x4) (cols 128 0 (by decide) xo8)⟩]) :=
  (View.read_writes_junk_eq_canon _ _).trans (congrArg View.canon (gk_C c arg2 harg2 arg3 harg3 arg4 harg4 arg5 harg5 arg6 harg6 x0 x1 x2 x3 x4 i arg7 harg7 arg8 harg8 arg9 harg9 arg10 harg10 hc0 hc1 xo7 xo8))

variable {H : Fin 4 → RHead 1024 256 128} (hh : ∀ j, HoldsHead (heads x0 x1 x2 x3 x4 j) (H j))
include hh

/-- What the first point leaves. -/
theorem left_A (hc0 : cond0_0 i) (hc1 : cond0_1 i)  :
    Left H (fun _ _ => 0) (fun _ => 0) (fun _ => 0) (out0_A_5 c i arg2 harg2 arg3 harg3 arg4 harg4 arg5 harg5 arg6 harg6 arg7 harg7 arg8 harg8 arg9 harg9 arg10 harg10 hc0 hc1 x0 x1 x2 x3 x4) (out0_A_6 c i arg2 harg2 arg3 harg3 arg4 harg4 arg5 harg5 arg6 harg6 arg7 harg7 arg8 harg8 arg9 harg9 arg10 harg10 hc0 hc1 x0 x1 x2 x3 x4) (out0_A_7 c i arg2 harg2 arg3 harg3 arg4 harg4 arg5 harg5 arg6 harg6 arg7 harg7 arg8 harg8 arg9 harg9 arg10 harg10 hc0 hc1 x0 x1 x2 x3 x4) (out0_A_8 c i arg2 harg2 arg3 harg3 arg4 harg4 arg5 harg5 arg6 harg6 arg7 harg7 arg8 harg8 arg9 harg9 arg10 harg10 hc0 hc1 x0 x1 x2 x3 x4) :=
  ⟨Holds.of_eq (out_A_q c arg2 harg2 arg3 harg3 arg4 harg4 arg5 harg5 arg6 harg6 x0 x1 x2 x3 x4 i arg7 harg7 arg8 harg8 arg9 harg9 arg10 harg10 hc0 hc1) (q_canon hh),
   Holds.of_eq (out_A_kv c arg2 harg2 arg3 harg3 arg4 harg4 arg5 harg5 arg6 harg6 x0 x1 x2 x3 x4 i arg7 harg7 arg8 harg8 arg9 harg9 arg10 harg10 hc0 hc1) (kv_canon hh (Holds.const word_zero) _),
   Holds.of_eq (out_A_gq c arg2 harg2 arg3 harg3 arg4 harg4 arg5 harg5 arg6 harg6 x0 x1 x2 x3 x4 i arg7 harg7 arg8 harg8 arg9 harg9 arg10 harg10 hc0 hc1) (gain_canon (gq_after hh (Holds.const word_zero)) _),
   Holds.of_eq (out_A_gk c arg2 harg2 arg3 harg3 arg4 harg4 arg5 harg5 arg6 harg6 x0 x1 x2 x3 x4 i arg7 harg7 arg8 harg8 arg9 harg9 arg10 harg10 hc0 hc1) (gain_canon (gk_after hh (Holds.const word_zero)) _)⟩

/-- What the second point of a batch entry leaves: all three sums go on. -/
theorem left_B (hc0 : ¬cond0_0 i) (hc1 : ¬cond0_1 i) {xo6 : Mat Ideal 256 1024} {xo7 xo8 : Mat Ideal 1 128} {A6 : Fin 256 → Fin 1024 → ℝ} {A7 A8 : Fin 128 → ℝ}
    (h6 : Holds xo6 A6) (h7 : Holds xo7 fun _ => A7) (h8 : Holds xo8 fun _ => A8) :
    Left H A6 A7 A8 (out0_B_5 c i arg2 harg2 arg3 harg3 arg4 harg4 arg5 harg5 arg6 harg6 arg7 harg7 arg8 harg8 arg9 harg9 arg10 harg10 hc0 hc1 x0 x1 x2 x3 x4 xo6 xo7 xo8) (out0_B_6 c i arg2 harg2 arg3 harg3 arg4 harg4 arg5 harg5 arg6 harg6 arg7 harg7 arg8 harg8 arg9 harg9 arg10 harg10 hc0 hc1 x0 x1 x2 x3 x4 xo6 xo7 xo8) (out0_B_7 c i arg2 harg2 arg3 harg3 arg4 harg4 arg5 harg5 arg6 harg6 arg7 harg7 arg8 harg8 arg9 harg9 arg10 harg10 hc0 hc1 x0 x1 x2 x3 x4 xo6 xo7 xo8) (out0_B_8 c i arg2 harg2 arg3 harg3 arg4 harg4 arg5 harg5 arg6 harg6 arg7 harg7 arg8 harg8 arg9 harg9 arg10 harg10 hc0 hc1 x0 x1 x2 x3 x4 xo6 xo7 xo8) :=
  ⟨Holds.of_eq (out_B_q c arg2 harg2 arg3 harg3 arg4 harg4 arg5 harg5 arg6 harg6 x0 x1 x2 x3 x4 i arg7 harg7 arg8 harg8 arg9 harg9 arg10 harg10 hc0 hc1 xo6 xo7 xo8) (q_canon hh),
   Holds.of_eq (out_B_kv c arg2 harg2 arg3 harg3 arg4 harg4 arg5 harg5 arg6 harg6 x0 x1 x2 x3 x4 i arg7 harg7 arg8 harg8 arg9 harg9 arg10 harg10 hc0 hc1 xo6 xo7 xo8) (Holds.of_eq (congrArg View.canon (List.append_nil _).symm) (kv_canon hh h6 [])),
   Holds.of_eq (out_B_gq c arg2 harg2 arg3 harg3 arg4 harg4 arg5 harg5 arg6 harg6 x0 x1 x2 x3 x4 i arg7 harg7 arg8 harg8 arg9 harg9 arg10 harg10 hc0 hc1 xo6 xo7 xo8) (gain_canon (gq_after hh h7) []),
   Holds.of_eq (out_B_gk c arg2 harg2 arg3 harg3 arg4 harg4 arg5 harg5 arg6 harg6 x0 x1 x2 x3 x4 i arg7 harg7 arg8 harg8 arg9 harg9 arg10 harg10 hc0 hc1 xo6 xo7 xo8) (gain_canon (gk_after hh h8) [])⟩

/-- What the first point of a later batch entry leaves: the sums of the gains go on. -/
theorem left_C (hc0 : ¬cond0_0 i) (hc1 : cond0_1 i) {xo7 xo8 : Mat Ideal 1 128} {A7 A8 : Fin 128 → ℝ}
    (h7 : Holds xo7 fun _ => A7) (h8 : Holds xo8 fun _ => A8) :
    Left H (fun _ _ => 0) A7 A8 (out0_C_5 c i arg2 harg2 arg3 harg3 arg4 harg4 arg5 harg5 arg6 harg6 arg7 harg7 arg8 harg8 arg9 harg9 arg10 harg10 hc0 hc1 x0 x1 x2 x3 x4 xo7 xo8) (out0_C_6 c i arg2 harg2 arg3 harg3 arg4 harg4 arg5 harg5 arg6 harg6 arg7 harg7 arg8 harg8 arg9 harg9 arg10 harg10 hc0 hc1 x0 x1 x2 x3 x4 xo7 xo8) (out0_C_7 c i arg2 harg2 arg3 harg3 arg4 harg4 arg5 harg5 arg6 harg6 arg7 harg7 arg8 harg8 arg9 harg9 arg10 harg10 hc0 hc1 x0 x1 x2 x3 x4 xo7 xo8) (out0_C_8 c i arg2 harg2 arg3 harg3 arg4 harg4 arg5 harg5 arg6 harg6 arg7 harg7 arg8 harg8 arg9 harg9 arg10 harg10 hc0 hc1 x0 x1 x2 x3 x4 xo7 xo8) :=
  ⟨Holds.of_eq (out_C_q c arg2 harg2 arg3 harg3 arg4 harg4 arg5 harg5 arg6 harg6 x0 x1 x2 x3 x4 i arg7 harg7 arg8 harg8 arg9 harg9 arg10 harg10 hc0 hc1 xo7 xo8) (q_canon hh),
   Holds.of_eq (out_C_kv c arg2 harg2 arg3 harg3 arg4 harg4 arg5 harg5 arg6 harg6 x0 x1 x2 x3 x4 i arg7 harg7 arg8 harg8 arg9 harg9 arg10 harg10 hc0 hc1 xo7 xo8) (kv_canon hh (Holds.const word_zero) _),
   Holds.of_eq (out_C_gq c arg2 harg2 arg3 harg3 arg4 harg4 arg5 harg5 arg6 harg6 x0 x1 x2 x3 x4 i arg7 harg7 arg8 harg8 arg9 harg9 arg10 harg10 hc0 hc1 xo7 xo8) (gain_canon (gq_after hh h7) []),
   Holds.of_eq (out_C_gk c arg2 harg2 arg3 harg3 arg4 harg4 arg5 harg5 arg6 harg6 x0 x1 x2 x3 x4 i arg7 harg7 arg8 harg8 arg9 harg9 arg10 harg10 hc0 hc1 xo7 xo8) (gain_canon (gk_after hh h8) [])⟩

end

end Cert.XAttn
-- ==== Proof.KernelValue.lean ====
/- The kernel's four result arrays, on real arguments: at every grid point what the blocks hold, and so what the arrays
   hold after the last. -/
module

public import proofs.«01_k».proof.Proof.Points
public import Idealize.ShloMosaic.Lib.Pipeline.Value

set_option maxRecDepth 16384

@[expose] public noncomputable section

open scoped BigOperators

namespace Cert.XAttn

open Idealize.ShloMosaic Idealize.ShloMosaic.ValueIdx Idealize.ShloMosaic.TcCoe
open Cert.KernelIdeal Cert.KernelIdeal.Gen
open Idealize.ShloMosaic.Pipeline (Dat)

/-! ## The arguments, and their heads -/

/-- The five arguments, as real numbers. -/
structure RArgs where
  X0 : Fin 4096 → Fin 512 → ℝ
  X1 : Fin 512 → Fin 1024 → ℝ
  X2 : Fin 128 → ℝ
  X3 : Fin 128 → ℝ
  X4 : Fin 4096 → Fin 512 → ℝ

namespace RArgs
variable (A : RArgs)

/-- Head `j` of batch entry `b`. -/
def full (b : Fin 2) (j : Fin 4) : RHead 2048 256 128 where
  X s d := A.X0 ⟨2048 * b.val + s.val, by omega⟩ ⟨128 * j.val + d.val, by omega⟩
  Y r d := A.X1 ⟨256 * b.val + r.val, by omega⟩ ⟨128 * j.val + d.val, by omega⟩
  V r d := A.X1 ⟨256 * b.val + r.val, by omega⟩ ⟨512 + 128 * j.val + d.val, by omega⟩
  D s d := A.X4 ⟨2048 * b.val + s.val, by omega⟩ ⟨128 * j.val + d.val, by omega⟩
  Gq := A.X2
  Gk := A.X3

/-- The batch entry of a grid point. -/
def batch (n : Nat) : Fin 2 := ⟨n / 2 % 2, by omega⟩
/-- The half of the queries at a grid point. -/
def side (n : Nat) : Fin 2 := ⟨n % 2, by omega⟩
/-- Head `j` of the tile of grid point `n`. -/
def tile (n : Nat) (j : Fin 4) : RHead 1024 256 128 := (A.full (batch n) j).part (side n)

/-- The gradient of the queries. -/
def dq (r : Fin 4096) (c : Fin 512) : ℝ :=
  (A.full ⟨r.val / 2048, by omega⟩ (headOf c)).DQ ⟨r.val % 2048, by omega⟩ (inHead c)
/-- The gradient of the keys and values. -/
def dkv (r : Fin 512) (c : Fin 1024) : ℝ := kvGrad (A.full ⟨r.val / 256, by omega⟩) ⟨r.val % 256, by omega⟩ c
/-- The gradient of the queries' gain. -/
def dqg (d : Fin 128) : ℝ := ∑ b, ∑ j, (A.full b j).GQ d
/-- The gradient of the keys' gain. -/
def dkg (d : Fin 128) : ℝ := ∑ b, ∑ j, (A.full b j).GK d

/-- The gradient of the keys and values that has come in before point `n`. -/
def kvSum (n : Nat) (r : Fin 256) (c : Fin 1024) : ℝ := if n % 2 = 0 then 0 else kvGrad (A.tile (n - 1)) r c
/-- The gradient of the queries' gain that has come in before point `n`. -/
def gqSum : Nat → Fin 128 → ℝ
  | 0, _ => 0
  | n + 1, d => gqSum n d + ∑ j, (A.tile n j).GQ d
/-- The gradient of the keys' gain that has come in before point `n`. -/
def gkSum : Nat → Fin 128 → ℝ
  | 0, _ => 0
  | n + 1, d => gkSum n d + ∑ j, (A.tile n j).GK d

theorem kvGrad_part (b : Fin 2) (r : Fin 256) (c : Fin 1024) :
    kvGrad (fun j => (A.full b j).part 0) r c + kvGrad (fun j => (A.full b j).part 1) r c = kvGrad (A.full b) r c := by
  unfold kvGrad
  split
  · rw [RHead.DK_part, Fin.sum_univ_two]
  · rw [RHead.DV_part, Fin.sum_univ_two]

/-- After the second point of a batch entry its gradient of the keys and values is whole. -/
theorem kvSum_whole (n : Nat) (hn : n % 2 = 1) (r : Fin 256) (c : Fin 1024) :
    A.kvSum n r c + kvGrad (A.tile n) r c = kvGrad (A.full (batch n)) r c := by
  rw [kvSum, if_neg (by omega), ← A.kvGrad_part]
  have hb : batch (n - 1) = batch n := Fin.ext (by show (n - 1) / 2 % 2 = n / 2 % 2; omega)
  have h0 : side (n - 1) = 0 := Fin.ext (by show (n - 1) % 2 = 0; omega)
  have h1 : side n = 1 := Fin.ext (by show n % 2 = 1; omega)
  unfold tile
  rw [hb, h0, h1]

theorem tile_sum (f : RHead 1024 256 128 → ℝ) (g : RHead 2048 256 128 → ℝ)
    (h : ∀ H : RHead 2048 256 128, g H = ∑ i, f (H.part i)) :
    ∑ b, ∑ j, g (A.full b j)
      = 0 + (∑ j, f (A.tile 0 j)) + (∑ j, f (A.tile 1 j)) + (∑ j, f (A.tile 2 j)) + ∑ j, f (A.tile 3 j) := by
  rw [Fin.sum_univ_two]
  simp only [h, Fin.sum_univ_two, Finset.sum_add_distrib]
  have e0 : ∀ j, A.tile 0 j = (A.full 0 j).part 0 := fun _ => rfl
  have e1 : ∀ j, A.tile 1 j = (A.full 0 j).part 1 := fun _ => rfl
  have e2 : ∀ j, A.tile 2 j = (A.full 1 j).part 0 := fun _ => rfl
  have e3 : ∀ j, A.tile 3 j = (A.full 1 j).part 1 := fun _ => rfl
  simp only [e0, e1, e2, e3]
  ring

theorem gqSum_whole (d : Fin 128) : A.gqSum 3 d + ∑ j, (A.tile 3 j).GQ d = A.dqg d :=
  (A.tile_sum (fun H => H.GQ d) (fun H => H.GQ d) fun H => H.GQ_part d).symm
theorem gkSum_whole (d : Fin 128) : A.gkSum 3 d + ∑ j, (A.tile 3 j).GK d = A.dkg d :=
  (A.tile_sum (fun H => H.GK d) (fun H => H.GK d) fun H => H.GK_part d).symm
end RArgs

/-- The memory holds the real arguments `A` on device `c`. -/
structure HoldsArgs (m : (ℓ : Loc nD τ sig) → Buf (Elt Ideal) ℓ) (c : Dev nD) (A : RArgs) : Prop where
  x0 : Holds (m ((c : Thread nD τ).loc main_arg0)) A.X0
  x1 : Holds (m ((c : Thread nD τ).loc main_arg1)) A.X1
  x2 : Holds (m ((c : Thread nD τ).loc main_arg2)) (fun _ => A.X2)
  x3 : Holds (m ((c : Thread nD τ).loc main_arg3)) (fun _ => A.X3)
  x4 : Holds (m ((c : Thread nD τ).loc main_arg4)) A.X4

/-! ## The blocks at a point -/

variable (m : (ℓ : Loc nD τ sig) → Buf (Elt Ideal) ℓ) (c : Dev nD) {A : RArgs} (hA : HoldsArgs m c A)

/-- Where the windows stand at a point. -/
theorem at_point (t : Fin cfg0.N) : t.val < 4
    ∧ (win0_0.index t 0 = t.val ∧ win0_0.index t 1 = 0) ∧ (win0_1.index t 0 = t.val / 2 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by
  rcases fin_N0 t with rfl | rfl | rfl | rfl <;> decide +kernel

/-- The queries at a point. -/
theorem block0 (t : Fin cfg0.N) (r : Fin 1024) (k : Fin 512) (s : Fin 4096) (hs : s.val = 1024 * t.val + r.val) :
    (iblk m c 0 t : Vec Ideal S1024x512 .f32) (ix2 r k) = m ((c : Thread nD τ).loc main_arg0) (ix2 s k) := by
  have e := (at_point t).2.1
  unfold iblk
  rw [View.read_apply]
  show V m c main_arg0 _ = m (c.tc.loc main_arg0) _
  unfold V
  congr 1
  funext a
  apply Fin.ext
  match a with
  | ⟨0, _⟩ => show win0_0.index t 0 * 1024 + 1 * r.val = s.val; rw [e.1, hs]; omega
  | ⟨1, _⟩ => show win0_0.index t 1 * 512 + 1 * k.val = k.val; rw [e.2]; omega

/-- The gradient of the output at a point. -/
theorem block4 (t : Fin cfg0.N) (r : Fin 1024) (k : Fin 512) (s : Fin 4096) (hs : s.val = 1024 * t.val + r.val) :
    (iblk m c 4 t : Vec Ideal S1024x512 .f32) (ix2 r k) = m ((c : Thread nD τ).loc main_arg4) (ix2 s k) := by
  have e := (at_point t).2.2.2.2.2
  unfold iblk
  rw [View.read_apply]
  show V m c main_arg4 _ = m (c.tc.loc main_arg4) _
  unfold V
  congr 1
  funext a
  apply Fin.ext
  match a with
  | ⟨0, _⟩ => show win0_4.index t 0 * 1024 + 1 * r.val = s.val; rw [e.1, hs]; omega
  | ⟨1, _⟩ => show win0_4.index t 1 * 512 + 1 * k.val = k.val; rw [e.2]; omega

/-- The keys and values at a point. -/
theorem block1 (t : Fin cfg0.N) (r : Fin 256) (k : Fin 1024) (s : Fin 512) (hs : s.val = 256 * (t.val / 2) + r.val) :
    (iblk m c 1 t : Vec Ideal S256x1024 .f32) (ix2 r k) = m ((c : Thread nD τ).loc main_arg1) (ix2 s k) := by
  have e := (at_point t).2.2.1
  unfold iblk
  rw [View.read_apply]
  show V m c main_arg1 _ = m (c.tc.loc main_arg1) _
  unfold V
  congr 1
  funext a
  apply Fin.ext
  match a with
  | ⟨0, _⟩ => show win0_1.index t 0 * 256 + 1 * r.val = s.val; rw [e.1, hs]; omega
  | ⟨1, _⟩ => show win0_1.index t 1 * 1024 + 1 * k.val = k.val; rw [e.2]; omega

/-- The queries' gain at a point. -/
theorem block2 (t : Fin cfg0.N) (r : Fin 1) (k : Fin 128) :
    (iblk m c 2 t : Vec Ideal S1x128 .f32) (ix2 r k) = m ((c : Thread nD τ).loc main_arg2) (ix2 r k) := by
  have e := (at_point t).2.2.2.1
  unfold iblk
  rw [View.read_apply]
  show V m c main_arg2 _ = m (c.tc.loc main_arg2) _
  unfold V
  congr 1
  funext a
  apply Fin.ext
  match a with
  | ⟨0, _⟩ => show win0_2.index t 0 * 1 + 1 * r.val = r.val; rw [e.1]; omega
  | ⟨1, _⟩ => show win0_2.index t 1 * 128 + 1 * k.val = k.val; rw [e.2]; omega

/-- The keys' gain at a point. -/
theorem block3 (t : Fin cfg0.N) (r : Fin 1) (k : Fin 128) :
    (iblk m c 3 t : Vec Ideal S1x128 .f32) (ix2 r k) = m ((c : Thread nD τ).loc main_arg3) (ix2 r k) := by
  have e := (at_point t).2.2.2.2.1
  unfold iblk
  rw [View.read_apply]
  show V m c main_arg3 _ = m (c.tc.loc main_arg3) _
  unfold V
  congr 1
  funext a
  apply Fin.ext
  match a with
  | ⟨0, _⟩ => show win0_3.index t 0 * 1 + 1 * r.val = r.val; rw [e.1]; omega
  | ⟨1, _⟩ => show win0_3.index t 1 * 128 + 1 * k.val = k.val; rw [e.2]; omega

include hA

/-- The heads of the blocks at a point are those of its tile. -/
theorem heads_at (t : Fin cfg0.N) (j : Fin 4) :
    HoldsHead (heads (iblk m c 0 t) (iblk m c 1 t) (iblk m c 2 t) (iblk m c 3 t) (iblk m c 4 t) j) (A.tile t.val j) := by
  have ht := (at_point t).1
  have hq : ∀ r : Fin 1024, 2048 * (t.val / 2 % 2) + (1024 * (t.val % 2) + r.val) = 1024 * t.val + r.val := fun r => by omega
  have hk : ∀ r : Fin 256, 256 * (t.val / 2 % 2) + r.val = 256 * (t.val / 2) + r.val := fun r => by omega
  exact
    { x := fun r d => (block0 m c t r _ _ (hq r)).trans (hA.x0 _ _)
      y := fun r d => (block1 m c t r _ _ (hk r)).trans (hA.x1 _ _)
      v := fun r d => (block1 m c t r _ _ (hk r)).trans (hA.x1 _ _)
      d := fun r d => (block4 m c t r _ _ (hq r)).trans (hA.x4 _ _)
      gq := fun r d => (block2 m c t r _).trans ((hA.x2 _ _).trans (congrArg (fun z => ((A.X2 z : ℝ) : EReal)) (Fin.ext (Nat.zero_add _))))
      gk := fun r d => (block3 m c t r _).trans ((hA.x3 _ _).trans (congrArg (fun z => ((A.X3 z : ℝ) : EReal)) (Fin.ext (Nat.zero_add _)))) }

/-- The first point. -/
theorem step_A (t : Fin cfg0.N) (h0 : t.val % 4 = 0) (h1 : t.val % 2 = 0) :
    Left (A.tile t.val) (fun _ _ => 0) (fun _ => 0) (fun _ => 0) (outsAt0 m c t.val t.isLt).1 (outsAt0 m c t.val t.isLt).2.1
      (outsAt0 m c t.val t.isLt).2.2.1 (outsAt0 m c t.val t.isLt).2.2.2 := by
  rw [outsAt0_A m c t h0 h1]
  dsimp only
  exact left_A c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (grid0.coords t)
    (ms0_5 t) (hs0_5 t) (ms0_6 t) (hs0_6 t) (ms0_7 t) (hs0_7 t) (ms0_8 t) (hs0_8 t) (heads_at m c hA t)
    ((hcond0_0 t).mpr h0) ((hcond0_1 t).mpr h1)

/-- The second point of a batch entry. -/
theorem step_B (t : Fin cfg0.N) (h0 : ¬t.val % 4 = 0) (h1 : ¬t.val % 2 = 0) {A6 : Fin 256 → Fin 1024 → ℝ} {A7 A8 : Fin 128 → ℝ}
    (h6 : Holds (outsAt0 m c (t.val - 1) (Nat.lt_of_le_of_lt (Nat.sub_le _ _) t.isLt)).2.1 A6)
    (h7 : Holds (outsAt0 m c (t.val - 1) (Nat.lt_of_le_of_lt (Nat.sub_le _ _) t.isLt)).2.2.1 fun _ => A7)
    (h8 : Holds (outsAt0 m c (t.val - 1) (Nat.lt_of_le_of_lt (Nat.sub_le _ _) t.isLt)).2.2.2 fun _ => A8) :
    Left (A.tile t.val) A6 A7 A8 (outsAt0 m c t.val t.isLt).1 (outsAt0 m c t.val t.isLt).2.1
      (outsAt0 m c t.val t.isLt).2.2.1 (outsAt0 m c t.val t.isLt).2.2.2 := by
  rw [outsAt0_B m c t h0 h1]
  dsimp only
  exact left_B c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (grid0.coords t)
    (ms0_5 t) (hs0_5 t) (ms0_6 t) (hs0_6 t) (ms0_7 t) (hs0_7 t) (ms0_8 t) (hs0_8 t) (heads_at m c hA t)
    (fun h => h0 ((hcond0_0 t).mp h)) (fun h => h1 ((hcond0_1 t).mp h)) h6 h7 h8

/-- The first point of a later batch entry. -/
theorem step_C (t : Fin cfg0.N) (h0 : ¬t.val % 4 = 0) (h1 : t.val % 2 = 0) {A7 A8 : Fin 128 → ℝ}
    (h7 : Holds (outsAt0 m c (t.val - 1) (Nat.lt_of_le_of_lt (Nat.sub_le _ _) t.isLt)).2.2.1 fun _ => A7)
    (h8 : Holds (outsAt0 m c (t.val - 1) (Nat.lt_of_le_of_lt (Nat.sub_le _ _) t.isLt)).2.2.2 fun _ => A8) :
    Left (A.tile t.val) (fun _ _ => 0) A7 A8 (outsAt0 m c t.val t.isLt).1 (outsAt0 m c t.val t.isLt).2.1
      (outsAt0 m c t.val t.isLt).2.2.1 (outsAt0 m c t.val t.isLt).2.2.2 := by
  rw [outsAt0_C m c t h0 h1]
  dsimp only
  exact left_C c (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t) (iblk m c 4 t) (grid0.coords t)
    (ms0_5 t) (hs0_5 t) (ms0_6 t) (hs0_6 t) (ms0_7 t) (hs0_7 t) (ms0_8 t) (hs0_8 t) (heads_at m c hA t)
    (fun h => h0 ((hcond0_0 t).mp h)) ((hcond0_1 t).mpr h1) h7 h8

/-- What the four output blocks hold after every point. -/
theorem left_at : ∀ (n : ℕ) (h : n < cfg0.N),
    Left (A.tile n) (A.kvSum n) (A.gqSum n) (A.gkSum n) (outsAt0 m c n h).1 (outsAt0 m c n h).2.1 (outsAt0 m c n h).2.2.1
      (outsAt0 m c n h).2.2.2
  | 0, h => step_A m c hA ⟨0, h⟩ rfl rfl
  | n + 1, h => by
    have hN : cfg0.N = 4 := N_0
    have ih := left_at n (Nat.lt_of_succ_lt h)
    have h4 : ¬(n + 1) % 4 = 0 := by omega
    by_cases h2 : (n + 1) % 2 = 0
    · have z : A.kvSum (n + 1) = fun _ _ => 0 := by funext r c; rw [RArgs.kvSum, if_pos h2]
      rw [z]
      exact step_C m c hA ⟨n + 1, h⟩ h4 h2 ih.gq ih.gk
    · have h6 : Holds (outsAt0 m c n (Nat.lt_of_succ_lt h)).2.1 (A.kvSum (n + 1)) := by
        intro r k
        rw [RArgs.kvSum, if_neg h2]
        refine (ih.kv r k).trans ?_
        show (((A.kvSum n r k + kvGrad (A.tile n) r k : ℝ)) : EReal) = _
        rw [show A.kvSum n r k = 0 from if_pos (by omega), zero_add]
        rfl
      exact step_B m c hA ⟨n + 1, h⟩ h4 h2 h6 ih.gq ih.gk

/-! ## The arrays after the last point -/

omit hA in
/-- Where the output windows stand at a point. -/
theorem out_point (t : Fin cfg0.N) :
    (win0_5.index t 0 * win0_5.size 0 = 1024 * t.val ∧ win0_5.xsize (grid0.coords t) 0 = 1024
      ∧ win0_5.index t 1 * win0_5.size 1 = 0 ∧ win0_5.xsize (grid0.coords t) 1 = 512)
    ∧ (win0_6.index t 0 * win0_6.size 0 = 256 * (t.val / 2) ∧ win0_6.xsize (grid0.coords t) 0 = 256
      ∧ win0_6.index t 1 * win0_6.size 1 = 0 ∧ win0_6.xsize (grid0.coords t) 1 = 1024)
    ∧ (win0_7.index t 0 * win0_7.size 0 = 0 ∧ win0_7.xsize (grid0.coords t) 0 = 1
      ∧ win0_7.index t 1 * win0_7.size 1 = 0 ∧ win0_7.xsize (grid0.coords t) 1 = 128)
    ∧ (win0_8.index t 0 * win0_8.size 0 = 0 ∧ win0_8.xsize (grid0.coords t) 0 = 1
      ∧ win0_8.index t 1 * win0_8.size 1 = 0 ∧ win0_8.xsize (grid0.coords t) 1 = 128) := by
  rcases fin_N0 t with rfl | rfl | rfl | rfl <;> decide +kernel

/-- The array of these real numbers. -/
def real2 {n k : Nat} (V : Fin n → Fin k → ℝ) : (⟨2, ![n, k]⟩ : Shape).Idx → EReal := fun y => ((V (y 0) (y 1) : ℝ) : EReal)

omit hA in
/-- Where a place of the block lies in the array of the gradient of the queries. -/
theorem emb5 (t : Fin cfg0.N) (r : Fin 1024) (k : Fin 512) (s : Fin 4096) (hs : s.val = 1024 * t.val + r.val) :
    ((cfg0.win 5).blk t).view.emb (ix2 r k) = (ix2 s k : (⟨2, ![4096, 512]⟩ : Shape).Idx) := by
  have e := (out_point t).1
  funext a
  apply Fin.ext
  match a with
  | ⟨0, _⟩ => show win0_5.index t 0 * win0_5.size 0 + 1 * r.val = s.val; rw [e.1, hs]; omega
  | ⟨1, _⟩ => show win0_5.index t 1 * win0_5.size 1 + 1 * k.val = k.val; rw [e.2.2.1]; omega

omit hA in
/-- The block of a point covers these rows of the gradient of the queries. -/
theorem mem5 (t : Fin cfg0.N) (i : (⟨2, ![4096, 512]⟩ : Shape).Idx) (h0 : 1024 * t.val ≤ (i 0).val) (h1 : (i 0).val < 1024 * t.val + 1024) :
    i ∈ ((cfg0.win 5).blk t).view.set := by
  have e := (out_point t).1
  show i ∈ ((View.whole main_v0_0).slice (win0_5.rect t)).set
  rw [View.set_slice_whole, Rect.mem_set_unit]
  have hk : (i 1).val < 512 := idx2_lt1 i
  intro a
  match a with
  | ⟨0, _⟩ =>
    show win0_5.index t 0 * win0_5.size 0 ≤ (i 0).val ∧ (i 0).val < win0_5.index t 0 * win0_5.size 0 + win0_5.xsize (grid0.coords t) 0
    rw [e.1, e.2.1]; exact ⟨h0, h1⟩
  | ⟨1, _⟩ =>
    show win0_5.index t 1 * win0_5.size 1 ≤ (i 1).val ∧ (i 1).val < win0_5.index t 1 * win0_5.size 1 + win0_5.xsize (grid0.coords t) 1
    rw [e.2.2.1, e.2.2.2]; omega

omit hA in
/-- Where a place of the block lies in the array of the gradients of the keys and values. -/
theorem emb6 (t : Fin cfg0.N) (r : Fin 256) (k : Fin 1024) (s : Fin 512) (hs : s.val = 256 * (t.val / 2) + r.val) :
    ((cfg0.win 6).blk t).view.emb (ix2 r k) = (ix2 s k : (⟨2, ![512, 1024]⟩ : Shape).Idx) := by
  have e := (out_point t).2.1
  funext a
  apply Fin.ext
  match a with
  | ⟨0, _⟩ => show win0_6.index t 0 * win0_6.size 0 + 1 * r.val = s.val; rw [e.1, hs]; omega
  | ⟨1, _⟩ => show win0_6.index t 1 * win0_6.size 1 + 1 * k.val = k.val; rw [e.2.2.1]; omega

omit hA in
/-- The block of a point covers these rows of the gradients of the keys and values. -/
theorem mem6 (t : Fin cfg0.N) (i : (⟨2, ![512, 1024]⟩ : Shape).Idx) (h0 : 256 * (t.val / 2) ≤ (i 0).val) (h1 : (i 0).val < 256 * (t.val / 2) + 256) :
    i ∈ ((cfg0.win 6).blk t).view.set := by
  have e := (out_point t).2.1
  show i ∈ ((View.whole main_v0_1).slice (win0_6.rect t)).set
  rw [View.set_slice_whole, Rect.mem_set_unit]
  have hk : (i 1).val < 1024 := idx2_lt1 i
  intro a
  match a with
  | ⟨0, _⟩ =>
    show win0_6.index t 0 * win0_6.size 0 ≤ (i 0).val ∧ (i 0).val < win0_6.index t 0 * win0_6.size 0 + win0_6.xsize (grid0.coords t) 0
    rw [e.1, e.2.1]; exact ⟨h0, h1⟩
  | ⟨1, _⟩ =>
    show win0_6.index t 1 * win0_6.size 1 ≤ (i 1).val ∧ (i 1).val < win0_6.index t 1 * win0_6.size 1 + win0_6.xsize (grid0.coords t) 1
    rw [e.2.2.1, e.2.2.2]; omega

omit hA in
/-- Where a place of the block lies in the array of the gradient of the queries' gain. -/
theorem emb7 (t : Fin cfg0.N) (r : Fin 1) (k : Fin 128) (s : Fin 1) (hs : s.val = 0 + r.val) :
    ((cfg0.win 7).blk t).view.emb (ix2 r k) = (ix2 s k : (⟨2, ![1, 128]⟩ : Shape).Idx) := by
  have e := (out_point t).2.2.1
  funext a
  apply Fin.ext
  match a with
  | ⟨0, _⟩ => show win0_7.index t 0 * win0_7.size 0 + 1 * r.val = s.val; rw [e.1, hs]; omega
  | ⟨1, _⟩ => show win0_7.index t 1 * win0_7.size 1 + 1 * k.val = k.val; rw [e.2.2.1]; omega

omit hA in
/-- The block of a point covers these rows of the gradient of the queries' gain. -/
theorem mem7 (t : Fin cfg0.N) (i : (⟨2, ![1, 128]⟩ : Shape).Idx) (h0 : 0 ≤ (i 0).val) (h1 : (i 0).val < 0 + 1) :
    i ∈ ((cfg0.win 7).blk t).view.set := by
  have e := (out_point t).2.2.1
  show i ∈ ((View.whole main_v0_2).slice (win0_7.rect t)).set
  rw [View.set_slice_whole, Rect.mem_set_unit]
  have hk : (i 1).val < 128 := idx2_lt1 i
  intro a
  match a with
  | ⟨0, _⟩ =>
    show win0_7.index t 0 * win0_7.size 0 ≤ (i 0).val ∧ (i 0).val < win0_7.index t 0 * win0_7.size 0 + win0_7.xsize (grid0.coords t) 0
    rw [e.1, e.2.1]; exact ⟨h0, h1⟩
  | ⟨1, _⟩ =>
    show win0_7.index t 1 * win0_7.size 1 ≤ (i 1).val ∧ (i 1).val < win0_7.index t 1 * win0_7.size 1 + win0_7.xsize (grid0.coords t) 1
    rw [e.2.2.1, e.2.2.2]; omega

omit hA in
/-- Where a place of the block lies in the array of the gradient of the keys' gain. -/
theorem emb8 (t : Fin cfg0.N) (r : Fin 1) (k : Fin 128) (s : Fin 1) (hs : s.val = 0 + r.val) :
    ((cfg0.win 8).blk t).view.emb (ix2 r k) = (ix2 s k : (⟨2, ![1, 128]⟩ : Shape).Idx) := by
  have e := (out_point t).2.2.2
  funext a
  apply Fin.ext
  match a with
  | ⟨0, _⟩ => show win0_8.index t 0 * win0_8.size 0 + 1 * r.val = s.val; rw [e.1, hs]; omega
  | ⟨1, _⟩ => show win0_8.index t 1 * win0_8.size 1 + 1 * k.val = k.val; rw [e.2.2.1]; omega

omit hA in
/-- The block of a point covers these rows of the gradient of the keys' gain. -/
theorem mem8 (t : Fin cfg0.N) (i : (⟨2, ![1, 128]⟩ : Shape).Idx) (h0 : 0 ≤ (i 0).val) (h1 : (i 0).val < 0 + 1) :
    i ∈ ((cfg0.win 8).blk t).view.set := by
  have e := (out_point t).2.2.2
  show i ∈ ((View.whole main_v0_3).slice (win0_8.rect t)).set
  rw [View.set_slice_whole, Rect.mem_set_unit]
  have hk : (i 1).val < 128 := idx2_lt1 i
  intro a
  match a with
  | ⟨0, _⟩ =>
    show win0_8.index t 0 * win0_8.size 0 ≤ (i 0).val ∧ (i 0).val < win0_8.index t 0 * win0_8.size 0 + win0_8.xsize (grid0.coords t) 0
    rw [e.1, e.2.1]; exact ⟨h0, h1⟩
  | ⟨1, _⟩ =>
    show win0_8.index t 1 * win0_8.size 1 ≤ (i 1).val ∧ (i 1).val < win0_8.index t 1 * win0_8.size 1 + win0_8.xsize (grid0.coords t) 1
    rw [e.2.2.1, e.2.2.2]; omega

/-- The gradient of the queries, after the run. -/
theorem final5 : (dats m 0 c).arrAt 5 cfg0.N = real2 A.dq := by
  refine (dats m 0 c).arrAt_eq_of_cover 5 (real2 A.dq) (fun t _ => ?_) fun i => ?_
  · rw [Value.flushed5]
    have ht := (at_point t).1
    funext x
    obtain ⟨r, k, rfl⟩ : ∃ (r : Fin 1024) (k : Fin 512), x = ix2 r k := ⟨x 0, x 1, eq_ix2 x⟩
    rw [View.read_apply, emb5 t r k ⟨1024 * t.val + r.val, by omega⟩ rfl]
    refine ((left_at m c hA t.val t.isLt).q r k).trans (congrArg _ ?_)
    have e1 : RArgs.batch t.val = ⟨(1024 * t.val + r.val) / 2048, by omega⟩ := Fin.ext (by show t.val / 2 % 2 = (1024 * t.val + r.val) / 2048; omega)
    have e2 : half (RArgs.side t.val) r = ⟨(1024 * t.val + r.val) % 2048, by omega⟩ :=
      Fin.ext (by show 1024 * (t.val % 2) + r.val = (1024 * t.val + r.val) % 2048; omega)
    show (A.full (RArgs.batch t.val) (headOf k)).DQ (half (RArgs.side t.val) r) (inHead k) = _
    rw [e1, e2]
    rfl
  · have hi : (i 0).val < 4096 := idx2_lt0 (n0 := 4096) (n1 := 512) i
    have hN : cfg0.N = 4 := N_0
    exact ⟨⟨(i 0).val / 1024, by omega⟩, flush0_5 _,
      mem5 _ i (by show 1024 * ((i 0).val / 1024) ≤ _; omega) (by show _ < 1024 * ((i 0).val / 1024) + 1024; omega)⟩

/-- The gradient of the keys and values, after the run. -/
theorem final6 : (dats m 0 c).arrAt 6 cfg0.N = real2 A.dkv := by
  refine (dats m 0 c).arrAt_eq_of_cover 6 (real2 A.dkv) (fun t hf => ?_) fun i => ?_
  · rw [Value.flushed6]
    have ht := (at_point t).1
    have h1 := (flush0_6 t).mp hf
    funext x
    obtain ⟨r, k, rfl⟩ : ∃ (r : Fin 256) (k : Fin 1024), x = ix2 r k := ⟨x 0, x 1, eq_ix2 x⟩
    rw [View.read_apply, emb6 t r k ⟨256 * (t.val / 2) + r.val, by omega⟩ rfl]
    refine ((left_at m c hA t.val t.isLt).kv r k).trans (congrArg _ ?_)
    show A.kvSum t.val r k + kvGrad (A.tile t.val) r k = _
    rw [A.kvSum_whole _ h1]
    have e1 : RArgs.batch t.val = ⟨(256 * (t.val / 2) + r.val) / 256, by omega⟩ :=
      Fin.ext (by show t.val / 2 % 2 = (256 * (t.val / 2) + r.val) / 256; omega)
    have e2 : r = ⟨(256 * (t.val / 2) + r.val) % 256, by omega⟩ :=
      Fin.ext (by show r.val = (256 * (t.val / 2) + r.val) % 256; omega)
    show kvGrad (A.full (RArgs.batch t.val)) r k = kvGrad (A.full ⟨(256 * (t.val / 2) + r.val) / 256, by omega⟩) ⟨(256 * (t.val / 2) + r.val) % 256, by omega⟩ k
    rw [e1, ← e2]
  · have hi : (i 0).val < 512 := idx2_lt0 (n0 := 512) (n1 := 1024) i
    have hN : cfg0.N = 4 := N_0
    exact ⟨⟨2 * ((i 0).val / 256) + 1, by omega⟩, (flush0_6 _).mpr (by show (2 * ((i 0).val / 256) + 1) % 2 = 1; omega),
      mem6 _ i (by show 256 * ((2 * ((i 0).val / 256) + 1) / 2) ≤ _; omega)
        (by show _ < 256 * ((2 * ((i 0).val / 256) + 1) / 2) + 256; omega)⟩

/-- The gradient of the queries' gain, after the run. -/
theorem final7 : (dats m 0 c).arrAt 7 cfg0.N = real2 (n := 1) (fun _ => A.dqg) := by
  have hN : cfg0.N = 4 := N_0
  refine (dats m 0 c).arrAt_eq_of_cover 7 (real2 (n := 1) fun _ => A.dqg) (fun t hf => ?_) fun i => ?_
  · rw [Value.flushed7]
    have ht := (at_point t).1
    have h3 : t.val = 3 := by have := (flush0_7 t).mp hf; omega
    funext x
    obtain ⟨r, k, rfl⟩ : ∃ (r : Fin 1) (k : Fin 128), x = ix2 r k := ⟨x 0, x 1, eq_ix2 x⟩
    rw [View.read_apply, emb7 t r k r (Nat.zero_add _).symm]
    refine ((left_at m c hA t.val t.isLt).gq r k).trans (congrArg _ ?_)
    rw [h3]
    exact A.gqSum_whole k
  · have hi : (i 0).val < 1 := idx2_lt0 (n0 := 1) (n1 := 128) i
    exact ⟨⟨3, by omega⟩, (flush0_7 _).mpr rfl, mem7 _ i (Nat.zero_le _) (by omega)⟩

/-- The gradient of the keys' gain, after the run. -/
theorem final8 : (dats m 0 c).arrAt 8 cfg0.N = real2 (n := 1) (fun _ => A.dkg) := by
  have hN : cfg0.N = 4 := N_0
  refine (dats m 0 c).arrAt_eq_of_cover 8 (real2 (n := 1) fun _ => A.dkg) (fun t hf => ?_) fun i => ?_
  · rw [Value.flushed8]
    have ht := (at_point t).1
    have h3 : t.val = 3 := by have := (flush0_8 t).mp hf; omega
    funext x
    obtain ⟨r, k, rfl⟩ : ∃ (r : Fin 1) (k : Fin 128), x = ix2 r k := ⟨x 0, x 1, eq_ix2 x⟩
    rw [View.read_apply, emb8 t r k r (Nat.zero_add _).symm]
    refine ((left_at m c hA t.val t.isLt).gk r k).trans (congrArg _ ?_)
    rw [h3]
    exact A.gkSum_whole k
  · have hi : (i 0).val < 1 := idx2_lt0 (n0 := 1) (n1 := 128) i
    exact ⟨⟨3, by omega⟩, (flush0_8 _).mpr rfl, mem8 _ i (Nat.zero_le _) (by omega)⟩

end Cert.XAttn
-- ==== Proof.RefRows.lean ====
/- The reference's stages on real arguments, first part: the normalised queries and keys, the values, the gradient of the
   output, each entry as a formula of its head. -/
module

public import proofs.«01_k».proof.Proof.KernelValue
public import proofs.«01_k».proof.Proof.Gen.ReferenceIdeal.Read

set_option maxRecDepth 16384

@[expose] public noncomputable section

open scoped BigOperators

namespace Cert.XAttn

open Idealize.ShloMosaic Idealize.ShloMosaic.ValueIdx
open Cert.ReferenceIdeal Cert.ReferenceIdeal.Gen Cert.ReferenceIdeal.Read

/-- The array `v` has the real entries `V`. -/
def Entries {s : Shape} (v : s.Idx → EReal) (V : s.Idx → ℝ) : Prop := ∀ i, v i = ((V i : ℝ) : EReal)

namespace Entries
variable {s : Shape} {a b : FVec Ideal s .f32} {A B : s.Idx → ℝ}

theorem mul (ha : Entries a A) (hb : Entries b B) : Entries (mulf a b) (fun i => A i * B i) := fun i => by
  rw [mulf_apply, ha, hb, EReal.coe_mul]
theorem add (ha : Entries a A) (hb : Entries b B) : Entries (addf a b) (fun i => A i + B i) := fun i => by
  rw [addf_apply, ha, hb, EReal.coe_add]
theorem sub (ha : Entries a A) (hb : Entries b B) : Entries (subf a b) (fun i => A i - B i) := fun i => by
  rw [subf_apply, ha, hb, EReal.coe_sub]
theorem div (ha : Entries a A) (hb : Entries b B) (h : ∀ i, B i ≠ 0) : Entries (Host.divf a b) (fun i => A i / B i) :=
  fun i => by
    show Ideal.div (a i) (b i) = _
    rw [ha, hb, div_real (h i)]
theorem exp (ha : Entries a A) : Entries (Host.exp a) (fun i => Real.exp (A i)) := fun i => by
  show Ideal.exp (a i) = _
  rw [ha]; rfl
theorem neg (ha : Entries a A) : Entries (Host.negf a) (fun i => - A i) := fun i => by
  show - (a i) = _
  rw [ha]; rfl
theorem rsqrt (ha : Entries a A) (h : ∀ i, 0 < A i) : Entries (Host.rsqrt a) (fun i => (Real.sqrt (A i))⁻¹) := fun i => by
  show Ideal.rsqrt (a i) = _
  rw [ha, Ideal.rsqrt_coe, if_neg (not_lt.mpr (h i).le), if_neg (h i).ne']
theorem of_eq {v : s.Idx → EReal} {V W : s.Idx → ℝ} (h : Entries v V) (e : ∀ i, V i = W i) : Entries v W := fun i => by
  rw [h, e]
end Entries

/-- A sum from zero of real entries. -/
theorem sumStep {k : Nat} {a c : EReal} {f : Fin k → EReal} {F : Fin k → ℝ} (e : a = c + ∑ j, f j) (hc : c = ((0 : ℝ) : EReal))
    (hf : ∀ j, f j = ((F j : ℝ) : EReal)) : a = ((∑ j, F j : ℝ) : EReal) := by
  rw [e, hc, coe_sum, EReal.coe_zero, zero_add]
  exact Finset.sum_congr rfl fun j _ => hf j
/-- A sum of products of real entries. -/
theorem dotStep {k : Nat} {a : EReal} {f g : Fin k → EReal} {F G : Fin k → ℝ} (e : a = ∑ j, f j * g j)
    (hf : ∀ j, f j = ((F j : ℝ) : EReal)) (hg : ∀ j, g j = ((G j : ℝ) : EReal)) : a = ((∑ j, F j * G j : ℝ) : EReal) := by
  rw [e, coe_sum]
  exact Finset.sum_congr rfl fun j _ => by rw [hf, hg, EReal.coe_mul]

theorem word_neg_half : (Scalar.ofBits .f32 0xBF000000#32 : Ideal .f32) = ((-(1 / 2) : ℝ) : EReal) := by
  show Ideal.ofBits .f32 0xBF000000#32 = _
  simp [Ideal.ofBits, Ideal.ieee, -EReal.coe_mul]; norm_num

/-- The reference's five arguments hold the real numbers of `A`. -/
structure Given (x0 : (⟨S4096x512, .f32⟩ : BufTy).Contents (Elt Ideal)) (x1 : (⟨S512x1024, .f32⟩ : BufTy).Contents (Elt Ideal))
    (x2 x3 : (⟨S1x128, .f32⟩ : BufTy).Contents (Elt Ideal)) (x4 : (⟨S4096x512, .f32⟩ : BufTy).Contents (Elt Ideal)) (A : RArgs) : Prop where
  x0 : Holds (n := 4096) (k := 512) x0 A.X0
  x1 : Holds (n := 512) (k := 1024) x1 A.X1
  x2 : Holds (n := 1) (k := 128) x2 (fun _ => A.X2)
  x3 : Holds (n := 1) (k := 128) x3 (fun _ => A.X3)
  x4 : Holds (n := 4096) (k := 512) x4 A.X4

/-- An entry of a matrix of real numbers, at any index with the given row and column. -/
theorem Holds.at {n k : Nat} {v : (⟨2, ![n, k]⟩ : Shape).Idx → EReal} {V : Fin n → Fin k → ℝ} (h : Holds v V)
    (y : (⟨2, ![n, k]⟩ : Shape).Idx) (i : Fin n) (j : Fin k) (hi : (y 0).val = i.val) (hj : (y 1).val = j.val) :
    v y = ((V i j : ℝ) : EReal) := by
  rw [← h i j]
  refine congrArg v (funext fun a => Fin.ext ?_)
  match a with
  | ⟨0, _⟩ => exact hi
  | ⟨1, _⟩ => exact hj

namespace Given
variable {x0 : (⟨S4096x512, .f32⟩ : BufTy).Contents (Elt Ideal)} {x1 : (⟨S512x1024, .f32⟩ : BufTy).Contents (Elt Ideal)}
  {x2 x3 : (⟨S1x128, .f32⟩ : BufTy).Contents (Elt Ideal)} {x4 : (⟨S4096x512, .f32⟩ : BufTy).Contents (Elt Ideal)} {A : RArgs}
  (g : Given x0 x1 x2 x3 x4 A)
include g

/-! ## The queries -/

theorem q : Entries (val_main_v0 (F := Ideal) x0) (fun i => (A.full (i 0) (i 2)).X (i 1) (i 3)) := fun i => by
  rw [val_main_v0_apply]
  have h0 : (i 0).val < 2 := (i 0).isLt
  have h1 : (i 1).val < 2048 := (i 1).isLt
  have h2 : (i 2).val < 4 := (i 2).isLt
  have h3 : (i 3).val < 128 := (i 3).isLt
  refine g.x0.at _ _ _ ?_ ?_
  · show ((((i 0).val * 2048 + (i 1).val) * 4 + (i 2).val) * 128 + (i 3).val) / 512 = 2048 * (i 0).val + (i 1).val
    omega
  · show ((((i 0).val * 2048 + (i 1).val) * 4 + (i 2).val) * 128 + (i 3).val) % 512 = 128 * (i 2).val + (i 3).val
    omega
theorem qmean : Entries (val_main_v7 (F := Ideal) x0)
    (fun i => (∑ d, (A.full (i 0) (i 2)).X (i 1) d * (A.full (i 0) (i 2)).X (i 1) d) / 128 + Row.eps) := by
  have sum : Entries (val_main_v2 (F := Ideal) x0)
      (fun i => ∑ d, (A.full (i 0) (i 2)).X (i 1) d * (A.full (i 0) (i 2)).X (i 1) d) := fun i =>
    sumStep (val_main_v2_apply x0 i) word_zero fun d => (g.q.mul g.q) _
  have col : Entries (val_main_v3 (F := Ideal) x0)
      (fun i => ∑ d, (A.full (i 0) (i 2)).X (i 1) d * (A.full (i 0) (i 2)).X (i 1) d) := fun i => (val_main_v3_apply x0 i).trans (sum _)
  have n : Entries (val_main_v4 (F := Ideal)) (fun _ => 128) := fun i => (val_main_v4_apply i).trans word_128
  have e : Entries (val_main_v6 (F := Ideal)) (fun _ => Row.eps) := fun i => (val_main_v6_apply i).trans word_eps
  exact (col.div n fun _ => by norm_num).add e
theorem qinv : Entries (val_main_v8 (F := Ideal) x0) (fun i => Row.inv ((A.full (i 0) (i 2)).X (i 1))) :=
  g.qmean.rsqrt fun i => Row.mean_pos ((A.full (i 0) (i 2)).X (i 1))
/-- The slope of the reciprocal root mean square, as a function of the mean square. -/
theorem qslope : Entries (val_main_v11 (F := Ideal) x0) (fun i => -(1 / 2) * (Row.inv ((A.full (i 0) (i 2)).X (i 1)) /
    ((∑ d, (A.full (i 0) (i 2)).X (i 1) d * (A.full (i 0) (i 2)).X (i 1) d) / 128 + Row.eps))) := by
  have n : Entries (val_main_v10 (F := Ideal)) (fun _ => -(1 / 2)) := fun i => (val_main_v10_apply i).trans word_neg_half
  exact n.mul (g.qinv.div g.qmean fun i => (Row.mean_pos ((A.full (i 0) (i 2)).X (i 1))).ne')
theorem qunit : Entries (val_main_v13 (F := Ideal) x0)
    (fun i => (A.full (i 0) (i 2)).X (i 1) (i 3) * Row.inv ((A.full (i 0) (i 2)).X (i 1))) := by
  have w : Entries (val_main_v12 (F := Ideal) x0) (fun i => Row.inv ((A.full (i 0) (i 2)).X (i 1))) := fun i =>
    (val_main_v12_apply x0 i).trans (g.qinv _)
  exact g.q.mul w
theorem qgain : Entries (val_main_v14 (F := Ideal) x2) (fun i => A.X2 (i 3)) := fun i =>
  (val_main_v14_apply x2 i).trans (g.x2.at _ 0 (i 3) (by have := (idx_main_v14 i 0).isLt; show _ = 0; exact Nat.lt_one_iff.mp this) rfl)
theorem qn : Entries (val_main_v16 (F := Ideal) x0 x2) (fun i => Row.hat ((A.full (i 0) (i 2)).X (i 1)) A.X2 (i 3)) := by
  have w : Entries (val_main_v15 (F := Ideal) x2) (fun i => A.X2 (i 3)) := fun i => (val_main_v15_apply x2 i).trans (g.qgain _)
  exact g.qunit.mul w

/-! ## The keys and the values -/

theorem k : Entries (val_main_v19 (F := Ideal) x1) (fun i => (A.full (i 0) (i 2)).Y (i 1) (i 3)) := fun i => by
  rw [val_main_v19_apply, val_main_v18_apply, val_main_v17_apply]
  have h0 : (i 0).val < 2 := (i 0).isLt
  have h1 : (i 1).val < 256 := (i 1).isLt
  have h2 : (i 2).val < 4 := (i 2).isLt
  have h3 : (i 3).val < 128 := (i 3).isLt
  refine g.x1.at _ _ _ ?_ ?_
  · simp [idx_main_v17, idx_main_v18, idx_main_v19, RArgs.full]
    omega
  · simp [idx_main_v17, idx_main_v18, idx_main_v19, RArgs.full]
    omega
theorem v : Entries (val_main_v37 (F := Ideal) x1) (fun i => (A.full (i 0) (i 2)).V (i 1) (i 3)) := fun i => by
  rw [val_main_v37_apply, val_main_v36_apply, val_main_v17_apply]
  have h0 : (i 0).val < 2 := (i 0).isLt
  have h1 : (i 1).val < 256 := (i 1).isLt
  have h2 : (i 2).val < 4 := (i 2).isLt
  have h3 : (i 3).val < 128 := (i 3).isLt
  refine g.x1.at _ _ _ ?_ ?_
  · simp [idx_main_v17, idx_main_v36, idx_main_v37, RArgs.full]
    omega
  · simp [idx_main_v17, idx_main_v36, idx_main_v37, RArgs.full]
    omega
theorem kmean : Entries (val_main_v26 (F := Ideal) x1)
    (fun i => (∑ d, (A.full (i 0) (i 2)).Y (i 1) d * (A.full (i 0) (i 2)).Y (i 1) d) / 128 + Row.eps) := by
  have sum : Entries (val_main_v21 (F := Ideal) x1)
      (fun i => ∑ d, (A.full (i 0) (i 2)).Y (i 1) d * (A.full (i 0) (i 2)).Y (i 1) d) := fun i =>
    sumStep (val_main_v21_apply x1 i) word_zero fun d => (g.k.mul g.k) _
  have col : Entries (val_main_v22 (F := Ideal) x1)
      (fun i => ∑ d, (A.full (i 0) (i 2)).Y (i 1) d * (A.full (i 0) (i 2)).Y (i 1) d) := fun i => (val_main_v22_apply x1 i).trans (sum _)
  have n : Entries (val_main_v23 (F := Ideal)) (fun _ => 128) := fun i => (val_main_v23_apply i).trans word_128
  have e : Entries (val_main_v25 (F := Ideal)) (fun _ => Row.eps) := fun i => (val_main_v25_apply i).trans word_eps
  exact (col.div n fun _ => by norm_num).add e
theorem kinv : Entries (val_main_v27 (F := Ideal) x1) (fun i => Row.inv ((A.full (i 0) (i 2)).Y (i 1))) :=
  g.kmean.rsqrt fun i => Row.mean_pos ((A.full (i 0) (i 2)).Y (i 1))
theorem kslope : Entries (val_main_v30 (F := Ideal) x1) (fun i => -(1 / 2) * (Row.inv ((A.full (i 0) (i 2)).Y (i 1)) /
    ((∑ d, (A.full (i 0) (i 2)).Y (i 1) d * (A.full (i 0) (i 2)).Y (i 1) d) / 128 + Row.eps))) := by
  have n : Entries (val_main_v29 (F := Ideal)) (fun _ => -(1 / 2)) := fun i => (val_main_v29_apply i).trans word_neg_half
  exact n.mul (g.kinv.div g.kmean fun i => (Row.mean_pos ((A.full (i 0) (i 2)).Y (i 1))).ne')
theorem kunit : Entries (val_main_v32 (F := Ideal) x1)
    (fun i => (A.full (i 0) (i 2)).Y (i 1) (i 3) * Row.inv ((A.full (i 0) (i 2)).Y (i 1))) := by
  have w : Entries (val_main_v31 (F := Ideal) x1) (fun i => Row.inv ((A.full (i 0) (i 2)).Y (i 1))) := fun i =>
    (val_main_v31_apply x1 i).trans (g.kinv _)
  exact g.k.mul w
theorem kgain : Entries (val_main_v33 (F := Ideal) x3) (fun i => A.X3 (i 3)) := fun i =>
  (val_main_v33_apply x3 i).trans (g.x3.at _ 0 (i 3) (by have := (idx_main_v33 i 0).isLt; show _ = 0; exact Nat.lt_one_iff.mp this) rfl)
theorem kn : Entries (val_main_v35 (F := Ideal) x1 x3) (fun i => Row.hat ((A.full (i 0) (i 2)).Y (i 1)) A.X3 (i 3)) := by
  have w : Entries (val_main_v34 (F := Ideal) x3) (fun i => A.X3 (i 3)) := fun i => (val_main_v34_apply x3 i).trans (g.kgain _)
  exact g.kunit.mul w

/-! ## The gradient of the output -/

theorem d : Entries (val_main_v73 (F := Ideal) x4) (fun i => (A.full (i 0) (i 1)).D (i 3) (i 2)) := fun i => by
  rw [val_main_v73_apply, val_main_v72_apply]
  have h0 : (i 0).val < 2 := (i 0).isLt
  have h1 : (i 1).val < 4 := (i 1).isLt
  have h2 : (i 2).val < 128 := (i 2).isLt
  have h3 : (i 3).val < 2048 := (i 3).isLt
  refine g.x4.at _ _ _ ?_ ?_
  · simp [idx_main_v73, idx_main_v72, RArgs.full]
    omega
  · simp [idx_main_v73, idx_main_v72, RArgs.full]
    omega
end Given
end Cert.XAttn
-- ==== Proof.RefScores.lean ====
/- The reference's stages on real arguments, second part: the scores, the attention weights, and the gradients of the
   values, of the scores and of the normalised queries and keys. -/
module

public import proofs.«01_k».proof.Proof.RefRows
public import Idealize.ShloMosaic.Lib.KernelVsHost

set_option maxRecDepth 16384

@[expose] public noncomputable section

open scoped BigOperators

namespace Cert.XAttn

open Idealize.ShloMosaic Idealize.ShloMosaic.ValueIdx
open Cert.ReferenceIdeal Cert.ReferenceIdeal.Gen Cert.ReferenceIdeal.Read

/-- The weights as quotients. -/
theorem Row.soft_div {m : Nat} (s : Fin m → ℝ) (j : Fin m) : Row.expo s j / (∑ l, Row.expo s l) = Row.soft s j := by
  unfold Row.soft
  rw [mul_one_div]
/-- The gradient of a row of scores with the sum of the exponentials taken through the quotient. -/
theorem Row.dsoft_quot {m : Nat} [NeZero m] (dp s : Fin m → ℝ) (j : Fin m) :
    (dp j / (∑ l, Row.expo s l) + ∑ _k : Fin 1, - ∑ l, dp l * (1 / ((∑ l, Row.expo s l) * ∑ l, Row.expo s l)) * Row.expo s l) * Row.expo s j * Row.scale
      = Row.dsoft dp (Row.soft s) j := by
  have hz := (Row.sum_expo_pos s).ne'
  unfold Row.dsoft
  have e : ∑ l, dp l * (1 / ((∑ l, Row.expo s l) * ∑ l, Row.expo s l)) * Row.expo s l
      = (∑ l, Row.soft s l * dp l) / ∑ l, Row.expo s l := by
    rw [Finset.sum_div]
    refine Finset.sum_congr rfl fun l _ => ?_
    unfold Row.soft
    field_simp
  rw [e, Fin.sum_univ_one]
  unfold Row.soft
  field_simp
  ring

theorem reduces_scores : S2x4x2048x256.Reduces [3] S2x4x2048 := by decide
/-- The largest entry of each row of scores. -/
theorem hostMax (x : FVec Ideal S2x4x2048x256 .f32) (i : S2x4x2048.Idx) :
    Host.reduce FloatOps.maximumf x (constant (F := Ideal) S_ .f32 0xFF800000#32) reducesTo_S2x4x2048x256_S2x4x2048_d3 h_S_ i
      = (Finset.univ : Finset (Fin 256)).fold max (⊥ : EReal) (fun d => x (reduces_scores.lift i d)) := by
  rw [hostReduce_maximumf_eq_multiReduction (F := Ideal) x 0xFF800000#32 _ _ reduces_scores (.inl rfl) rfl]
  refine (Ideal.multiReduction_maximumf_single _ _ _ _ _ _).trans ?_
  rw [word_bot]
  rfl

namespace Given
variable {x0 : (⟨S4096x512, .f32⟩ : BufTy).Contents (Elt Ideal)} {x1 : (⟨S512x1024, .f32⟩ : BufTy).Contents (Elt Ideal)}
  {x2 x3 : (⟨S1x128, .f32⟩ : BufTy).Contents (Elt Ideal)} {x4 : (⟨S4096x512, .f32⟩ : BufTy).Contents (Elt Ideal)} {A : RArgs}
  (g : Given x0 x1 x2 x3 x4 A)
include g

/-! ## The weights -/

theorem scores : Entries (val_main_v40 (F := Ideal) x0 x1 x2 x3) (fun i => (A.full (i 0) (i 1)).Raw (i 2) (i 3) * Row.scale) := by
  have raw : Entries (val_main_v38 (F := Ideal) x0 x1 x2 x3) (fun i => (A.full (i 0) (i 1)).Raw (i 2) (i 3)) := fun i =>
    dotStep (val_main_v38_apply x0 x1 x2 x3 i) (fun d => g.qn _) (fun d => g.kn _)
  have w : Entries (val_main_v39 (F := Ideal)) (fun _ => Row.scale) := fun i => (val_main_v39_apply i).trans word_scale
  exact raw.mul w
theorem most : Entries (val_main_v41 (F := Ideal) x0 x1 x2 x3)
    (fun i => Row.top fun j => (A.full (i 0) (i 1)).Raw (i 2) j * Row.scale) := fun i => by
  unfold val_main_v41 val_main_cst_8
  refine (hostMax _ i).trans ?_
  rw [← coe_top]
  refine congrArg (fun f => Finset.fold max (⊥ : EReal) f Finset.univ) ?_
  funext (d : Fin 256)
  exact g.scores _
theorem expo : Entries (val_main_v61 (F := Ideal) x0 x1 x2 x3) (fun i => Row.expo ((A.full (i 0) (i 1)).Raw (i 2)) (i 3)) := by
  have bot : ∀ i, val_main_v47 (F := Ideal) i = (⊥ : EReal) := fun i => (val_main_v47_apply i).trans word_bot
  have m : Entries (val_main_v48 (F := Ideal) x0 x1 x2 x3)
      (fun i => Row.top fun j => (A.full (i 0) (i 1)).Raw (i 2) j * Row.scale) := fun i => by
    rw [val_main_v48_apply, bot, g.most i]
    exact max_eq_right bot_le
  have c : Entries (val_main_v58 (F := Ideal) x0 x1 x2 x3)
      (fun i => Row.top fun j => (A.full (i 0) (i 1)).Raw (i 2) j * Row.scale) := fun i => (val_main_v58_apply x0 x1 x2 x3 i).trans (m _)
  have w : Entries (val_main_v59 (F := Ideal) x0 x1 x2 x3)
      (fun i => Row.top fun j => (A.full (i 0) (i 1)).Raw (i 2) j * Row.scale) := fun i => (val_main_v59_apply x0 x1 x2 x3 i).trans (c _)
  exact (g.scores.sub w).exp
theorem total : Entries (val_main_v63 (F := Ideal) x0 x1 x2 x3) (fun i => ∑ j, Row.expo ((A.full (i 0) (i 1)).Raw (i 2)) j) := by
  have s : Entries (val_main_v62 (F := Ideal) x0 x1 x2 x3) (fun i => ∑ j, Row.expo ((A.full (i 0) (i 1)).Raw (i 2)) j) := fun i =>
    sumStep (val_main_v62_apply x0 x1 x2 x3 i) word_zero fun d => g.expo _
  exact fun i => (val_main_v63_apply x0 x1 x2 x3 i).trans (s _)
theorem p : Entries (val_main_v65 (F := Ideal) x0 x1 x2 x3) (fun i => (A.full (i 0) (i 1)).P (i 2) (i 3)) := by
  have w : Entries (val_main_v64 (F := Ideal) x0 x1 x2 x3) (fun i => ∑ j, Row.expo ((A.full (i 0) (i 1)).Raw (i 2)) j) := fun i =>
    (val_main_v64_apply x0 x1 x2 x3 i).trans (g.total _)
  exact (g.expo.div w fun i => (Row.sum_expo_pos ((A.full (i 0) (i 1)).Raw (i 2))).ne').of_eq fun i => Row.soft_div _ _

/-! ## The gradients -/

theorem dp : Entries (val_main_v74 (F := Ideal) x1 x4) (fun i => (A.full (i 0) (i 1)).DP (i 2) (i 3)) := fun i =>
  dotStep (val_main_v74_apply x1 x4 i) (fun d => g.d _) (fun d => g.v _)
theorem dv : Entries (val_main_v76 (F := Ideal) x0 x1 x2 x3 x4) (fun i => (A.full (i 0) (i 2)).DV (i 1) (i 3)) := by
  have w : Entries (val_main_v75 (F := Ideal) x0 x1 x2 x3 x4) (fun i => ∑ s, (A.full (i 0) (i 1)).D s (i 2) * (A.full (i 0) (i 1)).P s (i 3)) :=
    fun i => dotStep (val_main_v75_apply x0 x1 x2 x3 x4 i) (fun d => g.d _) (fun d => g.p _)
  refine Entries.of_eq (fun i => (val_main_v76_apply x0 x1 x2 x3 x4 i).trans (w _)) fun i => ?_
  exact Finset.sum_congr rfl fun s _ => mul_comm _ _
theorem ds : Entries (val_main_v90 (F := Ideal) x0 x1 x2 x3 x4) (fun i => (A.full (i 0) (i 1)).DS (i 2) (i 3)) := by
  have hz : ∀ i : S2x4x2048x1.Idx, (∑ j, Row.expo ((A.full (i 0) (i 1)).Raw (i 2)) j) ≠ 0 := fun i =>
    (Row.sum_expo_pos ((A.full (i 0) (i 1)).Raw (i 2))).ne'
  have one : Entries (val_main_v67 (F := Ideal)) (fun _ => 1) := fun i => (val_main_v67_apply i).trans word_one
  have r := one.div (g.total.mul g.total) fun i => mul_ne_zero (hz i) (hz i)
  have rr : Entries (val_main_v77 (F := Ideal) x0 x1 x2 x3) (fun i => 1 / ((∑ j, Row.expo ((A.full (i 0) (i 1)).Raw (i 2)) j) *
      ∑ j, Row.expo ((A.full (i 0) (i 1)).Raw (i 2)) j)) := fun i => (val_main_v77_apply x0 x1 x2 x3 i).trans (r _)
  have t : Entries (val_main_v80 (F := Ideal) x0 x1 x2 x3 x4) (fun i => ∑ l, (A.full (i 0) (i 1)).DP (i 2) l *
      (1 / ((∑ j, Row.expo ((A.full (i 0) (i 1)).Raw (i 2)) j) * ∑ j, Row.expo ((A.full (i 0) (i 1)).Raw (i 2)) j)) *
      Row.expo ((A.full (i 0) (i 1)).Raw (i 2)) l) := fun i =>
    sumStep (val_main_v80_apply x0 x1 x2 x3 x4 i) word_zero fun d => ((g.dp.mul rr).mul g.expo) _
  have tc : Entries (val_main_v81 (F := Ideal) x0 x1 x2 x3 x4) (fun i => ∑ l, (A.full (i 0) (i 1)).DP (i 2) l *
      (1 / ((∑ j, Row.expo ((A.full (i 0) (i 1)).Raw (i 2)) j) * ∑ j, Row.expo ((A.full (i 0) (i 1)).Raw (i 2)) j)) *
      Row.expo ((A.full (i 0) (i 1)).Raw (i 2)) l) := fun i => by
    rw [val_main_v81_apply]
    have e : idx_main_v81 i = ix3 (i 0) (i 1) (i 2) := by
      have h0 : (i 0).val < 2 := (i 0).isLt
      have h1 : (i 1).val < 4 := (i 1).isLt
      have h2 : (i 2).val < 2048 := (i 2).isLt
      have h3 : (i 3).val < 1 := (i 3).isLt
      funext a; apply Fin.ext
      match a with
      | ⟨0, _⟩ => show ((((i 0).val * 4 + (i 1).val) * 2048 + (i 2).val) * 1 + (i 3).val) / 8192 = (i 0).val; omega
      | ⟨1, _⟩ => show ((((i 0).val * 4 + (i 1).val) * 2048 + (i 2).val) * 1 + (i 3).val) / 2048 % 4 = (i 1).val; omega
      | ⟨2, _⟩ => show ((((i 0).val * 4 + (i 1).val) * 2048 + (i 2).val) * 1 + (i 3).val) % 2048 = (i 2).val; omega
    rw [e]
    exact t _
  have u : Entries (val_main_v85 (F := Ideal) x0 x1 x2 x3 x4) (fun i => ∑ _k : Fin 1, - ∑ l, (A.full (i 0) (i 1)).DP (i 2) l *
      (1 / ((∑ j, Row.expo ((A.full (i 0) (i 1)).Raw (i 2)) j) * ∑ j, Row.expo ((A.full (i 0) (i 1)).Raw (i 2)) j)) *
      Row.expo ((A.full (i 0) (i 1)).Raw (i 2)) l) := fun i =>
    sumStep (val_main_v85_apply x0 x1 x2 x3 x4 i) word_zero fun d => tc.neg _
  have ub : Entries (val_main_v86 (F := Ideal) x0 x1 x2 x3 x4) (fun i => ∑ _k : Fin 1, - ∑ l, (A.full (i 0) (i 1)).DP (i 2) l *
      (1 / ((∑ j, Row.expo ((A.full (i 0) (i 1)).Raw (i 2)) j) * ∑ j, Row.expo ((A.full (i 0) (i 1)).Raw (i 2)) j)) *
      Row.expo ((A.full (i 0) (i 1)).Raw (i 2)) l) := fun i => (val_main_v86_apply x0 x1 x2 x3 x4 i).trans (u _)
  have zb : Entries (val_main_v83 (F := Ideal) x0 x1 x2 x3) (fun i => ∑ j, Row.expo ((A.full (i 0) (i 1)).Raw (i 2)) j) := fun i =>
    (val_main_v83_apply x0 x1 x2 x3 i).trans (g.total _)
  have w : Entries (val_main_v89 (F := Ideal)) (fun _ => Row.scale) := fun i => (val_main_v89_apply i).trans word_scale
  exact ((((g.dp.div zb fun i => (Row.sum_expo_pos ((A.full (i 0) (i 1)).Raw (i 2))).ne').add ub).mul g.expo).mul w).of_eq
    fun i => Row.dsoft_quot (m := 256) _ _ _
theorem dkn : Entries (val_main_v92 (F := Ideal) x0 x1 x2 x3 x4) (fun i => (A.full (i 0) (i 2)).DKN (i 1) (i 3)) := by
  have w : Entries (val_main_v91 (F := Ideal) x0 x1 x2 x3 x4) (fun i => (A.full (i 0) (i 1)).DKN (i 2) (i 3)) := fun i =>
    dotStep (val_main_v91_apply x0 x1 x2 x3 x4 i) (fun d => g.ds _) (fun d => g.qn _)
  exact fun i => (val_main_v92_apply x0 x1 x2 x3 x4 i).trans (w _)
theorem dqn : Entries (val_main_v94 (F := Ideal) x0 x1 x2 x3 x4) (fun i => (A.full (i 0) (i 2)).DQN (i 1) (i 3)) := by
  have w : Entries (val_main_v93 (F := Ideal) x0 x1 x2 x3 x4) (fun i => (A.full (i 0) (i 1)).DQN (i 2) (i 3)) := fun i =>
    dotStep (val_main_v93_apply x0 x1 x2 x3 x4 i) (fun d => g.ds _) (fun d => g.kn _)
  exact fun i => (val_main_v94_apply x0 x1 x2 x3 x4 i).trans (w _)
end Given
end Cert.XAttn
-- ==== Proof.RefGrads.lean ====
/- The reference's stages on real arguments, last part: the backward of the two normalisations, the sums that make the
   gains' gradients, and the four results. -/
module

public import proofs.«01_k».proof.Proof.RefScores

set_option maxRecDepth 16384

@[expose] public noncomputable section

open scoped BigOperators

namespace Cert.XAttn

open Idealize.ShloMosaic Idealize.ShloMosaic.ValueIdx
open Cert.ReferenceIdeal Cert.ReferenceIdeal.Gen Cert.ReferenceIdeal.Read

/-- The backward of a normalised row with the slope of the root written as a quotient. -/
theorem Row.back_quot {k : Nat} (x d g : Fin k → ℝ) (j : Fin k) :
    d j * g j * Row.inv x
        + x j * (∑ _u : Fin 1, (∑ l, x l * (d l * g l)) * (-(1 / 2) * (Row.inv x / ((∑ l, x l * x l) / 128 + Row.eps))) / 128)
        + (∑ _u : Fin 1, (∑ l, x l * (d l * g l)) * (-(1 / 2) * (Row.inv x / ((∑ l, x l * x l) / 128 + Row.eps))) / 128) * x j
      = Row.back x d g j := by
  have hm := Row.mean_pos x
  have e : Row.inv x / ((∑ l, x l * x l) / 128 + Row.eps) = Row.inv x * Row.inv x * Row.inv x := by
    have s : Row.inv x * Row.inv x = ((∑ l, x l * x l) / 128 + Row.eps)⁻¹ := by
      unfold Row.inv
      rw [← mul_inv, Real.mul_self_sqrt hm.le]
    rw [s, div_eq_mul_inv, mul_comm]
  have c : ∑ l, x l * (d l * g l) = ∑ l, d l * g l * x l := Finset.sum_congr rfl fun l _ => mul_comm _ _
  rw [e, c, Fin.sum_univ_one]
  unfold Row.back
  ring

/-- A sum over all but the last axis. -/
theorem sumLeading {n0 n1 n2 n3 : Nat} (h : (⟨4, ![n0, n1, n2, n3]⟩ : Shape).ReducesTo [0, 1, 2] ⟨1, ![n3]⟩)
    {x : (⟨4, ![n0, n1, n2, n3]⟩ : Shape).Idx → EReal} {V : Fin n0 → Fin n1 → Fin n2 → Fin n3 → ℝ}
    (hx : ∀ a b c d, x (ix4 a b c d) = ((V a b c d : ℝ) : EReal)) (j : (⟨1, ![n3]⟩ : Shape).Idx) {z : EReal} (hz : z = ((0 : ℝ) : EReal)) :
    Ideal.hostReduceAdd h x z j = ((∑ a, ∑ b, ∑ c, V a b c (j 0) : ℝ) : EReal) := by
  unfold Ideal.hostReduceAdd
  rw [hz, EReal.coe_zero, zero_add]
  have e : ∑ a, ∑ b, ∑ c, V a b c (j 0) = ∑ q : Fin n0 × Fin n1 × Fin n2, V q.1 q.2.1 q.2.2 (j 0) := by
    rw [Fintype.sum_prod_type]
    exact Finset.sum_congr rfl fun a _ => by rw [Fintype.sum_prod_type]
  rw [e, coe_sum]
  refine Finset.sum_bij' (fun i _ => (i 0, i 1, i 2)) (fun q _ => ix4 q.1 q.2.1 q.2.2 (j 0)) ?_ ?_ ?_ ?_ ?_
  · intro i _
    exact Finset.mem_univ _
  · intro q _
    rw [Finset.mem_filter]
    refine ⟨Finset.mem_univ _, ?_⟩
    funext b
    match b with
    | ⟨0, _⟩ => exact Fin.ext (Shape.ReducesTo.drop_apply_val h _ 0)
  · intro i hi
    have hj := (Finset.mem_filter.mp hi).2
    have h3 : i 3 = j 0 := by
      rw [← hj]
      exact (Fin.ext (Shape.ReducesTo.drop_apply_val h i 0)).symm
    rw [← h3]
    exact (eq_ix4 i).symm
  · intro q _
    rfl
  · intro i hi
    have hj := (Finset.mem_filter.mp hi).2
    have h3 : i 3 = j 0 := by
      rw [← hj]
      exact (Fin.ext (Shape.ReducesTo.drop_apply_val h i 0)).symm
    rw [← h3]
    exact (congrArg x (eq_ix4 i)).trans (hx (i 0) (i 1) (i 2) (i 3))

namespace Given
variable {x0 : (⟨S4096x512, .f32⟩ : BufTy).Contents (Elt Ideal)} {x1 : (⟨S512x1024, .f32⟩ : BufTy).Contents (Elt Ideal)}
  {x2 x3 : (⟨S1x128, .f32⟩ : BufTy).Contents (Elt Ideal)} {x4 : (⟨S4096x512, .f32⟩ : BufTy).Contents (Elt Ideal)} {A : RArgs}
  (g : Given x0 x1 x2 x3 x4 A)
include g

/-! ## The queries -/

/-- The gradient of the queries, head by head. -/
theorem dq : Entries (val_main_v142 (F := Ideal) x0 x1 x2 x3 x4) (fun i => (A.full (i 0) (i 2)).DQ (i 1) (i 3)) := by
  have gb : Entries (val_main_v125 (F := Ideal) x2) (fun i => A.X2 (i 3)) := fun i => (val_main_v125_apply x2 i).trans (g.qgain _)
  have u := g.dqn.mul gb
  have s : Entries (val_main_v130 (F := Ideal) x0 x1 x2 x3 x4) (fun i => ∑ l, (A.full (i 0) (i 2)).X (i 1) l * ((A.full (i 0) (i 2)).DQN (i 1) l * A.X2 l)) := fun i =>
    sumStep (val_main_v130_apply x0 x1 x2 x3 x4 i) word_zero fun d => (g.q.mul u) _
  have sc : Entries (val_main_v131 (F := Ideal) x0 x1 x2 x3 x4) (fun i => ∑ l, (A.full (i 0) (i 2)).X (i 1) l * ((A.full (i 0) (i 2)).DQN (i 1) l * A.X2 l)) := fun i => by
    rw [val_main_v131_apply]
    have e : idx_main_v131 i = ix3 (i 0) (i 1) (i 2) := by
      have h0 : (i 0).val < 2 := (i 0).isLt
      have h1 : (i 1).val < 2048 := (i 1).isLt
      have h2 : (i 2).val < 4 := (i 2).isLt
      have h3 : (i 3).val < 1 := (i 3).isLt
      funext a; apply Fin.ext
      match a with
      | ⟨0, _⟩ => show ((((i 0).val * 2048 + (i 1).val) * 4 + (i 2).val) * 1 + (i 3).val) / 8192 = (i 0).val; omega
      | ⟨1, _⟩ => show ((((i 0).val * 2048 + (i 1).val) * 4 + (i 2).val) * 1 + (i 3).val) / 4 % 2048 = (i 1).val; omega
      | ⟨2, _⟩ => show ((((i 0).val * 2048 + (i 1).val) * 4 + (i 2).val) * 1 + (i 3).val) % 4 = (i 2).val; omega
    rw [e]
    exact s _
  have n : Entries (val_main_v135 (F := Ideal)) (fun _ => 128) := fun i => (val_main_v135_apply i).trans word_128
  have rb : Entries (val_main_v132 (F := Ideal) x0) (fun i => Row.inv ((A.full (i 0) (i 2)).X (i 1))) := fun i =>
    (val_main_v132_apply x0 i).trans (g.qinv _)
  have t := (sc.mul g.qslope).div n fun _ => by norm_num
  have ts : Entries (val_main_v137 (F := Ideal) x0 x1 x2 x3 x4) (fun i => ∑ _u : Fin 1, (∑ l, (A.full (i 0) (i 2)).X (i 1) l * ((A.full (i 0) (i 2)).DQN (i 1) l * A.X2 l)) *
      (-(1 / 2) * (Row.inv ((A.full (i 0) (i 2)).X (i 1)) / ((∑ l, (A.full (i 0) (i 2)).X (i 1) l * (A.full (i 0) (i 2)).X (i 1) l) / 128 + Row.eps))) / 128) := fun i =>
    sumStep (val_main_v137_apply x0 x1 x2 x3 x4 i) word_zero fun d => t _
  have tb : Entries (val_main_v138 (F := Ideal) x0 x1 x2 x3 x4) (fun i => ∑ _u : Fin 1, (∑ l, (A.full (i 0) (i 2)).X (i 1) l * ((A.full (i 0) (i 2)).DQN (i 1) l * A.X2 l)) *
      (-(1 / 2) * (Row.inv ((A.full (i 0) (i 2)).X (i 1)) / ((∑ l, (A.full (i 0) (i 2)).X (i 1) l * (A.full (i 0) (i 2)).X (i 1) l) / 128 + Row.eps))) / 128) := fun i =>
    (val_main_v138_apply x0 x1 x2 x3 x4 i).trans (ts _)
  exact (((u.mul rb).add (g.q.mul tb)).add (tb.mul g.q)).of_eq fun i => Row.back_quot _ _ _ _
/-- The gradient of the queries' gain. -/
theorem gainq : Entries (val_main_v128 (F := Ideal) x0 x1 x2 x3 x4) (fun i => A.dqg (i 1)) := by
  have a : Entries (val_main_v123 (F := Ideal) x0 x1 x2 x3 x4) (fun i => A.dqg (i 0)) := fun i => by
    unfold val_main_v123
    refine (sumLeading (V := fun b r h d => (A.full b h).X r d * Row.inv ((A.full b h).X r) * (A.full b h).DQN r d) reducesTo_S2x2048x4x128_S128_d0_1_2
      (fun a b c d => (g.qunit.mul g.dqn) (ix4 a b c d)) i word_zero).trans (congrArg _ ?_)
    show _ = ∑ b, ∑ j, (A.full b j).GQ (i 0)
    refine Finset.sum_congr rfl fun b _ => ?_
    rw [Finset.sum_comm]
    refine Finset.sum_congr rfl fun h _ => ?_
    unfold RHead.GQ
    refine Finset.sum_congr rfl fun r _ => ?_
    ring
  have b : ∀ a b c d, val_main_v124 (F := Ideal) x0 x1 x2 x3 x4 (ix4 a b c d) = ((A.dqg d : ℝ) : EReal) := fun i j k d => by
    rw [val_main_v124_apply, a]
    refine congrArg (fun d => ((A.dqg d : ℝ) : EReal)) (Fin.ext ?_)
    show ((i.val * 1 + j.val) * 1 + k.val) * 128 + d.val = d.val
    omega
  have c : Entries (val_main_v127 (F := Ideal) x0 x1 x2 x3 x4) (fun i => A.dqg (i 0)) := fun i => by
    unfold val_main_v127
    refine (sumLeading (V := fun _ _ _ d => A.dqg d) reducesTo_S1x1x1x128_S128_d0_1_2 b i word_zero).trans (congrArg _ ?_)
    simp
  exact fun i => (val_main_v128_apply x0 x1 x2 x3 x4 i).trans (c _)

/-! ## The keys -/

/-- The gradient of the keys, head by head. -/
theorem dk : Entries (val_main_v117 (F := Ideal) x0 x1 x2 x3 x4) (fun i => (A.full (i 0) (i 2)).DK (i 1) (i 3)) := by
  have gb : Entries (val_main_v100 (F := Ideal) x3) (fun i => A.X3 (i 3)) := fun i => (val_main_v100_apply x3 i).trans (g.kgain _)
  have u := g.dkn.mul gb
  have s : Entries (val_main_v105 (F := Ideal) x0 x1 x2 x3 x4) (fun i => ∑ l, (A.full (i 0) (i 2)).Y (i 1) l * ((A.full (i 0) (i 2)).DKN (i 1) l * A.X3 l)) := fun i =>
    sumStep (val_main_v105_apply x0 x1 x2 x3 x4 i) word_zero fun d => (g.k.mul u) _
  have sc : Entries (val_main_v106 (F := Ideal) x0 x1 x2 x3 x4) (fun i => ∑ l, (A.full (i 0) (i 2)).Y (i 1) l * ((A.full (i 0) (i 2)).DKN (i 1) l * A.X3 l)) := fun i => by
    rw [val_main_v106_apply]
    have e : idx_main_v106 i = ix3 (i 0) (i 1) (i 2) := by
      have h0 : (i 0).val < 2 := (i 0).isLt
      have h1 : (i 1).val < 256 := (i 1).isLt
      have h2 : (i 2).val < 4 := (i 2).isLt
      have h3 : (i 3).val < 1 := (i 3).isLt
      funext a; apply Fin.ext
      match a with
      | ⟨0, _⟩ => show ((((i 0).val * 256 + (i 1).val) * 4 + (i 2).val) * 1 + (i 3).val) / 1024 = (i 0).val; omega
      | ⟨1, _⟩ => show ((((i 0).val * 256 + (i 1).val) * 4 + (i 2).val) * 1 + (i 3).val) / 4 % 256 = (i 1).val; omega
      | ⟨2, _⟩ => show ((((i 0).val * 256 + (i 1).val) * 4 + (i 2).val) * 1 + (i 3).val) % 4 = (i 2).val; omega
    rw [e]
    exact s _
  have n : Entries (val_main_v110 (F := Ideal)) (fun _ => 128) := fun i => (val_main_v110_apply i).trans word_128
  have rb : Entries (val_main_v107 (F := Ideal) x1) (fun i => Row.inv ((A.full (i 0) (i 2)).Y (i 1))) := fun i =>
    (val_main_v107_apply x1 i).trans (g.kinv _)
  have t := (sc.mul g.kslope).div n fun _ => by norm_num
  have ts : Entries (val_main_v112 (F := Ideal) x0 x1 x2 x3 x4) (fun i => ∑ _u : Fin 1, (∑ l, (A.full (i 0) (i 2)).Y (i 1) l * ((A.full (i 0) (i 2)).DKN (i 1) l * A.X3 l)) *
      (-(1 / 2) * (Row.inv ((A.full (i 0) (i 2)).Y (i 1)) / ((∑ l, (A.full (i 0) (i 2)).Y (i 1) l * (A.full (i 0) (i 2)).Y (i 1) l) / 128 + Row.eps))) / 128) := fun i =>
    sumStep (val_main_v112_apply x0 x1 x2 x3 x4 i) word_zero fun d => t _
  have tb : Entries (val_main_v113 (F := Ideal) x0 x1 x2 x3 x4) (fun i => ∑ _u : Fin 1, (∑ l, (A.full (i 0) (i 2)).Y (i 1) l * ((A.full (i 0) (i 2)).DKN (i 1) l * A.X3 l)) *
      (-(1 / 2) * (Row.inv ((A.full (i 0) (i 2)).Y (i 1)) / ((∑ l, (A.full (i 0) (i 2)).Y (i 1) l * (A.full (i 0) (i 2)).Y (i 1) l) / 128 + Row.eps))) / 128) := fun i =>
    (val_main_v113_apply x0 x1 x2 x3 x4 i).trans (ts _)
  exact (((u.mul rb).add (g.k.mul tb)).add (tb.mul g.k)).of_eq fun i => Row.back_quot _ _ _ _
/-- The gradient of the keys' gain. -/
theorem gaink : Entries (val_main_v103 (F := Ideal) x0 x1 x2 x3 x4) (fun i => A.dkg (i 1)) := by
  have a : Entries (val_main_v98 (F := Ideal) x0 x1 x2 x3 x4) (fun i => A.dkg (i 0)) := fun i => by
    unfold val_main_v98
    refine (sumLeading (V := fun b r h d => (A.full b h).Y r d * Row.inv ((A.full b h).Y r) * (A.full b h).DKN r d) reducesTo_S2x256x4x128_S128_d0_1_2
      (fun a b c d => (g.kunit.mul g.dkn) (ix4 a b c d)) i word_zero).trans (congrArg _ ?_)
    show _ = ∑ b, ∑ j, (A.full b j).GK (i 0)
    refine Finset.sum_congr rfl fun b _ => ?_
    rw [Finset.sum_comm]
    refine Finset.sum_congr rfl fun h _ => ?_
    unfold RHead.GK
    refine Finset.sum_congr rfl fun r _ => ?_
    ring
  have b : ∀ a b c d, val_main_v99 (F := Ideal) x0 x1 x2 x3 x4 (ix4 a b c d) = ((A.dkg d : ℝ) : EReal) := fun i j k d => by
    rw [val_main_v99_apply, a]
    refine congrArg (fun d => ((A.dkg d : ℝ) : EReal)) (Fin.ext ?_)
    show ((i.val * 1 + j.val) * 1 + k.val) * 128 + d.val = d.val
    omega
  have c : Entries (val_main_v102 (F := Ideal) x0 x1 x2 x3 x4) (fun i => A.dkg (i 0)) := fun i => by
    unfold val_main_v102
    refine (sumLeading (V := fun _ _ _ d => A.dkg d) reducesTo_S1x1x1x128_S128_d0_1_2 b i word_zero).trans (congrArg _ ?_)
    simp
  exact fun i => (val_main_v103_apply x0 x1 x2 x3 x4 i).trans (c _)

/-! ## The two arrays of gradients -/

theorem resq : Entries (val_main_v144 (F := Ideal) x0 x1 x2 x3 x4) (fun i => A.dq (i 0) (i 1)) := fun i => by
  show val_main_v143 (F := Ideal) x0 x1 x2 x3 x4 i = _
  rw [val_main_v143_apply, g.dq]
  have h0 : (i 0).val < 4096 := (i 0).isLt
  have h1 : (i 1).val < 512 := (i 1).isLt
  have e : idx_main_v143 i = ix4 (n0 := 2) (n1 := 2048) (n2 := 4) (n3 := 128) ⟨(i 0).val / 2048, by omega⟩ ⟨(i 0).val % 2048, by omega⟩
      (headOf (i 1)) (inHead (i 1)) := by
    funext a; apply Fin.ext
    match a with
    | ⟨0, _⟩ => show ((i 0).val * 512 + (i 1).val) / 1048576 = (i 0).val / 2048; omega
    | ⟨1, _⟩ => show ((i 0).val * 512 + (i 1).val) / 512 % 2048 = (i 0).val % 2048; omega
    | ⟨2, _⟩ => show ((i 0).val * 512 + (i 1).val) / 128 % 4 = (i 1).val / 128; omega
    | ⟨3, _⟩ => show ((i 0).val * 512 + (i 1).val) % 128 = (i 1).val % 128; omega
  rw [e]
  rfl
theorem padv (b : Fin 2) (r : Fin 256) (c : Fin 1024) : val_main_v96 (F := Ideal) x0 x1 x2 x3 x4 (ix3 b r c)
    = (((if c.val < 512 then 0 else (A.full b (kvHead c)).DV r (inHead c)) : ℝ) : EReal) := by
  unfold val_main_v96
  have hb := b.isLt
  have hr := r.isLt
  have hc := c.isLt
  by_cases h : c.val < 512
  · rw [if_pos h]
    exact (pad_apply_of_not_inside _ _ _ _ _ _ _ (ix3 b r c) 2 (fun e => absurd e.1 (by show ¬ 512 ≤ c.val; omega))).trans word_zero
  · rw [if_neg h]
    refine (pad_apply_of_inside _ _ _ _ _ _ _ (ix3 b r c) (ix3 b r (⟨c.val - 512, by omega⟩ : Fin 512)) fun a => ?_).trans ?_
    · match a with
      | ⟨0, _⟩ => show b.val = 0 + b.val * (0 + 1); omega
      | ⟨1, _⟩ => show r.val = 0 + r.val * (0 + 1); omega
      | ⟨2, _⟩ => show c.val = 512 + (c.val - 512) * (0 + 1); omega
    · rw [val_main_v95_apply]
      have e : idx_main_v95 (ix3 b r (⟨c.val - 512, by omega⟩ : Fin 512)) = ix4 b r (kvHead c) (inHead c) := by
        funext a; apply Fin.ext
        match a with
        | ⟨0, _⟩ => show ((b.val * 256 + r.val) * 512 + (c.val - 512)) / 131072 = b.val; omega
        | ⟨1, _⟩ => show ((b.val * 256 + r.val) * 512 + (c.val - 512)) / 512 % 256 = r.val; omega
        | ⟨2, _⟩ => show ((b.val * 256 + r.val) * 512 + (c.val - 512)) / 128 % 4 = c.val % 512 / 128; omega
        | ⟨3, _⟩ => show ((b.val * 256 + r.val) * 512 + (c.val - 512)) % 128 = c.val % 128; omega
      rw [e]
      exact g.dv _
theorem padk (b : Fin 2) (r : Fin 256) (c : Fin 1024) : val_main_v119 (F := Ideal) x0 x1 x2 x3 x4 (ix3 b r c)
    = (((if c.val < 512 then (A.full b (kvHead c)).DK r (inHead c) else 0) : ℝ) : EReal) := by
  unfold val_main_v119
  have hb := b.isLt
  have hr := r.isLt
  have hc := c.isLt
  by_cases h : c.val < 512
  · rw [if_pos h]
    refine (pad_apply_of_inside _ _ _ _ _ _ _ (ix3 b r c) (ix3 b r (⟨c.val, h⟩ : Fin 512)) fun a => ?_).trans ?_
    · match a with
      | ⟨0, _⟩ => show b.val = 0 + b.val * (0 + 1); omega
      | ⟨1, _⟩ => show r.val = 0 + r.val * (0 + 1); omega
      | ⟨2, _⟩ => show c.val = 0 + c.val * (0 + 1); omega
    · rw [val_main_v118_apply]
      have e : idx_main_v118 (ix3 b r (⟨c.val, h⟩ : Fin 512)) = ix4 b r (kvHead c) (inHead c) := by
        funext a; apply Fin.ext
        match a with
        | ⟨0, _⟩ => show ((b.val * 256 + r.val) * 512 + c.val) / 131072 = b.val; omega
        | ⟨1, _⟩ => show ((b.val * 256 + r.val) * 512 + c.val) / 512 % 256 = r.val; omega
        | ⟨2, _⟩ => show ((b.val * 256 + r.val) * 512 + c.val) / 128 % 4 = c.val % 512 / 128; omega
        | ⟨3, _⟩ => show ((b.val * 256 + r.val) * 512 + c.val) % 128 = c.val % 128; omega
      rw [e]
      exact g.dk _
  · rw [if_neg h]
    refine (pad_apply_of_not_inside _ _ _ _ _ _ _ (ix3 b r c) 2 (fun e => absurd e.2.2 ?_)).trans word_zero
    show ¬ (c.val - 0) / (0 + 1) < 512
    omega
theorem reskv : Entries (val_main_v121 (F := Ideal) x0 x1 x2 x3 x4) (fun i => A.dkv (i 0) (i 1)) := fun i => by
  rw [val_main_v121_apply]
  have h0 : (i 0).val < 512 := (i 0).isLt
  have h1 : (i 1).val < 1024 := (i 1).isLt
  have e : idx_main_v121 i = ix3 (n0 := 2) (n1 := 256) (n2 := 1024) ⟨(i 0).val / 256, by omega⟩ ⟨(i 0).val % 256, by omega⟩ (i 1) := by
    funext a; apply Fin.ext
    match a with
    | ⟨0, _⟩ => show ((i 0).val * 1024 + (i 1).val) / 262144 = (i 0).val / 256; omega
    | ⟨1, _⟩ => show ((i 0).val * 1024 + (i 1).val) / 1024 % 256 = (i 0).val % 256; omega
    | ⟨2, _⟩ => show ((i 0).val * 1024 + (i 1).val) % 1024 = (i 1).val; omega
  rw [e, val_main_v120_apply]
  refine (congrArg₂ (· + ·) (g.padv _ _ (i 1)) (g.padk _ _ (i 1))).trans ?_
  show ((_ : ℝ) : EReal) + ((_ : ℝ) : EReal) = ((kvGrad _ _ (i 1) : ℝ) : EReal)
  rw [← EReal.coe_add]
  refine congrArg _ ?_
  unfold kvGrad
  split <;> simp
end Given
end Cert.XAttn
-- ==== Proof.Finite.lean ====
/- What the precondition says: every entry of every argument is a real number. -/
module

public import proofs.«01_k».proof.Proof.KernelValue
public import proofs.«01_k».proof.Defs
public import proofs.«01_k».proof.Proof.Gen.Pre_finite_args
public import Idealize.ShloMosaic.PureOps.Reduce
public import Idealize.ShloMosaic.Lib.StableHlo.Predicate

set_option maxRecDepth 16384

@[expose] public noncomputable section

namespace Cert.XAttn

open Idealize.ShloMosaic Idealize.ShloMosaic.ValueIdx
open Cert.Pre_finite_args Cert.Pre_finite_args.Facts

theorem andi_one {a b : BitVec 1} (h : IntOp.andi a b = 1#1) : a = 1#1 ∧ b = 1#1 := by
  revert a b; decide

/-- A conjunction over a whole array is true only where every entry is. -/
theorem all_of_reduce {s t : Shape} {axes : List (Fin s.rank)} {u : Shape} (x : IVec s 1) (v : IVec u 1) (h : s.ReducesTo axes t) (hu : 0 < u.numel)
    (j : t.Idx) (e : Host.reduce IntOp.andi x v h hu j = 1#1) (i : s.Idx) (hi : h.drop i = j) : x i = 1#1 := by
  rw [Host.reduce_eq_fold] at e
  have key : ∀ S : Finset s.Idx, S.fold IntOp.andi (v (Shape.Idx.first hu)) x = 1#1 → ∀ i ∈ S, x i = 1#1 := by
    classical
    intro S
    induction S using Finset.induction_on with
    | empty => intro _ i hi; exact absurd hi (Finset.notMem_empty i)
    | insert a S ha ih =>
      intro hS i hi
      rw [Finset.fold_insert ha] at hS
      rcases Finset.mem_insert.mp hi with rfl | hi
      · exact (andi_one hS).1
      · exact ih (andi_one hS).2 i hi
  exact key _ e i (Finset.mem_filter.mpr ⟨Finset.mem_univ _, hi⟩)

/-- A number whose absolute value is below infinity is real. -/
theorem real_of_lt (x : EReal) (h : Ideal.cmp .olt (max x (-x)) (Ideal.ofBits .f32 0x7F800000#32) = 1#1) :
    x = ((x.toReal : ℝ) : EReal) := by
  have w : Ideal.ofBits .f32 0x7F800000#32 = ⊤ := by simp [Ideal.ofBits, Ideal.ieee]
  rw [w] at h
  have l : max x (-x) < ⊤ := of_decide_eq_true ((StableHlo.Predicate.ofBool_eq_one_iff _).mp h)
  refine (EReal.coe_toReal ?_ ?_).symm
  · rintro rfl
    exact absurd (lt_of_le_of_lt (le_max_left _ _) l) (lt_irrefl _)
  · rintro rfl
    exact absurd (lt_of_le_of_lt (le_max_right _ _) l) (by simp)

/-- A whole array whose entries' absolute values are all below infinity has real entries. -/
theorem real_of_all {n k : Nat} (x : FVec Ideal ⟨2, ![n, k]⟩ .f32) (hb : S_.BroadcastsInDim ⟨2, ![n, k]⟩ ![])
    (h : (⟨2, ![n, k]⟩ : Shape).ReducesTo [0, 1] S_) (hu : 0 < S_.numel)
    (e : Host.reduce IntOp.andi (cmpf .olt (Host.absf x) (broadcastInDim ⟨2, ![n, k]⟩ ![] hb (constant (F := Ideal) S_ .f32 0x7F800000#32)))
      (constantI S_ 1 1#1) h hu ix0 = 1#1) : Holds (n := n) (k := k) x (fun i j => (x (ix2 i j)).toReal) := fun i j =>
  real_of_lt _ (all_of_reduce _ _ h hu ix0 e (ix2 i j) (funext fun a => a.elim0))

variable (m : (ℓ : Loc KernelIdeal.nD KernelIdeal.τ KernelIdeal.sig) → Buf (Elt Ideal) ℓ) (c : Dev KernelIdeal.nD)

/-- The arguments as real numbers. -/
def args : RArgs where
  X0 i j := ((m ((c.tc : Thread KernelIdeal.nD KernelIdeal.τ).loc KernelIdeal.main_arg0) : FVec Ideal S4096x512 .f32) (ix2 i j)).toReal
  X1 i j := ((m ((c.tc : Thread KernelIdeal.nD KernelIdeal.τ).loc KernelIdeal.main_arg1) : FVec Ideal S512x1024 .f32) (ix2 i j)).toReal
  X2 j := ((m ((c.tc : Thread KernelIdeal.nD KernelIdeal.τ).loc KernelIdeal.main_arg2) : FVec Ideal S1x128 .f32) (ix2 0 j)).toReal
  X3 j := ((m ((c.tc : Thread KernelIdeal.nD KernelIdeal.τ).loc KernelIdeal.main_arg3) : FVec Ideal S1x128 .f32) (ix2 0 j)).toReal
  X4 i j := ((m ((c.tc : Thread KernelIdeal.nD KernelIdeal.τ).loc KernelIdeal.main_arg4) : FVec Ideal S4096x512 .f32) (ix2 i j)).toReal

theorem holds_row {k : Nat} {x : FVec Ideal ⟨2, ![1, k]⟩ .f32} (h : Holds (n := 1) (k := k) x (fun i j => (x (ix2 i j)).toReal)) :
    Holds (n := 1) (k := k) x (fun _ j => (x (ix2 0 j)).toReal) := fun i j => by
  rw [Subsingleton.elim i 0]
  exact h 0 j

/-- Under the precondition the arguments hold their real numbers. -/
theorem holdsArgs (h : Cert.Pre_KernelIdeal_finite_args (hPre_finite_args := Cert.Pre_finite_args.Gen.facts) m) : HoldsArgs m c (args m c) := by
  have e := congrFun (h c) ix0
  unfold Cert.Pre_finite_args.fn Cert.Pre_finite_args.fn_part1 at e
  obtain ⟨e, e4⟩ := andi_one e
  obtain ⟨e, e3⟩ := andi_one e
  obtain ⟨e, e2⟩ := andi_one e
  obtain ⟨e0, e1⟩ := andi_one e
  exact ⟨real_of_all _ _ _ _ e0, real_of_all _ _ _ _ e1, holds_row (real_of_all _ _ _ _ e2), holds_row (real_of_all _ _ _ _ e3), real_of_all _ _ _ _ e4⟩
end Cert.XAttn
-- ==== Proof.Claims.lean ====
/- The two programs end with equal results. -/
module

public import proofs.«01_k».proof.Proof.RefGrads
public import proofs.«01_k».proof.Proof.Finite
public import proofs.«01_k».proof.Proof.Gen.KernelIdeal.Value
public import proofs.«01_k».proof.Proof.Gen.ReferenceIdeal.Run

set_option maxRecDepth 16384

@[expose] public noncomputable section

namespace Cert.XAttn

open Idealize.ShloMosaic Idealize.ShloMosaic.ValueIdx Idealize.SL.Sem

/-- The reference's run with its results as real numbers. -/
theorem reference_run (m' : (ℓ : Loc ReferenceIdeal.nD ReferenceIdeal.τ ReferenceIdeal.sig) → Buf (Elt Ideal) ℓ) (ρ' : Dev ReferenceIdeal.nD → PrngReg)
    (A : Dev ReferenceIdeal.nD → RArgs)
    (g : ∀ c : Dev ReferenceIdeal.nD, Given (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3))
      (m' ((c.tc : Thread ReferenceIdeal.nD ReferenceIdeal.τ).loc ReferenceIdeal.main_arg4)) (A c)) :
    θ_run (ReferenceIdeal.defs (F := Ideal)) (onTc (τ := ReferenceIdeal.τ) (ReferenceIdeal.main (F := Ideal))) ⟨m', fun _ => 0, ρ'⟩ fun r => ∀ c : Dev ReferenceIdeal.nD,
      r.2.mem ((c.tc : Thread ReferenceIdeal.nD ReferenceIdeal.τ).loc ReferenceIdeal.main_v144) = real2 (A c).dq
      ∧ r.2.mem ((c.tc : Thread ReferenceIdeal.nD ReferenceIdeal.τ).loc ReferenceIdeal.main_v121) = real2 (A c).dkv
      ∧ r.2.mem ((c.tc : Thread ReferenceIdeal.nD ReferenceIdeal.τ).loc ReferenceIdeal.main_v128) = real2 (n := 1) (fun _ => (A c).dqg)
      ∧ r.2.mem ((c.tc : Thread ReferenceIdeal.nD ReferenceIdeal.τ).loc ReferenceIdeal.main_v103) = real2 (n := 1) (fun _ => (A c).dkg)
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4) :=
  (θ_run _ _ _).mono (fun _ h c =>
    ⟨(h c).1.trans ((ReferenceIdeal.Read.val_main_v144_eq _).trans (funext (g c).resq)),
      (h c).2.1.trans ((ReferenceIdeal.Read.val_main_v121_eq _).trans (funext (g c).reskv)),
      (h c).2.2.1.trans ((ReferenceIdeal.Read.val_main_v128_eq _).trans (funext (g c).gainq)),
      (h c).2.2.2.1.trans ((ReferenceIdeal.Read.val_main_v103_eq _).trans (funext (g c).gaink)), (h c).2.2.2.2⟩)
    (ReferenceIdeal.Value.run m' ρ')

/-- The kernel's run with its results as real numbers. -/
theorem kernel_run (m : (ℓ : Loc KernelIdeal.nD KernelIdeal.τ KernelIdeal.sig) → Buf (Elt Ideal) ℓ) (ρ : Dev KernelIdeal.nD → PrngReg)
    (A : Dev KernelIdeal.nD → RArgs) (g : ∀ c : Dev KernelIdeal.nD, HoldsArgs m c (A c)) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v0_0) = real2 (A c).dq
      ∧ r.2.mem ((c.tc : Thread KernelIdeal.nD KernelIdeal.τ).loc KernelIdeal.main_v0_1) = real2 (A c).dkv
      ∧ r.2.mem ((c.tc : Thread KernelIdeal.nD KernelIdeal.τ).loc KernelIdeal.main_v0_2) = real2 (n := 1) (fun _ => (A c).dqg)
      ∧ r.2.mem ((c.tc : Thread KernelIdeal.nD KernelIdeal.τ).loc KernelIdeal.main_v0_3) = real2 (n := 1) (fun _ => (A c).dkg)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4) :=
  (θ_run _ _ _).mono (fun _ h c =>
    ⟨(h c).1.trans (final5 m c (g c)), (h c).2.1.trans (final6 m c (g c)), (h c).2.2.1.trans (final7 m c (g c)),
      (h c).2.2.2.1.trans (final8 m c (g c)), (h c).2.2.2.2⟩)
    (KernelIdeal.Value.run_blocks m ρ)
end Cert.XAttn
-- ==== Proof.Products.lean ====
/-
Products of two matrices read at one place, over extended real numbers.
-/
module

public import proofs.«01_k».proof.Proof.Vocab
public import Idealize.ShloMosaic.Lib.Pipeline.Value
public import Idealize.ShloMosaic.Lib.Pipeline.ValueKit.Acc

set_option maxRecDepth 16384

@[expose] public noncomputable section

namespace Cert.Products

open Idealize.ShloMosaic Idealize.ShloMosaic.ValueIdx

/-- Two places of an array of two axes agree when their coordinates do. -/
theorem ix2_of {n k : Nat} {x : (⟨2, ![n, k]⟩ : Shape).Idx} {i : Fin n} {j : Fin k} (h0 : (x 0).val = i.val) (h1 : (x 1).val = j.val) :
    x = ix2 i j := by
  funext a
  apply Fin.ext
  match a with
  | ⟨0, _⟩ => exact h0
  | ⟨1, _⟩ => exact h1

/-- Two places of an array of three axes agree when their coordinates do. -/
theorem ix3_of {n k l : Nat} {x : (⟨3, ![n, k, l]⟩ : Shape).Idx} {i : Fin n} {j : Fin k} {p : Fin l} (h0 : (x 0).val = i.val)
    (h1 : (x 1).val = j.val) (h2 : (x 2).val = p.val) : x = ix3 i j p := by
  funext a
  apply Fin.ext
  match a with
  | ⟨0, _⟩ => exact h0
  | ⟨1, _⟩ => exact h1
  | ⟨2, _⟩ => exact h2

/-- The product of two extended real numbers, however their types are spelt. -/
abbrev times (x y : EReal) : EReal := x * y

theorem two_axes : (![0, 0] : Fin 2 → Nat) = fun _ => 0 := by
  funext a; fin_cases a <;> rfl
theorem three_axes : (![0, 0, 0] : Fin 3 → Nat) = fun _ => 0 := by
  funext a; fin_cases a <;> rfl

theorem word_two : Ideal.ofBits .f32 0x40000000#32 = (2 : EReal) := by
  simp [Ideal.ofBits, Ideal.ieee, -EReal.coe_mul]; norm_num; rfl

/-- The sum of two numbers. -/
def plus (a b : EReal) : EReal := a + b

/-- A number kept from point to point, to which every `K`-th point adds its term (the first of them starts it), is the sum of the terms so far. -/
theorem sum_of_flushes {N : Nat} (K : Nat) (hK : 0 < K) (f : ∀ n, n < N → EReal) (p : Nat → EReal)
    (idle : ∀ n (h : n < N), ¬K ∣ n + 1 → f n h = f (n - 1) (Nat.lt_of_le_of_lt (Nat.sub_le _ _) h))
    (start : ∀ n (h : n < N), n + 1 = K → f n h = p 0)
    (step : ∀ n (h : n < N), K ∣ n + 1 → K < n + 1 → f n h = plus (f (n - 1) (Nat.lt_of_le_of_lt (Nat.sub_le _ _) h)) (p (n / K))) :
    ∀ n (h : n < N), K ≤ n + 1 → f n h = ∑ s ∈ Finset.range ((n + 1) / K), p s := by
  intro n
  induction n with
  | zero =>
    intro h hk
    have e : K = 1 := by omega
    subst e
    rw [start 0 h rfl]
    simp
  | succ n ih =>
    intro h hk
    by_cases hd : K ∣ n + 1 + 1
    · by_cases he : n + 1 + 1 = K
      · rw [start _ h he, he, Nat.div_self hK]
        simp
      · rw [step (n + 1) h hd (by omega), Nat.succ_div_of_dvd hd, Finset.sum_range_succ]
        exact congrArg (plus · _) (ih (by omega) (by omega))
    · rw [idle (n + 1) h hd, Nat.succ_div_of_not_dvd hd]
      refine ih (by omega) ?_
      rcases Nat.lt_or_ge (n + 1) K with h' | h'
      · exact absurd (show K ∣ n + 1 + 1 from ⟨1, by omega⟩) hd
      · exact h'

/-- The row of the whole that is row `r` of stripe `s`. -/
def stripe (s : Nat) (r : Fin 1024) : Fin 4096 := ⟨s % 4 * 1024 + r.val, by omega⟩

/-- A sum over the rows is the sum over the four stripes. -/
theorem sum_of_stripes (f : Fin 4096 → EReal) : ∑ s ∈ Finset.range 4, ∑ r : Fin 1024, f (stripe s r) = ∑ i : Fin 4096, f i := by
  rw [Finset.sum_range]
  exact Fin.sum_mul_add_congr fun s k hl => congrArg f (Fin.ext (by show s.val % 4 * 1024 + k.val = s.val * 1024 + k.val; omega))

/-- The product of two matrices; with the right one transposed; with the left one transposed. -/
def nn {n k l : Nat} (X : (⟨2, ![n, k]⟩ : Shape).Idx → EReal) (Y : (⟨2, ![k, l]⟩ : Shape).Idx → EReal) : (⟨2, ![n, l]⟩ : Shape).Idx → EReal :=
  fun i => ∑ d : Fin k, X (ix2 (i 0) d) * Y (ix2 d (i 1))
def nt {n k l : Nat} (X : (⟨2, ![n, k]⟩ : Shape).Idx → EReal) (Y : (⟨2, ![l, k]⟩ : Shape).Idx → EReal) : (⟨2, ![n, l]⟩ : Shape).Idx → EReal :=
  fun i => ∑ d : Fin k, X (ix2 (i 0) d) * Y (ix2 (i 1) d)
def tn {n k l : Nat} (X : (⟨2, ![k, n]⟩ : Shape).Idx → EReal) (Y : (⟨2, ![k, l]⟩ : Shape).Idx → EReal) : (⟨2, ![n, l]⟩ : Shape).Idx → EReal :=
  fun i => ∑ d : Fin k, X (ix2 d (i 0)) * Y (ix2 d (i 1))

theorem nn_apply {n k l : Nat} (X : (⟨2, ![n, k]⟩ : Shape).Idx → EReal) (Y : (⟨2, ![k, l]⟩ : Shape).Idx → EReal) (i : Fin n) (j : Fin l) :
    nn X Y (ix2 i j) = ∑ d : Fin k, X (ix2 i d) * Y (ix2 d j) := rfl

theorem nt_apply {n k l : Nat} (X : (⟨2, ![n, k]⟩ : Shape).Idx → EReal) (Y : (⟨2, ![l, k]⟩ : Shape).Idx → EReal) (i : Fin n) (j : Fin l) :
    nt X Y (ix2 i j) = ∑ d : Fin k, X (ix2 i d) * Y (ix2 j d) := rfl

theorem tn_apply {n k l : Nat} (X : (⟨2, ![k, n]⟩ : Shape).Idx → EReal) (Y : (⟨2, ![k, l]⟩ : Shape).Idx → EReal) (i : Fin n) (j : Fin l) :
    tn X Y (ix2 i j) = ∑ d : Fin k, X (ix2 d i) * Y (ix2 d j) := rfl

/-- Rows of the left factor with rows of the right one. -/
theorem dotNT_apply {n m k : Nat} {φ₁ φ₂ : FTy} (prec : Option ContractPrecision) (x : FVec Ideal ⟨2, ![n, k]⟩ φ₁) (y : FVec Ideal ⟨2, ![m, k]⟩ φ₂)
    (i : Fin n) (j : Fin m) :
    matmul (DotDims.transposedRhs n k m) prec x y (constant (F := Ideal) ⟨2, ![n, m]⟩ .f32 0x00000000#32) (ix2 i j)
      = ∑ d : Fin k, x (ix2 i d) * y (ix2 j d) := by
  simp only [matmul]
  rw [Ideal.matmul_transposedRhs_apply]
  show Ideal.ofBits .f32 0x00000000#32 + _ = _
  rw [Ideal.ofBits_zero_f32, zero_add]

/-- Rows of the left factor with columns of the right one. -/
theorem dotNN_apply {n m k : Nat} {φ₁ φ₂ : FTy} (prec : Option ContractPrecision) (x : FVec Ideal ⟨2, ![n, k]⟩ φ₁) (y : FVec Ideal ⟨2, ![k, m]⟩ φ₂)
    (i : Fin n) (j : Fin m) :
    matmul (DotDims.plain n k m) prec x y (constant (F := Ideal) ⟨2, ![n, m]⟩ .f32 0x00000000#32) (ix2 i j)
      = ∑ d : Fin k, x (ix2 i d) * y (ix2 d j) := by
  simp only [matmul]
  rw [Ideal.matmul_plain_apply]
  show Ideal.ofBits .f32 0x00000000#32 + _ = _
  rw [Ideal.ofBits_zero_f32, zero_add]

/-- Columns of the left factor with columns of the right one. -/
theorem dotTN_apply {n m k : Nat} {φ₁ φ₂ : FTy} (prec : Option ContractPrecision) (x : FVec Ideal ⟨2, ![k, n]⟩ φ₁) (y : FVec Ideal ⟨2, ![k, m]⟩ φ₂)
    (i : Fin n) (j : Fin m) :
    matmul (XAttn.dimsTN n k m) prec x y (constant (F := Ideal) ⟨2, ![n, m]⟩ .f32 0x00000000#32) (ix2 i j)
      = ∑ d : Fin k, x (ix2 d i) * y (ix2 d j) := by
  simp only [matmul]
  have hr : (XAttn.dimsTN n k m).contr.rank = 1 := rfl
  have hs : (XAttn.dimsTN n k m).contr.size ⟨0, by omega⟩ = k := rfl
  rw [Ideal.matmul_constant_zero_apply, ← Equiv.sum_comp (contrEquiv1 _ k hr hs).symm]
  refine Finset.sum_congr rfl fun d _ => ?_
  have hk := contrEquiv1_symm_val _ k hr hs d
  exact congrArg₂ (fun u v => x u * y v) (ix2_of hk rfl) (ix2_of hk rfl)

end Cert.Products
-- ==== Proof.Up.lean ====
/-
The activations of the feed-forward layer and their squares: what the kernel and the reference leave, place by place.
-/
module

public import proofs.«01_k».proof.Proof.Products
public import proofs.«01_k».proof.Proof.Gen.UpIdeal.Value
public import proofs.«01_k».proof.Proof.Gen.UpRefIdeal.Read
public import proofs.«01_k».proof.Proof.Gen.UpRefIdeal.Run
public import proofs.«01_k».proof.Defs
public import Idealize.ShloMosaic.Lib.ValueLayout
public import Idealize.ShloMosaic.Lib.Quiescent

set_option maxRecDepth 16384

@[expose] public noncomputable section

namespace Cert.Products.Up

open Idealize.ShloMosaic Idealize.ShloMosaic.ValueIdx Idealize.ShloMosaic.TcCoe Idealize.SL.Sem
open Cert.UpIdeal Cert.UpIdeal.Gen

variable (m : (ℓ : Loc nD τ sig) → Buf (Elt Ideal) ℓ) (c : Dev nD)

/-- The slab a column of the whole matrix lies in, and its place there. -/
def slab (f : Fin 4096) : Fin 4 := ⟨f.val / 1024, by omega⟩
def within (f : Fin 4096) : Fin 1024 := ⟨f.val % 1024, by omega⟩

/-- The activations: the positive part of the product with the first weight matrix. -/
def act (H : S4096x1024.Idx → EReal) (U : S4x1024x1024.Idx → EReal) : S4096x4096.Idx → EReal :=
  fun i => max (∑ d : Fin 1024, H (ix2 (i 0) d) * U (ix3 (slab (i 1)) d (within (i 1)))) 0
/-- Their squares. -/
def act2 (H : S4096x1024.Idx → EReal) (U : S4x1024x1024.Idx → EReal) : S4096x4096.Idx → EReal :=
  fun i => act H U i * act H U i

/-- Where the windows stand at a point. -/
theorem at_point (t : Fin cfg0.N) :
    (win0_0.index t 0 = t.val / 4 ∧ win0_0.index t 1 = 0) ∧ (win0_1.index t 0 = t.val % 4 ∧ win0_1.index t 1 = 0 ∧ win0_1.index t 2 = 0) ∧ (win0_2.index t 0 = t.val / 4 ∧ win0_2.index t 1 = t.val % 4) ∧ (win0_3.index t 0 = t.val / 4 ∧ win0_3.index t 1 = t.val % 4) ∧ t.val < 8 := by
  rcases fin_N0 t with rfl | rfl | rfl | rfl | rfl | rfl | rfl | rfl <;> decide +kernel

/-- A place of the input's block. -/
theorem input_block (t : Fin cfg0.N) (r : Fin 2048) (k : Fin 1024) (sr : Fin 4096) (hsr : sr.val = 2048 * (t.val / 4) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 2048 + 1 * r.val = sr.val; rw [e.1, hsr]; omega
  · show win0_0.index t 1 * 1024 + 1 * k.val = k.val; rw [e.2]; omega

/-- A place of the weights' block. -/
theorem weight_block (t : Fin cfg0.N) (r : Fin 1) (k : Fin 1024) (l : Fin 1024) (sr : Fin 4) (hsr : sr.val = 1 * (t.val % 4) + r.val) :
    iblk m c 1 t (ix3 r k l) = V m c main_arg1 (ix3 sr k l) := by
  have e := (at_point t).2.1
  unfold iblk
  rw [View.read_apply]
  refine congrArg (V m c main_arg1) (ix3_of ?_ ?_ ?_)
  · show win0_1.index t 0 * 1 + 1 * r.val = sr.val; rw [e.1, hsr]; omega
  · show win0_1.index t 1 * 1024 + 1 * k.val = k.val; rw [e.2.1]; omega
  · show win0_1.index t 2 * 1024 + 1 * l.val = l.val; rw [e.2.2]; omega

/-- Where a place of the block lies in the result. -/
theorem out_place2 (t : Fin cfg0.N) (r : Fin 2048) (k : Fin 1024) (sr : Fin 4096) (hsr : sr.val = 2048 * (t.val / 4) + r.val) (sk : Fin 4096) (hsk : sk.val = 1024 * (t.val % 4) + k.val) :
    ((cfg0.win 2).blk t).view.emb (ix2 r k) = (ix2 sr sk : (⟨2, ![4096, 4096]⟩ : Shape).Idx) := by
  have e := (at_point t).2.2.1
  refine ix2_of ?_ ?_
  · show win0_2.index t 0 * 2048 + 1 * r.val = sr.val; rw [e.1, hsr]; omega
  · show win0_2.index t 1 * 1024 + 1 * k.val = sk.val; rw [e.2, hsk]; omega

/-- Where a place of the block lies in the result. -/
theorem out_place3 (t : Fin cfg0.N) (r : Fin 2048) (k : Fin 1024) (sr : Fin 4096) (hsr : sr.val = 2048 * (t.val / 4) + r.val) (sk : Fin 4096) (hsk : sk.val = 1024 * (t.val % 4) + k.val) :
    ((cfg0.win 3).blk t).view.emb (ix2 r k) = (ix2 sr sk : (⟨2, ![4096, 4096]⟩ : Shape).Idx) := by
  have e := (at_point t).2.2.2.1
  refine ix2_of ?_ ?_
  · show win0_3.index t 0 * 2048 + 1 * r.val = sr.val; rw [e.1, hsr]; omega
  · show win0_3.index t 1 * 1024 + 1 * k.val = sk.val; rw [e.2, hsk]; omega

/-- The body's product and its positive part. -/
theorem pay_at (x : Vec Ideal S2048x1024 .bf16) (y : Vec Ideal S1x1024x1024 .bf16) (i : Fin 2048) (j : Fin 1024) :
    k0_pay1 x y (ix2 i j) = max (∑ d : Fin 1024, (x (ix2 i d) : EReal) * y (ix3 0 d j)) 0 := by
  unfold k0_pay1
  refine congrArg₂ (fun u v : EReal => max u v) ((dotNN_apply none x _ i j).trans (Finset.sum_congr rfl fun d _ => ?_)) Ideal.ofBits_zero_f32
  exact congrArg (x (ix2 i d) * ·) (shapeCast_1ab_ab_apply _ _ _ _)

theorem out2_at (x : Vec Ideal S2048x1024 .bf16) (y : Vec Ideal S1x1024x1024 .bf16) (i : Fin 2048) (j : Fin 1024) :
    (out0_2 x y (ix2 i j) : EReal) = max (∑ d : Fin 1024, (x (ix2 i d) : EReal) * y (ix3 0 d j)) 0 := by
  unfold out0_2
  rw [View.canon_unit_zero two_axes, View.ld_unit_zero two_axes, View.ld_unit_zero three_axes]
  exact pay_at x y i j
theorem out3_at (x : Vec Ideal S2048x1024 .bf16) (y : Vec Ideal S1x1024x1024 .bf16) (i : Fin 2048) (j : Fin 1024) :
    (out0_3 x y (ix2 i j) : EReal) = max (∑ d : Fin 1024, (x (ix2 i d) : EReal) * y (ix3 0 d j)) 0 * max (∑ d : Fin 1024, (x (ix2 i d) : EReal) * y (ix3 0 d j)) 0 := by
  unfold out0_3
  rw [View.canon_unit_zero two_axes, View.ld_unit_zero two_axes, View.ld_unit_zero three_axes]
  exact congrArg (fun u : EReal => u * u) (pay_at x y i j)

/-- The product of the blocks of a point. -/
theorem at_blocks (t : Fin cfg0.N) (r : Fin 2048) (k : Fin 1024) (s : Fin 4096) (hs : s.val = 2048 * (t.val / 4) + r.val)
    (f : Fin 4096) (hf : f.val = 1024 * (t.val % 4) + k.val) :
    max (∑ d : Fin 1024, times (iblk m c 0 t (ix2 r d)) (iblk m c 1 t (ix3 0 d k))) 0
      = act (m ((c : Thread nD τ).loc main_arg0)) (m ((c : Thread nD τ).loc main_arg1)) (ix2 s f) := by
  refine congrArg (fun u : EReal => max u 0) (Finset.sum_congr rfl fun d _ => ?_)
  rw [input_block m c t r d s hs, weight_block m c t 0 d k (slab f) (by show f.val / 1024 = 1 * (t.val % 4) + 0; omega)]
  exact congrArg (fun u => times (V m c main_arg0 (ix2 s d)) (V m c main_arg1 (ix3 (slab f) d u))) (Fin.ext (by show k.val = f.val % 1024; omega))

/-- The activations after the run. -/
theorem final2 : (dats m 0 c).arrAt 2 cfg0.N
    = act (m ((c : Thread nD τ).loc main_arg0)) (m ((c : Thread nD τ).loc main_arg1)) := by
  refine (dats m 0 c).arrAt_eq_of_cover 2 (act _ _) (fun t _ => ?_) fun i => ?_
  · rw [Value.flushed2]
    have ht := (at_point t).2.2.2.2
    funext x
    obtain ⟨r, k, rfl⟩ : ∃ (r : Fin 2048) (k : Fin 1024), x = ix2 r k := ⟨x 0, x 1, eq_ix2 x⟩
    have hr : 2048 * (t.val / 4) + r.val < 4096 := by have := r.isLt; omega
    have hk : 1024 * (t.val % 4) + k.val < 4096 := by have := k.isLt; omega
    rw [View.read_apply, out_place2 t r k ⟨_, hr⟩ rfl ⟨_, hk⟩ rfl]
    refine (out2_at _ _ r k).trans ?_
    exact at_blocks m c t r k ⟨_, hr⟩ rfl ⟨_, hk⟩ rfl
  · have h0 : (i 0).val < 4096 := idx2_lt0 (n0 := 4096) (n1 := 4096) i
    have h1 : (i 1).val < 4096 := idx2_lt1 (n0 := 4096) (n1 := 4096) i
    have hN : cfg0.N = 8 := N_0
    refine ⟨⟨4 * ((i 0).val / 2048) + (i 1).val / 1024, by omega⟩, flush0_2 _, ?_⟩
    exact Finset.mem_map.mpr ⟨ix2 ⟨(i 0).val % 2048, by omega⟩ ⟨(i 1).val % 1024, by omega⟩, Finset.mem_univ _,
      (out_place2 _ _ _ (i 0) (by show (i 0).val = 2048 * ((4 * ((i 0).val / 2048) + (i 1).val / 1024) / 4) + (i 0).val % 2048; omega)
        (i 1) (by show (i 1).val = 1024 * ((4 * ((i 0).val / 2048) + (i 1).val / 1024) % 4) + (i 1).val % 1024; omega)).trans (eq_ix2 i).symm⟩

/-- The squares after the run. -/
theorem final3 : (dats m 0 c).arrAt 3 cfg0.N
    = act2 (m ((c : Thread nD τ).loc main_arg0)) (m ((c : Thread nD τ).loc main_arg1)) := by
  refine (dats m 0 c).arrAt_eq_of_cover 3 (act2 _ _) (fun t _ => ?_) fun i => ?_
  · rw [Value.flushed3]
    have ht := (at_point t).2.2.2.2
    funext x
    obtain ⟨r, k, rfl⟩ : ∃ (r : Fin 2048) (k : Fin 1024), x = ix2 r k := ⟨x 0, x 1, eq_ix2 x⟩
    have hr : 2048 * (t.val / 4) + r.val < 4096 := by have := r.isLt; omega
    have hk : 1024 * (t.val % 4) + k.val < 4096 := by have := k.isLt; omega
    rw [View.read_apply, out_place3 t r k ⟨_, hr⟩ rfl ⟨_, hk⟩ rfl]
    refine (out3_at _ _ r k).trans ?_
    exact congrArg (fun u : EReal => u * u) (at_blocks m c t r k ⟨_, hr⟩ rfl ⟨_, hk⟩ rfl)
  · have h0 : (i 0).val < 4096 := idx2_lt0 (n0 := 4096) (n1 := 4096) i
    have h1 : (i 1).val < 4096 := idx2_lt1 (n0 := 4096) (n1 := 4096) i
    have hN : cfg0.N = 8 := N_0
    refine ⟨⟨4 * ((i 0).val / 2048) + (i 1).val / 1024, by omega⟩, flush0_3 _, ?_⟩
    exact Finset.mem_map.mpr ⟨ix2 ⟨(i 0).val % 2048, by omega⟩ ⟨(i 1).val % 1024, by omega⟩, Finset.mem_univ _,
      (out_place3 _ _ _ (i 0) (by show (i 0).val = 2048 * ((4 * ((i 0).val / 2048) + (i 1).val / 1024) / 4) + (i 0).val % 2048; omega)
        (i 1) (by show (i 1).val = 1024 * ((4 * ((i 0).val / 2048) + (i 1).val / 1024) % 4) + (i 1).val % 1024; omega)).trans (eq_ix2 i).symm⟩

open Cert.UpRefIdeal.Read in
/-- The reference's activations. -/
theorem reference_act (H : S4096x1024.Idx → EReal) (U : S4x1024x1024.Idx → EReal) (i : S4096x4096.Idx) :
    val_main_v5 (F := Ideal) H U i = act H U i := by
  rw [val_main_v5_apply, val_main_call0_v0_apply, val_main_call0_cst_apply, val_main_v4_apply]
  refine congrArg₂ (fun u v : EReal => max u v) (Finset.sum_congr rfl fun d _ => ?_) Ideal.ofBits_zero_f32
  rw [val_main_v0_apply, val_main_v3_apply, val_main_v2_apply, val_main_v1_apply]
  have h1 : (i 1).val < 4096 := (i 1).isLt
  have hd : d.val < 1024 := d.isLt
  exact congrArg₂ (fun u v => (H u : EReal) * U v) (ix2_of rfl rfl)
    (ix3_of (by show (d.val * 4096 + (i 1).val) / 1024 % 4 = (i 1).val / 1024; omega)
      (by show (d.val * 4096 + (i 1).val) / 4096 = d.val; omega) (by show (d.val * 4096 + (i 1).val) % 1024 = (i 1).val % 1024; omega))

open Cert.UpRefIdeal.Read in
theorem reference6 (H : S4096x1024.Idx → EReal) (U : S4x1024x1024.Idx → EReal) : val_main_v6 (F := Ideal) H U = act H U := by
  funext i
  rw [val_main_v6_apply]
  exact reference_act H U i
open Cert.UpRefIdeal.Read in
theorem reference8 (H : S4096x1024.Idx → EReal) (U : S4x1024x1024.Idx → EReal) : val_main_v8 (F := Ideal) H U = act2 H U := by
  funext i
  rw [val_main_v8_apply, val_main_v7_apply]
  exact congrArg (fun u : EReal => u * u) (reference_act H U i)

/-- The reference runs, leaves its arguments and every counter at zero. -/
theorem frame_reference : Cert.quiescent_UpRefIdeal (hUpRefIdeal := Cert.UpRefIdeal.Gen.facts) := fun m ρ _ =>
  (θ_run Cert.UpRefIdeal.defs _ _).mono (fun r h => ⟨fun c => (h c).2.2, Idealize.ShloMosaic.sem_eq_zero_of_no_sems (by decide) r.2⟩)
    (Cert.UpRefIdeal.Value.run (F := Ideal) m ρ)

/-- The kernel and the reference end with equal results. -/
theorem algebraic : Cert.algebraic_UpIdeal_UpRefIdeal (hUpIdeal := Cert.UpIdeal.Gen.facts)
    (hUpRefIdeal := Cert.UpRefIdeal.Gen.facts) := fun m ρ m' ρ' _ hag =>
  ⟨fun c => act (m ((c.tc : Thread nD τ).loc main_arg0)) (m ((c.tc : Thread nD τ).loc main_arg1)), fun c => act2 (m ((c.tc : Thread nD τ).loc main_arg0)) (m ((c.tc : Thread nD τ).loc main_arg1)),
    (θ_run _ _ _).mono (fun _ h c => ⟨(h c).1.trans (final2 m c), (h c).2.1.trans (final3 m c), (h c).2.2⟩) (Cert.UpIdeal.Value.run_blocks m ρ),
    (θ_run _ _ _).mono (fun _ h c => by
      obtain ⟨e0, e1⟩ := hag c
      dsimp only
      rw [← e0, ← e1]
      exact ⟨(h c).1.trans ((Cert.UpRefIdeal.Read.val_main_v6_eq _ _).trans (reference6 _ _)), (h c).2.1.trans ((Cert.UpRefIdeal.Read.val_main_v8_eq _ _).trans (reference8 _ _)), (h c).2.2⟩) (Cert.UpRefIdeal.Value.run m' ρ')⟩

end Cert.Products.Up
-- ==== Proof.DAct.lean ====
/-
The gradient of the arguments of the feed-forward layer's activations: what the kernel and the reference leave, place by place.
-/
module

public import proofs.«01_k».proof.Proof.Products
public import proofs.«01_k».proof.Proof.Gen.DActIdeal.Value
public import proofs.«01_k».proof.Proof.Gen.DActRefIdeal.Read
public import proofs.«01_k».proof.Proof.Gen.DActRefIdeal.Run
public import proofs.«01_k».proof.Defs
public import Idealize.ShloMosaic.Lib.ValueLayout
public import Idealize.ShloMosaic.Lib.Quiescent

set_option maxRecDepth 16384

@[expose] public noncomputable section

namespace Cert.Products.DAct

open Idealize.ShloMosaic Idealize.ShloMosaic.ValueIdx Idealize.ShloMosaic.TcCoe Idealize.SL.Sem
open Cert.DActIdeal Cert.DActIdeal.Gen

variable (m : (ℓ : Loc nD τ sig) → Buf (Elt Ideal) ℓ) (c : Dev nD)

/-- The gradient: the incoming one through the second weight matrix, times the slope of the squared positive part. -/
def grad (Z : S4096x4096.Idx → EReal) (W : S4096x1024.Idx → EReal) (Y : S4096x1024.Idx → EReal) : S4096x4096.Idx → EReal :=
  fun i => (∑ d : Fin 1024, Y (ix2 (i 0) d) * W (ix2 (i 1) d)) * (2 * max (Z i) 0)

/-- Twice a number that is not negative. -/
theorem two_mul_pos (z : EReal) : 2 * max z 0 = max z 0 + max z 0 := by
  rw [← one_add_one_eq_two, EReal.right_distrib_of_nonneg zero_le_one zero_le_one, one_mul]

/-- The slope of the squared positive part, as the sum of two equal products where the argument is positive. -/
theorem slope (z g : EReal) : Scalar.select (Ideal.cmp .ogt z 0) (max z 0 * g + g * max z 0) (0 : EReal) = g * (2 * max z 0) := by
  by_cases h : 0 < z
  · have hc : Ideal.cmp .ogt z 0 = 1 := by
      show BitVec.ofBool (decide (0 < z)) = 1
      rw [decide_eq_true h]; rfl
    rw [hc]
    show max z 0 * g + g * max z 0 = _
    rw [mul_comm (max z 0) g, two_mul_pos, EReal.left_distrib_of_nonneg (le_max_right _ _) (le_max_right _ _)]
  · have hc : Ideal.cmp .ogt z 0 = 0 := by
      show BitVec.ofBool (decide (0 < z)) = 0
      rw [decide_eq_false h]; rfl
    rw [hc, max_eq_right (not_lt.mp h)]
    simp [Scalar.select]

/-- The activations as the call finds them. -/
theorem V_act : V m c main_v2 = fun i => max (α := EReal) (m ((c : Thread nD τ).loc main_arg0) i) 0 := by
  unfold V
  after_results_simp
  funext i
  show max (_ : EReal) (Ideal.ofBits .f32 0x00000000#32) = _
  rw [Ideal.ofBits_zero_f32]
/-- The incoming gradient as the call finds it. -/
theorem V_dy : V m c main_v3 = m ((c : Thread nD τ).loc main_arg2) := by
  unfold V
  after_results_simp
  rfl

/-- Where the windows stand at a point. -/
theorem at_point (t : Fin cfg0.N) :
    (win0_0.index t 0 = t.val / 4 ∧ win0_0.index t 1 = 0) ∧ (win0_1.index t 0 = t.val % 4 ∧ win0_1.index t 1 = 0) ∧ (win0_2.index t 0 = t.val / 4 ∧ win0_2.index t 1 = t.val % 4) ∧ (win0_3.index t 0 = t.val / 4 ∧ win0_3.index t 1 = t.val % 4) ∧ t.val < 8 := by
  rcases fin_N0 t with rfl | rfl | rfl | rfl | rfl | rfl | rfl | rfl <;> decide +kernel

/-- A place of the incoming gradient's block. -/
theorem dy_block (t : Fin cfg0.N) (r : Fin 2048) (k : Fin 1024) (sr : Fin 4096) (hsr : sr.val = 2048 * (t.val / 4) + r.val) :
    iblk m c 0 t (ix2 r k) = V m c main_v3 (ix2 sr k) := by
  have e := (at_point t).1
  unfold iblk
  rw [View.read_apply]
  refine congrArg (V m c main_v3) (ix2_of ?_ ?_)
  · show win0_0.index t 0 * 2048 + 1 * r.val = sr.val; rw [e.1, hsr]; omega
  · show win0_0.index t 1 * 1024 + 1 * k.val = k.val; rw [e.2]; omega

/-- A place of the weights' block. -/
theorem weight_block (t : Fin cfg0.N) (r : Fin 1024) (k : Fin 1024) (sr : Fin 4096) (hsr : sr.val = 1024 * (t.val % 4) + r.val) :
    iblk m c 1 t (ix2 r k) = V m c main_arg1 (ix2 sr k) := by
  have e := (at_point t).2.1
  unfold iblk
  rw [View.read_apply]
  refine congrArg (V m c main_arg1) (ix2_of ?_ ?_)
  · show win0_1.index t 0 * 1024 + 1 * r.val = sr.val; rw [e.1, hsr]; omega
  · show win0_1.index t 1 * 1024 + 1 * k.val = k.val; rw [e.2]; omega

/-- A place of the activations' block. -/
theorem act_block (t : Fin cfg0.N) (r : Fin 2048) (k : Fin 1024) (sr : Fin 4096) (hsr : sr.val = 2048 * (t.val / 4) + r.val) (sk : Fin 4096) (hsk : sk.val = 1024 * (t.val % 4) + k.val) :
    iblk m c 2 t (ix2 r k) = V m c main_v2 (ix2 sr sk) := by
  have e := (at_point t).2.2.1
  unfold iblk
  rw [View.read_apply]
  refine congrArg (V m c main_v2) (ix2_of ?_ ?_)
  · show win0_2.index t 0 * 2048 + 1 * r.val = sr.val; rw [e.1, hsr]; omega
  · show win0_2.index t 1 * 1024 + 1 * k.val = sk.val; rw [e.2, hsk]; omega

/-- Where a place of the block lies in the result. -/
theorem out_place (t : Fin cfg0.N) (r : Fin 2048) (k : Fin 1024) (sr : Fin 4096) (hsr : sr.val = 2048 * (t.val / 4) + r.val) (sk : Fin 4096) (hsk : sk.val = 1024 * (t.val % 4) + k.val) :
    ((cfg0.win 3).blk t).view.emb (ix2 r k) = (ix2 sr sk : (⟨2, ![4096, 4096]⟩ : Shape).Idx) := by
  have e := (at_point t).2.2.2.1
  refine ix2_of ?_ ?_
  · show win0_3.index t 0 * 2048 + 1 * r.val = sr.val; rw [e.1, hsr]; omega
  · show win0_3.index t 1 * 1024 + 1 * k.val = sk.val; rw [e.2, hsk]; omega

/-- The body's values. -/
theorem out_at (x : Vec Ideal S2048x1024 .bf16) (y : Vec Ideal S1024x1024 .bf16) (a : Vec Ideal S2048x1024 .bf16) (i : Fin 2048) (j : Fin 1024) :
    (out0_3 x y a (ix2 i j) : EReal) = (∑ d : Fin 1024, (x (ix2 i d) : EReal) * y (ix2 j d)) * (2 * a (ix2 i j)) := by
  unfold out0_3
  rw [View.canon_unit_zero two_axes, View.ld_unit_zero two_axes, View.ld_unit_zero two_axes, View.ld_unit_zero two_axes]
  unfold k0_pay1
  rw [shapeCast_self, shapeCast_self]
  exact congrArg₂ (fun u v : EReal => u * (v * a (ix2 i j))) (dotNT_apply none x y i j) word_two

/-- The result after the run. -/
theorem final : (dats m 0 c).arrAt 3 cfg0.N
    = grad (m ((c : Thread nD τ).loc main_arg0)) (m ((c : Thread nD τ).loc main_arg1)) (m ((c : Thread nD τ).loc main_arg2)) := by
  refine (dats m 0 c).arrAt_eq_of_cover 3 (grad _ _ _) (fun t _ => ?_) fun i => ?_
  · rw [Value.flushed3]
    have ht := (at_point t).2.2.2.2
    funext x
    obtain ⟨r, k, rfl⟩ : ∃ (r : Fin 2048) (k : Fin 1024), x = ix2 r k := ⟨x 0, x 1, eq_ix2 x⟩
    have hr : 2048 * (t.val / 4) + r.val < 4096 := by have := r.isLt; omega
    have hk : 1024 * (t.val % 4) + k.val < 4096 := by have := k.isLt; omega
    rw [View.read_apply, out_place t r k ⟨_, hr⟩ rfl ⟨_, hk⟩ rfl]
    refine (out_at _ _ _ r k).trans ?_
    show _ = (∑ d : Fin 1024, times (m ((c : Thread nD τ).loc main_arg2) (ix2 ⟨_, hr⟩ d)) (m ((c : Thread nD τ).loc main_arg1) (ix2 ⟨_, hk⟩ d)))
      * (2 * max (α := EReal) (m ((c : Thread nD τ).loc main_arg0) (ix2 ⟨_, hr⟩ ⟨_, hk⟩)) 0)
    rw [act_block m c t r k ⟨_, hr⟩ rfl ⟨_, hk⟩ rfl, V_act]
    refine congrArg (· * _) (Finset.sum_congr rfl fun d _ => ?_)
    rw [dy_block m c t r d ⟨_, hr⟩ rfl, weight_block m c t k d ⟨_, hk⟩ rfl, V_dy, V_main_arg1]
  · have h0 : (i 0).val < 4096 := idx2_lt0 (n0 := 4096) (n1 := 4096) i
    have h1 : (i 1).val < 4096 := idx2_lt1 (n0 := 4096) (n1 := 4096) i
    have hN : cfg0.N = 8 := N_0
    refine ⟨⟨4 * ((i 0).val / 2048) + (i 1).val / 1024, by omega⟩, flush0_3 _, ?_⟩
    exact Finset.mem_map.mpr ⟨ix2 ⟨(i 0).val % 2048, by omega⟩ ⟨(i 1).val % 1024, by omega⟩, Finset.mem_univ _,
      (out_place _ _ _ (i 0) (by show (i 0).val = 2048 * ((4 * ((i 0).val / 2048) + (i 1).val / 1024) / 4) + (i 0).val % 2048; omega)
        (i 1) (by show (i 1).val = 1024 * ((4 * ((i 0).val / 2048) + (i 1).val / 1024) % 4) + (i 1).val % 1024; omega)).trans (eq_ix2 i).symm⟩

open Cert.DActRefIdeal.Read in
/-- The reference's result. -/
theorem reference (Z : S4096x4096.Idx → EReal) (W Y : S4096x1024.Idx → EReal) : val_main_v13 (F := Ideal) Z W Y = grad Z W Y := by
  funext i
  rw [val_main_v13_apply, val_main_v12_apply, val_main_v10_apply, val_main_v8_apply, val_main_v9_apply, val_main_v11_apply, val_main_cst_1_apply,
    val_main_v3_apply, val_main_v2_apply, val_main_cst_apply, val_main_v1_apply, val_main_call0_v0_apply, val_main_call0_cst_apply]
  show Scalar.select (Ideal.cmp .ogt (Z i) (Ideal.ofBits .f32 0x00000000#32))
    (max (Z i : EReal) (Ideal.ofBits .f32 0x00000000#32) * val_main_v7 (F := Ideal) W Y i + val_main_v7 (F := Ideal) W Y i * max (Z i : EReal) (Ideal.ofBits .f32 0x00000000#32))
    (Ideal.ofBits .f32 0x00000000#32 : EReal) = _
  rw [Ideal.ofBits_zero_f32, slope, val_main_v7_apply]
  refine congrArg (· * _) (Finset.sum_congr rfl fun d _ => ?_)
  rw [val_main_v0_apply]
  exact congrArg₂ (fun u v => (Y u : EReal) * W v) (ix2_of rfl rfl) (ix2_of rfl rfl)

/-- The reference runs, leaves its arguments and every counter at zero. -/
theorem frame_reference : Cert.quiescent_DActRefIdeal (hDActRefIdeal := Cert.DActRefIdeal.Gen.facts) := fun m ρ _ =>
  (θ_run Cert.DActRefIdeal.defs _ _).mono (fun r h => ⟨fun c => (h c).2, Idealize.ShloMosaic.sem_eq_zero_of_no_sems (by decide) r.2⟩)
    (Cert.DActRefIdeal.Value.run (F := Ideal) m ρ)

/-- The kernel and the reference end with equal results. -/
theorem algebraic : Cert.algebraic_DActIdeal_DActRefIdeal (hDActIdeal := Cert.DActIdeal.Gen.facts)
    (hDActRefIdeal := Cert.DActRefIdeal.Gen.facts) := fun m ρ m' ρ' _ hag =>
  ⟨fun c => grad (m ((c.tc : Thread nD τ).loc main_arg0)) (m ((c.tc : Thread nD τ).loc main_arg1)) (m ((c.tc : Thread nD τ).loc main_arg2)),
    (θ_run _ _ _).mono (fun _ h c => ⟨(h c).1.trans (final m c), (h c).2⟩) (Cert.DActIdeal.Value.run_blocks m ρ),
    (θ_run _ _ _).mono (fun _ h c => by
      obtain ⟨e0, e1, e2⟩ := hag c
      dsimp only
      rw [← e0, ← e1, ← e2]
      exact ⟨(h c).1.trans ((Cert.DActRefIdeal.Read.val_main_v13_eq _ _ _).trans (reference _ _ _)), (h c).2⟩) (Cert.DActRefIdeal.Value.run m' ρ')⟩

end Cert.Products.DAct
-- ==== Proof.GDown.lean ====
/-
The gradient of the second weight matrix of the feed-forward layer: what the kernel and the reference leave, place by place.
-/
module

public import proofs.«01_k».proof.Proof.Products
public import proofs.«01_k».proof.Proof.Gen.GDownIdeal.Value
public import proofs.«01_k».proof.Proof.Gen.GDownRefIdeal.Read
public import proofs.«01_k».proof.Proof.Gen.GDownRefIdeal.Run
public import proofs.«01_k».proof.Defs
public import Idealize.ShloMosaic.Lib.ValueLayout
public import Idealize.ShloMosaic.Lib.Quiescent

set_option maxRecDepth 16384

@[expose] public noncomputable section

namespace Cert.Products.GDown

open Idealize.ShloMosaic Idealize.ShloMosaic.ValueIdx Idealize.ShloMosaic.TcCoe Idealize.SL.Sem
open Cert.GDownIdeal Cert.GDownIdeal.Gen

variable (m : (ℓ : Loc nD τ sig) → Buf (Elt Ideal) ℓ) (c : Dev nD)

/-- The square of a number's positive part. -/
def act2 (z : EReal) : EReal := max z 0 * max z 0

/-- The gradient: over the tokens, the squared activation times the incoming gradient. -/
def grad (Z : S4096x4096.Idx → EReal) (Y : S4096x1024.Idx → EReal) : S4096x1024.Idx → EReal :=
  fun i => ∑ t : Fin 4096, act2 (Z (ix2 t (i 0))) * Y (ix2 t (i 1))

/-- The left factor as the call finds it. -/
theorem V_left : V m c main_v3 = fun i => act2 (m ((c : Thread nD τ).loc main_arg0) i) := by
  unfold V
  after_results_simp
  funext i
  show max (_ : EReal) (Ideal.ofBits .f32 0x00000000#32) * max (_ : EReal) (Ideal.ofBits .f32 0x00000000#32) = _
  rw [Ideal.ofBits_zero_f32]
  rfl
/-- The right factor as the call finds it. -/
theorem V_right : V m c main_v4 = m ((c : Thread nD τ).loc main_arg2) := by
  unfold V
  after_results_simp
  rfl

/-- Where the windows stand at a point. -/
theorem at_point (t : Fin cfg0.N) :
    (win0_0.index t 0 = 0 ∧ win0_0.index t 1 = t.val) ∧ (win0_1.index t 0 = 0 ∧ win0_1.index t 1 = 0) ∧ (win0_2.index t 0 = t.val ∧ win0_2.index t 1 = 0) ∧ t.val < 4 := by
  rcases fin_N0 t with rfl | rfl | rfl | rfl <;> decide +kernel

/-- A place of the left block. -/
theorem left_block (t : Fin cfg0.N) (r : Fin 4096) (k : Fin 1024) (sk : Fin 4096) (hsk : sk.val = 1024 * (t.val) + k.val) :
    iblk m c 0 t (ix2 r k) = V m c main_v3 (ix2 r sk) := by
  have e := (at_point t).1
  unfold iblk
  rw [View.read_apply]
  refine congrArg (V m c main_v3) (ix2_of ?_ ?_)
  · show win0_0.index t 0 * 4096 + 1 * r.val = r.val; rw [e.1]; omega
  · show win0_0.index t 1 * 1024 + 1 * k.val = sk.val; rw [e.2, hsk]; omega

/-- A place of the right block. -/
theorem right_block (t : Fin cfg0.N) (r : Fin 4096) (k : Fin 1024)  :
    iblk m c 1 t (ix2 r k) = V m c main_v4 (ix2 r k) := by
  have e := (at_point t).2.1
  unfold iblk
  rw [View.read_apply]
  refine congrArg (V m c main_v4) (ix2_of ?_ ?_)
  · show win0_1.index t 0 * 4096 + 1 * r.val = r.val; rw [e.1]; omega
  · show win0_1.index t 1 * 1024 + 1 * k.val = k.val; rw [e.2]; omega

/-- Where a place of the block lies in the result. -/
theorem out_place (t : Fin cfg0.N) (r : Fin 1024) (k : Fin 1024) (sr : Fin 4096) (hsr : sr.val = 1024 * (t.val) + r.val) :
    ((cfg0.win 2).blk t).view.emb (ix2 r k) = (ix2 sr k : (⟨2, ![4096, 1024]⟩ : Shape).Idx) := by
  have e := (at_point t).2.2.1
  refine ix2_of ?_ ?_
  · show win0_2.index t 0 * 1024 + 1 * r.val = sr.val; rw [e.1, hsr]; omega
  · show win0_2.index t 1 * 1024 + 1 * k.val = k.val; rw [e.2]; omega

/-- The body's product. -/
theorem out_at (x y : Vec Ideal S4096x1024 .bf16) (i j : Fin 1024) :
    out0_2 x y (ix2 i j) = ∑ d : Fin 4096, x (ix2 d i) * y (ix2 d j) := by
  unfold out0_2
  rw [View.canon_unit_zero two_axes, View.ld_unit_zero two_axes, View.ld_unit_zero two_axes]
  unfold k0_pay1
  rw [shapeCast_self, shapeCast_self]
  exact dotTN_apply none x y i j

/-- The result after the run. -/
theorem final : (dats m 0 c).arrAt 2 cfg0.N
    = grad (m ((c : Thread nD τ).loc main_arg0)) (m ((c : Thread nD τ).loc main_arg2)) := by
  refine (dats m 0 c).arrAt_eq_of_cover 2 (grad _ _) (fun t _ => ?_) fun i => ?_
  · rw [Value.flushed2]
    have ht := (at_point t).2.2.2
    funext x
    obtain ⟨r, k, rfl⟩ : ∃ (r : Fin 1024) (k : Fin 1024), x = ix2 r k := ⟨x 0, x 1, eq_ix2 x⟩
    have hs : 1024 * t.val + r.val < 4096 := by have := r.isLt; omega
    rw [View.read_apply, out_place t r k ⟨_, hs⟩ rfl]
    refine (out_at _ _ r k).trans ?_
    show _ = ∑ d : Fin 4096, act2 (m ((c : Thread nD τ).loc main_arg0) (ix2 d ⟨_, hs⟩)) * m ((c : Thread nD τ).loc main_arg2) (ix2 d k)
    refine Finset.sum_congr rfl fun d _ => ?_
    rw [left_block m c t d r ⟨_, hs⟩ rfl, right_block, V_left, V_right]
  · have h0 : (i 0).val < 4096 := idx2_lt0 (n0 := 4096) (n1 := 1024) i
    have hN : cfg0.N = 4 := N_0
    refine ⟨⟨(i 0).val / 1024, by omega⟩, flush0_2 _, ?_⟩
    exact Finset.mem_map.mpr ⟨ix2 ⟨(i 0).val % 1024, by omega⟩ (i 1), Finset.mem_univ _,
      (out_place _ _ _ (i 0) (by show (i 0).val = 1024 * ((i 0).val / 1024) + (i 0).val % 1024; omega)).trans (eq_ix2 i).symm⟩

open Cert.GDownRefIdeal.Read in
/-- The reference's result. -/
theorem reference (Z : S4096x4096.Idx → EReal) (Y : S4096x1024.Idx → EReal) : val_main_v5 (F := Ideal) Z Y = grad Z Y := by
  funext i
  rw [val_main_v5_apply, val_main_v4_apply]
  refine Finset.sum_congr rfl fun d _ => ?_
  rw [val_main_v2_apply, val_main_v1_apply, val_main_call0_v0_apply, val_main_call0_cst_apply]
  show (Y _ : EReal) * (max (Z _ : EReal) (Ideal.ofBits .f32 0x00000000#32) * max (Z _ : EReal) (Ideal.ofBits .f32 0x00000000#32)) = _
  rw [Ideal.ofBits_zero_f32, mul_comm]
  exact congrArg₂ (fun u v => act2 (Z u) * Y v) (ix2_of rfl rfl) (ix2_of rfl rfl)

/-- The reference runs, leaves its arguments and every counter at zero. -/
theorem frame_reference : Cert.quiescent_GDownRefIdeal (hGDownRefIdeal := Cert.GDownRefIdeal.Gen.facts) := fun m ρ _ =>
  (θ_run Cert.GDownRefIdeal.defs _ _).mono (fun r h => ⟨fun c => (h c).2, Idealize.ShloMosaic.sem_eq_zero_of_no_sems (by decide) r.2⟩)
    (Cert.GDownRefIdeal.Value.run (F := Ideal) m ρ)

/-- The kernel and the reference end with equal results. -/
theorem algebraic : Cert.algebraic_GDownIdeal_GDownRefIdeal (hGDownIdeal := Cert.GDownIdeal.Gen.facts)
    (hGDownRefIdeal := Cert.GDownRefIdeal.Gen.facts) := fun m ρ m' ρ' _ hag =>
  ⟨fun c => grad (m ((c.tc : Thread nD τ).loc main_arg0)) (m ((c.tc : Thread nD τ).loc main_arg2)),
    (θ_run _ _ _).mono (fun _ h c => ⟨(h c).1.trans (final m c), (h c).2⟩) (Cert.GDownIdeal.Value.run_blocks m ρ),
    (θ_run _ _ _).mono (fun _ h c => by
      obtain ⟨e0, e1, e2⟩ := hag c
      dsimp only
      rw [← e0, ← e2]
      exact ⟨(h c).1.trans ((Cert.GDownRefIdeal.Read.val_main_v5_eq _ _).trans (reference _ _)), (h c).2⟩) (Cert.GDownRefIdeal.Value.run m' ρ')⟩

end Cert.Products.GDown
-- ==== Proof.GUp.lean ====
/-
The gradient of the first weight matrix of the feed-forward layer: what the kernel and the reference leave, place by place.
-/
module

public import proofs.«01_k».proof.Proof.Products
public import proofs.«01_k».proof.Proof.Gen.GUpIdeal.Value
public import proofs.«01_k».proof.Proof.Gen.GUpRefIdeal.Read
public import proofs.«01_k».proof.Proof.Gen.GUpRefIdeal.Run
public import proofs.«01_k».proof.Defs
public import Idealize.ShloMosaic.Lib.ValueLayout
public import Idealize.ShloMosaic.Lib.Quiescent

set_option maxRecDepth 16384

@[expose] public noncomputable section

namespace Cert.Products.GUp

open Idealize.ShloMosaic Idealize.ShloMosaic.ValueIdx Idealize.ShloMosaic.TcCoe Idealize.SL.Sem
open Cert.GUpIdeal Cert.GUpIdeal.Gen

variable (m : (ℓ : Loc nD τ sig) → Buf (Elt Ideal) ℓ) (c : Dev nD)

/-- The column of the whole matrix that is column `k` of slab `j`. -/
def column (j : Fin 4) (k : Fin 1024) : Fin 4096 := ⟨1024 * j.val + k.val, by omega⟩

/-- The gradient: over the tokens, the layer's input times the gradient of its activations' arguments. -/
def grad (H : S4096x1024.Idx → EReal) (Z : S4096x4096.Idx → EReal) : S4x1024x1024.Idx → EReal :=
  fun i => ∑ t : Fin 4096, H (ix2 t (i 1)) * Z (ix2 t (column (i 0) (i 2)))

/-- Where the windows stand at a point. -/
theorem at_point (t : Fin cfg0.N) :
    (win0_0.index t 0 = 0 ∧ win0_0.index t 1 = 0) ∧ (win0_1.index t 0 = 0 ∧ win0_1.index t 1 = t.val) ∧ (win0_2.index t 0 = t.val ∧ win0_2.index t 1 = 0 ∧ win0_2.index t 2 = 0) ∧ t.val < 4 := by
  rcases fin_N0 t with rfl | rfl | rfl | rfl <;> decide +kernel

/-- A place of the left block. -/
theorem left_block (t : Fin cfg0.N) (r : Fin 4096) (k : Fin 1024)  :
    iblk m c 0 t (ix2 r k) = V m c main_arg0 (ix2 r k) := by
  have e := (at_point t).1
  unfold iblk
  rw [View.read_apply]
  refine congrArg (V m c main_arg0) (ix2_of ?_ ?_)
  · show win0_0.index t 0 * 4096 + 1 * r.val = r.val; rw [e.1]; omega
  · show win0_0.index t 1 * 1024 + 1 * k.val = k.val; rw [e.2]; omega

/-- A place of the right block. -/
theorem right_block (t : Fin cfg0.N) (r : Fin 4096) (k : Fin 1024) (sk : Fin 4096) (hsk : sk.val = 1024 * (t.val) + k.val) :
    iblk m c 1 t (ix2 r k) = V m c main_arg2 (ix2 r sk) := by
  have e := (at_point t).2.1
  unfold iblk
  rw [View.read_apply]
  refine congrArg (V m c main_arg2) (ix2_of ?_ ?_)
  · show win0_1.index t 0 * 4096 + 1 * r.val = r.val; rw [e.1]; omega
  · show win0_1.index t 1 * 1024 + 1 * k.val = sk.val; rw [e.2, hsk]; omega

/-- Where a place of the block lies in the result. -/
theorem out_place (t : Fin cfg0.N) (r : Fin 1) (k : Fin 1024) (l : Fin 1024) (sr : Fin 4) (hsr : sr.val = 1 * (t.val) + r.val) :
    ((cfg0.win 2).blk t).view.emb (ix3 r k l) = (ix3 sr k l : (⟨3, ![4, 1024, 1024]⟩ : Shape).Idx) := by
  have e := (at_point t).2.2.1
  refine ix3_of ?_ ?_ ?_
  · show win0_2.index t 0 * 1 + 1 * r.val = sr.val; rw [e.1, hsr]; omega
  · show win0_2.index t 1 * 1024 + 1 * k.val = k.val; rw [e.2.1]; omega
  · show win0_2.index t 2 * 1024 + 1 * l.val = l.val; rw [e.2.2]; omega

/-- The body's product. -/
theorem out_at (x y : Vec Ideal S4096x1024 .bf16) (u : Fin 1) (i j : Fin 1024) :
    out0_2 x y (ix3 u i j) = ∑ d : Fin 4096, x (ix2 d i) * y (ix2 d j) := by
  obtain rfl : u = 0 := Subsingleton.elim _ _
  unfold out0_2
  rw [View.canon_unit_zero three_axes, View.ld_unit_zero two_axes, View.ld_unit_zero two_axes]
  unfold k0_pay1
  exact (shapeCast_ab_1ab_apply _ _ _ _ _).trans (dotTN_apply none x y i j)

/-- The result after the run. -/
theorem final : (dats m 0 c).arrAt 2 cfg0.N
    = grad (m ((c : Thread nD τ).loc main_arg0)) (m ((c : Thread nD τ).loc main_arg2)) := by
  refine (dats m 0 c).arrAt_eq_of_cover 2 (grad _ _) (fun t _ => ?_) fun i => ?_
  · rw [Value.flushed2]
    have ht := (at_point t).2.2.2
    funext x
    obtain ⟨u, r, k, rfl⟩ : ∃ (u : Fin 1) (r : Fin 1024) (k : Fin 1024), x = ix3 u r k := ⟨x 0, x 1, x 2, eq_ix3 x⟩
    rw [View.read_apply, out_place t u r k ⟨t.val, ht⟩ (by show t.val = _; omega)]
    refine (out_at _ _ u r k).trans ?_
    show _ = ∑ d : Fin 4096, times (m ((c : Thread nD τ).loc main_arg0) (ix2 d r)) (m ((c : Thread nD τ).loc main_arg2) (ix2 d (column ⟨t.val, ht⟩ k)))
    refine Finset.sum_congr rfl fun d _ => ?_
    rw [left_block, right_block m c t d k (column ⟨t.val, ht⟩ k) rfl]
  · have h0 : (i 0).val < 4 := (i 0).isLt
    have hN : cfg0.N = 4 := N_0
    refine ⟨⟨(i 0).val, by omega⟩, flush0_2 _, ?_⟩
    exact Finset.mem_map.mpr ⟨ix3 0 (i 1) (i 2), Finset.mem_univ _,
      (out_place _ _ _ _ (i 0) (by show (i 0).val = 1 * (i 0).val + 0; omega)).trans (eq_ix3 i).symm⟩

open Cert.GUpRefIdeal.Read in
/-- The reference's result. -/
theorem reference (H : S4096x1024.Idx → EReal) (Z : S4096x4096.Idx → EReal) : val_main_v9 (F := Ideal) H Z = grad H Z := by
  funext i
  rw [val_main_v9_apply, val_main_v8_apply, val_main_v7_apply, val_main_v6_apply]
  refine Finset.sum_congr rfl fun d _ => ?_
  rw [val_main_v5_apply, val_main_v0_apply]
  have h0 : (i 0).val < 4 := (i 0).isLt
  have h1 : (i 1).val < 1024 := (i 1).isLt
  have h2 : (i 2).val < 1024 := (i 2).isLt
  show (Z _ : EReal) * (H _ : EReal) = _
  rw [mul_comm]
  exact congrArg₂ (fun u v => H u * Z v)
    (ix2_of rfl (by show (((i 1).val * 4 + (i 0).val) * 1024 + (i 2).val) / 4096 = (i 1).val; omega))
    (ix2_of rfl (by show (((i 1).val * 4 + (i 0).val) * 1024 + (i 2).val) % 4096 = 1024 * (i 0).val + (i 2).val; omega))

/-- The reference runs, leaves its arguments and every counter at zero. -/
theorem frame_reference : Cert.quiescent_GUpRefIdeal (hGUpRefIdeal := Cert.GUpRefIdeal.Gen.facts) := fun m ρ _ =>
  (θ_run Cert.GUpRefIdeal.defs _ _).mono (fun r h => ⟨fun c => (h c).2, Idealize.ShloMosaic.sem_eq_zero_of_no_sems (by decide) r.2⟩)
    (Cert.GUpRefIdeal.Value.run (F := Ideal) m ρ)

/-- The kernel and the reference end with equal results. -/
theorem algebraic : Cert.algebraic_GUpIdeal_GUpRefIdeal (hGUpIdeal := Cert.GUpIdeal.Gen.facts)
    (hGUpRefIdeal := Cert.GUpRefIdeal.Gen.facts) := fun m ρ m' ρ' _ hag =>
  ⟨fun c => grad (m ((c.tc : Thread nD τ).loc main_arg0)) (m ((c.tc : Thread nD τ).loc main_arg2)),
    (θ_run _ _ _).mono (fun _ h c => ⟨(h c).1.trans (final m c), (h c).2⟩) (Cert.GUpIdeal.Value.run_blocks m ρ),
    (θ_run _ _ _).mono (fun _ h c => by
      obtain ⟨e0, e1, e2⟩ := hag c
      dsimp only
      rw [← e0, ← e2]
      exact ⟨(h c).1.trans ((Cert.GUpRefIdeal.Read.val_main_v9_eq _ _).trans (reference _ _)), (h c).2⟩) (Cert.GUpRefIdeal.Value.run m' ρ')⟩

end Cert.Products.GUp
-- ==== Proof.ProjHg.lean ====
/-
The first 2048 columns of the mixed projection: what the kernel and the reference leave, place by place.
-/
module

public import proofs.«01_k».proof.Proof.Products
public import Idealize.ShloMosaic.Lib.Pipeline.ValueKit.Acc
public import proofs.«01_k».proof.Proof.Gen.ProjHgIdeal.Value
public import proofs.«01_k».proof.Proof.Gen.ProjHgRefIdeal.Read
public import proofs.«01_k».proof.Proof.Gen.ProjHgRefIdeal.Run
public import proofs.«01_k».proof.Defs
public import Idealize.ShloMosaic.Lib.ValueLayout
public import Idealize.ShloMosaic.Lib.Quiescent

set_option maxRecDepth 16384

@[expose] public noncomputable section

namespace Cert.Products.ProjHg

open Idealize.ShloMosaic Idealize.ShloMosaic.ValueIdx Idealize.ShloMosaic.TcCoe Idealize.SL.Sem
open Cert.ProjHgIdeal Cert.ProjHgIdeal.Gen

variable (m : (ℓ : Loc nD τ sig) → Buf (Elt Ideal) ℓ) (c : Dev nD)

/-- Where the windows stand at a point. -/
theorem at_point (t : Fin cfg0.N) :
    (win0_0.index t 0 = t.val / 2 ∧ win0_0.index t 1 = 0) ∧ (win0_1.index t 0 = t.val % 2 ∧ win0_1.index t 1 = 0) ∧ (win0_2.index t 0 = t.val / 2 ∧ win0_2.index t 1 = t.val % 2) ∧ t.val < 8 := by
  rcases fin_N0 t with rfl | rfl | rfl | rfl | rfl | rfl | rfl | rfl <;> decide +kernel

/-- A place of the left block. -/
theorem left_block (t : Fin cfg0.N) (r : Fin 1024) (k : Fin 1024) (sr : Fin 4096) (hsr : sr.val = 1024 * (t.val / 2) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 1024) (k : Fin 1024) (sr : Fin 2816) (hsr : sr.val = 1024 * (t.val % 2) + r.val) :
    (X0_1 m c t : Vec Ideal S1024x1024 .bf16) (ix2 r k) = V m c main_arg1 (ix2 sr k) := by
  have e := (at_point t).2.1
  unfold X0_1 Pipeline.Window.fill
  rw [dif_pos (moved0_1 t _)]
  unfold iblk
  rw [View.read_apply]
  refine congrArg (V m c main_arg1) (ix2_of ?_ ?_)
  · show win0_1.index t 0 * 1024 + 1 * r.val = sr.val; rw [e.1, hsr]; omega
  · show win0_1.index t 1 * 1024 + 1 * k.val = k.val; rw [e.2]; omega

/-- Where a place of the block lies in the result. -/
theorem out_place (t : Fin cfg0.N) (r : Fin 1024) (k : Fin 1024) (sr : Fin 4096) (hsr : sr.val = 1024 * (t.val / 2) + r.val) (sk : Fin 2048) (hsk : sk.val = 1024 * (t.val % 2) + k.val) :
    ((cfg0.win 2).blk t).view.emb (ix2 r k) = (ix2 sr sk : (⟨2, ![4096, 2048]⟩ : Shape).Idx) := by
  have e := (at_point t).2.2.1
  refine ix2_of ?_ ?_
  · show win0_2.index t 0 * 1024 + 1 * r.val = sr.val; rw [e.1, hsr]; omega
  · show win0_2.index t 1 * 1024 + 1 * k.val = sk.val; rw [e.2, hsk]; omega

/-- The body's product. -/
theorem out_at (t : Fin cfg0.N) (i j : Fin 1024) : outsAt0 m c t (ix2 i j)
    = ∑ d : Fin 1024, times ((iblk m c 0 t : Vec Ideal S1024x1024 .bf16) (ix2 i d)) ((X0_1 m c t : Vec Ideal S1024x1024 .bf16) (ix2 j d)) := by
  unfold outsAt0
  frame_out
  unfold k0_pay1
  exact dotNT_apply none _ _ i j

/-- The row of the weights that gives a column of the result. -/
def firstRow (k : Fin 2048) : Fin 2816 := ⟨k.val, Nat.lt_of_lt_of_le k.isLt (by decide)⟩

/-- The product with the first 2048 rows of the weights. -/
def firstCols (X : S4096x1024.Idx → EReal) (W : S2816x1024.Idx → EReal) : S4096x2048.Idx → EReal :=
  fun i => ∑ d : Fin 1024, X (ix2 (i 0) d) * W (ix2 (firstRow (i 1)) d)

theorem firstCols_apply (X : S4096x1024.Idx → EReal) (W : S2816x1024.Idx → EReal) (i : Fin 4096) (j : Fin 2048) :
    firstCols X W (ix2 i j) = ∑ d : Fin 1024, X (ix2 i d) * W (ix2 (firstRow j) d) := rfl

/-- The result after the run. -/
theorem final : (dats m 0 c).arrAt 2 cfg0.N = firstCols (m ((c : Thread nD τ).loc main_arg0)) (m ((c : Thread nD τ).loc main_arg1)) := by
  refine (dats m 0 c).arrAt_eq_of_cover 2 (firstCols _ _) (fun t _ => ?_) fun i => ?_
  · rw [Value.flushed2]
    have ht := (at_point t).2.2.2
    funext x
    obtain ⟨r, k, rfl⟩ : ∃ (r : Fin 1024) (k : Fin 1024), x = ix2 r k := ⟨x 0, x 1, eq_ix2 x⟩
    have hr : 1024 * (t.val / 2) + r.val < 4096 := by have := r.isLt; omega
    have hk : 1024 * (t.val % 2) + k.val < 2048 := by have := k.isLt; omega
    rw [View.read_apply, out_place t r k ⟨_, hr⟩ rfl ⟨_, hk⟩ rfl]
    refine (out_at m c t r k).trans ?_
    refine Eq.trans (Finset.sum_congr rfl fun d _ => ?_) (firstCols_apply (m ((c : Thread nD τ).loc main_arg0)) (m ((c : Thread nD τ).loc main_arg1)) ⟨_, hr⟩ ⟨_, hk⟩).symm
    rw [left_block m c t r d ⟨_, hr⟩ rfl, right_block m c t k d (firstRow ⟨_, hk⟩) rfl, V_main_arg0, V_main_arg1]
  · have hN : cfg0.N = 8 := N_0
    have h0 : (i 0).val < 4096 := idx2_lt0 (n0 := 4096) (n1 := 2048) i
    have h1 : (i 1).val < 2048 := idx2_lt1 (n0 := 4096) (n1 := 2048) i
    refine ⟨⟨2 * ((i 0).val / 1024) + (i 1).val / 1024, by omega⟩, flush0_2 _, ?_⟩
    exact Finset.mem_map.mpr ⟨ix2 ⟨(i 0).val % 1024, by omega⟩ ⟨(i 1).val % 1024, by omega⟩, Finset.mem_univ _,
      (out_place _ _ _ (i 0) (by show (i 0).val = 1024 * ((2 * ((i 0).val / 1024) + (i 1).val / 1024) / 2) + (i 0).val % 1024; omega) (i 1) (by show (i 1).val = 1024 * ((2 * ((i 0).val / 1024) + (i 1).val / 1024) % 2) + (i 1).val % 1024; omega)).trans (eq_ix2 i).symm⟩

open Cert.ProjHgRefIdeal.Read in
/-- The reference's result. -/
theorem reference (X : S4096x1024.Idx → EReal) (Y : S2816x1024.Idx → EReal) : val_main_v4 (F := Ideal) X Y = firstCols X Y := by
  funext i
  rw [val_main_v4_apply, val_main_v3_apply]
  refine Finset.sum_congr rfl fun d _ => ?_
  rw [val_main_v0_apply, val_main_v2_apply, val_main_v1_apply]
  exact congrArg₂ times (congrArg X (ix2_of rfl rfl)) (congrArg Y (ix2_of rfl rfl))

/-- The reference runs, leaves its arguments and every counter at zero. -/
theorem frame_reference : Cert.quiescent_ProjHgRefIdeal (hProjHgRefIdeal := Cert.ProjHgRefIdeal.Gen.facts) := fun m ρ _ =>
  (θ_run Cert.ProjHgRefIdeal.defs _ _).mono (fun r h => ⟨fun c => (h c).2, Idealize.ShloMosaic.sem_eq_zero_of_no_sems (by decide) r.2⟩)
    (Cert.ProjHgRefIdeal.Value.run (F := Ideal) m ρ)

/-- The kernel and the reference end with equal results. -/
theorem algebraic : Cert.algebraic_ProjHgIdeal_ProjHgRefIdeal (hProjHgIdeal := Cert.ProjHgIdeal.Gen.facts)
    (hProjHgRefIdeal := Cert.ProjHgRefIdeal.Gen.facts) := fun m ρ m' ρ' _ hag =>
  ⟨fun c => firstCols (m ((c.tc : Thread nD τ).loc main_arg0)) (m ((c.tc : Thread nD τ).loc main_arg1)),
    (θ_run _ _ _).mono (fun _ h c => ⟨(h c).1.trans (final m c), (h c).2⟩) (Cert.ProjHgIdeal.Value.run_blocks m ρ),
    (θ_run _ _ _).mono (fun _ h c => by
      obtain ⟨e0, e1⟩ := hag c
      dsimp only
      rw [← e0, ← e1]
      exact ⟨(h c).1.trans ((Cert.ProjHgRefIdeal.Read.val_main_v4_eq _ _).trans (reference _ _)), (h c).2⟩) (Cert.ProjHgRefIdeal.Value.run m' ρ')⟩

end Cert.Products.ProjHg
-- ==== Proof.ProjSw.lean ====
/-
The last 768 columns of the mixed projection: what the kernel and the reference leave, place by place.
-/
module

public import proofs.«01_k».proof.Proof.Products
public import proofs.«01_k».proof.Proof.Gen.ProjSwIdeal.Value
public import proofs.«01_k».proof.Proof.Gen.ProjSwRefIdeal.Read
public import proofs.«01_k».proof.Proof.Gen.ProjSwRefIdeal.Run
public import proofs.«01_k».proof.Defs
public import Idealize.ShloMosaic.Lib.ValueLayout
public import Idealize.ShloMosaic.Lib.Quiescent

set_option maxRecDepth 16384

@[expose] public noncomputable section

namespace Cert.Products.ProjSw

open Idealize.ShloMosaic Idealize.ShloMosaic.ValueIdx Idealize.ShloMosaic.TcCoe Idealize.SL.Sem
open Cert.ProjSwIdeal Cert.ProjSwIdeal.Gen

variable (m : (ℓ : Loc nD τ sig) → Buf (Elt Ideal) ℓ) (c : Dev nD)

/-- The row of the weights that gives a column of the result. -/
def lastRow (k : Fin 768) : Fin 2816 := ⟨2048 + k.val, by omega⟩

/-- The last 768 rows of the weights. -/
theorem V_right (r : Fin 768) (k : Fin 1024) : V m c main_v0 (ix2 r k) = m ((c : Thread nD τ).loc main_arg1) (ix2 (lastRow r) k) := by
  unfold V
  after_results_simp
  exact extractStridedSlice_apply ![2048, 0] _ slices_S2816x1024_S768x1024_2048_0 (ix2 r k) (ix2 (lastRow r) k) fun a => match a with
    | ⟨0, _⟩ => rfl
    | ⟨1, _⟩ => (Nat.zero_add k.val).symm

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 768) (k : Fin 1024)  :
    iblk m c 1 t (ix2 r k) = V m c main_v0 (ix2 r k) := by
  have e := (at_point t).2.1
  unfold iblk
  rw [View.read_apply]
  refine congrArg (V m c main_v0) (ix2_of ?_ ?_)
  · show win0_1.index t 0 * 768 + 1 * r.val = r.val; rw [e.1]; omega
  · show win0_1.index t 1 * 1024 + 1 * k.val = k.val; rw [e.2]; omega

/-- Where a place of the block lies in the result. -/
theorem out_place (t : Fin cfg0.N) (r : Fin 1024) (k : Fin 768) (sr : Fin 4096) (hsr : sr.val = 1024 * (t.val) + r.val) :
    ((cfg0.win 2).blk t).view.emb (ix2 r k) = (ix2 sr k : (⟨2, ![4096, 768]⟩ : Shape).Idx) := by
  have e := (at_point t).2.2.1
  refine ix2_of ?_ ?_
  · show win0_2.index t 0 * 1024 + 1 * r.val = sr.val; rw [e.1, hsr]; omega
  · show win0_2.index t 1 * 768 + 1 * k.val = k.val; rw [e.2]; omega

/-- The body's product. -/
theorem out_at (x : Vec Ideal S1024x1024 .bf16) (y : Vec Ideal S768x1024 .bf16) (i : Fin 1024) (j : Fin 768) :
    out0_2 x y (ix2 i j) = ∑ d : Fin 1024, times (x (ix2 i d)) (y (ix2 j d)) := by
  unfold out0_2
  rw [View.canon_unit_zero two_axes, View.ld_unit_zero two_axes, View.ld_unit_zero two_axes]
  unfold k0_pay1
  rw [shapeCast_self]
  exact dotNT_apply none _ _ i j

/-- The product with the last 768 rows of the weights. -/
def lastCols (X : S4096x1024.Idx → EReal) (W : S2816x1024.Idx → EReal) : S4096x768.Idx → EReal :=
  fun i => ∑ d : Fin 1024, X (ix2 (i 0) d) * W (ix2 (lastRow (i 1)) d)

theorem lastCols_apply (X : S4096x1024.Idx → EReal) (W : S2816x1024.Idx → EReal) (i : Fin 4096) (j : Fin 768) :
    lastCols X W (ix2 i j) = ∑ d : Fin 1024, X (ix2 i d) * W (ix2 (lastRow j) d) := rfl

/-- The result after the run. -/
theorem final : (dats m 0 c).arrAt 2 cfg0.N = lastCols (m ((c : Thread nD τ).loc main_arg0)) (m ((c : Thread nD τ).loc main_arg1)) := by
  refine (dats m 0 c).arrAt_eq_of_cover 2 (lastCols _ _) (fun t _ => ?_) fun i => ?_
  · rw [Value.flushed2]
    have ht := (at_point t).2.2.2
    funext x
    obtain ⟨r, k, rfl⟩ : ∃ (r : Fin 1024) (k : Fin 768), x = ix2 r k := ⟨x 0, x 1, eq_ix2 x⟩
    have hr : 1024 * (t.val) + r.val < 4096 := by have := r.isLt; omega
    rw [View.read_apply, out_place t r k ⟨_, hr⟩ rfl]
    refine (out_at _ _ r k).trans ?_
    refine Eq.trans (Finset.sum_congr rfl fun d _ => ?_) (lastCols_apply (m ((c : Thread nD τ).loc main_arg0)) (m ((c : Thread nD τ).loc main_arg1)) ⟨_, hr⟩ k).symm
    rw [left_block m c t r d ⟨_, hr⟩ rfl, right_block m c t k d, V_main_arg0, V_right]
  · have hN : cfg0.N = 4 := N_0
    have h0 : (i 0).val < 4096 := idx2_lt0 (n0 := 4096) (n1 := 768) i
    refine ⟨⟨(i 0).val / 1024, by omega⟩, flush0_2 _, ?_⟩
    exact Finset.mem_map.mpr ⟨ix2 ⟨(i 0).val % 1024, by omega⟩ (i 1), Finset.mem_univ _,
      (out_place _ _ _ (i 0) (by show (i 0).val = 1024 * (((i 0).val / 1024)) + (i 0).val % 1024; omega)).trans (eq_ix2 i).symm⟩

open Cert.ProjSwRefIdeal.Read in
/-- The reference's result. -/
theorem reference (X : S4096x1024.Idx → EReal) (Y : S2816x1024.Idx → EReal) : val_main_v4 (F := Ideal) X Y = lastCols X Y := by
  funext i
  rw [val_main_v4_apply, val_main_v3_apply]
  refine Finset.sum_congr rfl fun d _ => ?_
  rw [val_main_v0_apply, val_main_v2_apply, val_main_v1_apply]
  exact congrArg₂ times (congrArg X (ix2_of rfl rfl)) (congrArg Y (ix2_of rfl rfl))

/-- The reference runs, leaves its arguments and every counter at zero. -/
theorem frame_reference : Cert.quiescent_ProjSwRefIdeal (hProjSwRefIdeal := Cert.ProjSwRefIdeal.Gen.facts) := fun m ρ _ =>
  (θ_run Cert.ProjSwRefIdeal.defs _ _).mono (fun r h => ⟨fun c => (h c).2, Idealize.ShloMosaic.sem_eq_zero_of_no_sems (by decide) r.2⟩)
    (Cert.ProjSwRefIdeal.Value.run (F := Ideal) m ρ)

/-- The kernel and the reference end with equal results. -/
theorem algebraic : Cert.algebraic_ProjSwIdeal_ProjSwRefIdeal (hProjSwIdeal := Cert.ProjSwIdeal.Gen.facts)
    (hProjSwRefIdeal := Cert.ProjSwRefIdeal.Gen.facts) := fun m ρ m' ρ' _ hag =>
  ⟨fun c => lastCols (m ((c.tc : Thread nD τ).loc main_arg0)) (m ((c.tc : Thread nD τ).loc main_arg1)),
    (θ_run _ _ _).mono (fun _ h c => ⟨(h c).1.trans (final m c), (h c).2⟩) (Cert.ProjSwIdeal.Value.run_blocks m ρ),
    (θ_run _ _ _).mono (fun _ h c => by
      obtain ⟨e0, e1⟩ := hag c
      dsimp only
      rw [← e0, ← e1]
      exact ⟨(h c).1.trans ((Cert.ProjSwRefIdeal.Read.val_main_v4_eq _ _).trans (reference _ _)), (h c).2⟩) (Cert.ProjSwRefIdeal.Value.run m' ρ')⟩

end Cert.Products.ProjSw
-- ==== Proof.Norms.lean ====
/-
Rows of 1024 numbers divided by the root of their mean square, and the gradients through that, over extended real numbers.
-/
module

public import proofs.«01_k».proof.Proof.Products
public import proofs.«01_k».proof.Proof.Reals
public import Idealize.ShloMosaic.Lib.ValueLayout
public import Idealize.ShloMosaic.PureOps.Ideal.Laws

set_option maxRecDepth 16384

@[expose] public noncomputable section

namespace Cert.Products

open Idealize.ShloMosaic Idealize.ShloMosaic.ValueIdx

/-- An array of two axes. -/
abbrev Arr (n k : Nat) : Type := (⟨2, ![n, k]⟩ : Shape).Idx → EReal

/-- The number 1024, as the programs write it. -/
def count : EReal := Ideal.ofBits .f32 0x44800000#32
/-- The mean of a row's squares, and a little more. -/
def meanSq (x : Fin 1024 → EReal) : EReal := Ideal.div (∑ d, times (x d) (x d)) count + Ideal.ofBits .f32 0x358637BD#32
/-- The reciprocal of its square root. -/
def root (x : Fin 1024 → EReal) : EReal := Ideal.rsqrt (meanSq x)
/-- The part of a row's gradient that goes through the mean, half of it. -/
def through (x u : Fin 1024 → EReal) : EReal :=
  Ideal.div (times (∑ d, times (x d) (u d)) (times (Ideal.ofBits .f32 0xBF000000#32) (Ideal.div (root x) (meanSq x)))) count
/-- The gradient of a row `x` from the gradient `u` of its normed row, onto what is there already. -/
def back (x u : Fin 1024 → EReal) (k : Fin 1024) (res : EReal) : EReal :=
  plus res (plus (plus (times (u k) (root x)) (times (x k) (through x u))) (times (through x u) (x k)))

/-- An array's row. -/
def row {n k : Nat} (X : Arr n k) (i : Fin n) : Fin k → EReal := fun d => X (ix2 i d)
/-- A product added to what is there. -/
def onto {n k : Nat} (R : Arr n 1024) (Y : Arr n k) (W : Arr k 1024) : Arr n 1024 := fun i => plus (R i) (nn Y W i)
/-- Every row normed, and times the gain. -/
def normed {n : Nat} (X : Arr n 1024) (g : Arr 1 1024) : Arr n 1024 :=
  fun i => times (times (X i) (root (row X (i 0)))) (g (ix2 0 (i 1)))
/-- The gradient of the rows. -/
def gradRows {n : Nat} (X : Arr n 1024) (g : Arr 1 1024) (D R : Arr n 1024) : Arr n 1024 :=
  fun i => back (row X (i 0)) (fun d => times (D (ix2 (i 0) d)) (g (ix2 0 d))) (i 1) (R i)
/-- One row's part of the gradient of the gain. -/
def gainTerm {n : Nat} (X D : Arr n 1024) (i : Fin n) (j : Fin 1024) : EReal :=
  times (times (X (ix2 i j)) (root (row X i))) (D (ix2 i j))
/-- The gradient of the gain. -/
def gradGain {n : Nat} (X D : Arr n 1024) : Arr 1 1024 := fun j => ∑ i : Fin n, gainTerm X D i (j 1)

theorem row_congr {n n' k : Nat} {X : Arr n k} {X' : Arr n' k} {i : Fin n} {i' : Fin n'} (h : ∀ d, X (ix2 i d) = X' (ix2 i' d)) :
    row X i = row X' i' := funext h

theorem normed_congr {n n' : Nat} {X : Arr n 1024} {X' : Arr n' 1024} {g g' : Arr 1 1024} {i : Fin n} {i' : Fin n'}
    (h : ∀ d, X (ix2 i d) = X' (ix2 i' d)) (hg : ∀ d, g (ix2 0 d) = g' (ix2 0 d)) (j : Fin 1024) :
    normed X g (ix2 i j) = normed X' g' (ix2 i' j) := by
  show times (times (X (ix2 i j)) (root (row X i))) (g (ix2 0 j)) = times (times (X' (ix2 i' j)) (root (row X' i'))) (g' (ix2 0 j))
  rw [row_congr h, h j, hg j]

theorem gainTerm_congr {n n' : Nat} {X D : Arr n 1024} {X' D' : Arr n' 1024} {i : Fin n} {i' : Fin n'}
    (h : ∀ d, X (ix2 i d) = X' (ix2 i' d)) (hd : ∀ d, D (ix2 i d) = D' (ix2 i' d)) (j : Fin 1024) :
    gainTerm X D i j = gainTerm X' D' i' j := by
  unfold gainTerm
  rw [row_congr h, h j, hd j]

theorem gradRows_congr {n n' : Nat} {X D R : Arr n 1024} {X' D' R' : Arr n' 1024} {g g' : Arr 1 1024} {i : Fin n} {i' : Fin n'}
    (h : ∀ d, X (ix2 i d) = X' (ix2 i' d)) (hg : ∀ d, g (ix2 0 d) = g' (ix2 0 d)) (hd : ∀ d, D (ix2 i d) = D' (ix2 i' d))
    (hr : ∀ d, R (ix2 i d) = R' (ix2 i' d)) (j : Fin 1024) : gradRows X g D R (ix2 i j) = gradRows X' g' D' R' (ix2 i' j) := by
  show back (row X i) (fun d => times (D (ix2 i d)) (g (ix2 0 d))) j (R (ix2 i j))
    = back (row X' i') (fun d => times (D' (ix2 i' d)) (g' (ix2 0 d))) j (R' (ix2 i' j))
  rw [row_congr h, hr j, funext fun d => congrArg₂ times (hd d) (hg d)]

/-- The reciprocal root as the references spell it. -/
theorem host_root (x s : Fin 1024 → EReal) (h : ∀ d, s d = times (x d) (x d)) :
    Ideal.rsqrt (Ideal.div (Ideal.ofBits .f32 0x00000000#32 + ∑ d, s d) count + Ideal.ofBits .f32 0x358637BD#32) = root x := by
  rw [Ideal.ofBits_zero_f32, zero_add, Finset.sum_congr rfl fun d _ => h d]
  rfl

/-- The mean square as the references spell it. -/
theorem host_mean (x s : Fin 1024 → EReal) (h : ∀ d, s d = times (x d) (x d)) :
    plus (Ideal.div (Ideal.ofBits .f32 0x00000000#32 + ∑ d, s d) count) (Ideal.ofBits .f32 0x358637BD#32) = meanSq x := by
  rw [Ideal.ofBits_zero_f32, zero_add, Finset.sum_congr rfl fun d _ => h d]
  rfl

/-- Half the part through the mean, as the references spell it. -/
theorem host_through (x u s : Fin 1024 → EReal) (a b : EReal) (h : ∀ d, s d = times (x d) (u d)) (ha : a = root x) (hb : b = meanSq x) :
    plus (Ideal.ofBits .f32 0x00000000#32) (Ideal.div (times (plus (Ideal.ofBits .f32 0x00000000#32) (∑ d, s d))
      (times (Ideal.ofBits .f32 0xBF000000#32) (Ideal.div a b))) count) = through x u := by
  unfold plus
  rw [Ideal.ofBits_zero_f32, zero_add, zero_add, Finset.sum_congr rfl fun d _ => h d, ha, hb]
  rfl

/-! The kernels' operations on a block of rows. -/

section Block
variable {n : Nat}

theorem sum_along (x : FVec Ideal ⟨2, ![n, 1024]⟩ .f32) (h₁ : (⟨2, ![n, 1024]⟩ : Shape).Reduces [1] ⟨1, ![n]⟩)
    (h₂ h₃) (h₄ : (⟨1, ![n]⟩ : Shape).ShapeCasts ⟨2, ![n, 1]⟩) (i : Fin n) (j : Fin 1) :
    shapeCast ⟨2, ![n, 1]⟩ (multiReduction .add [1] ⟨1, ![n]⟩ x 0x00000000#32 h₁ h₂ h₃) h₄ (ix2 i j) = ∑ d : Fin 1024, x (ix2 i d) := by
  rw [shapeCast_a_a1_apply]
  refine (Ideal.multiReduction_add_single _ _ _ _ _ _).trans ?_
  refine Finset.sum_congr rfl fun (d : Fin 1024) _ => congrArg x ?_
  funext b
  match b with
  | ⟨0, _⟩ => rfl
  | ⟨1, _⟩ => rfl

theorem sum_down (x : FVec Ideal ⟨2, ![n, 1024]⟩ .f32) (h₁ : (⟨2, ![n, 1024]⟩ : Shape).Reduces [0] ⟨1, ![1024]⟩)
    (h₂ h₃) (h₄ : (⟨1, ![1024]⟩ : Shape).ShapeCasts ⟨2, ![1, 1024]⟩) (i : Fin 1) (j : Fin 1024) :
    shapeCast ⟨2, ![1, 1024]⟩ (multiReduction .add [0] ⟨1, ![1024]⟩ x 0x00000000#32 h₁ h₂ h₃) h₄ (ix2 i j) = ∑ d : Fin n, x (ix2 d j) := by
  rw [shapeCast_a_1a_apply]
  refine (Ideal.multiReduction_add_single _ _ _ _ _ _).trans ?_
  refine Finset.sum_congr rfl fun (d : Fin n) _ => congrArg x ?_
  funext b
  match b with
  | ⟨0, _⟩ => rfl
  | ⟨1, _⟩ => rfl

theorem spread_apply (x : FVec Ideal ⟨2, ![n, 1]⟩ .f32) (h : (⟨2, ![n, 1]⟩ : Shape).Broadcasts ⟨2, ![n, 1024]⟩) (i : Fin n) (j : Fin 1024) :
    broadcastTo ⟨2, ![n, 1024]⟩ x h (ix2 i j) = x (ix2 i (0 : Fin 1)) := by
  refine broadcastTo_apply x h (ix2 i j) (ix2 i (0 : Fin 1)) fun ax => ?_
  match ax with
  | ⟨0, _⟩ =>
    show i.val = if n = 1 then 0 else i.val
    split
    · have := i.isLt; omega
    · rfl
  | ⟨1, _⟩ => rfl

/-- The reciprocal root of each row. -/
theorem root_apply (x : FVec Ideal ⟨2, ![n, 1024]⟩ .f32) (h₁ : (⟨2, ![n, 1024]⟩ : Shape).Reduces [1] ⟨1, ![n]⟩)
    (h₂ h₃) (h₄ : (⟨1, ![n]⟩ : Shape).ShapeCasts ⟨2, ![n, 1]⟩) (i : Fin n) (j : Fin 1) :
    rsqrt (addf (divf (shapeCast ⟨2, ![n, 1]⟩ (multiReduction .add [1] ⟨1, ![n]⟩ (mulf x x) 0x00000000#32 h₁ h₂ h₃) h₄)
      (broadcast ⟨2, ![n, 1]⟩ (Scalar.ofBits (F := Ideal) .f32 0x44800000#32))) (broadcast ⟨2, ![n, 1]⟩ (Scalar.ofBits (F := Ideal) .f32 0x358637BD#32)))
      (ix2 i j) = root (row x i) :=
  congrArg (fun s => Ideal.rsqrt (Ideal.div s count + Ideal.ofBits .f32 0x358637BD#32)) (sum_along (mulf x x) h₁ h₂ h₃ h₄ i j)

/-- The normed rows. -/
theorem normed_apply (x : FVec Ideal ⟨2, ![n, 1024]⟩ .f32) (ρ : FVec Ideal ⟨2, ![n, 1]⟩ .f32) (g : FVec Ideal ⟨2, ![1, 1024]⟩ .f32)
    (hρ : ∀ i, ρ (ix2 i (0 : Fin 1)) = root (row x i)) (h₁ h₂) (i : Fin n) (j : Fin 1024) :
    mulf (mulf x (broadcastTo ⟨2, ![n, 1024]⟩ ρ h₁)) (broadcastTo ⟨2, ![n, 1024]⟩ g h₂) (ix2 i j) = normed x g (ix2 i j) := by
  show times (times (x (ix2 i j)) (broadcastTo ⟨2, ![n, 1024]⟩ ρ h₁ (ix2 i j))) (broadcastTo ⟨2, ![n, 1024]⟩ g h₂ (ix2 i j)) = _
  rw [spread_apply, hρ, broadcastTo_1b_ab_apply]
  rfl

/-- A block's part of the gradient of the gain. -/
theorem gain_apply (d x : FVec Ideal ⟨2, ![n, 1024]⟩ .f32) (ρ : FVec Ideal ⟨2, ![n, 1]⟩ .f32)
    (hρ : ∀ i, ρ (ix2 i (0 : Fin 1)) = root (row x i)) (h₁) (h₂ : (⟨2, ![n, 1024]⟩ : Shape).Reduces [0] ⟨1, ![1024]⟩)
    (h₃ h₄) (h₅ : (⟨1, ![1024]⟩ : Shape).ShapeCasts ⟨2, ![1, 1024]⟩) (i : Fin 1) (j : Fin 1024) :
    shapeCast ⟨2, ![1, 1024]⟩ (multiReduction .add [0] ⟨1, ![1024]⟩ (mulf (mulf d x) (broadcastTo ⟨2, ![n, 1024]⟩ ρ h₁)) 0x00000000#32 h₂ h₃ h₄) h₅ (ix2 i j)
      = ∑ r : Fin n, gainTerm x d r j := by
  rw [sum_down]
  refine Finset.sum_congr rfl fun r _ => ?_
  show times (times (d (ix2 r j)) (x (ix2 r j))) (broadcastTo ⟨2, ![n, 1024]⟩ ρ h₁ (ix2 r j)) = _
  rw [spread_apply, hρ]
  unfold gainTerm times
  rw [mul_comm (d (ix2 r j)), mul_assoc, mul_assoc, mul_comm (d (ix2 r j))]

end Block

theorem word_count : count = ((1024 : ℝ) : EReal) := by
  show Ideal.ofBits .f32 0x44800000#32 = _
  simp [Ideal.ofBits, Ideal.ieee, -EReal.coe_mul]; norm_num

theorem word_minus_half : Ideal.ofBits .f32 0xBF000000#32 = ((-(1 / 2) : ℝ) : EReal) := by
  simp [Ideal.ofBits, Ideal.ieee, -EReal.coe_mul]; norm_num

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The mean square is positive. -/
theorem meanSq_cases (x : Fin 1024 → EReal) : meanSq x = ⊤ ∨ ∃ w : ℝ, 0 < w ∧ meanSq x = (w : EReal) := by
  have hs : (0 : EReal) ≤ ∑ d, times (x d) (x d) := Finset.sum_nonneg fun d _ => square_nonneg (x d)
  have he : Ideal.ofBits .f32 0x358637BD#32 = ((XAttn.Row.eps : ℝ) : EReal) := XAttn.word_eps
  unfold meanSq
  rw [he, word_count]
  generalize (∑ d, times (x d) (x d)) = s at hs
  induction s using EReal.rec with
  | bot => exact absurd hs (by simp)
  | top =>
    left
    rw [Ideal.div_coe (by norm_num : (1024 : ℝ) ≠ 0), EReal.top_mul_coe_of_pos (by norm_num), EReal.top_add_coe]
  | coe s =>
    right
    refine ⟨s / 1024 + XAttn.Row.eps, add_pos_of_nonneg_of_pos (div_nonneg (EReal.coe_nonneg.mp hs) (by norm_num)) XAttn.Row.eps_pos, ?_⟩
    rw [XAttn.div_real (by norm_num), EReal.coe_add]

theorem double (y : EReal) : y + y = 2 * y := by
  induction y using EReal.rec with
  | bot => rw [show (2 : EReal) = ((2 : ℝ) : EReal) from rfl, EReal.coe_mul_bot_of_pos (by norm_num)]; rfl
  | top => rw [show (2 : EReal) = ((2 : ℝ) : EReal) from rfl, EReal.coe_mul_top_of_pos (by norm_num)]; rfl
  | coe y => rw [show (2 : EReal) = ((2 : ℝ) : EReal) from rfl, ← EReal.coe_add, ← EReal.coe_mul, two_mul]

/-- The gradient of a row, with the two halves through the mean written as one. -/
theorem back_eq (x u : Fin 1024 → EReal) (k : Fin 1024) (res : EReal) :
    plus (times (root x) (u k) - times (times (x k) (times (times (root x) (root x)) (root x))) (Ideal.div (∑ d, times (u d) (x d)) count)) res
      = back x u k res := by
  have hS : (∑ d, times (u d) (x d)) = ∑ d, times (x d) (u d) := Finset.sum_congr rfl fun d _ => mul_comm _ _
  rw [hS]
  unfold back through plus times
  rw [add_comm _ res]
  refine congrArg (fun z => res + z) ?_
  generalize (∑ d, x d * u d) = S
  rw [word_minus_half, word_count]
  unfold root
  rcases meanSq_cases x with h | ⟨w, hw, h⟩
  · rw [h]
    have e0 : Ideal.rsqrt ⊤ = 0 := rfl
    have e1 : Ideal.div 0 ⊤ = 0 := by
      unfold Ideal.div
      rw [if_neg (by simp), zero_mul]
    have e2 : Ideal.div 0 ((1024 : ℝ) : EReal) = 0 := by
      rw [Ideal.div_coe (by norm_num : (1024 : ℝ) ≠ 0), zero_mul]
    rw [e0, e1]
    simp only [zero_mul, mul_zero, e2, add_zero, sub_zero]
  · rw [h, Ideal.rsqrt_coe, if_neg (not_lt.mpr hw.le), if_neg hw.ne', XAttn.div_real hw.ne']
    set q : ℝ := (Real.sqrt w)⁻¹ with hq
    have hqq : q * q * q = q / w := by
      have h2 : q * q = w⁻¹ := by rw [hq, ← mul_inv, Real.mul_self_sqrt hw.le]
      rw [h2]; ring
    have hn : (1024 : ℝ) ≠ 0 := by norm_num
    rw [Ideal.div_coe hn, Ideal.div_coe hn, ← EReal.coe_mul, ← EReal.coe_mul, hqq]
    generalize (q / w) = c
    generalize ((1 / 1024 : ℝ) : EReal) = N
    rw [mul_comm (S * _ * N) (x k), add_assoc, double, mul_comm (u k), sub_eq_add_neg]
    refine congrArg (fun z => (q : EReal) * u k + z) ?_
    have hm : (2 : EReal) * (((-(1 / 2) : ℝ) : EReal)) = -1 := by
      rw [show (2 : EReal) = ((2 : ℝ) : EReal) from rfl, ← EReal.coe_mul, show (2 : ℝ) * -(1 / 2) = -1 by norm_num]; rfl
    have hz : (2 : EReal) * (x k * (S * (((-(1 / 2) : ℝ) : EReal) * (c : EReal)) * N))
        = (2 * (((-(1 / 2) : ℝ) : EReal))) * (x k * (c : EReal) * (S * N)) := by
      ac_rfl
    rw [hz, hm, neg_one_mul]

section Block
variable {n : Nat}

/-- The gradient of a block of rows. -/
theorem rows_apply (d x r : FVec Ideal ⟨2, ![n, 1024]⟩ .f32) (ρ : FVec Ideal ⟨2, ![n, 1]⟩ .f32) (g : FVec Ideal ⟨2, ![1, 1024]⟩ .f32)
    (hρ : ∀ i, ρ (ix2 i (0 : Fin 1)) = root (row x i)) (hs : (⟨2, ![n, 1]⟩ : Shape).Broadcasts ⟨2, ![n, 1024]⟩)
    (hg : (⟨2, ![1, 1024]⟩ : Shape).Broadcasts ⟨2, ![n, 1024]⟩) (h₁ : (⟨2, ![n, 1024]⟩ : Shape).Reduces [1] ⟨1, ![n]⟩)
    (h₂ h₃) (h₄ : (⟨1, ![n]⟩ : Shape).ShapeCasts ⟨2, ![n, 1]⟩) (i : Fin n) (j : Fin 1024) :
    addf (subf (mulf (broadcastTo ⟨2, ![n, 1024]⟩ ρ hs) (mulf d (broadcastTo ⟨2, ![n, 1024]⟩ g hg)))
      (mulf (mulf x (broadcastTo ⟨2, ![n, 1024]⟩ (mulf (mulf ρ ρ) ρ) hs))
        (broadcastTo ⟨2, ![n, 1024]⟩ (divf (shapeCast ⟨2, ![n, 1]⟩ (multiReduction .add [1] ⟨1, ![n]⟩
          (mulf (mulf d (broadcastTo ⟨2, ![n, 1024]⟩ g hg)) x) 0x00000000#32 h₁ h₂ h₃) h₄)
          (broadcast ⟨2, ![n, 1]⟩ (Scalar.ofBits (F := Ideal) .f32 0x44800000#32))) hs))) r (ix2 i j)
      = gradRows x g d r (ix2 i j) := by
  have hu : ∀ d' : Fin 1024, mulf d (broadcastTo ⟨2, ![n, 1024]⟩ g hg) (ix2 i d') = times (d (ix2 i d')) (g (ix2 0 d')) := fun d' =>
    congrArg (times (d (ix2 i d'))) (broadcastTo_1b_ab_apply ..)
  refine Eq.trans ?_ (back_eq (row x i) (fun d' => times (d (ix2 i d')) (g (ix2 0 d'))) j (r (ix2 i j)))
  show plus (times (broadcastTo ⟨2, ![n, 1024]⟩ ρ hs (ix2 i j)) (mulf d (broadcastTo ⟨2, ![n, 1024]⟩ g hg) (ix2 i j))
      - times (times (x (ix2 i j)) (broadcastTo ⟨2, ![n, 1024]⟩ (mulf (mulf ρ ρ) ρ) hs (ix2 i j)))
        (broadcastTo ⟨2, ![n, 1024]⟩ (divf (shapeCast ⟨2, ![n, 1]⟩ (multiReduction .add [1] ⟨1, ![n]⟩
          (mulf (mulf d (broadcastTo ⟨2, ![n, 1024]⟩ g hg)) x) 0x00000000#32 h₁ h₂ h₃) h₄)
          (broadcast ⟨2, ![n, 1]⟩ (Scalar.ofBits (F := Ideal) .f32 0x44800000#32))) hs (ix2 i j))) (r (ix2 i j)) = _
  rw [spread_apply, spread_apply, spread_apply, hρ, hu]
  have hm : mulf (mulf ρ ρ) ρ (ix2 i (0 : Fin 1)) = times (times (root (row x i)) (root (row x i))) (root (row x i)) := by
    rw [← hρ]; rfl
  rw [hm]
  have hd : divf (shapeCast ⟨2, ![n, 1]⟩ (multiReduction .add [1] ⟨1, ![n]⟩
          (mulf (mulf d (broadcastTo ⟨2, ![n, 1024]⟩ g hg)) x) 0x00000000#32 h₁ h₂ h₃) h₄)
          (broadcast ⟨2, ![n, 1]⟩ (Scalar.ofBits (F := Ideal) .f32 0x44800000#32)) (ix2 i (0 : Fin 1))
      = Ideal.div (∑ d', times (times (d (ix2 i d')) (g (ix2 0 d'))) (row x i d')) count := by
    refine congrArg (fun s => Ideal.div s count) ?_
    rw [sum_along]
    exact Finset.sum_congr rfl fun d' _ => congrArg (fun z => times z (x (ix2 i d'))) (hu d')
  rw [hd]
  rfl

end Block

end Cert.Products
-- ==== Proof.OutProj.lean ====
/-
The output projection onto the residual, and the sum's normed rows: what the kernel and the reference leave, place by place.
-/
module

public import proofs.«01_k».proof.Proof.Norms
public import proofs.«01_k».proof.Proof.Gen.OutProjIdeal.Value
public import proofs.«01_k».proof.Proof.Gen.OutProjRefIdeal.Read
public import proofs.«01_k».proof.Proof.Gen.OutProjRefIdeal.Run
public import proofs.«01_k».proof.Defs
public import Idealize.ShloMosaic.Lib.ValueLayout
public import Idealize.ShloMosaic.Lib.Quiescent

set_option maxRecDepth 16384

@[expose] public noncomputable section

namespace Cert.Products.OutProj

open Idealize.ShloMosaic Idealize.ShloMosaic.ValueIdx Idealize.ShloMosaic.TcCoe Idealize.SL.Sem
open Cert.OutProjIdeal Cert.OutProjIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 1024 + 1 * k.val = k.val; rw [e.2]; omega

/-- A place of the weights. -/
theorem weight_block (t : Fin cfg0.N) (r : Fin 1024) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 1024 + 1 * r.val = r.val; rw [e.1]; omega
  · show win0_1.index t 1 * 1024 + 1 * k.val = k.val; rw [e.2]; omega

/-- A place of what is added to. -/
theorem old_block (t : Fin cfg0.N) (r : Fin 1024) (k : Fin 1024) (sr : Fin 4096) (hsr : sr.val = 1024 * (t.val) + r.val) :
    iblk m c 2 t (ix2 r k) = V m c main_arg2 (ix2 sr k) := by
  have e := (at_point t).2.2.1
  unfold iblk
  rw [View.read_apply]
  refine congrArg (V m c main_arg2) (ix2_of ?_ ?_)
  · show win0_2.index t 0 * 1024 + 1 * r.val = sr.val; rw [e.1, hsr]; omega
  · show win0_2.index t 1 * 1024 + 1 * k.val = k.val; rw [e.2]; omega

/-- A place of the gain. -/
theorem gain_block (t : Fin cfg0.N) (r : Fin 1) (k : Fin 1024)  :
    iblk m c 3 t (ix2 r k) = V m c main_arg3 (ix2 r k) := by
  have e := (at_point t).2.2.2.1
  unfold iblk
  rw [View.read_apply]
  refine congrArg (V m c main_arg3) (ix2_of ?_ ?_)
  · show win0_3.index t 0 * 1 + 1 * r.val = r.val; rw [e.1]; omega
  · show win0_3.index t 1 * 1024 + 1 * k.val = k.val; rw [e.2]; omega

/-- Where a place of the block lies in the first result. -/
theorem sum_place (t : Fin cfg0.N) (r : Fin 1024) (k : Fin 1024) (sr : Fin 4096) (hsr : sr.val = 1024 * (t.val) + r.val) :
    ((cfg0.win 4).blk t).view.emb (ix2 r k) = (ix2 sr k : (⟨2, ![4096, 1024]⟩ : Shape).Idx) := by
  have e := (at_point t).2.2.2.2.1
  refine ix2_of ?_ ?_
  · show win0_4.index t 0 * 1024 + 1 * r.val = sr.val; rw [e.1, hsr]; omega
  · show win0_4.index t 1 * 1024 + 1 * k.val = k.val; rw [e.2]; omega

/-- Where a place of the block lies in the second result. -/
theorem normed_place (t : Fin cfg0.N) (r : Fin 1024) (k : Fin 1024) (sr : Fin 4096) (hsr : sr.val = 1024 * (t.val) + r.val) :
    ((cfg0.win 5).blk t).view.emb (ix2 r k) = (ix2 sr k : (⟨2, ![4096, 1024]⟩ : Shape).Idx) := by
  have e := (at_point t).2.2.2.2.2.1
  refine ix2_of ?_ ?_
  · show win0_5.index t 0 * 1024 + 1 * r.val = sr.val; rw [e.1, hsr]; omega
  · show win0_5.index t 1 * 1024 + 1 * k.val = k.val; rw [e.2]; omega

/-- The body's sum. -/
theorem sum_at (x : Vec Ideal S1024x1024 .f32) (w : Vec Ideal S1024x1024 .bf16) (z : Vec Ideal S1024x1024 .f32) (i : Fin 1024) (j : Fin 1024) :
    k0_pay1 x w z (ix2 i j) = onto z x w (ix2 i j) := by
  unfold k0_pay1
  refine (congrArg (plus · (z (ix2 i j))) (dotNN_apply none _ _ i j)).trans ?_
  exact add_comm _ _

/-- The body's normed rows. -/
theorem normed_at (x : Vec Ideal S1024x1024 .f32) (w : Vec Ideal S1024x1024 .bf16) (z : Vec Ideal S1024x1024 .f32) (g : Vec Ideal S1x1024 .f32)
    (i : Fin 1024) (j : Fin 1024) : k0_pay2 x w z g (ix2 i j) = normed (k0_pay1 x w z) g (ix2 i j) := by
  unfold k0_pay2
  exact normed_apply _ _ _ (fun i => root_apply _ _ _ _ _ i 0) _ _ i j

/-- A place of a block's sum, in the whole. -/
theorem sum_block (t : Fin cfg0.N) (r k : Fin 1024) (s : Fin 4096) (hs : s.val = 1024 * t.val + r.val) :
    k0_pay1 (iblk m c 0 t) (iblk m c 1 t) (iblk m c 2 t) (ix2 r k) = onto (m ((c : Thread nD τ).loc main_arg2)) (m ((c : Thread nD τ).loc main_arg0)) (m ((c : Thread nD τ).loc main_arg1)) (ix2 s k) := by
  rw [sum_at]
  refine congrArg₂ plus ?_ (Finset.sum_congr rfl fun d _ => ?_)
  · rw [old_block m c t r k s hs, V_main_arg2]
  · rw [left_block m c t r d s hs, weight_block m c t d k, V_main_arg0, V_main_arg1]

/-- The first result after the run. -/
theorem final_sum : (dats m 0 c).arrAt 4 cfg0.N = onto (m ((c : Thread nD τ).loc main_arg2)) (m ((c : Thread nD τ).loc main_arg0)) (m ((c : Thread nD τ).loc main_arg1)) := by
  refine (dats m 0 c).arrAt_eq_of_cover 4 (onto _ _ _) (fun t _ => ?_) fun i => ?_
  · rw [Value.flushed4]
    have ht := (at_point t).2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, sum_place t r k ⟨_, hr⟩ rfl]
    refine Eq.trans ?_ (sum_block m c t r k ⟨_, hr⟩ rfl)
    show out0_4 _ _ _ _ (ix2 r k) = _
    unfold out0_4
    rw [View.canon_unit_zero two_axes, View.ld_unit_zero two_axes, View.ld_unit_zero two_axes, View.ld_unit_zero two_axes]
  · have hN : cfg0.N = 4 := N_0
    have h0 : (i 0).val < 4096 := idx2_lt0 (n0 := 4096) (n1 := 1024) i
    refine ⟨⟨(i 0).val / 1024, by omega⟩, flush0_4 _, ?_⟩
    exact Finset.mem_map.mpr ⟨ix2 ⟨(i 0).val % 1024, by omega⟩ (i 1), Finset.mem_univ _,
      (sum_place _ _ _ (i 0) (by show (i 0).val = 1024 * ((i 0).val / 1024) + (i 0).val % 1024; omega)).trans (eq_ix2 i).symm⟩

/-- The second result after the run. -/
theorem final_normed : (dats m 0 c).arrAt 5 cfg0.N = normed (onto (m ((c : Thread nD τ).loc main_arg2)) (m ((c : Thread nD τ).loc main_arg0)) (m ((c : Thread nD τ).loc main_arg1))) (m ((c : Thread nD τ).loc main_arg3)) := by
  refine (dats m 0 c).arrAt_eq_of_cover 5 (normed (onto _ _ _) _) (fun t _ => ?_) fun i => ?_
  · rw [Value.flushed5]
    have ht := (at_point t).2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, normed_place t r k ⟨_, hr⟩ rfl]
    show out0_5 _ _ _ _ (ix2 r k) = _
    unfold out0_5
    rw [View.canon_unit_zero two_axes, View.ld_unit_zero two_axes, View.ld_unit_zero two_axes, View.ld_unit_zero two_axes, View.ld_unit_zero two_axes]
    refine (normed_at _ _ _ _ r k).trans (normed_congr (fun d => sum_block m c t r d ⟨_, hr⟩ rfl) (fun d => ?_) k)
    rw [gain_block m c t 0 d, V_main_arg3]
  · have hN : cfg0.N = 4 := N_0
    have h0 : (i 0).val < 4096 := idx2_lt0 (n0 := 4096) (n1 := 1024) i
    refine ⟨⟨(i 0).val / 1024, by omega⟩, flush0_5 _, ?_⟩
    exact Finset.mem_map.mpr ⟨ix2 ⟨(i 0).val % 1024, by omega⟩ (i 1), Finset.mem_univ _,
      (normed_place _ _ _ (i 0) (by show (i 0).val = 1024 * ((i 0).val / 1024) + (i 0).val % 1024; omega)).trans (eq_ix2 i).symm⟩

open Cert.OutProjRefIdeal.Read in
/-- The reference's sum. -/
theorem reference_sum (Y : S4096x1024.Idx → EReal) (W : S1024x1024.Idx → EReal) (R : S4096x1024.Idx → EReal) : val_main_v2 (F := Ideal) Y W R = onto R Y W := by
  funext i
  rw [val_main_v2_apply, val_main_v1_apply]
  refine congrArg (plus (R i)) (Finset.sum_congr rfl fun d _ => ?_)
  rw [val_main_v0_apply]
  exact congrArg₂ times (congrArg Y (ix2_of rfl rfl)) (congrArg W (ix2_of rfl rfl))

open Cert.OutProjRefIdeal.Read in
/-- The reciprocal root of each row, in the reference. -/
theorem reference_root (Y : S4096x1024.Idx → EReal) (W : S1024x1024.Idx → EReal) (R : S4096x1024.Idx → EReal) (i : S4096x1024.Idx) :
    val_main_v11 (F := Ideal) Y W R i = root (row (onto R Y W) (i 0)) := by
  rw [val_main_v11_apply, val_main_v10_apply, val_main_v9_apply, val_main_v7_apply, val_main_v5_apply, val_main_v4_apply, val_main_v6_apply, val_main_v8_apply, val_main_cst_apply, val_main_cst_0_apply, val_main_cst_1_apply]
  refine host_root (row (onto R Y W) (i 0)) _ fun d => ?_
  rw [val_main_v3_apply, reference_sum]
  exact congrArg₂ times (congrArg (onto R Y W) (ix2_of rfl rfl)) (congrArg (onto R Y W) (ix2_of rfl rfl))

open Cert.OutProjRefIdeal.Read in
/-- The reference's normed rows. -/
theorem reference_normed (Y : S4096x1024.Idx → EReal) (W : S1024x1024.Idx → EReal) (R : S4096x1024.Idx → EReal) (G : S1x1024.Idx → EReal) :
    val_main_v15 (F := Ideal) Y W R G = normed (onto R Y W) G := by
  funext i
  rw [val_main_v15_apply, val_main_v14_apply, val_main_v12_apply, val_main_v13_apply, reference_root, reference_sum]
  exact congrArg (times _) (congrArg G (ix2_of rfl rfl))

/-- The reference runs, leaves its arguments and every counter at zero. -/
theorem frame_reference : Cert.quiescent_OutProjRefIdeal (hOutProjRefIdeal := Cert.OutProjRefIdeal.Gen.facts) := fun m ρ _ =>
  (θ_run Cert.OutProjRefIdeal.defs _ _).mono (fun r h => ⟨fun c => (h c).2.2, Idealize.ShloMosaic.sem_eq_zero_of_no_sems (by decide) r.2⟩)
    (Cert.OutProjRefIdeal.Value.run (F := Ideal) m ρ)

/-- The kernel and the reference end with equal results. -/
theorem algebraic : Cert.algebraic_OutProjIdeal_OutProjRefIdeal (hOutProjIdeal := Cert.OutProjIdeal.Gen.facts)
    (hOutProjRefIdeal := Cert.OutProjRefIdeal.Gen.facts) := fun m ρ m' ρ' _ hag =>
  ⟨fun c => onto (m ((c.tc : Thread nD τ).loc main_arg2)) (m ((c.tc : Thread nD τ).loc main_arg0)) (m ((c.tc : Thread nD τ).loc main_arg1)), fun c => normed (onto (m ((c.tc : Thread nD τ).loc main_arg2)) (m ((c.tc : Thread nD τ).loc main_arg0)) (m ((c.tc : Thread nD τ).loc main_arg1))) (m ((c.tc : Thread nD τ).loc main_arg3)),
    (θ_run _ _ _).mono (fun _ h c => ⟨(h c).1.trans (final_sum m c), (h c).2.1.trans (final_normed m c), (h c).2.2⟩) (Cert.OutProjIdeal.Value.run_blocks m ρ),
    (θ_run _ _ _).mono (fun _ h c => by
      obtain ⟨e0, e1, e2, e3⟩ := hag c
      dsimp only
      rw [← e0, ← e1, ← e2, ← e3]
      exact ⟨(h c).1.trans ((Cert.OutProjRefIdeal.Read.val_main_v2_eq _ _ _).trans (reference_sum _ _ _)), (h c).2.1.trans ((Cert.OutProjRefIdeal.Read.val_main_v15_eq _ _ _ _).trans (reference_normed _ _ _ _)), (h c).2.2⟩) (Cert.OutProjRefIdeal.Value.run m' ρ')⟩

end Cert.Products.OutProj
-- ==== Proof.DMix.lean ====
/-
The gradient of the mixed heads' outputs: what the kernel and the reference leave, place by place.
-/
module

public import proofs.«01_k».proof.Proof.Products
public import proofs.«01_k».proof.Proof.Gen.DMixIdeal.Value
public import proofs.«01_k».proof.Proof.Gen.DMixRefIdeal.Read
public import proofs.«01_k».proof.Proof.Gen.DMixRefIdeal.Run
public import proofs.«01_k».proof.Defs
public import Idealize.ShloMosaic.Lib.ValueLayout
public import Idealize.ShloMosaic.Lib.Quiescent

set_option maxRecDepth 16384

@[expose] public noncomputable section

namespace Cert.Products.DMix

open Idealize.ShloMosaic Idealize.ShloMosaic.ValueIdx Idealize.ShloMosaic.TcCoe Idealize.SL.Sem
open Cert.DMixIdeal Cert.DMixIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg2 (ix2 sr k) := by
  have e := (at_point t).1
  unfold iblk
  rw [View.read_apply]
  refine congrArg (V m c main_arg2) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 1024) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 1024 + 1 * r.val = r.val; rw [e.1]; omega
  · show win0_1.index t 1 * 1024 + 1 * k.val = k.val; rw [e.2]; omega

/-- Where a place of the block lies in the result. -/
theorem out_place (t : Fin cfg0.N) (r : Fin 1024) (k : Fin 1024) (sr : Fin 4096) (hsr : sr.val = 1024 * (t.val) + r.val) :
    ((cfg0.win 2).blk t).view.emb (ix2 r k) = (ix2 sr k : (⟨2, ![4096, 1024]⟩ : Shape).Idx) := by
  have e := (at_point t).2.2.1
  refine ix2_of ?_ ?_
  · show win0_2.index t 0 * 1024 + 1 * r.val = sr.val; rw [e.1, hsr]; omega
  · show win0_2.index t 1 * 1024 + 1 * k.val = k.val; rw [e.2]; omega

/-- The body's product. -/
theorem out_at (x : Vec Ideal S1024x1024 .bf16) (y : Vec Ideal S1024x1024 .bf16) (i : Fin 1024) (j : Fin 1024) :
    out0_2 x y (ix2 i j) = ∑ d : Fin 1024, times (x (ix2 i d)) (y (ix2 j d)) := by
  unfold out0_2
  rw [View.canon_unit_zero two_axes, View.ld_unit_zero two_axes, View.ld_unit_zero two_axes]
  unfold k0_pay1
  exact dotNT_apply none _ _ i j

/-- The result after the run. -/
theorem final : (dats m 0 c).arrAt 2 cfg0.N = nt (m ((c : Thread nD τ).loc main_arg2)) (m ((c : Thread nD τ).loc main_arg1)) := by
  refine (dats m 0 c).arrAt_eq_of_cover 2 (nt _ _) (fun t _ => ?_) fun i => ?_
  · rw [Value.flushed2]
    have ht := (at_point t).2.2.2
    funext x
    obtain ⟨r, k, rfl⟩ : ∃ (r : Fin 1024) (k : Fin 1024), x = ix2 r k := ⟨x 0, x 1, eq_ix2 x⟩
    have hr : 1024 * (t.val) + r.val < 4096 := by have := r.isLt; omega
    rw [View.read_apply, out_place t r k ⟨_, hr⟩ rfl]
    refine (out_at _ _ r k).trans ?_
    refine Eq.trans (Finset.sum_congr rfl fun d _ => ?_) (nt_apply (m ((c : Thread nD τ).loc main_arg2)) (m ((c : Thread nD τ).loc main_arg1)) ⟨_, hr⟩ k).symm
    rw [left_block m c t r d ⟨_, hr⟩ rfl, right_block m c t k d, V_main_arg2, V_main_arg1]
  · have hN : cfg0.N = 4 := N_0
    have h0 : (i 0).val < 4096 := idx2_lt0 (n0 := 4096) (n1 := 1024) i
    refine ⟨⟨(i 0).val / 1024, by omega⟩, flush0_2 _, ?_⟩
    exact Finset.mem_map.mpr ⟨ix2 ⟨(i 0).val % 1024, by omega⟩ (i 1), Finset.mem_univ _,
      (out_place _ _ _ (i 0) (by show (i 0).val = 1024 * (((i 0).val / 1024)) + (i 0).val % 1024; omega)).trans (eq_ix2 i).symm⟩

open Cert.DMixRefIdeal.Read in
/-- The reference's result. -/
theorem reference (X : S4096x1024.Idx → EReal) (Y : S1024x1024.Idx → EReal) : val_main_v3 (F := Ideal) Y X = nt X Y := by
  funext i
  rw [val_main_v3_apply]
  refine Finset.sum_congr rfl fun d _ => ?_
  rw [val_main_v1_apply, val_main_v0_apply]
  exact congrArg₂ times (congrArg X (ix2_of rfl rfl)) (congrArg Y (ix2_of rfl rfl))

/-- The reference runs, leaves its arguments and every counter at zero. -/
theorem frame_reference : Cert.quiescent_DMixRefIdeal (hDMixRefIdeal := Cert.DMixRefIdeal.Gen.facts) := fun m ρ _ =>
  (θ_run Cert.DMixRefIdeal.defs _ _).mono (fun r h => ⟨fun c => (h c).2, Idealize.ShloMosaic.sem_eq_zero_of_no_sems (by decide) r.2⟩)
    (Cert.DMixRefIdeal.Value.run (F := Ideal) m ρ)

/-- The kernel and the reference end with equal results. -/
theorem algebraic : Cert.algebraic_DMixIdeal_DMixRefIdeal (hDMixIdeal := Cert.DMixIdeal.Gen.facts)
    (hDMixRefIdeal := Cert.DMixRefIdeal.Gen.facts) := fun m ρ m' ρ' _ hag =>
  ⟨fun c => nt (m ((c.tc : Thread nD τ).loc main_arg2)) (m ((c.tc : Thread nD τ).loc main_arg1)),
    (θ_run _ _ _).mono (fun _ h c => ⟨(h c).1.trans (final m c), (h c).2⟩) (Cert.DMixIdeal.Value.run_blocks m ρ),
    (θ_run _ _ _).mono (fun _ h c => by
      obtain ⟨e0, e1, e2⟩ := hag c
      dsimp only
      rw [← e1, ← e2]
      exact ⟨(h c).1.trans ((Cert.DMixRefIdeal.Read.val_main_v3_eq _ _).trans (reference _ _)), (h c).2⟩) (Cert.DMixRefIdeal.Value.run m' ρ')⟩

end Cert.Products.DMix
-- ==== Proof.GWout.lean ====
/-
The gradient of the output weights: what the kernel and the reference leave, place by place.
-/
module

public import proofs.«01_k».proof.Proof.Products
public import proofs.«01_k».proof.Proof.Gen.GWoutIdeal.Value
public import proofs.«01_k».proof.Proof.Gen.GWoutRefIdeal.Read
public import proofs.«01_k».proof.Proof.Gen.GWoutRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.GWout

open Idealize.ShloMosaic Idealize.ShloMosaic.ValueIdx Idealize.ShloMosaic.TcCoe Idealize.SL.Sem
open Cert.GWoutIdeal Cert.GWoutIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = t.val ∧ win0_1.index t 1 = 0) ∧ (win0_2.index t 0 = 0 ∧ win0_2.index t 1 = 0) ∧ t.val < 2 := by
  rcases fin_N0 t with rfl | rfl <;> decide +kernel

/-- A place of the left block. -/
theorem left_block (t : Fin cfg0.N) (r : Fin 2048) (k : Fin 1024) (sr : Fin 4096) (hsr : sr.val = 2048 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 2048 + 1 * r.val = sr.val; rw [e.1, hsr]; omega
  · show win0_0.index t 1 * 1024 + 1 * k.val = k.val; rw [e.2]; omega

/-- A place of the right block. -/
theorem right_block (t : Fin cfg0.N) (r : Fin 2048) (k : Fin 1024) (sr : Fin 4096) (hsr : sr.val = 2048 * (t.val) + r.val) :
    iblk m c 1 t (ix2 r k) = V m c main_arg2 (ix2 sr k) := by
  have e := (at_point t).2.1
  unfold iblk
  rw [View.read_apply]
  refine congrArg (V m c main_arg2) (ix2_of ?_ ?_)
  · show win0_1.index t 0 * 2048 + 1 * r.val = sr.val; rw [e.1, hsr]; omega
  · show win0_1.index t 1 * 1024 + 1 * k.val = k.val; rw [e.2]; omega

/-- Where a place of the block lies in the result. -/
theorem out_place (t : Fin cfg0.N) (r : Fin 1024) (k : Fin 1024)  :
    ((cfg0.win 2).blk t).view.emb (ix2 r k) = (ix2 r k : (⟨2, ![1024, 1024]⟩ : Shape).Idx) := by
  have e := (at_point t).2.2.1
  refine ix2_of ?_ ?_
  · show win0_2.index t 0 * 1024 + 1 * r.val = r.val; rw [e.1]; omega
  · show win0_2.index t 1 * 1024 + 1 * k.val = k.val; rw [e.2]; omega

/-- The product of the two blocks of a point. -/
def part (t : Fin cfg0.N) : S1024x1024.Idx → EReal := tn (iblk m c 0 t : Vec Ideal S2048x1024 .f32) (iblk m c 1 t : Vec Ideal S2048x1024 .bf16)

/-- The body adds the product to what the scratch held. -/
theorem add_at (a : Vec Ideal S1024x1024 .f32) (x : Vec Ideal S2048x1024 .f32) (y : Vec Ideal S2048x1024 .bf16) (i : S1024x1024.Idx) :
    k0_pay2 a x y i = plus (a i) (tn x y i) := by
  obtain ⟨r, k, rfl⟩ : ∃ (r : Fin 1024) (k : Fin 1024), i = ix2 r k := ⟨i 0, i 1, eq_ix2 i⟩
  unfold k0_pay2
  rw [shapeCast_self]
  exact congrArg (plus (a (ix2 r k))) (dotTN_apply none _ _ r k)

/-- The scratch after the last point. -/
theorem scratch (t : Fin cfg0.N) (ht : t.val % 2 = 2 - 1) (i : S1024x1024.Idx) :
    (outsAt0 m c t.val t.isLt).2 i = ∑ s : Fin 2, part m c ⟨2 * (t.val / 2) + s.val, Pipeline.run_point_lt_of_flush t ht s⟩ i := by
  refine (Pipeline.eq_sum_fin_of_reset_step_apply_of_flush (M := EReal) (fun n h => (outsAt0 m c n h).2) 2 (fun _ => 0) (part m c) ?_ ?_ t ht i).trans (zero_add _)
  · intro t h0 i
    have h1 : ¬t.val % 2 = 1 := by omega
    show (outsAt0 m c t.val t.isLt).2 i = _
    rw [outsAt0_A m c t h0 h1]
    frame_out
    refine (add_at _ _ _ i).trans (congrArg (plus · _) ?_)
    unfold k0_pay1
    rw [shapeCast_self]
    exact Ideal.ofBits_zero_f32
  · intro t h0 i
    show (outsAt0 m c t.val t.isLt).2 i = _
    rw [outsAt0_B m c t h0 (by omega)]
    frame_out
    rw [(Memref.isWhole_whole _).read_unread]
    exact add_at _ _ _ i

/-- What the last point writes back. -/
theorem out_at (t : Fin cfg0.N) (ht : t.val % 2 = 2 - 1) : (outsAt0 m c t.val t.isLt).1 = (outsAt0 m c t.val t.isLt).2 := by
  have h0 : ¬t.val % 2 = 0 := by omega
  rw [outsAt0_B m c t h0 ht]
  frame_out

/-- The result after the run. -/
theorem final : (dats m 0 c).arrAt 2 cfg0.N = tn (m ((c : Thread nD τ).loc main_arg0)) (m ((c : Thread nD τ).loc main_arg2)) := by
  have hN : cfg0.N = 2 := N_0
  refine (dats m 0 c).arrAt_eq_of_cover 2 (tn _ _) (fun t hf => ?_) fun i => ?_
  · rw [Value.flushed2]
    have ht : t.val % 2 = 2 - 1 := (flush0_2 t).mp hf
    have h0 : t.val / 2 = 0 := by have := (at_point t).2.2.2; omega
    funext x
    obtain ⟨r, k, rfl⟩ : ∃ (r : Fin 1024) (k : Fin 1024), x = ix2 r k := ⟨x 0, x 1, eq_ix2 x⟩
    rw [View.read_apply, out_place t r k]
    refine ((congrFun (out_at m c t ht) (ix2 r k)).trans (scratch m c t ht (ix2 r k))).trans ?_
    refine (Fin.sum_mul_add_congr fun s d hl => ?_).trans (tn_apply (m ((c : Thread nD τ).loc main_arg0)) (m ((c : Thread nD τ).loc main_arg2)) r k).symm
    have hs : 2048 * (2 * (t.val / 2) + s.val) + d.val < 4096 := by have := s.isLt; have := d.isLt; omega
    have e : (⟨s.val * 2048 + d.val, hl⟩ : Fin 4096) = ⟨2048 * (2 * (t.val / 2) + s.val) + d.val, hs⟩ :=
      Fin.ext (by show s.val * 2048 + d.val = 2048 * (2 * (t.val / 2) + s.val) + d.val; omega)
    rw [left_block m c _ d r ⟨_, hs⟩ rfl, right_block m c _ d k ⟨_, hs⟩ rfl, V_main_arg0, V_main_arg2, e]
  · refine ⟨⟨1, by omega⟩, (flush0_2 _).mpr rfl, ?_⟩
    exact Finset.mem_map.mpr ⟨ix2 (i 0) (i 1), Finset.mem_univ _, (out_place _ _ _).trans (eq_ix2 i).symm⟩

open Cert.GWoutRefIdeal.Read in
/-- The reference's result. -/
theorem reference (X : S4096x1024.Idx → EReal) (Y : S4096x1024.Idx → EReal) : val_main_v4 (F := Ideal) X Y = tn X Y := by
  funext i
  rw [val_main_v4_apply, val_main_v3_apply]
  refine Finset.sum_congr rfl fun d _ => ?_
  rw [val_main_v1_apply]
  refine (mul_comm _ _).trans ?_
  exact congrArg₂ times (congrArg X (ix2_of rfl rfl)) (congrArg Y (ix2_of rfl rfl))

/-- The reference runs, leaves its arguments and every counter at zero. -/
theorem frame_reference : Cert.quiescent_GWoutRefIdeal (hGWoutRefIdeal := Cert.GWoutRefIdeal.Gen.facts) := fun m ρ _ =>
  (θ_run Cert.GWoutRefIdeal.defs _ _).mono (fun r h => ⟨fun c => (h c).2, Idealize.ShloMosaic.sem_eq_zero_of_no_sems (by decide) r.2⟩)
    (Cert.GWoutRefIdeal.Value.run (F := Ideal) m ρ)

/-- The kernel and the reference end with equal results. -/
theorem algebraic : Cert.algebraic_GWoutIdeal_GWoutRefIdeal (hGWoutIdeal := Cert.GWoutIdeal.Gen.facts)
    (hGWoutRefIdeal := Cert.GWoutRefIdeal.Gen.facts) := fun m ρ m' ρ' _ hag =>
  ⟨fun c => tn (m ((c.tc : Thread nD τ).loc main_arg0)) (m ((c.tc : Thread nD τ).loc main_arg2)),
    (θ_run _ _ _).mono (fun _ h c => ⟨(h c).1.trans (final m c), (h c).2⟩) (Cert.GWoutIdeal.Value.run_blocks m ρ),
    (θ_run _ _ _).mono (fun _ h c => by
      obtain ⟨e0, e1, e2⟩ := hag c
      dsimp only
      rw [← e0, ← e2]
      exact ⟨(h c).1.trans ((Cert.GWoutRefIdeal.Read.val_main_v4_eq _ _).trans (reference _ _)), (h c).2⟩) (Cert.GWoutRefIdeal.Value.run m' ρ')⟩

end Cert.Products.GWout
-- ==== Proof.XaQ.lean ====
/-
The cross-attention's query product: what the kernel and the reference leave, place by place.
-/
module

public import proofs.«01_k».proof.Proof.Products
public import proofs.«01_k».proof.Proof.Gen.XaQIdeal.Value
public import proofs.«01_k».proof.Proof.Gen.XaQRefIdeal.Read
public import proofs.«01_k».proof.Proof.Gen.XaQRefIdeal.Run
public import proofs.«01_k».proof.Defs
public import Idealize.ShloMosaic.Lib.ValueLayout
public import Idealize.ShloMosaic.Lib.Quiescent

set_option maxRecDepth 16384

@[expose] public noncomputable section

namespace Cert.Products.XaQ

open Idealize.ShloMosaic Idealize.ShloMosaic.ValueIdx Idealize.ShloMosaic.TcCoe Idealize.SL.Sem
open Cert.XaQIdeal Cert.XaQIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 1024) (k : Fin 512)  :
    iblk m c 1 t (ix2 r k) = V m c main_arg1 (ix2 r k) := by
  have e := (at_point t).2.1
  unfold iblk
  rw [View.read_apply]
  refine congrArg (V m c main_arg1) (ix2_of ?_ ?_)
  · show win0_1.index t 0 * 1024 + 1 * r.val = r.val; rw [e.1]; omega
  · show win0_1.index t 1 * 512 + 1 * k.val = k.val; rw [e.2]; omega

/-- Where a place of the block lies in the result. -/
theorem out_place (t : Fin cfg0.N) (r : Fin 1024) (k : Fin 512) (sr : Fin 4096) (hsr : sr.val = 1024 * (t.val) + r.val) :
    ((cfg0.win 2).blk t).view.emb (ix2 r k) = (ix2 sr k : (⟨2, ![4096, 512]⟩ : Shape).Idx) := by
  have e := (at_point t).2.2.1
  refine ix2_of ?_ ?_
  · show win0_2.index t 0 * 1024 + 1 * r.val = sr.val; rw [e.1, hsr]; omega
  · show win0_2.index t 1 * 512 + 1 * k.val = k.val; rw [e.2]; omega

/-- The body's product. -/
theorem out_at (x : Vec Ideal S1024x1024 .bf16) (y : Vec Ideal S1024x512 .bf16) (i : Fin 1024) (j : Fin 512) :
    out0_2 x y (ix2 i j) = ∑ d : Fin 1024, times (x (ix2 i d)) (y (ix2 d j)) := by
  unfold out0_2
  rw [View.canon_unit_zero two_axes, View.ld_unit_zero two_axes, View.ld_unit_zero two_axes]
  unfold k0_pay1
  exact dotNN_apply none _ _ i j

/-- The result after the run. -/
theorem final : (dats m 0 c).arrAt 2 cfg0.N = nn (m ((c : Thread nD τ).loc main_arg0)) (m ((c : Thread nD τ).loc main_arg1)) := by
  refine (dats m 0 c).arrAt_eq_of_cover 2 (nn _ _) (fun t _ => ?_) fun i => ?_
  · rw [Value.flushed2]
    have ht := (at_point t).2.2.2
    funext x
    obtain ⟨r, k, rfl⟩ : ∃ (r : Fin 1024) (k : Fin 512), x = ix2 r k := ⟨x 0, x 1, eq_ix2 x⟩
    have hr : 1024 * (t.val) + r.val < 4096 := by have := r.isLt; omega
    rw [View.read_apply, out_place t r k ⟨_, hr⟩ rfl]
    refine (out_at _ _ r k).trans ?_
    refine Eq.trans (Finset.sum_congr rfl fun d _ => ?_) (nn_apply (m ((c : Thread nD τ).loc main_arg0)) (m ((c : Thread nD τ).loc main_arg1)) ⟨_, hr⟩ k).symm
    rw [left_block m c t r d ⟨_, hr⟩ rfl, right_block m c t d k, V_main_arg0, V_main_arg1]
  · have hN : cfg0.N = 4 := N_0
    have h0 : (i 0).val < 4096 := idx2_lt0 (n0 := 4096) (n1 := 512) i
    refine ⟨⟨(i 0).val / 1024, by omega⟩, flush0_2 _, ?_⟩
    exact Finset.mem_map.mpr ⟨ix2 ⟨(i 0).val % 1024, by omega⟩ (i 1), Finset.mem_univ _,
      (out_place _ _ _ (i 0) (by show (i 0).val = 1024 * (((i 0).val / 1024)) + (i 0).val % 1024; omega)).trans (eq_ix2 i).symm⟩

open Cert.XaQRefIdeal.Read in
/-- The reference's result. -/
theorem reference (X : S4096x1024.Idx → EReal) (Y : S1024x512.Idx → EReal) : val_main_v2 (F := Ideal) X Y = nn X Y := by
  funext i
  rw [val_main_v2_apply]
  refine Finset.sum_congr rfl fun d _ => ?_
  rw [val_main_v0_apply, val_main_v1_apply]
  exact congrArg₂ times (congrArg X (ix2_of rfl rfl)) (congrArg Y (ix2_of rfl rfl))

/-- The reference runs, leaves its arguments and every counter at zero. -/
theorem frame_reference : Cert.quiescent_XaQRefIdeal (hXaQRefIdeal := Cert.XaQRefIdeal.Gen.facts) := fun m ρ _ =>
  (θ_run Cert.XaQRefIdeal.defs _ _).mono (fun r h => ⟨fun c => (h c).2, Idealize.ShloMosaic.sem_eq_zero_of_no_sems (by decide) r.2⟩)
    (Cert.XaQRefIdeal.Value.run (F := Ideal) m ρ)

/-- The kernel and the reference end with equal results. -/
theorem algebraic : Cert.algebraic_XaQIdeal_XaQRefIdeal (hXaQIdeal := Cert.XaQIdeal.Gen.facts)
    (hXaQRefIdeal := Cert.XaQRefIdeal.Gen.facts) := fun m ρ m' ρ' _ hag =>
  ⟨fun c => nn (m ((c.tc : Thread nD τ).loc main_arg0)) (m ((c.tc : Thread nD τ).loc main_arg1)),
    (θ_run _ _ _).mono (fun _ h c => ⟨(h c).1.trans (final m c), (h c).2⟩) (Cert.XaQIdeal.Value.run_blocks m ρ),
    (θ_run _ _ _).mono (fun _ h c => by
      obtain ⟨e0, e1⟩ := hag c
      dsimp only
      rw [← e0, ← e1]
      exact ⟨(h c).1.trans ((Cert.XaQRefIdeal.Read.val_main_v2_eq _ _).trans (reference _ _)), (h c).2⟩) (Cert.XaQRefIdeal.Value.run m' ρ')⟩

end Cert.Products.XaQ
-- ==== Proof.XaKv.lean ====
/-
The cross-attention's key and value product: what the kernel and the reference leave, place by place.
-/
module

public import proofs.«01_k».proof.Proof.Products
public import proofs.«01_k».proof.Proof.Gen.XaKvIdeal.Value
public import proofs.«01_k».proof.Proof.Gen.XaKvRefIdeal.Read
public import proofs.«01_k».proof.Proof.Gen.XaKvRefIdeal.Run
public import proofs.«01_k».proof.Defs
public import Idealize.ShloMosaic.Lib.ValueLayout
public import Idealize.ShloMosaic.Lib.Quiescent

set_option maxRecDepth 16384

@[expose] public noncomputable section

namespace Cert.Products.XaKv

open Idealize.ShloMosaic Idealize.ShloMosaic.ValueIdx Idealize.ShloMosaic.TcCoe Idealize.SL.Sem
open Cert.XaKvIdeal Cert.XaKvIdeal.Gen

variable (m : (ℓ : Loc nD τ sig) → Buf (Elt Ideal) ℓ) (c : Dev nD)

/-- Where the windows stand at a point. -/
theorem at_point (t : Fin cfg0.N) :
    (win0_0.index t 0 = 0 ∧ win0_0.index t 1 = 0) ∧ (win0_1.index t 0 = 0 ∧ win0_1.index t 1 = 0) ∧ (win0_2.index t 0 = 0 ∧ win0_2.index t 1 = 0) ∧ t.val < 1 := by
  rcases fin_N0 t with rfl <;> decide +kernel

/-- A place of the left block. -/
theorem left_block (t : Fin cfg0.N) (r : Fin 512) (k : Fin 1024)  :
    iblk m c 0 t (ix2 r k) = V m c main_arg0 (ix2 r k) := by
  have e := (at_point t).1
  unfold iblk
  rw [View.read_apply]
  refine congrArg (V m c main_arg0) (ix2_of ?_ ?_)
  · show win0_0.index t 0 * 512 + 1 * r.val = r.val; rw [e.1]; omega
  · show win0_0.index t 1 * 1024 + 1 * k.val = k.val; rw [e.2]; omega

/-- A place of the right block. -/
theorem right_block (t : Fin cfg0.N) (r : Fin 1024) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 1024 + 1 * r.val = r.val; rw [e.1]; omega
  · show win0_1.index t 1 * 1024 + 1 * k.val = k.val; rw [e.2]; omega

/-- Where a place of the block lies in the result. -/
theorem out_place (t : Fin cfg0.N) (r : Fin 512) (k : Fin 1024)  :
    ((cfg0.win 2).blk t).view.emb (ix2 r k) = (ix2 r k : (⟨2, ![512, 1024]⟩ : Shape).Idx) := by
  have e := (at_point t).2.2.1
  refine ix2_of ?_ ?_
  · show win0_2.index t 0 * 512 + 1 * r.val = r.val; rw [e.1]; omega
  · show win0_2.index t 1 * 1024 + 1 * k.val = k.val; rw [e.2]; omega

/-- The body's product. -/
theorem out_at (x : Vec Ideal S512x1024 .bf16) (y : Vec Ideal S1024x1024 .bf16) (i : Fin 512) (j : Fin 1024) :
    out0_2 x y (ix2 i j) = ∑ d : Fin 1024, times (x (ix2 i d)) (y (ix2 d j)) := by
  unfold out0_2
  rw [View.canon_unit_zero two_axes, View.ld_unit_zero two_axes, View.ld_unit_zero two_axes]
  unfold k0_pay1
  exact dotNN_apply none _ _ i j

/-- The result after the run. -/
theorem final : (dats m 0 c).arrAt 2 cfg0.N = nn (m ((c : Thread nD τ).loc main_arg0)) (m ((c : Thread nD τ).loc main_arg1)) := by
  refine (dats m 0 c).arrAt_eq_of_cover 2 (nn _ _) (fun t _ => ?_) fun i => ?_
  · rw [Value.flushed2]
    have ht := (at_point t).2.2.2
    funext x
    obtain ⟨r, k, rfl⟩ : ∃ (r : Fin 512) (k : Fin 1024), x = ix2 r k := ⟨x 0, x 1, eq_ix2 x⟩
    rw [View.read_apply, out_place t r k ]
    refine (out_at _ _ r k).trans ?_
    refine Eq.trans (Finset.sum_congr rfl fun d _ => ?_) (nn_apply (m ((c : Thread nD τ).loc main_arg0)) (m ((c : Thread nD τ).loc main_arg1)) r k).symm
    rw [left_block m c t r d, right_block m c t d k, V_main_arg0, V_main_arg1]
  · have hN : cfg0.N = 1 := N_0
    refine ⟨⟨0, by omega⟩, flush0_2 _, ?_⟩
    exact Finset.mem_map.mpr ⟨ix2 (i 0) (i 1), Finset.mem_univ _,
      (out_place _ _ _).trans (eq_ix2 i).symm⟩

open Cert.XaKvRefIdeal.Read in
/-- The reference's result. -/
theorem reference (X : S512x1024.Idx → EReal) (Y : S1024x1024.Idx → EReal) : val_main_v2 (F := Ideal) X Y = nn X Y := by
  funext i
  rw [val_main_v2_apply]
  refine Finset.sum_congr rfl fun d _ => ?_
  rw [val_main_v0_apply, val_main_v1_apply]
  exact congrArg₂ times (congrArg X (ix2_of rfl rfl)) (congrArg Y (ix2_of rfl rfl))

/-- The reference runs, leaves its arguments and every counter at zero. -/
theorem frame_reference : Cert.quiescent_XaKvRefIdeal (hXaKvRefIdeal := Cert.XaKvRefIdeal.Gen.facts) := fun m ρ _ =>
  (θ_run Cert.XaKvRefIdeal.defs _ _).mono (fun r h => ⟨fun c => (h c).2, Idealize.ShloMosaic.sem_eq_zero_of_no_sems (by decide) r.2⟩)
    (Cert.XaKvRefIdeal.Value.run (F := Ideal) m ρ)

/-- The kernel and the reference end with equal results. -/
theorem algebraic : Cert.algebraic_XaKvIdeal_XaKvRefIdeal (hXaKvIdeal := Cert.XaKvIdeal.Gen.facts)
    (hXaKvRefIdeal := Cert.XaKvRefIdeal.Gen.facts) := fun m ρ m' ρ' _ hag =>
  ⟨fun c => nn (m ((c.tc : Thread nD τ).loc main_arg0)) (m ((c.tc : Thread nD τ).loc main_arg1)),
    (θ_run _ _ _).mono (fun _ h c => ⟨(h c).1.trans (final m c), (h c).2⟩) (Cert.XaKvIdeal.Value.run_blocks m ρ),
    (θ_run _ _ _).mono (fun _ h c => by
      obtain ⟨e0, e1⟩ := hag c
      dsimp only
      rw [← e0, ← e1]
      exact ⟨(h c).1.trans ((Cert.XaKvRefIdeal.Read.val_main_v2_eq _ _).trans (reference _ _)), (h c).2⟩) (Cert.XaKvRefIdeal.Value.run m' ρ')⟩

end Cert.Products.XaKv
-- ==== Proof.XaO.lean ====
/-
The cross-attention's output projection onto the residual, and the sum's normed rows: what the kernel and the reference leave, place by place.
-/
module

public import proofs.«01_k».proof.Proof.Norms
public import proofs.«01_k».proof.Proof.Gen.XaOIdeal.Value
public import proofs.«01_k».proof.Proof.Gen.XaORefIdeal.Read
public import proofs.«01_k».proof.Proof.Gen.XaORefIdeal.Run
public import proofs.«01_k».proof.Defs
public import Idealize.ShloMosaic.Lib.ValueLayout
public import Idealize.ShloMosaic.Lib.Quiescent

set_option maxRecDepth 16384

@[expose] public noncomputable section

namespace Cert.Products.XaO

open Idealize.ShloMosaic Idealize.ShloMosaic.ValueIdx Idealize.ShloMosaic.TcCoe Idealize.SL.Sem
open Cert.XaOIdeal Cert.XaOIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ t.val < 4 := by
  rcases fin_N0 t with rfl | rfl | rfl | rfl <;> decide +kernel

/-- A place of the left block. -/
theorem left_block (t : Fin cfg0.N) (r : Fin 1024) (k : Fin 512) (sr : Fin 4096) (hsr : sr.val = 1024 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 512 + 1 * k.val = k.val; rw [e.2]; omega

/-- A place of the weights. -/
theorem weight_block (t : Fin cfg0.N) (r : Fin 512) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 512 + 1 * r.val = r.val; rw [e.1]; omega
  · show win0_1.index t 1 * 1024 + 1 * k.val = k.val; rw [e.2]; omega

/-- A place of what is added to. -/
theorem old_block (t : Fin cfg0.N) (r : Fin 1024) (k : Fin 1024) (sr : Fin 4096) (hsr : sr.val = 1024 * (t.val) + r.val) :
    iblk m c 2 t (ix2 r k) = V m c main_arg2 (ix2 sr k) := by
  have e := (at_point t).2.2.1
  unfold iblk
  rw [View.read_apply]
  refine congrArg (V m c main_arg2) (ix2_of ?_ ?_)
  · show win0_2.index t 0 * 1024 + 1 * r.val = sr.val; rw [e.1, hsr]; omega
  · show win0_2.index t 1 * 1024 + 1 * k.val = k.val; rw [e.2]; omega

/-- A place of the gain. -/
theorem gain_block (t : Fin cfg0.N) (r : Fin 1) (k : Fin 1024)  :
    iblk m c 3 t (ix2 r k) = V m c main_arg3 (ix2 r k) := by
  have e := (at_point t).2.2.2.1
  unfold iblk
  rw [View.read_apply]
  refine congrArg (V m c main_arg3) (ix2_of ?_ ?_)
  · show win0_3.index t 0 * 1 + 1 * r.val = r.val; rw [e.1]; omega
  · show win0_3.index t 1 * 1024 + 1 * k.val = k.val; rw [e.2]; omega

/-- Where a place of the block lies in the first result. -/
theorem sum_place (t : Fin cfg0.N) (r : Fin 1024) (k : Fin 1024) (sr : Fin 4096) (hsr : sr.val = 1024 * (t.val) + r.val) :
    ((cfg0.win 4).blk t).view.emb (ix2 r k) = (ix2 sr k : (⟨2, ![4096, 1024]⟩ : Shape).Idx) := by
  have e := (at_point t).2.2.2.2.1
  refine ix2_of ?_ ?_
  · show win0_4.index t 0 * 1024 + 1 * r.val = sr.val; rw [e.1, hsr]; omega
  · show win0_4.index t 1 * 1024 + 1 * k.val = k.val; rw [e.2]; omega

/-- Where a place of the block lies in the second result. -/
theorem normed_place (t : Fin cfg0.N) (r : Fin 1024) (k : Fin 1024) (sr : Fin 4096) (hsr : sr.val = 1024 * (t.val) + r.val) :
    ((cfg0.win 5).blk t).view.emb (ix2 r k) = (ix2 sr k : (⟨2, ![4096, 1024]⟩ : Shape).Idx) := by
  have e := (at_point t).2.2.2.2.2.1
  refine ix2_of ?_ ?_
  · show win0_5.index t 0 * 1024 + 1 * r.val = sr.val; rw [e.1, hsr]; omega
  · show win0_5.index t 1 * 1024 + 1 * k.val = k.val; rw [e.2]; omega

/-- The body's sum. -/
theorem sum_at (x : Vec Ideal S1024x512 .bf16) (w : Vec Ideal S512x1024 .bf16) (z : Vec Ideal S1024x1024 .f32) (i : Fin 1024) (j : Fin 1024) :
    k0_pay1 x w z (ix2 i j) = onto z x w (ix2 i j) := by
  unfold k0_pay1
  refine (congrArg (plus · (z (ix2 i j))) (dotNN_apply none _ _ i j)).trans ?_
  exact add_comm _ _

/-- The body's normed rows. -/
theorem normed_at (x : Vec Ideal S1024x512 .bf16) (w : Vec Ideal S512x1024 .bf16) (z : Vec Ideal S1024x1024 .f32) (g : Vec Ideal S1x1024 .f32)
    (i : Fin 1024) (j : Fin 1024) : k0_pay2 x w z g (ix2 i j) = normed (k0_pay1 x w z) g (ix2 i j) := by
  unfold k0_pay2
  exact normed_apply _ _ _ (fun i => root_apply _ _ _ _ _ i 0) _ _ i j

/-- A place of a block's sum, in the whole. -/
theorem sum_block (t : Fin cfg0.N) (r k : Fin 1024) (s : Fin 4096) (hs : s.val = 1024 * t.val + r.val) :
    k0_pay1 (iblk m c 0 t) (iblk m c 1 t) (iblk m c 2 t) (ix2 r k) = onto (m ((c : Thread nD τ).loc main_arg2)) (m ((c : Thread nD τ).loc main_arg0)) (m ((c : Thread nD τ).loc main_arg1)) (ix2 s k) := by
  rw [sum_at]
  refine congrArg₂ plus ?_ (Finset.sum_congr rfl fun d _ => ?_)
  · rw [old_block m c t r k s hs, V_main_arg2]
  · rw [left_block m c t r d s hs, weight_block m c t d k, V_main_arg0, V_main_arg1]

/-- The first result after the run. -/
theorem final_sum : (dats m 0 c).arrAt 4 cfg0.N = onto (m ((c : Thread nD τ).loc main_arg2)) (m ((c : Thread nD τ).loc main_arg0)) (m ((c : Thread nD τ).loc main_arg1)) := by
  refine (dats m 0 c).arrAt_eq_of_cover 4 (onto _ _ _) (fun t _ => ?_) fun i => ?_
  · rw [Value.flushed4]
    have ht := (at_point t).2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, sum_place t r k ⟨_, hr⟩ rfl]
    refine Eq.trans ?_ (sum_block m c t r k ⟨_, hr⟩ rfl)
    show out0_4 _ _ _ _ (ix2 r k) = _
    unfold out0_4
    rw [View.canon_unit_zero two_axes, View.ld_unit_zero two_axes, View.ld_unit_zero two_axes, View.ld_unit_zero two_axes]
  · have hN : cfg0.N = 4 := N_0
    have h0 : (i 0).val < 4096 := idx2_lt0 (n0 := 4096) (n1 := 1024) i
    refine ⟨⟨(i 0).val / 1024, by omega⟩, flush0_4 _, ?_⟩
    exact Finset.mem_map.mpr ⟨ix2 ⟨(i 0).val % 1024, by omega⟩ (i 1), Finset.mem_univ _,
      (sum_place _ _ _ (i 0) (by show (i 0).val = 1024 * ((i 0).val / 1024) + (i 0).val % 1024; omega)).trans (eq_ix2 i).symm⟩

/-- The second result after the run. -/
theorem final_normed : (dats m 0 c).arrAt 5 cfg0.N = normed (onto (m ((c : Thread nD τ).loc main_arg2)) (m ((c : Thread nD τ).loc main_arg0)) (m ((c : Thread nD τ).loc main_arg1))) (m ((c : Thread nD τ).loc main_arg3)) := by
  refine (dats m 0 c).arrAt_eq_of_cover 5 (normed (onto _ _ _) _) (fun t _ => ?_) fun i => ?_
  · rw [Value.flushed5]
    have ht := (at_point t).2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, normed_place t r k ⟨_, hr⟩ rfl]
    show out0_5 _ _ _ _ (ix2 r k) = _
    unfold out0_5
    rw [View.canon_unit_zero two_axes, View.ld_unit_zero two_axes, View.ld_unit_zero two_axes, View.ld_unit_zero two_axes, View.ld_unit_zero two_axes]
    refine (normed_at _ _ _ _ r k).trans (normed_congr (fun d => sum_block m c t r d ⟨_, hr⟩ rfl) (fun d => ?_) k)
    rw [gain_block m c t 0 d, V_main_arg3]
  · have hN : cfg0.N = 4 := N_0
    have h0 : (i 0).val < 4096 := idx2_lt0 (n0 := 4096) (n1 := 1024) i
    refine ⟨⟨(i 0).val / 1024, by omega⟩, flush0_5 _, ?_⟩
    exact Finset.mem_map.mpr ⟨ix2 ⟨(i 0).val % 1024, by omega⟩ (i 1), Finset.mem_univ _,
      (normed_place _ _ _ (i 0) (by show (i 0).val = 1024 * ((i 0).val / 1024) + (i 0).val % 1024; omega)).trans (eq_ix2 i).symm⟩

open Cert.XaORefIdeal.Read in
/-- The reference's sum. -/
theorem reference_sum (Y : S4096x512.Idx → EReal) (W : S512x1024.Idx → EReal) (R : S4096x1024.Idx → EReal) : val_main_v3 (F := Ideal) Y W R = onto R Y W := by
  funext i
  rw [val_main_v3_apply, val_main_v2_apply]
  refine congrArg (plus (R i)) (Finset.sum_congr rfl fun d _ => ?_)
  rw [val_main_v0_apply, val_main_v1_apply]
  exact congrArg₂ times (congrArg Y (ix2_of rfl rfl)) (congrArg W (ix2_of rfl rfl))

open Cert.XaORefIdeal.Read in
/-- The reciprocal root of each row, in the reference. -/
theorem reference_root (Y : S4096x512.Idx → EReal) (W : S512x1024.Idx → EReal) (R : S4096x1024.Idx → EReal) (i : S4096x1024.Idx) :
    val_main_v12 (F := Ideal) Y W R i = root (row (onto R Y W) (i 0)) := by
  rw [val_main_v12_apply, val_main_v11_apply, val_main_v10_apply, val_main_v8_apply, val_main_v6_apply, val_main_v5_apply, val_main_v7_apply, val_main_v9_apply, val_main_cst_apply, val_main_cst_0_apply, val_main_cst_1_apply]
  refine host_root (row (onto R Y W) (i 0)) _ fun d => ?_
  rw [val_main_v4_apply, reference_sum]
  exact congrArg₂ times (congrArg (onto R Y W) (ix2_of rfl rfl)) (congrArg (onto R Y W) (ix2_of rfl rfl))

open Cert.XaORefIdeal.Read in
/-- The reference's normed rows. -/
theorem reference_normed (Y : S4096x512.Idx → EReal) (W : S512x1024.Idx → EReal) (R : S4096x1024.Idx → EReal) (G : S1x1024.Idx → EReal) :
    val_main_v16 (F := Ideal) Y W R G = normed (onto R Y W) G := by
  funext i
  rw [val_main_v16_apply, val_main_v15_apply, val_main_v13_apply, val_main_v14_apply, reference_root, reference_sum]
  exact congrArg (times _) (congrArg G (ix2_of rfl rfl))

/-- The reference runs, leaves its arguments and every counter at zero. -/
theorem frame_reference : Cert.quiescent_XaORefIdeal (hXaORefIdeal := Cert.XaORefIdeal.Gen.facts) := fun m ρ _ =>
  (θ_run Cert.XaORefIdeal.defs _ _).mono (fun r h => ⟨fun c => (h c).2.2, Idealize.ShloMosaic.sem_eq_zero_of_no_sems (by decide) r.2⟩)
    (Cert.XaORefIdeal.Value.run (F := Ideal) m ρ)

/-- The kernel and the reference end with equal results. -/
theorem algebraic : Cert.algebraic_XaOIdeal_XaORefIdeal (hXaOIdeal := Cert.XaOIdeal.Gen.facts)
    (hXaORefIdeal := Cert.XaORefIdeal.Gen.facts) := fun m ρ m' ρ' _ hag =>
  ⟨fun c => onto (m ((c.tc : Thread nD τ).loc main_arg2)) (m ((c.tc : Thread nD τ).loc main_arg0)) (m ((c.tc : Thread nD τ).loc main_arg1)), fun c => normed (onto (m ((c.tc : Thread nD τ).loc main_arg2)) (m ((c.tc : Thread nD τ).loc main_arg0)) (m ((c.tc : Thread nD τ).loc main_arg1))) (m ((c.tc : Thread nD τ).loc main_arg3)),
    (θ_run _ _ _).mono (fun _ h c => ⟨(h c).1.trans (final_sum m c), (h c).2.1.trans (final_normed m c), (h c).2.2⟩) (Cert.XaOIdeal.Value.run_blocks m ρ),
    (θ_run _ _ _).mono (fun _ h c => by
      obtain ⟨e0, e1, e2, e3⟩ := hag c
      dsimp only
      rw [← e0, ← e1, ← e2, ← e3]
      exact ⟨(h c).1.trans ((Cert.XaORefIdeal.Read.val_main_v3_eq _ _ _).trans (reference_sum _ _ _)), (h c).2.1.trans ((Cert.XaORefIdeal.Read.val_main_v16_eq _ _ _ _).trans (reference_normed _ _ _ _)), (h c).2.2⟩) (Cert.XaORefIdeal.Value.run m' ρ')⟩

end Cert.Products.XaO
-- ==== Proof.DOx.lean ====
/-
The gradient of the cross-attention's heads' outputs: what the kernel and the reference leave, place by place.
-/
module

public import proofs.«01_k».proof.Proof.Products
public import proofs.«01_k».proof.Proof.Gen.DOxIdeal.Value
public import proofs.«01_k».proof.Proof.Gen.DOxRefIdeal.Read
public import proofs.«01_k».proof.Proof.Gen.DOxRefIdeal.Run
public import proofs.«01_k».proof.Defs
public import Idealize.ShloMosaic.Lib.ValueLayout
public import Idealize.ShloMosaic.Lib.Quiescent

set_option maxRecDepth 16384

@[expose] public noncomputable section

namespace Cert.Products.DOx

open Idealize.ShloMosaic Idealize.ShloMosaic.ValueIdx Idealize.ShloMosaic.TcCoe Idealize.SL.Sem
open Cert.DOxIdeal Cert.DOxIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg2 (ix2 sr k) := by
  have e := (at_point t).1
  unfold iblk
  rw [View.read_apply]
  refine congrArg (V m c main_arg2) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 512) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 512 + 1 * r.val = r.val; rw [e.1]; omega
  · show win0_1.index t 1 * 1024 + 1 * k.val = k.val; rw [e.2]; omega

/-- Where a place of the block lies in the result. -/
theorem out_place (t : Fin cfg0.N) (r : Fin 1024) (k : Fin 512) (sr : Fin 4096) (hsr : sr.val = 1024 * (t.val) + r.val) :
    ((cfg0.win 2).blk t).view.emb (ix2 r k) = (ix2 sr k : (⟨2, ![4096, 512]⟩ : Shape).Idx) := by
  have e := (at_point t).2.2.1
  refine ix2_of ?_ ?_
  · show win0_2.index t 0 * 1024 + 1 * r.val = sr.val; rw [e.1, hsr]; omega
  · show win0_2.index t 1 * 512 + 1 * k.val = k.val; rw [e.2]; omega

/-- The body's product. -/
theorem out_at (x : Vec Ideal S1024x1024 .bf16) (y : Vec Ideal S512x1024 .bf16) (i : Fin 1024) (j : Fin 512) :
    out0_2 x y (ix2 i j) = ∑ d : Fin 1024, times (x (ix2 i d)) (y (ix2 j d)) := by
  unfold out0_2
  rw [View.canon_unit_zero two_axes, View.ld_unit_zero two_axes, View.ld_unit_zero two_axes]
  unfold k0_pay1
  exact dotNT_apply none _ _ i j

/-- The result after the run. -/
theorem final : (dats m 0 c).arrAt 2 cfg0.N = nt (m ((c : Thread nD τ).loc main_arg2)) (m ((c : Thread nD τ).loc main_arg1)) := by
  refine (dats m 0 c).arrAt_eq_of_cover 2 (nt _ _) (fun t _ => ?_) fun i => ?_
  · rw [Value.flushed2]
    have ht := (at_point t).2.2.2
    funext x
    obtain ⟨r, k, rfl⟩ : ∃ (r : Fin 1024) (k : Fin 512), x = ix2 r k := ⟨x 0, x 1, eq_ix2 x⟩
    have hr : 1024 * (t.val) + r.val < 4096 := by have := r.isLt; omega
    rw [View.read_apply, out_place t r k ⟨_, hr⟩ rfl]
    refine (out_at _ _ r k).trans ?_
    refine Eq.trans (Finset.sum_congr rfl fun d _ => ?_) (nt_apply (m ((c : Thread nD τ).loc main_arg2)) (m ((c : Thread nD τ).loc main_arg1)) ⟨_, hr⟩ k).symm
    rw [left_block m c t r d ⟨_, hr⟩ rfl, right_block m c t k d, V_main_arg2, V_main_arg1]
  · have hN : cfg0.N = 4 := N_0
    have h0 : (i 0).val < 4096 := idx2_lt0 (n0 := 4096) (n1 := 512) i
    refine ⟨⟨(i 0).val / 1024, by omega⟩, flush0_2 _, ?_⟩
    exact Finset.mem_map.mpr ⟨ix2 ⟨(i 0).val % 1024, by omega⟩ (i 1), Finset.mem_univ _,
      (out_place _ _ _ (i 0) (by show (i 0).val = 1024 * (((i 0).val / 1024)) + (i 0).val % 1024; omega)).trans (eq_ix2 i).symm⟩

open Cert.DOxRefIdeal.Read in
/-- The reference's result. -/
theorem reference (X : S4096x1024.Idx → EReal) (Y : S512x1024.Idx → EReal) : val_main_v4 (F := Ideal) Y X = nt X Y := by
  funext i
  rw [val_main_v4_apply]
  refine Finset.sum_congr rfl fun d _ => ?_
  rw [val_main_v2_apply, val_main_v1_apply]
  exact congrArg₂ times (congrArg X (ix2_of rfl rfl)) (congrArg Y (ix2_of rfl rfl))

/-- The reference runs, leaves its arguments and every counter at zero. -/
theorem frame_reference : Cert.quiescent_DOxRefIdeal (hDOxRefIdeal := Cert.DOxRefIdeal.Gen.facts) := fun m ρ _ =>
  (θ_run Cert.DOxRefIdeal.defs _ _).mono (fun r h => ⟨fun c => (h c).2, Idealize.ShloMosaic.sem_eq_zero_of_no_sems (by decide) r.2⟩)
    (Cert.DOxRefIdeal.Value.run (F := Ideal) m ρ)

/-- The kernel and the reference end with equal results. -/
theorem algebraic : Cert.algebraic_DOxIdeal_DOxRefIdeal (hDOxIdeal := Cert.DOxIdeal.Gen.facts)
    (hDOxRefIdeal := Cert.DOxRefIdeal.Gen.facts) := fun m ρ m' ρ' _ hag =>
  ⟨fun c => nt (m ((c.tc : Thread nD τ).loc main_arg2)) (m ((c.tc : Thread nD τ).loc main_arg1)),
    (θ_run _ _ _).mono (fun _ h c => ⟨(h c).1.trans (final m c), (h c).2⟩) (Cert.DOxIdeal.Value.run_blocks m ρ),
    (θ_run _ _ _).mono (fun _ h c => by
      obtain ⟨e0, e1, e2⟩ := hag c
      dsimp only
      rw [← e1, ← e2]
      exact ⟨(h c).1.trans ((Cert.DOxRefIdeal.Read.val_main_v4_eq _ _).trans (reference _ _)), (h c).2⟩) (Cert.DOxRefIdeal.Value.run m' ρ')⟩

end Cert.Products.DOx
-- ==== Proof.GWo.lean ====
/-
The gradient of the cross-attention's output weights: what the kernel and the reference leave, place by place.
-/
module

public import proofs.«01_k».proof.Proof.Products
public import proofs.«01_k».proof.Proof.Gen.GWoIdeal.Value
public import proofs.«01_k».proof.Proof.Gen.GWoRefIdeal.Read
public import proofs.«01_k».proof.Proof.Gen.GWoRefIdeal.Run
public import proofs.«01_k».proof.Defs
public import Idealize.ShloMosaic.Lib.ValueLayout
public import Idealize.ShloMosaic.Lib.Quiescent

set_option maxRecDepth 16384

@[expose] public noncomputable section

namespace Cert.Products.GWo

open Idealize.ShloMosaic Idealize.ShloMosaic.ValueIdx Idealize.ShloMosaic.TcCoe Idealize.SL.Sem
open Cert.GWoIdeal Cert.GWoIdeal.Gen

variable (m : (ℓ : Loc nD τ sig) → Buf (Elt Ideal) ℓ) (c : Dev nD)

/-- Where the windows stand at a point. -/
theorem at_point (t : Fin cfg0.N) :
    (win0_0.index t 0 = 0 ∧ win0_0.index t 1 = 0) ∧ (win0_1.index t 0 = 0 ∧ win0_1.index t 1 = 0) ∧ (win0_2.index t 0 = 0 ∧ win0_2.index t 1 = 0) ∧ t.val < 1 := by
  rcases fin_N0 t with rfl <;> decide +kernel

/-- A place of the left block. -/
theorem left_block (t : Fin cfg0.N) (r : Fin 4096) (k : Fin 512)  :
    iblk m c 0 t (ix2 r k) = V m c main_arg0 (ix2 r k) := by
  have e := (at_point t).1
  unfold iblk
  rw [View.read_apply]
  refine congrArg (V m c main_arg0) (ix2_of ?_ ?_)
  · show win0_0.index t 0 * 4096 + 1 * r.val = r.val; rw [e.1]; omega
  · show win0_0.index t 1 * 512 + 1 * k.val = k.val; rw [e.2]; omega

/-- A place of the right block. -/
theorem right_block (t : Fin cfg0.N) (r : Fin 4096) (k : Fin 1024)  :
    iblk m c 1 t (ix2 r k) = V m c main_arg2 (ix2 r k) := by
  have e := (at_point t).2.1
  unfold iblk
  rw [View.read_apply]
  refine congrArg (V m c main_arg2) (ix2_of ?_ ?_)
  · show win0_1.index t 0 * 4096 + 1 * r.val = r.val; rw [e.1]; omega
  · show win0_1.index t 1 * 1024 + 1 * k.val = k.val; rw [e.2]; omega

/-- Where a place of the block lies in the result. -/
theorem out_place (t : Fin cfg0.N) (r : Fin 512) (k : Fin 1024)  :
    ((cfg0.win 2).blk t).view.emb (ix2 r k) = (ix2 r k : (⟨2, ![512, 1024]⟩ : Shape).Idx) := by
  have e := (at_point t).2.2.1
  refine ix2_of ?_ ?_
  · show win0_2.index t 0 * 512 + 1 * r.val = r.val; rw [e.1]; omega
  · show win0_2.index t 1 * 1024 + 1 * k.val = k.val; rw [e.2]; omega

/-- The body's product. -/
theorem out_at (x : Vec Ideal S4096x512 .bf16) (y : Vec Ideal S4096x1024 .bf16) (i : Fin 512) (j : Fin 1024) :
    out0_2 x y (ix2 i j) = ∑ d : Fin 4096, times (x (ix2 d i)) (y (ix2 d j)) := by
  unfold out0_2
  rw [View.canon_unit_zero two_axes, View.ld_unit_zero two_axes, View.ld_unit_zero two_axes]
  unfold k0_pay1
  exact dotTN_apply none _ _ i j

/-- The result after the run. -/
theorem final : (dats m 0 c).arrAt 2 cfg0.N = tn (m ((c : Thread nD τ).loc main_arg0)) (m ((c : Thread nD τ).loc main_arg2)) := by
  refine (dats m 0 c).arrAt_eq_of_cover 2 (tn _ _) (fun t _ => ?_) fun i => ?_
  · rw [Value.flushed2]
    have ht := (at_point t).2.2.2
    funext x
    obtain ⟨r, k, rfl⟩ : ∃ (r : Fin 512) (k : Fin 1024), x = ix2 r k := ⟨x 0, x 1, eq_ix2 x⟩
    rw [View.read_apply, out_place t r k ]
    refine (out_at _ _ r k).trans ?_
    refine Eq.trans (Finset.sum_congr rfl fun d _ => ?_) (tn_apply (m ((c : Thread nD τ).loc main_arg0)) (m ((c : Thread nD τ).loc main_arg2)) r k).symm
    rw [left_block m c t d r, right_block m c t d k, V_main_arg0, V_main_arg2]
  · have hN : cfg0.N = 1 := N_0
    refine ⟨⟨0, by omega⟩, flush0_2 _, ?_⟩
    exact Finset.mem_map.mpr ⟨ix2 (i 0) (i 1), Finset.mem_univ _,
      (out_place _ _ _).trans (eq_ix2 i).symm⟩

open Cert.GWoRefIdeal.Read in
/-- The reference's result. -/
theorem reference (X : S4096x512.Idx → EReal) (Y : S4096x1024.Idx → EReal) : val_main_v5 (F := Ideal) X Y = tn X Y := by
  funext i
  rw [val_main_v5_apply, val_main_v4_apply]
  refine Finset.sum_congr rfl fun d _ => ?_
  rw [val_main_v2_apply, val_main_v0_apply]
  refine (mul_comm _ _).trans ?_
  exact congrArg₂ times (congrArg X (ix2_of rfl rfl)) (congrArg Y (ix2_of rfl rfl))

/-- The reference runs, leaves its arguments and every counter at zero. -/
theorem frame_reference : Cert.quiescent_GWoRefIdeal (hGWoRefIdeal := Cert.GWoRefIdeal.Gen.facts) := fun m ρ _ =>
  (θ_run Cert.GWoRefIdeal.defs _ _).mono (fun r h => ⟨fun c => (h c).2, Idealize.ShloMosaic.sem_eq_zero_of_no_sems (by decide) r.2⟩)
    (Cert.GWoRefIdeal.Value.run (F := Ideal) m ρ)

/-- The kernel and the reference end with equal results. -/
theorem algebraic : Cert.algebraic_GWoIdeal_GWoRefIdeal (hGWoIdeal := Cert.GWoIdeal.Gen.facts)
    (hGWoRefIdeal := Cert.GWoRefIdeal.Gen.facts) := fun m ρ m' ρ' _ hag =>
  ⟨fun c => tn (m ((c.tc : Thread nD τ).loc main_arg0)) (m ((c.tc : Thread nD τ).loc main_arg2)),
    (θ_run _ _ _).mono (fun _ h c => ⟨(h c).1.trans (final m c), (h c).2⟩) (Cert.GWoIdeal.Value.run_blocks m ρ),
    (θ_run _ _ _).mono (fun _ h c => by
      obtain ⟨e0, e1, e2⟩ := hag c
      dsimp only
      rw [← e0, ← e2]
      exact ⟨(h c).1.trans ((Cert.GWoRefIdeal.Read.val_main_v5_eq _ _).trans (reference _ _)), (h c).2⟩) (Cert.GWoRefIdeal.Value.run m' ρ')⟩

end Cert.Products.GWo
-- ==== Proof.GWq.lean ====
/-
The gradient of the cross-attention's query weights: what the kernel and the reference leave, place by place.
-/
module

public import proofs.«01_k».proof.Proof.Products
public import proofs.«01_k».proof.Proof.Gen.GWqIdeal.Value
public import proofs.«01_k».proof.Proof.Gen.GWqRefIdeal.Read
public import proofs.«01_k».proof.Proof.Gen.GWqRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.GWq

open Idealize.ShloMosaic Idealize.ShloMosaic.ValueIdx Idealize.ShloMosaic.TcCoe Idealize.SL.Sem
open Cert.GWqIdeal Cert.GWqIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = t.val ∧ win0_1.index t 1 = 0) ∧ (win0_2.index t 0 = 0 ∧ win0_2.index t 1 = 0) ∧ t.val < 4 := by
  rcases fin_N0 t with rfl | rfl | rfl | rfl <;> decide +kernel

/-- A place of the left block. -/
theorem left_block (t : Fin cfg0.N) (r : Fin 1024) (k : Fin 1024) (sr : Fin 4096) (hsr : sr.val = 1024 * (t.val) + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 1024 + 1 * k.val = k.val; rw [e.2]; omega

/-- A place of the right block. -/
theorem right_block (t : Fin cfg0.N) (r : Fin 1024) (k : Fin 512) (sr : Fin 4096) (hsr : sr.val = 1024 * (t.val) + r.val) :
    iblk m c 1 t (ix2 r k) = V m c main_arg2 (ix2 sr k) := by
  have e := (at_point t).2.1
  unfold iblk
  rw [View.read_apply]
  refine congrArg (V m c main_arg2) (ix2_of ?_ ?_)
  · show win0_1.index t 0 * 1024 + 1 * r.val = sr.val; rw [e.1, hsr]; omega
  · show win0_1.index t 1 * 512 + 1 * k.val = k.val; rw [e.2]; omega

/-- Where a place of the block lies in the result. -/
theorem out_place (t : Fin cfg0.N) (r : Fin 1024) (k : Fin 512)  :
    ((cfg0.win 2).blk t).view.emb (ix2 r k) = (ix2 r k : (⟨2, ![1024, 512]⟩ : Shape).Idx) := by
  have e := (at_point t).2.2.1
  refine ix2_of ?_ ?_
  · show win0_2.index t 0 * 1024 + 1 * r.val = r.val; rw [e.1]; omega
  · show win0_2.index t 1 * 512 + 1 * k.val = k.val; rw [e.2]; omega

/-- The product of the two blocks of a point. -/
def part (t : Fin cfg0.N) : S1024x512.Idx → EReal := tn (iblk m c 0 t : Vec Ideal S1024x1024 .bf16) (iblk m c 1 t : Vec Ideal S1024x512 .bf16)

/-- The body adds the product to what the scratch held. -/
theorem add_at (a : Vec Ideal S1024x512 .f32) (x : Vec Ideal S1024x1024 .bf16) (y : Vec Ideal S1024x512 .bf16) (i : S1024x512.Idx) :
    k0_pay2 a x y i = plus (a i) (tn x y i) := by
  obtain ⟨r, k, rfl⟩ : ∃ (r : Fin 1024) (k : Fin 512), i = ix2 r k := ⟨i 0, i 1, eq_ix2 i⟩
  unfold k0_pay2
  rw [shapeCast_self]
  exact congrArg (plus (a (ix2 r k))) (dotTN_apply none _ _ r k)

/-- The scratch after the last point. -/
theorem scratch (t : Fin cfg0.N) (ht : t.val % 4 = 4 - 1) (i : S1024x512.Idx) :
    (outsAt0 m c t.val t.isLt).2 i = ∑ s : Fin 4, part m c ⟨4 * (t.val / 4) + s.val, Pipeline.run_point_lt_of_flush t ht s⟩ i := by
  refine (Pipeline.eq_sum_fin_of_reset_step_apply_of_flush (M := EReal) (fun n h => (outsAt0 m c n h).2) 4 (fun _ => 0) (part m c) ?_ ?_ t ht i).trans (zero_add _)
  · intro t h0 i
    have h1 : ¬t.val % 4 = 3 := by omega
    show (outsAt0 m c t.val t.isLt).2 i = _
    rw [outsAt0_A m c t h0 h1]
    frame_out
    refine (add_at _ _ _ i).trans (congrArg (plus · _) ?_)
    unfold k0_pay1
    rw [shapeCast_self]
    exact Ideal.ofBits_zero_f32
  · intro t h0 i
    show (outsAt0 m c t.val t.isLt).2 i = _
    by_cases h1 : t.val % 4 = 3
    · rw [outsAt0_C m c t h0 h1]
      frame_out
      rw [(Memref.isWhole_whole _).read_unread]
      exact add_at _ _ _ i
    · rw [outsAt0_B m c t h0 h1]
      frame_out
      rw [(Memref.isWhole_whole _).read_unread]
      exact add_at _ _ _ i

/-- What the last point writes back. -/
theorem out_at (t : Fin cfg0.N) (ht : t.val % 4 = 4 - 1) : (outsAt0 m c t.val t.isLt).1 = (outsAt0 m c t.val t.isLt).2 := by
  have h0 : ¬t.val % 4 = 0 := by omega
  rw [outsAt0_C m c t h0 ht]
  frame_out

/-- The result after the run. -/
theorem final : (dats m 0 c).arrAt 2 cfg0.N = tn (m ((c : Thread nD τ).loc main_arg0)) (m ((c : Thread nD τ).loc main_arg2)) := by
  have hN : cfg0.N = 4 := N_0
  refine (dats m 0 c).arrAt_eq_of_cover 2 (tn _ _) (fun t hf => ?_) fun i => ?_
  · rw [Value.flushed2]
    have ht : t.val % 4 = 4 - 1 := (flush0_2 t).mp hf
    have h0 : t.val / 4 = 0 := by have := (at_point t).2.2.2; omega
    funext x
    obtain ⟨r, k, rfl⟩ : ∃ (r : Fin 1024) (k : Fin 512), x = ix2 r k := ⟨x 0, x 1, eq_ix2 x⟩
    rw [View.read_apply, out_place t r k]
    refine ((congrFun (out_at m c t ht) (ix2 r k)).trans (scratch m c t ht (ix2 r k))).trans ?_
    refine (Fin.sum_mul_add_congr fun s d hl => ?_).trans (tn_apply (m ((c : Thread nD τ).loc main_arg0)) (m ((c : Thread nD τ).loc main_arg2)) r k).symm
    have hs : 1024 * (4 * (t.val / 4) + s.val) + d.val < 4096 := by have := s.isLt; have := d.isLt; omega
    have e : (⟨s.val * 1024 + d.val, hl⟩ : Fin 4096) = ⟨1024 * (4 * (t.val / 4) + s.val) + d.val, hs⟩ :=
      Fin.ext (by show s.val * 1024 + d.val = 1024 * (4 * (t.val / 4) + s.val) + d.val; omega)
    rw [left_block m c _ d r ⟨_, hs⟩ rfl, right_block m c _ d k ⟨_, hs⟩ rfl, V_main_arg0, V_main_arg2, e]
  · refine ⟨⟨3, by omega⟩, (flush0_2 _).mpr rfl, ?_⟩
    exact Finset.mem_map.mpr ⟨ix2 (i 0) (i 1), Finset.mem_univ _, (out_place _ _ _).trans (eq_ix2 i).symm⟩

open Cert.GWqRefIdeal.Read in
/-- The reference's result. -/
theorem reference (X : S4096x1024.Idx → EReal) (Y : S4096x512.Idx → EReal) : val_main_v5 (F := Ideal) X Y = tn X Y := by
  funext i
  rw [val_main_v5_apply, val_main_v4_apply]
  refine Finset.sum_congr rfl fun d _ => ?_
  rw [val_main_v2_apply, val_main_v0_apply]
  refine (mul_comm _ _).trans ?_
  exact congrArg₂ times (congrArg X (ix2_of rfl rfl)) (congrArg Y (ix2_of rfl rfl))

/-- The reference runs, leaves its arguments and every counter at zero. -/
theorem frame_reference : Cert.quiescent_GWqRefIdeal (hGWqRefIdeal := Cert.GWqRefIdeal.Gen.facts) := fun m ρ _ =>
  (θ_run Cert.GWqRefIdeal.defs _ _).mono (fun r h => ⟨fun c => (h c).2, Idealize.ShloMosaic.sem_eq_zero_of_no_sems (by decide) r.2⟩)
    (Cert.GWqRefIdeal.Value.run (F := Ideal) m ρ)

/-- The kernel and the reference end with equal results. -/
theorem algebraic : Cert.algebraic_GWqIdeal_GWqRefIdeal (hGWqIdeal := Cert.GWqIdeal.Gen.facts)
    (hGWqRefIdeal := Cert.GWqRefIdeal.Gen.facts) := fun m ρ m' ρ' _ hag =>
  ⟨fun c => tn (m ((c.tc : Thread nD τ).loc main_arg0)) (m ((c.tc : Thread nD τ).loc main_arg2)),
    (θ_run _ _ _).mono (fun _ h c => ⟨(h c).1.trans (final m c), (h c).2⟩) (Cert.GWqIdeal.Value.run_blocks m ρ),
    (θ_run _ _ _).mono (fun _ h c => by
      obtain ⟨e0, e1, e2⟩ := hag c
      dsimp only
      rw [← e0, ← e2]
      exact ⟨(h c).1.trans ((Cert.GWqRefIdeal.Read.val_main_v5_eq _ _).trans (reference _ _)), (h c).2⟩) (Cert.GWqRefIdeal.Value.run m' ρ')⟩

end Cert.Products.GWq
-- ==== Proof.GWkv.lean ====
/-
The gradient of the cross-attention's key and value weights: what the kernel and the reference leave, place by place.
-/
module

public import proofs.«01_k».proof.Proof.Products
public import proofs.«01_k».proof.Proof.Gen.GWkvIdeal.Value
public import proofs.«01_k».proof.Proof.Gen.GWkvRefIdeal.Read
public import proofs.«01_k».proof.Proof.Gen.GWkvRefIdeal.Run
public import proofs.«01_k».proof.Defs
public import Idealize.ShloMosaic.Lib.ValueLayout
public import Idealize.ShloMosaic.Lib.Quiescent

set_option maxRecDepth 16384

@[expose] public noncomputable section

namespace Cert.Products.GWkv

open Idealize.ShloMosaic Idealize.ShloMosaic.ValueIdx Idealize.ShloMosaic.TcCoe Idealize.SL.Sem
open Cert.GWkvIdeal Cert.GWkvIdeal.Gen

variable (m : (ℓ : Loc nD τ sig) → Buf (Elt Ideal) ℓ) (c : Dev nD)

/-- Where the windows stand at a point. -/
theorem at_point (t : Fin cfg0.N) :
    (win0_0.index t 0 = 0 ∧ win0_0.index t 1 = 0) ∧ (win0_1.index t 0 = 0 ∧ win0_1.index t 1 = 0) ∧ (win0_2.index t 0 = 0 ∧ win0_2.index t 1 = 0) ∧ t.val < 1 := by
  rcases fin_N0 t with rfl <;> decide +kernel

/-- A place of the left block. -/
theorem left_block (t : Fin cfg0.N) (r : Fin 512) (k : Fin 1024)  :
    iblk m c 0 t (ix2 r k) = V m c main_arg0 (ix2 r k) := by
  have e := (at_point t).1
  unfold iblk
  rw [View.read_apply]
  refine congrArg (V m c main_arg0) (ix2_of ?_ ?_)
  · show win0_0.index t 0 * 512 + 1 * r.val = r.val; rw [e.1]; omega
  · show win0_0.index t 1 * 1024 + 1 * k.val = k.val; rw [e.2]; omega

/-- A place of the right block. -/
theorem right_block (t : Fin cfg0.N) (r : Fin 512) (k : Fin 1024)  :
    iblk m c 1 t (ix2 r k) = V m c main_arg2 (ix2 r k) := by
  have e := (at_point t).2.1
  unfold iblk
  rw [View.read_apply]
  refine congrArg (V m c main_arg2) (ix2_of ?_ ?_)
  · show win0_1.index t 0 * 512 + 1 * r.val = r.val; rw [e.1]; omega
  · show win0_1.index t 1 * 1024 + 1 * k.val = k.val; rw [e.2]; omega

/-- Where a place of the block lies in the result. -/
theorem out_place (t : Fin cfg0.N) (r : Fin 1024) (k : Fin 1024)  :
    ((cfg0.win 2).blk t).view.emb (ix2 r k) = (ix2 r k : (⟨2, ![1024, 1024]⟩ : Shape).Idx) := by
  have e := (at_point t).2.2.1
  refine ix2_of ?_ ?_
  · show win0_2.index t 0 * 1024 + 1 * r.val = r.val; rw [e.1]; omega
  · show win0_2.index t 1 * 1024 + 1 * k.val = k.val; rw [e.2]; omega

/-- The body's product. -/
theorem out_at (x : Vec Ideal S512x1024 .bf16) (y : Vec Ideal S512x1024 .f32) (i : Fin 1024) (j : Fin 1024) :
    out0_2 x y (ix2 i j) = ∑ d : Fin 512, times (x (ix2 d i)) (y (ix2 d j)) := by
  unfold out0_2
  rw [View.canon_unit_zero two_axes, View.ld_unit_zero two_axes, View.ld_unit_zero two_axes]
  unfold k0_pay1
  exact dotTN_apply none _ _ i j

/-- The result after the run. -/
theorem final : (dats m 0 c).arrAt 2 cfg0.N = tn (m ((c : Thread nD τ).loc main_arg0)) (m ((c : Thread nD τ).loc main_arg2)) := by
  refine (dats m 0 c).arrAt_eq_of_cover 2 (tn _ _) (fun t _ => ?_) fun i => ?_
  · rw [Value.flushed2]
    have ht := (at_point t).2.2.2
    funext x
    obtain ⟨r, k, rfl⟩ : ∃ (r : Fin 1024) (k : Fin 1024), x = ix2 r k := ⟨x 0, x 1, eq_ix2 x⟩
    rw [View.read_apply, out_place t r k ]
    refine (out_at _ _ r k).trans ?_
    refine Eq.trans (Finset.sum_congr rfl fun d _ => ?_) (tn_apply (m ((c : Thread nD τ).loc main_arg0)) (m ((c : Thread nD τ).loc main_arg2)) r k).symm
    rw [left_block m c t d r, right_block m c t d k, V_main_arg0, V_main_arg2]
  · have hN : cfg0.N = 1 := N_0
    refine ⟨⟨0, by omega⟩, flush0_2 _, ?_⟩
    exact Finset.mem_map.mpr ⟨ix2 (i 0) (i 1), Finset.mem_univ _,
      (out_place _ _ _).trans (eq_ix2 i).symm⟩

open Cert.GWkvRefIdeal.Read in
/-- The reference's result. -/
theorem reference (X : S512x1024.Idx → EReal) (Y : S512x1024.Idx → EReal) : val_main_v4 (F := Ideal) X Y = tn X Y := by
  funext i
  rw [val_main_v4_apply, val_main_v3_apply]
  refine Finset.sum_congr rfl fun d _ => ?_
  rw [val_main_v0_apply]
  refine (mul_comm _ _).trans ?_
  exact congrArg₂ times (congrArg X (ix2_of rfl rfl)) (congrArg Y (ix2_of rfl rfl))

/-- The reference runs, leaves its arguments and every counter at zero. -/
theorem frame_reference : Cert.quiescent_GWkvRefIdeal (hGWkvRefIdeal := Cert.GWkvRefIdeal.Gen.facts) := fun m ρ _ =>
  (θ_run Cert.GWkvRefIdeal.defs _ _).mono (fun r h => ⟨fun c => (h c).2, Idealize.ShloMosaic.sem_eq_zero_of_no_sems (by decide) r.2⟩)
    (Cert.GWkvRefIdeal.Value.run (F := Ideal) m ρ)

/-- The kernel and the reference end with equal results. -/
theorem algebraic : Cert.algebraic_GWkvIdeal_GWkvRefIdeal (hGWkvIdeal := Cert.GWkvIdeal.Gen.facts)
    (hGWkvRefIdeal := Cert.GWkvRefIdeal.Gen.facts) := fun m ρ m' ρ' _ hag =>
  ⟨fun c => tn (m ((c.tc : Thread nD τ).loc main_arg0)) (m ((c.tc : Thread nD τ).loc main_arg2)),
    (θ_run _ _ _).mono (fun _ h c => ⟨(h c).1.trans (final m c), (h c).2⟩) (Cert.GWkvIdeal.Value.run_blocks m ρ),
    (θ_run _ _ _).mono (fun _ h c => by
      obtain ⟨e0, e1, e2⟩ := hag c
      dsimp only
      rw [← e0, ← e2]
      exact ⟨(h c).1.trans ((Cert.GWkvRefIdeal.Read.val_main_v4_eq _ _).trans (reference _ _)), (h c).2⟩) (Cert.GWkvRefIdeal.Value.run m' ρ')⟩

end Cert.Products.GWkv
-- ==== Proof.DMn.lean ====
/-
The gradient of the normalised memory tokens: what the kernel and the reference leave, place by place.
-/
module

public import proofs.«01_k».proof.Proof.Products
public import proofs.«01_k».proof.Proof.Gen.DMnIdeal.Value
public import proofs.«01_k».proof.Proof.Gen.DMnRefIdeal.Read
public import proofs.«01_k».proof.Proof.Gen.DMnRefIdeal.Run
public import proofs.«01_k».proof.Defs
public import Idealize.ShloMosaic.Lib.ValueLayout
public import Idealize.ShloMosaic.Lib.Quiescent

set_option maxRecDepth 16384

@[expose] public noncomputable section

namespace Cert.Products.DMn

open Idealize.ShloMosaic Idealize.ShloMosaic.ValueIdx Idealize.ShloMosaic.TcCoe Idealize.SL.Sem
open Cert.DMnIdeal Cert.DMnIdeal.Gen

variable (m : (ℓ : Loc nD τ sig) → Buf (Elt Ideal) ℓ) (c : Dev nD)

/-- Where the windows stand at a point. -/
theorem at_point (t : Fin cfg0.N) :
    (win0_0.index t 0 = 0 ∧ win0_0.index t 1 = 0) ∧ (win0_1.index t 0 = 0 ∧ win0_1.index t 1 = 0) ∧ (win0_2.index t 0 = 0 ∧ win0_2.index t 1 = 0) ∧ t.val < 1 := by
  rcases fin_N0 t with rfl <;> decide +kernel

/-- A place of the left block. -/
theorem left_block (t : Fin cfg0.N) (r : Fin 512) (k : Fin 1024)  :
    iblk m c 0 t (ix2 r k) = V m c main_arg2 (ix2 r k) := by
  have e := (at_point t).1
  unfold iblk
  rw [View.read_apply]
  refine congrArg (V m c main_arg2) (ix2_of ?_ ?_)
  · show win0_0.index t 0 * 512 + 1 * r.val = r.val; rw [e.1]; omega
  · show win0_0.index t 1 * 1024 + 1 * k.val = k.val; rw [e.2]; omega

/-- A place of the right block. -/
theorem right_block (t : Fin cfg0.N) (r : Fin 1024) (k : Fin 1024)  :
    iblk m c 1 t (ix2 r k) = V m c main_arg1 (ix2 r k) := by
  have e := (at_point t).2.1
  unfold iblk
  rw [View.read_apply]
  refine congrArg (V m c main_arg1) (ix2_of ?_ ?_)
  · show win0_1.index t 0 * 1024 + 1 * r.val = r.val; rw [e.1]; omega
  · show win0_1.index t 1 * 1024 + 1 * k.val = k.val; rw [e.2]; omega

/-- Where a place of the block lies in the result. -/
theorem out_place (t : Fin cfg0.N) (r : Fin 512) (k : Fin 1024)  :
    ((cfg0.win 2).blk t).view.emb (ix2 r k) = (ix2 r k : (⟨2, ![512, 1024]⟩ : Shape).Idx) := by
  have e := (at_point t).2.2.1
  refine ix2_of ?_ ?_
  · show win0_2.index t 0 * 512 + 1 * r.val = r.val; rw [e.1]; omega
  · show win0_2.index t 1 * 1024 + 1 * k.val = k.val; rw [e.2]; omega

/-- The body's product. -/
theorem out_at (x : Vec Ideal S512x1024 .f32) (y : Vec Ideal S1024x1024 .bf16) (i : Fin 512) (j : Fin 1024) :
    out0_2 x y (ix2 i j) = ∑ d : Fin 1024, times (x (ix2 i d)) (y (ix2 j d)) := by
  unfold out0_2
  rw [View.canon_unit_zero two_axes, View.ld_unit_zero two_axes, View.ld_unit_zero two_axes]
  unfold k0_pay1
  exact dotNT_apply none _ _ i j

/-- The result after the run. -/
theorem final : (dats m 0 c).arrAt 2 cfg0.N = nt (m ((c : Thread nD τ).loc main_arg2)) (m ((c : Thread nD τ).loc main_arg1)) := by
  refine (dats m 0 c).arrAt_eq_of_cover 2 (nt _ _) (fun t _ => ?_) fun i => ?_
  · rw [Value.flushed2]
    have ht := (at_point t).2.2.2
    funext x
    obtain ⟨r, k, rfl⟩ : ∃ (r : Fin 512) (k : Fin 1024), x = ix2 r k := ⟨x 0, x 1, eq_ix2 x⟩
    rw [View.read_apply, out_place t r k ]
    refine (out_at _ _ r k).trans ?_
    refine Eq.trans (Finset.sum_congr rfl fun d _ => ?_) (nt_apply (m ((c : Thread nD τ).loc main_arg2)) (m ((c : Thread nD τ).loc main_arg1)) r k).symm
    rw [left_block m c t r d, right_block m c t k d, V_main_arg2, V_main_arg1]
  · have hN : cfg0.N = 1 := N_0
    refine ⟨⟨0, by omega⟩, flush0_2 _, ?_⟩
    exact Finset.mem_map.mpr ⟨ix2 (i 0) (i 1), Finset.mem_univ _,
      (out_place _ _ _).trans (eq_ix2 i).symm⟩

open Cert.DMnRefIdeal.Read in
/-- The reference's result. -/
theorem reference (X : S512x1024.Idx → EReal) (Y : S1024x1024.Idx → EReal) : val_main_v3 (F := Ideal) Y X = nt X Y := by
  funext i
  rw [val_main_v3_apply]
  refine Finset.sum_congr rfl fun d _ => ?_
  rw [val_main_v1_apply]
  exact congrArg₂ times (congrArg X (ix2_of rfl rfl)) (congrArg Y (ix2_of rfl rfl))

/-- The reference runs, leaves its arguments and every counter at zero. -/
theorem frame_reference : Cert.quiescent_DMnRefIdeal (hDMnRefIdeal := Cert.DMnRefIdeal.Gen.facts) := fun m ρ _ =>
  (θ_run Cert.DMnRefIdeal.defs _ _).mono (fun r h => ⟨fun c => (h c).2, Idealize.ShloMosaic.sem_eq_zero_of_no_sems (by decide) r.2⟩)
    (Cert.DMnRefIdeal.Value.run (F := Ideal) m ρ)

/-- The kernel and the reference end with equal results. -/
theorem algebraic : Cert.algebraic_DMnIdeal_DMnRefIdeal (hDMnIdeal := Cert.DMnIdeal.Gen.facts)
    (hDMnRefIdeal := Cert.DMnRefIdeal.Gen.facts) := fun m ρ m' ρ' _ hag =>
  ⟨fun c => nt (m ((c.tc : Thread nD τ).loc main_arg2)) (m ((c.tc : Thread nD τ).loc main_arg1)),
    (θ_run _ _ _).mono (fun _ h c => ⟨(h c).1.trans (final m c), (h c).2⟩) (Cert.DMnIdeal.Value.run_blocks m ρ),
    (θ_run _ _ _).mono (fun _ h c => by
      obtain ⟨e0, e1, e2⟩ := hag c
      dsimp only
      rw [← e1, ← e2]
      exact ⟨(h c).1.trans ((Cert.DMnRefIdeal.Read.val_main_v3_eq _ _).trans (reference _ _)), (h c).2⟩) (Cert.DMnRefIdeal.Value.run m' ρ')⟩

end Cert.Products.DMn
-- ==== Proof.Down.lean ====
/-
The end of the forward pass and the start of the backward one: the gradient of the last hidden rows, and each column's part of the loss. What the kernel and the reference leave, place by place.
-/
module

public import proofs.«01_k».proof.Proof.Norms
public import proofs.«01_k».proof.Proof.Gen.DownIdeal.Value
public import proofs.«01_k».proof.Proof.Gen.DownRefIdeal.Read
public import proofs.«01_k».proof.Proof.Gen.DownRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.Down

open Idealize.ShloMosaic Idealize.ShloMosaic.ValueIdx Idealize.ShloMosaic.TcCoe Idealize.SL.Sem
open Cert.DownIdeal Cert.DownIdeal.Gen

variable (m : (ℓ : Loc nD τ sig) → Buf (Elt Ideal) ℓ) (c : Dev nD)

/-- Where the windows stand at a point. -/
theorem at_point (t : Fin cfg0.N) :
    (win0_0.index t 0 = t.val / 2 ∧ win0_0.index t 1 = t.val % 2) ∧ (win0_1.index t 0 = t.val % 2 ∧ win0_1.index t 1 = 0) ∧ (win0_2.index t 0 = t.val / 2 ∧ win0_2.index t 1 = 0) ∧ (win0_3.index t 0 = t.val / 2 ∧ win0_3.index t 1 = 0) ∧ (win0_4.index t 0 = t.val / 2 ∧ win0_4.index t 1 = 0) ∧ (win0_5.index t 0 = t.val / 2 ∧ win0_5.index t 1 = 0) ∧ (win0_6.index t 0 = 0 ∧ win0_6.index t 1 = 0) ∧ t.val < 8 := by
  rcases fin_N0 t with rfl | rfl | rfl | rfl | rfl | rfl | rfl | rfl <;> decide +kernel

/-- A place of the activations. -/
theorem left_block (t : Fin cfg0.N) (r : Fin 1024) (k : Fin 2048) (sr : Fin 4096) (hsr : sr.val = 1024 * (t.val / 2) + r.val) (sk : Fin 4096) (hsk : sk.val = 2048 * (t.val % 2) + k.val) :
    iblk m c 0 t (ix2 r k) = V m c main_arg0 (ix2 sr sk) := by
  have e := (at_point t).1
  unfold iblk
  rw [View.read_apply]
  refine congrArg (V m c main_arg0) (ix2_of ?_ ?_)
  · show win0_0.index t 0 * 1024 + 1 * r.val = sr.val; rw [e.1, hsr]; omega
  · show win0_0.index t 1 * 2048 + 1 * k.val = sk.val; rw [e.2, hsk]; omega

/-- A place of the weights. -/
theorem weight_block (t : Fin cfg0.N) (r : Fin 2048) (k : Fin 1024) (sr : Fin 4096) (hsr : sr.val = 2048 * (t.val % 2) + r.val) :
    iblk m c 1 t (ix2 r k) = V m c main_arg1 (ix2 sr k) := by
  have e := (at_point t).2.1
  unfold iblk
  rw [View.read_apply]
  refine congrArg (V m c main_arg1) (ix2_of ?_ ?_)
  · show win0_1.index t 0 * 2048 + 1 * r.val = sr.val; rw [e.1, hsr]; omega
  · show win0_1.index t 1 * 1024 + 1 * k.val = k.val; rw [e.2]; omega

/-- A place of what is added to. -/
theorem row_block (t : Fin cfg0.N) (r : Fin 1024) (k : Fin 1024) (sr : Fin 4096) (hsr : sr.val = 1024 * (t.val / 2) + r.val) :
    iblk m c 2 t (ix2 r k) = V m c main_arg2 (ix2 sr k) := by
  have e := (at_point t).2.2.1
  unfold iblk
  rw [View.read_apply]
  refine congrArg (V m c main_arg2) (ix2_of ?_ ?_)
  · show win0_2.index t 0 * 1024 + 1 * r.val = sr.val; rw [e.1, hsr]; omega
  · show win0_2.index t 1 * 1024 + 1 * k.val = k.val; rw [e.2]; omega

/-- A place of the target. -/
theorem target_block (t : Fin cfg0.N) (r : Fin 1024) (k : Fin 1024) (sr : Fin 4096) (hsr : sr.val = 1024 * (t.val / 2) + r.val) :
    iblk m c 3 t (ix2 r k) = V m c main_arg3 (ix2 sr k) := by
  have e := (at_point t).2.2.2.1
  unfold iblk
  rw [View.read_apply]
  refine congrArg (V m c main_arg3) (ix2_of ?_ ?_)
  · show win0_3.index t 0 * 1024 + 1 * r.val = sr.val; rw [e.1, hsr]; omega
  · show win0_3.index t 1 * 1024 + 1 * k.val = k.val; rw [e.2]; omega

/-- Where a place of the block lies in the first result. -/
theorem rows_place (t : Fin cfg0.N) (r : Fin 1024) (k : Fin 1024) (sr : Fin 4096) (hsr : sr.val = 1024 * (t.val / 2) + r.val) :
    ((cfg0.win 4).blk t).view.emb (ix2 r k) = (ix2 sr k : (⟨2, ![4096, 1024]⟩ : Shape).Idx) := by
  have e := (at_point t).2.2.2.2.1
  refine ix2_of ?_ ?_
  · show win0_4.index t 0 * 1024 + 1 * r.val = sr.val; rw [e.1, hsr]; omega
  · show win0_4.index t 1 * 1024 + 1 * k.val = k.val; rw [e.2]; omega

/-- Where a place of the block lies in the second result. -/
theorem copy_place (t : Fin cfg0.N) (r : Fin 1024) (k : Fin 1024) (sr : Fin 4096) (hsr : sr.val = 1024 * (t.val / 2) + r.val) :
    ((cfg0.win 5).blk t).view.emb (ix2 r k) = (ix2 sr k : (⟨2, ![4096, 1024]⟩ : Shape).Idx) := by
  have e := (at_point t).2.2.2.2.2.1
  refine ix2_of ?_ ?_
  · show win0_5.index t 0 * 1024 + 1 * r.val = sr.val; rw [e.1, hsr]; omega
  · show win0_5.index t 1 * 1024 + 1 * k.val = k.val; rw [e.2]; omega

/-- Where a place of the block lies in the third result. -/
theorem sums_place (t : Fin cfg0.N) (r : Fin 1) (k : Fin 1024)  :
    ((cfg0.win 6).blk t).view.emb (ix2 r k) = (ix2 r k : (⟨2, ![1, 1024]⟩ : Shape).Idx) := by
  have e := (at_point t).2.2.2.2.2.2.1
  refine ix2_of ?_ ?_
  · show win0_6.index t 0 * 1 + 1 * r.val = r.val; rw [e.1]; omega
  · show win0_6.index t 1 * 1024 + 1 * k.val = k.val; rw [e.2]; omega

/-- What is left between the layer's result and the target. -/
def rest (H : S4096x4096.Idx → EReal) (W R T : S4096x1024.Idx → EReal) : S4096x1024.Idx → EReal :=
  fun i => plus (R i) (nn H W i) - T i

/-- The gradient of the layer's result: what is left, over the number of columns. -/
def grad (H : S4096x4096.Idx → EReal) (W R T : S4096x1024.Idx → EReal) : S4096x1024.Idx → EReal :=
  fun i => times (rest H W R T i) (Ideal.ofBits .f32 0x3A800000#32)

/-- Each column's sum of the squares of what is left. -/
def sums (H : S4096x4096.Idx → EReal) (W R T : S4096x1024.Idx → EReal) : S1x1024.Idx → EReal :=
  fun j => ∑ i : Fin 4096, times (rest H W R T (ix2 i (j 1))) (rest H W R T (ix2 i (j 1)))

/-- The body adds the product of its blocks to what the scratch held. -/
theorem add_at (a : Vec Ideal S1024x1024 .f32) (x : Vec Ideal S1024x2048 .bf16) (y : Vec Ideal S2048x1024 .bf16) (i : S1024x1024.Idx) :
    k0_pay2 a x y i = plus (a i) (nn x y i) := by
  obtain ⟨r, k, rfl⟩ : ∃ (r : Fin 1024) (k : Fin 1024), i = ix2 r k := ⟨i 0, i 1, eq_ix2 i⟩
  unfold k0_pay2
  rw [shapeCast_self]
  exact congrArg (plus (a (ix2 r k))) (dotNN_apply none _ _ r k)

/-- The product of the two blocks of a point. -/
def part (t : Fin cfg0.N) : S1024x1024.Idx → EReal := nn (iblk m c 0 t : Vec Ideal S1024x2048 .bf16) (iblk m c 1 t : Vec Ideal S2048x1024 .bf16)

/-- The scratch after the second of a stripe's two points. -/
theorem scratch (t : Fin cfg0.N) (ht : t.val % 2 = 2 - 1) (i : S1024x1024.Idx) :
    (outsAt0 m c t.val t.isLt).2.2.2 i = ∑ s : Fin 2, part m c ⟨2 * (t.val / 2) + s.val, Pipeline.run_point_lt_of_flush t ht s⟩ i := by
  refine (Pipeline.eq_sum_fin_of_reset_step_apply_of_flush (M := EReal) (fun n h => (outsAt0 m c n h).2.2.2) 2 (fun _ => 0) (part m c) ?_ ?_ t ht i).trans (zero_add _)
  · intro t h0 i
    have h1 : ¬t.val % 2 = 1 := by omega
    show (outsAt0 m c t.val t.isLt).2.2.2 i = _
    rw [outsAt0_A m c t h0 h1]
    frame_out
    refine (add_at _ _ _ i).trans (congrArg (plus · _) ?_)
    unfold k0_pay1
    rw [shapeCast_self]
    exact Ideal.ofBits_zero_f32
  · intro t h0 i
    show (outsAt0 m c t.val t.isLt).2.2.2 i = _
    by_cases h2 : t.val < 2
    · rw [outsAt0_B m c t h0 (by omega) h2]
      frame_out
      rw [(Memref.isWhole_whole _).read_unread]
      exact add_at _ _ _ i
    · rw [outsAt0_C m c t h0 (by omega) h2]
      frame_out
      rw [(Memref.isWhole_whole _).read_unread]
      exact add_at _ _ _ i

/-- A place of the scratch, then, in the whole product. -/
theorem product_block (t : Fin cfg0.N) (ht : t.val % 2 = 2 - 1) (r k : Fin 1024) (s : Fin 4096) (hs : s.val = 1024 * (t.val / 2) + r.val) :
    (outsAt0 m c t.val t.isLt).2.2.2 (ix2 r k) = nn (m ((c : Thread nD τ).loc main_arg0)) (m ((c : Thread nD τ).loc main_arg1)) (ix2 s k) := by
  refine (scratch m c t ht (ix2 r k)).trans ((Fin.sum_mul_add_congr fun q d hl => ?_).trans (nn_apply (m ((c : Thread nD τ).loc main_arg0)) (m ((c : Thread nD τ).loc main_arg1)) s k).symm)
  rw [left_block m c _ r d s (by show s.val = 1024 * ((2 * (t.val / 2) + q.val) / 2) + r.val; omega) ⟨q.val * 2048 + d.val, hl⟩
      (by show q.val * 2048 + d.val = 2048 * ((2 * (t.val / 2) + q.val) % 2) + d.val; omega),
    weight_block m c _ d k ⟨q.val * 2048 + d.val, hl⟩ (by show q.val * 2048 + d.val = 2048 * ((2 * (t.val / 2) + q.val) % 2) + d.val; omega),
    V_main_arg0, V_main_arg1]

/-- What the second point leaves of the gradient. -/
theorem rows_out (t : Fin cfg0.N) (ht : t.val % 2 = 2 - 1) :
    (outsAt0 m c t.val t.isLt).1 = k0_pay4 (outsAt0 m c t.val t.isLt).2.2.2 (iblk m c 2 t) (iblk m c 3 t) := by
  by_cases h2 : t.val < 2
  · rw [outsAt0_B m c t (by omega) ht h2]
    frame_out
  · rw [outsAt0_C m c t (by omega) ht h2]
    frame_out

/-- And of its copy. -/
theorem copy_out (t : Fin cfg0.N) (ht : t.val % 2 = 2 - 1) :
    (outsAt0 m c t.val t.isLt).2.1 = k0_pay5 (outsAt0 m c t.val t.isLt).2.2.2 (iblk m c 2 t) (iblk m c 3 t) := by
  by_cases h2 : t.val < 2
  · rw [outsAt0_B m c t (by omega) ht h2]
    frame_out
  · rw [outsAt0_C m c t (by omega) ht h2]
    frame_out

/-- A place of what the body finds left, in the whole. -/
theorem rest_block (t : Fin cfg0.N) (ht : t.val % 2 = 2 - 1) (r k : Fin 1024) (s : Fin 4096) (hs : s.val = 1024 * (t.val / 2) + r.val) :
    k0_pay3 (outsAt0 m c t.val t.isLt).2.2.2 (iblk m c 2 t) (iblk m c 3 t) (ix2 r k) = rest (m ((c : Thread nD τ).loc main_arg0)) (m ((c : Thread nD τ).loc main_arg1)) (m ((c : Thread nD τ).loc main_arg2)) (m ((c : Thread nD τ).loc main_arg3)) (ix2 s k) := by
  show plus ((outsAt0 m c t.val t.isLt).2.2.2 (ix2 r k)) (iblk m c 2 t (ix2 r k)) - iblk m c 3 t (ix2 r k) = _
  rw [product_block m c t ht r k s hs, row_block m c t r k s hs, target_block m c t r k s hs, V_main_arg2, V_main_arg3]
  exact congrArg (· - _) (add_comm _ _)

/-- A place of the gradient, in the whole. -/
theorem rows_block (t : Fin cfg0.N) (ht : t.val % 2 = 2 - 1) (r k : Fin 1024) (s : Fin 4096) (hs : s.val = 1024 * (t.val / 2) + r.val) :
    k0_pay4 (outsAt0 m c t.val t.isLt).2.2.2 (iblk m c 2 t) (iblk m c 3 t) (ix2 r k) = grad (m ((c : Thread nD τ).loc main_arg0)) (m ((c : Thread nD τ).loc main_arg1)) (m ((c : Thread nD τ).loc main_arg2)) (m ((c : Thread nD τ).loc main_arg3)) (ix2 s k) :=
  congrArg (times · _) (rest_block m c t ht r k s hs)

/-- The body adds its rows' squares to what the third result held. -/
theorem sums_at (x y z : Vec Ideal S1024x1024 .f32) (a : Vec Ideal S1x1024 .f32) (i : S1x1024.Idx) :
    k0_pay7 x y z a i = plus (a i) (∑ r : Fin 1024, times (k0_pay3 x y z (ix2 r (i 1))) (k0_pay3 x y z (ix2 r (i 1)))) := by
  obtain ⟨r, k, rfl⟩ : ∃ (r : Fin 1) (k : Fin 1024), i = ix2 r k := ⟨i 0, i 1, eq_ix2 i⟩
  unfold k0_pay7
  rw [shapeCast_self]
  exact congrArg (plus (a (ix2 r k))) (sum_down _ _ _ _ _ r k)

/-- A stripe's part of a column's sum. -/
def term (i : S1x1024.Idx) (s : Nat) : EReal :=
  ∑ r : Fin 1024, times (rest (m ((c : Thread nD τ).loc main_arg0)) (m ((c : Thread nD τ).loc main_arg1)) (m ((c : Thread nD τ).loc main_arg2)) (m ((c : Thread nD τ).loc main_arg3)) (ix2 (stripe s r) (i 1))) (rest (m ((c : Thread nD τ).loc main_arg0)) (m ((c : Thread nD τ).loc main_arg1)) (m ((c : Thread nD τ).loc main_arg2)) (m ((c : Thread nD τ).loc main_arg3)) (ix2 (stripe s r) (i 1)))

theorem term_eq (t : Fin cfg0.N) (ht : t.val % 2 = 2 - 1) (i : S1x1024.Idx) :
    ∑ r : Fin 1024, times (k0_pay3 (outsAt0 m c t.val t.isLt).2.2.2 (iblk m c 2 t) (iblk m c 3 t) (ix2 r (i 1)))
        (k0_pay3 (outsAt0 m c t.val t.isLt).2.2.2 (iblk m c 2 t) (iblk m c 3 t) (ix2 r (i 1)))
      = term m c i (t.val / 2) := by
  have h := (at_point t).2.2.2.2.2.2.2
  refine Finset.sum_congr rfl fun r _ => ?_
  have e := rest_block m c t ht r (i 1) (stripe (t.val / 2) r) (by show t.val / 2 % 4 * 1024 + r.val = _; omega)
  exact congrArg₂ times e e

/-- The third result after the second point of a stripe. -/
theorem sums_first (t : Fin cfg0.N) (h1 : t.val % 2 = 1) (h2 : t.val < 2) :
    (outsAt0 m c t.val t.isLt).2.2.1 = k0_pay7 (outsAt0 m c t.val t.isLt).2.2.2 (iblk m c 2 t) (iblk m c 3 t) (k0_pay6 (F := Ideal)) := by
  rw [outsAt0_B m c t (by omega) h1 h2]
  frame_out
theorem sums_next (t : Fin cfg0.N) (h1 : t.val % 2 = 1) (h2 : ¬t.val < 2) :
    (outsAt0 m c t.val t.isLt).2.2.1 = k0_pay7 (outsAt0 m c t.val t.isLt).2.2.2 (iblk m c 2 t) (iblk m c 3 t)
      (outsAt0 m c (t.val - 1) (Nat.lt_of_le_of_lt (Nat.sub_le _ _) t.isLt)).2.2.1 := by
  rw [outsAt0_C m c t (by omega) h1 h2]
  frame_out
theorem sums_kept (t : Fin cfg0.N) (h0 : t.val % 2 = 0) :
    (outsAt0 m c t.val t.isLt).2.2.1 = (outsAt0 m c (t.val - 1) (Nat.lt_of_le_of_lt (Nat.sub_le _ _) t.isLt)).2.2.1 := by
  rw [outsAt0_A m c t h0 (by omega)]
  rfl

/-- The columns' sums after the last point. -/
theorem sums_out (t : Fin cfg0.N) (ht : t.val % 8 = 7) (i : S1x1024.Idx) :
    (outsAt0 m c t.val t.isLt).2.2.1 i = sums (m ((c : Thread nD τ).loc main_arg0)) (m ((c : Thread nD τ).loc main_arg1)) (m ((c : Thread nD τ).loc main_arg2)) (m ((c : Thread nD τ).loc main_arg3)) i := by
  have h := (at_point t).2.2.2.2.2.2.2
  have e : (t.val + 1) / 2 = 4 := by omega
  refine (sum_of_flushes 2 (by decide) (fun n h => (outsAt0 m c n h).2.2.1 i) (term m c i) ?_ ?_ ?_ t.val t.isLt (by omega)).trans ?_
  · intro n hn hd
    exact congrFun (sums_kept m c ⟨n, hn⟩ (by show n % 2 = 0; omega)) i
  · intro n hn he
    refine (congrFun (sums_first m c ⟨n, hn⟩ (by show n % 2 = 1; omega) (by show n < 2; omega)) i).trans ((sums_at _ _ _ _ i).trans ?_)
    rw [term_eq m c ⟨n, hn⟩ (by show n % 2 = 2 - 1; omega) i]
    have e0 : n / 2 = 0 := by omega
    show plus (Ideal.ofBits .f32 0x00000000#32) (term m c i (n / 2)) = _
    rw [e0]
    exact (congrArg (plus · _) Ideal.ofBits_zero_f32).trans (zero_add _)
  · intro n hn hd hl
    refine (congrFun (sums_next m c ⟨n, hn⟩ (by show n % 2 = 1; omega) (by show ¬n < 2; omega)) i).trans ((sums_at _ _ _ _ i).trans ?_)
    exact congrArg (plus _) (term_eq m c ⟨n, hn⟩ (by show n % 2 = 2 - 1; omega) i)
  · rw [e]
    exact sum_of_stripes fun a => times (rest (m ((c : Thread nD τ).loc main_arg0)) (m ((c : Thread nD τ).loc main_arg1)) (m ((c : Thread nD τ).loc main_arg2)) (m ((c : Thread nD τ).loc main_arg3)) (ix2 a (i 1))) (rest (m ((c : Thread nD τ).loc main_arg0)) (m ((c : Thread nD τ).loc main_arg1)) (m ((c : Thread nD τ).loc main_arg2)) (m ((c : Thread nD τ).loc main_arg3)) (ix2 a (i 1)))

/-- The gradient after the run. -/
theorem final_rows : (dats m 0 c).arrAt 4 cfg0.N = grad (m ((c : Thread nD τ).loc main_arg0)) (m ((c : Thread nD τ).loc main_arg1)) (m ((c : Thread nD τ).loc main_arg2)) (m ((c : Thread nD τ).loc main_arg3)) := by
  refine (dats m 0 c).arrAt_eq_of_cover 4 (grad _ _ _ _) (fun t hf => ?_) fun i => ?_
  · rw [Value.flushed4]
    have ht : t.val % 2 = 2 - 1 := (flush0_4 t).mp hf
    have hb := (at_point t).2.2.2.2.2.2.2
    funext x
    obtain ⟨r, k, rfl⟩ : ∃ (r : Fin 1024) (k : Fin 1024), x = ix2 r k := ⟨x 0, x 1, eq_ix2 x⟩
    have hr : 1024 * (t.val / 2) + r.val < 4096 := by have := r.isLt; omega
    rw [View.read_apply, rows_place t r k ⟨_, hr⟩ rfl]
    exact (congrFun (rows_out m c t ht) (ix2 r k)).trans (rows_block m c t ht r k ⟨_, hr⟩ rfl)
  · have hN : cfg0.N = 8 := N_0
    have h0 : (i 0).val < 4096 := idx2_lt0 (n0 := 4096) (n1 := 1024) i
    refine ⟨⟨2 * ((i 0).val / 1024) + 1, by omega⟩, (flush0_4 _).mpr (by show (2 * ((i 0).val / 1024) + 1) % 2 = 1; omega), ?_⟩
    exact Finset.mem_map.mpr ⟨ix2 ⟨(i 0).val % 1024, by omega⟩ (i 1), Finset.mem_univ _,
      (rows_place _ _ _ (i 0) (by show (i 0).val = 1024 * ((2 * ((i 0).val / 1024) + 1) / 2) + (i 0).val % 1024; omega)).trans (eq_ix2 i).symm⟩

/-- Its copy after the run. -/
theorem final_copy : (dats m 0 c).arrAt 5 cfg0.N = grad (m ((c : Thread nD τ).loc main_arg0)) (m ((c : Thread nD τ).loc main_arg1)) (m ((c : Thread nD τ).loc main_arg2)) (m ((c : Thread nD τ).loc main_arg3)) := by
  refine (dats m 0 c).arrAt_eq_of_cover 5 (grad _ _ _ _) (fun t hf => ?_) fun i => ?_
  · rw [Value.flushed5]
    have ht : t.val % 2 = 2 - 1 := (flush0_5 t).mp hf
    have hb := (at_point t).2.2.2.2.2.2.2
    funext x
    obtain ⟨r, k, rfl⟩ : ∃ (r : Fin 1024) (k : Fin 1024), x = ix2 r k := ⟨x 0, x 1, eq_ix2 x⟩
    have hr : 1024 * (t.val / 2) + r.val < 4096 := by have := r.isLt; omega
    rw [View.read_apply, copy_place t r k ⟨_, hr⟩ rfl]
    exact (congrFun (copy_out m c t ht) (ix2 r k)).trans (rows_block m c t ht r k ⟨_, hr⟩ rfl)
  · have hN : cfg0.N = 8 := N_0
    have h0 : (i 0).val < 4096 := idx2_lt0 (n0 := 4096) (n1 := 1024) i
    refine ⟨⟨2 * ((i 0).val / 1024) + 1, by omega⟩, (flush0_5 _).mpr (by show (2 * ((i 0).val / 1024) + 1) % 2 = 1; omega), ?_⟩
    exact Finset.mem_map.mpr ⟨ix2 ⟨(i 0).val % 1024, by omega⟩ (i 1), Finset.mem_univ _,
      (copy_place _ _ _ (i 0) (by show (i 0).val = 1024 * ((2 * ((i 0).val / 1024) + 1) / 2) + (i 0).val % 1024; omega)).trans (eq_ix2 i).symm⟩

/-- The columns' sums after the run. -/
theorem final_sums : (dats m 0 c).arrAt 6 cfg0.N = sums (m ((c : Thread nD τ).loc main_arg0)) (m ((c : Thread nD τ).loc main_arg1)) (m ((c : Thread nD τ).loc main_arg2)) (m ((c : Thread nD τ).loc main_arg3)) := by
  have hN : cfg0.N = 8 := N_0
  refine (dats m 0 c).arrAt_eq_of_cover 6 (sums _ _ _ _) (fun t hf => ?_) fun i => ?_
  · rw [Value.flushed6]
    have ht : t.val % 8 = 7 := (flush0_6 t).mp hf
    funext x
    obtain ⟨r, k, rfl⟩ : ∃ (r : Fin 1) (k : Fin 1024), x = ix2 r k := ⟨x 0, x 1, eq_ix2 x⟩
    rw [View.read_apply, sums_place t r k]
    exact sums_out m c t ht (ix2 r k)
  · refine ⟨⟨7, by omega⟩, (flush0_6 _).mpr rfl, ?_⟩
    exact Finset.mem_map.mpr ⟨ix2 (i 0) (i 1), Finset.mem_univ _, (sums_place _ _ _).trans (eq_ix2 i).symm⟩

/-- Half of one, over the number of columns, twice: one over the number of columns. -/
theorem factors (x : EReal) : times (Ideal.div (times (Ideal.ofBits .f32 0x3F000000#32) (Ideal.ofBits .f32 0x3F800000#32)) (Ideal.ofBits .f32 0x44800000#32))
    (times (Ideal.ofBits .f32 0x40000000#32) x) = times x (Ideal.ofBits .f32 0x3A800000#32) := by
  have h : Ideal.ofBits .f32 0x3F000000#32 = ((1 / 2 : ℝ) : EReal) := by
    simp [Ideal.ofBits, Ideal.ieee, -EReal.coe_mul]; norm_num
  have h₁ : Ideal.ofBits .f32 0x3F800000#32 = ((1 : ℝ) : EReal) := by
    simp [Ideal.ofBits, Ideal.ieee, -EReal.coe_mul]; norm_num
  have h₂ : Ideal.ofBits .f32 0x40000000#32 = ((2 : ℝ) : EReal) := by
    simp [Ideal.ofBits, Ideal.ieee, -EReal.coe_mul]; norm_num
  have h₃ : Ideal.ofBits .f32 0x3A800000#32 = ((1 / 1024 : ℝ) : EReal) := by
    simp [Ideal.ofBits, Ideal.ieee, -EReal.coe_mul]; norm_num
  have h₄ : Ideal.ofBits .f32 0x44800000#32 = ((1024 : ℝ) : EReal) := word_count
  rw [h, h₁, h₂, h₃, h₄]
  unfold times
  rw [← EReal.coe_mul, XAttn.div_real (by norm_num), ← mul_assoc, ← EReal.coe_mul, mul_comm]
  exact congrArg (fun r : ℝ => x * (r : EReal)) (by norm_num)

open Cert.DownRefIdeal.Read in
/-- The layer's product, in the reference. -/
theorem reference_product (H : S4096x4096.Idx → EReal) (W : S4096x1024.Idx → EReal) : val_main_v2 (F := Ideal) H W = nn H W := by
  funext i
  rw [val_main_v2_apply]
  refine Finset.sum_congr rfl fun d _ => ?_
  rw [val_main_v0_apply, val_main_v1_apply]
  exact congrArg₂ times (congrArg H (ix2_of rfl rfl)) (congrArg W (ix2_of rfl rfl))

open Cert.DownRefIdeal.Read in
/-- What is left, in the reference. -/
theorem reference_rest (H : S4096x4096.Idx → EReal) (W R T : S4096x1024.Idx → EReal) : val_main_v4 (F := Ideal) H W R T = rest H W R T := by
  funext i
  rw [val_main_v4_apply, val_main_v3_apply, reference_product]
  rfl

open Cert.DownRefIdeal.Read in
theorem reference_rest_again (H : S4096x4096.Idx → EReal) (W R T : S4096x1024.Idx → EReal) : val_main_v20 (F := Ideal) H W R T = rest H W R T := by
  funext i
  rw [val_main_v20_apply, val_main_v3_apply, reference_product]
  rfl

open Cert.DownRefIdeal.Read in
/-- The reference's gradient. -/
theorem reference_rows (H : S4096x4096.Idx → EReal) (W R T : S4096x1024.Idx → EReal) : val_main_v18 (F := Ideal) H W R T = grad H W R T := by
  funext i
  rw [val_main_v18_apply, val_main_v17_apply, val_main_v16_apply, val_main_v14_apply, val_main_v13_apply, val_main_v15_apply, val_main_v7_apply, val_main_v6_apply,
    val_main_cst_4_apply, val_main_cst_5_apply, val_main_cst_6_apply, val_main_cst_apply, reference_rest]
  exact factors _

open Cert.DownRefIdeal.Read in
/-- The same once more, in the narrow type. -/
theorem reference_copy (H : S4096x4096.Idx → EReal) (W R T : S4096x1024.Idx → EReal) : val_main_v19 (F := Ideal) H W R T = grad H W R T := by
  funext i
  exact (val_main_v19_apply (F := Ideal) H W R T i).trans (congrFun (reference_rows H W R T) i)

open Cert.DownRefIdeal.Read in
/-- The reference's sums. -/
theorem reference_sums (H : S4096x4096.Idx → EReal) (W R T : S4096x1024.Idx → EReal) : val_main_v23 (F := Ideal) H W R T = sums H W R T := by
  funext j
  rw [val_main_v23_apply, val_main_v22_apply, val_main_cst_7_apply]
  refine (congrArg₂ plus Ideal.ofBits_zero_f32 (Finset.sum_congr rfl fun r _ => ?_)).trans (zero_add _)
  rw [val_main_v21_apply, reference_rest_again]
  have e : idx_main_v22 (idx_main_v23 j) r = (ix2 r (j 1) : S4096x1024.Idx) := ix2_of rfl rfl
  rw [e]
  rfl

/-- The reference runs, leaves its arguments and every counter at zero. -/
theorem frame_reference : Cert.quiescent_DownRefIdeal (hDownRefIdeal := Cert.DownRefIdeal.Gen.facts) := fun m ρ _ =>
  (θ_run Cert.DownRefIdeal.defs _ _).mono (fun r h => ⟨fun c => (h c).2.2.2, Idealize.ShloMosaic.sem_eq_zero_of_no_sems (by decide) r.2⟩)
    (Cert.DownRefIdeal.Value.run (F := Ideal) m ρ)

/-- The kernel and the reference end with equal results. -/
theorem algebraic : Cert.algebraic_DownIdeal_DownRefIdeal (hDownIdeal := Cert.DownIdeal.Gen.facts)
    (hDownRefIdeal := Cert.DownRefIdeal.Gen.facts) := fun m ρ m' ρ' _ hag =>
  ⟨fun c => grad (m ((c.tc : Thread nD τ).loc main_arg0)) (m ((c.tc : Thread nD τ).loc main_arg1)) (m ((c.tc : Thread nD τ).loc main_arg2)) (m ((c.tc : Thread nD τ).loc main_arg3)), fun c => grad (m ((c.tc : Thread nD τ).loc main_arg0)) (m ((c.tc : Thread nD τ).loc main_arg1)) (m ((c.tc : Thread nD τ).loc main_arg2)) (m ((c.tc : Thread nD τ).loc main_arg3)), fun c => sums (m ((c.tc : Thread nD τ).loc main_arg0)) (m ((c.tc : Thread nD τ).loc main_arg1)) (m ((c.tc : Thread nD τ).loc main_arg2)) (m ((c.tc : Thread nD τ).loc main_arg3)),
    (θ_run _ _ _).mono (fun _ h c => ⟨(h c).1.trans (final_rows m c), (h c).2.1.trans (final_copy m c), (h c).2.2.1.trans (final_sums m c), (h c).2.2.2⟩) (Cert.DownIdeal.Value.run_blocks m ρ),
    (θ_run _ _ _).mono (fun _ h c => by
      obtain ⟨e0, e1, e2, e3⟩ := hag c
      dsimp only
      rw [← e0, ← e1, ← e2, ← e3]
      exact ⟨(h c).1.trans ((Cert.DownRefIdeal.Read.val_main_v18_eq _ _ _ _).trans (reference_rows _ _ _ _)), (h c).2.1.trans ((Cert.DownRefIdeal.Read.val_main_v19_eq _ _ _ _).trans (reference_copy _ _ _ _)), (h c).2.2.1.trans ((Cert.DownRefIdeal.Read.val_main_v23_eq _ _ _ _).trans (reference_sums _ _ _ _)), (h c).2.2.2⟩) (Cert.DownRefIdeal.Value.run m' ρ')⟩

end Cert.Products.Down
-- ==== Proof.DHn3.lean ====
/-
The gradient of the hidden rows before the feed-forward layer's norm, and of that norm's gain: what the kernel and the reference leave, place by place.
-/
module

public import proofs.«01_k».proof.Proof.Norms
public import proofs.«01_k».proof.Proof.Gen.DHn3Ideal.Value
public import proofs.«01_k».proof.Proof.Gen.DHn3RefIdeal.Read
public import proofs.«01_k».proof.Proof.Gen.DHn3RefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.DHn3

open Idealize.ShloMosaic Idealize.ShloMosaic.ValueIdx Idealize.ShloMosaic.TcCoe Idealize.SL.Sem
open Cert.DHn3Ideal Cert.DHn3Ideal.Gen

variable (m : (ℓ : Loc nD τ sig) → Buf (Elt Ideal) ℓ) (c : Dev nD)

/-- Where the windows stand at a point. -/
theorem at_point (t : Fin cfg0.N) :
    (win0_0.index t 0 = t.val / 4 ∧ win0_0.index t 1 = t.val % 4) ∧ (win0_1.index t 0 = t.val % 4 ∧ win0_1.index t 1 = 0 ∧ win0_1.index t 2 = 0) ∧ (win0_2.index t 0 = t.val / 4 ∧ win0_2.index t 1 = 0) ∧ (win0_3.index t 0 = t.val / 4 ∧ win0_3.index t 1 = 0) ∧ (win0_4.index t 0 = 0 ∧ win0_4.index t 1 = 0) ∧ (win0_5.index t 0 = t.val / 4 ∧ win0_5.index t 1 = 0) ∧ (win0_6.index t 0 = t.val / 4 ∧ win0_6.index t 1 = 0) ∧ (win0_7.index t 0 = 0 ∧ win0_7.index t 1 = 0) ∧ t.val < 16 := by
  rcases fin_N0 t with rfl | rfl | rfl | rfl | rfl | rfl | rfl | rfl | rfl | rfl | rfl | rfl | rfl | rfl | rfl | rfl <;> decide +kernel

/-- A place of the gradient of the product. -/
theorem left_block (t : Fin cfg0.N) (r : Fin 1024) (k : Fin 1024) (sr : Fin 4096) (hsr : sr.val = 1024 * (t.val / 4) + r.val) (sk : Fin 4096) (hsk : sk.val = 1024 * (t.val % 4) + k.val) :
    iblk m c 0 t (ix2 r k) = V m c main_arg3 (ix2 sr sk) := by
  have e := (at_point t).1
  unfold iblk
  rw [View.read_apply]
  refine congrArg (V m c main_arg3) (ix2_of ?_ ?_)
  · show win0_0.index t 0 * 1024 + 1 * r.val = sr.val; rw [e.1, hsr]; omega
  · show win0_0.index t 1 * 1024 + 1 * k.val = sk.val; rw [e.2, hsk]; omega

/-- A place of the weights. -/
theorem weight_block (t : Fin cfg0.N) (r : Fin 1) (k : Fin 1024) (l : Fin 1024) (sr : Fin 4) (hsr : sr.val = 1 * (t.val % 4) + r.val) :
    iblk m c 1 t (ix3 r k l) = V m c main_arg2 (ix3 sr k l) := by
  have e := (at_point t).2.1
  unfold iblk
  rw [View.read_apply]
  refine congrArg (V m c main_arg2) (ix3_of ?_ ?_ ?_)
  · show win0_1.index t 0 * 1 + 1 * r.val = sr.val; rw [e.1, hsr]; omega
  · show win0_1.index t 1 * 1024 + 1 * k.val = k.val; rw [e.2.1]; omega
  · show win0_1.index t 2 * 1024 + 1 * l.val = l.val; rw [e.2.2]; omega

/-- A place of the rows. -/
theorem row_block (t : Fin cfg0.N) (r : Fin 1024) (k : Fin 1024) (sr : Fin 4096) (hsr : sr.val = 1024 * (t.val / 4) + r.val) :
    iblk m c 2 t (ix2 r k) = V m c main_arg0 (ix2 sr k) := by
  have e := (at_point t).2.2.1
  unfold iblk
  rw [View.read_apply]
  refine congrArg (V m c main_arg0) (ix2_of ?_ ?_)
  · show win0_2.index t 0 * 1024 + 1 * r.val = sr.val; rw [e.1, hsr]; omega
  · show win0_2.index t 1 * 1024 + 1 * k.val = k.val; rw [e.2]; omega

/-- A place of what is added to. -/
theorem old_block (t : Fin cfg0.N) (r : Fin 1024) (k : Fin 1024) (sr : Fin 4096) (hsr : sr.val = 1024 * (t.val / 4) + r.val) :
    iblk m c 3 t (ix2 r k) = V m c main_arg4 (ix2 sr k) := by
  have e := (at_point t).2.2.2.1
  unfold iblk
  rw [View.read_apply]
  refine congrArg (V m c main_arg4) (ix2_of ?_ ?_)
  · show win0_3.index t 0 * 1024 + 1 * r.val = sr.val; rw [e.1, hsr]; omega
  · show win0_3.index t 1 * 1024 + 1 * k.val = k.val; rw [e.2]; omega

/-- A place of the gain. -/
theorem gain_block (t : Fin cfg0.N) (r : Fin 1) (k : Fin 1024)  :
    iblk m c 4 t (ix2 r k) = V m c main_arg1 (ix2 r k) := by
  have e := (at_point t).2.2.2.2.1
  unfold iblk
  rw [View.read_apply]
  refine congrArg (V m c main_arg1) (ix2_of ?_ ?_)
  · show win0_4.index t 0 * 1 + 1 * r.val = r.val; rw [e.1]; omega
  · show win0_4.index t 1 * 1024 + 1 * k.val = k.val; rw [e.2]; omega

/-- Where a place of the block lies in the first result. -/
theorem rows_place (t : Fin cfg0.N) (r : Fin 1024) (k : Fin 1024) (sr : Fin 4096) (hsr : sr.val = 1024 * (t.val / 4) + r.val) :
    ((cfg0.win 5).blk t).view.emb (ix2 r k) = (ix2 sr k : (⟨2, ![4096, 1024]⟩ : Shape).Idx) := by
  have e := (at_point t).2.2.2.2.2.1
  refine ix2_of ?_ ?_
  · show win0_5.index t 0 * 1024 + 1 * r.val = sr.val; rw [e.1, hsr]; omega
  · show win0_5.index t 1 * 1024 + 1 * k.val = k.val; rw [e.2]; omega

/-- Where a place of the block lies in the second result. -/
theorem copy_place (t : Fin cfg0.N) (r : Fin 1024) (k : Fin 1024) (sr : Fin 4096) (hsr : sr.val = 1024 * (t.val / 4) + r.val) :
    ((cfg0.win 6).blk t).view.emb (ix2 r k) = (ix2 sr k : (⟨2, ![4096, 1024]⟩ : Shape).Idx) := by
  have e := (at_point t).2.2.2.2.2.2.1
  refine ix2_of ?_ ?_
  · show win0_6.index t 0 * 1024 + 1 * r.val = sr.val; rw [e.1, hsr]; omega
  · show win0_6.index t 1 * 1024 + 1 * k.val = k.val; rw [e.2]; omega

/-- Where a place of the block lies in the third result. -/
theorem gain_place (t : Fin cfg0.N) (r : Fin 1) (k : Fin 1024)  :
    ((cfg0.win 7).blk t).view.emb (ix2 r k) = (ix2 r k : (⟨2, ![1, 1024]⟩ : Shape).Idx) := by
  have e := (at_point t).2.2.2.2.2.2.2.1
  refine ix2_of ?_ ?_
  · show win0_7.index t 0 * 1 + 1 * r.val = r.val; rw [e.1]; omega
  · show win0_7.index t 1 * 1024 + 1 * k.val = k.val; rw [e.2]; omega

/-- The slabs of the weights side by side. -/
def flat (U : S4x1024x1024.Idx → EReal) : (⟨2, ![1024, 4096]⟩ : Shape).Idx → EReal :=
  fun i => U (ix3 ⟨(i 1).val / 1024, Nat.div_lt_of_lt_mul (idx2_lt1 (n0 := 1024) (n1 := 4096) i)⟩ (i 0) ⟨(i 1).val % 1024, Nat.mod_lt _ (by decide)⟩)

/-- The body adds the product of its blocks to what the scratch held. -/
theorem add_at (a : Vec Ideal S1024x1024 .f32) (x : Vec Ideal S1024x1024 .bf16) (y : Vec Ideal S1x1024x1024 .bf16) (i j : Fin 1024) :
    k0_pay2 a x y (ix2 i j) = plus (a (ix2 i j)) (∑ d : Fin 1024, times (x (ix2 i d)) (y (ix3 0 j d))) := by
  unfold k0_pay2
  rw [shapeCast_self]
  refine congrArg (plus (a (ix2 i j))) ((dotNT_apply none _ _ i j).trans (Finset.sum_congr rfl fun d _ => ?_))
  exact congrArg (times (x (ix2 i d))) (shapeCast_1ab_ab_apply _ _ _ _)

/-- The product of the two blocks of a point. -/
def part (t : Fin cfg0.N) : S1024x1024.Idx → EReal :=
  fun i => ∑ d : Fin 1024, times ((iblk m c 0 t : Vec Ideal S1024x1024 .bf16) (ix2 (i 0) d)) ((iblk m c 1 t : Vec Ideal S1x1024x1024 .bf16) (ix3 0 (i 1) d))

theorem add_part (a : Vec Ideal S1024x1024 .f32) (t : Fin cfg0.N) (i : S1024x1024.Idx) :
    k0_pay2 a (iblk m c 0 t) (iblk m c 1 t) i = plus (a i) (part m c t i) := by
  obtain ⟨r, k, rfl⟩ : ∃ (r : Fin 1024) (k : Fin 1024), i = ix2 r k := ⟨i 0, i 1, eq_ix2 i⟩
  exact add_at _ _ _ r k

/-- The scratch after the last of a stripe's four points. -/
theorem scratch (t : Fin cfg0.N) (ht : t.val % 4 = 4 - 1) (i : S1024x1024.Idx) :
    (outsAt0 m c t.val t.isLt).2.2.2 i = ∑ s : Fin 4, part m c ⟨4 * (t.val / 4) + s.val, Pipeline.run_point_lt_of_flush t ht s⟩ i := by
  refine (Pipeline.eq_sum_fin_of_reset_step_apply_of_flush (M := EReal) (fun n h => (outsAt0 m c n h).2.2.2) 4 (fun _ => 0) (part m c) ?_ ?_ t ht i).trans (zero_add _)
  · intro t h0 i
    have h1 : ¬t.val % 4 = 3 := by omega
    show (outsAt0 m c t.val t.isLt).2.2.2 i = _
    rw [outsAt0_A m c t h0 h1]
    frame_out
    refine (add_part m c _ t i).trans (congrArg (plus · _) ?_)
    unfold k0_pay1
    rw [shapeCast_self]
    exact Ideal.ofBits_zero_f32
  · intro t h0 i
    show (outsAt0 m c t.val t.isLt).2.2.2 i = _
    by_cases h1 : t.val % 4 = 3
    · by_cases h2 : t.val < 4
      · rw [outsAt0_C m c t h0 h1 h2]
        frame_out
        rw [(Memref.isWhole_whole _).read_unread]
        exact add_part m c _ t i
      · rw [outsAt0_D m c t h0 h1 h2]
        frame_out
        rw [(Memref.isWhole_whole _).read_unread]
        exact add_part m c _ t i
    · rw [outsAt0_B m c t h0 h1]
      frame_out
      rw [(Memref.isWhole_whole _).read_unread]
      exact add_part m c _ t i

/-- A place of the scratch, then, in the whole product. -/
theorem product_block (t : Fin cfg0.N) (ht : t.val % 4 = 4 - 1) (r k : Fin 1024) (s : Fin 4096) (hs : s.val = 1024 * (t.val / 4) + r.val) :
    (outsAt0 m c t.val t.isLt).2.2.2 (ix2 r k) = (nt (m ((c : Thread nD τ).loc main_arg3)) (flat (m ((c : Thread nD τ).loc main_arg2)))) (ix2 s k) := by
  refine (scratch m c t ht (ix2 r k)).trans ((Fin.sum_mul_add_congr fun q d hl => ?_).trans (nt_apply (m ((c : Thread nD τ).loc main_arg3)) (flat (m ((c : Thread nD τ).loc main_arg2))) s k).symm)
  have e : ∀ h h', (ix3 ⟨(q.val * 1024 + d.val) / 1024, h⟩ k ⟨(q.val * 1024 + d.val) % 1024, h'⟩ : S4x1024x1024.Idx) = ix3 q k d := fun h h' =>
    ix3_of (by show (q.val * 1024 + d.val) / 1024 = q.val; omega) rfl (by show (q.val * 1024 + d.val) % 1024 = d.val; omega)
  refine congrArg₂ times ?_ ?_
  · refine (left_block m c _ r d s (by show s.val = 1024 * ((4 * (t.val / 4) + q.val) / 4) + r.val; omega) ⟨q.val * 1024 + d.val, hl⟩
      (by show q.val * 1024 + d.val = 1024 * ((4 * (t.val / 4) + q.val) % 4) + d.val; omega)).trans ?_
    rw [V_main_arg3]
  · refine (weight_block m c _ 0 k d q (by show q.val = 1 * ((4 * (t.val / 4) + q.val) % 4) + 0; omega)).trans ?_
    rw [V_main_arg2]
    exact congrArg (m ((c : Thread nD τ).loc main_arg2)) (e _ _).symm

/-- What the last point of a stripe leaves of the rows' gradient. -/
theorem rows_out (t : Fin cfg0.N) (ht : t.val % 4 = 4 - 1) :
    (outsAt0 m c t.val t.isLt).1 = k0_pay7 (outsAt0 m c t.val t.isLt).2.2.2 (iblk m c 2 t) (iblk m c 3 t) (iblk m c 4 t) := by
  by_cases h2 : t.val < 4
  · rw [outsAt0_C m c t (by omega) ht h2]
    frame_out
  · rw [outsAt0_D m c t (by omega) ht h2]
    frame_out

/-- And of its copy. -/
theorem copy_out (t : Fin cfg0.N) (ht : t.val % 4 = 4 - 1) :
    (outsAt0 m c t.val t.isLt).2.1 = k0_pay8 (outsAt0 m c t.val t.isLt).2.2.2 (iblk m c 2 t) (iblk m c 3 t) (iblk m c 4 t) := by
  by_cases h2 : t.val < 4
  · rw [outsAt0_C m c t (by omega) ht h2]
    frame_out
  · rw [outsAt0_D m c t (by omega) ht h2]
    frame_out

/-- The body's gradient of the rows. -/
theorem rows_at (d x r : Vec Ideal S1024x1024 .f32) (g : Vec Ideal S1x1024 .f32) (i j : Fin 1024) : k0_pay7 d x r g (ix2 i j) = gradRows x g d r (ix2 i j) := by
  unfold k0_pay7
  exact rows_apply _ _ _ _ _ (fun i => root_apply _ _ _ _ _ i 0) _ _ _ _ _ _ i j

/-- The body adds its rows' part of the gain's gradient to what the result held. -/
theorem gain_at (d x : Vec Ideal S1024x1024 .f32) (a : Vec Ideal S1x1024 .f32) (i : S1x1024.Idx) :
    k0_pay4 (k0_pay6 d x) a i = plus (a i) (∑ r : Fin 1024, gainTerm x d r (i 1)) := by
  obtain ⟨r, k, rfl⟩ : ∃ (r : Fin 1) (k : Fin 1024), i = ix2 r k := ⟨i 0, i 1, eq_ix2 i⟩
  unfold k0_pay4
  rw [shapeCast_self]
  exact congrArg (plus (a (ix2 r k))) (gain_apply _ _ _ (fun i => root_apply _ _ _ _ _ i 0) _ _ _ _ _ r k)

/-- A stripe's part of the gain's gradient. -/
def term (i : S1x1024.Idx) (s : Nat) : EReal := ∑ r : Fin 1024, gainTerm (m ((c : Thread nD τ).loc main_arg0)) (nt (m ((c : Thread nD τ).loc main_arg3)) (flat (m ((c : Thread nD τ).loc main_arg2)))) (stripe s r) (i 1)

theorem term_eq (t : Fin cfg0.N) (ht : t.val % 4 = 4 - 1) (i : S1x1024.Idx) :
    ∑ r : Fin 1024, gainTerm (iblk m c 2 t : Arr 1024 1024) (outsAt0 m c t.val t.isLt).2.2.2 r (i 1) = term m c i (t.val / 4) := by
  have h := (at_point t).2.2.2.2.2.2.2.2
  refine Finset.sum_congr rfl fun r _ => ?_
  have hs : (stripe (t.val / 4) r).val = 1024 * (t.val / 4) + r.val := by show t.val / 4 % 4 * 1024 + r.val = _; omega
  refine gainTerm_congr (fun k => ?_) (fun k => ?_) (i 1)
  · rw [row_block m c t r k _ hs, V_main_arg0]
  · exact product_block m c t ht r k _ hs

/-- The third result after a point. -/
theorem gain_first (t : Fin cfg0.N) (ht : t.val % 4 = 3) (h2 : t.val < 4) :
    (outsAt0 m c t.val t.isLt).2.2.1 = k0_pay4 (k0_pay6 (outsAt0 m c t.val t.isLt).2.2.2 (iblk m c 2 t)) (k0_pay3 (F := Ideal)) := by
  rw [outsAt0_C m c t (by omega) ht h2]
  frame_out
theorem gain_next (t : Fin cfg0.N) (ht : t.val % 4 = 3) (h2 : ¬t.val < 4) :
    (outsAt0 m c t.val t.isLt).2.2.1 = k0_pay4 (k0_pay6 (outsAt0 m c t.val t.isLt).2.2.2 (iblk m c 2 t)) (outsAt0 m c (t.val - 1) (Nat.lt_of_le_of_lt (Nat.sub_le _ _) t.isLt)).2.2.1 := by
  rw [outsAt0_D m c t (by omega) ht h2]
  frame_out
theorem gain_kept (t : Fin cfg0.N) (h1 : ¬t.val % 4 = 3) : (outsAt0 m c t.val t.isLt).2.2.1 = (outsAt0 m c (t.val - 1) (Nat.lt_of_le_of_lt (Nat.sub_le _ _) t.isLt)).2.2.1 := by
  by_cases h0 : t.val % 4 = 0
  · rw [outsAt0_A m c t h0 h1]
    rfl
  · rw [outsAt0_B m c t h0 h1]
    rfl

/-- The gain's gradient after the last point. -/
theorem gain_out (t : Fin cfg0.N) (ht : t.val % 16 = 15) (i : S1x1024.Idx) :
    (outsAt0 m c t.val t.isLt).2.2.1 i = gradGain (m ((c : Thread nD τ).loc main_arg0)) (nt (m ((c : Thread nD τ).loc main_arg3)) (flat (m ((c : Thread nD τ).loc main_arg2)))) i := by
  have h := (at_point t).2.2.2.2.2.2.2.2
  have e : (t.val + 1) / 4 = 4 := by omega
  refine (sum_of_flushes 4 (by decide) (fun n h => (outsAt0 m c n h).2.2.1 i) (term m c i) ?_ ?_ ?_ t.val t.isLt (by omega)).trans ?_
  · intro n hn hd
    exact congrFun (gain_kept m c ⟨n, hn⟩ (by show ¬n % 4 = 3; omega)) i
  · intro n hn he
    refine (congrFun (gain_first m c ⟨n, hn⟩ (by show n % 4 = 3; omega) (by show n < 4; omega)) i).trans ((gain_at _ _ _ i).trans ?_)
    rw [term_eq m c ⟨n, hn⟩ (by show n % 4 = 4 - 1; omega) i]
    have e0 : n / 4 = 0 := by omega
    show plus (Ideal.ofBits .f32 0x00000000#32) (term m c i (n / 4)) = _
    rw [e0]
    exact (congrArg (plus · _) Ideal.ofBits_zero_f32).trans (zero_add _)
  · intro n hn hd hl
    refine (congrFun (gain_next m c ⟨n, hn⟩ (by show n % 4 = 3; omega) (by show ¬n < 4; omega)) i).trans ((gain_at _ _ _ i).trans ?_)
    exact congrArg (plus _) (term_eq m c ⟨n, hn⟩ (by show n % 4 = 4 - 1; omega) i)
  · rw [e]
    exact sum_of_stripes fun a => gainTerm (m ((c : Thread nD τ).loc main_arg0)) (nt (m ((c : Thread nD τ).loc main_arg3)) (flat (m ((c : Thread nD τ).loc main_arg2)))) a (i 1)

/-- A place of a block of the rows' gradient, in the whole. -/
theorem rows_block (t : Fin cfg0.N) (ht : t.val % 4 = 4 - 1) (r k : Fin 1024) (s : Fin 4096) (hs : s.val = 1024 * (t.val / 4) + r.val) :
    k0_pay7 (outsAt0 m c t.val t.isLt).2.2.2 (iblk m c 2 t) (iblk m c 3 t) (iblk m c 4 t) (ix2 r k) = gradRows (m ((c : Thread nD τ).loc main_arg0)) (m ((c : Thread nD τ).loc main_arg1)) (nt (m ((c : Thread nD τ).loc main_arg3)) (flat (m ((c : Thread nD τ).loc main_arg2)))) (m ((c : Thread nD τ).loc main_arg4)) (ix2 s k) := by
  refine (rows_at _ _ _ _ r k).trans (gradRows_congr (fun d => ?_) (fun d => ?_) (fun d => ?_) (fun d => ?_) k)
  · rw [row_block m c t r d s hs, V_main_arg0]
  · rw [gain_block m c t 0 d, V_main_arg1]
  · exact product_block m c t ht r d s hs
  · rw [old_block m c t r d s hs, V_main_arg4]

/-- The rows' gradient after the run. -/
theorem final_rows : (dats m 0 c).arrAt 5 cfg0.N = gradRows (m ((c : Thread nD τ).loc main_arg0)) (m ((c : Thread nD τ).loc main_arg1)) (nt (m ((c : Thread nD τ).loc main_arg3)) (flat (m ((c : Thread nD τ).loc main_arg2)))) (m ((c : Thread nD τ).loc main_arg4)) := by
  refine (dats m 0 c).arrAt_eq_of_cover 5 (gradRows _ _ _ _) (fun t hf => ?_) fun i => ?_
  · rw [Value.flushed5]
    have ht : t.val % 4 = 4 - 1 := (flush0_5 t).mp hf
    have hb := (at_point t).2.2.2.2.2.2.2.2
    funext x
    obtain ⟨r, k, rfl⟩ : ∃ (r : Fin 1024) (k : Fin 1024), x = ix2 r k := ⟨x 0, x 1, eq_ix2 x⟩
    have hr : 1024 * (t.val / 4) + r.val < 4096 := by have := r.isLt; omega
    rw [View.read_apply, rows_place t r k ⟨_, hr⟩ rfl]
    exact (congrFun (rows_out m c t ht) (ix2 r k)).trans (rows_block m c t ht r k ⟨_, hr⟩ rfl)
  · have hN : cfg0.N = 16 := N_0
    have h0 : (i 0).val < 4096 := idx2_lt0 (n0 := 4096) (n1 := 1024) i
    refine ⟨⟨4 * ((i 0).val / 1024) + 3, by omega⟩, (flush0_5 _).mpr (by show (4 * ((i 0).val / 1024) + 3) % 4 = 3; omega), ?_⟩
    exact Finset.mem_map.mpr ⟨ix2 ⟨(i 0).val % 1024, by omega⟩ (i 1), Finset.mem_univ _,
      (rows_place _ _ _ (i 0) (by show (i 0).val = 1024 * ((4 * ((i 0).val / 1024) + 3) / 4) + (i 0).val % 1024; omega)).trans (eq_ix2 i).symm⟩

/-- Its copy after the run. -/
theorem final_copy : (dats m 0 c).arrAt 6 cfg0.N = gradRows (m ((c : Thread nD τ).loc main_arg0)) (m ((c : Thread nD τ).loc main_arg1)) (nt (m ((c : Thread nD τ).loc main_arg3)) (flat (m ((c : Thread nD τ).loc main_arg2)))) (m ((c : Thread nD τ).loc main_arg4)) := by
  refine (dats m 0 c).arrAt_eq_of_cover 6 (gradRows _ _ _ _) (fun t hf => ?_) fun i => ?_
  · rw [Value.flushed6]
    have ht : t.val % 4 = 4 - 1 := (flush0_6 t).mp hf
    have hb := (at_point t).2.2.2.2.2.2.2.2
    funext x
    obtain ⟨r, k, rfl⟩ : ∃ (r : Fin 1024) (k : Fin 1024), x = ix2 r k := ⟨x 0, x 1, eq_ix2 x⟩
    have hr : 1024 * (t.val / 4) + r.val < 4096 := by have := r.isLt; omega
    rw [View.read_apply, copy_place t r k ⟨_, hr⟩ rfl]
    exact (congrFun (copy_out m c t ht) (ix2 r k)).trans (rows_block m c t ht r k ⟨_, hr⟩ rfl)
  · have hN : cfg0.N = 16 := N_0
    have h0 : (i 0).val < 4096 := idx2_lt0 (n0 := 4096) (n1 := 1024) i
    refine ⟨⟨4 * ((i 0).val / 1024) + 3, by omega⟩, (flush0_6 _).mpr (by show (4 * ((i 0).val / 1024) + 3) % 4 = 3; omega), ?_⟩
    exact Finset.mem_map.mpr ⟨ix2 ⟨(i 0).val % 1024, by omega⟩ (i 1), Finset.mem_univ _,
      (copy_place _ _ _ (i 0) (by show (i 0).val = 1024 * ((4 * ((i 0).val / 1024) + 3) / 4) + (i 0).val % 1024; omega)).trans (eq_ix2 i).symm⟩

/-- The gain's gradient after the run. -/
theorem final_gain : (dats m 0 c).arrAt 7 cfg0.N = gradGain (m ((c : Thread nD τ).loc main_arg0)) (nt (m ((c : Thread nD τ).loc main_arg3)) (flat (m ((c : Thread nD τ).loc main_arg2)))) := by
  have hN : cfg0.N = 16 := N_0
  refine (dats m 0 c).arrAt_eq_of_cover 7 (gradGain _ _) (fun t hf => ?_) fun i => ?_
  · rw [Value.flushed7]
    have ht : t.val % 16 = 15 := (flush0_7 t).mp hf
    funext x
    obtain ⟨r, k, rfl⟩ : ∃ (r : Fin 1) (k : Fin 1024), x = ix2 r k := ⟨x 0, x 1, eq_ix2 x⟩
    rw [View.read_apply, gain_place t r k]
    exact gain_out m c t ht (ix2 r k)
  · refine ⟨⟨15, by omega⟩, (flush0_7 _).mpr rfl, ?_⟩
    exact Finset.mem_map.mpr ⟨ix2 (i 0) (i 1), Finset.mem_univ _, (gain_place _ _ _).trans (eq_ix2 i).symm⟩

open Cert.DHn3RefIdeal.Read in
/-- The weights' slabs, side by side, in the reference. -/
theorem reference_weights (U : S4x1024x1024.Idx → EReal) (r : Fin 1024) (d : Fin 4096) : val_main_v18 (F := Ideal) U (ix2 r d) = flat U (ix2 r d) := by
  rw [val_main_v18_apply, val_main_v17_apply, val_main_v0_apply]
  have hr := r.isLt
  have hd := d.isLt
  exact congrArg U (ix3_of (by show (r.val * 4096 + d.val) / 1024 % 4 = d.val / 1024; omega)
    (by show (r.val * 4096 + d.val) / 4096 = r.val; omega) (by show (r.val * 4096 + d.val) % 1024 = d.val % 1024; omega))

open Cert.DHn3RefIdeal.Read in
/-- The gradient of the normed rows, in the reference. -/
theorem reference_product (U : S4x1024x1024.Idx → EReal) (Z : S4096x4096.Idx → EReal) : val_main_v20 (F := Ideal) U Z = nt Z (flat U) := by
  funext i
  rw [val_main_v20_apply]
  refine Finset.sum_congr rfl fun d _ => ?_
  rw [val_main_v1_apply]
  refine congrArg₂ times (congrArg Z (ix2_of rfl rfl)) (Eq.trans (congrArg (val_main_v18 (F := Ideal) U) (ix2_of rfl rfl)) (reference_weights U (i 1) d))

open Cert.DHn3RefIdeal.Read in
/-- Each row's mean square, in the reference. -/
theorem reference_mean (X : S4096x1024.Idx → EReal) (i : Cert.DHn3RefIdeal.S4096x1.Idx) : val_main_v8 (F := Ideal) X i = meanSq (row X (i 0)) := by
  rw [val_main_v8_apply, val_main_v6_apply, val_main_v4_apply, val_main_v3_apply, val_main_v5_apply, val_main_v7_apply, val_main_cst_apply, val_main_cst_0_apply, val_main_cst_1_apply]
  refine host_mean (row X (i 0)) _ fun d => ?_
  rw [val_main_v2_apply]
  exact congrArg₂ times (congrArg X (ix2_of rfl rfl)) (congrArg X (ix2_of rfl rfl))

open Cert.DHn3RefIdeal.Read in
/-- Its reciprocal root. -/
theorem reference_root (X : S4096x1024.Idx → EReal) (i : Cert.DHn3RefIdeal.S4096x1.Idx) : val_main_v9 (F := Ideal) X i = root (row X (i 0)) := by
  rw [val_main_v9_apply, reference_mean]
  rfl

open Cert.DHn3RefIdeal.Read in
/-- The gradient of the normed rows, times the gain. -/
theorem reference_scaled (G : S1x1024.Idx → EReal) (U : S4x1024x1024.Idx → EReal) (Z : S4096x4096.Idx → EReal) (i : S4096x1024.Idx) :
    val_main_v25 (F := Ideal) G U Z i = times (nt Z (flat U) i) (G (ix2 0 (i 1))) := by
  rw [val_main_v25_apply, val_main_v24_apply, reference_product]
  exact congrArg (times _) (congrArg G (ix2_of rfl rfl))

open Cert.DHn3RefIdeal.Read in
/-- Half the part through the mean. -/
theorem reference_through (X : S4096x1024.Idx → EReal) (G : S1x1024.Idx → EReal) (U : S4x1024x1024.Idx → EReal) (Z : S4096x4096.Idx → EReal) (i : S4096x1024.Idx) :
    val_main_v35 (F := Ideal) X G U Z i = through (row X (i 0)) (fun d => times (nt Z (flat U) (ix2 (i 0) d)) (G (ix2 0 d))) := by
  rw [val_main_v35_apply, val_main_v34_apply, Fin.sum_univ_one, val_main_v33_apply, val_main_v31_apply, val_main_v28_apply, val_main_v27_apply, val_main_v12_apply, val_main_v10_apply, val_main_v11_apply, val_main_v32_apply, val_main_cst_6_apply,
    val_main_cst_4_apply, val_main_cst_2_apply, val_main_cst_5_apply]
  refine host_through (row X (i 0)) _ _ _ _ (fun d => ?_) (reference_root X _) (reference_mean X _)
  rw [val_main_v26_apply, reference_scaled]
  exact congrArg₂ times (congrArg X (ix2_of (by show (i 0).val * 1 + 0 = (i 0).val; omega) rfl))
    (congrArg₂ times (congrArg (nt Z (flat U)) (ix2_of (by show (i 0).val * 1 + 0 = (i 0).val; omega) rfl)) rfl)

open Cert.DHn3RefIdeal.Read in
/-- The reference's gradient of the rows. -/
theorem reference_rows (X : S4096x1024.Idx → EReal) (G : S1x1024.Idx → EReal) (U : S4x1024x1024.Idx → EReal) (Z : S4096x4096.Idx → EReal) (R : S4096x1024.Idx → EReal) : val_main_v40 (F := Ideal) X G U Z R = gradRows X G (nt Z (flat U)) R := by
  funext i
  obtain ⟨r, k, rfl⟩ : ∃ (r : Fin 4096) (k : Fin 1024), i = ix2 r k := ⟨i 0, i 1, eq_ix2 i⟩
  rw [val_main_v40_apply, val_main_v39_apply, val_main_v37_apply, val_main_v38_apply, val_main_v36_apply, val_main_v30_apply, val_main_v29_apply, reference_root, reference_through, reference_scaled]
  rfl

open Cert.DHn3RefIdeal.Read in
/-- The same once more, in the narrow type. -/
theorem reference_copy (X : S4096x1024.Idx → EReal) (G : S1x1024.Idx → EReal) (U : S4x1024x1024.Idx → EReal) (Z : S4096x4096.Idx → EReal) (R : S4096x1024.Idx → EReal) : val_main_v41 (F := Ideal) X G U Z R = gradRows X G (nt Z (flat U)) R := by
  funext i
  exact (val_main_v41_apply (F := Ideal) X G U Z R i).trans (congrFun (reference_rows X G U Z R) i)

open Cert.DHn3RefIdeal.Read in
/-- The reference's gradient of the gain. -/
theorem reference_gain (X : S4096x1024.Idx → EReal) (U : S4x1024x1024.Idx → EReal) (Z : S4096x4096.Idx → EReal) : val_main_v23 (F := Ideal) X U Z = gradGain X (nt Z (flat U)) := by
  funext j
  rw [val_main_v23_apply, val_main_v22_apply, val_main_cst_3_apply]
  refine (congrArg₂ plus Ideal.ofBits_zero_f32 (Finset.sum_congr rfl fun r _ => ?_)).trans (zero_add _)
  rw [val_main_v21_apply, val_main_v14_apply, val_main_v13_apply, reference_root, reference_product]
  have e : idx_main_v22 (idx_main_v23 j) r = (ix2 r (j 1) : S4096x1024.Idx) :=
    ix2_of rfl (by show (j 0).val * 1024 + (j 1).val = (j 1).val; have := idx2_lt0 (n0 := 1) (n1 := 1024) j; omega)
  rw [e]
  rfl

/-- The reference runs, leaves its arguments and every counter at zero. -/
theorem frame_reference : Cert.quiescent_DHn3RefIdeal (hDHn3RefIdeal := Cert.DHn3RefIdeal.Gen.facts) := fun m ρ _ =>
  (θ_run Cert.DHn3RefIdeal.defs _ _).mono (fun r h => ⟨fun c => (h c).2.2.2, Idealize.ShloMosaic.sem_eq_zero_of_no_sems (by decide) r.2⟩)
    (Cert.DHn3RefIdeal.Value.run (F := Ideal) m ρ)

/-- The kernel and the reference end with equal results. -/
theorem algebraic : Cert.algebraic_DHn3Ideal_DHn3RefIdeal (hDHn3Ideal := Cert.DHn3Ideal.Gen.facts)
    (hDHn3RefIdeal := Cert.DHn3RefIdeal.Gen.facts) := fun m ρ m' ρ' _ hag =>
  ⟨fun c => gradRows (m ((c.tc : Thread nD τ).loc main_arg0)) (m ((c.tc : Thread nD τ).loc main_arg1)) (nt (m ((c.tc : Thread nD τ).loc main_arg3)) (flat (m ((c.tc : Thread nD τ).loc main_arg2)))) (m ((c.tc : Thread nD τ).loc main_arg4)), fun c => gradRows (m ((c.tc : Thread nD τ).loc main_arg0)) (m ((c.tc : Thread nD τ).loc main_arg1)) (nt (m ((c.tc : Thread nD τ).loc main_arg3)) (flat (m ((c.tc : Thread nD τ).loc main_arg2)))) (m ((c.tc : Thread nD τ).loc main_arg4)), fun c => gradGain (m ((c.tc : Thread nD τ).loc main_arg0)) (nt (m ((c.tc : Thread nD τ).loc main_arg3)) (flat (m ((c.tc : Thread nD τ).loc main_arg2)))),
    (θ_run _ _ _).mono (fun _ h c => ⟨(h c).1.trans (final_rows m c), (h c).2.1.trans (final_copy m c), (h c).2.2.1.trans (final_gain m c), (h c).2.2.2⟩) (Cert.DHn3Ideal.Value.run_blocks m ρ),
    (θ_run _ _ _).mono (fun _ h c => by
      obtain ⟨e0, e1, e2, e3, e4⟩ := hag c
      dsimp only
      rw [← e0, ← e1, ← e2, ← e3, ← e4]
      exact ⟨(h c).1.trans ((Cert.DHn3RefIdeal.Read.val_main_v40_eq _ _).trans (reference_rows _ _ _ _ _)), (h c).2.1.trans ((Cert.DHn3RefIdeal.Read.val_main_v41_eq _ _).trans (reference_copy _ _ _ _ _)), (h c).2.2.1.trans ((Cert.DHn3RefIdeal.Read.val_main_v23_eq _ _ _).trans (reference_gain _ _ _)), (h c).2.2.2⟩) (Cert.DHn3RefIdeal.Value.run m' ρ')⟩

end Cert.Products.DHn3
-- ==== Proof.DHn2.lean ====
/-
The gradient of the hidden rows before the cross-attention's norm, and of that norm's gain: what the kernel and the reference leave, place by place.
-/
module

public import proofs.«01_k».proof.Proof.Norms
public import proofs.«01_k».proof.Proof.Gen.DHn2Ideal.Value
public import proofs.«01_k».proof.Proof.Gen.DHn2RefIdeal.Read
public import proofs.«01_k».proof.Proof.Gen.DHn2RefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.DHn2

open Idealize.ShloMosaic Idealize.ShloMosaic.ValueIdx Idealize.ShloMosaic.TcCoe Idealize.SL.Sem
open Cert.DHn2Ideal Cert.DHn2Ideal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = t.val ∧ win0_3.index t 1 = 0) ∧ (win0_4.index t 0 = 0 ∧ win0_4.index t 1 = 0) ∧ (win0_5.index t 0 = t.val ∧ win0_5.index t 1 = 0) ∧ (win0_6.index t 0 = t.val ∧ win0_6.index t 1 = 0) ∧ (win0_7.index t 0 = 0 ∧ win0_7.index t 1 = 0) ∧ t.val < 4 := by
  rcases fin_N0 t with rfl | rfl | rfl | rfl <;> decide +kernel

/-- A place of the gradient of the product. -/
theorem left_block (t : Fin cfg0.N) (r : Fin 1024) (k : Fin 512) (sr : Fin 4096) (hsr : sr.val = 1024 * (t.val) + r.val) :
    iblk m c 0 t (ix2 r k) = V m c main_arg3 (ix2 sr k) := by
  have e := (at_point t).1
  unfold iblk
  rw [View.read_apply]
  refine congrArg (V m c main_arg3) (ix2_of ?_ ?_)
  · show win0_0.index t 0 * 1024 + 1 * r.val = sr.val; rw [e.1, hsr]; omega
  · show win0_0.index t 1 * 512 + 1 * k.val = k.val; rw [e.2]; omega

/-- A place of the weights. -/
theorem weight_block (t : Fin cfg0.N) (r : Fin 1024) (k : Fin 512)  :
    iblk m c 1 t (ix2 r k) = V m c main_arg2 (ix2 r k) := by
  have e := (at_point t).2.1
  unfold iblk
  rw [View.read_apply]
  refine congrArg (V m c main_arg2) (ix2_of ?_ ?_)
  · show win0_1.index t 0 * 1024 + 1 * r.val = r.val; rw [e.1]; omega
  · show win0_1.index t 1 * 512 + 1 * k.val = k.val; rw [e.2]; omega

/-- A place of the rows. -/
theorem row_block (t : Fin cfg0.N) (r : Fin 1024) (k : Fin 1024) (sr : Fin 4096) (hsr : sr.val = 1024 * (t.val) + r.val) :
    iblk m c 2 t (ix2 r k) = V m c main_arg0 (ix2 sr k) := by
  have e := (at_point t).2.2.1
  unfold iblk
  rw [View.read_apply]
  refine congrArg (V m c main_arg0) (ix2_of ?_ ?_)
  · show win0_2.index t 0 * 1024 + 1 * r.val = sr.val; rw [e.1, hsr]; omega
  · show win0_2.index t 1 * 1024 + 1 * k.val = k.val; rw [e.2]; omega

/-- A place of what is added to. -/
theorem old_block (t : Fin cfg0.N) (r : Fin 1024) (k : Fin 1024) (sr : Fin 4096) (hsr : sr.val = 1024 * (t.val) + r.val) :
    iblk m c 3 t (ix2 r k) = V m c main_arg4 (ix2 sr k) := by
  have e := (at_point t).2.2.2.1
  unfold iblk
  rw [View.read_apply]
  refine congrArg (V m c main_arg4) (ix2_of ?_ ?_)
  · show win0_3.index t 0 * 1024 + 1 * r.val = sr.val; rw [e.1, hsr]; omega
  · show win0_3.index t 1 * 1024 + 1 * k.val = k.val; rw [e.2]; omega

/-- A place of the gain. -/
theorem gain_block (t : Fin cfg0.N) (r : Fin 1) (k : Fin 1024)  :
    iblk m c 4 t (ix2 r k) = V m c main_arg1 (ix2 r k) := by
  have e := (at_point t).2.2.2.2.1
  unfold iblk
  rw [View.read_apply]
  refine congrArg (V m c main_arg1) (ix2_of ?_ ?_)
  · show win0_4.index t 0 * 1 + 1 * r.val = r.val; rw [e.1]; omega
  · show win0_4.index t 1 * 1024 + 1 * k.val = k.val; rw [e.2]; omega

/-- Where a place of the block lies in the first result. -/
theorem rows_place (t : Fin cfg0.N) (r : Fin 1024) (k : Fin 1024) (sr : Fin 4096) (hsr : sr.val = 1024 * (t.val) + r.val) :
    ((cfg0.win 5).blk t).view.emb (ix2 r k) = (ix2 sr k : (⟨2, ![4096, 1024]⟩ : Shape).Idx) := by
  have e := (at_point t).2.2.2.2.2.1
  refine ix2_of ?_ ?_
  · show win0_5.index t 0 * 1024 + 1 * r.val = sr.val; rw [e.1, hsr]; omega
  · show win0_5.index t 1 * 1024 + 1 * k.val = k.val; rw [e.2]; omega

/-- Where a place of the block lies in the second result. -/
theorem copy_place (t : Fin cfg0.N) (r : Fin 1024) (k : Fin 1024) (sr : Fin 4096) (hsr : sr.val = 1024 * (t.val) + r.val) :
    ((cfg0.win 6).blk t).view.emb (ix2 r k) = (ix2 sr k : (⟨2, ![4096, 1024]⟩ : Shape).Idx) := by
  have e := (at_point t).2.2.2.2.2.2.1
  refine ix2_of ?_ ?_
  · show win0_6.index t 0 * 1024 + 1 * r.val = sr.val; rw [e.1, hsr]; omega
  · show win0_6.index t 1 * 1024 + 1 * k.val = k.val; rw [e.2]; omega

/-- Where a place of the block lies in the third result. -/
theorem gain_place (t : Fin cfg0.N) (r : Fin 1) (k : Fin 1024)  :
    ((cfg0.win 7).blk t).view.emb (ix2 r k) = (ix2 r k : (⟨2, ![1, 1024]⟩ : Shape).Idx) := by
  have e := (at_point t).2.2.2.2.2.2.2.1
  refine ix2_of ?_ ?_
  · show win0_7.index t 0 * 1 + 1 * r.val = r.val; rw [e.1]; omega
  · show win0_7.index t 1 * 1024 + 1 * k.val = k.val; rw [e.2]; omega

/-- The body's product. -/
theorem product_at (x : Vec Ideal S1024x512 .bf16) (w : Vec Ideal S1024x512 .bf16) (i j : Fin 1024) :
    k0_pay4 x w (ix2 i j) = ∑ d : Fin 512, times (x (ix2 i d)) (w (ix2 j d)) := by
  unfold k0_pay4
  exact dotNT_apply none _ _ i j

/-- A place of a block of the product, in the whole. -/
theorem product_block (t : Fin cfg0.N) (r k : Fin 1024) (s : Fin 4096) (hs : s.val = 1024 * t.val + r.val) :
    k0_pay4 (iblk m c 0 t) (iblk m c 1 t) (ix2 r k) = (nt (m ((c : Thread nD τ).loc main_arg3)) (m ((c : Thread nD τ).loc main_arg2))) (ix2 s k) := by
  refine (product_at _ _ r k).trans (Finset.sum_congr rfl fun d _ => ?_)
  rw [left_block m c t r d s hs, weight_block m c t k d, V_main_arg3, V_main_arg2]

/-- What a point leaves of the rows' gradient. -/
theorem rows_out (t : Fin cfg0.N) : (outsAt0 m c t.val t.isLt).1 = k0_pay7 (iblk m c 0 t) (iblk m c 1 t) (iblk m c 2 t) (iblk m c 3 t) (iblk m c 4 t) := by
  by_cases h0 : t.val % 4 = 0
  · rw [outsAt0_A m c t h0]
    frame_out
  · rw [outsAt0_B m c t h0]
    frame_out

/-- And of its copy. -/
theorem copy_out (t : Fin cfg0.N) : (outsAt0 m c t.val t.isLt).2.1 = k0_pay1 (k0_pay7 (iblk m c 0 t) (iblk m c 1 t) (iblk m c 2 t) (iblk m c 3 t) (iblk m c 4 t)) := by
  by_cases h0 : t.val % 4 = 0
  · rw [outsAt0_A m c t h0]
    frame_out
  · rw [outsAt0_B m c t h0]
    frame_out

/-- The body's gradient of the rows. -/
theorem rows_at (d : Vec Ideal S1024x512 .bf16) (w : Vec Ideal S1024x512 .bf16) (x r : Vec Ideal S1024x1024 .f32) (g : Vec Ideal S1x1024 .f32)
    (i j : Fin 1024) : k0_pay7 d w x r g (ix2 i j) = gradRows x g (k0_pay4 d w) r (ix2 i j) := by
  unfold k0_pay7
  exact rows_apply _ _ _ _ _ (fun i => root_apply _ _ _ _ _ i 0) _ _ _ _ _ _ i j

/-- The body adds its rows' part of the gain's gradient to what the result held. -/
theorem gain_at (d : Vec Ideal S1024x512 .bf16) (w : Vec Ideal S1024x512 .bf16) (x : Vec Ideal S1024x1024 .f32) (a : Vec Ideal S1x1024 .f32)
    (i : S1x1024.Idx) : k0_pay3 (k0_pay6 d w x) a i = plus (a i) (∑ r : Fin 1024, gainTerm x (k0_pay4 d w) r (i 1)) := by
  obtain ⟨r, k, rfl⟩ : ∃ (r : Fin 1) (k : Fin 1024), i = ix2 r k := ⟨i 0, i 1, eq_ix2 i⟩
  unfold k0_pay3
  rw [shapeCast_self]
  exact congrArg (plus (a (ix2 r k))) (gain_apply _ _ _ (fun i => root_apply _ _ _ _ _ i 0) _ _ _ _ _ r k)

/-- A point's part of the gain's gradient. -/
def part (t : Fin cfg0.N) : S1x1024.Idx → EReal := fun j => ∑ r : Fin 1024, gainTerm (iblk m c 2 t : Arr 1024 1024) (k0_pay4 (iblk m c 0 t) (iblk m c 1 t)) r (j 1)

/-- The gain's gradient after the last point. -/
theorem gain_out (t : Fin cfg0.N) (ht : t.val % 4 = 4 - 1) (i : S1x1024.Idx) :
    (outsAt0 m c t.val t.isLt).2.2 i = ∑ s : Fin 4, part m c ⟨4 * (t.val / 4) + s.val, Pipeline.run_point_lt_of_flush t ht s⟩ i := by
  refine (Pipeline.eq_sum_fin_of_reset_step_apply_of_flush (M := EReal) (fun n h => (outsAt0 m c n h).2.2) 4 (fun _ => 0) (part m c) ?_ ?_ t ht i).trans (zero_add _)
  · intro t h0 i
    show (outsAt0 m c t.val t.isLt).2.2 i = _
    rw [outsAt0_A m c t h0]
    frame_out
    refine (gain_at _ _ _ _ _).trans (congrArg (plus · _) ?_)
    exact Ideal.ofBits_zero_f32
  · intro t h0 i
    show (outsAt0 m c t.val t.isLt).2.2 i = _
    rw [outsAt0_B m c t h0]
    frame_out
    exact gain_at _ _ _ _ _

/-- A place of a block of the rows' gradient, in the whole. -/
theorem rows_block (t : Fin cfg0.N) (r k : Fin 1024) (s : Fin 4096) (hs : s.val = 1024 * t.val + r.val) :
    (k0_pay7 (iblk m c 0 t) (iblk m c 1 t) (iblk m c 2 t) (iblk m c 3 t) (iblk m c 4 t)) (ix2 r k) = gradRows (m ((c : Thread nD τ).loc main_arg0)) (m ((c : Thread nD τ).loc main_arg1)) (nt (m ((c : Thread nD τ).loc main_arg3)) (m ((c : Thread nD τ).loc main_arg2))) (m ((c : Thread nD τ).loc main_arg4)) (ix2 s k) := by
  refine (rows_at _ _ _ _ _ r k).trans (gradRows_congr (fun d => ?_) (fun d => ?_) (fun d => ?_) (fun d => ?_) k)
  · rw [row_block m c t r d s hs, V_main_arg0]
  · rw [gain_block m c t 0 d, V_main_arg1]
  · exact product_block m c t r d s hs
  · rw [old_block m c t r d s hs, V_main_arg4]

/-- The rows' gradient after the run. -/
theorem final_rows : (dats m 0 c).arrAt 5 cfg0.N = gradRows (m ((c : Thread nD τ).loc main_arg0)) (m ((c : Thread nD τ).loc main_arg1)) (nt (m ((c : Thread nD τ).loc main_arg3)) (m ((c : Thread nD τ).loc main_arg2))) (m ((c : Thread nD τ).loc main_arg4)) := by
  refine (dats m 0 c).arrAt_eq_of_cover 5 (gradRows _ _ _ _) (fun t _ => ?_) fun i => ?_
  · rw [Value.flushed5]
    have ht := (at_point t).2.2.2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, rows_place t r k ⟨_, hr⟩ rfl]
    exact (congrFun (rows_out m c t) (ix2 r k)).trans (rows_block m c t r k ⟨_, hr⟩ rfl)
  · have hN : cfg0.N = 4 := N_0
    have h0 : (i 0).val < 4096 := idx2_lt0 (n0 := 4096) (n1 := 1024) i
    refine ⟨⟨(i 0).val / 1024, by omega⟩, flush0_5 _, ?_⟩
    exact Finset.mem_map.mpr ⟨ix2 ⟨(i 0).val % 1024, by omega⟩ (i 1), Finset.mem_univ _,
      (rows_place _ _ _ (i 0) (by show (i 0).val = 1024 * ((i 0).val / 1024) + (i 0).val % 1024; omega)).trans (eq_ix2 i).symm⟩

/-- Its copy after the run. -/
theorem final_copy : (dats m 0 c).arrAt 6 cfg0.N = gradRows (m ((c : Thread nD τ).loc main_arg0)) (m ((c : Thread nD τ).loc main_arg1)) (nt (m ((c : Thread nD τ).loc main_arg3)) (m ((c : Thread nD τ).loc main_arg2))) (m ((c : Thread nD τ).loc main_arg4)) := by
  refine (dats m 0 c).arrAt_eq_of_cover 6 (gradRows _ _ _ _) (fun t _ => ?_) fun i => ?_
  · rw [Value.flushed6]
    have ht := (at_point t).2.2.2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, copy_place t r k ⟨_, hr⟩ rfl]
    exact (congrFun (copy_out m c t) (ix2 r k)).trans (rows_block m c t r k ⟨_, hr⟩ rfl)
  · have hN : cfg0.N = 4 := N_0
    have h0 : (i 0).val < 4096 := idx2_lt0 (n0 := 4096) (n1 := 1024) i
    refine ⟨⟨(i 0).val / 1024, by omega⟩, flush0_6 _, ?_⟩
    exact Finset.mem_map.mpr ⟨ix2 ⟨(i 0).val % 1024, by omega⟩ (i 1), Finset.mem_univ _,
      (copy_place _ _ _ (i 0) (by show (i 0).val = 1024 * ((i 0).val / 1024) + (i 0).val % 1024; omega)).trans (eq_ix2 i).symm⟩

/-- The gain's gradient after the run. -/
theorem final_gain : (dats m 0 c).arrAt 7 cfg0.N = gradGain (m ((c : Thread nD τ).loc main_arg0)) (nt (m ((c : Thread nD τ).loc main_arg3)) (m ((c : Thread nD τ).loc main_arg2))) := by
  have hN : cfg0.N = 4 := N_0
  refine (dats m 0 c).arrAt_eq_of_cover 7 (gradGain _ _) (fun t hf => ?_) fun i => ?_
  · rw [Value.flushed7]
    have ht : t.val % 4 = 4 - 1 := (flush0_7 t).mp hf
    have h0 : t.val / 4 = 0 := by have := (at_point t).2.2.2.2.2.2.2.2; omega
    funext x
    obtain ⟨r, k, rfl⟩ : ∃ (r : Fin 1) (k : Fin 1024), x = ix2 r k := ⟨x 0, x 1, eq_ix2 x⟩
    rw [View.read_apply, gain_place t r k]
    refine (gain_out m c t ht (ix2 r k)).trans ?_
    refine Fin.sum_mul_add_congr fun s d hl => ?_
    refine gainTerm_congr (fun k => ?_) (fun k => ?_) k
    · rw [row_block m c _ d k ⟨s.val * 1024 + d.val, hl⟩ (by show s.val * 1024 + d.val = 1024 * (4 * (t.val / 4) + s.val) + d.val; omega), V_main_arg0]
    · exact product_block m c _ d k ⟨s.val * 1024 + d.val, hl⟩ (by show s.val * 1024 + d.val = 1024 * (4 * (t.val / 4) + s.val) + d.val; omega)
  · refine ⟨⟨3, by omega⟩, (flush0_7 _).mpr rfl, ?_⟩
    exact Finset.mem_map.mpr ⟨ix2 (i 0) (i 1), Finset.mem_univ _, (gain_place _ _ _).trans (eq_ix2 i).symm⟩

open Cert.DHn2RefIdeal.Read in
/-- The gradient of the normed rows, in the reference. -/
theorem reference_product (W : S1024x512.Idx → EReal) (D : S4096x512.Idx → EReal) : val_main_v18 (F := Ideal) W D = nt D W := by
  funext i
  rw [val_main_v18_apply]
  refine Finset.sum_congr rfl fun d _ => ?_
  rw [val_main_v1_apply, val_main_v0_apply]
  exact congrArg₂ times (congrArg D (ix2_of rfl rfl)) (congrArg W (ix2_of rfl rfl))

open Cert.DHn2RefIdeal.Read in
/-- Each row's mean square, in the reference. -/
theorem reference_mean (X : S4096x1024.Idx → EReal) (i : Cert.DHn2RefIdeal.S4096x1.Idx) : val_main_v8 (F := Ideal) X i = meanSq (row X (i 0)) := by
  rw [val_main_v8_apply, val_main_v6_apply, val_main_v4_apply, val_main_v3_apply, val_main_v5_apply, val_main_v7_apply, val_main_cst_apply, val_main_cst_0_apply, val_main_cst_1_apply]
  refine host_mean (row X (i 0)) _ fun d => ?_
  rw [val_main_v2_apply]
  exact congrArg₂ times (congrArg X (ix2_of rfl rfl)) (congrArg X (ix2_of rfl rfl))

open Cert.DHn2RefIdeal.Read in
/-- Its reciprocal root. -/
theorem reference_root (X : S4096x1024.Idx → EReal) (i : Cert.DHn2RefIdeal.S4096x1.Idx) : val_main_v9 (F := Ideal) X i = root (row X (i 0)) := by
  rw [val_main_v9_apply, reference_mean]
  rfl

open Cert.DHn2RefIdeal.Read in
/-- The gradient of the normed rows, times the gain. -/
theorem reference_scaled (G : S1x1024.Idx → EReal) (W : S1024x512.Idx → EReal) (D : S4096x512.Idx → EReal) (i : S4096x1024.Idx) :
    val_main_v23 (F := Ideal) G W D i = times (nt D W i) (G (ix2 0 (i 1))) := by
  rw [val_main_v23_apply, val_main_v22_apply, reference_product]
  exact congrArg (times _) (congrArg G (ix2_of rfl rfl))

open Cert.DHn2RefIdeal.Read in
/-- Half the part through the mean. -/
theorem reference_through (X : S4096x1024.Idx → EReal) (G : S1x1024.Idx → EReal) (W : S1024x512.Idx → EReal) (D : S4096x512.Idx → EReal) (i : S4096x1024.Idx) :
    val_main_v33 (F := Ideal) X G W D i = through (row X (i 0)) (fun d => times (nt D W (ix2 (i 0) d)) (G (ix2 0 d))) := by
  rw [val_main_v33_apply, val_main_v32_apply, Fin.sum_univ_one, val_main_v31_apply, val_main_v29_apply, val_main_v26_apply, val_main_v25_apply, val_main_v12_apply, val_main_v10_apply, val_main_v11_apply, val_main_v30_apply, val_main_cst_6_apply,
    val_main_cst_4_apply, val_main_cst_2_apply, val_main_cst_5_apply]
  refine host_through (row X (i 0)) _ _ _ _ (fun d => ?_) (reference_root X _) (reference_mean X _)
  rw [val_main_v24_apply, reference_scaled]
  exact congrArg₂ times (congrArg X (ix2_of (by show (i 0).val * 1 + 0 = (i 0).val; omega) rfl))
    (congrArg₂ times (congrArg (nt D W) (ix2_of (by show (i 0).val * 1 + 0 = (i 0).val; omega) rfl)) rfl)

open Cert.DHn2RefIdeal.Read in
/-- The reference's gradient of the rows. -/
theorem reference_rows (X : S4096x1024.Idx → EReal) (G : S1x1024.Idx → EReal) (W : S1024x512.Idx → EReal) (D : S4096x512.Idx → EReal) (R : S4096x1024.Idx → EReal) : val_main_v38 (F := Ideal) X G W D R = gradRows X G (nt D W) R := by
  funext i
  obtain ⟨r, k, rfl⟩ : ∃ (r : Fin 4096) (k : Fin 1024), i = ix2 r k := ⟨i 0, i 1, eq_ix2 i⟩
  rw [val_main_v38_apply, val_main_v37_apply, val_main_v35_apply, val_main_v36_apply, val_main_v34_apply, val_main_v28_apply, val_main_v27_apply, reference_root, reference_through, reference_scaled]
  rfl

open Cert.DHn2RefIdeal.Read in
/-- The same once more, in the narrow type. -/
theorem reference_copy (X : S4096x1024.Idx → EReal) (G : S1x1024.Idx → EReal) (W : S1024x512.Idx → EReal) (D : S4096x512.Idx → EReal) (R : S4096x1024.Idx → EReal) : val_main_v39 (F := Ideal) X G W D R = gradRows X G (nt D W) R := by
  funext i
  exact (val_main_v39_apply (F := Ideal) X G W D R i).trans (congrFun (reference_rows X G W D R) i)

open Cert.DHn2RefIdeal.Read in
/-- The reference's gradient of the gain. -/
theorem reference_gain (X : S4096x1024.Idx → EReal) (W : S1024x512.Idx → EReal) (D : S4096x512.Idx → EReal) : val_main_v21 (F := Ideal) X W D = gradGain X (nt D W) := by
  funext j
  rw [val_main_v21_apply, val_main_v20_apply, val_main_cst_3_apply]
  refine (congrArg₂ plus Ideal.ofBits_zero_f32 (Finset.sum_congr rfl fun r _ => ?_)).trans (zero_add _)
  rw [val_main_v19_apply, val_main_v14_apply, val_main_v13_apply, reference_root, reference_product]
  have e : idx_main_v20 (idx_main_v21 j) r = (ix2 r (j 1) : S4096x1024.Idx) :=
    ix2_of rfl (by show (j 0).val * 1024 + (j 1).val = (j 1).val; have := idx2_lt0 (n0 := 1) (n1 := 1024) j; omega)
  rw [e]
  rfl

/-- The reference runs, leaves its arguments and every counter at zero. -/
theorem frame_reference : Cert.quiescent_DHn2RefIdeal (hDHn2RefIdeal := Cert.DHn2RefIdeal.Gen.facts) := fun m ρ _ =>
  (θ_run Cert.DHn2RefIdeal.defs _ _).mono (fun r h => ⟨fun c => (h c).2.2.2, Idealize.ShloMosaic.sem_eq_zero_of_no_sems (by decide) r.2⟩)
    (Cert.DHn2RefIdeal.Value.run (F := Ideal) m ρ)

/-- The kernel and the reference end with equal results. -/
theorem algebraic : Cert.algebraic_DHn2Ideal_DHn2RefIdeal (hDHn2Ideal := Cert.DHn2Ideal.Gen.facts)
    (hDHn2RefIdeal := Cert.DHn2RefIdeal.Gen.facts) := fun m ρ m' ρ' _ hag =>
  ⟨fun c => gradRows (m ((c.tc : Thread nD τ).loc main_arg0)) (m ((c.tc : Thread nD τ).loc main_arg1)) (nt (m ((c.tc : Thread nD τ).loc main_arg3)) (m ((c.tc : Thread nD τ).loc main_arg2))) (m ((c.tc : Thread nD τ).loc main_arg4)), fun c => gradRows (m ((c.tc : Thread nD τ).loc main_arg0)) (m ((c.tc : Thread nD τ).loc main_arg1)) (nt (m ((c.tc : Thread nD τ).loc main_arg3)) (m ((c.tc : Thread nD τ).loc main_arg2))) (m ((c.tc : Thread nD τ).loc main_arg4)), fun c => gradGain (m ((c.tc : Thread nD τ).loc main_arg0)) (nt (m ((c.tc : Thread nD τ).loc main_arg3)) (m ((c.tc : Thread nD τ).loc main_arg2))),
    (θ_run _ _ _).mono (fun _ h c => ⟨(h c).1.trans (final_rows m c), (h c).2.1.trans (final_copy m c), (h c).2.2.1.trans (final_gain m c), (h c).2.2.2⟩) (Cert.DHn2Ideal.Value.run_blocks m ρ),
    (θ_run _ _ _).mono (fun _ h c => by
      obtain ⟨e0, e1, e2, e3, e4⟩ := hag c
      dsimp only
      rw [← e0, ← e1, ← e2, ← e3, ← e4]
      exact ⟨(h c).1.trans ((Cert.DHn2RefIdeal.Read.val_main_v38_eq _ _).trans (reference_rows _ _ _ _ _)), (h c).2.1.trans ((Cert.DHn2RefIdeal.Read.val_main_v39_eq _ _).trans (reference_copy _ _ _ _ _)), (h c).2.2.1.trans ((Cert.DHn2RefIdeal.Read.val_main_v21_eq _ _ _).trans (reference_gain _ _ _)), (h c).2.2.2⟩) (Cert.DHn2RefIdeal.Value.run m' ρ')⟩

end Cert.Products.DHn2
-- ==== Proof.DHn1.lean ====
/-
The gradient of the step's input rows, through the first norm, and of that norm's gain: what the kernel and the reference leave, place by place.
-/
module

public import proofs.«01_k».proof.Proof.Norms
public import proofs.«01_k».proof.Proof.Gen.DHn1Ideal.Value
public import proofs.«01_k».proof.Proof.Gen.DHn1RefIdeal.Read
public import proofs.«01_k».proof.Proof.Gen.DHn1RefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.DHn1

open Idealize.ShloMosaic Idealize.ShloMosaic.ValueIdx Idealize.ShloMosaic.TcCoe Idealize.SL.Sem
open Cert.DHn1Ideal Cert.DHn1Ideal.Gen

variable (m : (ℓ : Loc nD τ sig) → Buf (Elt Ideal) ℓ) (c : Dev nD)

/-- The row of the weights that gives a column of the first part, and of the second. -/
def firstRow (k : Fin 2048) : Fin 2816 := ⟨k.val, Nat.lt_of_lt_of_le k.isLt (by decide)⟩
def lastRow (k : Fin 768) : Fin 2816 := ⟨2048 + k.val, by omega⟩

/-- The last 768 rows of the weights. -/
theorem V_last (r : Fin 768) (k : Fin 1024) : V m c main_v0 (ix2 r k) = m ((c : Thread nD τ).loc main_arg2) (ix2 (lastRow r) k) := by
  unfold V
  after_results_simp
  exact extractStridedSlice_apply ![2048, 0] _ slices_S2816x1024_S768x1024_2048_0 (ix2 r k) (ix2 (lastRow r) k) fun a => match a with
    | ⟨0, _⟩ => rfl
    | ⟨1, _⟩ => (Nat.zero_add k.val).symm

/-- Both parts' products with their rows of the weights, added. -/
def bothCols (D : S4096x2048.Idx → EReal) (E : S4096x768.Idx → EReal) (W : S2816x1024.Idx → EReal) : S4096x1024.Idx → EReal :=
  fun i => plus (∑ d : Fin 2048, times (D (ix2 (i 0) d)) (W (ix2 (firstRow d) (i 1)))) (∑ d : Fin 768, times (E (ix2 (i 0) d)) (W (ix2 (lastRow d) (i 1))))

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ (win0_3.index t 0 = 0 ∧ win0_3.index t 1 = 0) ∧ (win0_4.index t 0 = t.val ∧ win0_4.index t 1 = 0) ∧ (win0_5.index t 0 = t.val ∧ win0_5.index t 1 = 0) ∧ (win0_6.index t 0 = 0 ∧ win0_6.index t 1 = 0) ∧ (win0_7.index t 0 = t.val ∧ win0_7.index t 1 = 0) ∧ (win0_8.index t 0 = 0 ∧ win0_8.index t 1 = 0) ∧ t.val < 4 := by
  rcases fin_N0 t with rfl | rfl | rfl | rfl <;> decide +kernel

/-- A place of the first part of the gradient. -/
theorem left_block (t : Fin cfg0.N) (r : Fin 1024) (k : Fin 2048) (sr : Fin 4096) (hsr : sr.val = 1024 * (t.val) + r.val) :
    iblk m c 0 t (ix2 r k) = V m c main_arg3 (ix2 sr k) := by
  have e := (at_point t).1
  unfold iblk
  rw [View.read_apply]
  refine congrArg (V m c main_arg3) (ix2_of ?_ ?_)
  · show win0_0.index t 0 * 1024 + 1 * r.val = sr.val; rw [e.1, hsr]; omega
  · show win0_0.index t 1 * 2048 + 1 * k.val = k.val; rw [e.2]; omega

/-- A place of the first rows of the weights. -/
theorem weight_block (t : Fin cfg0.N) (r : Fin 2048) (k : Fin 1024) (sr : Fin 2816) (hsr : sr.val = 2048 * (0) + r.val) :
    (X0_1 m c t : Vec Ideal S2048x1024 .bf16) (ix2 r k) = V m c main_arg2 (ix2 sr k) := by
  have e := (at_point t).2.1
  unfold X0_1 Pipeline.Window.fill
  rw [dif_pos (moved0_1 t _)]
  unfold iblk
  rw [View.read_apply]
  refine congrArg (V m c main_arg2) (ix2_of ?_ ?_)
  · show win0_1.index t 0 * 2048 + 1 * r.val = sr.val; rw [e.1, hsr]; omega
  · show win0_1.index t 1 * 1024 + 1 * k.val = k.val; rw [e.2]; omega

/-- A place of the second part of the gradient. -/
theorem second_block (t : Fin cfg0.N) (r : Fin 1024) (k : Fin 768) (sr : Fin 4096) (hsr : sr.val = 1024 * (t.val) + r.val) :
    iblk m c 2 t (ix2 r k) = V m c main_arg4 (ix2 sr k) := by
  have e := (at_point t).2.2.1
  unfold iblk
  rw [View.read_apply]
  refine congrArg (V m c main_arg4) (ix2_of ?_ ?_)
  · show win0_2.index t 0 * 1024 + 1 * r.val = sr.val; rw [e.1, hsr]; omega
  · show win0_2.index t 1 * 768 + 1 * k.val = k.val; rw [e.2]; omega

/-- A place of the last rows of the weights. -/
theorem last_block (t : Fin cfg0.N) (r : Fin 768) (k : Fin 1024)  :
    iblk m c 3 t (ix2 r k) = V m c main_v0 (ix2 r k) := by
  have e := (at_point t).2.2.2.1
  unfold iblk
  rw [View.read_apply]
  refine congrArg (V m c main_v0) (ix2_of ?_ ?_)
  · show win0_3.index t 0 * 768 + 1 * r.val = r.val; rw [e.1]; omega
  · show win0_3.index t 1 * 1024 + 1 * k.val = k.val; rw [e.2]; omega

/-- A place of the rows. -/
theorem row_block (t : Fin cfg0.N) (r : Fin 1024) (k : Fin 1024) (sr : Fin 4096) (hsr : sr.val = 1024 * (t.val) + r.val) :
    iblk m c 4 t (ix2 r k) = V m c main_arg0 (ix2 sr k) := by
  have e := (at_point t).2.2.2.2.1
  unfold iblk
  rw [View.read_apply]
  refine congrArg (V m c main_arg0) (ix2_of ?_ ?_)
  · show win0_4.index t 0 * 1024 + 1 * r.val = sr.val; rw [e.1, hsr]; omega
  · show win0_4.index t 1 * 1024 + 1 * k.val = k.val; rw [e.2]; omega

/-- A place of what is added to. -/
theorem old_block (t : Fin cfg0.N) (r : Fin 1024) (k : Fin 1024) (sr : Fin 4096) (hsr : sr.val = 1024 * (t.val) + r.val) :
    iblk m c 5 t (ix2 r k) = V m c main_arg5 (ix2 sr k) := by
  have e := (at_point t).2.2.2.2.2.1
  unfold iblk
  rw [View.read_apply]
  refine congrArg (V m c main_arg5) (ix2_of ?_ ?_)
  · show win0_5.index t 0 * 1024 + 1 * r.val = sr.val; rw [e.1, hsr]; omega
  · show win0_5.index t 1 * 1024 + 1 * k.val = k.val; rw [e.2]; omega

/-- A place of the gain. -/
theorem gain_block (t : Fin cfg0.N) (r : Fin 1) (k : Fin 1024)  :
    iblk m c 6 t (ix2 r k) = V m c main_arg1 (ix2 r k) := by
  have e := (at_point t).2.2.2.2.2.2.1
  unfold iblk
  rw [View.read_apply]
  refine congrArg (V m c main_arg1) (ix2_of ?_ ?_)
  · show win0_6.index t 0 * 1 + 1 * r.val = r.val; rw [e.1]; omega
  · show win0_6.index t 1 * 1024 + 1 * k.val = k.val; rw [e.2]; omega

/-- Where a place of the block lies in the first result. -/
theorem rows_place (t : Fin cfg0.N) (r : Fin 1024) (k : Fin 1024) (sr : Fin 4096) (hsr : sr.val = 1024 * (t.val) + r.val) :
    ((cfg0.win 7).blk t).view.emb (ix2 r k) = (ix2 sr k : (⟨2, ![4096, 1024]⟩ : Shape).Idx) := by
  have e := (at_point t).2.2.2.2.2.2.2.1
  refine ix2_of ?_ ?_
  · show win0_7.index t 0 * 1024 + 1 * r.val = sr.val; rw [e.1, hsr]; omega
  · show win0_7.index t 1 * 1024 + 1 * k.val = k.val; rw [e.2]; omega

/-- Where a place of the block lies in the second result. -/
theorem gain_place (t : Fin cfg0.N) (r : Fin 1) (k : Fin 1024)  :
    ((cfg0.win 8).blk t).view.emb (ix2 r k) = (ix2 r k : (⟨2, ![1, 1024]⟩ : Shape).Idx) := by
  have e := (at_point t).2.2.2.2.2.2.2.2.1
  refine ix2_of ?_ ?_
  · show win0_8.index t 0 * 1 + 1 * r.val = r.val; rw [e.1]; omega
  · show win0_8.index t 1 * 1024 + 1 * k.val = k.val; rw [e.2]; omega

/-- The body's two products, added. -/
theorem product_at (x : Vec Ideal S1024x2048 .bf16) (w : Vec Ideal S2048x1024 .bf16) (y : Vec Ideal S1024x768 .bf16) (v : Vec Ideal S768x1024 .bf16)
    (i j : Fin 1024) : k0_pay4 x w y v (ix2 i j)
      = plus (∑ d : Fin 2048, times (x (ix2 i d)) (w (ix2 d j))) (∑ d : Fin 768, times (y (ix2 i d)) (v (ix2 d j))) := by
  unfold k0_pay4
  rw [shapeCast_self]
  exact congrArg₂ plus (dotNN_apply none _ _ i j) (dotNN_apply none _ _ i j)

/-- A place of a block of the product, in the whole. -/
theorem product_block (t : Fin cfg0.N) (r k : Fin 1024) (s : Fin 4096) (hs : s.val = 1024 * t.val + r.val) :
    k0_pay4 (iblk m c 0 t) (X0_1 m c t) (iblk m c 2 t) (iblk m c 3 t) (ix2 r k) = (bothCols (m ((c : Thread nD τ).loc main_arg3)) (m ((c : Thread nD τ).loc main_arg4)) (m ((c : Thread nD τ).loc main_arg2))) (ix2 s k) := by
  refine (product_at _ _ _ _ r k).trans (congrArg₂ plus (Finset.sum_congr rfl fun d _ => ?_) (Finset.sum_congr rfl fun d _ => ?_))
  · rw [left_block m c t r d s hs, weight_block m c t d k (firstRow d) (by show d.val = 2048 * 0 + d.val; omega), V_main_arg3, V_main_arg2]
  · rw [second_block m c t r d s hs, last_block m c t d k, V_main_arg4, V_last]

/-- What a point leaves of the rows' gradient. -/
theorem rows_out (t : Fin cfg0.N) : (outsAt0 m c t.val t.isLt).1 = k0_pay1 (iblk m c 5 t) (k0_pay7 (iblk m c 0 t) (X0_1 m c t) (iblk m c 2 t) (iblk m c 3 t) (iblk m c 4 t) (iblk m c 6 t)) (k0_pay8 (iblk m c 0 t) (X0_1 m c t) (iblk m c 2 t) (iblk m c 3 t) (iblk m c 4 t) (iblk m c 6 t)) := by
  by_cases h0 : t.val % 4 = 0
  · rw [outsAt0_A m c t h0]
    frame_out
  · rw [outsAt0_B m c t h0]
    frame_out

/-- The body's gradient of the rows. -/
theorem rows_at (d : Vec Ideal S1024x2048 .bf16) (w : Vec Ideal S2048x1024 .bf16) (e : Vec Ideal S1024x768 .bf16) (v : Vec Ideal S768x1024 .bf16) (x r : Vec Ideal S1024x1024 .f32) (g : Vec Ideal S1x1024 .f32)
    (i j : Fin 1024) : k0_pay1 r (k0_pay7 d w e v x g) (k0_pay8 d w e v x g) (ix2 i j) = gradRows x g (k0_pay4 d w e v) r (ix2 i j) := by
  unfold k0_pay1 k0_pay7 k0_pay8 k0_pay6
  exact rows_apply _ _ _ _ _ (fun i => root_apply _ _ _ _ _ i 0) _ _ _ _ _ _ i j

/-- The body adds its rows' part of the gain's gradient to what the result held. -/
theorem gain_at (d : Vec Ideal S1024x2048 .bf16) (w : Vec Ideal S2048x1024 .bf16) (e : Vec Ideal S1024x768 .bf16) (v : Vec Ideal S768x1024 .bf16) (x : Vec Ideal S1024x1024 .f32) (a : Vec Ideal S1x1024 .f32)
    (i : S1x1024.Idx) : k0_pay3 (k0_pay4 d w e v) x (k0_pay5 x) a i = plus (a i) (∑ r : Fin 1024, gainTerm x (k0_pay4 d w e v) r (i 1)) := by
  obtain ⟨r, k, rfl⟩ : ∃ (r : Fin 1) (k : Fin 1024), i = ix2 r k := ⟨i 0, i 1, eq_ix2 i⟩
  unfold k0_pay3
  rw [shapeCast_self]
  exact congrArg (plus (a (ix2 r k))) (gain_apply _ _ _ (fun i => root_apply _ _ _ _ _ i 0) _ _ _ _ _ r k)

/-- A point's part of the gain's gradient. -/
def part (t : Fin cfg0.N) : S1x1024.Idx → EReal := fun j => ∑ r : Fin 1024, gainTerm (iblk m c 4 t : Arr 1024 1024) (k0_pay4 (iblk m c 0 t) (X0_1 m c t) (iblk m c 2 t) (iblk m c 3 t)) r (j 1)

/-- The gain's gradient after the last point. -/
theorem gain_out (t : Fin cfg0.N) (ht : t.val % 4 = 4 - 1) (i : S1x1024.Idx) :
    (outsAt0 m c t.val t.isLt).2 i = ∑ s : Fin 4, part m c ⟨4 * (t.val / 4) + s.val, Pipeline.run_point_lt_of_flush t ht s⟩ i := by
  refine (Pipeline.eq_sum_fin_of_reset_step_apply_of_flush (M := EReal) (fun n h => (outsAt0 m c n h).2) 4 (fun _ => 0) (part m c) ?_ ?_ t ht i).trans (zero_add _)
  · intro t h0 i
    show (outsAt0 m c t.val t.isLt).2 i = _
    rw [outsAt0_A m c t h0]
    frame_out
    refine (gain_at _ _ _ _ _ _ _).trans (congrArg (plus · _) ?_)
    exact Ideal.ofBits_zero_f32
  · intro t h0 i
    show (outsAt0 m c t.val t.isLt).2 i = _
    rw [outsAt0_B m c t h0]
    frame_out
    exact gain_at _ _ _ _ _ _ _

/-- A place of a block of the rows' gradient, in the whole. -/
theorem rows_block (t : Fin cfg0.N) (r k : Fin 1024) (s : Fin 4096) (hs : s.val = 1024 * t.val + r.val) :
    (k0_pay1 (iblk m c 5 t) (k0_pay7 (iblk m c 0 t) (X0_1 m c t) (iblk m c 2 t) (iblk m c 3 t) (iblk m c 4 t) (iblk m c 6 t)) (k0_pay8 (iblk m c 0 t) (X0_1 m c t) (iblk m c 2 t) (iblk m c 3 t) (iblk m c 4 t) (iblk m c 6 t))) (ix2 r k) = gradRows (m ((c : Thread nD τ).loc main_arg0)) (m ((c : Thread nD τ).loc main_arg1)) (bothCols (m ((c : Thread nD τ).loc main_arg3)) (m ((c : Thread nD τ).loc main_arg4)) (m ((c : Thread nD τ).loc main_arg2))) (m ((c : Thread nD τ).loc main_arg5)) (ix2 s k) := by
  refine (rows_at _ _ _ _ _ _ _ r k).trans (gradRows_congr (fun d => ?_) (fun d => ?_) (fun d => ?_) (fun d => ?_) k)
  · rw [row_block m c t r d s hs, V_main_arg0]
  · rw [gain_block m c t 0 d, V_main_arg1]
  · exact product_block m c t r d s hs
  · rw [old_block m c t r d s hs, V_main_arg5]

/-- The rows' gradient after the run. -/
theorem final_rows : (dats m 0 c).arrAt 7 cfg0.N = gradRows (m ((c : Thread nD τ).loc main_arg0)) (m ((c : Thread nD τ).loc main_arg1)) (bothCols (m ((c : Thread nD τ).loc main_arg3)) (m ((c : Thread nD τ).loc main_arg4)) (m ((c : Thread nD τ).loc main_arg2))) (m ((c : Thread nD τ).loc main_arg5)) := by
  refine (dats m 0 c).arrAt_eq_of_cover 7 (gradRows _ _ _ _) (fun t _ => ?_) fun i => ?_
  · rw [Value.flushed7]
    have ht := (at_point t).2.2.2.2.2.2.2.2.2
    funext x
    obtain ⟨r, k, rfl⟩ : ∃ (r : Fin 1024) (k : Fin 1024), x = ix2 r k := ⟨x 0, x 1, eq_ix2 x⟩
    have hr : 1024 * t.val + r.val < 4096 := by have := r.isLt; omega
    rw [View.read_apply, rows_place t r k ⟨_, hr⟩ rfl]
    exact (congrFun (rows_out m c t) (ix2 r k)).trans (rows_block m c t r k ⟨_, hr⟩ rfl)
  · have hN : cfg0.N = 4 := N_0
    have h0 : (i 0).val < 4096 := idx2_lt0 (n0 := 4096) (n1 := 1024) i
    refine ⟨⟨(i 0).val / 1024, by omega⟩, flush0_7 _, ?_⟩
    exact Finset.mem_map.mpr ⟨ix2 ⟨(i 0).val % 1024, by omega⟩ (i 1), Finset.mem_univ _,
      (rows_place _ _ _ (i 0) (by show (i 0).val = 1024 * ((i 0).val / 1024) + (i 0).val % 1024; omega)).trans (eq_ix2 i).symm⟩

/-- The gain's gradient after the run. -/
theorem final_gain : (dats m 0 c).arrAt 8 cfg0.N = gradGain (m ((c : Thread nD τ).loc main_arg0)) (bothCols (m ((c : Thread nD τ).loc main_arg3)) (m ((c : Thread nD τ).loc main_arg4)) (m ((c : Thread nD τ).loc main_arg2))) := by
  have hN : cfg0.N = 4 := N_0
  refine (dats m 0 c).arrAt_eq_of_cover 8 (gradGain _ _) (fun t hf => ?_) fun i => ?_
  · rw [Value.flushed8]
    have ht : t.val % 4 = 4 - 1 := (flush0_8 t).mp hf
    have h0 : t.val / 4 = 0 := by have := (at_point t).2.2.2.2.2.2.2.2.2; omega
    funext x
    obtain ⟨r, k, rfl⟩ : ∃ (r : Fin 1) (k : Fin 1024), x = ix2 r k := ⟨x 0, x 1, eq_ix2 x⟩
    rw [View.read_apply, gain_place t r k]
    refine (gain_out m c t ht (ix2 r k)).trans ?_
    refine Fin.sum_mul_add_congr fun s d hl => ?_
    refine gainTerm_congr (fun k => ?_) (fun k => ?_) k
    · rw [row_block m c _ d k ⟨s.val * 1024 + d.val, hl⟩ (by show s.val * 1024 + d.val = 1024 * (4 * (t.val / 4) + s.val) + d.val; omega), V_main_arg0]
    · exact product_block m c _ d k ⟨s.val * 1024 + d.val, hl⟩ (by show s.val * 1024 + d.val = 1024 * (4 * (t.val / 4) + s.val) + d.val; omega)
  · refine ⟨⟨3, by omega⟩, (flush0_8 _).mpr rfl, ?_⟩
    exact Finset.mem_map.mpr ⟨ix2 (i 0) (i 1), Finset.mem_univ _, (gain_place _ _ _).trans (eq_ix2 i).symm⟩

open Cert.DHn1RefIdeal.Read in
/-- The two parts side by side, in the reference. -/
theorem reference_left (D : S4096x2048.Idx → EReal) (E : S4096x768.Idx → EReal) (i : Fin 4096) (d : Fin 2048) :
    val_main_v3 (F := Ideal) D E (ix2 i (firstRow d)) = D (ix2 i d) := by
  unfold val_main_v3
  exact concatenate_pair_apply_left 1 (val_main_v1 (F := Ideal) D) (val_main_v2 (F := Ideal) E) _ (ix2 i (firstRow d)) rfl (ix2 i d) fun b => match b with
    | ⟨0, _⟩ => rfl
    | ⟨1, _⟩ => rfl

open Cert.DHn1RefIdeal.Read in
theorem reference_right (D : S4096x2048.Idx → EReal) (E : S4096x768.Idx → EReal) (i : Fin 4096) (d : Fin 768) :
    val_main_v3 (F := Ideal) D E (ix2 i (lastRow d)) = E (ix2 i d) := by
  unfold val_main_v3
  exact concatenate_pair_apply_right 1 (val_main_v1 (F := Ideal) D) (val_main_v2 (F := Ideal) E) _ (ix2 i (lastRow d)) rfl rfl (ix2 i d) (fun b hb => match b, hb with
    | ⟨0, _⟩, _ => rfl
    | ⟨1, _⟩, hb => absurd rfl hb) (Nat.add_comm _ _)

open Cert.DHn1RefIdeal.Read in
/-- The gradient of the normed rows, in the reference. -/
theorem reference_product (W : S2816x1024.Idx → EReal) (D : S4096x2048.Idx → EReal) (E : S4096x768.Idx → EReal) :
    val_main_v21 (F := Ideal) W D E = bothCols D E W := by
  funext i
  rw [val_main_v21_apply]
  refine (Fin.sum_univ_add (a := 2048) (b := 768) _).trans ?_
  refine congrArg₂ plus (Finset.sum_congr rfl fun d _ => ?_) (Finset.sum_congr rfl fun d _ => ?_)
  · rw [val_main_v19_apply, val_main_v0_apply]
    refine congrArg₂ times (Eq.trans (congrArg (val_main_v3 (F := Ideal) D E) (ix2_of rfl rfl)) (reference_left D E (i 0) d)) (congrArg W (ix2_of rfl rfl))
  · rw [val_main_v19_apply, val_main_v0_apply]
    refine congrArg₂ times (Eq.trans (congrArg (val_main_v3 (F := Ideal) D E) (ix2_of rfl rfl)) (reference_right D E (i 0) d)) (congrArg W (ix2_of rfl rfl))

open Cert.DHn1RefIdeal.Read in
/-- Each row's mean square, in the reference. -/
theorem reference_mean (X : S4096x1024.Idx → EReal) (i : Cert.DHn1RefIdeal.S4096x1.Idx) : val_main_v10 (F := Ideal) X i = meanSq (row X (i 0)) := by
  rw [val_main_v10_apply, val_main_v8_apply, val_main_v6_apply, val_main_v5_apply, val_main_v7_apply, val_main_v9_apply, val_main_cst_apply, val_main_cst_0_apply, val_main_cst_1_apply]
  refine host_mean (row X (i 0)) _ fun d => ?_
  rw [val_main_v4_apply]
  exact congrArg₂ times (congrArg X (ix2_of rfl rfl)) (congrArg X (ix2_of rfl rfl))

open Cert.DHn1RefIdeal.Read in
/-- Its reciprocal root. -/
theorem reference_root (X : S4096x1024.Idx → EReal) (i : Cert.DHn1RefIdeal.S4096x1.Idx) : val_main_v11 (F := Ideal) X i = root (row X (i 0)) := by
  rw [val_main_v11_apply, reference_mean]
  rfl

open Cert.DHn1RefIdeal.Read in
/-- The gradient of the normed rows, times the gain. -/
theorem reference_scaled (G : S1x1024.Idx → EReal) (W : S2816x1024.Idx → EReal) (D : S4096x2048.Idx → EReal) (E : S4096x768.Idx → EReal) (i : S4096x1024.Idx) :
    val_main_v26 (F := Ideal) G W D E i = times (bothCols D E W i) (G (ix2 0 (i 1))) := by
  rw [val_main_v26_apply, val_main_v25_apply, reference_product]
  exact congrArg (times _) (congrArg G (ix2_of rfl rfl))

open Cert.DHn1RefIdeal.Read in
/-- Half the part through the mean. -/
theorem reference_through (X : S4096x1024.Idx → EReal) (G : S1x1024.Idx → EReal) (W : S2816x1024.Idx → EReal) (D : S4096x2048.Idx → EReal) (E : S4096x768.Idx → EReal) (i : S4096x1024.Idx) :
    val_main_v36 (F := Ideal) X G W D E i = through (row X (i 0)) (fun d => times (bothCols D E W (ix2 (i 0) d)) (G (ix2 0 d))) := by
  rw [val_main_v36_apply, val_main_v35_apply, Fin.sum_univ_one, val_main_v34_apply, val_main_v32_apply, val_main_v29_apply, val_main_v28_apply, val_main_v14_apply, val_main_v12_apply, val_main_v13_apply, val_main_v33_apply, val_main_cst_6_apply,
    val_main_cst_4_apply, val_main_cst_2_apply, val_main_cst_5_apply]
  refine host_through (row X (i 0)) _ _ _ _ (fun d => ?_) (reference_root X _) (reference_mean X _)
  rw [val_main_v27_apply, reference_scaled]
  exact congrArg₂ times (congrArg X (ix2_of (by show (i 0).val * 1 + 0 = (i 0).val; omega) rfl))
    (congrArg₂ times (congrArg (bothCols D E W) (ix2_of (by show (i 0).val * 1 + 0 = (i 0).val; omega) rfl)) rfl)

open Cert.DHn1RefIdeal.Read in
/-- The reference's gradient of the rows. -/
theorem reference_rows (X : S4096x1024.Idx → EReal) (G : S1x1024.Idx → EReal) (W : S2816x1024.Idx → EReal) (D : S4096x2048.Idx → EReal) (E : S4096x768.Idx → EReal) (R : S4096x1024.Idx → EReal) : val_main_v41 (F := Ideal) X G W D E R = gradRows X G (bothCols D E W) R := by
  funext i
  obtain ⟨r, k, rfl⟩ : ∃ (r : Fin 4096) (k : Fin 1024), i = ix2 r k := ⟨i 0, i 1, eq_ix2 i⟩
  rw [val_main_v41_apply, val_main_v40_apply, val_main_v38_apply, val_main_v39_apply, val_main_v37_apply, val_main_v31_apply, val_main_v30_apply, reference_root, reference_through, reference_scaled]
  rfl

open Cert.DHn1RefIdeal.Read in
/-- The reference's gradient of the gain. -/
theorem reference_gain (X : S4096x1024.Idx → EReal) (W : S2816x1024.Idx → EReal) (D : S4096x2048.Idx → EReal) (E : S4096x768.Idx → EReal) : val_main_v24 (F := Ideal) X W D E = gradGain X (bothCols D E W) := by
  funext j
  rw [val_main_v24_apply, val_main_v23_apply, val_main_cst_3_apply]
  refine (congrArg₂ plus Ideal.ofBits_zero_f32 (Finset.sum_congr rfl fun r _ => ?_)).trans (zero_add _)
  rw [val_main_v22_apply, val_main_v16_apply, val_main_v15_apply, reference_root, reference_product]
  have e : idx_main_v23 (idx_main_v24 j) r = (ix2 r (j 1) : S4096x1024.Idx) :=
    ix2_of rfl (by show (j 0).val * 1024 + (j 1).val = (j 1).val; have := idx2_lt0 (n0 := 1) (n1 := 1024) j; omega)
  rw [e]
  rfl

/-- The reference runs, leaves its arguments and every counter at zero. -/
theorem frame_reference : Cert.quiescent_DHn1RefIdeal (hDHn1RefIdeal := Cert.DHn1RefIdeal.Gen.facts) := fun m ρ _ =>
  (θ_run Cert.DHn1RefIdeal.defs _ _).mono (fun r h => ⟨fun c => (h c).2.2, Idealize.ShloMosaic.sem_eq_zero_of_no_sems (by decide) r.2⟩)
    (Cert.DHn1RefIdeal.Value.run (F := Ideal) m ρ)

/-- The kernel and the reference end with equal results. -/
theorem algebraic : Cert.algebraic_DHn1Ideal_DHn1RefIdeal (hDHn1Ideal := Cert.DHn1Ideal.Gen.facts)
    (hDHn1RefIdeal := Cert.DHn1RefIdeal.Gen.facts) := fun m ρ m' ρ' _ hag =>
  ⟨fun c => gradRows (m ((c.tc : Thread nD τ).loc main_arg0)) (m ((c.tc : Thread nD τ).loc main_arg1)) (bothCols (m ((c.tc : Thread nD τ).loc main_arg3)) (m ((c.tc : Thread nD τ).loc main_arg4)) (m ((c.tc : Thread nD τ).loc main_arg2))) (m ((c.tc : Thread nD τ).loc main_arg5)), fun c => gradGain (m ((c.tc : Thread nD τ).loc main_arg0)) (bothCols (m ((c.tc : Thread nD τ).loc main_arg3)) (m ((c.tc : Thread nD τ).loc main_arg4)) (m ((c.tc : Thread nD τ).loc main_arg2))),
    (θ_run _ _ _).mono (fun _ h c => ⟨(h c).1.trans (final_rows m c), (h c).2.1.trans (final_gain m c), (h c).2.2⟩) (Cert.DHn1Ideal.Value.run_blocks m ρ),
    (θ_run _ _ _).mono (fun _ h c => by
      obtain ⟨e0, e1, e2, e3, e4, e5⟩ := hag c
      dsimp only
      rw [← e0, ← e1, ← e2, ← e3, ← e4, ← e5]
      exact ⟨(h c).1.trans ((Cert.DHn1RefIdeal.Read.val_main_v41_eq _ _).trans (reference_rows _ _ _ _ _ _)), (h c).2.1.trans ((Cert.DHn1RefIdeal.Read.val_main_v24_eq _ _ _ _).trans (reference_gain _ _ _ _)), (h c).2.2⟩) (Cert.DHn1RefIdeal.Value.run m' ρ')⟩

end Cert.Products.DHn1
-- ==== Proof.GInHg.lean ====
/-
The gradient of the first projection's weights for the gated heads: what the kernel and the reference leave, place by place.
-/
module

public import proofs.«01_k».proof.Proof.Norms
public import proofs.«01_k».proof.Proof.Gen.GInHgIdeal.Frame
public import proofs.«01_k».proof.Proof.Gen.GInHgRefIdeal.Read
public import proofs.«01_k».proof.Proof.Gen.GInHgRefIdeal.Run
public import proofs.«01_k».proof.Defs
public import Idealize.ShloMosaic.Lib.ValueLayout
public import Idealize.ShloMosaic.Lib.Quiescent
public import Idealize.ShloMosaic.Lib.Pipeline.ClipFacts
public import Idealize.ShloMosaic.Lib.Pipeline.Value

set_option maxRecDepth 16384

@[expose] public noncomputable section

namespace Cert.Products.GInHg

open Idealize.ShloMosaic Idealize.ShloMosaic.ValueIdx Idealize.ShloMosaic.TcCoe Idealize.SL.Sem
open Cert.GInHgIdeal Cert.GInHgIdeal.Gen

variable (m : (ℓ : Loc nD τ sig) → Buf (Elt Ideal) ℓ) (c : Dev nD)

/-- Where the windows stand at a point. -/
theorem at_point (t : Fin cfg0.N) :
    (win0_0.index t 0 = 0 ∧ win0_0.index t 1 = t.val) ∧ (win0_1.index t 0 = 0 ∧ win0_1.index t 1 = 0) ∧ (win0_2.index t 0 = t.val ∧ win0_2.index t 1 = 0) ∧ t.val < 2 := by
  rcases fin_N0 t with rfl | rfl <;> decide +kernel

/-- No block of the result is cut. -/
theorem uncut (t : Fin cfg0.N) : (cfg0.win 2).xsize (grid0.coords t) = ![1024, 1024] := by
  funext a
  rcases fin_N0 t with rfl | rfl <;> (revert a; decide +kernel)

/-- A place of the gradient of the product. -/
theorem left_block (t : Fin cfg0.N) (r : Fin 4096) (k : Fin 1024) (sk : Fin 2048) (hsk : sk.val = 1024 * t.val + k.val) :
    iblk m c 0 t (ix2 r k) = V m c main_arg2 (ix2 r sk) := by
  have e := (at_point t).1
  unfold iblk
  rw [View.read_apply]
  refine congrArg (V m c main_arg2) (ix2_of ?_ ?_)
  · show win0_0.index t 0 * 4096 + 1 * r.val = r.val; rw [e.1]; omega
  · show win0_0.index t 1 * 1024 + 1 * k.val = sk.val; rw [e.2, hsk]; omega

/-- A place of the rows. -/
theorem right_block (t : Fin cfg0.N) (r : Fin 4096) (k : Fin 1024) : iblk m c 1 t (ix2 r k) = V m c main_arg0 (ix2 r k) := by
  have e := (at_point t).2.1
  unfold iblk
  rw [View.read_apply]
  refine congrArg (V m c main_arg0) (ix2_of ?_ ?_)
  · show win0_1.index t 0 * 4096 + 1 * r.val = r.val; rw [e.1]; omega
  · show win0_1.index t 1 * 1024 + 1 * k.val = k.val; rw [e.2]; omega

/-- The body's result at a place. -/
theorem out_at (x y : Vec Ideal S4096x1024 .bf16) (r k : Fin 1024) : out0_2 x y (ix2 r k) = tn x y (ix2 r k) := by
  unfold out0_2
  rw [View.canon_unit_zero two_axes, View.ld_unit_zero two_axes, View.ld_unit_zero two_axes]
  exact dotTN_apply none _ _ r k

/-- The product in the leading rows of the result's array. -/
def leading (A : S4096x2048.Idx → EReal) (X : S4096x1024.Idx → EReal) : S2816x1024.Idx → EReal :=
  fun i => if h : (i 0).val < 2048 then tn A X (ix2 ⟨(i 0).val, h⟩ (i 1)) else 0

theorem leading_apply (A : S4096x2048.Idx → EReal) (X : S4096x1024.Idx → EReal) (s : Fin 2048) (k : Fin 1024) (i : S2816x1024.Idx)
    (h0 : (i 0).val = s.val) (h1 : (i 1).val = k.val) : leading A X i = tn A X (ix2 s k) := by
  unfold leading
  rw [dif_pos (by rw [h0]; exact s.isLt)]
  exact congrArg (tn A X) (ix2_of h0 h1)

/-- A place of the leading rows after the run. -/
theorem final (s : Fin 2048) (k : Fin 1024) (i : S2816x1024.Idx) (h0 : (i 0).val = s.val) (h1 : (i 1).val = k.val) :
    (dats m 0 c).arrAt 2 cfg0.N i = tn (m ((c : Thread nD τ).loc main_arg2)) (m ((c : Thread nD τ).loc main_arg0)) (ix2 s k) := by
  have hN : cfg0.N = 2 := N_0
  have hs := s.isLt
  refine ((dats m 0 c).arrAt_apply_of_mem 2 (leading (m ((c : Thread nD τ).loc main_arg2)) (m ((c : Thread nD τ).loc main_arg0)))
    (fun t _ => ?_) cfg0.N ⟨s.val / 1024, by omega⟩ i (by show s.val / 1024 < cfg0.N; omega) (flush0_2 _) ?_).trans (leading_apply _ _ s k i h0 h1)
  · have e := (at_point t).2.2
    show (cfg0.win 2).cut (grid0.coords t) ((dats m 0 c).after 2 t) = _
    rw [after0_2]
    funext x
    have hx : ∀ a : Fin 2, (x a).val < 1024 := fun a =>
      Nat.lt_of_lt_of_eq (x a).isLt ((congrFun (uncut t) a).trans (match a with | ⟨0, _⟩ => rfl | ⟨1, _⟩ => rfl))
    have hr : 1024 * t.val + (x 0).val < 2048 := by have := hx 0; have := e.2; omega
    have hy : (cfg0.win 2).xinj (grid0.coords t) x = (ix2 ⟨(x 0).val, hx 0⟩ ⟨(x 1).val, hx 1⟩ : S1024x1024.Idx) := ix2_of rfl rfl
    show out0_2 (iblk m c 0 t) (iblk m c 1 t) ((cfg0.win 2).xinj (grid0.coords t) x) = _
    rw [hy, out_at, View.read_apply]
    refine Eq.trans ?_ (leading_apply _ _ ⟨_, hr⟩ ⟨(x 1).val, hx 1⟩ _ ?_ ?_).symm
    · refine (tn_apply _ _ _ _).trans (Eq.trans ?_ (tn_apply _ _ _ _).symm)
      refine Finset.sum_congr rfl fun d _ => ?_
      rw [left_block m c t d _ ⟨_, hr⟩ rfl, right_block m c t d, V_main_arg2, V_main_arg0]
    · show win0_2.index t 0 * 1024 + 1 * (x 0).val = 1024 * t.val + (x 0).val; rw [e.1.1]; omega
    · show win0_2.index t 1 * 1024 + 1 * (x 1).val = (x 1).val; rw [e.1.2]; omega
  · generalize ht : (⟨s.val / 1024, by omega⟩ : Fin cfg0.N) = t
    have htv : t.val = s.val / 1024 := by rw [← ht]
    have e := (at_point t).2.2
    refine Finset.mem_map.mpr ⟨fun a => ⟨(ix2 ⟨s.val % 1024, by omega⟩ k : (⟨2, ![1024, 1024]⟩ : Shape).Idx) a |>.val,
      Nat.lt_of_lt_of_eq ((ix2 ⟨s.val % 1024, by omega⟩ k : (⟨2, ![1024, 1024]⟩ : Shape).Idx) a).isLt (congrFun (uncut t) a).symm⟩, Finset.mem_univ _, ?_⟩
    refine Eq.trans (b := (ix2 (i 0) (i 1) : S2816x1024.Idx)) (ix2_of ?_ ?_) (eq_ix2 i).symm
    · show win0_2.index t 0 * 1024 + 1 * (s.val % 1024) = (i 0).val; rw [e.1.1, h0]; omega
    · show win0_2.index t 1 * 1024 + 1 * k.val = (i 1).val; rw [e.1.2, h1]; omega

/-- The rows cut off after the call. -/
theorem cut_rows : Pipeline.afterTail₀ cfgs (dats m) 0 (V0 m) [hostOps1] c main_v1
    = tn (m ((c : Thread nD τ).loc main_arg2)) (m ((c : Thread nD τ).loc main_arg0)) := by
  have h : Pipeline.afterTail₀ cfgs (dats m) 0 (V0 m) [hostOps1] c main_v1
      = extractStridedSlice S2048x1024 ![0, 0] ((dats m 0 c).arrAt 2 cfg0.N) slices_S2816x1024_S2048x1024_0_0 := by
    unfold Pipeline.afterTail₀
    have ha := Pipeline.withArrays_arr (cfgs 0).spec launch0.win.arr_inj c (V0 m c) (fun w => (dats m 0 c).arrAt w (cfgs 0).N) 2
    after_results_simp
    exact congrArg (fun z => extractStridedSlice S2048x1024 ![0, 0] z slices_S2816x1024_S2048x1024_0_0) ha
  rw [h]
  funext x
  obtain ⟨s, k, rfl⟩ : ∃ (s : Fin 2048) (k : Fin 1024), x = ix2 s k := ⟨x 0, x 1, eq_ix2 x⟩
  refine (extractStridedSlice_apply ![0, 0] _ _ (ix2 s k) (ix2 ⟨s.val, by have := s.isLt; omega⟩ k : S2816x1024.Idx) ?_).trans (final m c s k _ rfl rfl)
  intro a
  match a with
  | ⟨0, _⟩ => show s.val = 0 + s.val; omega
  | ⟨1, _⟩ => show k.val = 0 + k.val; omega

/-- The kernel's run: its result, and its arguments as launched. -/
theorem run (ρ : Dev nD → PrngReg) : θ_run (defs (F := Ideal)) (onTc (τ := τ) (main (F := Ideal))) ⟨m, fun _ => 0, ρ⟩ fun r => ∀ c : Dev nD,
    r.2.mem ((c : Thread nD τ).loc main_v1) = tn (m ((c : Thread nD τ).loc main_arg2)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v1 (Pipeline.mem_restRefs_of main_v1 (by decide) (by decide))).trans (cut_rows m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c)))⟩) (run_main m ρ)

open Cert.GInHgRefIdeal.Read in
/-- The reference's result. -/
theorem reference (X : S4096x1024.Idx → EReal) (A : S4096x2048.Idx → EReal) : val_main_v8 (F := Ideal) X A = tn A X := by
  funext i
  obtain ⟨s, k, rfl⟩ : ∃ (s : Fin 2048) (k : Fin 1024), i = ix2 s k := ⟨i 0, i 1, eq_ix2 i⟩
  refine Eq.trans ?_ (tn_apply A X s k).symm
  rw [val_main_v8_apply, val_main_v7_apply, val_main_v6_apply]
  refine Finset.sum_congr rfl fun d _ => ?_
  rw [val_main_v2_apply, val_main_v0_apply]
  exact congrArg₂ times (congrArg A (ix2_of rfl rfl)) (congrArg X (ix2_of rfl rfl))

/-- The reference runs, leaves its arguments and every counter at zero. -/
theorem frame_reference : Cert.quiescent_GInHgRefIdeal (hGInHgRefIdeal := Cert.GInHgRefIdeal.Gen.facts) := fun m ρ _ =>
  (θ_run Cert.GInHgRefIdeal.defs _ _).mono (fun r h => ⟨fun c => (h c).2, Idealize.ShloMosaic.sem_eq_zero_of_no_sems (by decide) r.2⟩)
    (Cert.GInHgRefIdeal.Value.run (F := Ideal) m ρ)

/-- The kernel and the reference end with equal results. -/
theorem algebraic : Cert.algebraic_GInHgIdeal_GInHgRefIdeal (hGInHgIdeal := Cert.GInHgIdeal.Gen.facts)
    (hGInHgRefIdeal := Cert.GInHgRefIdeal.Gen.facts) := fun m ρ m' ρ' _ hag =>
  ⟨fun c => tn (m ((c.tc : Thread nD τ).loc main_arg2)) (m ((c.tc : Thread nD τ).loc main_arg0)),
    run m ρ,
    (θ_run _ _ _).mono (fun _ h c => by
      obtain ⟨e0, e1, e2⟩ := hag c
      dsimp only
      rw [← e0, ← e2]
      exact ⟨(h c).1.trans ((Cert.GInHgRefIdeal.Read.val_main_v8_eq _ _).trans (reference _ _)), (h c).2⟩) (Cert.GInHgRefIdeal.Value.run m' ρ')⟩

end Cert.Products.GInHg
-- ==== Proof.GInSw.lean ====
/-
The gradient of the first projection's weights for the windowed heads, under the rows given for the others: what the kernel and the reference leave, place by place.
-/
module

public import proofs.«01_k».proof.Proof.Norms
public import proofs.«01_k».proof.Proof.Gen.GInSwIdeal.Value
public import proofs.«01_k».proof.Proof.Gen.GInSwRefIdeal.Read
public import proofs.«01_k».proof.Proof.Gen.GInSwRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.GInSw

open Idealize.ShloMosaic Idealize.ShloMosaic.ValueIdx Idealize.ShloMosaic.TcCoe Idealize.SL.Sem
open Cert.GInSwIdeal Cert.GInSwIdeal.Gen

variable (m : (ℓ : Loc nD τ sig) → Buf (Elt Ideal) ℓ) (c : Dev nD)

/-- Where the windows stand at a point. -/
theorem at_point (t : Fin cfg0.N) :
    (win0_0.index t 0 = t.val % 4 ∧ win0_0.index t 1 = t.val / 4) ∧ (win0_1.index t 0 = t.val % 4 ∧ win0_1.index t 1 = 0) ∧ (win0_2.index t 0 = 8 + t.val / 4 ∧ win0_2.index t 1 = 0) ∧ t.val < 12 := by
  rcases fin_N0 t with rfl | rfl | rfl | rfl | rfl | rfl | rfl | rfl | rfl | rfl | rfl | rfl <;> decide +kernel

/-- A place of the gradient of the product. -/
theorem left_block (t : Fin cfg0.N) (r : Fin 1024) (k : Fin 256) (sr : Fin 4096) (hsr : sr.val = 1024 * (t.val % 4) + r.val)
    (sk : Fin 768) (hsk : sk.val = 256 * (t.val / 4) + k.val) : iblk m c 0 t (ix2 r k) = V m c main_arg2 (ix2 sr sk) := by
  have e := (at_point t).1
  unfold iblk
  rw [View.read_apply]
  refine congrArg (V m c main_arg2) (ix2_of ?_ ?_)
  · show win0_0.index t 0 * 1024 + 1 * r.val = sr.val; rw [e.1, hsr]; omega
  · show win0_0.index t 1 * 256 + 1 * k.val = sk.val; rw [e.2, hsk]; omega

/-- A place of the rows. -/
theorem right_block (t : Fin cfg0.N) (r : Fin 1024) (k : Fin 1024) (sr : Fin 4096) (hsr : sr.val = 1024 * (t.val % 4) + r.val) :
    iblk m c 1 t (ix2 r k) = V m c main_arg0 (ix2 sr k) := by
  have e := (at_point t).2.1
  unfold iblk
  rw [View.read_apply]
  refine congrArg (V m c main_arg0) (ix2_of ?_ ?_)
  · show win0_1.index t 0 * 1024 + 1 * r.val = sr.val; rw [e.1, hsr]; omega
  · show win0_1.index t 1 * 1024 + 1 * k.val = k.val; rw [e.2]; omega

/-- Where a place of the block lies in the result. -/
theorem out_place (t : Fin cfg0.N) (r : Fin 256) (k : Fin 1024) (sr : Fin 2816) (hsr : sr.val = 2048 + (256 * (t.val / 4) + r.val)) :
    ((cfg0.win 2).blk t).view.emb (ix2 r k) = (ix2 sr k : (⟨2, ![2816, 1024]⟩ : Shape).Idx) := by
  have e := (at_point t).2.2.1
  refine ix2_of ?_ ?_
  · show win0_2.index t 0 * 256 + 1 * r.val = sr.val; rw [e.1, hsr]; omega
  · show win0_2.index t 1 * 1024 + 1 * k.val = k.val; rw [e.2]; omega

/-- The product of the two blocks of a point. -/
def part (t : Fin cfg0.N) : S256x1024.Idx → EReal := tn (iblk m c 0 t : Vec Ideal S1024x256 .bf16) (iblk m c 1 t : Vec Ideal S1024x1024 .bf16)

/-- The body adds the product to what the scratch held. -/
theorem add_at (a : Vec Ideal S256x1024 .f32) (x : Vec Ideal S1024x256 .bf16) (y : Vec Ideal S1024x1024 .bf16) (i : S256x1024.Idx) :
    k0_pay2 a x y i = plus (a i) (tn x y i) := by
  obtain ⟨r, k, rfl⟩ : ∃ (r : Fin 256) (k : Fin 1024), i = ix2 r k := ⟨i 0, i 1, eq_ix2 i⟩
  unfold k0_pay2
  rw [shapeCast_self]
  exact congrArg (plus (a (ix2 r k))) (dotTN_apply none _ _ r k)

/-- The scratch after the last point of a block. -/
theorem scratch (t : Fin cfg0.N) (ht : t.val % 4 = 4 - 1) (i : S256x1024.Idx) :
    (outsAt0 m c t.val t.isLt).2 i = ∑ s : Fin 4, part m c ⟨4 * (t.val / 4) + s.val, Pipeline.run_point_lt_of_flush t ht s⟩ i := by
  refine (Pipeline.eq_sum_fin_of_reset_step_apply_of_flush (M := EReal) (fun n h => (outsAt0 m c n h).2) 4 (fun _ => 0) (part m c) ?_ ?_ t ht i).trans (zero_add _)
  · intro t h0 i
    have h1 : ¬t.val % 4 = 3 := by omega
    show (outsAt0 m c t.val t.isLt).2 i = _
    rw [outsAt0_A m c t h0 h1]
    frame_out
    refine (add_at _ _ _ i).trans (congrArg (plus · _) ?_)
    unfold k0_pay1
    rw [shapeCast_self]
    exact Ideal.ofBits_zero_f32
  · intro t h0 i
    show (outsAt0 m c t.val t.isLt).2 i = _
    by_cases h1 : t.val % 4 = 3
    · rw [outsAt0_C m c t h0 h1]
      frame_out
      rw [(Memref.isWhole_whole _).read_unread]
      exact add_at _ _ _ i
    · rw [outsAt0_B m c t h0 h1]
      frame_out
      rw [(Memref.isWhole_whole _).read_unread]
      exact add_at _ _ _ i

/-- What the last point of a block writes back. -/
theorem out_at (t : Fin cfg0.N) (ht : t.val % 4 = 4 - 1) : (outsAt0 m c t.val t.isLt).1 = (outsAt0 m c t.val t.isLt).2 := by
  have h0 : ¬t.val % 4 = 0 := by omega
  rw [outsAt0_C m c t h0 ht]
  frame_out

/-- The given rows above, and the product below. -/
def under (G : S2816x1024.Idx → EReal) (A : S4096x768.Idx → EReal) (X : S4096x1024.Idx → EReal) : S2816x1024.Idx → EReal :=
  fun i => if h : (i 0).val < 2048 then G i
    else tn A X (ix2 ⟨(i 0).val - 2048, by have := idx2_lt0 (n0 := 2816) (n1 := 1024) i; omega⟩ (i 1))

theorem under_low (G : S2816x1024.Idx → EReal) (A : S4096x768.Idx → EReal) (X : S4096x1024.Idx → EReal) (r : Fin 768) (k : Fin 1024) (s : Fin 2816)
    (hs : s.val = 2048 + r.val) : under G A X (ix2 s k) = tn A X (ix2 r k) := by
  unfold under
  rw [dif_neg (by show ¬s.val < 2048; omega)]
  exact congrArg (tn A X) (ix2_of (by show s.val - 2048 = r.val; omega) rfl)

/-- What the result holds before the run. -/
theorem entry : V m c main_v0 = m ((c : Thread nD τ).loc main_arg3) := by
  unfold V
  after_results_simp
  rfl

/-- The result after the run. -/
theorem final : (dats m 0 c).arrAt 2 cfg0.N = under (m ((c : Thread nD τ).loc main_arg3)) (m ((c : Thread nD τ).loc main_arg2)) (m ((c : Thread nD τ).loc main_arg0)) := by
  have hN : cfg0.N = 12 := N_0
  funext i
  have hi : (i 0).val < 2816 := idx2_lt0 (n0 := 2816) (n1 := 1024) i
  refine ((dats m 0 c).arrAt_eq_piecewise 2 (under (m ((c : Thread nD τ).loc main_arg3)) (m ((c : Thread nD τ).loc main_arg2)) (m ((c : Thread nD τ).loc main_arg0))) (fun t hf => ?_) i).trans ?_
  · rw [Value.flushed2]
    have ht : t.val % 4 = 4 - 1 := (flush0_2 t).mp hf
    have h12 := (at_point t).2.2.2
    funext x
    obtain ⟨r, k, rfl⟩ : ∃ (r : Fin 256) (k : Fin 1024), x = ix2 r k := ⟨x 0, x 1, eq_ix2 x⟩
    have hq : 256 * (t.val / 4) + r.val < 768 := by have := r.isLt; omega
    have hr : 2048 + (256 * (t.val / 4) + r.val) < 2816 := by omega
    rw [View.read_apply, out_place t r k ⟨_, hr⟩ rfl]
    refine ((congrFun (out_at m c t ht) (ix2 r k)).trans (scratch m c t ht (ix2 r k))).trans ?_
    refine Eq.trans ?_ (under_low _ _ _ ⟨_, hq⟩ k ⟨_, hr⟩ rfl).symm
    refine (Fin.sum_mul_add_congr fun s d hl => ?_).trans (tn_apply (m ((c : Thread nD τ).loc main_arg2)) (m ((c : Thread nD τ).loc main_arg0)) _ k).symm
    have hs : s.val * 1024 + d.val = 1024 * ((4 * (t.val / 4) + s.val) % 4) + d.val := by have := s.isLt; omega
    have hs' : 256 * (t.val / 4) + r.val = 256 * ((4 * (t.val / 4) + s.val) / 4) + r.val := by have := s.isLt; omega
    rw [left_block m c _ d r ⟨s.val * 1024 + d.val, hl⟩ hs ⟨_, hq⟩ hs', right_block m c _ d k ⟨s.val * 1024 + d.val, hl⟩ hs, V_main_arg2, V_main_arg0]
  · split
    · rfl
    · rename_i h
      refine (congrFun (entry m c) i).trans ?_
      unfold under
      rw [dif_pos]
      by_contra hlow
      refine h ⟨⟨4 * (((i 0).val - 2048) / 256) + 3, by omega⟩, (flush0_2 _).mpr (by show (4 * (((i 0).val - 2048) / 256) + 3) % 4 = 3; omega), ?_⟩
      exact Finset.mem_map.mpr ⟨ix2 ⟨((i 0).val - 2048) % 256, by omega⟩ (i 1), Finset.mem_univ _,
        (out_place _ _ _ (i 0) (by show (i 0).val = 2048 + (256 * ((4 * (((i 0).val - 2048) / 256) + 3) / 4) + ((i 0).val - 2048) % 256); omega)).trans (eq_ix2 i).symm⟩

open Cert.GInSwRefIdeal.Read in
/-- The reference's result. -/
theorem reference (X : S4096x1024.Idx → EReal) (A : S4096x768.Idx → EReal) (G : S2816x1024.Idx → EReal) : val_main_v10 (F := Ideal) X A G = under G A X := by
  funext i
  obtain ⟨s, k, rfl⟩ : ∃ (s : Fin 2816) (k : Fin 1024), i = ix2 s k := ⟨i 0, i 1, eq_ix2 i⟩
  by_cases h : s.val < 2048
  · unfold under
    rw [dif_pos h]
    unfold val_main_v10
    refine (concatenate_pair_apply_left 0 (val_main_v3 (F := Ideal) G) (val_main_v9 (F := Ideal) X A) _ (ix2 s k) rfl (ix2 ⟨s.val, h⟩ k) fun b => match b with
      | ⟨0, _⟩ => rfl
      | ⟨1, _⟩ => rfl).trans ?_
    rw [val_main_v3_apply]
    exact congrArg G (ix2_of rfl rfl)
  · have hr : s.val - 2048 < 768 := by have := s.isLt; omega
    refine Eq.trans ?_ (under_low G A X ⟨s.val - 2048, hr⟩ k s (by show s.val = 2048 + (s.val - 2048); omega)).symm
    unfold val_main_v10
    refine (concatenate_pair_apply_right 0 (val_main_v3 (F := Ideal) G) (val_main_v9 (F := Ideal) X A) _ (ix2 s k) rfl rfl (ix2 ⟨s.val - 2048, hr⟩ k) (fun b hb => match b, hb with
      | ⟨0, _⟩, hb => absurd rfl hb
      | ⟨1, _⟩, _ => rfl) (by show s.val - 2048 + 2048 = s.val; omega)).trans ?_
    rw [val_main_v9_apply, val_main_v8_apply, val_main_v7_apply]
    refine Finset.sum_congr rfl fun d _ => ?_
    rw [val_main_v2_apply, val_main_v0_apply]
    exact congrArg₂ times (congrArg A (ix2_of rfl rfl)) (congrArg X (ix2_of rfl rfl))

/-- The reference runs, leaves its arguments and every counter at zero. -/
theorem frame_reference : Cert.quiescent_GInSwRefIdeal (hGInSwRefIdeal := Cert.GInSwRefIdeal.Gen.facts) := fun m ρ _ =>
  (θ_run Cert.GInSwRefIdeal.defs _ _).mono (fun r h => ⟨fun c => (h c).2, Idealize.ShloMosaic.sem_eq_zero_of_no_sems (by decide) r.2⟩)
    (Cert.GInSwRefIdeal.Value.run (F := Ideal) m ρ)

/-- The kernel and the reference end with equal results. -/
theorem algebraic : Cert.algebraic_GInSwIdeal_GInSwRefIdeal (hGInSwIdeal := Cert.GInSwIdeal.Gen.facts)
    (hGInSwRefIdeal := Cert.GInSwRefIdeal.Gen.facts) := fun m ρ m' ρ' _ hag =>
  ⟨fun c => under (m ((c.tc : Thread nD τ).loc main_arg3)) (m ((c.tc : Thread nD τ).loc main_arg2)) (m ((c.tc : Thread nD τ).loc main_arg0)),
    (θ_run _ _ _).mono (fun _ h c => ⟨(h c).1.trans (final m c), (h c).2⟩) (Cert.GInSwIdeal.Value.run_blocks m ρ),
    (θ_run _ _ _).mono (fun _ h c => by
      obtain ⟨e0, e1, e2, e3⟩ := hag c
      dsimp only
      rw [← e0, ← e2, ← e3]
      exact ⟨(h c).1.trans ((Cert.GInSwRefIdeal.Read.val_main_v10_eq _ _ _).trans (reference _ _ _)), (h c).2⟩) (Cert.GInSwRefIdeal.Value.run m' ρ')⟩

end Cert.Products.GInSw
-- ==== Proof.Norm1.lean ====
/-
The first norm of the hidden rows: what the kernel and the reference leave, place by place.
-/
module

public import proofs.«01_k».proof.Proof.Norms
public import proofs.«01_k».proof.Proof.Gen.Norm1Ideal.Value
public import proofs.«01_k».proof.Proof.Gen.Norm1RefIdeal.Read
public import proofs.«01_k».proof.Proof.Gen.Norm1RefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.Norm1

open Idealize.ShloMosaic Idealize.ShloMosaic.ValueIdx Idealize.ShloMosaic.TcCoe Idealize.SL.Sem
open Cert.Norm1Ideal Cert.Norm1Ideal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 8 := by
  rcases fin_N0 t with rfl | rfl | rfl | rfl | rfl | rfl | rfl | rfl <;> decide +kernel

/-- A place of the rows. -/
theorem row_block (t : Fin cfg0.N) (r : Fin 512) (k : Fin 1024) (sr : Fin 4096) (hsr : sr.val = 512 * t.val + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 512 + 1 * r.val = sr.val; rw [e.1, hsr]; omega
  · show win0_0.index t 1 * 1024 + 1 * k.val = k.val; rw [e.2]; omega

/-- A place of the gain. -/
theorem gain_block (t : Fin cfg0.N) (r : Fin 1) (k : Fin 1024) : iblk m c 1 t (ix2 r k) = V m c main_arg1 (ix2 r k) := by
  have e := (at_point t).2.1
  unfold iblk
  rw [View.read_apply]
  refine congrArg (V m c main_arg1) (ix2_of ?_ ?_)
  · show win0_1.index t 0 * 1 + 1 * r.val = r.val; rw [e.1]; omega
  · show win0_1.index t 1 * 1024 + 1 * k.val = k.val; rw [e.2]; omega

/-- Where a place of the block lies in the result. -/
theorem out_place (t : Fin cfg0.N) (r : Fin 512) (k : Fin 1024) (sr : Fin 4096) (hsr : sr.val = 512 * t.val + r.val) :
    ((cfg0.win 2).blk t).view.emb (ix2 r k) = (ix2 sr k : (⟨2, ![4096, 1024]⟩ : Shape).Idx) := by
  have e := (at_point t).2.2.1
  refine ix2_of ?_ ?_
  · show win0_2.index t 0 * 512 + 1 * r.val = sr.val; rw [e.1, hsr]; omega
  · show win0_2.index t 1 * 1024 + 1 * k.val = k.val; rw [e.2]; omega

/-- The body's normed rows. -/
theorem normed_at (x : Vec Ideal S512x1024 .f32) (g : Vec Ideal S1x1024 .f32) (i : Fin 512) (j : Fin 1024) :
    k0_pay1 x g (ix2 i j) = normed x g (ix2 i j) := by
  unfold k0_pay1
  exact normed_apply _ _ _ (fun i => root_apply _ _ _ _ _ i 0) _ _ i j

/-- The result after the run. -/
theorem final : (dats m 0 c).arrAt 2 cfg0.N = normed (m ((c : Thread nD τ).loc main_arg0)) (m ((c : Thread nD τ).loc main_arg1)) := by
  refine (dats m 0 c).arrAt_eq_of_cover 2 (normed _ _) (fun t _ => ?_) fun i => ?_
  · rw [Value.flushed2]
    have ht := (at_point t).2.2.2
    funext x
    obtain ⟨r, k, rfl⟩ : ∃ (r : Fin 512) (k : Fin 1024), x = ix2 r k := ⟨x 0, x 1, eq_ix2 x⟩
    have hr : 512 * t.val + r.val < 4096 := by have := r.isLt; omega
    rw [View.read_apply, out_place t r k ⟨_, hr⟩ rfl]
    show out0_2 _ _ (ix2 r k) = _
    unfold out0_2
    rw [View.canon_unit_zero two_axes, View.ld_unit_zero two_axes, View.ld_unit_zero two_axes]
    refine (normed_at _ _ r k).trans (normed_congr (fun d => ?_) (fun d => ?_) k)
    · rw [row_block m c t r d ⟨_, hr⟩ rfl, V_main_arg0]
    · rw [gain_block m c t 0 d, V_main_arg1]
  · have hN : cfg0.N = 8 := N_0
    have h0 : (i 0).val < 4096 := idx2_lt0 (n0 := 4096) (n1 := 1024) i
    refine ⟨⟨(i 0).val / 512, by omega⟩, flush0_2 _, ?_⟩
    exact Finset.mem_map.mpr ⟨ix2 ⟨(i 0).val % 512, by omega⟩ (i 1), Finset.mem_univ _,
      (out_place _ _ _ (i 0) (by show (i 0).val = 512 * ((i 0).val / 512) + (i 0).val % 512; omega)).trans (eq_ix2 i).symm⟩

open Cert.Norm1RefIdeal.Read in
/-- The reciprocal root of each row's mean square, in the reference. -/
theorem reference_root (X : S4096x1024.Idx → EReal) (i : Cert.Norm1RefIdeal.S4096x1.Idx) : val_main_v7 (F := Ideal) X i = root (row X (i 0)) := by
  rw [val_main_v7_apply, val_main_v6_apply, val_main_v4_apply, val_main_v2_apply, val_main_v1_apply, val_main_v3_apply, val_main_v5_apply, val_main_cst_apply, val_main_cst_0_apply, val_main_cst_1_apply]
  refine host_root (row X (i 0)) _ fun d => ?_
  rw [val_main_v0_apply]
  exact congrArg₂ times (congrArg X (ix2_of rfl rfl)) (congrArg X (ix2_of rfl rfl))

open Cert.Norm1RefIdeal.Read in
/-- The reference's normed rows. -/
theorem reference (X : S4096x1024.Idx → EReal) (G : S1x1024.Idx → EReal) : val_main_v12 (F := Ideal) X G = normed X G := by
  funext i
  obtain ⟨r, k, rfl⟩ : ∃ (r : Fin 4096) (k : Fin 1024), i = ix2 r k := ⟨i 0, i 1, eq_ix2 i⟩
  rw [val_main_v12_apply, val_main_v11_apply, val_main_v9_apply, val_main_v8_apply, val_main_v10_apply, reference_root]
  exact congrArg (times (times (X (ix2 r k)) (root (row X r)))) (congrArg G (ix2_of rfl rfl))

/-- The reference runs, leaves its arguments and every counter at zero. -/
theorem frame_reference : Cert.quiescent_Norm1RefIdeal (hNorm1RefIdeal := Cert.Norm1RefIdeal.Gen.facts) := fun m ρ _ =>
  (θ_run Cert.Norm1RefIdeal.defs _ _).mono (fun r h => ⟨fun c => (h c).2, Idealize.ShloMosaic.sem_eq_zero_of_no_sems (by decide) r.2⟩)
    (Cert.Norm1RefIdeal.Value.run (F := Ideal) m ρ)

/-- The kernel and the reference end with equal results. -/
theorem algebraic : Cert.algebraic_Norm1Ideal_Norm1RefIdeal (hNorm1Ideal := Cert.Norm1Ideal.Gen.facts)
    (hNorm1RefIdeal := Cert.Norm1RefIdeal.Gen.facts) := fun m ρ m' ρ' _ hag =>
  ⟨fun c => normed (m ((c.tc : Thread nD τ).loc main_arg0)) (m ((c.tc : Thread nD τ).loc main_arg1)),
    (θ_run _ _ _).mono (fun _ h c => ⟨(h c).1.trans (final m c), (h c).2⟩) (Cert.Norm1Ideal.Value.run_blocks m ρ),
    (θ_run _ _ _).mono (fun _ h c => by
      obtain ⟨e0, e1⟩ := hag c
      dsimp only
      rw [← e0, ← e1]
      exact ⟨(h c).1.trans ((Cert.Norm1RefIdeal.Read.val_main_v12_eq _ _).trans (reference _ _)), (h c).2⟩) (Cert.Norm1RefIdeal.Value.run m' ρ')⟩

end Cert.Products.Norm1
-- ==== Proof.MemNorm.lean ====
/-
The norm of the memory rows: what the kernel and the reference leave, place by place.
-/
module

public import proofs.«01_k».proof.Proof.Norms
public import proofs.«01_k».proof.Proof.Gen.MemNormIdeal.Value
public import proofs.«01_k».proof.Proof.Gen.MemNormRefIdeal.Read
public import proofs.«01_k».proof.Proof.Gen.MemNormRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.MemNorm

open Idealize.ShloMosaic Idealize.ShloMosaic.ValueIdx Idealize.ShloMosaic.TcCoe Idealize.SL.Sem
open Cert.MemNormIdeal Cert.MemNormIdeal.Gen

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = 0 ∧ win0_1.index t 1 = 0) ∧ (win0_2.index t 0 = t.val ∧ win0_2.index t 1 = 0) ∧ t.val < 1 := by
  rcases fin_N0 t with rfl <;> decide +kernel

/-- A place of the rows. -/
theorem row_block (t : Fin cfg0.N) (r : Fin 512) (k : Fin 1024) (sr : Fin 512) (hsr : sr.val = 512 * t.val + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 512 + 1 * r.val = sr.val; rw [e.1, hsr]; omega
  · show win0_0.index t 1 * 1024 + 1 * k.val = k.val; rw [e.2]; omega

/-- A place of the gain. -/
theorem gain_block (t : Fin cfg0.N) (r : Fin 1) (k : Fin 1024) : iblk m c 1 t (ix2 r k) = V m c main_arg1 (ix2 r k) := by
  have e := (at_point t).2.1
  unfold iblk
  rw [View.read_apply]
  refine congrArg (V m c main_arg1) (ix2_of ?_ ?_)
  · show win0_1.index t 0 * 1 + 1 * r.val = r.val; rw [e.1]; omega
  · show win0_1.index t 1 * 1024 + 1 * k.val = k.val; rw [e.2]; omega

/-- Where a place of the block lies in the result. -/
theorem out_place (t : Fin cfg0.N) (r : Fin 512) (k : Fin 1024) (sr : Fin 512) (hsr : sr.val = 512 * t.val + r.val) :
    ((cfg0.win 2).blk t).view.emb (ix2 r k) = (ix2 sr k : (⟨2, ![512, 1024]⟩ : Shape).Idx) := by
  have e := (at_point t).2.2.1
  refine ix2_of ?_ ?_
  · show win0_2.index t 0 * 512 + 1 * r.val = sr.val; rw [e.1, hsr]; omega
  · show win0_2.index t 1 * 1024 + 1 * k.val = k.val; rw [e.2]; omega

/-- The body's normed rows. -/
theorem normed_at (x : Vec Ideal S512x1024 .f32) (g : Vec Ideal S1x1024 .f32) (i : Fin 512) (j : Fin 1024) :
    k0_pay1 x g (ix2 i j) = normed x g (ix2 i j) := by
  unfold k0_pay1
  exact normed_apply _ _ _ (fun i => root_apply _ _ _ _ _ i 0) _ _ i j

/-- The result after the run. -/
theorem final : (dats m 0 c).arrAt 2 cfg0.N = normed (m ((c : Thread nD τ).loc main_arg0)) (m ((c : Thread nD τ).loc main_arg1)) := by
  refine (dats m 0 c).arrAt_eq_of_cover 2 (normed _ _) (fun t _ => ?_) fun i => ?_
  · rw [Value.flushed2]
    have ht := (at_point t).2.2.2
    funext x
    obtain ⟨r, k, rfl⟩ : ∃ (r : Fin 512) (k : Fin 1024), x = ix2 r k := ⟨x 0, x 1, eq_ix2 x⟩
    have hr : 512 * t.val + r.val < 512 := by have := r.isLt; omega
    rw [View.read_apply, out_place t r k ⟨_, hr⟩ rfl]
    show out0_2 _ _ (ix2 r k) = _
    unfold out0_2
    rw [View.canon_unit_zero two_axes, View.ld_unit_zero two_axes, View.ld_unit_zero two_axes]
    refine (normed_at _ _ r k).trans (normed_congr (fun d => ?_) (fun d => ?_) k)
    · rw [row_block m c t r d ⟨_, hr⟩ rfl, V_main_arg0]
    · rw [gain_block m c t 0 d, V_main_arg1]
  · have hN : cfg0.N = 1 := N_0
    have h0 : (i 0).val < 512 := idx2_lt0 (n0 := 512) (n1 := 1024) i
    refine ⟨⟨(i 0).val / 512, by omega⟩, flush0_2 _, ?_⟩
    exact Finset.mem_map.mpr ⟨ix2 ⟨(i 0).val % 512, by omega⟩ (i 1), Finset.mem_univ _,
      (out_place _ _ _ (i 0) (by show (i 0).val = 512 * ((i 0).val / 512) + (i 0).val % 512; omega)).trans (eq_ix2 i).symm⟩

open Cert.MemNormRefIdeal.Read in
/-- The reciprocal root of each row's mean square, in the reference. -/
theorem reference_root (X : S512x1024.Idx → EReal) (i : Cert.MemNormRefIdeal.S512x1.Idx) : val_main_v7 (F := Ideal) X i = root (row X (i 0)) := by
  rw [val_main_v7_apply, val_main_v6_apply, val_main_v4_apply, val_main_v2_apply, val_main_v1_apply, val_main_v3_apply, val_main_v5_apply, val_main_cst_apply, val_main_cst_0_apply, val_main_cst_1_apply]
  refine host_root (row X (i 0)) _ fun d => ?_
  rw [val_main_v0_apply]
  exact congrArg₂ times (congrArg X (ix2_of rfl rfl)) (congrArg X (ix2_of rfl rfl))

open Cert.MemNormRefIdeal.Read in
/-- The reference's normed rows. -/
theorem reference (X : S512x1024.Idx → EReal) (G : S1x1024.Idx → EReal) : val_main_v12 (F := Ideal) X G = normed X G := by
  funext i
  obtain ⟨r, k, rfl⟩ : ∃ (r : Fin 512) (k : Fin 1024), i = ix2 r k := ⟨i 0, i 1, eq_ix2 i⟩
  rw [val_main_v12_apply, val_main_v11_apply, val_main_v9_apply, val_main_v8_apply, val_main_v10_apply, reference_root]
  exact congrArg (times (times (X (ix2 r k)) (root (row X r)))) (congrArg G (ix2_of rfl rfl))

/-- The reference runs, leaves its arguments and every counter at zero. -/
theorem frame_reference : Cert.quiescent_MemNormRefIdeal (hMemNormRefIdeal := Cert.MemNormRefIdeal.Gen.facts) := fun m ρ _ =>
  (θ_run Cert.MemNormRefIdeal.defs _ _).mono (fun r h => ⟨fun c => (h c).2, Idealize.ShloMosaic.sem_eq_zero_of_no_sems (by decide) r.2⟩)
    (Cert.MemNormRefIdeal.Value.run (F := Ideal) m ρ)

/-- The kernel and the reference end with equal results. -/
theorem algebraic : Cert.algebraic_MemNormIdeal_MemNormRefIdeal (hMemNormIdeal := Cert.MemNormIdeal.Gen.facts)
    (hMemNormRefIdeal := Cert.MemNormRefIdeal.Gen.facts) := fun m ρ m' ρ' _ hag =>
  ⟨fun c => normed (m ((c.tc : Thread nD τ).loc main_arg0)) (m ((c.tc : Thread nD τ).loc main_arg1)),
    (θ_run _ _ _).mono (fun _ h c => ⟨(h c).1.trans (final m c), (h c).2⟩) (Cert.MemNormIdeal.Value.run_blocks m ρ),
    (θ_run _ _ _).mono (fun _ h c => by
      obtain ⟨e0, e1⟩ := hag c
      dsimp only
      rw [← e0, ← e1]
      exact ⟨(h c).1.trans ((Cert.MemNormRefIdeal.Read.val_main_v12_eq _ _).trans (reference _ _)), (h c).2⟩) (Cert.MemNormRefIdeal.Value.run m' ρ')⟩

end Cert.Products.MemNorm
-- ==== Proof.MemGain.lean ====
/-
The gradient of the gain of the memory rows' norm: what the kernel and the reference leave, place by place.
-/
module

public import proofs.«01_k».proof.Proof.Norms
public import proofs.«01_k».proof.Proof.Gen.MemGainIdeal.Value
public import proofs.«01_k».proof.Proof.Gen.MemGainRefIdeal.Read
public import proofs.«01_k».proof.Proof.Gen.MemGainRefIdeal.Run
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

namespace Cert.Products.MemGain

open Idealize.ShloMosaic Idealize.ShloMosaic.ValueIdx Idealize.ShloMosaic.TcCoe Idealize.SL.Sem
open Cert.MemGainIdeal Cert.MemGainIdeal.Gen

variable (m : (ℓ : Loc nD τ sig) → Buf (Elt Ideal) ℓ) (c : Dev nD)

/-- Where the windows stand at the one point. -/
theorem at_point (t : Fin cfg0.N) :
    (win0_0.index t 0 = 0 ∧ win0_0.index t 1 = 0) ∧ (win0_2.index t 0 = 0 ∧ win0_2.index t 1 = 0) ∧ (win0_3.index t 0 = 0 ∧ win0_3.index t 1 = 0) := by
  rcases fin_N0 t with rfl <;> decide +kernel

/-- A place of the rows. -/
theorem row_block (t : Fin cfg0.N) (r : Fin 512) (k : Fin 1024) : iblk m c 0 t (ix2 r k) = V m c main_arg0 (ix2 r k) := by
  have e := (at_point t).1
  unfold iblk
  rw [View.read_apply]
  refine congrArg (V m c main_arg0) (ix2_of ?_ ?_)
  · show win0_0.index t 0 * 512 + 1 * r.val = r.val; rw [e.1]; omega
  · show win0_0.index t 1 * 1024 + 1 * k.val = k.val; rw [e.2]; omega

/-- A place of the gradient of the normed rows. -/
theorem grad_block (t : Fin cfg0.N) (r : Fin 512) (k : Fin 1024) : iblk m c 2 t (ix2 r k) = V m c main_arg2 (ix2 r k) := by
  have e := (at_point t).2.1
  unfold iblk
  rw [View.read_apply]
  refine congrArg (V m c main_arg2) (ix2_of ?_ ?_)
  · show win0_2.index t 0 * 512 + 1 * r.val = r.val; rw [e.1]; omega
  · show win0_2.index t 1 * 1024 + 1 * k.val = k.val; rw [e.2]; omega

/-- Where a place of the block lies in the result. -/
theorem out_place (t : Fin cfg0.N) (r : Fin 1) (k : Fin 1024) :
    ((cfg0.win 3).blk t).view.emb (ix2 r k) = (ix2 r k : (⟨2, ![1, 1024]⟩ : Shape).Idx) := by
  have e := (at_point t).2.2
  refine ix2_of ?_ ?_
  · show win0_3.index t 0 * 1 + 1 * r.val = r.val; rw [e.1]; omega
  · show win0_3.index t 1 * 1024 + 1 * k.val = k.val; rw [e.2]; omega

/-- The body adds the rows' parts of the gradient to what the result held. -/
theorem gain_at (a : Vec Ideal S1x1024 .f32) (x d : Vec Ideal S512x1024 .f32) (j : S1x1024.Idx) :
    k0_pay2 a x d j = plus (a j) (gradGain x d j) := by
  obtain ⟨r, k, rfl⟩ : ∃ (r : Fin 1) (k : Fin 1024), j = ix2 r k := ⟨j 0, j 1, eq_ix2 j⟩
  unfold k0_pay2
  refine (congrArg₂ plus (congrFun (shapeCast_self _ _) _) (gain_apply _ _ _ (fun i => root_apply _ _ _ _ _ i 0) _ _ _ _ _ r k)).trans ?_
  rfl

/-- What the point leaves. -/
theorem out_at (t : Fin cfg0.N) (i : S1x1024.Idx) : outsAt0 m c t i = gradGain (iblk m c 0 t) (iblk m c 2 t) i := by
  unfold outsAt0
  frame_out
  refine (gain_at _ _ _ i).trans ((congrArg (plus · _) ?_).trans (zero_add _))
  exact Ideal.ofBits_zero_f32

/-- The result after the run. -/
theorem final : (dats m 0 c).arrAt 3 cfg0.N = gradGain (m ((c : Thread nD τ).loc main_arg0)) (m ((c : Thread nD τ).loc main_arg2)) := by
  have hN : cfg0.N = 1 := N_0
  refine (dats m 0 c).arrAt_eq_of_cover 3 (gradGain _ _) (fun t hf => ?_) fun i => ?_
  · rw [Value.flushed3]
    funext x
    obtain ⟨r, k, rfl⟩ : ∃ (r : Fin 1) (k : Fin 1024), x = ix2 r k := ⟨x 0, x 1, eq_ix2 x⟩
    rw [View.read_apply, out_place t r k]
    refine (out_at m c t (ix2 r k)).trans ?_
    refine (Finset.sum_congr rfl fun d _ => gainTerm_congr (fun k => ?_) (fun k => ?_) k : (∑ d, gainTerm _ _ d k) = ∑ d, gainTerm _ _ d k)
    · rw [row_block m c t d k, V_main_arg0]
    · rw [grad_block m c t d k, V_main_arg2]
  · refine ⟨⟨0, by omega⟩, flush0_3 _, ?_⟩
    exact Finset.mem_map.mpr ⟨ix2 (i 0) (i 1), Finset.mem_univ _, (out_place _ _ _).trans (eq_ix2 i).symm⟩

open Cert.MemGainRefIdeal.Read in
/-- The reciprocal root of each row's mean square, in the reference. -/
theorem reference_root (X : S512x1024.Idx → EReal) (i : Cert.MemGainRefIdeal.S512x1.Idx) : val_main_v7 (F := Ideal) X i = root (row X (i 0)) := by
  rw [val_main_v7_apply, val_main_v6_apply, val_main_v4_apply, val_main_v2_apply, val_main_v1_apply, val_main_v3_apply, val_main_v5_apply, val_main_cst_apply, val_main_cst_0_apply, val_main_cst_1_apply]
  refine host_root (row X (i 0)) _ fun d => ?_
  rw [val_main_v0_apply]
  exact congrArg₂ times (congrArg X (ix2_of rfl rfl)) (congrArg X (ix2_of rfl rfl))

open Cert.MemGainRefIdeal.Read in
/-- The reference's gradient of the gain. -/
theorem reference (X D : S512x1024.Idx → EReal) : val_main_v14 (F := Ideal) X D = gradGain X D := by
  funext j
  rw [val_main_v14_apply, val_main_v13_apply, val_main_cst_2_apply]
  refine (congrArg₂ plus Ideal.ofBits_zero_f32 (Finset.sum_congr rfl fun r _ => ?_)).trans (zero_add _)
  rw [val_main_v12_apply, val_main_v9_apply, val_main_v8_apply, reference_root]
  have e : idx_main_v13 (idx_main_v14 j) r = (ix2 r (j 1) : S512x1024.Idx) :=
    ix2_of rfl (by show (j 0).val * 1024 + (j 1).val = (j 1).val; have := idx2_lt0 (n0 := 1) (n1 := 1024) j; omega)
  rw [e]
  rfl

/-- The reference runs, leaves its arguments and every counter at zero. -/
theorem frame_reference : Cert.quiescent_MemGainRefIdeal (hMemGainRefIdeal := Cert.MemGainRefIdeal.Gen.facts) := fun m ρ _ =>
  (θ_run Cert.MemGainRefIdeal.defs _ _).mono (fun r h => ⟨fun c => (h c).2, Idealize.ShloMosaic.sem_eq_zero_of_no_sems (by decide) r.2⟩)
    (Cert.MemGainRefIdeal.Value.run (F := Ideal) m ρ)

/-- The kernel and the reference end with equal results. -/
theorem algebraic : Cert.algebraic_MemGainIdeal_MemGainRefIdeal (hMemGainIdeal := Cert.MemGainIdeal.Gen.facts)
    (hMemGainRefIdeal := Cert.MemGainRefIdeal.Gen.facts) := fun m ρ m' ρ' _ hag =>
  ⟨fun c => gradGain (m ((c.tc : Thread nD τ).loc main_arg0)) (m ((c.tc : Thread nD τ).loc main_arg2)),
    (θ_run _ _ _).mono (fun _ h c => ⟨(h c).1.trans (final m c), (h c).2⟩) (Cert.MemGainIdeal.Value.run_blocks m ρ),
    (θ_run _ _ _).mono (fun _ h c => by
      obtain ⟨e0, e1, e2⟩ := hag c
      dsimp only
      rw [← e0, ← e2]
      exact ⟨(h c).1.trans ((Cert.MemGainRefIdeal.Read.val_main_v14_eq _ _).trans (reference _ _)), (h c).2⟩) (Cert.MemGainRefIdeal.Value.run m' ρ')⟩

end Cert.Products.MemGain
-- ==== Proof.Heads.lean ====
/- One row of one head of the cross-attention's forward pass, as formulas on the extended reals, and that the vocabulary's
   functions are these formulas place by place. The softmax by a quotient and by a reciprocal agree where the scores are real,
   and the scores are real as soon as the gains are. -/
module

public import proofs.«01_k».proof.Proof.Reals

set_option maxRecDepth 16384

@[expose] public noncomputable section

open scoped BigOperators

namespace Cert.XAttn

open Idealize.ShloMosaic Idealize.ShloMosaic.ValueIdx

/-! ## The formulas -/

namespace Line

/-- The mean square of a row, with ε. -/
def mean (x : Fin 128 → EReal) : EReal := Ideal.div (∑ d, x d * x d) (Ideal.ofBits .f32 0x43000000#32) + Ideal.ofBits .f32 0x358637BD#32
/-- The normalised row times the gain. -/
def hat (x g : Fin 128 → EReal) (d : Fin 128) : EReal := x d * Ideal.rsqrt (mean x) * g d
/-- The scaled score of a query and a key. -/
def score (q k : Fin 128 → EReal) : EReal := (∑ d, q d * k d) * Ideal.ofBits .f32 0x3DB504F3#32
/-- The exponentials of a row of scores less the largest. -/
def expo (s : Fin 256 → EReal) (j : Fin 256) : EReal := Ideal.exp (s j - (Finset.univ : Finset (Fin 256)).fold max (⊥ : EReal) s)
/-- The weights of a row of scores. -/
def weight (s : Fin 256 → EReal) (j : Fin 256) : EReal := Ideal.div (expo s j) (∑ l, expo s l)
/-- The scores of the query row `x` against the key rows `Y`. -/
def scores (x : Fin 128 → EReal) (Y : Fin 256 → Fin 128 → EReal) (gq gk : Fin 128 → EReal) (l : Fin 256) : EReal :=
  score (hat x gq) (hat (Y l) gk)
/-- The weighted values. -/
def out (x : Fin 128 → EReal) (Y V : Fin 256 → Fin 128 → EReal) (gq gk : Fin 128 → EReal) (d : Fin 128) : EReal :=
  ∑ j, weight (scores x Y gq gk) j * V j d

/-- A number that is neither infinity is real. -/
theorem real_or (x : EReal) : (∃ r : ℝ, x = (r : EReal)) ∨ x * x = ⊤ := by
  induction x using EReal.rec with
  | bot => exact .inr EReal.bot_mul_bot
  | top => exact .inr EReal.top_mul_top
  | coe r => exact .inl ⟨r, rfl⟩

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- A normalised row is real when the gain is: an infinite entry makes the reciprocal root zero. -/
theorem hat_real (x g : Fin 128 → EReal) (G : Fin 128 → ℝ) (hg : ∀ d, g d = ((G d : ℝ) : EReal)) (d : Fin 128) :
    ∃ r : ℝ, hat x g d = (r : EReal) := by
  have w : Ideal.ofBits .f32 0x43000000#32 = ((128 : ℝ) : EReal) := word_128
  have e : Ideal.ofBits .f32 0x358637BD#32 = ((Row.eps : ℝ) : EReal) := word_eps
  by_cases h : ∀ d, ∃ r : ℝ, x d = (r : EReal)
  · choose X hX using h
    refine ⟨Row.hat X G d, ?_⟩
    have hm : mean x = (((∑ d, X d * X d) / 128 + Row.eps : ℝ) : EReal) := by
      unfold mean
      rw [w, e, EReal.coe_add, ← div_real (by norm_num), coe_sum]
      refine congrArg (fun z => Ideal.div z _ + _) (Finset.sum_congr rfl fun d _ => ?_)
      rw [hX, EReal.coe_mul]
    have hp := Row.mean_pos X
    unfold hat Row.hat Row.inv
    rw [hm, Ideal.rsqrt_coe, if_neg (not_lt.mpr hp.le), if_neg hp.ne', hX, hg, EReal.coe_mul, EReal.coe_mul]
  · obtain ⟨a, ha⟩ := not_forall.mp h
    have ha := (real_or (x a)).resolve_left ha
    have hs : ∑ d, x d * x d = ⊤ :=
      top_le_iff.mp (ha ▸ Finset.single_le_sum (f := fun d => x d * x d) (fun d _ => square_nonneg (x d)) (Finset.mem_univ a))
    have hm : mean x = ⊤ := by
      unfold mean
      rw [hs, w, e, Ideal.div_coe (by norm_num : (128 : ℝ) ≠ 0), EReal.top_mul_coe_of_pos (by norm_num), EReal.top_add_coe]
    refine ⟨0, ?_⟩
    unfold hat
    rw [hm, show Ideal.rsqrt ⊤ = 0 from rfl, mul_zero, zero_mul, EReal.coe_zero]

/-- The scores are real when the gains are. -/
theorem scores_real (x : Fin 128 → EReal) (Y : Fin 256 → Fin 128 → EReal) (gq gk : Fin 128 → EReal) (Gq Gk : Fin 128 → ℝ)
    (hq : ∀ d, gq d = ((Gq d : ℝ) : EReal)) (hk : ∀ d, gk d = ((Gk d : ℝ) : EReal)) (l : Fin 256) :
    ∃ r : ℝ, scores x Y gq gk l = (r : EReal) := by
  choose A hA using hat_real x gq Gq hq
  choose B hB using hat_real (Y l) gk Gk hk
  have w : Ideal.ofBits .f32 0x3DB504F3#32 = ((Row.scale : ℝ) : EReal) := word_scale
  refine ⟨(∑ d, A d * B d) * Row.scale, ?_⟩
  unfold scores score
  rw [w, EReal.coe_mul, coe_sum]
  refine congrArg (· * _) (Finset.sum_congr rfl fun d _ => ?_)
  rw [hA, hB, EReal.coe_mul]

/-- The weights by a reciprocal, on real scores. -/
theorem weight_recip (s : Fin 256 → EReal) (h : ∀ j, ∃ r : ℝ, s j = (r : EReal)) (j : Fin 256) :
    expo s j * Ideal.div (Ideal.ofBits .f32 0x3F800000#32) (∑ l, expo s l) = weight s j := by
  choose S hS using h
  have hs : s = fun j => ((S j : ℝ) : EReal) := funext hS
  have hx : ∀ j, expo s j = ((Real.exp (S j - Row.top S) : ℝ) : EReal) := fun j => by
    unfold expo
    rw [hs, coe_top, ← EReal.coe_sub]
    rfl
  have ht : ∑ l, expo s l = ((∑ l, Real.exp (S l - Row.top S) : ℝ) : EReal) := by
    rw [coe_sum]; exact Finset.sum_congr rfl fun l _ => hx l
  have hp : (∑ l : Fin 256, Real.exp (S l - Row.top S)) ≠ 0 := (Finset.sum_pos (fun l _ => Real.exp_pos _) Finset.univ_nonempty).ne'
  have one : Ideal.ofBits .f32 0x3F800000#32 = ((1 : ℝ) : EReal) := word_one
  unfold weight
  rw [hx, ht, one, div_real hp, Ideal.div_coe hp]
end Line

/-! ## The vocabulary, place by place -/

section
variable {n m k : Nat}

theorem spread_at (f : Rows n k) (c : Mat Ideal n 1) (i : Fin n) (j : Fin k) : spread f c (ix2 i j) = c (ix2 i 0) := by
  unfold spread
  rw [broadcastTo_apply c f.spread (ix2 i j) (ix2 i (0 : Fin 1)) fun ax => ?_]
  match ax with
  | ⟨0, _⟩ =>
    show i.val = if n = 1 then 0 else i.val
    split
    · have := i.isLt; omega
    · rfl
  | ⟨1, _⟩ => rfl
theorem over_at (f : Rows n k) (g : Mat Ideal 1 k) (i : Fin n) (j : Fin k) : over f g (ix2 i j) = g (ix2 0 j) := by
  unfold over
  rw [broadcastTo_1b_ab_apply]
theorem rowSum_at (f : Rows n k) (a : Mat Ideal n k) (i : Fin n) (j : Fin 1) : rowSum f a (ix2 i j) = ∑ d, a (ix2 i d) := by
  unfold rowSum
  rw [shapeCast_a_a1_apply]
  refine (Ideal.multiReduction_add_single _ _ _ _ _ _).trans ?_
  refine Finset.sum_congr rfl fun (d : Fin k) _ => congrArg a ?_
  funext b
  match b with
  | ⟨0, _⟩ => rfl
  | ⟨1, _⟩ => rfl
theorem rowMax_at (f : Rows n k) (a : Mat Ideal n k) (i : Fin n) (j : Fin 1) :
    rowMax f a (ix2 i j) = (Finset.univ : Finset (Fin k)).fold max (⊥ : EReal) (fun d => a (ix2 i d)) := by
  unfold rowMax
  rw [shapeCast_a_a1_apply]
  refine (Ideal.multiReduction_maximumf_single _ _ _ _ _ _).trans ?_
  rw [word_bot]
  refine congrArg (fun g => Finset.fold max (⊥ : EReal) g Finset.univ) ?_
  funext (d : Fin k)
  refine congrArg a ?_
  funext b
  match b with
  | ⟨0, _⟩ => rfl
  | ⟨1, _⟩ => rfl
theorem dotNN_at (x : Mat Ideal n m) (y : Mat Ideal m k) (i : Fin n) (j : Fin k) :
    dotNN x y (ix2 i j) = ∑ d, x (ix2 i d) * y (ix2 d j) := by
  unfold dotNN
  simp only [matmul]
  rw [Ideal.matmul_plain_apply, constant_apply]
  show Ideal.ofBits .f32 0x00000000#32 + _ = _
  rw [Ideal.ofBits_zero_f32, zero_add]
  rfl
theorem dotNT_at (x : Mat Ideal n k) (y : Mat Ideal m k) (i : Fin n) (j : Fin m) :
    dotNT x y (ix2 i j) = ∑ d, x (ix2 i d) * y (ix2 j d) := by
  unfold dotNT
  simp only [matmul]
  rw [Ideal.matmul_transposedRhs_apply, constant_apply]
  show Ideal.ofBits .f32 0x00000000#32 + _ = _
  rw [Ideal.ofBits_zero_f32, zero_add]
  rfl

theorem hat_at (f : Rows n 128) (x : Mat Ideal n 128) (g : Mat Ideal 1 128) (i : Fin n) (d : Fin 128) :
    hat f x g (ix2 i d) = Line.hat (fun d => x (ix2 i d)) (fun d => g (ix2 0 d)) d := by
  unfold hat
  rw [mulf_apply, mulf_apply, spread_at, over_at]
  unfold inv Line.hat Line.mean
  refine congrArg (fun z => x (ix2 i d) * z * g (ix2 0 d)) (congrArg Ideal.rsqrt ?_)
  exact congrArg (fun z => Ideal.div z (Ideal.ofBits .f32 0x43000000#32) + Ideal.ofBits .f32 0x358637BD#32) (rowSum_at f _ i 0)

theorem expo_at (f : Rows n 256) (raw : Mat Ideal n 256) (i : Fin n) (j : Fin 256) :
    expo f raw (ix2 i j) = Line.expo (fun j => raw (ix2 i j) * Ideal.ofBits .f32 0x3DB504F3#32) j := by
  unfold expo Line.expo
  refine congrArg Ideal.exp ?_
  rw [subf_apply, spread_at, rowMax_at]
  rfl

theorem soft_at (f : Rows n 256) (raw : Mat Ideal n 256) (i : Fin n) (j : Fin 256) :
    soft f raw (ix2 i j) = Line.expo (fun j => raw (ix2 i j) * Ideal.ofBits .f32 0x3DB504F3#32) j *
      Ideal.div (Ideal.ofBits .f32 0x3F800000#32) (∑ l, Line.expo (fun j => raw (ix2 i j) * Ideal.ofBits .f32 0x3DB504F3#32) l) := by
  unfold soft
  rw [mulf_apply, spread_at, divf_apply, rowSum_at, expo_at]
  refine congrArg (fun z => _ * Ideal.div _ z) (Finset.sum_congr rfl fun l _ => expo_at f raw i l)

/-- One head's output, in the vocabulary. -/
theorem head_at (f : HeadRows n 256 128) (x : Mat Ideal n 128) (y v : Mat Ideal 256 128) (gq gk : Mat Ideal 1 128) (Gq Gk : Fin 128 → ℝ)
    (hq : ∀ d, gq (ix2 0 d) = ((Gq d : ℝ) : EReal)) (hk : ∀ d, gk (ix2 0 d) = ((Gk d : ℝ) : EReal)) (i : Fin n) (d : Fin 128) :
    dotNN (soft f.s (dotNT (hat f.q x gq) (hat f.k y gk))) v (ix2 i d)
      = Line.out (fun d => x (ix2 i d)) (fun l d => y (ix2 l d)) (fun l d => v (ix2 l d)) (fun d => gq (ix2 0 d)) (fun d => gk (ix2 0 d)) d := by
  rw [dotNN_at]
  unfold Line.out
  refine Finset.sum_congr rfl fun j _ => congrArg (· * v (ix2 j d)) ?_
  have e : (fun j => dotNT (hat f.q x gq) (hat f.k y gk) (ix2 i j) * Ideal.ofBits .f32 0x3DB504F3#32)
      = Line.scores (fun d => x (ix2 i d)) (fun l d => y (ix2 l d)) (fun d => gq (ix2 0 d)) (fun d => gk (ix2 0 d)) := by
    funext j
    rw [dotNT_at]
    unfold Line.scores Line.score
    refine congrArg (· * _) (Finset.sum_congr rfl fun d _ => ?_)
    rw [hat_at, hat_at]
  rw [soft_at, e]
  exact Line.weight_recip _ (Line.scores_real _ _ _ _ Gq Gk hq hk) j
end

end Cert.XAttn
-- ==== Proof.XaFwd.lean ====
/-
The attention of the cross-attention's forward pass: what the kernel and the reference leave, place by place.
-/
module

public import proofs.«01_k».proof.Proof.Heads
public import proofs.«01_k».proof.Proof.Blocks
public import proofs.«01_k».proof.Proof.RefScores
public import proofs.«01_k».proof.Proof.Products
public import proofs.«01_k».proof.Proof.Gen.XaFwdIdeal.Value
public import proofs.«01_k».proof.Proof.Gen.XaFwdRefIdeal.Read
public import proofs.«01_k».proof.Proof.Gen.XaFwdRefIdeal.Run
public import proofs.«01_k».proof.Proof.Finite
public import proofs.«01_k».proof.Proof.Gen.Pre_finite_gains
public import proofs.«01_k».proof.Defs
public import Idealize.ShloMosaic.Lib.ValueLayout
public import Idealize.ShloMosaic.Lib.Quiescent
public import Idealize.ShloMosaic.Lib.Pipeline.ValueKit.Acc

set_option maxRecDepth 16384

@[expose] public noncomputable section

open scoped BigOperators

namespace Cert.Products.XaFwd

open Idealize.ShloMosaic Idealize.ShloMosaic.ValueIdx Idealize.ShloMosaic.TcCoe Idealize.SL.Sem
open Cert.XAttn
open Cert.XaFwdIdeal Cert.XaFwdIdeal.Gen

/-! ## The result -/

/-- A gain's entries. -/
def gainRow (g : Mat Ideal 1 128) (d : Fin 128) : EReal := g (ix2 0 d)
/-- The columns of head `j` of one row, from column `o` on. -/
def headRow {n K : Nat} (x : Mat Ideal n K) (o : Nat) (h : o + 512 ≤ K) (i : Fin n) (j : Fin 4) (d : Fin 128) : EReal :=
  x (ix2 i ⟨o + 128 * j.val + d.val, by omega⟩)

/-- What a row of queries attends to in 256 memory rows, the first of them `l0`: one column of the result. -/
def attend {n k : Nat} (x0 : Mat Ideal n 512) (x1 : Mat Ideal k 1024) (x2 x3 : Mat Ideal 1 128) (i : Fin n) (l0 : Nat) (h : l0 + 256 ≤ k)
    (c : Fin 512) : EReal :=
  Line.out (headRow x0 0 (by decide) i (headOf c)) (fun l => headRow x1 0 (by decide) ⟨l0 + l.val, by omega⟩ (headOf c))
    (fun l => headRow x1 512 (by decide) ⟨l0 + l.val, by omega⟩ (headOf c)) (gainRow x2) (gainRow x3) (inHead c)

/-- The result: each row of queries attends to its sequence's memory rows. -/
def result (x0 : Mat Ideal 4096 512) (x1 : Mat Ideal 512 1024) (x2 x3 : Mat Ideal 1 128) : S4096x512.Idx → EReal := fun y =>
  attend x0 x1 x2 x3 (y 0) (256 * ((y 0).val / 2048)) (by have : (y 0).val < 4096 := idx2_lt0 (n0 := 4096) (n1 := 512) y; omega) (y 1)

/-- A row's columns, where the two matrices agree on them. -/
theorem headRow_congr {n n' K : Nat} {x : Mat Ideal n K} {x' : Mat Ideal n' K} {o : Nat} {h : o + 512 ≤ K} {i : Fin n} {i' : Fin n'} {j : Fin 4}
    (e : ∀ c, x (ix2 i c) = x' (ix2 i' c)) : headRow x o h i j = headRow x' o h i' j := funext fun _ => e _

theorem attend_congr {n n' k k' : Nat} {x0 : Mat Ideal n 512} {x0' : Mat Ideal n' 512} {x1 : Mat Ideal k 1024} {x1' : Mat Ideal k' 1024}
    {x2 x2' x3 x3' : Mat Ideal 1 128} {i : Fin n} {i' : Fin n'} {l0 l0' : Nat} {h : l0 + 256 ≤ k} {h' : l0' + 256 ≤ k'} (c : Fin 512)
    (e0 : ∀ c, x0 (ix2 i c) = x0' (ix2 i' c))
    (e1 : ∀ (l : Fin 256) c, x1 (ix2 ⟨l0 + l.val, by omega⟩ c) = x1' (ix2 ⟨l0' + l.val, by omega⟩ c))
    (e2 : ∀ d, x2 (ix2 0 d) = x2' (ix2 0 d)) (e3 : ∀ d, x3 (ix2 0 d) = x3' (ix2 0 d)) :
    attend x0 x1 x2 x3 i l0 h c = attend x0' x1' x2' x3' i' l0' h' c := by
  unfold attend
  rw [headRow_congr e0, show gainRow x2 = gainRow x2' from funext e2, show gainRow x3 = gainRow x3' from funext e3,
    show (fun l : Fin 256 => headRow x1 0 (by decide) ⟨l0 + l.val, by omega⟩ (headOf c))
      = fun l : Fin 256 => headRow x1' 0 (by decide) ⟨l0' + l.val, by omega⟩ (headOf c) from funext fun l => headRow_congr (e1 l),
    show (fun l : Fin 256 => headRow x1 512 (by decide) ⟨l0 + l.val, by omega⟩ (headOf c))
      = fun l : Fin 256 => headRow x1' 512 (by decide) ⟨l0' + l.val, by omega⟩ (headOf c) from funext fun l => headRow_congr (e1 l)]

/-! ## The kernel's block -/

/-- The shape facts of a head of 512 queries. -/
theorem headShapes : HeadRows 512 256 128 :=
  ⟨⟨by decide, by decide, by decide, by decide, by decide, by decide, by decide⟩,
    ⟨by decide, by decide, by decide, by decide, by decide, by decide, by decide⟩,
    ⟨by decide, by decide, by decide, by decide, by decide, by decide, by decide⟩⟩

/-- The heads' outputs, rounded. -/
def headOut (a : Mat Ideal 512 128) (y v : Mat Ideal 256 128) (g h : Mat Ideal 1 128) : FVec Ideal S512x128 .bf16 :=
  bf (dotNN (soft headShapes.s (dotNT (hat headShapes.q a g) (hat headShapes.k y h))) v)

variable (a : Mat Ideal 512 128) (y v : Mat Ideal 256 128) (g h : Mat Ideal 1 128)
theorem stored0 : k0_pay17 (F := Ideal) (k0_pay13 (k0_pay9 (k0_pay1 a g) (k0_pay6 y h))) v = headOut a y v g h := rfl
theorem stored1 : k0_pay18 (F := Ideal) (k0_pay14 (k0_pay10 (k0_pay2 a g) y h (k0_pay7 y))) v = headOut a y v g h := rfl
theorem stored2 : k0_pay19 (F := Ideal) (k0_pay15 (k0_pay11 (k0_pay4 a g (k0_pay3 a))) (k0_pay12 y h)) v = headOut a y v g h := rfl
theorem stored3 : k0_pay20 (F := Ideal) (k0_pay16 (k0_pay5 a g) (k0_pay8 y h)) v = headOut a y v g h := rfl

theorem headOut_congr {a a' : Mat Ideal 512 128} {y y' v v' : Mat Ideal 256 128} {g g' h h' : Mat Ideal 1 128} (ea : a = a') (ey : y = y')
    (ev : v = v') (eg : g = g') (eh : h = h') : headOut a y v g h = headOut a' y' v' g' h' := by
  subst ea ey ev eg eh; rfl

/-- A load of some columns. -/
theorem ld_cols {n K w o : Nat} (h : o + w ≤ K) (x : Mat Ideal n K) : View.ld (Val := Elt Ideal) (e' := .f32) x (colRect n K w o h) = cols w o h x := by
  funext i
  show x ((colRect n K w o h).emb i) = _
  refine congrArg x ?_
  funext b
  match b with
  | ⟨0, _⟩ => exact Fin.ext (by show 0 + 1 * _ = _; simp)
  | ⟨1, _⟩ => exact Fin.ext (by show o + 1 * _ = _; simp)

/-- The place of a stored piece. -/
theorem piece (x0 : Mat Ideal 512 512) (x1 : Mat Ideal 256 1024) (x2 x3 : Mat Ideal 1 128) (Gq Gk : Fin 128 → ℝ)
    (hq : ∀ d, x2 (ix2 0 d) = ((Gq d : ℝ) : EReal)) (hk : ∀ d, x3 (ix2 0 d) = ((Gk d : ℝ) : EReal))
    (j : Fin 4) (o o' : Nat) (ho : o = 128 * j.val) (ho' : o' = 512 + 128 * j.val) (h : o + 128 ≤ 512) (hy : o + 128 ≤ 1024) (hv : o' + 128 ≤ 1024)
    (p : FVec Ideal S512x128 .bf16) (hp : p = headOut (cols 128 o h x0) (cols 128 o hy x1) (cols 128 o' hv x1) x2 x3)
    (x : (colRect 512 512 128 o h).shape.Idx) :
    p x = (fun z : S512x512.Idx => attend x0 x1 x2 x3 (z 0) 0 (by decide) (z 1)) ((colRect 512 512 128 o h).emb x) := by
  obtain ⟨i, d, rfl⟩ : ∃ (i : Fin 512) (d : Fin 128), x = ix2 i d := ⟨x 0, x 1, eq_ix2 x⟩
  rw [hp, emb_colRect]
  refine (Cert.XAttn.head_at headShapes _ _ _ _ _ Gq Gk hq hk i d).trans ?_
  show _ = attend x0 x1 x2 x3 i 0 _ ⟨o + d.val, _⟩
  unfold attend
  rw [headOf_at j ho, inHead_at j.val ho]
  have e (l : Fin 256) : (⟨0 + l.val, by omega⟩ : Fin 256) = l := Fin.ext (Nat.zero_add _)
  have c0 (d : Fin 128) : (⟨0 + 128 * j.val + d.val, by omega⟩ : Fin 1024) = ⟨o + d.val, by omega⟩ := Fin.ext (by show 0 + 128 * j.val + d.val = o + d.val; omega)
  have q0 (d : Fin 128) : (⟨0 + 128 * j.val + d.val, by omega⟩ : Fin 512) = ⟨o + d.val, by omega⟩ := Fin.ext (by show 0 + 128 * j.val + d.val = o + d.val; omega)
  have v0 (d : Fin 128) : (⟨512 + 128 * j.val + d.val, by omega⟩ : Fin 1024) = ⟨o' + d.val, by omega⟩ := Fin.ext (by show 512 + 128 * j.val + d.val = o' + d.val; omega)
  unfold headRow
  simp only [e, c0, q0, v0]
  rfl

variable (x0 : Mat Ideal 512 512) (x1 : Mat Ideal 256 1024) (x2 x3 : Mat Ideal 1 128) (Gq Gk : Fin 128 → ℝ)
  (hq : ∀ d, x2 (ix2 0 d) = ((Gq d : ℝ) : EReal)) (hk : ∀ d, x3 (ix2 0 d) = ((Gk d : ℝ) : EReal))
include hq hk

/-- The block the body leaves. -/
theorem block (i c : Fin 512) : out0_4 (F := Ideal) x0 x1 x2 x3 (ix2 i c) = attend x0 x1 x2 x3 i 0 (by decide) c := by
  have g2 := View.ld_unit_zero (S := S1x128) (Val := Elt Ideal) (e := .f32) two_axes inb_S1x128_S1x128_0_0 x2
  have g3 := View.ld_unit_zero (S := S1x128) (Val := Elt Ideal) (e := .f32) two_axes inb_S1x128_S1x128_0_0 x3
  have p := piece x0 x1 x2 x3 Gq Gk hq hk
  have e {o o' : Nat} (h : o + 128 ≤ 512) (hy : o + 128 ≤ 1024) (hv : o' + 128 ≤ 1024) :=
    headOut_congr (ld_cols h x0) (ld_cols hy x1) (ld_cols hv x1) g2 g3
  have key := View.canon_append_of_piecesOf (Val := Elt Ideal) (e := .bf16)
    (fun z : S512x512.Idx => attend x0 x1 x2 x3 (z 0) 0 (by decide) (z 1)) []
    [⟨colRect 512 512 128 384 (by decide), _⟩, ⟨colRect 512 512 128 256 (by decide), _⟩, ⟨colRect 512 512 128 128 (by decide), _⟩, ⟨colRect 512 512 128 0 (by decide), _⟩]
    ⟨p 3 384 896 rfl rfl (by decide) (by decide) (by decide) _ ((stored3 _ _ _ _ _).trans (e (by decide) (by decide) (by decide))),
     p 2 256 768 rfl rfl (by decide) (by decide) (by decide) _ ((stored2 _ _ _ _ _).trans (e (by decide) (by decide) (by decide))),
     p 1 128 640 rfl rfl (by decide) (by decide) (by decide) _ ((stored1 _ _ _ _ _).trans (e (by decide) (by decide) (by decide))),
     p 0 0 512 rfl rfl (by decide) (by decide) (by decide) _ ((stored0 _ _ _ _ _).trans (e (by decide) (by decide) (by decide))),
     trivial⟩ (ix2 i c) ?_
  · rw [List.append_nil] at key
    exact key
  · have hc : c.val < 512 := c.isLt
    rcases (by omega : 384 ≤ c.val ∨ (256 ≤ c.val ∧ c.val < 384) ∨ (128 ≤ c.val ∧ c.val < 256) ∨ c.val < 128) with h | h | h | h
    · exact ⟨_, .head _, mem_colRect (by decide) _ h (by show c.val < _; omega)⟩
    · exact ⟨_, .tail _ (.head _), mem_colRect (by decide) _ h.1 h.2⟩
    · exact ⟨_, .tail _ (.tail _ (.head _)), mem_colRect (by decide) _ h.1 h.2⟩
    · exact ⟨_, .tail _ (.tail _ (.tail _ (.head _))), mem_colRect (by decide) _ (Nat.zero_le _) (by show c.val < _; omega)⟩

omit hq hk

/-! ## The kernel's array -/

variable (m : (ℓ : Loc nD τ sig) → Buf (Elt Ideal) ℓ) (c : Dev nD)

/-- Where the windows stand at a point. -/
theorem at_point (t : Fin cfg0.N) :
    (win0_0.index t 0 = t.val ∧ win0_0.index t 1 = 0) ∧ (win0_1.index t 0 = t.val / 4 ∧ win0_1.index t 1 = 0) ∧ (win0_2.index t 0 = 0 ∧ win0_2.index t 1 = 0) ∧
      (win0_3.index t 0 = 0 ∧ win0_3.index t 1 = 0) ∧ (win0_4.index t 0 = t.val ∧ win0_4.index t 1 = 0) ∧ t.val < 8 := by
  rcases fin_N0 t with rfl | rfl | rfl | rfl | rfl | rfl | rfl | rfl <;> decide +kernel

/-- A place of the queries. -/
theorem query_block (t : Fin cfg0.N) (r : Fin 512) (k : Fin 512) (sr : Fin 4096) (hsr : sr.val = 512 * t.val + r.val) :
    iblk m c 0 t (ix2 r k) = V m c main_arg0 (ix2 sr k) := by
  have e := (at_point t).1
  unfold iblk
  rw [View.read_apply]
  refine congrArg (V m c main_arg0) (ix2_of ?_ ?_)
  · show win0_0.index t 0 * 512 + 1 * r.val = sr.val; rw [e.1, hsr]; omega
  · show win0_0.index t 1 * 512 + 1 * k.val = k.val; rw [e.2]; omega

/-- A place of the keys and values. -/
theorem key_block (t : Fin cfg0.N) (l : Fin 256) (k : Fin 1024) (sl : Fin 512) (hsl : sl.val = 256 * (t.val / 4) + l.val) :
    iblk m c 1 t (ix2 l k) = V m c main_arg1 (ix2 sl k) := by
  have e := (at_point t).2.1
  unfold iblk
  rw [View.read_apply]
  refine congrArg (V m c main_arg1) (ix2_of ?_ ?_)
  · show win0_1.index t 0 * 256 + 1 * l.val = sl.val; rw [e.1, hsl]; omega
  · show win0_1.index t 1 * 1024 + 1 * k.val = k.val; rw [e.2]; omega

/-- A place of the queries' gain. -/
theorem query_gain (t : Fin cfg0.N) (r : Fin 1) (k : Fin 128) : iblk m c 2 t (ix2 r k) = V m c main_arg2 (ix2 r k) := by
  have e := (at_point t).2.2.1
  unfold iblk
  rw [View.read_apply]
  refine congrArg (V m c main_arg2) (ix2_of ?_ ?_)
  · show win0_2.index t 0 * 1 + 1 * r.val = r.val; rw [e.1]; omega
  · show win0_2.index t 1 * 128 + 1 * k.val = k.val; rw [e.2]; omega

/-- A place of the keys' gain. -/
theorem key_gain (t : Fin cfg0.N) (r : Fin 1) (k : Fin 128) : iblk m c 3 t (ix2 r k) = V m c main_arg3 (ix2 r k) := by
  have e := (at_point t).2.2.2.1
  unfold iblk
  rw [View.read_apply]
  refine congrArg (V m c main_arg3) (ix2_of ?_ ?_)
  · show win0_3.index t 0 * 1 + 1 * r.val = r.val; rw [e.1]; omega
  · show win0_3.index t 1 * 128 + 1 * k.val = k.val; rw [e.2]; omega

/-- Where a place of the block lies in the result. -/
theorem out_place (t : Fin cfg0.N) (r : Fin 512) (k : Fin 512) (sr : Fin 4096) (hsr : sr.val = 512 * t.val + r.val) :
    ((cfg0.win 4).blk t).view.emb (ix2 r k) = (ix2 sr k : (⟨2, ![4096, 512]⟩ : Shape).Idx) := by
  have e := (at_point t).2.2.2.2.1
  refine ix2_of ?_ ?_
  · show win0_4.index t 0 * 512 + 1 * r.val = sr.val; rw [e.1, hsr]; omega
  · show win0_4.index t 1 * 512 + 1 * k.val = k.val; rw [e.2]; omega

/-- The result after the run, where the gains are real. -/
theorem final (hq : ∀ d, (m ((c : Thread nD τ).loc main_arg2) : Mat Ideal 1 128) (ix2 0 d) = ((Gq d : ℝ) : EReal))
    (hk : ∀ d, (m ((c : Thread nD τ).loc main_arg3) : Mat Ideal 1 128) (ix2 0 d) = ((Gk d : ℝ) : EReal)) :
    (dats m 0 c).arrAt 4 cfg0.N = result (m ((c : Thread nD τ).loc main_arg0)) (m ((c : Thread nD τ).loc main_arg1))
      (m ((c : Thread nD τ).loc main_arg2)) (m ((c : Thread nD τ).loc main_arg3)) := by
  refine (dats m 0 c).arrAt_eq_of_cover 4 (result _ _ _ _) (fun t _ => ?_) fun i => ?_
  · rw [Value.flushed4]
    have ht := (at_point t).2.2.2.2.2
    funext x
    obtain ⟨r, k, rfl⟩ : ∃ (r : Fin 512) (k : Fin 512), x = ix2 r k := ⟨x 0, x 1, eq_ix2 x⟩
    have hr : 512 * t.val + r.val < 4096 := by have := r.isLt; omega
    rw [View.read_apply, out_place t r k ⟨_, hr⟩ rfl]
    show out0_4 _ _ _ _ (ix2 r k) = _
    refine (block _ _ _ _ Gq Gk (fun d => ?_) (fun d => ?_) r k).trans (attend_congr (h' := by show 256 * ((512 * t.val + r.val) / 2048) + 256 ≤ 512; omega) k (fun d => ?_) (fun l d => ?_) (fun d => ?_) (fun d => ?_))
    · rw [query_gain m c t 0 d, V_main_arg2]; exact hq d
    · rw [key_gain m c t 0 d, V_main_arg3]; exact hk d
    · rw [query_block m c t r d ⟨_, hr⟩ rfl, V_main_arg0]
    · have hl := l.isLt
      rw [key_block m c t ⟨0 + l.val, by omega⟩ d ⟨256 * ((512 * t.val + r.val) / 2048) + l.val, by omega⟩
        (by show 256 * ((512 * t.val + r.val) / 2048) + l.val = 256 * (t.val / 4) + (0 + l.val); have := r.isLt; omega), V_main_arg1]
    · rw [query_gain m c t 0 d, V_main_arg2]
    · rw [key_gain m c t 0 d, V_main_arg3]
  · have hN : cfg0.N = 8 := N_0
    have h0 : (i 0).val < 4096 := idx2_lt0 (n0 := 4096) (n1 := 512) i
    refine ⟨⟨(i 0).val / 512, by omega⟩, flush0_4 _, ?_⟩
    exact Finset.mem_map.mpr ⟨ix2 ⟨(i 0).val % 512, by omega⟩ (i 1), Finset.mem_univ _,
      (out_place _ _ _ (i 0) (by show (i 0).val = 512 * ((i 0).val / 512) + (i 0).val % 512; omega)).trans (eq_ix2 i).symm⟩

/-! ## The reference -/

section
open Cert.XaFwdRefIdeal Cert.XaFwdRefIdeal.Read Cert.XaFwdRefIdeal.Gen

variable (q : Mat Ideal 4096 512) (kv : Mat Ideal 512 1024) (gq gk : Mat Ideal 1 128)

/-- A query: the row `s` of sequence `b`, head `j`. -/
def queryRow (b : Fin 2) (s : Fin 2048) (j : Fin 4) : Fin 128 → EReal := headRow q 0 (by decide) ⟨2048 * b.val + s.val, by omega⟩ j
/-- A key, or a value: the row `l` of sequence `b`, head `j`. -/
def memoryRow (o : Nat) (h : o + 512 ≤ 1024) (b : Fin 2) (l : Fin 256) (j : Fin 4) : Fin 128 → EReal :=
  headRow kv o h ⟨256 * b.val + l.val, by omega⟩ j

/-- Queries by row, head and column. -/
theorem ref_query (i : Cert.XaFwdRefIdeal.S2x2048x4x128.Idx) : val_main_v0 (F := Ideal) q i = queryRow q (i 0) (i 1) (i 2) (i 3) := by
  rw [val_main_v0_apply]
  have h0 : (i 0).val < 2 := (i 0).isLt
  have h1 : (i 1).val < 2048 := (i 1).isLt
  have h2 : (i 2).val < 4 := (i 2).isLt
  have h3 : (i 3).val < 128 := (i 3).isLt
  refine congrArg q (ix2_of ?_ ?_)
  · show ((((i 0).val * 2048 + (i 1).val) * 4 + (i 2).val) * 128 + (i 3).val) / 512 = 2048 * (i 0).val + (i 1).val; omega
  · show ((((i 0).val * 2048 + (i 1).val) * 4 + (i 2).val) * 128 + (i 3).val) % 512 = 0 + 128 * (i 2).val + (i 3).val; omega

/-- The queries' mean squares. -/
theorem ref_query_mean (i : Cert.XaFwdRefIdeal.S2x2048x4x1.Idx) : val_main_v7 (F := Ideal) q i = Line.mean (queryRow q (i 0) (i 1) (i 2)) := by
  rw [val_main_v7_apply, val_main_v5_apply, val_main_v3_apply, val_main_v2_apply, val_main_v4_apply, val_main_v6_apply]
  show Ideal.div (Ideal.ofBits .f32 0x00000000#32 + ∑ k, val_main_v1 (F := Ideal) q (idx_main_v2 (idx_main_v3 i) k)) (Ideal.ofBits .f32 0x43000000#32)
    + Ideal.ofBits .f32 0x358637BD#32 = _
  rw [Ideal.ofBits_zero_f32, zero_add]
  refine congrArg (fun z => Ideal.div z _ + _) (Finset.sum_congr rfl fun d _ => ?_)
  rw [val_main_v1_apply, ref_query]
  rfl

/-- The normalised queries. -/
theorem ref_query_hat (i : Cert.XaFwdRefIdeal.S2x2048x4x128.Idx) :
    val_main_v13 (F := Ideal) q gq i = Line.hat (queryRow q (i 0) (i 1) (i 2)) (gainRow gq) (i 3) := by
  rw [val_main_v13_apply, val_main_v10_apply, val_main_v9_apply, val_main_v8_apply, ref_query_mean, ref_query, val_main_v12_apply, val_main_v11_apply]
  exact congrArg (fun z => Line.hat (queryRow q (i 0) (i 1) (i 2)) (fun _ => z) (i 3)) (congrArg gq (ix2_of rfl rfl))

/-- Keys by row, head and column. -/
theorem ref_key (i : Cert.XaFwdRefIdeal.S2x256x4x128.Idx) : val_main_v16 (F := Ideal) kv i = memoryRow kv 0 (by decide) (i 0) (i 1) (i 2) (i 3) := by
  rw [val_main_v16_apply, val_main_v15_apply, val_main_v14_apply]
  have h0 : (i 0).val < 2 := (i 0).isLt
  have h1 : (i 1).val < 256 := (i 1).isLt
  have h2 : (i 2).val < 4 := (i 2).isLt
  have h3 : (i 3).val < 128 := (i 3).isLt
  refine congrArg kv (ix2_of ?_ ?_)
  · show (((idx_main_v16 i 0).val * 256 + (idx_main_v16 i 1).val) * 1024 + (idx_main_v16 i 2).val) / 1024 = 256 * (i 0).val + (i 1).val
    dsimp only [idx_main_v16]; omega
  · show (((idx_main_v16 i 0).val * 256 + (idx_main_v16 i 1).val) * 1024 + (idx_main_v16 i 2).val) % 1024 = 0 + 128 * (i 2).val + (i 3).val
    dsimp only [idx_main_v16]; omega

/-- Values by row, head and column. -/
theorem ref_value (i : Cert.XaFwdRefIdeal.S2x256x4x128.Idx) : val_main_v31 (F := Ideal) kv i = memoryRow kv 512 (by decide) (i 0) (i 1) (i 2) (i 3) := by
  rw [val_main_v31_apply, val_main_v30_apply, val_main_v14_apply]
  have h0 : (i 0).val < 2 := (i 0).isLt
  have h1 : (i 1).val < 256 := (i 1).isLt
  have h2 : (i 2).val < 4 := (i 2).isLt
  have h3 : (i 3).val < 128 := (i 3).isLt
  refine congrArg kv (ix2_of ?_ ?_)
  · show (((idx_main_v31 i 0).val * 256 + (idx_main_v31 i 1).val) * 1024 + (512 + (idx_main_v31 i 2).val)) / 1024 = 256 * (i 0).val + (i 1).val
    dsimp only [idx_main_v31]; omega
  · show (((idx_main_v31 i 0).val * 256 + (idx_main_v31 i 1).val) * 1024 + (512 + (idx_main_v31 i 2).val)) % 1024 = 512 + 128 * (i 2).val + (i 3).val
    dsimp only [idx_main_v31]; omega

/-- The keys' mean squares. -/
theorem ref_key_mean (i : Cert.XaFwdRefIdeal.S2x256x4x1.Idx) :
    val_main_v23 (F := Ideal) kv i = Line.mean (memoryRow kv 0 (by decide) (i 0) (i 1) (i 2)) := by
  rw [val_main_v23_apply, val_main_v21_apply, val_main_v19_apply, val_main_v18_apply, val_main_v20_apply, val_main_v22_apply]
  show Ideal.div (Ideal.ofBits .f32 0x00000000#32 + ∑ k, val_main_v17 (F := Ideal) kv (idx_main_v18 (idx_main_v19 i) k)) (Ideal.ofBits .f32 0x43000000#32)
    + Ideal.ofBits .f32 0x358637BD#32 = _
  rw [Ideal.ofBits_zero_f32, zero_add]
  refine congrArg (fun z => Ideal.div z _ + _) (Finset.sum_congr rfl fun d _ => ?_)
  rw [val_main_v17_apply, ref_key]
  rfl

/-- The normalised keys. -/
theorem ref_key_hat (i : Cert.XaFwdRefIdeal.S2x256x4x128.Idx) :
    val_main_v29 (F := Ideal) kv gk i = Line.hat (memoryRow kv 0 (by decide) (i 0) (i 1) (i 2)) (gainRow gk) (i 3) := by
  rw [val_main_v29_apply, val_main_v26_apply, val_main_v25_apply, val_main_v24_apply, ref_key_mean, ref_key, val_main_v28_apply, val_main_v27_apply]
  exact congrArg (fun z => Line.hat (memoryRow kv 0 (by decide) (i 0) (i 1) (i 2)) (fun _ => z) (i 3)) (congrArg gk (ix2_of rfl rfl))

/-- The scores of a row of queries. -/
def scoreRow (b : Fin 2) (j : Fin 4) (s : Fin 2048) : Fin 256 → EReal :=
  Line.scores (queryRow q b s j) (fun l => memoryRow kv 0 (by decide) b l j) (gainRow gq) (gainRow gk)

theorem ref_score (i : Cert.XaFwdRefIdeal.S2x4x2048x256.Idx) :
    val_main_v34 (F := Ideal) q kv gq gk i = scoreRow q kv gq gk (i 0) (i 1) (i 2) (i 3) := by
  rw [val_main_v34_apply, val_main_v32_apply, val_main_v33_apply]
  refine congrArg (fun z : EReal => z * Ideal.ofBits .f32 0x3DB504F3#32) (Finset.sum_congr rfl fun d _ => ?_)
  rw [ref_query_hat, ref_key_hat]
  rfl

/-- The largest score of each row. -/
theorem ref_top (i : Cert.XaFwdRefIdeal.S2x4x2048.Idx) :
    val_main_v35 (F := Ideal) q kv gq gk i = (Finset.univ : Finset (Fin 256)).fold max (⊥ : EReal) (scoreRow q kv gq gk (i 0) (i 1) (i 2)) := by
  unfold val_main_v35 val_main_cst_6
  refine (hostMax _ i).trans (congrArg (fun f => Finset.fold max (⊥ : EReal) f Finset.univ) ?_)
  funext (d : Fin 256)
  exact ref_score q kv gq gk _

/-- The exponentials of the scores less the largest. -/
theorem ref_expo (i : Cert.XaFwdRefIdeal.S2x4x2048x256.Idx) :
    val_main_v41 (F := Ideal) q kv gq gk i = Line.expo (scoreRow q kv gq gk (i 0) (i 1) (i 2)) (i 3) := by
  rw [val_main_v41_apply, val_main_v40_apply, ref_score, val_main_v39_apply, val_main_v38_apply, val_main_v37_apply, val_main_v36_apply, ref_top]
  have w : Ideal.ofBits .f32 0xFF800000#32 = (⊥ : EReal) := word_bot
  show Ideal.exp (_ - max (Ideal.ofBits .f32 0xFF800000#32) _) = _
  rw [w, max_eq_right bot_le]
  rfl

/-- The weights. -/
theorem ref_weight (i : Cert.XaFwdRefIdeal.S2x4x2048x256.Idx) :
    val_main_v45 (F := Ideal) q kv gq gk i = Line.weight (scoreRow q kv gq gk (i 0) (i 1) (i 2)) (i 3) := by
  rw [val_main_v45_apply, val_main_v44_apply, val_main_v43_apply, val_main_v42_apply, ref_expo]
  show Ideal.div _ (Ideal.ofBits .f32 0x00000000#32 + ∑ k, val_main_v41 (F := Ideal) q kv gq gk (idx_main_v42 (idx_main_v43 (idx_main_v44 i)) k)) = _
  rw [Ideal.ofBits_zero_f32, zero_add]
  exact congrArg (Ideal.div _) (Finset.sum_congr rfl fun d _ => ref_expo q kv gq gk _)

/-- The reference's result. -/
theorem reference : val_main_v49 (F := Ideal) q kv gq gk = result q kv gq gk := by
  funext i
  have h0 : (i 0).val < 4096 := idx2_lt0 (n0 := 4096) (n1 := 512) i
  have h1 : (i 1).val < 512 := idx2_lt1 (n0 := 4096) (n1 := 512) i
  have e : idx_main_v48 i = ix4 (⟨(i 0).val / 2048, by omega⟩ : Fin 2) (⟨(i 0).val % 2048, by omega⟩ : Fin 2048) (headOf (i 1)) (inHead (i 1)) := by
    funext a
    match a with
    | ⟨0, _⟩ => exact Fin.ext (by show ((i 0).val * 512 + (i 1).val) / 1048576 = (i 0).val / 2048; omega)
    | ⟨1, _⟩ => exact Fin.ext (by show ((i 0).val * 512 + (i 1).val) / 512 % 2048 = (i 0).val % 2048; omega)
    | ⟨2, _⟩ => exact Fin.ext (by show ((i 0).val * 512 + (i 1).val) / 128 % 4 = (i 1).val / 128; omega)
    | ⟨3, _⟩ => exact Fin.ext (by show ((i 0).val * 512 + (i 1).val) % 128 = (i 1).val % 128; omega)
  have r : (⟨2048 * ((i 0).val / 2048) + (i 0).val % 2048, by omega⟩ : Fin 4096) = i 0 := Fin.ext (by show 2048 * ((i 0).val / 2048) + (i 0).val % 2048 = (i 0).val; omega)
  rw [val_main_v49_apply, val_main_v48_apply, e, val_main_v47_apply, val_main_v46_apply]
  have hq : queryRow q ⟨(i 0).val / 2048, by omega⟩ ⟨(i 0).val % 2048, by omega⟩ (headOf (i 1)) = headRow q 0 (by decide) (i 0) (headOf (i 1)) :=
    congrArg (fun z => headRow q 0 (by decide) z (headOf (i 1))) r
  unfold result attend Line.out
  rw [← hq]
  refine Finset.sum_congr rfl fun l _ => ?_
  rw [ref_value, ref_weight]
  exact mul_comm _ _
end

/-! ## The claims -/

/-- Under the precondition the gains are real. -/
theorem gains_real (h : Cert.Pre_XaFwdIdeal_finite_gains (hPre_finite_gains := Cert.Pre_finite_gains.Gen.facts) m) :
    (∀ d, (m ((c.tc : Thread nD τ).loc main_arg2) : Mat Ideal 1 128) (ix2 0 d) = ((((m ((c.tc : Thread nD τ).loc main_arg2) : Mat Ideal 1 128) (ix2 0 d)).toReal : ℝ) : EReal))
    ∧ ∀ d, (m ((c.tc : Thread nD τ).loc main_arg3) : Mat Ideal 1 128) (ix2 0 d) = ((((m ((c.tc : Thread nD τ).loc main_arg3) : Mat Ideal 1 128) (ix2 0 d)).toReal : ℝ) : EReal) := by
  have e := congrFun (h c) ix0
  unfold Cert.Pre_finite_gains.fn at e
  obtain ⟨e2, e3⟩ := andi_one e
  exact ⟨real_of_all _ _ _ _ e2 0, real_of_all _ _ _ _ e3 0⟩

/-- The reference runs, leaves its arguments and every counter at zero. -/
theorem frame_reference : Cert.quiescent_XaFwdRefIdeal (hXaFwdRefIdeal := Cert.XaFwdRefIdeal.Gen.facts) := fun m ρ _ =>
  (θ_run Cert.XaFwdRefIdeal.defs _ _).mono (fun r h => ⟨fun c => (h c).2, Idealize.ShloMosaic.sem_eq_zero_of_no_sems (by decide) r.2⟩)
    (Cert.XaFwdRefIdeal.Value.run (F := Ideal) m ρ)

/-- The kernel and the reference end with equal results. -/
theorem algebraic : Cert.algebraic_XaFwdIdeal_XaFwdRefIdeal_pre_finite_gains (hXaFwdIdeal := Cert.XaFwdIdeal.Gen.facts)
    (hXaFwdRefIdeal := Cert.XaFwdRefIdeal.Gen.facts) (hPre_finite_gains := Cert.Pre_finite_gains.Gen.facts) := fun m ρ m' ρ' hpre hag =>
  ⟨fun c => result (m ((c.tc : Thread nD τ).loc main_arg0)) (m ((c.tc : Thread nD τ).loc main_arg1))
      (m ((c.tc : Thread nD τ).loc main_arg2)) (m ((c.tc : Thread nD τ).loc main_arg3)),
    (θ_run _ _ _).mono (fun _ h c => ⟨(h c).1.trans (final _ _ m c (gains_real m c hpre).1 (gains_real m c hpre).2), (h c).2⟩)
      (Cert.XaFwdIdeal.Value.run_blocks m ρ),
    (θ_run _ _ _).mono (fun _ h c => by
      obtain ⟨e0, e1, e2, e3⟩ := hag c
      dsimp only
      rw [← e0, ← e1, ← e2, ← e3]
      exact ⟨(h c).1.trans ((Cert.XaFwdRefIdeal.Read.val_main_v49_eq _ _).trans (reference _ _ _ _)), (h c).2⟩) (Cert.XaFwdRefIdeal.Value.run m' ρ')⟩

end Cert.Products.XaFwd
-- ==== Proof.LossFinish.lean ====
/-
The loss's last sum: half of the mean of the columns' sums, in every place of a row.
-/
module

public import proofs.«01_k».proof.Proof.Norms
public import proofs.«01_k».proof.Proof.Gen.LossFinishIdeal.Value
public import proofs.«01_k».proof.Proof.Gen.LossFinishRefIdeal.Read
public import proofs.«01_k».proof.Proof.Gen.LossFinishRefIdeal.Run
public import proofs.«01_k».proof.Defs
public import Idealize.ShloMosaic.Lib.ValueLayout
public import Idealize.ShloMosaic.Lib.Quiescent

set_option maxRecDepth 16384

@[expose] public noncomputable section

namespace Cert.Products.LossFinish

open Idealize.ShloMosaic Idealize.ShloMosaic.ValueIdx Idealize.ShloMosaic.TcCoe Idealize.SL.Sem
open Cert.LossFinishIdeal Cert.LossFinishIdeal.Gen

/-- The loss, of the columns' sums of the squared errors. -/
def loss (x : S1x1024.Idx → EReal) : EReal := times (Ideal.ofBits .f32 0x3F000000#32) (Ideal.div (∑ k : Fin 1024, x (ix2 0 k)) count)

/-- Half of a mean is the mean of the halves. -/
theorem half_mean (h s : EReal) : Ideal.div (times h s) count = times h (Ideal.div s count) := by
  unfold times
  rw [word_count, Ideal.div_coe (by norm_num), Ideal.div_coe (by norm_num), mul_assoc]

/-- The sum over a single row of columns, laid out with one axis more. -/
theorem sum_row (x : S1x1024.Idx → EReal) (h : S1x1024.ShapeCasts S1x1x1024) :
    ∑ i : S1x1x1024.Idx, shapeCast S1x1x1024 x h i = ∑ k : Fin 1024, x (ix2 0 k) := by
  refine (Fintype.sum_equiv ⟨fun i => i 2, fun k => ix3 0 0 k, fun i => ix3_of ?_ ?_ rfl |>.symm, fun k => rfl⟩ _ (fun k => x (ix2 0 k)) fun i => ?_)
  · exact Nat.lt_one_iff.mp (i 0).isLt
  · exact Nat.lt_one_iff.mp (i 1).isLt
  · obtain ⟨a, b, k, rfl⟩ : ∃ (a b : Fin 1) (k : Fin 1024), i = ix3 a b k := ⟨i 0, i 1, i 2, ix3_of rfl rfl rfl⟩
    rw [Subsingleton.elim b 0]
    exact shapeCast_ab_1ab_apply _ _ _ _ _

/-- What the body makes of the columns' sums. -/
theorem body (x : Vec Ideal S1x1024 .f32) (j : S1x128.Idx) : k0_pay1 x j = loss x := by
  unfold k0_pay1
  refine (congrArg₂ plus Ideal.ofBits_zero_f32 ?_).trans (zero_add _)
  refine Eq.trans (congrArg (fun s => Ideal.div (times (Ideal.ofBits .f32 0x3F000000#32) s) count) ?_) (half_mean _ _)
  refine Eq.trans ?_ (sum_row x shapeCasts_S1x1024_S1x1x1024)
  exact Ideal.multiReduction_add_total (shapeCast S1x1x1024 x shapeCasts_S1x1024_S1x1x1024) 0x00000000#32 reduces_S1x1x1024_S1
    (fun b => by fin_cases b; rfl) (.inl rfl) rfl _

open Cert.LossFinishRefIdeal.Read in
/-- The reference's loss. -/
theorem reference (x : S1x1024.Idx → EReal) (j : S1x128.Idx) : val_main_v3 (F := Ideal) x j = loss x := by
  rw [val_main_v3_apply, val_main_v2_apply, val_main_v1_apply, val_main_v0_apply, val_main_cst_apply, val_main_cst_0_apply, val_main_cst_1_apply]
  refine congrArg (fun s => times (Ideal.ofBits .f32 0x3F000000#32) (Ideal.div s count)) ?_
  refine (congrArg₂ plus Ideal.ofBits_zero_f32 ?_).trans (zero_add _)
  rw [ValueIdx.sum_idx2, Fin.sum_univ_one]

/-- The reference runs, leaves its argument and every counter at zero. -/
theorem frame_reference : Cert.quiescent_LossFinishRefIdeal (hLossFinishRefIdeal := Cert.LossFinishRefIdeal.Gen.facts) := fun m ρ _ =>
  (θ_run Cert.LossFinishRefIdeal.defs _ _).mono (fun r h => ⟨fun c => (h c).2, Idealize.ShloMosaic.sem_eq_zero_of_no_sems (by decide) r.2⟩)
    (Cert.LossFinishRefIdeal.Value.run (F := Ideal) m ρ)

/-- The kernel and the reference end with equal results. -/
theorem algebraic : Cert.algebraic_LossFinishIdeal_LossFinishRefIdeal (hLossFinishIdeal := Cert.LossFinishIdeal.Gen.facts)
    (hLossFinishRefIdeal := Cert.LossFinishRefIdeal.Gen.facts) := fun m ρ m' ρ' _ hag =>
  ⟨fun c _ => loss (m ((c.tc : Thread nD τ).loc main_arg0)),
    (θ_run _ _ _).mono (fun _ h c => ⟨(h c).1.trans (funext fun j => body _ j), (h c).2⟩) (Cert.LossFinishIdeal.Value.run m ρ),
    (θ_run _ _ _).mono (fun _ h c => by
      have e0 := hag c
      dsimp only
      rw [← e0]
      exact ⟨(h c).1.trans ((Cert.LossFinishRefIdeal.Read.val_main_v3_eq _).trans (funext fun j => reference _ j)), (h c).2⟩)
      (Cert.LossFinishRefIdeal.Value.run m' ρ')⟩

end Cert.Products.LossFinish
-- ==== Proof.SumDevices.lean ====
/-
The sum over the devices: what the kernel and the reference leave, place by place.
-/
module

public import proofs.«01_k».proof.Proof.Norms
public import proofs.«01_k».proof.Proof.Gen.SumDevicesIdeal.Value
public import proofs.«01_k».proof.Proof.Gen.SumDevicesRefIdeal.Read
public import proofs.«01_k».proof.Proof.Gen.SumDevicesRefIdeal.Run
public import proofs.«01_k».proof.Defs
public import Idealize.ShloMosaic.Lib.ValueLayout
public import Idealize.ShloMosaic.Lib.Quiescent
public import Idealize.ShloMosaic.Lib.Pipeline.ReadBack
public import Idealize.ShloMosaic.Lib.Pipeline.ValueKit.Tiles
public import Idealize.ShloMosaic.Lib.Pipeline.ValueKit.Acc

set_option maxRecDepth 16384

@[expose] public noncomputable section

namespace Cert.Products.SumDevices

open Idealize.ShloMosaic Idealize.ShloMosaic.ValueIdx Idealize.ShloMosaic.TcCoe Idealize.SL.Sem
open Cert.SumDevicesIdeal Cert.SumDevicesIdeal.Gen

variable (m : (ℓ : Loc nD τ sig) → Buf (Elt Ideal) ℓ) (c : Dev nD)

/-- One device's summand: the own row on the device itself, and the gathered row elsewhere. -/
def summand (own : S16x1024.Idx → EReal) (all : S8x16x1024.Idx → EReal) (me : BitVec 32) (i : S16x1024.Idx) (d : Fin 8) : EReal :=
  Scalar.select (IntOp.cmpi .eq me (BitVec.ofNat 32 d.val)) (own i) (all (ix3 d (i 0) (i 1)))

/-- The sum over the eight devices. -/
def total (own : S16x1024.Idx → EReal) (all : S8x16x1024.Idx → EReal) (me : BitVec 32) (i : S16x1024.Idx) : EReal :=
  ∑ d : Fin 8, summand own all me i d

/-- Where the windows stand at the one point. -/
theorem at_point (t : Fin cfg0.N) :
    (win0_1.index t 0 = 0 ∧ win0_1.index t 1 = 0) ∧ (win0_2.index t 0 = 0 ∧ win0_2.index t 1 = 0 ∧ win0_2.index t 2 = 0)
      ∧ (win0_3.index t 0 = 0 ∧ win0_3.index t 1 = 0) ∧ win0_0.index t 0 = 0 := by
  revert t
  decide +kernel

/-- A choice between two arrays, place by place. -/
theorem select_at {ι α : Type} (b : BitVec 1) (f g : ι → α) (i : ι) : Scalar.select b f g i = Scalar.select b (f i) (g i) := by
  unfold Scalar.select
  split <;> rfl

/-- What the body makes of the own rows, the device's number and the eight gathered blocks. -/
theorem body (own : Vec Ideal S16x1024 .f32) (me : BitVec 32) (g : Fin 8 → Vec Ideal S1x16x1024 .f32) (r : Fin 16) (k : Fin 1024) :
    k0_pay1 own (k0_pay2 own me (g 0) me (g 1) me (g 2) me (g 3) me (g 4)) me 5#32 (g 5) me (g 6) me (g 7) (ix2 r k)
      = ∑ d : Fin 8, Scalar.select (IntOp.cmpi .eq me (BitVec.ofNat 32 d.val)) (own (ix2 r k)) (g d (ix3 0 r k)) := by
  have e (b : BitVec 1) (d : Fin 8) :
      Scalar.select b own (shapeCast S16x1024 (g d) shapeCasts_S1x16x1024_S16x1024) (ix2 r k) = Scalar.select b (own (ix2 r k)) (g d (ix3 0 r k)) :=
    (select_at b _ _ _).trans (congrArg (Scalar.select b _) (shapeCast_1ab_ab_apply _ _ _ _))
  rw [Fin.sum_univ_eight, ← e, ← e, ← e, ← e, ← e, ← e, ← e, ← e]
  rfl

/-- The device's own rows. -/
theorem own_block (t : Fin cfg0.N) : iblk m c 1 t = V m c main_arg0 := by
  have e := (at_point t).1
  funext j
  unfold iblk
  rw [View.read_apply]
  refine congrArg (V m c main_arg0) ((ix2_of (i := j 0) (j := j 1) ?_ ?_).trans (eq_ix2 j).symm)
  · show win0_1.index t 0 * 16 + 1 * (j 0).val = (j 0).val; rw [e.1]; omega
  · show win0_1.index t 1 * 1024 + 1 * (j 1).val = (j 1).val; rw [e.2]; omega

/-- The gathered rows. -/
theorem all_block (t : Fin cfg0.N) (d : Fin 8) (r : Fin 16) (k : Fin 1024) : iblk m c 2 t (ix3 d r k) = V m c main_arg1 (ix3 d r k) := by
  have e := (at_point t).2.1
  unfold iblk
  rw [View.read_apply]
  refine congrArg (V m c main_arg1) (ix3_of ?_ ?_ ?_)
  · show win0_2.index t 0 * 8 + 1 * d.val = d.val; rw [e.1]; omega
  · show win0_2.index t 1 * 16 + 1 * r.val = r.val; rw [e.2.1]; omega
  · show win0_2.index t 2 * 1024 + 1 * k.val = k.val; rw [e.2.2]; omega

/-- An array of one place holds one value. -/
theorem one_place {α : Type} (x : S1.Idx → α) (i j : S1.Idx) : x i = x j :=
  congrArg x (funext fun a => match a with | ⟨0, _⟩ => Subsingleton.elim (α := Fin 1) (i 0) (j 0))

/-- The device's number. -/
theorem number_block (t : Fin cfg0.N) (i j : S1.Idx) : iblk m c 0 t i = V m c main_arg2 j := by
  unfold iblk
  rw [View.read_apply]
  exact one_place _ _ _

/-- Where a place of the block lies in the result. -/
theorem out_place (t : Fin cfg0.N) (r : Fin 16) (k : Fin 1024) :
    ((cfg0.win 3).blk t).view.emb (ix2 r k) = (ix2 r k : (⟨2, ![16, 1024]⟩ : Shape).Idx) := by
  have e := (at_point t).2.2.1
  refine ix2_of ?_ ?_
  · show win0_3.index t 0 * 16 + 1 * r.val = r.val; rw [e.1]; omega
  · show win0_3.index t 1 * 1024 + 1 * k.val = k.val; rw [e.2]; omega

/-- A block of the gathered rows lies within them. -/
theorem fits (d : Fin 8) : ∀ a : Fin 3, (![d.val, 0, 0] : Fin 3 → Nat) a + (![1, 16, 1024] : Fin 3 → Nat) a ≤ S8x16x1024.size a := by
  revert d; decide

/-- What the point leaves. -/
theorem out_at (t : Fin cfg0.N) (r : Fin 16) (k : Fin 1024) :
    outsAt0 m c t (ix2 r k) = total (V m c main_arg0) (V m c main_arg1) (V m c main_arg2 (ix1 0)) (ix2 r k) := by
  unfold outsAt0
  frame_out
  rw [read_unread_whole, read_unread_whole, read_unread_whole, own_block, number_block m c t _ (ix1 0)]
  refine (body (V m c main_arg0) (V m c main_arg2 (ix1 0)) (fun d => View.ld (iblk m c 2 t) (Rect.unit ![d.val, 0, 0] ![1, 16, 1024] (fits d))) r k).trans ?_
  refine Finset.sum_congr rfl fun d _ => congrArg (Scalar.select _ _) ?_
  refine (View.ld_unit_apply_of _ _ _ _ _ (ix3 d r k) fun a => ?_).trans (all_block m c t d r k)
  fin_cases a
  · show d.val = d.val + 0; omega
  · show r.val = 0 + r.val; omega
  · show k.val = 0 + k.val; omega

/-- The result after the run. -/
theorem final : (dats m 0 c).arrAt 3 cfg0.N
    = total (m ((c : Thread nD τ).loc main_arg0)) (m ((c : Thread nD τ).loc main_arg1)) (m ((c : Thread nD τ).loc main_arg2) (ix1 0)) := by
  refine (dats m 0 c).arrAt_eq_of_cover 3 (total _ _ _) (fun t hf => ?_) fun i => ?_
  · rw [Value.flushed3]
    funext x
    obtain ⟨r, k, rfl⟩ : ∃ (r : Fin 16) (k : Fin 1024), x = ix2 r k := ⟨x 0, x 1, eq_ix2 x⟩
    rw [View.read_apply, out_place t r k]
    exact out_at m c t r k
  · refine ⟨⟨0, by decide⟩, flush0_3 _, ?_⟩
    exact Finset.mem_map.mpr ⟨ix2 (i 0) (i 1), Finset.mem_univ _, (out_place _ _ _).trans (eq_ix2 i).symm⟩

open Cert.SumDevicesRefIdeal.Read in
/-- The reference's sum. -/
theorem reference (own : S16x1024.Idx → EReal) (all : S8x16x1024.Idx → EReal) (x : S1.Idx → BitVec 32) (i : S16x1024.Idx) :
    val_main_v6 (F := Ideal) own all x i = total own all (x (ix1 0)) i := by
  rw [val_main_v6_apply, val_main_cst_apply]
  refine (congrArg₂ plus Ideal.ofBits_zero_f32 (Finset.sum_congr rfl fun d _ => ?_)).trans (zero_add _)
  rw [val_main_v5_apply, val_main_call0_v0_apply, val_main_v4_apply, val_main_call0_v1_apply, val_main_v1_apply, val_main_v0_apply, val_main_v3_apply]
  have ex : val_main_v2 (F := Ideal) x (idx_main_v3 (idx_main_call0_v0 (idx_main_v6 i d))) = x (ix1 0) := one_place x _ _
  have ed : (idx_main_v1 (idx_main_call0_v0 (idx_main_v6 i d)) 0).val = d.val := by show (d.val * 1 + 0) * 1 + 0 = d.val; omega
  have eo : idx_main_call0_v1 (idx_main_v6 i d) = i := funext fun a => by fin_cases a <;> rfl
  have ea : idx_main_v6 i d = (ix3 d (i 0) (i 1) : S8x16x1024.Idx) := ix3_of rfl rfl rfl
  rw [ex, ed, eo, ea]
  exact congrArg (fun b => Scalar.select (BitVec.ofBool b) _ _) BEq.comm

/-- The reference runs, leaves its arguments and every counter at zero. -/
theorem frame_reference : Cert.quiescent_SumDevicesRefIdeal (hSumDevicesRefIdeal := Cert.SumDevicesRefIdeal.Gen.facts) := fun m ρ _ =>
  (θ_run Cert.SumDevicesRefIdeal.defs _ _).mono (fun r h => ⟨fun c => (h c).2, Idealize.ShloMosaic.sem_eq_zero_of_no_sems (by decide) r.2⟩)
    (Cert.SumDevicesRefIdeal.Value.run (F := Ideal) m ρ)

/-- The kernel and the reference end with equal results. -/
theorem algebraic : Cert.algebraic_SumDevicesIdeal_SumDevicesRefIdeal (hSumDevicesIdeal := Cert.SumDevicesIdeal.Gen.facts)
    (hSumDevicesRefIdeal := Cert.SumDevicesRefIdeal.Gen.facts) := fun m ρ m' ρ' _ hag =>
  ⟨fun c => total (m ((c.tc : Thread nD τ).loc main_arg0)) (m ((c.tc : Thread nD τ).loc main_arg1)) (m ((c.tc : Thread nD τ).loc main_arg2) (ix1 0)),
    (θ_run _ _ _).mono (fun _ h c => ⟨(h c).1.trans (final m c), (h c).2⟩) (Cert.SumDevicesIdeal.Value.run_blocks m ρ),
    (θ_run _ _ _).mono (fun _ h c => by
      obtain ⟨e0, e1, e2⟩ := hag c
      dsimp only
      rw [← e0, ← e1, ← e2]
      exact ⟨(h c).1.trans ((Cert.SumDevicesRefIdeal.Read.val_main_v6_eq _ _ _).trans (funext fun i => reference _ _ _ i)), (h c).2⟩)
      (Cert.SumDevicesRefIdeal.Value.run m' ρ')⟩

end Cert.Products.SumDevices
-- ==== Proof.lean ====
/- The claims: the kernel runs and leaves its arguments, its idealization is the same program, and on the extended reals,
   where every entry of the arguments is finite, it ends with the results of the reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_args
public import proofs.«01_k».proof.Proof.Claims
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.DAct.Frame
public import proofs.«01_k».proof.Proof.Gen.DActIdeal.Frame
public import proofs.«01_k».proof.Proof.Gen.DActIdeal.Value
public import proofs.«01_k».proof.Proof.Gen.DActRefIdeal.Run
public import proofs.«01_k».proof.Proof.Gen.DActRefIdeal.Read
public import proofs.«01_k».proof.Proof.DAct
public import proofs.«01_k».proof.Proof.Gen.GDown.Frame
public import proofs.«01_k».proof.Proof.Gen.GDownIdeal.Frame
public import proofs.«01_k».proof.Proof.Gen.GDownIdeal.Value
public import proofs.«01_k».proof.Proof.Gen.GDownRefIdeal.Run
public import proofs.«01_k».proof.Proof.Gen.GDownRefIdeal.Read
public import proofs.«01_k».proof.Proof.GDown
public import proofs.«01_k».proof.Proof.Gen.GUp.Frame
public import proofs.«01_k».proof.Proof.Gen.GUpIdeal.Frame
public import proofs.«01_k».proof.Proof.Gen.GUpIdeal.Value
public import proofs.«01_k».proof.Proof.Gen.GUpRefIdeal.Run
public import proofs.«01_k».proof.Proof.Gen.GUpRefIdeal.Read
public import proofs.«01_k».proof.Proof.GUp
public import proofs.«01_k».proof.Proof.Gen.ProjHg.Frame
public import proofs.«01_k».proof.Proof.Gen.ProjHgIdeal.Frame
public import proofs.«01_k».proof.Proof.Gen.ProjHgIdeal.Value
public import proofs.«01_k».proof.Proof.Gen.ProjHgRefIdeal.Run
public import proofs.«01_k».proof.Proof.Gen.ProjHgRefIdeal.Read
public import proofs.«01_k».proof.Proof.ProjHg
public import proofs.«01_k».proof.Proof.Gen.ProjSw.Frame
public import proofs.«01_k».proof.Proof.Gen.ProjSwIdeal.Frame
public import proofs.«01_k».proof.Proof.Gen.ProjSwIdeal.Value
public import proofs.«01_k».proof.Proof.Gen.ProjSwRefIdeal.Run
public import proofs.«01_k».proof.Proof.Gen.ProjSwRefIdeal.Read
public import proofs.«01_k».proof.Proof.ProjSw
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.DMix.Frame
public import proofs.«01_k».proof.Proof.Gen.DMixIdeal.Frame
public import proofs.«01_k».proof.Proof.Gen.DMixIdeal.Value
public import proofs.«01_k».proof.Proof.Gen.DMixRefIdeal.Run
public import proofs.«01_k».proof.Proof.Gen.DMixRefIdeal.Read
public import proofs.«01_k».proof.Proof.DMix
public import proofs.«01_k».proof.Proof.Gen.GWout.Frame
public import proofs.«01_k».proof.Proof.Gen.GWoutIdeal.Frame
public import proofs.«01_k».proof.Proof.Gen.GWoutIdeal.Value
public import proofs.«01_k».proof.Proof.Gen.GWoutRefIdeal.Run
public import proofs.«01_k».proof.Proof.Gen.GWoutRefIdeal.Read
public import proofs.«01_k».proof.Proof.GWout
public import proofs.«01_k».proof.Proof.Gen.XaQ.Frame
public import proofs.«01_k».proof.Proof.Gen.XaQIdeal.Frame
public import proofs.«01_k».proof.Proof.Gen.XaQIdeal.Value
public import proofs.«01_k».proof.Proof.Gen.XaQRefIdeal.Run
public import proofs.«01_k».proof.Proof.Gen.XaQRefIdeal.Read
public import proofs.«01_k».proof.Proof.XaQ
public import proofs.«01_k».proof.Proof.Gen.XaKv.Frame
public import proofs.«01_k».proof.Proof.Gen.XaKvIdeal.Frame
public import proofs.«01_k».proof.Proof.Gen.XaKvIdeal.Value
public import proofs.«01_k».proof.Proof.Gen.XaKvRefIdeal.Run
public import proofs.«01_k».proof.Proof.Gen.XaKvRefIdeal.Read
public import proofs.«01_k».proof.Proof.XaKv
public import proofs.«01_k».proof.Proof.Gen.XaO.Frame
public import proofs.«01_k».proof.Proof.Gen.XaOIdeal.Frame
public import proofs.«01_k».proof.Proof.Gen.XaOIdeal.Value
public import proofs.«01_k».proof.Proof.Gen.XaORefIdeal.Run
public import proofs.«01_k».proof.Proof.Gen.XaORefIdeal.Read
public import proofs.«01_k».proof.Proof.XaO
public import proofs.«01_k».proof.Proof.Gen.DOx.Frame
public import proofs.«01_k».proof.Proof.Gen.DOxIdeal.Frame
public import proofs.«01_k».proof.Proof.Gen.DOxIdeal.Value
public import proofs.«01_k».proof.Proof.Gen.DOxRefIdeal.Run
public import proofs.«01_k».proof.Proof.Gen.DOxRefIdeal.Read
public import proofs.«01_k».proof.Proof.DOx
public import proofs.«01_k».proof.Proof.Gen.GWo.Frame
public import proofs.«01_k».proof.Proof.Gen.GWoIdeal.Frame
public import proofs.«01_k».proof.Proof.Gen.GWoIdeal.Value
public import proofs.«01_k».proof.Proof.Gen.GWoRefIdeal.Run
public import proofs.«01_k».proof.Proof.Gen.GWoRefIdeal.Read
public import proofs.«01_k».proof.Proof.GWo
public import proofs.«01_k».proof.Proof.Gen.GWq.Frame
public import proofs.«01_k».proof.Proof.Gen.GWqIdeal.Frame
public import proofs.«01_k».proof.Proof.Gen.GWqIdeal.Value
public import proofs.«01_k».proof.Proof.Gen.GWqRefIdeal.Run
public import proofs.«01_k».proof.Proof.Gen.GWqRefIdeal.Read
public import proofs.«01_k».proof.Proof.GWq
public import proofs.«01_k».proof.Proof.Gen.GWkv.Frame
public import proofs.«01_k».proof.Proof.Gen.GWkvIdeal.Frame
public import proofs.«01_k».proof.Proof.Gen.GWkvIdeal.Value
public import proofs.«01_k».proof.Proof.Gen.GWkvRefIdeal.Run
public import proofs.«01_k».proof.Proof.Gen.GWkvRefIdeal.Read
public import proofs.«01_k».proof.Proof.GWkv
public import proofs.«01_k».proof.Proof.Gen.DMn.Frame
public import proofs.«01_k».proof.Proof.Gen.DMnIdeal.Frame
public import proofs.«01_k».proof.Proof.Gen.DMnIdeal.Value
public import proofs.«01_k».proof.Proof.Gen.DMnRefIdeal.Run
public import proofs.«01_k».proof.Proof.Gen.DMnRefIdeal.Read
public import proofs.«01_k».proof.Proof.DMn
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.DHn3.Frame
public import proofs.«01_k».proof.Proof.Gen.DHn3Ideal.Frame
public import proofs.«01_k».proof.Proof.Gen.DHn3Ideal.Value
public import proofs.«01_k».proof.Proof.Gen.DHn3RefIdeal.Run
public import proofs.«01_k».proof.Proof.Gen.DHn3RefIdeal.Read
public import proofs.«01_k».proof.Proof.DHn3
public import proofs.«01_k».proof.Proof.Gen.DHn2.Frame
public import proofs.«01_k».proof.Proof.Gen.DHn2Ideal.Frame
public import proofs.«01_k».proof.Proof.Gen.DHn2Ideal.Value
public import proofs.«01_k».proof.Proof.Gen.DHn2RefIdeal.Run
public import proofs.«01_k».proof.Proof.Gen.DHn2RefIdeal.Read
public import proofs.«01_k».proof.Proof.DHn2
public import proofs.«01_k».proof.Proof.Gen.DHn1.Frame
public import proofs.«01_k».proof.Proof.Gen.DHn1Ideal.Frame
public import proofs.«01_k».proof.Proof.Gen.DHn1Ideal.Value
public import proofs.«01_k».proof.Proof.Gen.DHn1RefIdeal.Run
public import proofs.«01_k».proof.Proof.Gen.DHn1RefIdeal.Read
public import proofs.«01_k».proof.Proof.DHn1
public import proofs.«01_k».proof.Proof.Gen.GInHg.Frame
public import proofs.«01_k».proof.Proof.Gen.GInHgIdeal.Frame
public import proofs.«01_k».proof.Proof.Gen.GInHgRefIdeal.Run
public import proofs.«01_k».proof.Proof.Gen.GInHgRefIdeal.Read
public import proofs.«01_k».proof.Proof.GInHg
public import proofs.«01_k».proof.Proof.Gen.GInSw.Frame
public import proofs.«01_k».proof.Proof.Gen.GInSwIdeal.Frame
public import proofs.«01_k».proof.Proof.Gen.GInSwIdeal.Value
public import proofs.«01_k».proof.Proof.Gen.GInSwRefIdeal.Run
public import proofs.«01_k».proof.Proof.Gen.GInSwRefIdeal.Read
public import proofs.«01_k».proof.Proof.GInSw
public import proofs.«01_k».proof.Proof.Gen.Norm1.Frame
public import proofs.«01_k».proof.Proof.Gen.Norm1Ideal.Frame
public import proofs.«01_k».proof.Proof.Gen.Norm1Ideal.Value
public import proofs.«01_k».proof.Proof.Gen.Norm1RefIdeal.Run
public import proofs.«01_k».proof.Proof.Gen.Norm1RefIdeal.Read
public import proofs.«01_k».proof.Proof.Norm1
public import proofs.«01_k».proof.Proof.Gen.MemNorm.Frame
public import proofs.«01_k».proof.Proof.Gen.MemNormIdeal.Frame
public import proofs.«01_k».proof.Proof.Gen.MemNormIdeal.Value
public import proofs.«01_k».proof.Proof.Gen.MemNormRefIdeal.Run
public import proofs.«01_k».proof.Proof.Gen.MemNormRefIdeal.Read
public import proofs.«01_k».proof.Proof.MemNorm
public import proofs.«01_k».proof.Proof.Gen.MemGain.Frame
public import proofs.«01_k».proof.Proof.Gen.MemGainIdeal.Frame
public import proofs.«01_k».proof.Proof.Gen.MemGainIdeal.Value
public import proofs.«01_k».proof.Proof.Gen.MemGainRefIdeal.Run
public import proofs.«01_k».proof.Proof.Gen.MemGainRefIdeal.Read
public import proofs.«01_k».proof.Proof.MemGain
public import proofs.«01_k».proof.Proof.Gen.XaFwd.Frame
public import proofs.«01_k».proof.Proof.Gen.XaFwdIdeal.Frame
public import proofs.«01_k».proof.Proof.Gen.XaFwdIdeal.Value
public import proofs.«01_k».proof.Proof.Gen.XaFwdRefIdeal.Run
public import proofs.«01_k».proof.Proof.Gen.XaFwdRefIdeal.Read
public import proofs.«01_k».proof.Proof.Gen.Pre_finite_gains
public import proofs.«01_k».proof.Proof.XaFwd
public import proofs.«01_k».proof.Proof.Gen.LossFinish.Frame
public import proofs.«01_k».proof.Proof.Gen.LossFinishIdeal.Frame
public import proofs.«01_k».proof.Proof.Gen.LossFinishIdeal.Value
public import proofs.«01_k».proof.Proof.Gen.LossFinishRefIdeal.Run
public import proofs.«01_k».proof.Proof.Gen.LossFinishRefIdeal.Read
public import proofs.«01_k».proof.Proof.LossFinish
public import proofs.«01_k».proof.Proof.Gen.SumDevices.Frame
public import proofs.«01_k».proof.Proof.Gen.SumDevicesIdeal.Frame
public import proofs.«01_k».proof.Proof.Gen.SumDevicesIdeal.Value
public import proofs.«01_k».proof.Proof.Gen.SumDevicesRefIdeal.Run
public import proofs.«01_k».proof.Proof.Gen.SumDevicesRefIdeal.Read
public import proofs.«01_k».proof.Proof.SumDevices
public import Idealize.ShloMosaic.Lib.Quiescent

@[expose] public noncomputable section

namespace Cert.Proof

open Idealize.ShloMosaic Idealize.SL.Sem Cert.XAttn

/-- The reference runs, leaves its arguments and every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, Idealize.ShloMosaic.sem_eq_zero_of_no_sems (by decide) r.2⟩)
    (Cert.ReferenceIdeal.Value.run (F := Ideal) m ρ)

/-- On finite arguments the kernel and the reference end with equal results. -/
theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := fun m ρ m' ρ' hpre hag =>
  ⟨fun c => real2 (args m c).dq, fun c => real2 (args m c).dkv, fun c => real2 (n := 1) (fun _ => (args m c).dqg),
    fun c => real2 (n := 1) (fun _ => (args m c).dkg),
    kernel_run m ρ (args m) fun c => holdsArgs m c hpre,
    reference_run m' ρ' (args m) fun c => by
      obtain ⟨e0, e1, e2, e3, e4⟩ := hag c
      rw [e0, e1, e2, e3, e4]
      have h := holdsArgs m c hpre
      exact ⟨h.x0, h.x1, h.x2, h.x3, h.x4⟩⟩

/-- All claims: the attention's gradient first, then the other calls in the order of the test. -/
theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.DAct.Gen.facts, Cert.DActIdeal.Gen.facts, Cert.DActRefIdeal.Gen.facts,
    Cert.GDown.Gen.facts, Cert.GDownIdeal.Gen.facts, Cert.GDownRefIdeal.Gen.facts,
    Cert.GUp.Gen.facts, Cert.GUpIdeal.Gen.facts, Cert.GUpRefIdeal.Gen.facts,
    Cert.ProjHg.Gen.facts, Cert.ProjHgIdeal.Gen.facts, Cert.ProjHgRefIdeal.Gen.facts,
    Cert.ProjSw.Gen.facts, Cert.ProjSwIdeal.Gen.facts, Cert.ProjSwRefIdeal.Gen.facts,
    Cert.OutProj.Gen.facts, Cert.OutProjIdeal.Gen.facts, Cert.OutProjRefIdeal.Gen.facts,
    Cert.DMix.Gen.facts, Cert.DMixIdeal.Gen.facts, Cert.DMixRefIdeal.Gen.facts,
    Cert.GWout.Gen.facts, Cert.GWoutIdeal.Gen.facts, Cert.GWoutRefIdeal.Gen.facts,
    Cert.XaQ.Gen.facts, Cert.XaQIdeal.Gen.facts, Cert.XaQRefIdeal.Gen.facts,
    Cert.XaKv.Gen.facts, Cert.XaKvIdeal.Gen.facts, Cert.XaKvRefIdeal.Gen.facts,
    Cert.XaO.Gen.facts, Cert.XaOIdeal.Gen.facts, Cert.XaORefIdeal.Gen.facts,
    Cert.DOx.Gen.facts, Cert.DOxIdeal.Gen.facts, Cert.DOxRefIdeal.Gen.facts,
    Cert.GWo.Gen.facts, Cert.GWoIdeal.Gen.facts, Cert.GWoRefIdeal.Gen.facts,
    Cert.GWq.Gen.facts, Cert.GWqIdeal.Gen.facts, Cert.GWqRefIdeal.Gen.facts,
    Cert.GWkv.Gen.facts, Cert.GWkvIdeal.Gen.facts, Cert.GWkvRefIdeal.Gen.facts,
    Cert.DMn.Gen.facts, Cert.DMnIdeal.Gen.facts, Cert.DMnRefIdeal.Gen.facts,
    Cert.Down.Gen.facts, Cert.DownIdeal.Gen.facts, Cert.DownRefIdeal.Gen.facts,
    Cert.DHn3.Gen.facts, Cert.DHn3Ideal.Gen.facts, Cert.DHn3RefIdeal.Gen.facts,
    Cert.DHn2.Gen.facts, Cert.DHn2Ideal.Gen.facts, Cert.DHn2RefIdeal.Gen.facts,
    Cert.DHn1.Gen.facts, Cert.DHn1Ideal.Gen.facts, Cert.DHn1RefIdeal.Gen.facts,
    Cert.GInHg.Gen.facts, Cert.GInHgIdeal.Gen.facts, Cert.GInHgRefIdeal.Gen.facts,
    Cert.GInSw.Gen.facts, Cert.GInSwIdeal.Gen.facts, Cert.GInSwRefIdeal.Gen.facts,
    Cert.Norm1.Gen.facts, Cert.Norm1Ideal.Gen.facts, Cert.Norm1RefIdeal.Gen.facts,
    Cert.MemNorm.Gen.facts, Cert.MemNormIdeal.Gen.facts, Cert.MemNormRefIdeal.Gen.facts,
    Cert.MemGain.Gen.facts, Cert.MemGainIdeal.Gen.facts, Cert.MemGainRefIdeal.Gen.facts,
    Cert.XaFwd.Gen.facts, Cert.XaFwdIdeal.Gen.facts, Cert.XaFwdRefIdeal.Gen.facts,
    Cert.LossFinish.Gen.facts, Cert.LossFinishIdeal.Gen.facts, Cert.LossFinishRefIdeal.Gen.facts,
    Cert.SumDevices.Gen.facts, Cert.SumDevicesIdeal.Gen.facts, Cert.SumDevicesRefIdeal.Gen.facts,
    Cert.Pre_finite_args.Gen.facts, Cert.Pre_finite_gains.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Up.Gen.frame m ρ, fun m ρ _ => Cert.UpIdeal.Gen.frame m ρ, Cert.Products.Up.frame_reference,
    fun m ρ _ => Cert.DAct.Gen.frame m ρ, fun m ρ _ => Cert.DActIdeal.Gen.frame m ρ, Cert.Products.DAct.frame_reference,
    fun m ρ _ => Cert.GDown.Gen.frame m ρ, fun m ρ _ => Cert.GDownIdeal.Gen.frame m ρ, Cert.Products.GDown.frame_reference,
    fun m ρ _ => Cert.GUp.Gen.frame m ρ, fun m ρ _ => Cert.GUpIdeal.Gen.frame m ρ, Cert.Products.GUp.frame_reference,
    fun m ρ _ => Cert.ProjHg.Gen.frame m ρ, fun m ρ _ => Cert.ProjHgIdeal.Gen.frame m ρ, Cert.Products.ProjHg.frame_reference,
    fun m ρ _ => Cert.ProjSw.Gen.frame m ρ, fun m ρ _ => Cert.ProjSwIdeal.Gen.frame m ρ, Cert.Products.ProjSw.frame_reference,
    fun m ρ _ => Cert.OutProj.Gen.frame m ρ, fun m ρ _ => Cert.OutProjIdeal.Gen.frame m ρ, Cert.Products.OutProj.frame_reference,
    fun m ρ _ => Cert.DMix.Gen.frame m ρ, fun m ρ _ => Cert.DMixIdeal.Gen.frame m ρ, Cert.Products.DMix.frame_reference,
    fun m ρ _ => Cert.GWout.Gen.frame m ρ, fun m ρ _ => Cert.GWoutIdeal.Gen.frame m ρ, Cert.Products.GWout.frame_reference,
    fun m ρ _ => Cert.XaQ.Gen.frame m ρ, fun m ρ _ => Cert.XaQIdeal.Gen.frame m ρ, Cert.Products.XaQ.frame_reference,
    fun m ρ _ => Cert.XaKv.Gen.frame m ρ, fun m ρ _ => Cert.XaKvIdeal.Gen.frame m ρ, Cert.Products.XaKv.frame_reference,
    fun m ρ _ => Cert.XaO.Gen.frame m ρ, fun m ρ _ => Cert.XaOIdeal.Gen.frame m ρ, Cert.Products.XaO.frame_reference,
    fun m ρ _ => Cert.DOx.Gen.frame m ρ, fun m ρ _ => Cert.DOxIdeal.Gen.frame m ρ, Cert.Products.DOx.frame_reference,
    fun m ρ _ => Cert.GWo.Gen.frame m ρ, fun m ρ _ => Cert.GWoIdeal.Gen.frame m ρ, Cert.Products.GWo.frame_reference,
    fun m ρ _ => Cert.GWq.Gen.frame m ρ, fun m ρ _ => Cert.GWqIdeal.Gen.frame m ρ, Cert.Products.GWq.frame_reference,
    fun m ρ _ => Cert.GWkv.Gen.frame m ρ, fun m ρ _ => Cert.GWkvIdeal.Gen.frame m ρ, Cert.Products.GWkv.frame_reference,
    fun m ρ _ => Cert.DMn.Gen.frame m ρ, fun m ρ _ => Cert.DMnIdeal.Gen.frame m ρ, Cert.Products.DMn.frame_reference,
    fun m ρ _ => Cert.Down.Gen.frame m ρ, fun m ρ _ => Cert.DownIdeal.Gen.frame m ρ, Cert.Products.Down.frame_reference,
    fun m ρ _ => Cert.DHn3.Gen.frame m ρ, fun m ρ _ => Cert.DHn3Ideal.Gen.frame m ρ, Cert.Products.DHn3.frame_reference,
    fun m ρ _ => Cert.DHn2.Gen.frame m ρ, fun m ρ _ => Cert.DHn2Ideal.Gen.frame m ρ, Cert.Products.DHn2.frame_reference,
    fun m ρ _ => Cert.DHn1.Gen.frame m ρ, fun m ρ _ => Cert.DHn1Ideal.Gen.frame m ρ, Cert.Products.DHn1.frame_reference,
    fun m ρ _ => Cert.GInHg.Gen.frame m ρ, fun m ρ _ => Cert.GInHgIdeal.Gen.frame m ρ, Cert.Products.GInHg.frame_reference,
    fun m ρ _ => Cert.GInSw.Gen.frame m ρ, fun m ρ _ => Cert.GInSwIdeal.Gen.frame m ρ, Cert.Products.GInSw.frame_reference,
    fun m ρ _ => Cert.Norm1.Gen.frame m ρ, fun m ρ _ => Cert.Norm1Ideal.Gen.frame m ρ, Cert.Products.Norm1.frame_reference,
    fun m ρ _ => Cert.MemNorm.Gen.frame m ρ, fun m ρ _ => Cert.MemNormIdeal.Gen.frame m ρ, Cert.Products.MemNorm.frame_reference,
    fun m ρ _ => Cert.MemGain.Gen.frame m ρ, fun m ρ _ => Cert.MemGainIdeal.Gen.frame m ρ, Cert.Products.MemGain.frame_reference,
    fun m ρ _ => Cert.XaFwd.Gen.frame m ρ, fun m ρ _ => Cert.XaFwdIdeal.Gen.frame m ρ, fun m ρ _ => Cert.XaFwdIdeal.Gen.frame m ρ,
    Cert.Products.XaFwd.frame_reference, fun m ρ _ => Cert.Products.XaFwd.frame_reference m ρ trivial,
    fun m ρ _ => Cert.LossFinish.Gen.frame m ρ, fun m ρ _ => Cert.LossFinishIdeal.Gen.frame m ρ, Cert.Products.LossFinish.frame_reference,
    fun m ρ _ => Cert.SumDevices.Gen.frame m ρ, fun m ρ _ => Cert.SumDevicesIdeal.Gen.frame m ρ, Cert.Products.SumDevices.frame_reference,
    trivial, algebraic,
    trivial, Cert.Products.Up.algebraic,
    trivial, Cert.Products.DAct.algebraic,
    trivial, Cert.Products.GDown.algebraic,
    trivial, Cert.Products.GUp.algebraic,
    trivial, Cert.Products.ProjHg.algebraic,
    trivial, Cert.Products.ProjSw.algebraic,
    trivial, Cert.Products.OutProj.algebraic,
    trivial, Cert.Products.DMix.algebraic,
    trivial, Cert.Products.GWout.algebraic,
    trivial, Cert.Products.XaQ.algebraic,
    trivial, Cert.Products.XaKv.algebraic,
    trivial, Cert.Products.XaO.algebraic,
    trivial, Cert.Products.DOx.algebraic,
    trivial, Cert.Products.GWo.algebraic,
    trivial, Cert.Products.GWq.algebraic,
    trivial, Cert.Products.GWkv.algebraic,
    trivial, Cert.Products.DMn.algebraic,
    trivial, Cert.Products.Down.algebraic,
    trivial, Cert.Products.DHn3.algebraic,
    trivial, Cert.Products.DHn2.algebraic,
    trivial, Cert.Products.DHn1.algebraic,
    trivial, Cert.Products.GInHg.algebraic,
    trivial, Cert.Products.GInSw.algebraic,
    trivial, Cert.Products.Norm1.algebraic,
    trivial, Cert.Products.MemNorm.algebraic,
    trivial, Cert.Products.MemGain.algebraic,
    trivial, Cert.Products.XaFwd.algebraic,
    trivial, Cert.Products.LossFinish.algebraic,
    trivial, Cert.Products.SumDevices.algebraic⟩

end Cert.Proof

end
